-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelEvenIn (m : (ℓ : Loc Cert.KernelEvenIn.nD Cert.KernelEvenIn.τ Cert.KernelEvenIn.sig) → Buf (Elt Bits) ℓ) : Prop :=
  True

def Pre_KernelEvenInIdeal (m : (ℓ : Loc Cert.KernelEvenInIdeal.nD Cert.KernelEvenInIdeal.τ Cert.KernelEvenInIdeal.sig) → Buf (Elt Ideal) ℓ) : Prop :=
  True

def Pre_ReferenceEvenInIdeal (m : (ℓ : Loc Cert.ReferenceEvenInIdeal.nD Cert.ReferenceEvenInIdeal.τ Cert.ReferenceEvenInIdeal.sig) → Buf (Elt Ideal) ℓ) : Prop :=
  True

def Pre_KernelOddIn (m : (ℓ : Loc Cert.KernelOddIn.nD Cert.KernelOddIn.τ Cert.KernelOddIn.sig) → Buf (Elt Bits) ℓ) : Prop :=
  True

def Pre_KernelOddInIdeal (m : (ℓ : Loc Cert.KernelOddInIdeal.nD Cert.KernelOddInIdeal.τ Cert.KernelOddInIdeal.sig) → Buf (Elt Ideal) ℓ) : Prop :=
  True

def Pre_ReferenceOddInIdeal (m : (ℓ : Loc Cert.ReferenceOddInIdeal.nD Cert.ReferenceOddInIdeal.τ Cert.ReferenceOddInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelLn (m : (ℓ : Loc Cert.KernelLn.nD Cert.KernelLn.τ Cert.KernelLn.sig) → Buf (Elt Bits) ℓ) : Prop :=
  True

def Pre_KernelLnIdeal (m : (ℓ : Loc Cert.KernelLnIdeal.nD Cert.KernelLnIdeal.τ Cert.KernelLnIdeal.sig) → Buf (Elt Ideal) ℓ) : Prop :=
  True

def Pre_ReferenceLnIdeal (m : (ℓ : Loc Cert.ReferenceLnIdeal.nD Cert.ReferenceLnIdeal.τ Cert.ReferenceLnIdeal.sig) → Buf (Elt Ideal) ℓ) : Prop :=
  True

def Pre_KernelLnMix (m : (ℓ : Loc Cert.KernelLnMix.nD Cert.KernelLnMix.τ Cert.KernelLnMix.sig) → Buf (Elt Bits) ℓ) : Prop :=
  True

def Pre_KernelLnMixIdeal (m : (ℓ : Loc Cert.KernelLnMixIdeal.nD Cert.KernelLnMixIdeal.τ Cert.KernelLnMixIdeal.sig) → Buf (Elt Ideal) ℓ) : Prop :=
  True

def Pre_ReferenceLnMixIdeal (m : (ℓ : Loc Cert.ReferenceLnMixIdeal.nD Cert.ReferenceLnMixIdeal.τ Cert.ReferenceLnMixIdeal.sig) → Buf (Elt Ideal) ℓ) : Prop :=
  True

def Pre_KernelLnGate (m : (ℓ : Loc Cert.KernelLnGate.nD Cert.KernelLnGate.τ Cert.KernelLnGate.sig) → Buf (Elt Bits) ℓ) : Prop :=
  True

def Pre_KernelLnGateIdeal (m : (ℓ : Loc Cert.KernelLnGateIdeal.nD Cert.KernelLnGateIdeal.τ Cert.KernelLnGateIdeal.sig) → Buf (Elt Ideal) ℓ) : Prop :=
  True

def Pre_ReferenceLnGateIdeal (m : (ℓ : Loc Cert.ReferenceLnGateIdeal.nD Cert.ReferenceLnGateIdeal.τ Cert.ReferenceLnGateIdeal.sig) → Buf (Elt Ideal) ℓ) : Prop :=
  True

def Pre_KernelCastGate (m : (ℓ : Loc Cert.KernelCastGate.nD Cert.KernelCastGate.τ Cert.KernelCastGate.sig) → Buf (Elt Bits) ℓ) : Prop :=
  True

def Pre_KernelCastGateIdeal (m : (ℓ : Loc Cert.KernelCastGateIdeal.nD Cert.KernelCastGateIdeal.τ Cert.KernelCastGateIdeal.sig) → Buf (Elt Ideal) ℓ) : Prop :=
  True

def Pre_ReferenceCastGateIdeal (m : (ℓ : Loc Cert.ReferenceCastGateIdeal.nD Cert.ReferenceCastGateIdeal.τ Cert.ReferenceCastGateIdeal.sig) → Buf (Elt Ideal) ℓ) : Prop :=
  True

def Pre_KernelRet (m : (ℓ : Loc Cert.KernelRet.nD Cert.KernelRet.τ Cert.KernelRet.sig) → Buf (Elt Bits) ℓ) : Prop :=
  True

def Pre_KernelRetIdeal (m : (ℓ : Loc Cert.KernelRetIdeal.nD Cert.KernelRetIdeal.τ Cert.KernelRetIdeal.sig) → Buf (Elt Ideal) ℓ) : Prop :=
  True

def Pre_ReferenceRetIdeal (m : (ℓ : Loc Cert.ReferenceRetIdeal.nD Cert.ReferenceRetIdeal.τ Cert.ReferenceRetIdeal.sig) → Buf (Elt Ideal) ℓ) : Prop :=
  True

def Pre_KernelCastOut (m : (ℓ : Loc Cert.KernelCastOut.nD Cert.KernelCastOut.τ Cert.KernelCastOut.sig) → Buf (Elt Bits) ℓ) : Prop :=
  True

def Pre_KernelCastOutIdeal (m : (ℓ : Loc Cert.KernelCastOutIdeal.nD Cert.KernelCastOutIdeal.τ Cert.KernelCastOutIdeal.sig) → Buf (Elt Ideal) ℓ) : Prop :=
  True

def Pre_ReferenceCastOutIdeal (m : (ℓ : Loc Cert.ReferenceCastOutIdeal.nD Cert.ReferenceCastOutIdeal.τ Cert.ReferenceCastOutIdeal.sig) → Buf (Elt Ideal) ℓ) : Prop :=
  True

def Pre_KernelCastUp (m : (ℓ : Loc Cert.KernelCastUp.nD Cert.KernelCastUp.τ Cert.KernelCastUp.sig) → Buf (Elt Bits) ℓ) : Prop :=
  True

def Pre_KernelCastUpIdeal (m : (ℓ : Loc Cert.KernelCastUpIdeal.nD Cert.KernelCastUpIdeal.τ Cert.KernelCastUpIdeal.sig) → Buf (Elt Ideal) ℓ) : Prop :=
  True

def Pre_ReferenceCastUpIdeal (m : (ℓ : Loc Cert.ReferenceCastUpIdeal.nD Cert.ReferenceCastUpIdeal.τ Cert.ReferenceCastUpIdeal.sig) → Buf (Elt Ideal) ℓ) : Prop :=
  True

def Pre_KernelCastUp2 (m : (ℓ : Loc Cert.KernelCastUp2.nD Cert.KernelCastUp2.τ Cert.KernelCastUp2.sig) → Buf (Elt Bits) ℓ) : Prop :=
  True

def Pre_KernelCastUp2Ideal (m : (ℓ : Loc Cert.KernelCastUp2Ideal.nD Cert.KernelCastUp2Ideal.τ Cert.KernelCastUp2Ideal.sig) → Buf (Elt Ideal) ℓ) : Prop :=
  True

def Pre_ReferenceCastUp2Ideal (m : (ℓ : Loc Cert.ReferenceCastUp2Ideal.nD Cert.ReferenceCastUp2Ideal.τ Cert.ReferenceCastUp2Ideal.sig) → Buf (Elt Ideal) ℓ) : Prop :=
  True

def Pre_KernelCastDown (m : (ℓ : Loc Cert.KernelCastDown.nD Cert.KernelCastDown.τ Cert.KernelCastDown.sig) → Buf (Elt Bits) ℓ) : Prop :=
  True

def Pre_KernelCastDownIdeal (m : (ℓ : Loc Cert.KernelCastDownIdeal.nD Cert.KernelCastDownIdeal.τ Cert.KernelCastDownIdeal.sig) → Buf (Elt Ideal) ℓ) : Prop :=
  True

def Pre_ReferenceCastDownIdeal (m : (ℓ : Loc Cert.ReferenceCastDownIdeal.nD Cert.ReferenceCastDownIdeal.τ Cert.ReferenceCastDownIdeal.sig) → Buf (Elt Ideal) ℓ) : Prop :=
  True

def Pre_KernelCastDown2 (m : (ℓ : Loc Cert.KernelCastDown2.nD Cert.KernelCastDown2.τ Cert.KernelCastDown2.sig) → Buf (Elt Bits) ℓ) : Prop :=
  True

def Pre_KernelCastDown2Ideal (m : (ℓ : Loc Cert.KernelCastDown2Ideal.nD Cert.KernelCastDown2Ideal.τ Cert.KernelCastDown2Ideal.sig) → Buf (Elt Ideal) ℓ) : Prop :=
  True

def Pre_ReferenceCastDown2Ideal (m : (ℓ : Loc Cert.ReferenceCastDown2Ideal.nD Cert.ReferenceCastDown2Ideal.τ Cert.ReferenceCastDown2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelEvenIn [hKernelEvenIn : Cert.KernelEvenIn.Facts] : Prop :=
  ∀ (m : (ℓ : Loc Cert.KernelEvenIn.nD Cert.KernelEvenIn.τ Cert.KernelEvenIn.sig) → Buf (Elt Bits) ℓ) (g : Dev Cert.KernelEvenIn.nD → PrngReg), Pre_KernelEvenIn m →
    θ_run (Cert.KernelEvenIn.defs (F := Bits)) (onTc (τ := Cert.KernelEvenIn.τ) (Cert.KernelEvenIn.main (F := Bits))) ⟨m, fun _ => 0, g⟩ (fun r => (∀ c : Dev Cert.KernelEvenIn.nD,
      r.2.mem ((c.tc : Thread Cert.KernelEvenIn.nD Cert.KernelEvenIn.τ).loc Cert.KernelEvenIn.main_arg0) = m ((c.tc : Thread Cert.KernelEvenIn.nD Cert.KernelEvenIn.τ).loc Cert.KernelEvenIn.main_arg0)
      ∧ r.2.mem ((c.tc : Thread Cert.KernelEvenIn.nD Cert.KernelEvenIn.τ).loc Cert.KernelEvenIn.main_arg1) = m ((c.tc : Thread Cert.KernelEvenIn.nD Cert.KernelEvenIn.τ).loc Cert.KernelEvenIn.main_arg1))
      ∧ r.2.sem = fun _ => 0)

def quiescent_KernelEvenInIdeal [hKernelEvenInIdeal : Cert.KernelEvenInIdeal.Facts] : Prop :=
  ∀ (m : (ℓ : Loc Cert.KernelEvenInIdeal.nD Cert.KernelEvenInIdeal.τ Cert.KernelEvenInIdeal.sig) → Buf (Elt Ideal) ℓ) (g : Dev Cert.KernelEvenInIdeal.nD → PrngReg), Pre_KernelEvenInIdeal m →
    θ_run (Cert.KernelEvenInIdeal.defs (F := Ideal)) (onTc (τ := Cert.KernelEvenInIdeal.τ) (Cert.KernelEvenInIdeal.main (F := Ideal))) ⟨m, fun _ => 0, g⟩ (fun r => (∀ c : Dev Cert.KernelEvenInIdeal.nD,
      r.2.mem ((c.tc : Thread Cert.KernelEvenInIdeal.nD Cert.KernelEvenInIdeal.τ).loc Cert.KernelEvenInIdeal.main_arg0) = m ((c.tc : Thread Cert.KernelEvenInIdeal.nD Cert.KernelEvenInIdeal.τ).loc Cert.KernelEvenInIdeal.main_arg0)
      ∧ r.2.mem ((c.tc : Thread Cert.KernelEvenInIdeal.nD Cert.KernelEvenInIdeal.τ).loc Cert.KernelEvenInIdeal.main_arg1) = m ((c.tc : Thread Cert.KernelEvenInIdeal.nD Cert.KernelEvenInIdeal.τ).loc Cert.KernelEvenInIdeal.main_arg1))
      ∧ r.2.sem = fun _ => 0)

def quiescent_ReferenceEvenInIdeal [hReferenceEvenInIdeal : Cert.ReferenceEvenInIdeal.Facts] : Prop :=
  ∀ (m : (ℓ : Loc Cert.ReferenceEvenInIdeal.nD Cert.ReferenceEvenInIdeal.τ Cert.ReferenceEvenInIdeal.sig) → Buf (Elt Ideal) ℓ) (g : Dev Cert.ReferenceEvenInIdeal.nD → PrngReg), Pre_ReferenceEvenInIdeal m →
    θ_run (Cert.ReferenceEvenInIdeal.defs (F := Ideal)) (onTc (τ := Cert.ReferenceEvenInIdeal.τ) (Cert.ReferenceEvenInIdeal.main (F := Ideal))) ⟨m, fun _ => 0, g⟩ (fun r => (∀ c : Dev Cert.ReferenceEvenInIdeal.nD,
      r.2.mem ((c.tc : Thread Cert.ReferenceEvenInIdeal.nD Cert.ReferenceEvenInIdeal.τ).loc Cert.ReferenceEvenInIdeal.main_arg0) = m ((c.tc : Thread Cert.ReferenceEvenInIdeal.nD Cert.ReferenceEvenInIdeal.τ).loc Cert.ReferenceEvenInIdeal.main_arg0)
      ∧ r.2.mem ((c.tc : Thread Cert.ReferenceEvenInIdeal.nD Cert.ReferenceEvenInIdeal.τ).loc Cert.ReferenceEvenInIdeal.main_arg1) = m ((c.tc : Thread Cert.ReferenceEvenInIdeal.nD Cert.ReferenceEvenInIdeal.τ).loc Cert.ReferenceEvenInIdeal.main_arg1))
      ∧ r.2.sem = fun _ => 0)

def quiescent_KernelOddIn [hKernelOddIn : Cert.KernelOddIn.Facts] : Prop :=
  ∀ (m : (ℓ : Loc Cert.KernelOddIn.nD Cert.KernelOddIn.τ Cert.KernelOddIn.sig) → Buf (Elt Bits) ℓ) (g : Dev Cert.KernelOddIn.nD → PrngReg), Pre_KernelOddIn m →
    θ_run (Cert.KernelOddIn.defs (F := Bits)) (onTc (τ := Cert.KernelOddIn.τ) (Cert.KernelOddIn.main (F := Bits))) ⟨m, fun _ => 0, g⟩ (fun r => (∀ c : Dev Cert.KernelOddIn.nD,
      r.2.mem ((c.tc : Thread Cert.KernelOddIn.nD Cert.KernelOddIn.τ).loc Cert.KernelOddIn.main_arg0) = m ((c.tc : Thread Cert.KernelOddIn.nD Cert.KernelOddIn.τ).loc Cert.KernelOddIn.main_arg0)
      ∧ r.2.mem ((c.tc : Thread Cert.KernelOddIn.nD Cert.KernelOddIn.τ).loc Cert.KernelOddIn.main_arg1) = m ((c.tc : Thread Cert.KernelOddIn.nD Cert.KernelOddIn.τ).loc Cert.KernelOddIn.main_arg1))
      ∧ r.2.sem = fun _ => 0)

def quiescent_KernelOddInIdeal [hKernelOddInIdeal : Cert.KernelOddInIdeal.Facts] : Prop :=
  ∀ (m : (ℓ : Loc Cert.KernelOddInIdeal.nD Cert.KernelOddInIdeal.τ Cert.KernelOddInIdeal.sig) → Buf (Elt Ideal) ℓ) (g : Dev Cert.KernelOddInIdeal.nD → PrngReg), Pre_KernelOddInIdeal m →
    θ_run (Cert.KernelOddInIdeal.defs (F := Ideal)) (onTc (τ := Cert.KernelOddInIdeal.τ) (Cert.KernelOddInIdeal.main (F := Ideal))) ⟨m, fun _ => 0, g⟩ (fun r => (∀ c : Dev Cert.KernelOddInIdeal.nD,
      r.2.mem ((c.tc : Thread Cert.KernelOddInIdeal.nD Cert.KernelOddInIdeal.τ).loc Cert.KernelOddInIdeal.main_arg0) = m ((c.tc : Thread Cert.KernelOddInIdeal.nD Cert.KernelOddInIdeal.τ).loc Cert.KernelOddInIdeal.main_arg0)
      ∧ r.2.mem ((c.tc : Thread Cert.KernelOddInIdeal.nD Cert.KernelOddInIdeal.τ).loc Cert.KernelOddInIdeal.main_arg1) = m ((c.tc : Thread Cert.KernelOddInIdeal.nD Cert.KernelOddInIdeal.τ).loc Cert.KernelOddInIdeal.main_arg1))
      ∧ r.2.sem = fun _ => 0)

def quiescent_ReferenceOddInIdeal [hReferenceOddInIdeal : Cert.ReferenceOddInIdeal.Facts] : Prop :=
  ∀ (m : (ℓ : Loc Cert.ReferenceOddInIdeal.nD Cert.ReferenceOddInIdeal.τ Cert.ReferenceOddInIdeal.sig) → Buf (Elt Ideal) ℓ) (g : Dev Cert.ReferenceOddInIdeal.nD → PrngReg), Pre_ReferenceOddInIdeal m →
    θ_run (Cert.ReferenceOddInIdeal.defs (F := Ideal)) (onTc (τ := Cert.ReferenceOddInIdeal.τ) (Cert.ReferenceOddInIdeal.main (F := Ideal))) ⟨m, fun _ => 0, g⟩ (fun r => (∀ c : Dev Cert.ReferenceOddInIdeal.nD,
      r.2.mem ((c.tc : Thread Cert.ReferenceOddInIdeal.nD Cert.ReferenceOddInIdeal.τ).loc Cert.ReferenceOddInIdeal.main_arg0) = m ((c.tc : Thread Cert.ReferenceOddInIdeal.nD Cert.ReferenceOddInIdeal.τ).loc Cert.ReferenceOddInIdeal.main_arg0)
      ∧ r.2.mem ((c.tc : Thread Cert.ReferenceOddInIdeal.nD Cert.ReferenceOddInIdeal.τ).loc Cert.ReferenceOddInIdeal.main_arg1) = m ((c.tc : Thread Cert.ReferenceOddInIdeal.nD Cert.ReferenceOddInIdeal.τ).loc Cert.ReferenceOddInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelLn [hKernelLn : Cert.KernelLn.Facts] : Prop :=
  ∀ (m : (ℓ : Loc Cert.KernelLn.nD Cert.KernelLn.τ Cert.KernelLn.sig) → Buf (Elt Bits) ℓ) (g : Dev Cert.KernelLn.nD → PrngReg), Pre_KernelLn m →
    θ_run (Cert.KernelLn.defs (F := Bits)) (onTc (τ := Cert.KernelLn.τ) (Cert.KernelLn.main (F := Bits))) ⟨m, fun _ => 0, g⟩ (fun r => (∀ c : Dev Cert.KernelLn.nD,
      r.2.mem ((c.tc : Thread Cert.KernelLn.nD Cert.KernelLn.τ).loc Cert.KernelLn.main_arg0) = m ((c.tc : Thread Cert.KernelLn.nD Cert.KernelLn.τ).loc Cert.KernelLn.main_arg0)
      ∧ r.2.mem ((c.tc : Thread Cert.KernelLn.nD Cert.KernelLn.τ).loc Cert.KernelLn.main_arg1) = m ((c.tc : Thread Cert.KernelLn.nD Cert.KernelLn.τ).loc Cert.KernelLn.main_arg1)
      ∧ r.2.mem ((c.tc : Thread Cert.KernelLn.nD Cert.KernelLn.τ).loc Cert.KernelLn.main_arg2) = m ((c.tc : Thread Cert.KernelLn.nD Cert.KernelLn.τ).loc Cert.KernelLn.main_arg2)
      ∧ r.2.mem ((c.tc : Thread Cert.KernelLn.nD Cert.KernelLn.τ).loc Cert.KernelLn.main_arg3) = m ((c.tc : Thread Cert.KernelLn.nD Cert.KernelLn.τ).loc Cert.KernelLn.main_arg3))
      ∧ r.2.sem = fun _ => 0)

def quiescent_KernelLnIdeal [hKernelLnIdeal : Cert.KernelLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
      ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
      ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3))
      ∧ r.2.sem = fun _ => 0)

def quiescent_ReferenceLnIdeal [hReferenceLnIdeal : Cert.ReferenceLnIdeal.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2)
      ∧ r.2.mem ((c.tc : Thread Cert.ReferenceLnIdeal.nD Cert.ReferenceLnIdeal.τ).loc Cert.ReferenceLnIdeal.main_arg3) = m ((c.tc : Thread Cert.ReferenceLnIdeal.nD Cert.ReferenceLnIdeal.τ).loc Cert.ReferenceLnIdeal.main_arg3))
      ∧ r.2.sem = fun _ => 0)

def quiescent_KernelLnMix [hKernelLnMix : Cert.KernelLnMix.Facts] : Prop :=
  ∀ (m : (ℓ : Loc Cert.KernelLnMix.nD Cert.KernelLnMix.τ Cert.KernelLnMix.sig) → Buf (Elt Bits) ℓ) (g : Dev Cert.KernelLnMix.nD → PrngReg), Pre_KernelLnMix m →
    θ_run (Cert.KernelLnMix.defs (F := Bits)) (onTc (τ := Cert.KernelLnMix.τ) (Cert.KernelLnMix.main (F := Bits))) ⟨m, fun _ => 0, g⟩ (fun r => (∀ c : Dev Cert.KernelLnMix.nD,
      r.2.mem ((c.tc : Thread Cert.KernelLnMix.nD Cert.KernelLnMix.τ).loc Cert.KernelLnMix.main_arg0) = m ((c.tc : Thread Cert.KernelLnMix.nD Cert.KernelLnMix.τ).loc Cert.KernelLnMix.main_arg0)
      ∧ r.2.mem ((c.tc : Thread Cert.KernelLnMix.nD Cert.KernelLnMix.τ).loc Cert.KernelLnMix.main_arg1) = m ((c.tc : Thread Cert.KernelLnMix.nD Cert.KernelLnMix.τ).loc Cert.KernelLnMix.main_arg1)
      ∧ r.2.mem ((c.tc : Thread Cert.KernelLnMix.nD Cert.KernelLnMix.τ).loc Cert.KernelLnMix.main_arg2) = m ((c.tc : Thread Cert.KernelLnMix.nD Cert.KernelLnMix.τ).loc Cert.KernelLnMix.main_arg2)
      ∧ r.2.mem ((c.tc : Thread Cert.KernelLnMix.nD Cert.KernelLnMix.τ).loc Cert.KernelLnMix.main_arg3) = m ((c.tc : Thread Cert.KernelLnMix.nD Cert.KernelLnMix.τ).loc Cert.KernelLnMix.main_arg3))
      ∧ r.2.sem = fun _ => 0)

def quiescent_KernelLnMixIdeal [hKernelLnMixIdeal : Cert.KernelLnMixIdeal.Facts] : Prop :=
  ∀ (m : (ℓ : Loc Cert.KernelLnMixIdeal.nD Cert.KernelLnMixIdeal.τ Cert.KernelLnMixIdeal.sig) → Buf (Elt Ideal) ℓ) (g : Dev Cert.KernelLnMixIdeal.nD → PrngReg), Pre_KernelLnMixIdeal m →
    θ_run (Cert.KernelLnMixIdeal.defs (F := Ideal)) (onTc (τ := Cert.KernelLnMixIdeal.τ) (Cert.KernelLnMixIdeal.main (F := Ideal))) ⟨m, fun _ => 0, g⟩ (fun r => (∀ c : Dev Cert.KernelLnMixIdeal.nD,
      r.2.mem ((c.tc : Thread Cert.KernelLnMixIdeal.nD Cert.KernelLnMixIdeal.τ).loc Cert.KernelLnMixIdeal.main_arg0) = m ((c.tc : Thread Cert.KernelLnMixIdeal.nD Cert.KernelLnMixIdeal.τ).loc Cert.KernelLnMixIdeal.main_arg0)
      ∧ r.2.mem ((c.tc : Thread Cert.KernelLnMixIdeal.nD Cert.KernelLnMixIdeal.τ).loc Cert.KernelLnMixIdeal.main_arg1) = m ((c.tc : Thread Cert.KernelLnMixIdeal.nD Cert.KernelLnMixIdeal.τ).loc Cert.KernelLnMixIdeal.main_arg1)
      ∧ r.2.mem ((c.tc : Thread Cert.KernelLnMixIdeal.nD Cert.KernelLnMixIdeal.τ).loc Cert.KernelLnMixIdeal.main_arg2) = m ((c.tc : Thread Cert.KernelLnMixIdeal.nD Cert.KernelLnMixIdeal.τ).loc Cert.KernelLnMixIdeal.main_arg2)
      ∧ r.2.mem ((c.tc : Thread Cert.KernelLnMixIdeal.nD Cert.KernelLnMixIdeal.τ).loc Cert.KernelLnMixIdeal.main_arg3) = m ((c.tc : Thread Cert.KernelLnMixIdeal.nD Cert.KernelLnMixIdeal.τ).loc Cert.KernelLnMixIdeal.main_arg3))
      ∧ r.2.sem = fun _ => 0)

def quiescent_ReferenceLnMixIdeal [hReferenceLnMixIdeal : Cert.ReferenceLnMixIdeal.Facts] : Prop :=
  ∀ (m : (ℓ : Loc Cert.ReferenceLnMixIdeal.nD Cert.ReferenceLnMixIdeal.τ Cert.ReferenceLnMixIdeal.sig) → Buf (Elt Ideal) ℓ) (g : Dev Cert.ReferenceLnMixIdeal.nD → PrngReg), Pre_ReferenceLnMixIdeal m →
    θ_run (Cert.ReferenceLnMixIdeal.defs (F := Ideal)) (onTc (τ := Cert.ReferenceLnMixIdeal.τ) (Cert.ReferenceLnMixIdeal.main (F := Ideal))) ⟨m, fun _ => 0, g⟩ (fun r => (∀ c : Dev Cert.ReferenceLnMixIdeal.nD,
      r.2.mem ((c.tc : Thread Cert.ReferenceLnMixIdeal.nD Cert.ReferenceLnMixIdeal.τ).loc Cert.ReferenceLnMixIdeal.main_arg0) = m ((c.tc : Thread Cert.ReferenceLnMixIdeal.nD Cert.ReferenceLnMixIdeal.τ).loc Cert.ReferenceLnMixIdeal.main_arg0)
      ∧ r.2.mem ((c.tc : Thread Cert.ReferenceLnMixIdeal.nD Cert.ReferenceLnMixIdeal.τ).loc Cert.ReferenceLnMixIdeal.main_arg1) = m ((c.tc : Thread Cert.ReferenceLnMixIdeal.nD Cert.ReferenceLnMixIdeal.τ).loc Cert.ReferenceLnMixIdeal.main_arg1)
      ∧ r.2.mem ((c.tc : Thread Cert.ReferenceLnMixIdeal.nD Cert.ReferenceLnMixIdeal.τ).loc Cert.ReferenceLnMixIdeal.main_arg2) = m ((c.tc : Thread Cert.ReferenceLnMixIdeal.nD Cert.ReferenceLnMixIdeal.τ).loc Cert.ReferenceLnMixIdeal.main_arg2)
      ∧ r.2.mem ((c.tc : Thread Cert.ReferenceLnMixIdeal.nD Cert.ReferenceLnMixIdeal.τ).loc Cert.ReferenceLnMixIdeal.main_arg3) = m ((c.tc : Thread Cert.ReferenceLnMixIdeal.nD Cert.ReferenceLnMixIdeal.τ).loc Cert.ReferenceLnMixIdeal.main_arg3))
      ∧ r.2.sem = fun _ => 0)

def quiescent_KernelLnGate [hKernelLnGate : Cert.KernelLnGate.Facts] : Prop :=
  ∀ (m : (ℓ : Loc Cert.KernelLnGate.nD Cert.KernelLnGate.τ Cert.KernelLnGate.sig) → Buf (Elt Bits) ℓ) (g : Dev Cert.KernelLnGate.nD → PrngReg), Pre_KernelLnGate m →
    θ_run (Cert.KernelLnGate.defs (F := Bits)) (onTc (τ := Cert.KernelLnGate.τ) (Cert.KernelLnGate.main (F := Bits))) ⟨m, fun _ => 0, g⟩ (fun r => (∀ c : Dev Cert.KernelLnGate.nD,
      r.2.mem ((c.tc : Thread Cert.KernelLnGate.nD Cert.KernelLnGate.τ).loc Cert.KernelLnGate.main_arg0) = m ((c.tc : Thread Cert.KernelLnGate.nD Cert.KernelLnGate.τ).loc Cert.KernelLnGate.main_arg0)
      ∧ r.2.mem ((c.tc : Thread Cert.KernelLnGate.nD Cert.KernelLnGate.τ).loc Cert.KernelLnGate.main_arg1) = m ((c.tc : Thread Cert.KernelLnGate.nD Cert.KernelLnGate.τ).loc Cert.KernelLnGate.main_arg1)
      ∧ r.2.mem ((c.tc : Thread Cert.KernelLnGate.nD Cert.KernelLnGate.τ).loc Cert.KernelLnGate.main_arg2) = m ((c.tc : Thread Cert.KernelLnGate.nD Cert.KernelLnGate.τ).loc Cert.KernelLnGate.main_arg2)
      ∧ r.2.mem ((c.tc : Thread Cert.KernelLnGate.nD Cert.KernelLnGate.τ).loc Cert.KernelLnGate.main_arg3) = m ((c.tc : Thread Cert.KernelLnGate.nD Cert.KernelLnGate.τ).loc Cert.KernelLnGate.main_arg3)
      ∧ r.2.mem ((c.tc : Thread Cert.KernelLnGate.nD Cert.KernelLnGate.τ).loc Cert.KernelLnGate.main_arg4) = m ((c.tc : Thread Cert.KernelLnGate.nD Cert.KernelLnGate.τ).loc Cert.KernelLnGate.main_arg4))
      ∧ r.2.sem = fun _ => 0)

def quiescent_KernelLnGateIdeal [hKernelLnGateIdeal : Cert.KernelLnGateIdeal.Facts] : Prop :=
  ∀ (m : (ℓ : Loc Cert.KernelLnGateIdeal.nD Cert.KernelLnGateIdeal.τ Cert.KernelLnGateIdeal.sig) → Buf (Elt Ideal) ℓ) (g : Dev Cert.KernelLnGateIdeal.nD → PrngReg), Pre_KernelLnGateIdeal m →
    θ_run (Cert.KernelLnGateIdeal.defs (F := Ideal)) (onTc (τ := Cert.KernelLnGateIdeal.τ) (Cert.KernelLnGateIdeal.main (F := Ideal))) ⟨m, fun _ => 0, g⟩ (fun r => (∀ c : Dev Cert.KernelLnGateIdeal.nD,
      r.2.mem ((c.tc : Thread Cert.KernelLnGateIdeal.nD Cert.KernelLnGateIdeal.τ).loc Cert.KernelLnGateIdeal.main_arg0) = m ((c.tc : Thread Cert.KernelLnGateIdeal.nD Cert.KernelLnGateIdeal.τ).loc Cert.KernelLnGateIdeal.main_arg0)
      ∧ r.2.mem ((c.tc : Thread Cert.KernelLnGateIdeal.nD Cert.KernelLnGateIdeal.τ).loc Cert.KernelLnGateIdeal.main_arg1) = m ((c.tc : Thread Cert.KernelLnGateIdeal.nD Cert.KernelLnGateIdeal.τ).loc Cert.KernelLnGateIdeal.main_arg1)
      ∧ r.2.mem ((c.tc : Thread Cert.KernelLnGateIdeal.nD Cert.KernelLnGateIdeal.τ).loc Cert.KernelLnGateIdeal.main_arg2) = m ((c.tc : Thread Cert.KernelLnGateIdeal.nD Cert.KernelLnGateIdeal.τ).loc Cert.KernelLnGateIdeal.main_arg2)
      ∧ r.2.mem ((c.tc : Thread Cert.KernelLnGateIdeal.nD Cert.KernelLnGateIdeal.τ).loc Cert.KernelLnGateIdeal.main_arg3) = m ((c.tc : Thread Cert.KernelLnGateIdeal.nD Cert.KernelLnGateIdeal.τ).loc Cert.KernelLnGateIdeal.main_arg3)
      ∧ r.2.mem ((c.tc : Thread Cert.KernelLnGateIdeal.nD Cert.KernelLnGateIdeal.τ).loc Cert.KernelLnGateIdeal.main_arg4) = m ((c.tc : Thread Cert.KernelLnGateIdeal.nD Cert.KernelLnGateIdeal.τ).loc Cert.KernelLnGateIdeal.main_arg4))
      ∧ r.2.sem = fun _ => 0)

def quiescent_ReferenceLnGateIdeal [hReferenceLnGateIdeal : Cert.ReferenceLnGateIdeal.Facts] : Prop :=
  ∀ (m : (ℓ : Loc Cert.ReferenceLnGateIdeal.nD Cert.ReferenceLnGateIdeal.τ Cert.ReferenceLnGateIdeal.sig) → Buf (Elt Ideal) ℓ) (g : Dev Cert.ReferenceLnGateIdeal.nD → PrngReg), Pre_ReferenceLnGateIdeal m →
    θ_run (Cert.ReferenceLnGateIdeal.defs (F := Ideal)) (onTc (τ := Cert.ReferenceLnGateIdeal.τ) (Cert.ReferenceLnGateIdeal.main (F := Ideal))) ⟨m, fun _ => 0, g⟩ (fun r => (∀ c : Dev Cert.ReferenceLnGateIdeal.nD,
      r.2.mem ((c.tc : Thread Cert.ReferenceLnGateIdeal.nD Cert.ReferenceLnGateIdeal.τ).loc Cert.ReferenceLnGateIdeal.main_arg0) = m ((c.tc : Thread Cert.ReferenceLnGateIdeal.nD Cert.ReferenceLnGateIdeal.τ).loc Cert.ReferenceLnGateIdeal.main_arg0)
      ∧ r.2.mem ((c.tc : Thread Cert.ReferenceLnGateIdeal.nD Cert.ReferenceLnGateIdeal.τ).loc Cert.ReferenceLnGateIdeal.main_arg1) = m ((c.tc : Thread Cert.ReferenceLnGateIdeal.nD Cert.ReferenceLnGateIdeal.τ).loc Cert.ReferenceLnGateIdeal.main_arg1)
      ∧ r.2.mem ((c.tc : Thread Cert.ReferenceLnGateIdeal.nD Cert.ReferenceLnGateIdeal.τ).loc Cert.ReferenceLnGateIdeal.main_arg2) = m ((c.tc : Thread Cert.ReferenceLnGateIdeal.nD Cert.ReferenceLnGateIdeal.τ).loc Cert.ReferenceLnGateIdeal.main_arg2)
      ∧ r.2.mem ((c.tc : Thread Cert.ReferenceLnGateIdeal.nD Cert.ReferenceLnGateIdeal.τ).loc Cert.ReferenceLnGateIdeal.main_arg3) = m ((c.tc : Thread Cert.ReferenceLnGateIdeal.nD Cert.ReferenceLnGateIdeal.τ).loc Cert.ReferenceLnGateIdeal.main_arg3)
      ∧ r.2.mem ((c.tc : Thread Cert.ReferenceLnGateIdeal.nD Cert.ReferenceLnGateIdeal.τ).loc Cert.ReferenceLnGateIdeal.main_arg4) = m ((c.tc : Thread Cert.ReferenceLnGateIdeal.nD Cert.ReferenceLnGateIdeal.τ).loc Cert.ReferenceLnGateIdeal.main_arg4))
      ∧ r.2.sem = fun _ => 0)

def quiescent_KernelCastGate [hKernelCastGate : Cert.KernelCastGate.Facts] : Prop :=
  ∀ (m : (ℓ : Loc Cert.KernelCastGate.nD Cert.KernelCastGate.τ Cert.KernelCastGate.sig) → Buf (Elt Bits) ℓ) (g : Dev Cert.KernelCastGate.nD → PrngReg), Pre_KernelCastGate m →
    θ_run (Cert.KernelCastGate.defs (F := Bits)) (onTc (τ := Cert.KernelCastGate.τ) (Cert.KernelCastGate.main (F := Bits))) ⟨m, fun _ => 0, g⟩ (fun r => (∀ c : Dev Cert.KernelCastGate.nD,
      r.2.mem ((c.tc : Thread Cert.KernelCastGate.nD Cert.KernelCastGate.τ).loc Cert.KernelCastGate.main_arg0) = m ((c.tc : Thread Cert.KernelCastGate.nD Cert.KernelCastGate.τ).loc Cert.KernelCastGate.main_arg0)
      ∧ r.2.mem ((c.tc : Thread Cert.KernelCastGate.nD Cert.KernelCastGate.τ).loc Cert.KernelCastGate.main_arg1) = m ((c.tc : Thread Cert.KernelCastGate.nD Cert.KernelCastGate.τ).loc Cert.KernelCastGate.main_arg1))
      ∧ r.2.sem = fun _ => 0)

def quiescent_KernelCastGateIdeal [hKernelCastGateIdeal : Cert.KernelCastGateIdeal.Facts] : Prop :=
  ∀ (m : (ℓ : Loc Cert.KernelCastGateIdeal.nD Cert.KernelCastGateIdeal.τ Cert.KernelCastGateIdeal.sig) → Buf (Elt Ideal) ℓ) (g : Dev Cert.KernelCastGateIdeal.nD → PrngReg), Pre_KernelCastGateIdeal m →
    θ_run (Cert.KernelCastGateIdeal.defs (F := Ideal)) (onTc (τ := Cert.KernelCastGateIdeal.τ) (Cert.KernelCastGateIdeal.main (F := Ideal))) ⟨m, fun _ => 0, g⟩ (fun r => (∀ c : Dev Cert.KernelCastGateIdeal.nD,
      r.2.mem ((c.tc : Thread Cert.KernelCastGateIdeal.nD Cert.KernelCastGateIdeal.τ).loc Cert.KernelCastGateIdeal.main_arg0) = m ((c.tc : Thread Cert.KernelCastGateIdeal.nD Cert.KernelCastGateIdeal.τ).loc Cert.KernelCastGateIdeal.main_arg0)
      ∧ r.2.mem ((c.tc : Thread Cert.KernelCastGateIdeal.nD Cert.KernelCastGateIdeal.τ).loc Cert.KernelCastGateIdeal.main_arg1) = m ((c.tc : Thread Cert.KernelCastGateIdeal.nD Cert.KernelCastGateIdeal.τ).loc Cert.KernelCastGateIdeal.main_arg1))
      ∧ r.2.sem = fun _ => 0)

def quiescent_ReferenceCastGateIdeal [hReferenceCastGateIdeal : Cert.ReferenceCastGateIdeal.Facts] : Prop :=
  ∀ (m : (ℓ : Loc Cert.ReferenceCastGateIdeal.nD Cert.ReferenceCastGateIdeal.τ Cert.ReferenceCastGateIdeal.sig) → Buf (Elt Ideal) ℓ) (g : Dev Cert.ReferenceCastGateIdeal.nD → PrngReg), Pre_ReferenceCastGateIdeal m →
    θ_run (Cert.ReferenceCastGateIdeal.defs (F := Ideal)) (onTc (τ := Cert.ReferenceCastGateIdeal.τ) (Cert.ReferenceCastGateIdeal.main (F := Ideal))) ⟨m, fun _ => 0, g⟩ (fun r => (∀ c : Dev Cert.ReferenceCastGateIdeal.nD,
      r.2.mem ((c.tc : Thread Cert.ReferenceCastGateIdeal.nD Cert.ReferenceCastGateIdeal.τ).loc Cert.ReferenceCastGateIdeal.main_arg0) = m ((c.tc : Thread Cert.ReferenceCastGateIdeal.nD Cert.ReferenceCastGateIdeal.τ).loc Cert.ReferenceCastGateIdeal.main_arg0)
      ∧ r.2.mem ((c.tc : Thread Cert.ReferenceCastGateIdeal.nD Cert.ReferenceCastGateIdeal.τ).loc Cert.ReferenceCastGateIdeal.main_arg1) = m ((c.tc : Thread Cert.ReferenceCastGateIdeal.nD Cert.ReferenceCastGateIdeal.τ).loc Cert.ReferenceCastGateIdeal.main_arg1))
      ∧ r.2.sem = fun _ => 0)

def quiescent_KernelRet [hKernelRet : Cert.KernelRet.Facts] : Prop :=
  ∀ (m : (ℓ : Loc Cert.KernelRet.nD Cert.KernelRet.τ Cert.KernelRet.sig) → Buf (Elt Bits) ℓ) (g : Dev Cert.KernelRet.nD → PrngReg), Pre_KernelRet m →
    θ_run (Cert.KernelRet.defs (F := Bits)) (onTc (τ := Cert.KernelRet.τ) (Cert.KernelRet.main (F := Bits))) ⟨m, fun _ => 0, g⟩ (fun r => (∀ c : Dev Cert.KernelRet.nD,
      r.2.mem ((c.tc : Thread Cert.KernelRet.nD Cert.KernelRet.τ).loc Cert.KernelRet.main_arg0) = m ((c.tc : Thread Cert.KernelRet.nD Cert.KernelRet.τ).loc Cert.KernelRet.main_arg0)
      ∧ r.2.mem ((c.tc : Thread Cert.KernelRet.nD Cert.KernelRet.τ).loc Cert.KernelRet.main_arg1) = m ((c.tc : Thread Cert.KernelRet.nD Cert.KernelRet.τ).loc Cert.KernelRet.main_arg1))
      ∧ r.2.sem = fun _ => 0)

def quiescent_KernelRetIdeal [hKernelRetIdeal : Cert.KernelRetIdeal.Facts] : Prop :=
  ∀ (m : (ℓ : Loc Cert.KernelRetIdeal.nD Cert.KernelRetIdeal.τ Cert.KernelRetIdeal.sig) → Buf (Elt Ideal) ℓ) (g : Dev Cert.KernelRetIdeal.nD → PrngReg), Pre_KernelRetIdeal m →
    θ_run (Cert.KernelRetIdeal.defs (F := Ideal)) (onTc (τ := Cert.KernelRetIdeal.τ) (Cert.KernelRetIdeal.main (F := Ideal))) ⟨m, fun _ => 0, g⟩ (fun r => (∀ c : Dev Cert.KernelRetIdeal.nD,
      r.2.mem ((c.tc : Thread Cert.KernelRetIdeal.nD Cert.KernelRetIdeal.τ).loc Cert.KernelRetIdeal.main_arg0) = m ((c.tc : Thread Cert.KernelRetIdeal.nD Cert.KernelRetIdeal.τ).loc Cert.KernelRetIdeal.main_arg0)
      ∧ r.2.mem ((c.tc : Thread Cert.KernelRetIdeal.nD Cert.KernelRetIdeal.τ).loc Cert.KernelRetIdeal.main_arg1) = m ((c.tc : Thread Cert.KernelRetIdeal.nD Cert.KernelRetIdeal.τ).loc Cert.KernelRetIdeal.main_arg1))
      ∧ r.2.sem = fun _ => 0)

def quiescent_ReferenceRetIdeal [hReferenceRetIdeal : Cert.ReferenceRetIdeal.Facts] : Prop :=
  ∀ (m : (ℓ : Loc Cert.ReferenceRetIdeal.nD Cert.ReferenceRetIdeal.τ Cert.ReferenceRetIdeal.sig) → Buf (Elt Ideal) ℓ) (g : Dev Cert.ReferenceRetIdeal.nD → PrngReg), Pre_ReferenceRetIdeal m →
    θ_run (Cert.ReferenceRetIdeal.defs (F := Ideal)) (onTc (τ := Cert.ReferenceRetIdeal.τ) (Cert.ReferenceRetIdeal.main (F := Ideal))) ⟨m, fun _ => 0, g⟩ (fun r => (∀ c : Dev Cert.ReferenceRetIdeal.nD,
      r.2.mem ((c.tc : Thread Cert.ReferenceRetIdeal.nD Cert.ReferenceRetIdeal.τ).loc Cert.ReferenceRetIdeal.main_arg0) = m ((c.tc : Thread Cert.ReferenceRetIdeal.nD Cert.ReferenceRetIdeal.τ).loc Cert.ReferenceRetIdeal.main_arg0)
      ∧ r.2.mem ((c.tc : Thread Cert.ReferenceRetIdeal.nD Cert.ReferenceRetIdeal.τ).loc Cert.ReferenceRetIdeal.main_arg1) = m ((c.tc : Thread Cert.ReferenceRetIdeal.nD Cert.ReferenceRetIdeal.τ).loc Cert.ReferenceRetIdeal.main_arg1))
      ∧ r.2.sem = fun _ => 0)

def quiescent_KernelCastOut [hKernelCastOut : Cert.KernelCastOut.Facts] : Prop :=
  ∀ (m : (ℓ : Loc Cert.KernelCastOut.nD Cert.KernelCastOut.τ Cert.KernelCastOut.sig) → Buf (Elt Bits) ℓ) (g : Dev Cert.KernelCastOut.nD → PrngReg), Pre_KernelCastOut m →
    θ_run (Cert.KernelCastOut.defs (F := Bits)) (onTc (τ := Cert.KernelCastOut.τ) (Cert.KernelCastOut.main (F := Bits))) ⟨m, fun _ => 0, g⟩ (fun r => (∀ c : Dev Cert.KernelCastOut.nD,
      r.2.mem ((c.tc : Thread Cert.KernelCastOut.nD Cert.KernelCastOut.τ).loc Cert.KernelCastOut.main_arg0) = m ((c.tc : Thread Cert.KernelCastOut.nD Cert.KernelCastOut.τ).loc Cert.KernelCastOut.main_arg0))
      ∧ r.2.sem = fun _ => 0)

def quiescent_KernelCastOutIdeal [hKernelCastOutIdeal : Cert.KernelCastOutIdeal.Facts] : Prop :=
  ∀ (m : (ℓ : Loc Cert.KernelCastOutIdeal.nD Cert.KernelCastOutIdeal.τ Cert.KernelCastOutIdeal.sig) → Buf (Elt Ideal) ℓ) (g : Dev Cert.KernelCastOutIdeal.nD → PrngReg), Pre_KernelCastOutIdeal m →
    θ_run (Cert.KernelCastOutIdeal.defs (F := Ideal)) (onTc (τ := Cert.KernelCastOutIdeal.τ) (Cert.KernelCastOutIdeal.main (F := Ideal))) ⟨m, fun _ => 0, g⟩ (fun r => (∀ c : Dev Cert.KernelCastOutIdeal.nD,
      r.2.mem ((c.tc : Thread Cert.KernelCastOutIdeal.nD Cert.KernelCastOutIdeal.τ).loc Cert.KernelCastOutIdeal.main_arg0) = m ((c.tc : Thread Cert.KernelCastOutIdeal.nD Cert.KernelCastOutIdeal.τ).loc Cert.KernelCastOutIdeal.main_arg0))
      ∧ r.2.sem = fun _ => 0)

def quiescent_ReferenceCastOutIdeal [hReferenceCastOutIdeal : Cert.ReferenceCastOutIdeal.Facts] : Prop :=
  ∀ (m : (ℓ : Loc Cert.ReferenceCastOutIdeal.nD Cert.ReferenceCastOutIdeal.τ Cert.ReferenceCastOutIdeal.sig) → Buf (Elt Ideal) ℓ) (g : Dev Cert.ReferenceCastOutIdeal.nD → PrngReg), Pre_ReferenceCastOutIdeal m →
    θ_run (Cert.ReferenceCastOutIdeal.defs (F := Ideal)) (onTc (τ := Cert.ReferenceCastOutIdeal.τ) (Cert.ReferenceCastOutIdeal.main (F := Ideal))) ⟨m, fun _ => 0, g⟩ (fun r => (∀ c : Dev Cert.ReferenceCastOutIdeal.nD,
      r.2.mem ((c.tc : Thread Cert.ReferenceCastOutIdeal.nD Cert.ReferenceCastOutIdeal.τ).loc Cert.ReferenceCastOutIdeal.main_arg0) = m ((c.tc : Thread Cert.ReferenceCastOutIdeal.nD Cert.ReferenceCastOutIdeal.τ).loc Cert.ReferenceCastOutIdeal.main_arg0))
      ∧ r.2.sem = fun _ => 0)

def quiescent_KernelCastUp [hKernelCastUp : Cert.KernelCastUp.Facts] : Prop :=
  ∀ (m : (ℓ : Loc Cert.KernelCastUp.nD Cert.KernelCastUp.τ Cert.KernelCastUp.sig) → Buf (Elt Bits) ℓ) (g : Dev Cert.KernelCastUp.nD → PrngReg), Pre_KernelCastUp m →
    θ_run (Cert.KernelCastUp.defs (F := Bits)) (onTc (τ := Cert.KernelCastUp.τ) (Cert.KernelCastUp.main (F := Bits))) ⟨m, fun _ => 0, g⟩ (fun r => (∀ c : Dev Cert.KernelCastUp.nD,
      r.2.mem ((c.tc : Thread Cert.KernelCastUp.nD Cert.KernelCastUp.τ).loc Cert.KernelCastUp.main_arg0) = m ((c.tc : Thread Cert.KernelCastUp.nD Cert.KernelCastUp.τ).loc Cert.KernelCastUp.main_arg0))
      ∧ r.2.sem = fun _ => 0)

def quiescent_KernelCastUpIdeal [hKernelCastUpIdeal : Cert.KernelCastUpIdeal.Facts] : Prop :=
  ∀ (m : (ℓ : Loc Cert.KernelCastUpIdeal.nD Cert.KernelCastUpIdeal.τ Cert.KernelCastUpIdeal.sig) → Buf (Elt Ideal) ℓ) (g : Dev Cert.KernelCastUpIdeal.nD → PrngReg), Pre_KernelCastUpIdeal m →
    θ_run (Cert.KernelCastUpIdeal.defs (F := Ideal)) (onTc (τ := Cert.KernelCastUpIdeal.τ) (Cert.KernelCastUpIdeal.main (F := Ideal))) ⟨m, fun _ => 0, g⟩ (fun r => (∀ c : Dev Cert.KernelCastUpIdeal.nD,
      r.2.mem ((c.tc : Thread Cert.KernelCastUpIdeal.nD Cert.KernelCastUpIdeal.τ).loc Cert.KernelCastUpIdeal.main_arg0) = m ((c.tc : Thread Cert.KernelCastUpIdeal.nD Cert.KernelCastUpIdeal.τ).loc Cert.KernelCastUpIdeal.main_arg0))
      ∧ r.2.sem = fun _ => 0)

def quiescent_ReferenceCastUpIdeal [hReferenceCastUpIdeal : Cert.ReferenceCastUpIdeal.Facts] : Prop :=
  ∀ (m : (ℓ : Loc Cert.ReferenceCastUpIdeal.nD Cert.ReferenceCastUpIdeal.τ Cert.ReferenceCastUpIdeal.sig) → Buf (Elt Ideal) ℓ) (g : Dev Cert.ReferenceCastUpIdeal.nD → PrngReg), Pre_ReferenceCastUpIdeal m →
    θ_run (Cert.ReferenceCastUpIdeal.defs (F := Ideal)) (onTc (τ := Cert.ReferenceCastUpIdeal.τ) (Cert.ReferenceCastUpIdeal.main (F := Ideal))) ⟨m, fun _ => 0, g⟩ (fun r => (∀ c : Dev Cert.ReferenceCastUpIdeal.nD,
      r.2.mem ((c.tc : Thread Cert.ReferenceCastUpIdeal.nD Cert.ReferenceCastUpIdeal.τ).loc Cert.ReferenceCastUpIdeal.main_arg0) = m ((c.tc : Thread Cert.ReferenceCastUpIdeal.nD Cert.ReferenceCastUpIdeal.τ).loc Cert.ReferenceCastUpIdeal.main_arg0))
      ∧ r.2.sem = fun _ => 0)

def quiescent_KernelCastUp2 [hKernelCastUp2 : Cert.KernelCastUp2.Facts] : Prop :=
  ∀ (m : (ℓ : Loc Cert.KernelCastUp2.nD Cert.KernelCastUp2.τ Cert.KernelCastUp2.sig) → Buf (Elt Bits) ℓ) (g : Dev Cert.KernelCastUp2.nD → PrngReg), Pre_KernelCastUp2 m →
    θ_run (Cert.KernelCastUp2.defs (F := Bits)) (onTc (τ := Cert.KernelCastUp2.τ) (Cert.KernelCastUp2.main (F := Bits))) ⟨m, fun _ => 0, g⟩ (fun r => (∀ c : Dev Cert.KernelCastUp2.nD,
      r.2.mem ((c.tc : Thread Cert.KernelCastUp2.nD Cert.KernelCastUp2.τ).loc Cert.KernelCastUp2.main_arg0) = m ((c.tc : Thread Cert.KernelCastUp2.nD Cert.KernelCastUp2.τ).loc Cert.KernelCastUp2.main_arg0))
      ∧ r.2.sem = fun _ => 0)

def quiescent_KernelCastUp2Ideal [hKernelCastUp2Ideal : Cert.KernelCastUp2Ideal.Facts] : Prop :=
  ∀ (m : (ℓ : Loc Cert.KernelCastUp2Ideal.nD Cert.KernelCastUp2Ideal.τ Cert.KernelCastUp2Ideal.sig) → Buf (Elt Ideal) ℓ) (g : Dev Cert.KernelCastUp2Ideal.nD → PrngReg), Pre_KernelCastUp2Ideal m →
    θ_run (Cert.KernelCastUp2Ideal.defs (F := Ideal)) (onTc (τ := Cert.KernelCastUp2Ideal.τ) (Cert.KernelCastUp2Ideal.main (F := Ideal))) ⟨m, fun _ => 0, g⟩ (fun r => (∀ c : Dev Cert.KernelCastUp2Ideal.nD,
      r.2.mem ((c.tc : Thread Cert.KernelCastUp2Ideal.nD Cert.KernelCastUp2Ideal.τ).loc Cert.KernelCastUp2Ideal.main_arg0) = m ((c.tc : Thread Cert.KernelCastUp2Ideal.nD Cert.KernelCastUp2Ideal.τ).loc Cert.KernelCastUp2Ideal.main_arg0))
      ∧ r.2.sem = fun _ => 0)

def quiescent_ReferenceCastUp2Ideal [hReferenceCastUp2Ideal : Cert.ReferenceCastUp2Ideal.Facts] : Prop :=
  ∀ (m : (ℓ : Loc Cert.ReferenceCastUp2Ideal.nD Cert.ReferenceCastUp2Ideal.τ Cert.ReferenceCastUp2Ideal.sig) → Buf (Elt Ideal) ℓ) (g : Dev Cert.ReferenceCastUp2Ideal.nD → PrngReg), Pre_ReferenceCastUp2Ideal m →
    θ_run (Cert.ReferenceCastUp2Ideal.defs (F := Ideal)) (onTc (τ := Cert.ReferenceCastUp2Ideal.τ) (Cert.ReferenceCastUp2Ideal.main (F := Ideal))) ⟨m, fun _ => 0, g⟩ (fun r => (∀ c : Dev Cert.ReferenceCastUp2Ideal.nD,
      r.2.mem ((c.tc : Thread Cert.ReferenceCastUp2Ideal.nD Cert.ReferenceCastUp2Ideal.τ).loc Cert.ReferenceCastUp2Ideal.main_arg0) = m ((c.tc : Thread Cert.ReferenceCastUp2Ideal.nD Cert.ReferenceCastUp2Ideal.τ).loc Cert.ReferenceCastUp2Ideal.main_arg0))
      ∧ r.2.sem = fun _ => 0)

def quiescent_KernelCastDown [hKernelCastDown : Cert.KernelCastDown.Facts] : Prop :=
  ∀ (m : (ℓ : Loc Cert.KernelCastDown.nD Cert.KernelCastDown.τ Cert.KernelCastDown.sig) → Buf (Elt Bits) ℓ) (g : Dev Cert.KernelCastDown.nD → PrngReg), Pre_KernelCastDown m →
    θ_run (Cert.KernelCastDown.defs (F := Bits)) (onTc (τ := Cert.KernelCastDown.τ) (Cert.KernelCastDown.main (F := Bits))) ⟨m, fun _ => 0, g⟩ (fun r => (∀ c : Dev Cert.KernelCastDown.nD,
      r.2.mem ((c.tc : Thread Cert.KernelCastDown.nD Cert.KernelCastDown.τ).loc Cert.KernelCastDown.main_arg0) = m ((c.tc : Thread Cert.KernelCastDown.nD Cert.KernelCastDown.τ).loc Cert.KernelCastDown.main_arg0))
      ∧ r.2.sem = fun _ => 0)

def quiescent_KernelCastDownIdeal [hKernelCastDownIdeal : Cert.KernelCastDownIdeal.Facts] : Prop :=
  ∀ (m : (ℓ : Loc Cert.KernelCastDownIdeal.nD Cert.KernelCastDownIdeal.τ Cert.KernelCastDownIdeal.sig) → Buf (Elt Ideal) ℓ) (g : Dev Cert.KernelCastDownIdeal.nD → PrngReg), Pre_KernelCastDownIdeal m →
    θ_run (Cert.KernelCastDownIdeal.defs (F := Ideal)) (onTc (τ := Cert.KernelCastDownIdeal.τ) (Cert.KernelCastDownIdeal.main (F := Ideal))) ⟨m, fun _ => 0, g⟩ (fun r => (∀ c : Dev Cert.KernelCastDownIdeal.nD,
      r.2.mem ((c.tc : Thread Cert.KernelCastDownIdeal.nD Cert.KernelCastDownIdeal.τ).loc Cert.KernelCastDownIdeal.main_arg0) = m ((c.tc : Thread Cert.KernelCastDownIdeal.nD Cert.KernelCastDownIdeal.τ).loc Cert.KernelCastDownIdeal.main_arg0))
      ∧ r.2.sem = fun _ => 0)

def quiescent_ReferenceCastDownIdeal [hReferenceCastDownIdeal : Cert.ReferenceCastDownIdeal.Facts] : Prop :=
  ∀ (m : (ℓ : Loc Cert.ReferenceCastDownIdeal.nD Cert.ReferenceCastDownIdeal.τ Cert.ReferenceCastDownIdeal.sig) → Buf (Elt Ideal) ℓ) (g : Dev Cert.ReferenceCastDownIdeal.nD → PrngReg), Pre_ReferenceCastDownIdeal m →
    θ_run (Cert.ReferenceCastDownIdeal.defs (F := Ideal)) (onTc (τ := Cert.ReferenceCastDownIdeal.τ) (Cert.ReferenceCastDownIdeal.main (F := Ideal))) ⟨m, fun _ => 0, g⟩ (fun r => (∀ c : Dev Cert.ReferenceCastDownIdeal.nD,
      r.2.mem ((c.tc : Thread Cert.ReferenceCastDownIdeal.nD Cert.ReferenceCastDownIdeal.τ).loc Cert.ReferenceCastDownIdeal.main_arg0) = m ((c.tc : Thread Cert.ReferenceCastDownIdeal.nD Cert.ReferenceCastDownIdeal.τ).loc Cert.ReferenceCastDownIdeal.main_arg0))
      ∧ r.2.sem = fun _ => 0)

def quiescent_KernelCastDown2 [hKernelCastDown2 : Cert.KernelCastDown2.Facts] : Prop :=
  ∀ (m : (ℓ : Loc Cert.KernelCastDown2.nD Cert.KernelCastDown2.τ Cert.KernelCastDown2.sig) → Buf (Elt Bits) ℓ) (g : Dev Cert.KernelCastDown2.nD → PrngReg), Pre_KernelCastDown2 m →
    θ_run (Cert.KernelCastDown2.defs (F := Bits)) (onTc (τ := Cert.KernelCastDown2.τ) (Cert.KernelCastDown2.main (F := Bits))) ⟨m, fun _ => 0, g⟩ (fun r => (∀ c : Dev Cert.KernelCastDown2.nD,
      r.2.mem ((c.tc : Thread Cert.KernelCastDown2.nD Cert.KernelCastDown2.τ).loc Cert.KernelCastDown2.main_arg0) = m ((c.tc : Thread Cert.KernelCastDown2.nD Cert.KernelCastDown2.τ).loc Cert.KernelCastDown2.main_arg0))
      ∧ r.2.sem = fun _ => 0)

def quiescent_KernelCastDown2Ideal [hKernelCastDown2Ideal : Cert.KernelCastDown2Ideal.Facts] : Prop :=
  ∀ (m : (ℓ : Loc Cert.KernelCastDown2Ideal.nD Cert.KernelCastDown2Ideal.τ Cert.KernelCastDown2Ideal.sig) → Buf (Elt Ideal) ℓ) (g : Dev Cert.KernelCastDown2Ideal.nD → PrngReg), Pre_KernelCastDown2Ideal m →
    θ_run (Cert.KernelCastDown2Ideal.defs (F := Ideal)) (onTc (τ := Cert.KernelCastDown2Ideal.τ) (Cert.KernelCastDown2Ideal.main (F := Ideal))) ⟨m, fun _ => 0, g⟩ (fun r => (∀ c : Dev Cert.KernelCastDown2Ideal.nD,
      r.2.mem ((c.tc : Thread Cert.KernelCastDown2Ideal.nD Cert.KernelCastDown2Ideal.τ).loc Cert.KernelCastDown2Ideal.main_arg0) = m ((c.tc : Thread Cert.KernelCastDown2Ideal.nD Cert.KernelCastDown2Ideal.τ).loc Cert.KernelCastDown2Ideal.main_arg0))
      ∧ r.2.sem = fun _ => 0)

def quiescent_ReferenceCastDown2Ideal [hReferenceCastDown2Ideal : Cert.ReferenceCastDown2Ideal.Facts] : Prop :=
  ∀ (m : (ℓ : Loc Cert.ReferenceCastDown2Ideal.nD Cert.ReferenceCastDown2Ideal.τ Cert.ReferenceCastDown2Ideal.sig) → Buf (Elt Ideal) ℓ) (g : Dev Cert.ReferenceCastDown2Ideal.nD → PrngReg), Pre_ReferenceCastDown2Ideal m →
    θ_run (Cert.ReferenceCastDown2Ideal.defs (F := Ideal)) (onTc (τ := Cert.ReferenceCastDown2Ideal.τ) (Cert.ReferenceCastDown2Ideal.main (F := Ideal))) ⟨m, fun _ => 0, g⟩ (fun r => (∀ c : Dev Cert.ReferenceCastDown2Ideal.nD,
      r.2.mem ((c.tc : Thread Cert.ReferenceCastDown2Ideal.nD Cert.ReferenceCastDown2Ideal.τ).loc Cert.ReferenceCastDown2Ideal.main_arg0) = m ((c.tc : Thread Cert.ReferenceCastDown2Ideal.nD Cert.ReferenceCastDown2Ideal.τ).loc Cert.ReferenceCastDown2Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v3) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v1) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelEvenIn_KernelEvenInIdeal : Prop :=
  True

def algebraic_KernelEvenInIdeal_ReferenceEvenInIdeal [hKernelEvenInIdeal : Cert.KernelEvenInIdeal.Facts] [hReferenceEvenInIdeal : Cert.ReferenceEvenInIdeal.Facts] : Prop :=
  ∀ (m : (ℓ : Loc Cert.KernelEvenInIdeal.nD Cert.KernelEvenInIdeal.τ Cert.KernelEvenInIdeal.sig) → Buf (Elt Ideal) ℓ) (g : Dev Cert.KernelEvenInIdeal.nD → PrngReg)
    (m' : (ℓ : Loc Cert.ReferenceEvenInIdeal.nD Cert.ReferenceEvenInIdeal.τ Cert.ReferenceEvenInIdeal.sig) → Buf (Elt Ideal) ℓ) (g' : Dev Cert.ReferenceEvenInIdeal.nD → PrngReg), Pre_KernelEvenInIdeal m →
    (∀ c : Dev Cert.KernelEvenInIdeal.nD,
      m' ((c.tc : Thread Cert.ReferenceEvenInIdeal.nD Cert.ReferenceEvenInIdeal.τ).loc Cert.ReferenceEvenInIdeal.main_arg0) = m ((c.tc : Thread Cert.KernelEvenInIdeal.nD Cert.KernelEvenInIdeal.τ).loc Cert.KernelEvenInIdeal.main_arg0)
      ∧ m' ((c.tc : Thread Cert.ReferenceEvenInIdeal.nD Cert.ReferenceEvenInIdeal.τ).loc Cert.ReferenceEvenInIdeal.main_arg1) = m ((c.tc : Thread Cert.KernelEvenInIdeal.nD Cert.KernelEvenInIdeal.τ).loc Cert.KernelEvenInIdeal.main_arg1)) →
    ∃ (v0 : (c : Dev Cert.KernelEvenInIdeal.nD) → Buf (Elt Ideal) ((c.tc : Thread Cert.KernelEvenInIdeal.nD Cert.KernelEvenInIdeal.τ).loc Cert.KernelEvenInIdeal.main_v0)),
      θ_run (Cert.KernelEvenInIdeal.defs (F := Ideal)) (onTc (τ := Cert.KernelEvenInIdeal.τ) (Cert.KernelEvenInIdeal.main (F := Ideal))) ⟨m, fun _ => 0, g⟩ (fun r => ∀ c : Dev Cert.KernelEvenInIdeal.nD,
          r.2.mem ((c.tc : Thread Cert.KernelEvenInIdeal.nD Cert.KernelEvenInIdeal.τ).loc Cert.KernelEvenInIdeal.main_v0) = v0 c
          ∧ r.2.mem ((c.tc : Thread Cert.KernelEvenInIdeal.nD Cert.KernelEvenInIdeal.τ).loc Cert.KernelEvenInIdeal.main_arg0) = m ((c.tc : Thread Cert.KernelEvenInIdeal.nD Cert.KernelEvenInIdeal.τ).loc Cert.KernelEvenInIdeal.main_arg0)
          ∧ r.2.mem ((c.tc : Thread Cert.KernelEvenInIdeal.nD Cert.KernelEvenInIdeal.τ).loc Cert.KernelEvenInIdeal.main_arg1) = m ((c.tc : Thread Cert.KernelEvenInIdeal.nD Cert.KernelEvenInIdeal.τ).loc Cert.KernelEvenInIdeal.main_arg1))
      ∧ θ_run (Cert.ReferenceEvenInIdeal.defs (F := Ideal)) (onTc (τ := Cert.ReferenceEvenInIdeal.τ) (Cert.ReferenceEvenInIdeal.main (F := Ideal))) ⟨m', fun _ => 0, g'⟩ (fun r => ∀ c : Dev Cert.ReferenceEvenInIdeal.nD,
          r.2.mem ((c.tc : Thread Cert.ReferenceEvenInIdeal.nD Cert.ReferenceEvenInIdeal.τ).loc Cert.ReferenceEvenInIdeal.main_v0) = v0 c
          ∧ r.2.mem ((c.tc : Thread Cert.ReferenceEvenInIdeal.nD Cert.ReferenceEvenInIdeal.τ).loc Cert.ReferenceEvenInIdeal.main_arg0) = m' ((c.tc : Thread Cert.ReferenceEvenInIdeal.nD Cert.ReferenceEvenInIdeal.τ).loc Cert.ReferenceEvenInIdeal.main_arg0)
          ∧ r.2.mem ((c.tc : Thread Cert.ReferenceEvenInIdeal.nD Cert.ReferenceEvenInIdeal.τ).loc Cert.ReferenceEvenInIdeal.main_arg1) = m' ((c.tc : Thread Cert.ReferenceEvenInIdeal.nD Cert.ReferenceEvenInIdeal.τ).loc Cert.ReferenceEvenInIdeal.main_arg1))

def preserves_KernelOddIn_KernelOddInIdeal : Prop :=
  True

def algebraic_KernelOddInIdeal_ReferenceOddInIdeal [hKernelOddInIdeal : Cert.KernelOddInIdeal.Facts] [hReferenceOddInIdeal : Cert.ReferenceOddInIdeal.Facts] : Prop :=
  ∀ (m : (ℓ : Loc Cert.KernelOddInIdeal.nD Cert.KernelOddInIdeal.τ Cert.KernelOddInIdeal.sig) → Buf (Elt Ideal) ℓ) (g : Dev Cert.KernelOddInIdeal.nD → PrngReg)
    (m' : (ℓ : Loc Cert.ReferenceOddInIdeal.nD Cert.ReferenceOddInIdeal.τ Cert.ReferenceOddInIdeal.sig) → Buf (Elt Ideal) ℓ) (g' : Dev Cert.ReferenceOddInIdeal.nD → PrngReg), Pre_KernelOddInIdeal m →
    (∀ c : Dev Cert.KernelOddInIdeal.nD,
      m' ((c.tc : Thread Cert.ReferenceOddInIdeal.nD Cert.ReferenceOddInIdeal.τ).loc Cert.ReferenceOddInIdeal.main_arg0) = m ((c.tc : Thread Cert.KernelOddInIdeal.nD Cert.KernelOddInIdeal.τ).loc Cert.KernelOddInIdeal.main_arg0)
      ∧ m' ((c.tc : Thread Cert.ReferenceOddInIdeal.nD Cert.ReferenceOddInIdeal.τ).loc Cert.ReferenceOddInIdeal.main_arg1) = m ((c.tc : Thread Cert.KernelOddInIdeal.nD Cert.KernelOddInIdeal.τ).loc Cert.KernelOddInIdeal.main_arg1)) →
    ∃ (v0 : (c : Dev Cert.KernelOddInIdeal.nD) → Buf (Elt Ideal) ((c.tc : Thread Cert.KernelOddInIdeal.nD Cert.KernelOddInIdeal.τ).loc Cert.KernelOddInIdeal.main_v0)),
      θ_run (Cert.KernelOddInIdeal.defs (F := Ideal)) (onTc (τ := Cert.KernelOddInIdeal.τ) (Cert.KernelOddInIdeal.main (F := Ideal))) ⟨m, fun _ => 0, g⟩ (fun r => ∀ c : Dev Cert.KernelOddInIdeal.nD,
          r.2.mem ((c.tc : Thread Cert.KernelOddInIdeal.nD Cert.KernelOddInIdeal.τ).loc Cert.KernelOddInIdeal.main_v0) = v0 c
          ∧ r.2.mem ((c.tc : Thread Cert.KernelOddInIdeal.nD Cert.KernelOddInIdeal.τ).loc Cert.KernelOddInIdeal.main_arg0) = m ((c.tc : Thread Cert.KernelOddInIdeal.nD Cert.KernelOddInIdeal.τ).loc Cert.KernelOddInIdeal.main_arg0)
          ∧ r.2.mem ((c.tc : Thread Cert.KernelOddInIdeal.nD Cert.KernelOddInIdeal.τ).loc Cert.KernelOddInIdeal.main_arg1) = m ((c.tc : Thread Cert.KernelOddInIdeal.nD Cert.KernelOddInIdeal.τ).loc Cert.KernelOddInIdeal.main_arg1))
      ∧ θ_run (Cert.ReferenceOddInIdeal.defs (F := Ideal)) (onTc (τ := Cert.ReferenceOddInIdeal.τ) (Cert.ReferenceOddInIdeal.main (F := Ideal))) ⟨m', fun _ => 0, g'⟩ (fun r => ∀ c : Dev Cert.ReferenceOddInIdeal.nD,
          r.2.mem ((c.tc : Thread Cert.ReferenceOddInIdeal.nD Cert.ReferenceOddInIdeal.τ).loc Cert.ReferenceOddInIdeal.main_v0) = v0 c
          ∧ r.2.mem ((c.tc : Thread Cert.ReferenceOddInIdeal.nD Cert.ReferenceOddInIdeal.τ).loc Cert.ReferenceOddInIdeal.main_arg0) = m' ((c.tc : Thread Cert.ReferenceOddInIdeal.nD Cert.ReferenceOddInIdeal.τ).loc Cert.ReferenceOddInIdeal.main_arg0)
          ∧ r.2.mem ((c.tc : Thread Cert.ReferenceOddInIdeal.nD Cert.ReferenceOddInIdeal.τ).loc Cert.ReferenceOddInIdeal.main_arg1) = m' ((c.tc : Thread Cert.ReferenceOddInIdeal.nD Cert.ReferenceOddInIdeal.τ).loc Cert.ReferenceOddInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v2) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelLn_KernelLnIdeal : Prop :=
  True

def algebraic_KernelLnIdeal_ReferenceLnIdeal [hKernelLnIdeal : Cert.KernelLnIdeal.Facts] [hReferenceLnIdeal : Cert.ReferenceLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg)
    (m' : (ℓ : Loc Cert.ReferenceLnIdeal.nD Cert.ReferenceLnIdeal.τ Cert.ReferenceLnIdeal.sig) → Buf (Elt Ideal) ℓ) (g' : Dev Cert.ReferenceLnIdeal.nD → PrngReg), Pre_KernelLnIdeal m →
    (∀ c : Dev Cert.KernelLnIdeal.nD,
      m' ((c.tc : Thread Cert.ReferenceLnIdeal.nD Cert.ReferenceLnIdeal.τ).loc Cert.ReferenceLnIdeal.main_arg0) = m ((c.tc : Thread Cert.KernelLnIdeal.nD Cert.KernelLnIdeal.τ).loc Cert.KernelLnIdeal.main_arg0)
      ∧ m' ((c.tc : Thread Cert.ReferenceLnIdeal.nD Cert.ReferenceLnIdeal.τ).loc Cert.ReferenceLnIdeal.main_arg1) = m ((c.tc : Thread Cert.KernelLnIdeal.nD Cert.KernelLnIdeal.τ).loc Cert.KernelLnIdeal.main_arg1)
      ∧ m' ((c.tc : Thread Cert.ReferenceLnIdeal.nD Cert.ReferenceLnIdeal.τ).loc Cert.ReferenceLnIdeal.main_arg2) = m ((c.tc : Thread Cert.KernelLnIdeal.nD Cert.KernelLnIdeal.τ).loc Cert.KernelLnIdeal.main_arg2)
      ∧ m' ((c.tc : Thread Cert.ReferenceLnIdeal.nD Cert.ReferenceLnIdeal.τ).loc Cert.ReferenceLnIdeal.main_arg3) = m ((c.tc : Thread Cert.KernelLnIdeal.nD Cert.KernelLnIdeal.τ).loc Cert.KernelLnIdeal.main_arg3)) →
    ∃ (v0 : (c : Dev Cert.KernelLnIdeal.nD) → Buf (Elt Ideal) ((c.tc : Thread Cert.KernelLnIdeal.nD Cert.KernelLnIdeal.τ).loc Cert.KernelLnIdeal.main_v2)),
      θ_run (Cert.KernelLnIdeal.defs (F := Ideal)) (onTc (τ := Cert.KernelLnIdeal.τ) (Cert.KernelLnIdeal.main (F := Ideal))) ⟨m, fun _ => 0, g⟩ (fun r => ∀ c : Dev Cert.KernelLnIdeal.nD,
          r.2.mem ((c.tc : Thread Cert.KernelLnIdeal.nD Cert.KernelLnIdeal.τ).loc Cert.KernelLnIdeal.main_v2) = v0 c
          ∧ r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
          ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
          ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
          ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3))
      ∧ θ_run (Cert.ReferenceLnIdeal.defs (F := Ideal)) (onTc (τ := Cert.ReferenceLnIdeal.τ) (Cert.ReferenceLnIdeal.main (F := Ideal))) ⟨m', fun _ => 0, g'⟩ (fun r => ∀ c : Dev Cert.ReferenceLnIdeal.nD,
          r.2.mem ((c.tc : Thread Cert.ReferenceLnIdeal.nD Cert.ReferenceLnIdeal.τ).loc Cert.ReferenceLnIdeal.main_v27) = v0 c
          ∧ r.2.mem ((c.tc : Thread Cert.ReferenceLnIdeal.nD Cert.ReferenceLnIdeal.τ).loc Cert.ReferenceLnIdeal.main_arg0) = m' ((c.tc : Thread Cert.ReferenceLnIdeal.nD Cert.ReferenceLnIdeal.τ).loc Cert.ReferenceLnIdeal.main_arg0)
          ∧ r.2.mem ((c.tc : Thread Cert.ReferenceLnIdeal.nD Cert.ReferenceLnIdeal.τ).loc Cert.ReferenceLnIdeal.main_arg1) = m' ((c.tc : Thread Cert.ReferenceLnIdeal.nD Cert.ReferenceLnIdeal.τ).loc Cert.ReferenceLnIdeal.main_arg1)
          ∧ r.2.mem ((c.tc : Thread Cert.ReferenceLnIdeal.nD Cert.ReferenceLnIdeal.τ).loc Cert.ReferenceLnIdeal.main_arg2) = m' ((c.tc : Thread Cert.ReferenceLnIdeal.nD Cert.ReferenceLnIdeal.τ).loc Cert.ReferenceLnIdeal.main_arg2)
          ∧ r.2.mem ((c.tc : Thread Cert.ReferenceLnIdeal.nD Cert.ReferenceLnIdeal.τ).loc Cert.ReferenceLnIdeal.main_arg3) = m' ((c.tc : Thread Cert.ReferenceLnIdeal.nD Cert.ReferenceLnIdeal.τ).loc Cert.ReferenceLnIdeal.main_arg3))

def preserves_KernelLnMix_KernelLnMixIdeal : Prop :=
  True

def algebraic_KernelLnMixIdeal_ReferenceLnMixIdeal [hKernelLnMixIdeal : Cert.KernelLnMixIdeal.Facts] [hReferenceLnMixIdeal : Cert.ReferenceLnMixIdeal.Facts] : Prop :=
  ∀ (m : (ℓ : Loc Cert.KernelLnMixIdeal.nD Cert.KernelLnMixIdeal.τ Cert.KernelLnMixIdeal.sig) → Buf (Elt Ideal) ℓ) (g : Dev Cert.KernelLnMixIdeal.nD → PrngReg)
    (m' : (ℓ : Loc Cert.ReferenceLnMixIdeal.nD Cert.ReferenceLnMixIdeal.τ Cert.ReferenceLnMixIdeal.sig) → Buf (Elt Ideal) ℓ) (g' : Dev Cert.ReferenceLnMixIdeal.nD → PrngReg), Pre_KernelLnMixIdeal m →
    (∀ c : Dev Cert.KernelLnMixIdeal.nD,
      m' ((c.tc : Thread Cert.ReferenceLnMixIdeal.nD Cert.ReferenceLnMixIdeal.τ).loc Cert.ReferenceLnMixIdeal.main_arg0) = m ((c.tc : Thread Cert.KernelLnMixIdeal.nD Cert.KernelLnMixIdeal.τ).loc Cert.KernelLnMixIdeal.main_arg0)
      ∧ m' ((c.tc : Thread Cert.ReferenceLnMixIdeal.nD Cert.ReferenceLnMixIdeal.τ).loc Cert.ReferenceLnMixIdeal.main_arg1) = m ((c.tc : Thread Cert.KernelLnMixIdeal.nD Cert.KernelLnMixIdeal.τ).loc Cert.KernelLnMixIdeal.main_arg1)
      ∧ m' ((c.tc : Thread Cert.ReferenceLnMixIdeal.nD Cert.ReferenceLnMixIdeal.τ).loc Cert.ReferenceLnMixIdeal.main_arg2) = m ((c.tc : Thread Cert.KernelLnMixIdeal.nD Cert.KernelLnMixIdeal.τ).loc Cert.KernelLnMixIdeal.main_arg2)
      ∧ m' ((c.tc : Thread Cert.ReferenceLnMixIdeal.nD Cert.ReferenceLnMixIdeal.τ).loc Cert.ReferenceLnMixIdeal.main_arg3) = m ((c.tc : Thread Cert.KernelLnMixIdeal.nD Cert.KernelLnMixIdeal.τ).loc Cert.KernelLnMixIdeal.main_arg3)) →
    ∃ (v0 : (c : Dev Cert.KernelLnMixIdeal.nD) → Buf (Elt Ideal) ((c.tc : Thread Cert.KernelLnMixIdeal.nD Cert.KernelLnMixIdeal.τ).loc Cert.KernelLnMixIdeal.main_v2_0)) (v1 : (c : Dev Cert.KernelLnMixIdeal.nD) → Buf (Elt Ideal) ((c.tc : Thread Cert.KernelLnMixIdeal.nD Cert.KernelLnMixIdeal.τ).loc Cert.KernelLnMixIdeal.main_v2_1)),
      θ_run (Cert.KernelLnMixIdeal.defs (F := Ideal)) (onTc (τ := Cert.KernelLnMixIdeal.τ) (Cert.KernelLnMixIdeal.main (F := Ideal))) ⟨m, fun _ => 0, g⟩ (fun r => ∀ c : Dev Cert.KernelLnMixIdeal.nD,
          r.2.mem ((c.tc : Thread Cert.KernelLnMixIdeal.nD Cert.KernelLnMixIdeal.τ).loc Cert.KernelLnMixIdeal.main_v2_0) = v0 c
          ∧ r.2.mem ((c.tc : Thread Cert.KernelLnMixIdeal.nD Cert.KernelLnMixIdeal.τ).loc Cert.KernelLnMixIdeal.main_v2_1) = v1 c
          ∧ r.2.mem ((c.tc : Thread Cert.KernelLnMixIdeal.nD Cert.KernelLnMixIdeal.τ).loc Cert.KernelLnMixIdeal.main_arg0) = m ((c.tc : Thread Cert.KernelLnMixIdeal.nD Cert.KernelLnMixIdeal.τ).loc Cert.KernelLnMixIdeal.main_arg0)
          ∧ r.2.mem ((c.tc : Thread Cert.KernelLnMixIdeal.nD Cert.KernelLnMixIdeal.τ).loc Cert.KernelLnMixIdeal.main_arg1) = m ((c.tc : Thread Cert.KernelLnMixIdeal.nD Cert.KernelLnMixIdeal.τ).loc Cert.KernelLnMixIdeal.main_arg1)
          ∧ r.2.mem ((c.tc : Thread Cert.KernelLnMixIdeal.nD Cert.KernelLnMixIdeal.τ).loc Cert.KernelLnMixIdeal.main_arg2) = m ((c.tc : Thread Cert.KernelLnMixIdeal.nD Cert.KernelLnMixIdeal.τ).loc Cert.KernelLnMixIdeal.main_arg2)
          ∧ r.2.mem ((c.tc : Thread Cert.KernelLnMixIdeal.nD Cert.KernelLnMixIdeal.τ).loc Cert.KernelLnMixIdeal.main_arg3) = m ((c.tc : Thread Cert.KernelLnMixIdeal.nD Cert.KernelLnMixIdeal.τ).loc Cert.KernelLnMixIdeal.main_arg3))
      ∧ θ_run (Cert.ReferenceLnMixIdeal.defs (F := Ideal)) (onTc (τ := Cert.ReferenceLnMixIdeal.τ) (Cert.ReferenceLnMixIdeal.main (F := Ideal))) ⟨m', fun _ => 0, g'⟩ (fun r => ∀ c : Dev Cert.ReferenceLnMixIdeal.nD,
          r.2.mem ((c.tc : Thread Cert.ReferenceLnMixIdeal.nD Cert.ReferenceLnMixIdeal.τ).loc Cert.ReferenceLnMixIdeal.main_v27) = v0 c
          ∧ r.2.mem ((c.tc : Thread Cert.ReferenceLnMixIdeal.nD Cert.ReferenceLnMixIdeal.τ).loc Cert.ReferenceLnMixIdeal.main_v28) = v1 c
          ∧ r.2.mem ((c.tc : Thread Cert.ReferenceLnMixIdeal.nD Cert.ReferenceLnMixIdeal.τ).loc Cert.ReferenceLnMixIdeal.main_arg0) = m' ((c.tc : Thread Cert.ReferenceLnMixIdeal.nD Cert.ReferenceLnMixIdeal.τ).loc Cert.ReferenceLnMixIdeal.main_arg0)
          ∧ r.2.mem ((c.tc : Thread Cert.ReferenceLnMixIdeal.nD Cert.ReferenceLnMixIdeal.τ).loc Cert.ReferenceLnMixIdeal.main_arg1) = m' ((c.tc : Thread Cert.ReferenceLnMixIdeal.nD Cert.ReferenceLnMixIdeal.τ).loc Cert.ReferenceLnMixIdeal.main_arg1)
          ∧ r.2.mem ((c.tc : Thread Cert.ReferenceLnMixIdeal.nD Cert.ReferenceLnMixIdeal.τ).loc Cert.ReferenceLnMixIdeal.main_arg2) = m' ((c.tc : Thread Cert.ReferenceLnMixIdeal.nD Cert.ReferenceLnMixIdeal.τ).loc Cert.ReferenceLnMixIdeal.main_arg2)
          ∧ r.2.mem ((c.tc : Thread Cert.ReferenceLnMixIdeal.nD Cert.ReferenceLnMixIdeal.τ).loc Cert.ReferenceLnMixIdeal.main_arg3) = m' ((c.tc : Thread Cert.ReferenceLnMixIdeal.nD Cert.ReferenceLnMixIdeal.τ).loc Cert.ReferenceLnMixIdeal.main_arg3))

def preserves_KernelLnGate_KernelLnGateIdeal : Prop :=
  True

def algebraic_KernelLnGateIdeal_ReferenceLnGateIdeal [hKernelLnGateIdeal : Cert.KernelLnGateIdeal.Facts] [hReferenceLnGateIdeal : Cert.ReferenceLnGateIdeal.Facts] : Prop :=
  ∀ (m : (ℓ : Loc Cert.KernelLnGateIdeal.nD Cert.KernelLnGateIdeal.τ Cert.KernelLnGateIdeal.sig) → Buf (Elt Ideal) ℓ) (g : Dev Cert.KernelLnGateIdeal.nD → PrngReg)
    (m' : (ℓ : Loc Cert.ReferenceLnGateIdeal.nD Cert.ReferenceLnGateIdeal.τ Cert.ReferenceLnGateIdeal.sig) → Buf (Elt Ideal) ℓ) (g' : Dev Cert.ReferenceLnGateIdeal.nD → PrngReg), Pre_KernelLnGateIdeal m →
    (∀ c : Dev Cert.KernelLnGateIdeal.nD,
      m' ((c.tc : Thread Cert.ReferenceLnGateIdeal.nD Cert.ReferenceLnGateIdeal.τ).loc Cert.ReferenceLnGateIdeal.main_arg0) = m ((c.tc : Thread Cert.KernelLnGateIdeal.nD Cert.KernelLnGateIdeal.τ).loc Cert.KernelLnGateIdeal.main_arg0)
      ∧ m' ((c.tc : Thread Cert.ReferenceLnGateIdeal.nD Cert.ReferenceLnGateIdeal.τ).loc Cert.ReferenceLnGateIdeal.main_arg1) = m ((c.tc : Thread Cert.KernelLnGateIdeal.nD Cert.KernelLnGateIdeal.τ).loc Cert.KernelLnGateIdeal.main_arg1)
      ∧ m' ((c.tc : Thread Cert.ReferenceLnGateIdeal.nD Cert.ReferenceLnGateIdeal.τ).loc Cert.ReferenceLnGateIdeal.main_arg2) = m ((c.tc : Thread Cert.KernelLnGateIdeal.nD Cert.KernelLnGateIdeal.τ).loc Cert.KernelLnGateIdeal.main_arg2)
      ∧ m' ((c.tc : Thread Cert.ReferenceLnGateIdeal.nD Cert.ReferenceLnGateIdeal.τ).loc Cert.ReferenceLnGateIdeal.main_arg3) = m ((c.tc : Thread Cert.KernelLnGateIdeal.nD Cert.KernelLnGateIdeal.τ).loc Cert.KernelLnGateIdeal.main_arg3)
      ∧ m' ((c.tc : Thread Cert.ReferenceLnGateIdeal.nD Cert.ReferenceLnGateIdeal.τ).loc Cert.ReferenceLnGateIdeal.main_arg4) = m ((c.tc : Thread Cert.KernelLnGateIdeal.nD Cert.KernelLnGateIdeal.τ).loc Cert.KernelLnGateIdeal.main_arg4)) →
    ∃ (v0 : (c : Dev Cert.KernelLnGateIdeal.nD) → Buf (Elt Ideal) ((c.tc : Thread Cert.KernelLnGateIdeal.nD Cert.KernelLnGateIdeal.τ).loc Cert.KernelLnGateIdeal.main_v2_0)) (v1 : (c : Dev Cert.KernelLnGateIdeal.nD) → Buf (Elt Ideal) ((c.tc : Thread Cert.KernelLnGateIdeal.nD Cert.KernelLnGateIdeal.τ).loc Cert.KernelLnGateIdeal.main_v2_1)) (v2 : (c : Dev Cert.KernelLnGateIdeal.nD) → Buf (Elt Ideal) ((c.tc : Thread Cert.KernelLnGateIdeal.nD Cert.KernelLnGateIdeal.τ).loc Cert.KernelLnGateIdeal.main_v2_2)),
      θ_run (Cert.KernelLnGateIdeal.defs (F := Ideal)) (onTc (τ := Cert.KernelLnGateIdeal.τ) (Cert.KernelLnGateIdeal.main (F := Ideal))) ⟨m, fun _ => 0, g⟩ (fun r => ∀ c : Dev Cert.KernelLnGateIdeal.nD,
          r.2.mem ((c.tc : Thread Cert.KernelLnGateIdeal.nD Cert.KernelLnGateIdeal.τ).loc Cert.KernelLnGateIdeal.main_v2_0) = v0 c
          ∧ r.2.mem ((c.tc : Thread Cert.KernelLnGateIdeal.nD Cert.KernelLnGateIdeal.τ).loc Cert.KernelLnGateIdeal.main_v2_1) = v1 c
          ∧ r.2.mem ((c.tc : Thread Cert.KernelLnGateIdeal.nD Cert.KernelLnGateIdeal.τ).loc Cert.KernelLnGateIdeal.main_v2_2) = v2 c
          ∧ r.2.mem ((c.tc : Thread Cert.KernelLnGateIdeal.nD Cert.KernelLnGateIdeal.τ).loc Cert.KernelLnGateIdeal.main_arg0) = m ((c.tc : Thread Cert.KernelLnGateIdeal.nD Cert.KernelLnGateIdeal.τ).loc Cert.KernelLnGateIdeal.main_arg0)
          ∧ r.2.mem ((c.tc : Thread Cert.KernelLnGateIdeal.nD Cert.KernelLnGateIdeal.τ).loc Cert.KernelLnGateIdeal.main_arg1) = m ((c.tc : Thread Cert.KernelLnGateIdeal.nD Cert.KernelLnGateIdeal.τ).loc Cert.KernelLnGateIdeal.main_arg1)
          ∧ r.2.mem ((c.tc : Thread Cert.KernelLnGateIdeal.nD Cert.KernelLnGateIdeal.τ).loc Cert.KernelLnGateIdeal.main_arg2) = m ((c.tc : Thread Cert.KernelLnGateIdeal.nD Cert.KernelLnGateIdeal.τ).loc Cert.KernelLnGateIdeal.main_arg2)
          ∧ r.2.mem ((c.tc : Thread Cert.KernelLnGateIdeal.nD Cert.KernelLnGateIdeal.τ).loc Cert.KernelLnGateIdeal.main_arg3) = m ((c.tc : Thread Cert.KernelLnGateIdeal.nD Cert.KernelLnGateIdeal.τ).loc Cert.KernelLnGateIdeal.main_arg3)
          ∧ r.2.mem ((c.tc : Thread Cert.KernelLnGateIdeal.nD Cert.KernelLnGateIdeal.τ).loc Cert.KernelLnGateIdeal.main_arg4) = m ((c.tc : Thread Cert.KernelLnGateIdeal.nD Cert.KernelLnGateIdeal.τ).loc Cert.KernelLnGateIdeal.main_arg4))
      ∧ θ_run (Cert.ReferenceLnGateIdeal.defs (F := Ideal)) (onTc (τ := Cert.ReferenceLnGateIdeal.τ) (Cert.ReferenceLnGateIdeal.main (F := Ideal))) ⟨m', fun _ => 0, g'⟩ (fun r => ∀ c : Dev Cert.ReferenceLnGateIdeal.nD,
          r.2.mem ((c.tc : Thread Cert.ReferenceLnGateIdeal.nD Cert.ReferenceLnGateIdeal.τ).loc Cert.ReferenceLnGateIdeal.main_v27) = v0 c
          ∧ r.2.mem ((c.tc : Thread Cert.ReferenceLnGateIdeal.nD Cert.ReferenceLnGateIdeal.τ).loc Cert.ReferenceLnGateIdeal.main_v28) = v1 c
          ∧ r.2.mem ((c.tc : Thread Cert.ReferenceLnGateIdeal.nD Cert.ReferenceLnGateIdeal.τ).loc Cert.ReferenceLnGateIdeal.main_v29) = v2 c
          ∧ r.2.mem ((c.tc : Thread Cert.ReferenceLnGateIdeal.nD Cert.ReferenceLnGateIdeal.τ).loc Cert.ReferenceLnGateIdeal.main_arg0) = m' ((c.tc : Thread Cert.ReferenceLnGateIdeal.nD Cert.ReferenceLnGateIdeal.τ).loc Cert.ReferenceLnGateIdeal.main_arg0)
          ∧ r.2.mem ((c.tc : Thread Cert.ReferenceLnGateIdeal.nD Cert.ReferenceLnGateIdeal.τ).loc Cert.ReferenceLnGateIdeal.main_arg1) = m' ((c.tc : Thread Cert.ReferenceLnGateIdeal.nD Cert.ReferenceLnGateIdeal.τ).loc Cert.ReferenceLnGateIdeal.main_arg1)
          ∧ r.2.mem ((c.tc : Thread Cert.ReferenceLnGateIdeal.nD Cert.ReferenceLnGateIdeal.τ).loc Cert.ReferenceLnGateIdeal.main_arg2) = m' ((c.tc : Thread Cert.ReferenceLnGateIdeal.nD Cert.ReferenceLnGateIdeal.τ).loc Cert.ReferenceLnGateIdeal.main_arg2)
          ∧ r.2.mem ((c.tc : Thread Cert.ReferenceLnGateIdeal.nD Cert.ReferenceLnGateIdeal.τ).loc Cert.ReferenceLnGateIdeal.main_arg3) = m' ((c.tc : Thread Cert.ReferenceLnGateIdeal.nD Cert.ReferenceLnGateIdeal.τ).loc Cert.ReferenceLnGateIdeal.main_arg3)
          ∧ r.2.mem ((c.tc : Thread Cert.ReferenceLnGateIdeal.nD Cert.ReferenceLnGateIdeal.τ).loc Cert.ReferenceLnGateIdeal.main_arg4) = m' ((c.tc : Thread Cert.ReferenceLnGateIdeal.nD Cert.ReferenceLnGateIdeal.τ).loc Cert.ReferenceLnGateIdeal.main_arg4))

def preserves_KernelCastGate_KernelCastGateIdeal : Prop :=
  True

def algebraic_KernelCastGateIdeal_ReferenceCastGateIdeal [hKernelCastGateIdeal : Cert.KernelCastGateIdeal.Facts] [hReferenceCastGateIdeal : Cert.ReferenceCastGateIdeal.Facts] : Prop :=
  ∀ (m : (ℓ : Loc Cert.KernelCastGateIdeal.nD Cert.KernelCastGateIdeal.τ Cert.KernelCastGateIdeal.sig) → Buf (Elt Ideal) ℓ) (g : Dev Cert.KernelCastGateIdeal.nD → PrngReg)
    (m' : (ℓ : Loc Cert.ReferenceCastGateIdeal.nD Cert.ReferenceCastGateIdeal.τ Cert.ReferenceCastGateIdeal.sig) → Buf (Elt Ideal) ℓ) (g' : Dev Cert.ReferenceCastGateIdeal.nD → PrngReg), Pre_KernelCastGateIdeal m →
    (∀ c : Dev Cert.KernelCastGateIdeal.nD,
      m' ((c.tc : Thread Cert.ReferenceCastGateIdeal.nD Cert.ReferenceCastGateIdeal.τ).loc Cert.ReferenceCastGateIdeal.main_arg0) = m ((c.tc : Thread Cert.KernelCastGateIdeal.nD Cert.KernelCastGateIdeal.τ).loc Cert.KernelCastGateIdeal.main_arg0)
      ∧ m' ((c.tc : Thread Cert.ReferenceCastGateIdeal.nD Cert.ReferenceCastGateIdeal.τ).loc Cert.ReferenceCastGateIdeal.main_arg1) = m ((c.tc : Thread Cert.KernelCastGateIdeal.nD Cert.KernelCastGateIdeal.τ).loc Cert.KernelCastGateIdeal.main_arg1)) →
    ∃ (v0 : (c : Dev Cert.KernelCastGateIdeal.nD) → Buf (Elt Ideal) ((c.tc : Thread Cert.KernelCastGateIdeal.nD Cert.KernelCastGateIdeal.τ).loc Cert.KernelCastGateIdeal.main_v0_0)) (v1 : (c : Dev Cert.KernelCastGateIdeal.nD) → Buf (Elt Ideal) ((c.tc : Thread Cert.KernelCastGateIdeal.nD Cert.KernelCastGateIdeal.τ).loc Cert.KernelCastGateIdeal.main_v0_1)),
      θ_run (Cert.KernelCastGateIdeal.defs (F := Ideal)) (onTc (τ := Cert.KernelCastGateIdeal.τ) (Cert.KernelCastGateIdeal.main (F := Ideal))) ⟨m, fun _ => 0, g⟩ (fun r => ∀ c : Dev Cert.KernelCastGateIdeal.nD,
          r.2.mem ((c.tc : Thread Cert.KernelCastGateIdeal.nD Cert.KernelCastGateIdeal.τ).loc Cert.KernelCastGateIdeal.main_v0_0) = v0 c
          ∧ r.2.mem ((c.tc : Thread Cert.KernelCastGateIdeal.nD Cert.KernelCastGateIdeal.τ).loc Cert.KernelCastGateIdeal.main_v0_1) = v1 c
          ∧ r.2.mem ((c.tc : Thread Cert.KernelCastGateIdeal.nD Cert.KernelCastGateIdeal.τ).loc Cert.KernelCastGateIdeal.main_arg0) = m ((c.tc : Thread Cert.KernelCastGateIdeal.nD Cert.KernelCastGateIdeal.τ).loc Cert.KernelCastGateIdeal.main_arg0)
          ∧ r.2.mem ((c.tc : Thread Cert.KernelCastGateIdeal.nD Cert.KernelCastGateIdeal.τ).loc Cert.KernelCastGateIdeal.main_arg1) = m ((c.tc : Thread Cert.KernelCastGateIdeal.nD Cert.KernelCastGateIdeal.τ).loc Cert.KernelCastGateIdeal.main_arg1))
      ∧ θ_run (Cert.ReferenceCastGateIdeal.defs (F := Ideal)) (onTc (τ := Cert.ReferenceCastGateIdeal.τ) (Cert.ReferenceCastGateIdeal.main (F := Ideal))) ⟨m', fun _ => 0, g'⟩ (fun r => ∀ c : Dev Cert.ReferenceCastGateIdeal.nD,
          r.2.mem ((c.tc : Thread Cert.ReferenceCastGateIdeal.nD Cert.ReferenceCastGateIdeal.τ).loc Cert.ReferenceCastGateIdeal.main_v0) = v0 c
          ∧ r.2.mem ((c.tc : Thread Cert.ReferenceCastGateIdeal.nD Cert.ReferenceCastGateIdeal.τ).loc Cert.ReferenceCastGateIdeal.main_v1) = v1 c
          ∧ r.2.mem ((c.tc : Thread Cert.ReferenceCastGateIdeal.nD Cert.ReferenceCastGateIdeal.τ).loc Cert.ReferenceCastGateIdeal.main_arg0) = m' ((c.tc : Thread Cert.ReferenceCastGateIdeal.nD Cert.ReferenceCastGateIdeal.τ).loc Cert.ReferenceCastGateIdeal.main_arg0)
          ∧ r.2.mem ((c.tc : Thread Cert.ReferenceCastGateIdeal.nD Cert.ReferenceCastGateIdeal.τ).loc Cert.ReferenceCastGateIdeal.main_arg1) = m' ((c.tc : Thread Cert.ReferenceCastGateIdeal.nD Cert.ReferenceCastGateIdeal.τ).loc Cert.ReferenceCastGateIdeal.main_arg1))

def preserves_KernelRet_KernelRetIdeal : Prop :=
  IdealRules.named_const.Statement Cert.KernelRetIdeal.κ "lg0" .f32 0xBD020AEC#32 ((Real.log (31 / 32) : ℝ) : EReal)
  ∧ IdealRules.named_const.Statement Cert.KernelRetIdeal.κ "lg1" .f32 0xBC8102B3#32 ((Real.log (63 / 64) : ℝ) : EReal)
  ∧ IdealRules.named_const.Statement Cert.KernelRetIdeal.κ "end0" .f32 0xC0020AEC#32 ((64 * (Real.log (31 / 32)) : ℝ) : EReal)
  ∧ IdealRules.named_const.Statement Cert.KernelRetIdeal.κ "end1" .f32 0xBF8102B3#32 ((64 * (Real.log (63 / 64)) : ℝ) : EReal)
  ∧ IdealRules.named_const.Statement Cert.KernelRetIdeal.κ "lg2" .f32 0xBC0080AC#32 ((Real.log (127 / 128) : ℝ) : EReal)
  ∧ IdealRules.named_const.Statement Cert.KernelRetIdeal.κ "lg3" .f32 0xBB80402B#32 ((Real.log (255 / 256) : ℝ) : EReal)
  ∧ IdealRules.named_const.Statement Cert.KernelRetIdeal.κ "end2" .f32 0xBF0080AC#32 ((64 * (Real.log (127 / 128)) : ℝ) : EReal)
  ∧ IdealRules.named_const.Statement Cert.KernelRetIdeal.κ "end3" .f32 0xBE80402B#32 ((64 * (Real.log (255 / 256)) : ℝ) : EReal)
  ∧ IdealRules.named_const.Statement Cert.KernelRetIdeal.κ "lg4" .f32 0xBB00200B#32 ((Real.log (511 / 512) : ℝ) : EReal)
  ∧ IdealRules.named_const.Statement Cert.KernelRetIdeal.κ "lg5" .f32 0xBA801003#32 ((Real.log (1023 / 1024) : ℝ) : EReal)
  ∧ IdealRules.named_const.Statement Cert.KernelRetIdeal.κ "end4" .f32 0xBE00200B#32 ((64 * (Real.log (511 / 512)) : ℝ) : EReal)
  ∧ IdealRules.named_const.Statement Cert.KernelRetIdeal.κ "end5" .f32 0xBD801003#32 ((64 * (Real.log (1023 / 1024)) : ℝ) : EReal)
  ∧ IdealRules.named_const.Statement Cert.KernelRetIdeal.κ "lg6" .f32 0xBA000801#32 ((Real.log (2047 / 2048) : ℝ) : EReal)
  ∧ IdealRules.named_const.Statement Cert.KernelRetIdeal.κ "lg7" .f32 0xB9800400#32 ((Real.log (4095 / 4096) : ℝ) : EReal)
  ∧ IdealRules.named_const.Statement Cert.KernelRetIdeal.κ "end6" .f32 0xBD000801#32 ((64 * (Real.log (2047 / 2048)) : ℝ) : EReal)
  ∧ IdealRules.named_const.Statement Cert.KernelRetIdeal.κ "end7" .f32 0xBC800400#32 ((64 * (Real.log (4095 / 4096)) : ℝ) : EReal)

def algebraic_KernelRetIdeal_ReferenceRetIdeal [hKernelRetIdeal : Cert.KernelRetIdeal.Facts] [hReferenceRetIdeal : Cert.ReferenceRetIdeal.Facts] : Prop :=
  ∀ (m : (ℓ : Loc Cert.KernelRetIdeal.nD Cert.KernelRetIdeal.τ Cert.KernelRetIdeal.sig) → Buf (Elt Ideal) ℓ) (g : Dev Cert.KernelRetIdeal.nD → PrngReg)
    (m' : (ℓ : Loc Cert.ReferenceRetIdeal.nD Cert.ReferenceRetIdeal.τ Cert.ReferenceRetIdeal.sig) → Buf (Elt Ideal) ℓ) (g' : Dev Cert.ReferenceRetIdeal.nD → PrngReg), Pre_KernelRetIdeal m →
    (∀ c : Dev Cert.KernelRetIdeal.nD,
      m' ((c.tc : Thread Cert.ReferenceRetIdeal.nD Cert.ReferenceRetIdeal.τ).loc Cert.ReferenceRetIdeal.main_arg0) = m ((c.tc : Thread Cert.KernelRetIdeal.nD Cert.KernelRetIdeal.τ).loc Cert.KernelRetIdeal.main_arg0)
      ∧ m' ((c.tc : Thread Cert.ReferenceRetIdeal.nD Cert.ReferenceRetIdeal.τ).loc Cert.ReferenceRetIdeal.main_arg1) = m ((c.tc : Thread Cert.KernelRetIdeal.nD Cert.KernelRetIdeal.τ).loc Cert.KernelRetIdeal.main_arg1)) →
    ∃ (v0 : (c : Dev Cert.KernelRetIdeal.nD) → Buf (Elt Ideal) ((c.tc : Thread Cert.KernelRetIdeal.nD Cert.KernelRetIdeal.τ).loc Cert.KernelRetIdeal.main_v16)),
      θ_run (Cert.KernelRetIdeal.defs (F := Ideal)) (onTc (τ := Cert.KernelRetIdeal.τ) (Cert.KernelRetIdeal.main (F := Ideal))) ⟨m, fun _ => 0, g⟩ (fun r => ∀ c : Dev Cert.KernelRetIdeal.nD,
          r.2.mem ((c.tc : Thread Cert.KernelRetIdeal.nD Cert.KernelRetIdeal.τ).loc Cert.KernelRetIdeal.main_v16) = v0 c
          ∧ r.2.mem ((c.tc : Thread Cert.KernelRetIdeal.nD Cert.KernelRetIdeal.τ).loc Cert.KernelRetIdeal.main_arg0) = m ((c.tc : Thread Cert.KernelRetIdeal.nD Cert.KernelRetIdeal.τ).loc Cert.KernelRetIdeal.main_arg0)
          ∧ r.2.mem ((c.tc : Thread Cert.KernelRetIdeal.nD Cert.KernelRetIdeal.τ).loc Cert.KernelRetIdeal.main_arg1) = m ((c.tc : Thread Cert.KernelRetIdeal.nD Cert.KernelRetIdeal.τ).loc Cert.KernelRetIdeal.main_arg1))
      ∧ θ_run (Cert.ReferenceRetIdeal.defs (F := Ideal)) (onTc (τ := Cert.ReferenceRetIdeal.τ) (Cert.ReferenceRetIdeal.main (F := Ideal))) ⟨m', fun _ => 0, g'⟩ (fun r => ∀ c : Dev Cert.ReferenceRetIdeal.nD,
          r.2.mem ((c.tc : Thread Cert.ReferenceRetIdeal.nD Cert.ReferenceRetIdeal.τ).loc Cert.ReferenceRetIdeal.main_v113) = v0 c
          ∧ r.2.mem ((c.tc : Thread Cert.ReferenceRetIdeal.nD Cert.ReferenceRetIdeal.τ).loc Cert.ReferenceRetIdeal.main_arg0) = m' ((c.tc : Thread Cert.ReferenceRetIdeal.nD Cert.ReferenceRetIdeal.τ).loc Cert.ReferenceRetIdeal.main_arg0)
          ∧ r.2.mem ((c.tc : Thread Cert.ReferenceRetIdeal.nD Cert.ReferenceRetIdeal.τ).loc Cert.ReferenceRetIdeal.main_arg1) = m' ((c.tc : Thread Cert.ReferenceRetIdeal.nD Cert.ReferenceRetIdeal.τ).loc Cert.ReferenceRetIdeal.main_arg1))

def preserves_KernelCastOut_KernelCastOutIdeal : Prop :=
  True

def algebraic_KernelCastOutIdeal_ReferenceCastOutIdeal [hKernelCastOutIdeal : Cert.KernelCastOutIdeal.Facts] [hReferenceCastOutIdeal : Cert.ReferenceCastOutIdeal.Facts] : Prop :=
  ∀ (m : (ℓ : Loc Cert.KernelCastOutIdeal.nD Cert.KernelCastOutIdeal.τ Cert.KernelCastOutIdeal.sig) → Buf (Elt Ideal) ℓ) (g : Dev Cert.KernelCastOutIdeal.nD → PrngReg)
    (m' : (ℓ : Loc Cert.ReferenceCastOutIdeal.nD Cert.ReferenceCastOutIdeal.τ Cert.ReferenceCastOutIdeal.sig) → Buf (Elt Ideal) ℓ) (g' : Dev Cert.ReferenceCastOutIdeal.nD → PrngReg), Pre_KernelCastOutIdeal m →
    (∀ c : Dev Cert.KernelCastOutIdeal.nD,
      m' ((c.tc : Thread Cert.ReferenceCastOutIdeal.nD Cert.ReferenceCastOutIdeal.τ).loc Cert.ReferenceCastOutIdeal.main_arg0) = m ((c.tc : Thread Cert.KernelCastOutIdeal.nD Cert.KernelCastOutIdeal.τ).loc Cert.KernelCastOutIdeal.main_arg0)) →
    ∃ (v0 : (c : Dev Cert.KernelCastOutIdeal.nD) → Buf (Elt Ideal) ((c.tc : Thread Cert.KernelCastOutIdeal.nD Cert.KernelCastOutIdeal.τ).loc Cert.KernelCastOutIdeal.main_v0)),
      θ_run (Cert.KernelCastOutIdeal.defs (F := Ideal)) (onTc (τ := Cert.KernelCastOutIdeal.τ) (Cert.KernelCastOutIdeal.main (F := Ideal))) ⟨m, fun _ => 0, g⟩ (fun r => ∀ c : Dev Cert.KernelCastOutIdeal.nD,
          r.2.mem ((c.tc : Thread Cert.KernelCastOutIdeal.nD Cert.KernelCastOutIdeal.τ).loc Cert.KernelCastOutIdeal.main_v0) = v0 c
          ∧ r.2.mem ((c.tc : Thread Cert.KernelCastOutIdeal.nD Cert.KernelCastOutIdeal.τ).loc Cert.KernelCastOutIdeal.main_arg0) = m ((c.tc : Thread Cert.KernelCastOutIdeal.nD Cert.KernelCastOutIdeal.τ).loc Cert.KernelCastOutIdeal.main_arg0))
      ∧ θ_run (Cert.ReferenceCastOutIdeal.defs (F := Ideal)) (onTc (τ := Cert.ReferenceCastOutIdeal.τ) (Cert.ReferenceCastOutIdeal.main (F := Ideal))) ⟨m', fun _ => 0, g'⟩ (fun r => ∀ c : Dev Cert.ReferenceCastOutIdeal.nD,
          r.2.mem ((c.tc : Thread Cert.ReferenceCastOutIdeal.nD Cert.ReferenceCastOutIdeal.τ).loc Cert.ReferenceCastOutIdeal.main_v1) = v0 c
          ∧ r.2.mem ((c.tc : Thread Cert.ReferenceCastOutIdeal.nD Cert.ReferenceCastOutIdeal.τ).loc Cert.ReferenceCastOutIdeal.main_arg0) = m' ((c.tc : Thread Cert.ReferenceCastOutIdeal.nD Cert.ReferenceCastOutIdeal.τ).loc Cert.ReferenceCastOutIdeal.main_arg0))

def preserves_KernelCastUp_KernelCastUpIdeal : Prop :=
  True

def algebraic_KernelCastUpIdeal_ReferenceCastUpIdeal [hKernelCastUpIdeal : Cert.KernelCastUpIdeal.Facts] [hReferenceCastUpIdeal : Cert.ReferenceCastUpIdeal.Facts] : Prop :=
  ∀ (m : (ℓ : Loc Cert.KernelCastUpIdeal.nD Cert.KernelCastUpIdeal.τ Cert.KernelCastUpIdeal.sig) → Buf (Elt Ideal) ℓ) (g : Dev Cert.KernelCastUpIdeal.nD → PrngReg)
    (m' : (ℓ : Loc Cert.ReferenceCastUpIdeal.nD Cert.ReferenceCastUpIdeal.τ Cert.ReferenceCastUpIdeal.sig) → Buf (Elt Ideal) ℓ) (g' : Dev Cert.ReferenceCastUpIdeal.nD → PrngReg), Pre_KernelCastUpIdeal m →
    (∀ c : Dev Cert.KernelCastUpIdeal.nD,
      m' ((c.tc : Thread Cert.ReferenceCastUpIdeal.nD Cert.ReferenceCastUpIdeal.τ).loc Cert.ReferenceCastUpIdeal.main_arg0) = m ((c.tc : Thread Cert.KernelCastUpIdeal.nD Cert.KernelCastUpIdeal.τ).loc Cert.KernelCastUpIdeal.main_arg0)) →
    ∃ (v0 : (c : Dev Cert.KernelCastUpIdeal.nD) → Buf (Elt Ideal) ((c.tc : Thread Cert.KernelCastUpIdeal.nD Cert.KernelCastUpIdeal.τ).loc Cert.KernelCastUpIdeal.main_v0)),
      θ_run (Cert.KernelCastUpIdeal.defs (F := Ideal)) (onTc (τ := Cert.KernelCastUpIdeal.τ) (Cert.KernelCastUpIdeal.main (F := Ideal))) ⟨m, fun _ => 0, g⟩ (fun r => ∀ c : Dev Cert.KernelCastUpIdeal.nD,
          r.2.mem ((c.tc : Thread Cert.KernelCastUpIdeal.nD Cert.KernelCastUpIdeal.τ).loc Cert.KernelCastUpIdeal.main_v0) = v0 c
          ∧ r.2.mem ((c.tc : Thread Cert.KernelCastUpIdeal.nD Cert.KernelCastUpIdeal.τ).loc Cert.KernelCastUpIdeal.main_arg0) = m ((c.tc : Thread Cert.KernelCastUpIdeal.nD Cert.KernelCastUpIdeal.τ).loc Cert.KernelCastUpIdeal.main_arg0))
      ∧ θ_run (Cert.ReferenceCastUpIdeal.defs (F := Ideal)) (onTc (τ := Cert.ReferenceCastUpIdeal.τ) (Cert.ReferenceCastUpIdeal.main (F := Ideal))) ⟨m', fun _ => 0, g'⟩ (fun r => ∀ c : Dev Cert.ReferenceCastUpIdeal.nD,
          r.2.mem ((c.tc : Thread Cert.ReferenceCastUpIdeal.nD Cert.ReferenceCastUpIdeal.τ).loc Cert.ReferenceCastUpIdeal.main_v2) = v0 c
          ∧ r.2.mem ((c.tc : Thread Cert.ReferenceCastUpIdeal.nD Cert.ReferenceCastUpIdeal.τ).loc Cert.ReferenceCastUpIdeal.main_arg0) = m' ((c.tc : Thread Cert.ReferenceCastUpIdeal.nD Cert.ReferenceCastUpIdeal.τ).loc Cert.ReferenceCastUpIdeal.main_arg0))

def preserves_KernelCastUp2_KernelCastUp2Ideal : Prop :=
  True

def algebraic_KernelCastUp2Ideal_ReferenceCastUp2Ideal [hKernelCastUp2Ideal : Cert.KernelCastUp2Ideal.Facts] [hReferenceCastUp2Ideal : Cert.ReferenceCastUp2Ideal.Facts] : Prop :=
  ∀ (m : (ℓ : Loc Cert.KernelCastUp2Ideal.nD Cert.KernelCastUp2Ideal.τ Cert.KernelCastUp2Ideal.sig) → Buf (Elt Ideal) ℓ) (g : Dev Cert.KernelCastUp2Ideal.nD → PrngReg)
    (m' : (ℓ : Loc Cert.ReferenceCastUp2Ideal.nD Cert.ReferenceCastUp2Ideal.τ Cert.ReferenceCastUp2Ideal.sig) → Buf (Elt Ideal) ℓ) (g' : Dev Cert.ReferenceCastUp2Ideal.nD → PrngReg), Pre_KernelCastUp2Ideal m →
    (∀ c : Dev Cert.KernelCastUp2Ideal.nD,
      m' ((c.tc : Thread Cert.ReferenceCastUp2Ideal.nD Cert.ReferenceCastUp2Ideal.τ).loc Cert.ReferenceCastUp2Ideal.main_arg0) = m ((c.tc : Thread Cert.KernelCastUp2Ideal.nD Cert.KernelCastUp2Ideal.τ).loc Cert.KernelCastUp2Ideal.main_arg0)) →
    ∃ (v0 : (c : Dev Cert.KernelCastUp2Ideal.nD) → Buf (Elt Ideal) ((c.tc : Thread Cert.KernelCastUp2Ideal.nD Cert.KernelCastUp2Ideal.τ).loc Cert.KernelCastUp2Ideal.main_v0)),
      θ_run (Cert.KernelCastUp2Ideal.defs (F := Ideal)) (onTc (τ := Cert.KernelCastUp2Ideal.τ) (Cert.KernelCastUp2Ideal.main (F := Ideal))) ⟨m, fun _ => 0, g⟩ (fun r => ∀ c : Dev Cert.KernelCastUp2Ideal.nD,
          r.2.mem ((c.tc : Thread Cert.KernelCastUp2Ideal.nD Cert.KernelCastUp2Ideal.τ).loc Cert.KernelCastUp2Ideal.main_v0) = v0 c
          ∧ r.2.mem ((c.tc : Thread Cert.KernelCastUp2Ideal.nD Cert.KernelCastUp2Ideal.τ).loc Cert.KernelCastUp2Ideal.main_arg0) = m ((c.tc : Thread Cert.KernelCastUp2Ideal.nD Cert.KernelCastUp2Ideal.τ).loc Cert.KernelCastUp2Ideal.main_arg0))
      ∧ θ_run (Cert.ReferenceCastUp2Ideal.defs (F := Ideal)) (onTc (τ := Cert.ReferenceCastUp2Ideal.τ) (Cert.ReferenceCastUp2Ideal.main (F := Ideal))) ⟨m', fun _ => 0, g'⟩ (fun r => ∀ c : Dev Cert.ReferenceCastUp2Ideal.nD,
          r.2.mem ((c.tc : Thread Cert.ReferenceCastUp2Ideal.nD Cert.ReferenceCastUp2Ideal.τ).loc Cert.ReferenceCastUp2Ideal.main_v2) = v0 c
          ∧ r.2.mem ((c.tc : Thread Cert.ReferenceCastUp2Ideal.nD Cert.ReferenceCastUp2Ideal.τ).loc Cert.ReferenceCastUp2Ideal.main_arg0) = m' ((c.tc : Thread Cert.ReferenceCastUp2Ideal.nD Cert.ReferenceCastUp2Ideal.τ).loc Cert.ReferenceCastUp2Ideal.main_arg0))

def preserves_KernelCastDown_KernelCastDownIdeal : Prop :=
  True

def algebraic_KernelCastDownIdeal_ReferenceCastDownIdeal [hKernelCastDownIdeal : Cert.KernelCastDownIdeal.Facts] [hReferenceCastDownIdeal : Cert.ReferenceCastDownIdeal.Facts] : Prop :=
  ∀ (m : (ℓ : Loc Cert.KernelCastDownIdeal.nD Cert.KernelCastDownIdeal.τ Cert.KernelCastDownIdeal.sig) → Buf (Elt Ideal) ℓ) (g : Dev Cert.KernelCastDownIdeal.nD → PrngReg)
    (m' : (ℓ : Loc Cert.ReferenceCastDownIdeal.nD Cert.ReferenceCastDownIdeal.τ Cert.ReferenceCastDownIdeal.sig) → Buf (Elt Ideal) ℓ) (g' : Dev Cert.ReferenceCastDownIdeal.nD → PrngReg), Pre_KernelCastDownIdeal m →
    (∀ c : Dev Cert.KernelCastDownIdeal.nD,
      m' ((c.tc : Thread Cert.ReferenceCastDownIdeal.nD Cert.ReferenceCastDownIdeal.τ).loc Cert.ReferenceCastDownIdeal.main_arg0) = m ((c.tc : Thread Cert.KernelCastDownIdeal.nD Cert.KernelCastDownIdeal.τ).loc Cert.KernelCastDownIdeal.main_arg0)) →
    ∃ (v0 : (c : Dev Cert.KernelCastDownIdeal.nD) → Buf (Elt Ideal) ((c.tc : Thread Cert.KernelCastDownIdeal.nD Cert.KernelCastDownIdeal.τ).loc Cert.KernelCastDownIdeal.main_v0)),
      θ_run (Cert.KernelCastDownIdeal.defs (F := Ideal)) (onTc (τ := Cert.KernelCastDownIdeal.τ) (Cert.KernelCastDownIdeal.main (F := Ideal))) ⟨m, fun _ => 0, g⟩ (fun r => ∀ c : Dev Cert.KernelCastDownIdeal.nD,
          r.2.mem ((c.tc : Thread Cert.KernelCastDownIdeal.nD Cert.KernelCastDownIdeal.τ).loc Cert.KernelCastDownIdeal.main_v0) = v0 c
          ∧ r.2.mem ((c.tc : Thread Cert.KernelCastDownIdeal.nD Cert.KernelCastDownIdeal.τ).loc Cert.KernelCastDownIdeal.main_arg0) = m ((c.tc : Thread Cert.KernelCastDownIdeal.nD Cert.KernelCastDownIdeal.τ).loc Cert.KernelCastDownIdeal.main_arg0))
      ∧ θ_run (Cert.ReferenceCastDownIdeal.defs (F := Ideal)) (onTc (τ := Cert.ReferenceCastDownIdeal.τ) (Cert.ReferenceCastDownIdeal.main (F := Ideal))) ⟨m', fun _ => 0, g'⟩ (fun r => ∀ c : Dev Cert.ReferenceCastDownIdeal.nD,
          r.2.mem ((c.tc : Thread Cert.ReferenceCastDownIdeal.nD Cert.ReferenceCastDownIdeal.τ).loc Cert.ReferenceCastDownIdeal.main_v2) = v0 c
          ∧ r.2.mem ((c.tc : Thread Cert.ReferenceCastDownIdeal.nD Cert.ReferenceCastDownIdeal.τ).loc Cert.ReferenceCastDownIdeal.main_arg0) = m' ((c.tc : Thread Cert.ReferenceCastDownIdeal.nD Cert.ReferenceCastDownIdeal.τ).loc Cert.ReferenceCastDownIdeal.main_arg0))

def preserves_KernelCastDown2_KernelCastDown2Ideal : Prop :=
  True

def algebraic_KernelCastDown2Ideal_ReferenceCastDown2Ideal [hKernelCastDown2Ideal : Cert.KernelCastDown2Ideal.Facts] [hReferenceCastDown2Ideal : Cert.ReferenceCastDown2Ideal.Facts] : Prop :=
  ∀ (m : (ℓ : Loc Cert.KernelCastDown2Ideal.nD Cert.KernelCastDown2Ideal.τ Cert.KernelCastDown2Ideal.sig) → Buf (Elt Ideal) ℓ) (g : Dev Cert.KernelCastDown2Ideal.nD → PrngReg)
    (m' : (ℓ : Loc Cert.ReferenceCastDown2Ideal.nD Cert.ReferenceCastDown2Ideal.τ Cert.ReferenceCastDown2Ideal.sig) → Buf (Elt Ideal) ℓ) (g' : Dev Cert.ReferenceCastDown2Ideal.nD → PrngReg), Pre_KernelCastDown2Ideal m →
    (∀ c : Dev Cert.KernelCastDown2Ideal.nD,
      m' ((c.tc : Thread Cert.ReferenceCastDown2Ideal.nD Cert.ReferenceCastDown2Ideal.τ).loc Cert.ReferenceCastDown2Ideal.main_arg0) = m ((c.tc : Thread Cert.KernelCastDown2Ideal.nD Cert.KernelCastDown2Ideal.τ).loc Cert.KernelCastDown2Ideal.main_arg0)) →
    ∃ (v0 : (c : Dev Cert.KernelCastDown2Ideal.nD) → Buf (Elt Ideal) ((c.tc : Thread Cert.KernelCastDown2Ideal.nD Cert.KernelCastDown2Ideal.τ).loc Cert.KernelCastDown2Ideal.main_v0)),
      θ_run (Cert.KernelCastDown2Ideal.defs (F := Ideal)) (onTc (τ := Cert.KernelCastDown2Ideal.τ) (Cert.KernelCastDown2Ideal.main (F := Ideal))) ⟨m, fun _ => 0, g⟩ (fun r => ∀ c : Dev Cert.KernelCastDown2Ideal.nD,
          r.2.mem ((c.tc : Thread Cert.KernelCastDown2Ideal.nD Cert.KernelCastDown2Ideal.τ).loc Cert.KernelCastDown2Ideal.main_v0) = v0 c
          ∧ r.2.mem ((c.tc : Thread Cert.KernelCastDown2Ideal.nD Cert.KernelCastDown2Ideal.τ).loc Cert.KernelCastDown2Ideal.main_arg0) = m ((c.tc : Thread Cert.KernelCastDown2Ideal.nD Cert.KernelCastDown2Ideal.τ).loc Cert.KernelCastDown2Ideal.main_arg0))
      ∧ θ_run (Cert.ReferenceCastDown2Ideal.defs (F := Ideal)) (onTc (τ := Cert.ReferenceCastDown2Ideal.τ) (Cert.ReferenceCastDown2Ideal.main (F := Ideal))) ⟨m', fun _ => 0, g'⟩ (fun r => ∀ c : Dev Cert.ReferenceCastDown2Ideal.nD,
          r.2.mem ((c.tc : Thread Cert.ReferenceCastDown2Ideal.nD Cert.ReferenceCastDown2Ideal.τ).loc Cert.ReferenceCastDown2Ideal.main_v2) = v0 c
          ∧ r.2.mem ((c.tc : Thread Cert.ReferenceCastDown2Ideal.nD Cert.ReferenceCastDown2Ideal.τ).loc Cert.ReferenceCastDown2Ideal.main_arg0) = m' ((c.tc : Thread Cert.ReferenceCastDown2Ideal.nD Cert.ReferenceCastDown2Ideal.τ).loc Cert.ReferenceCastDown2Ideal.main_arg0))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelEvenIn : Cert.KernelEvenIn.Facts) (hKernelEvenInIdeal : Cert.KernelEvenInIdeal.Facts) (hReferenceEvenInIdeal : Cert.ReferenceEvenInIdeal.Facts) (hKernelOddIn : Cert.KernelOddIn.Facts) (hKernelOddInIdeal : Cert.KernelOddInIdeal.Facts) (hReferenceOddInIdeal : Cert.ReferenceOddInIdeal.Facts) (hKernelOut : Cert.KernelOut.Facts) (hKernelOutIdeal : Cert.KernelOutIdeal.Facts) (hReferenceOutIdeal : Cert.ReferenceOutIdeal.Facts) (hKernelLn : Cert.KernelLn.Facts) (hKernelLnIdeal : Cert.KernelLnIdeal.Facts) (hReferenceLnIdeal : Cert.ReferenceLnIdeal.Facts) (hKernelLnMix : Cert.KernelLnMix.Facts) (hKernelLnMixIdeal : Cert.KernelLnMixIdeal.Facts) (hReferenceLnMixIdeal : Cert.ReferenceLnMixIdeal.Facts) (hKernelLnGate : Cert.KernelLnGate.Facts) (hKernelLnGateIdeal : Cert.KernelLnGateIdeal.Facts) (hReferenceLnGateIdeal : Cert.ReferenceLnGateIdeal.Facts) (hKernelCastGate : Cert.KernelCastGate.Facts) (hKernelCastGateIdeal : Cert.KernelCastGateIdeal.Facts) (hReferenceCastGateIdeal : Cert.ReferenceCastGateIdeal.Facts) (hKernelRet : Cert.KernelRet.Facts) (hKernelRetIdeal : Cert.KernelRetIdeal.Facts) (hReferenceRetIdeal : Cert.ReferenceRetIdeal.Facts) (hKernelCastOut : Cert.KernelCastOut.Facts) (hKernelCastOutIdeal : Cert.KernelCastOutIdeal.Facts) (hReferenceCastOutIdeal : Cert.ReferenceCastOutIdeal.Facts) (hKernelCastUp : Cert.KernelCastUp.Facts) (hKernelCastUpIdeal : Cert.KernelCastUpIdeal.Facts) (hReferenceCastUpIdeal : Cert.ReferenceCastUpIdeal.Facts) (hKernelCastUp2 : Cert.KernelCastUp2.Facts) (hKernelCastUp2Ideal : Cert.KernelCastUp2Ideal.Facts) (hReferenceCastUp2Ideal : Cert.ReferenceCastUp2Ideal.Facts) (hKernelCastDown : Cert.KernelCastDown.Facts) (hKernelCastDownIdeal : Cert.KernelCastDownIdeal.Facts) (hReferenceCastDownIdeal : Cert.ReferenceCastDownIdeal.Facts) (hKernelCastDown2 : Cert.KernelCastDown2.Facts) (hKernelCastDown2Ideal : Cert.KernelCastDown2Ideal.Facts) (hReferenceCastDown2Ideal : Cert.ReferenceCastDown2Ideal.Facts),
    quiescent_Kernel (hKernel := hKernel)
    ∧ quiescent_KernelIdeal (hKernelIdeal := hKernelIdeal)
    ∧ quiescent_ReferenceIdeal (hReferenceIdeal := hReferenceIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelEvenIn (hKernelEvenIn := hKernelEvenIn)
    ∧ quiescent_KernelEvenInIdeal (hKernelEvenInIdeal := hKernelEvenInIdeal)
    ∧ quiescent_ReferenceEvenInIdeal (hReferenceEvenInIdeal := hReferenceEvenInIdeal)
    ∧ quiescent_KernelOddIn (hKernelOddIn := hKernelOddIn)
    ∧ quiescent_KernelOddInIdeal (hKernelOddInIdeal := hKernelOddInIdeal)
    ∧ quiescent_ReferenceOddInIdeal (hReferenceOddInIdeal := hReferenceOddInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelLn (hKernelLn := hKernelLn)
    ∧ quiescent_KernelLnIdeal (hKernelLnIdeal := hKernelLnIdeal)
    ∧ quiescent_ReferenceLnIdeal (hReferenceLnIdeal := hReferenceLnIdeal)
    ∧ quiescent_KernelLnMix (hKernelLnMix := hKernelLnMix)
    ∧ quiescent_KernelLnMixIdeal (hKernelLnMixIdeal := hKernelLnMixIdeal)
    ∧ quiescent_ReferenceLnMixIdeal (hReferenceLnMixIdeal := hReferenceLnMixIdeal)
    ∧ quiescent_KernelLnGate (hKernelLnGate := hKernelLnGate)
    ∧ quiescent_KernelLnGateIdeal (hKernelLnGateIdeal := hKernelLnGateIdeal)
    ∧ quiescent_ReferenceLnGateIdeal (hReferenceLnGateIdeal := hReferenceLnGateIdeal)
    ∧ quiescent_KernelCastGate (hKernelCastGate := hKernelCastGate)
    ∧ quiescent_KernelCastGateIdeal (hKernelCastGateIdeal := hKernelCastGateIdeal)
    ∧ quiescent_ReferenceCastGateIdeal (hReferenceCastGateIdeal := hReferenceCastGateIdeal)
    ∧ quiescent_KernelRet (hKernelRet := hKernelRet)
    ∧ quiescent_KernelRetIdeal (hKernelRetIdeal := hKernelRetIdeal)
    ∧ quiescent_ReferenceRetIdeal (hReferenceRetIdeal := hReferenceRetIdeal)
    ∧ quiescent_KernelCastOut (hKernelCastOut := hKernelCastOut)
    ∧ quiescent_KernelCastOutIdeal (hKernelCastOutIdeal := hKernelCastOutIdeal)
    ∧ quiescent_ReferenceCastOutIdeal (hReferenceCastOutIdeal := hReferenceCastOutIdeal)
    ∧ quiescent_KernelCastUp (hKernelCastUp := hKernelCastUp)
    ∧ quiescent_KernelCastUpIdeal (hKernelCastUpIdeal := hKernelCastUpIdeal)
    ∧ quiescent_ReferenceCastUpIdeal (hReferenceCastUpIdeal := hReferenceCastUpIdeal)
    ∧ quiescent_KernelCastUp2 (hKernelCastUp2 := hKernelCastUp2)
    ∧ quiescent_KernelCastUp2Ideal (hKernelCastUp2Ideal := hKernelCastUp2Ideal)
    ∧ quiescent_ReferenceCastUp2Ideal (hReferenceCastUp2Ideal := hReferenceCastUp2Ideal)
    ∧ quiescent_KernelCastDown (hKernelCastDown := hKernelCastDown)
    ∧ quiescent_KernelCastDownIdeal (hKernelCastDownIdeal := hKernelCastDownIdeal)
    ∧ quiescent_ReferenceCastDownIdeal (hReferenceCastDownIdeal := hReferenceCastDownIdeal)
    ∧ quiescent_KernelCastDown2 (hKernelCastDown2 := hKernelCastDown2)
    ∧ quiescent_KernelCastDown2Ideal (hKernelCastDown2Ideal := hKernelCastDown2Ideal)
    ∧ quiescent_ReferenceCastDown2Ideal (hReferenceCastDown2Ideal := hReferenceCastDown2Ideal)
    ∧ preserves_Kernel_KernelIdeal
    ∧ algebraic_KernelIdeal_ReferenceIdeal (hKernelIdeal := hKernelIdeal) (hReferenceIdeal := hReferenceIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelEvenIn_KernelEvenInIdeal
    ∧ algebraic_KernelEvenInIdeal_ReferenceEvenInIdeal (hKernelEvenInIdeal := hKernelEvenInIdeal) (hReferenceEvenInIdeal := hReferenceEvenInIdeal)
    ∧ preserves_KernelOddIn_KernelOddInIdeal
    ∧ algebraic_KernelOddInIdeal_ReferenceOddInIdeal (hKernelOddInIdeal := hKernelOddInIdeal) (hReferenceOddInIdeal := hReferenceOddInIdeal)
    ∧ preserves_KernelOut_KernelOutIdeal
    ∧ algebraic_KernelOutIdeal_ReferenceOutIdeal (hKernelOutIdeal := hKernelOutIdeal) (hReferenceOutIdeal := hReferenceOutIdeal)
    ∧ preserves_KernelLn_KernelLnIdeal
    ∧ algebraic_KernelLnIdeal_ReferenceLnIdeal (hKernelLnIdeal := hKernelLnIdeal) (hReferenceLnIdeal := hReferenceLnIdeal)
    ∧ preserves_KernelLnMix_KernelLnMixIdeal
    ∧ algebraic_KernelLnMixIdeal_ReferenceLnMixIdeal (hKernelLnMixIdeal := hKernelLnMixIdeal) (hReferenceLnMixIdeal := hReferenceLnMixIdeal)
    ∧ preserves_KernelLnGate_KernelLnGateIdeal
    ∧ algebraic_KernelLnGateIdeal_ReferenceLnGateIdeal (hKernelLnGateIdeal := hKernelLnGateIdeal) (hReferenceLnGateIdeal := hReferenceLnGateIdeal)
    ∧ preserves_KernelCastGate_KernelCastGateIdeal
    ∧ algebraic_KernelCastGateIdeal_ReferenceCastGateIdeal (hKernelCastGateIdeal := hKernelCastGateIdeal) (hReferenceCastGateIdeal := hReferenceCastGateIdeal)
    ∧ preserves_KernelRet_KernelRetIdeal
    ∧ algebraic_KernelRetIdeal_ReferenceRetIdeal (hKernelRetIdeal := hKernelRetIdeal) (hReferenceRetIdeal := hReferenceRetIdeal)
    ∧ preserves_KernelCastOut_KernelCastOutIdeal
    ∧ algebraic_KernelCastOutIdeal_ReferenceCastOutIdeal (hKernelCastOutIdeal := hKernelCastOutIdeal) (hReferenceCastOutIdeal := hReferenceCastOutIdeal)
    ∧ preserves_KernelCastUp_KernelCastUpIdeal
    ∧ algebraic_KernelCastUpIdeal_ReferenceCastUpIdeal (hKernelCastUpIdeal := hKernelCastUpIdeal) (hReferenceCastUpIdeal := hReferenceCastUpIdeal)
    ∧ preserves_KernelCastUp2_KernelCastUp2Ideal
    ∧ algebraic_KernelCastUp2Ideal_ReferenceCastUp2Ideal (hKernelCastUp2Ideal := hKernelCastUp2Ideal) (hReferenceCastUp2Ideal := hReferenceCastUp2Ideal)
    ∧ preserves_KernelCastDown_KernelCastDownIdeal
    ∧ algebraic_KernelCastDownIdeal_ReferenceCastDownIdeal (hKernelCastDownIdeal := hKernelCastDownIdeal) (hReferenceCastDownIdeal := hReferenceCastDownIdeal)
    ∧ preserves_KernelCastDown2_KernelCastDown2Ideal
    ∧ algebraic_KernelCastDown2Ideal_ReferenceCastDown2Ideal (hKernelCastDown2Ideal := hKernelCastDown2Ideal) (hReferenceCastDown2Ideal := hReferenceCastDown2Ideal)
-- ==== Kernel.lean ====
abbrev S2x8192x12288 : Shape := ⟨3, ![2, 8192, 12288]⟩
abbrev S2x8192x128 : Shape := ⟨3, ![2, 8192, 128]⟩
abbrev S16x1024 : Shape := ⟨2, ![16, 1024]⟩
abbrev S1024 : Shape := ⟨1, ![1024]⟩
abbrev S512 : Shape := ⟨1, ![512]⟩
abbrev S_ : Shape := ⟨0, ![]⟩
abbrev S128x1024 : Shape := ⟨2, ![128, 1024]⟩
abbrev S1x1024 : Shape := ⟨2, ![1, 1024]⟩
abbrev S1x512 : Shape := ⟨2, ![1, 512]⟩
abbrev S2x8192x2048 : Shape := ⟨3, ![2, 8192, 2048]⟩
abbrev S1x256x1024 : Shape := ⟨3, ![1, 256, 1024]⟩
abbrev S1x256x2048 : Shape := ⟨3, ![1, 256, 2048]⟩
abbrev S1x256x128 : Shape := ⟨3, ![1, 256, 128]⟩
abbrev S4x256x512 : Shape := ⟨3, ![4, 256, 512]⟩
abbrev S64x64 : Shape := ⟨2, ![64, 64]⟩
abbrev S256x256 : Shape := ⟨2, ![256, 256]⟩
abbrev S1x64x128 : Shape := ⟨3, ![1, 64, 128]⟩
abbrev S64x128 : Shape := ⟨2, ![64, 128]⟩
abbrev S64x1024 : Shape := ⟨2, ![64, 1024]⟩
abbrev S1x64x256 : Shape := ⟨3, ![1, 64, 256]⟩
abbrev S64x256 : Shape := ⟨2, ![64, 256]⟩
abbrev S1x64x512 : Shape := ⟨3, ![1, 64, 512]⟩
abbrev S64x512 : Shape := ⟨2, ![64, 512]⟩
abbrev S256x512 : Shape := ⟨2, ![256, 512]⟩
abbrev S1x256 : Shape := ⟨2, ![1, 256]⟩
abbrev S256x64 : Shape := ⟨2, ![256, 64]⟩
abbrev S256x1 : Shape := ⟨2, ![256, 1]⟩
abbrev S1x256x512 : Shape := ⟨3, ![1, 256, 512]⟩
abbrev S256 : Shape := ⟨1, ![256]⟩

abbrev nBuf : Space → Nat
  | .hbm => 11
  | .vmem => 16
  | .smem => 0
  | _ => 0

abbrev bufTy : (tb : Table) → Fin (tcTables nBuf tb) → BufTy
  | .hbm, ⟨0, _⟩ => ⟨S2x8192x12288, .f32⟩
  | .hbm, ⟨1, _⟩ => ⟨S2x8192x128, .f32⟩
  | .hbm, ⟨2, _⟩ => ⟨S16x1024, .f32⟩
  | .hbm, ⟨3, _⟩ => ⟨S1024, .f32⟩
  | .hbm, ⟨4, _⟩ => ⟨S512, .f32⟩
  | .hbm, ⟨5, _⟩ => ⟨S_, .i32⟩
  | .hbm, ⟨6, _⟩ => ⟨S_, .f32⟩
  | .hbm, ⟨7, _⟩ => ⟨S128x1024, .f32⟩
  | .hbm, ⟨8, _⟩ => ⟨S1x1024, .f32⟩
  | .hbm, ⟨9, _⟩ => ⟨S1x512, .f32⟩
  | .hbm, ⟨10, _⟩ => ⟨S2x8192x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x128, .f32⟩
  | .local _ .vmem, ⟨9, _⟩ => ⟨S1x256x128, .f32⟩
  | .local _ .vmem, ⟨10, _⟩ => ⟨S128x1024, .f32⟩
  | .local _ .vmem, ⟨11, _⟩ => ⟨S1x1024, .f32⟩
  | .local _ .vmem, ⟨12, _⟩ => ⟨S1x512, .f32⟩
  | .local _ .vmem, ⟨13, _⟩ => ⟨S1x256x2048, .bf16⟩
  | .local _ .vmem, ⟨14, _⟩ => ⟨S1x256x2048, .bf16⟩
  | .local _ .vmem, ⟨15, _⟩ => ⟨S4x256x512, .f32⟩
  | _, _ => ⟨S2x8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S2x8192x12288 : Shape := ⟨3, ![2, 8192, 12288]⟩
abbrev S2x8192x128 : Shape := ⟨3, ![2, 8192, 128]⟩
abbrev S16x1024 : Shape := ⟨2, ![16, 1024]⟩
abbrev S1024 : Shape := ⟨1, ![1024]⟩
abbrev S512 : Shape := ⟨1, ![512]⟩
abbrev S2x8192x1024 : Shape := ⟨3, ![2, 8192, 1024]⟩
abbrev S2x8192x2048 : Shape := ⟨3, ![2, 8192, 2048]⟩
abbrev S2x8192x16 : Shape := ⟨3, ![2, 8192, 16]⟩
abbrev S1x1x1024 : Shape := ⟨3, ![1, 1, 1024]⟩
abbrev S_ : Shape := ⟨0, ![]⟩
abbrev S2x8192x4x256 : Shape := ⟨4, ![2, 8192, 4, 256]⟩
abbrev S2x4x8192x256 : Shape := ⟨4, ![2, 4, 8192, 256]⟩
abbrev S2x8192x4x512 : Shape := ⟨4, ![2, 8192, 4, 512]⟩
abbrev S2x4x8192x512 : Shape := ⟨4, ![2, 4, 8192, 512]⟩
abbrev S64x64 : Shape := ⟨2, ![64, 64]⟩
abbrev S2x4x128x64x256 : Shape := ⟨5, ![2, 4, 128, 64, 256]⟩
abbrev S2x4x128x64x512 : Shape := ⟨5, ![2, 4, 128, 64, 512]⟩
abbrev S2x4x128x64x64 : Shape := ⟨5, ![2, 4, 128, 64, 64]⟩
abbrev S2x4x128x1x256 : Shape := ⟨5, ![2, 4, 128, 1, 256]⟩
abbrev S2x4x128x256 : Shape := ⟨4, ![2, 4, 128, 256]⟩
abbrev S128x2x4x64x256 : Shape := ⟨5, ![128, 2, 4, 64, 256]⟩
abbrev S128x2x4x64x512 : Shape := ⟨5, ![128, 2, 4, 64, 512]⟩
abbrev S128x2x4x256 : Shape := ⟨4, ![128, 2, 4, 256]⟩
abbrev S2x4x256x512 : Shape := ⟨4, ![2, 4, 256, 512]⟩
abbrev S1x2x4x64x256 : Shape := ⟨5, ![1, 2, 4, 64, 256]⟩
abbrev S2x4x64x256 : Shape := ⟨4, ![2, 4, 64, 256]⟩
abbrev S1x2x4x64x512 : Shape := ⟨5, ![1, 2, 4, 64, 512]⟩
abbrev S2x4x64x512 : Shape := ⟨4, ![2, 4, 64, 512]⟩
abbrev S1x2x4x256 : Shape := ⟨4, ![1, 2, 4, 256]⟩
abbrev S2x4x256 : Shape := ⟨3, ![2, 4, 256]⟩
abbrev S2x4x256x1 : Shape := ⟨4, ![2, 4, 256, 1]⟩
abbrev S2x4x8192 : Shape := ⟨3, ![2, 4, 8192]⟩
abbrev S2x4x8192x1 : Shape := ⟨4, ![2, 4, 8192, 1]⟩
abbrev S1x1x1x512 : Shape := ⟨4, ![1, 1, 1, 512]⟩

abbrev nBuf : Space → Nat
  | .hbm => 179
  | .vmem => 0
  | .smem => 0
  | _ => 0

abbrev hbmTy0_0 (i : Nat) : BufTy := match i % 128 with
  | 0 => ⟨S2x8192x12288, .f32⟩
  | 1 => ⟨S2x8192x128, .f32⟩
  | 2 => ⟨S16x1024, .f32⟩
  | 3 => ⟨S1024, .f32⟩
  | 4 => ⟨S512, .f32⟩
  | 5 => ⟨S2x8192x1024, .f32⟩
  | 6 => ⟨S2x8192x1024, .f32⟩
  | 7 => ⟨S2x8192x2048, .f32⟩
  | 8 => ⟨S2x8192x16, .f32⟩
  | 9 => ⟨S2x8192x1024, .f32⟩
  | 10 => ⟨S1x1x1024, .f32⟩
  | 11 => ⟨S2x8192x1024, .f32⟩
  | 12 => ⟨S2x8192x1024, .f32⟩
  | 13 => ⟨S2x8192x1024, .f32⟩
  | 14 => ⟨S_, .f32⟩
  | 15 => ⟨S2x8192x1024, .f32⟩
  | 16 => ⟨S2x8192x1024, .f32⟩
  | 17 => ⟨S2x8192x1024, .f32⟩
  | 18 => ⟨S2x8192x1024, .f32⟩
  | 19 => ⟨S2x8192x1024, .i1⟩
  | 20 => ⟨S2x8192x1024, .f32⟩
  | 21 => ⟨S2x8192x1024, .f32⟩
  | 22 => ⟨S2x8192x1024, .f32⟩
  | 23 => ⟨S2x8192x1024, .f32⟩
  | 24 => ⟨S2x8192x1024, .f32⟩
  | 25 => ⟨S2x8192x1024, .f32⟩
  | 26 => ⟨S2x8192x1024, .f32⟩
  | 27 => ⟨S2x8192x1024, .f32⟩
  | 28 => ⟨S2x8192x1024, .f32⟩
  | 29 => ⟨S_, .f32⟩
  | 30 => ⟨S2x8192x1024, .f32⟩
  | 31 => ⟨S2x8192x1024, .f32⟩
  | 32 => ⟨S2x8192x4x256, .f32⟩
  | 33 => ⟨S2x4x8192x256, .f32⟩
  | 34 => ⟨S2x8192x4x256, .f32⟩
  | 35 => ⟨S2x4x8192x256, .f32⟩
  | 36 => ⟨S_, .f32⟩
  | 37 => ⟨S2x4x8192x256, .f32⟩
  | 38 => ⟨S2x4x8192x256, .f32⟩
  | 39 => ⟨S2x8192x4x256, .f32⟩
  | 40 => ⟨S2x4x8192x256, .f32⟩
  | 41 => ⟨S2x8192x4x512, .f32⟩
  | 42 => ⟨S2x4x8192x512, .f32⟩
  | 43 => ⟨S_, .i1⟩
  | 44 => ⟨S64x64, .i1⟩
  | 45 => ⟨S64x64, .i32⟩
  | 46 => ⟨S_, .i32⟩
  | 47 => ⟨S64x64, .i32⟩
  | 48 => ⟨S64x64, .i32⟩
  | 49 => ⟨S64x64, .i32⟩
  | 50 => ⟨S64x64, .i1⟩
  | 51 => ⟨S_, .i1⟩
  | 52 => ⟨S64x64, .i1⟩
  | 53 => ⟨S64x64, .i1⟩
  | 54 => ⟨S2x4x128x64x256, .f32⟩
  | 55 => ⟨S2x4x128x64x256, .f32⟩
  | 56 => ⟨S2x4x128x64x512, .f32⟩
  | 57 => ⟨S2x4x128x64x256, .f32⟩
  | 58 => ⟨S_, .f32⟩
  | 59 => ⟨S_, .f32⟩
  | 60 => ⟨S2x4x128x64x256, .f32⟩
  | 61 => ⟨S2x4x128x64x256, .f32⟩
  | 62 => ⟨S2x4x128x64x256, .f32⟩
  | 63 => ⟨S2x4x128x64x256, .f32⟩
  | 64 => ⟨S2x4x128x64x256, .f32⟩
  | 65 => ⟨S2x4x128x64x256, .f32⟩
  | 66 => ⟨S2x4x128x64x64, .f32⟩
  | 67 => ⟨S_, .f32⟩
  | 68 => ⟨S_, .f32⟩
  | 69 => ⟨S2x4x128x64x64, .i1⟩
  | 70 => ⟨S2x4x128x64x64, .f32⟩
  | 71 => ⟨S2x4x128x64x64, .f32⟩
  | 72 => ⟨S2x4x128x64x512, .f32⟩
  | 73 => ⟨S2x4x128x1x256, .f32⟩
  | 74 => ⟨S2x4x128x64x256, .f32⟩
  | 75 => ⟨S2x4x128x64x256, .f32⟩
  | 76 => ⟨S2x4x128x64x256, .f32⟩
  | 77 => ⟨S2x4x128x64x256, .f32⟩
  | 78 => ⟨S2x4x128x1x256, .f32⟩
  | 79 => ⟨S2x4x128x256, .f32⟩
  | 80 => ⟨S2x4x128x256, .f32⟩
  | 81 => ⟨S128x2x4x64x256, .f32⟩
  | 82 => ⟨S128x2x4x64x256, .f32⟩
  | 83 => ⟨S128x2x4x64x512, .f32⟩
  | 84 => ⟨S128x2x4x256, .f32⟩
  | 85 => ⟨S128x2x4x64x512, .f32⟩
  | 86 => ⟨S_, .f32⟩
  | 87 => ⟨S2x4x256x512, .f32⟩
  | 88 => ⟨S_, .f32⟩
  | 89 => ⟨S128x2x4x64x512, .f32⟩
  | 90 => ⟨S_, .i32⟩
  | 91 => ⟨S128x2x4x64x256, .f32⟩
  | 92 => ⟨S128x2x4x64x256, .f32⟩
  | 93 => ⟨S128x2x4x64x512, .f32⟩
  | 94 => ⟨S128x2x4x256, .f32⟩
  | 95 => ⟨S128x2x4x64x512, .f32⟩
  | 96 => ⟨S_, .i32⟩
  | 97 => ⟨S2x4x256x512, .f32⟩
  | 98 => ⟨S128x2x4x64x512, .f32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S1x2x4x64x256, .f32⟩
  | 106 => ⟨S2x4x64x256, .f32⟩
  | 107 => ⟨S_, .i32⟩
  | 108 => ⟨S_, .i32⟩
  | 109 => ⟨S_, .i32⟩
  | 110 => ⟨S_, .i32⟩
  | 111 => ⟨S1x2x4x64x256, .f32⟩
  | 112 => ⟨S2x4x64x256, .f32⟩
  | 113 => ⟨S_, .i32⟩
  | 114 => ⟨S_, .i32⟩
  | 115 => ⟨S_, .i32⟩
  | 116 => ⟨S_, .i32⟩
  | 117 => ⟨S1x2x4x64x512, .f32⟩
  | 118 => ⟨S2x4x64x512, .f32⟩
  | 119 => ⟨S_, .i32⟩
  | 120 => ⟨S_, .i32⟩
  | 121 => ⟨S_, .i32⟩
  | 122 => ⟨S1x2x4x256, .f32⟩
  | 123 => ⟨S2x4x256, .f32⟩
  | 124 => ⟨S_, .i32⟩
  | 125 => ⟨S_, .i32⟩
  | 126 => ⟨S_, .i32⟩
  | 127 => ⟨S_, .i32⟩
  | _ => ⟨S2x8192x12288, .f32⟩

abbrev hbmTy0_1 (i : Nat) : BufTy := match i % 128 with
  | 0 => ⟨S1x2x4x64x512, .f32⟩
  | 1 => ⟨S2x4x64x512, .f32⟩
  | 2 => ⟨S2x4x64x512, .f32⟩
  | 3 => ⟨S2x4x64x512, .f32⟩
  | 4 => ⟨S2x4x256x1, .f32⟩
  | 5 => ⟨S2x4x256x512, .f32⟩
  | 6 => ⟨S2x4x256x512, .f32⟩
  | 7 => ⟨S2x4x256x512, .f32⟩
  | 8 => ⟨S2x4x256x512, .f32⟩
  | 9 => ⟨S1x2x4x64x512, .f32⟩
  | 10 => ⟨S_, .i32⟩
  | 11 => ⟨S_, .i32⟩
  | 12 => ⟨S_, .i32⟩
  | 13 => ⟨S_, .i32⟩
  | 14 => ⟨S128x2x4x64x512, .f32⟩
  | 15 => ⟨S_, .i32⟩
  | 16 => ⟨S_, .i32⟩
  | 17 => ⟨S2x4x128x64x512, .f32⟩
  | 18 => ⟨S2x4x8192x512, .f32⟩
  | 19 => ⟨S2x8192x2048, .f32⟩
  | 20 => ⟨S2x4x8192x512, .f32⟩
  | 21 => ⟨S_, .f32⟩
  | 22 => ⟨S2x4x8192, .f32⟩
  | 23 => ⟨S2x4x8192x1, .f32⟩
  | 24 => ⟨S_, .f32⟩
  | 25 => ⟨S2x4x8192x1, .f32⟩
  | 26 => ⟨S2x4x8192x1, .f32⟩
  | 27 => ⟨S_, .f32⟩
  | 28 => ⟨S2x4x8192x1, .f32⟩
  | 29 => ⟨S2x4x8192x1, .f32⟩
  | 30 => ⟨S2x4x8192x1, .f32⟩
  | 31 => ⟨S2x4x8192x512, .f32⟩
  | 32 => ⟨S2x4x8192x512, .f32⟩
  | 33 => ⟨S1x1x1x512, .f32⟩
  | 34 => ⟨S2x4x8192x512, .f32⟩
  | 35 => ⟨S2x4x8192x512, .f32⟩
  | 36 => ⟨S2x8192x4x512, .f32⟩
  | 37 => ⟨S2x4x8192x512, .f32⟩
  | 38 => ⟨S2x4x8192x512, .f32⟩
  | 39 => ⟨S2x4x8192x512, .f32⟩
  | 40 => ⟨S_, .f32⟩
  | 41 => ⟨S2x4x8192x512, .f32⟩
  | 42 => ⟨S2x4x8192x512, .f32⟩
  | 43 => ⟨S_, .f32⟩
  | 44 => ⟨S2x4x8192x512, .f32⟩
  | 45 => ⟨S2x4x8192x512, .f32⟩
  | 46 => ⟨S2x4x8192x512, .f32⟩
  | 47 => ⟨S2x4x8192x512, .f32⟩
  | 48 => ⟨S2x8192x4x512, .f32⟩
  | 49 => ⟨S2x8192x2048, .f32⟩
  | 50 => ⟨S2x8192x2048, .bf16⟩
  | _ => ⟨S2x8192x12288, .f32⟩

abbrev hbmTy (i : Nat) : BufTy := match i / 128 with
  | 0 => hbmTy0_0 i
  | 1 => hbmTy0_1 i
  | _ => ⟨S2x8192x12288, .f32⟩

abbrev bufTy : (tb : Table) → Fin (tcTables nBuf tb) → BufTy
  | .hbm, ⟨i, _⟩ => hbmTy i
  | _, _ => ⟨S2x8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c : Ref sig .tc := ⟨.hbm, 43, rfl⟩
abbrev main_v35 : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_c_0 : Ref sig .tc := ⟨.hbm, 51, rfl⟩
abbrev main_call0_v5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call1_call0_cst : Ref sig .tc := ⟨.hbm, 58, rfl⟩
abbrev main_call1_call0_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_2 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_3 : Ref sig .tc := ⟨.hbm, 86, rfl⟩
abbrev main_v63 : Ref sig .tc := ⟨.hbm, 87, rfl⟩
abbrev main_cst_4 : Ref sig .tc := ⟨.hbm, 88, rfl⟩
abbrev main_v64 : Ref sig .tc := ⟨.hbm, 89, rfl⟩
abbrev main_c_5 : Ref sig .tc := ⟨.hbm, 90, rfl⟩
abbrev main_v65_0 : Ref sig .tc := ⟨.hbm, 91, rfl⟩
abbrev main_v65_1 : Ref sig .tc := ⟨.hbm, 92, rfl⟩
abbrev main_v65_2 : Ref sig .tc := ⟨.hbm, 93, rfl⟩
abbrev main_v65_3 : Ref sig .tc := ⟨.hbm, 94, rfl⟩
abbrev main_v65_4 : Ref sig .tc := ⟨.hbm, 95, rfl⟩
abbrev main_v65_5 : Ref sig .tc := ⟨.hbm, 96, rfl⟩
abbrev main_v65_6 : Ref sig .tc := ⟨.hbm, 97, rfl⟩
abbrev main_v65_7 : Ref sig .tc := ⟨.hbm, 98, rfl⟩
abbrev main_while0c_c_16 : Ref sig .tc := ⟨.hbm, 99, rfl⟩
abbrev main_while0c_v89 : Ref sig .tc := ⟨.hbm, 100, rfl⟩
abbrev main_while0b_call3_c : Ref sig .tc := ⟨.hbm, 101, rfl⟩
abbrev main_while0b_call3_c_0 : Ref sig .tc := ⟨.hbm, 102, rfl⟩
abbrev main_while0b_call3_c_1 : Ref sig .tc := ⟨.hbm, 103, rfl⟩
abbrev main_while0b_call3_c_2 : Ref sig .tc := ⟨.hbm, 104, rfl⟩
abbrev main_while0b_call3_v0 : Ref sig .tc := ⟨.hbm, 105, rfl⟩
abbrev main_while0b_v89 : Ref sig .tc := ⟨.hbm, 106, rfl⟩
abbrev main_while0b_call4_c : Ref sig .tc := ⟨.hbm, 107, rfl⟩
abbrev main_while0b_call4_c_0 : Ref sig .tc := ⟨.hbm, 108, rfl⟩
abbrev main_while0b_call4_c_1 : Ref sig .tc := ⟨.hbm, 109, rfl⟩
abbrev main_while0b_call4_c_2 : Ref sig .tc := ⟨.hbm, 110, rfl⟩
abbrev main_while0b_call4_v0 : Ref sig .tc := ⟨.hbm, 111, rfl⟩
abbrev main_while0b_v90 : Ref sig .tc := ⟨.hbm, 112, rfl⟩
abbrev main_while0b_call5_c : Ref sig .tc := ⟨.hbm, 113, rfl⟩
abbrev main_while0b_call5_c_0 : Ref sig .tc := ⟨.hbm, 114, rfl⟩
abbrev main_while0b_call5_c_1 : Ref sig .tc := ⟨.hbm, 115, rfl⟩
abbrev main_while0b_call5_c_2 : Ref sig .tc := ⟨.hbm, 116, rfl⟩
abbrev main_while0b_call5_v0 : Ref sig .tc := ⟨.hbm, 117, rfl⟩
abbrev main_while0b_v91 : Ref sig .tc := ⟨.hbm, 118, rfl⟩
abbrev main_while0b_call6_c : Ref sig .tc := ⟨.hbm, 119, rfl⟩
abbrev main_while0b_call6_c_0 : Ref sig .tc := ⟨.hbm, 120, rfl⟩
abbrev main_while0b_call6_c_1 : Ref sig .tc := ⟨.hbm, 121, rfl⟩
abbrev main_while0b_call6_v0 : Ref sig .tc := ⟨.hbm, 122, rfl⟩
abbrev main_while0b_v92 : Ref sig .tc := ⟨.hbm, 123, rfl⟩
abbrev main_while0b_call7_c : Ref sig .tc := ⟨.hbm, 124, rfl⟩
abbrev main_while0b_call7_c_0 : Ref sig .tc := ⟨.hbm, 125, rfl⟩
abbrev main_while0b_call7_c_1 : Ref sig .tc := ⟨.hbm, 126, rfl⟩
abbrev main_while0b_call7_c_2 : Ref sig .tc := ⟨.hbm, 127, rfl⟩
abbrev main_while0b_call7_v0 : Ref sig .tc := ⟨.hbm, 128, rfl⟩
abbrev main_while0b_v93 : Ref sig .tc := ⟨.hbm, 129, rfl⟩
abbrev main_while0b_v94 : Ref sig .tc := ⟨.hbm, 130, rfl⟩
abbrev main_while0b_v95 : Ref sig .tc := ⟨.hbm, 131, rfl⟩
abbrev main_while0b_v96 : Ref sig .tc := ⟨.hbm, 132, rfl⟩
abbrev main_while0b_v97 : Ref sig .tc := ⟨.hbm, 133, rfl⟩
abbrev main_while0b_v98 : Ref sig .tc := ⟨.hbm, 134, rfl⟩
abbrev main_while0b_v99 : Ref sig .tc := ⟨.hbm, 135, rfl⟩
abbrev main_while0b_v100 : Ref sig .tc := ⟨.hbm, 136, rfl⟩
abbrev main_while0b_call8_v0 : Ref sig .tc := ⟨.hbm, 137, rfl⟩
abbrev main_while0b_call8_c : Ref sig .tc := ⟨.hbm, 138, rfl⟩
abbrev main_while0b_call8_c_0 : Ref sig .tc := ⟨.hbm, 139, rfl⟩
abbrev main_while0b_call8_c_1 : Ref sig .tc := ⟨.hbm, 140, rfl⟩
abbrev main_while0b_call8_c_2 : Ref sig .tc := ⟨.hbm, 141, rfl⟩
abbrev main_while0b_v101 : Ref sig .tc := ⟨.hbm, 142, rfl⟩
abbrev main_while0b_c_16 : Ref sig .tc := ⟨.hbm, 143, rfl⟩
abbrev main_while0b_v102 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_cst_6 : Ref sig .tc := ⟨.hbm, 149, rfl⟩
abbrev main_v70 : Ref sig .tc := ⟨.hbm, 150, rfl⟩
abbrev main_v71 : Ref sig .tc := ⟨.hbm, 151, rfl⟩
abbrev main_cst_7 : Ref sig .tc := ⟨.hbm, 152, rfl⟩
abbrev main_v72 : Ref sig .tc := ⟨.hbm, 153, rfl⟩
abbrev main_v73 : Ref sig .tc := ⟨.hbm, 154, rfl⟩
abbrev main_cst_8 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_call9_v0 : Ref sig .tc := ⟨.hbm, 166, rfl⟩
abbrev main_call9_v1 : Ref sig .tc := ⟨.hbm, 167, rfl⟩
abbrev main_call9_cst : Ref sig .tc := ⟨.hbm, 168, rfl⟩
abbrev main_call9_v2 : Ref sig .tc := ⟨.hbm, 169, rfl⟩
abbrev main_call9_v3 : Ref sig .tc := ⟨.hbm, 170, rfl⟩
abbrev main_call9_cst_0 : Ref sig .tc := ⟨.hbm, 171, rfl⟩
abbrev main_call9_v4 : Ref sig .tc := ⟨.hbm, 172, rfl⟩
abbrev main_call9_v5 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩

abbrev nD : Nat := 1
abbrev τ : Topo := Topo.v7x

variable {F : FTy → Type} [FloatOps F]

abbrev main_while0_count : Scf.Loop 32 := ⟨0#32, 128#32, 1#32⟩
-- ==== KernelUp.lean ====
abbrev S16384x4096 : Shape := ⟨2, ![16384, 4096]⟩
abbrev S4096x16384 : Shape := ⟨2, ![4096, 16384]⟩
abbrev S16384x16384 : Shape := ⟨2, ![16384, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S16384x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceUpIdeal.lean ====
abbrev S16384x4096 : Shape := ⟨2, ![16384, 4096]⟩
abbrev S4096x16384 : Shape := ⟨2, ![4096, 16384]⟩
abbrev S16384x16384 : Shape := ⟨2, ![16384, 16384]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S16384x16384, .f32⟩
  | .hbm, ⟨3, _⟩ => ⟨S_, .f32⟩
  | .hbm, ⟨4, _⟩ => ⟨S16384x16384, .f32⟩
  | .hbm, ⟨5, _⟩ => ⟨S16384x16384, .f32⟩
  | .hbm, ⟨6, _⟩ => ⟨S16384x16384, .f32⟩
  | .hbm, ⟨7, _⟩ => ⟨S16384x16384, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelDown.lean ====
abbrev S16384x16384 : Shape := ⟨2, ![16384, 16384]⟩
abbrev S16384x4096 : Shape := ⟨2, ![16384, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .bf16⟩
  | .hbm, ⟨2, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S16384x16384 : Shape := ⟨2, ![16384, 16384]⟩
abbrev S16384x4096 : Shape := ⟨2, ![16384, 4096]⟩

abbrev nBuf : Space → Nat
  | .hbm => 4
  | .vmem => 0
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .bf16⟩
  | .hbm, ⟨2, _⟩ => ⟨S16384x4096, .f32⟩
  | .hbm, ⟨3, _⟩ => ⟨S16384x4096, .bf16⟩
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelEvenIn.lean ====
abbrev S16384x4096 : Shape := ⟨2, ![16384, 4096]⟩
abbrev S4096x14336 : Shape := ⟨2, ![4096, 14336]⟩
abbrev S16384x14336 : Shape := ⟨2, ![16384, 14336]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x14336, .bf16⟩
  | .hbm, ⟨2, _⟩ => ⟨S16384x14336, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceEvenInIdeal.lean ====
abbrev S16384x4096 : Shape := ⟨2, ![16384, 4096]⟩
abbrev S4096x14336 : Shape := ⟨2, ![4096, 14336]⟩
abbrev S16384x14336 : Shape := ⟨2, ![16384, 14336]⟩

abbrev nBuf : Space → Nat
  | .hbm => 3
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x14336, .bf16⟩
  | .hbm, ⟨2, _⟩ => ⟨S16384x14336, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelOddIn.lean ====
abbrev S16384x4096 : Shape := ⟨2, ![16384, 4096]⟩
abbrev S4096x12288 : Shape := ⟨2, ![4096, 12288]⟩
abbrev S16384x12288 : Shape := ⟨2, ![16384, 12288]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .bf16⟩
  | .hbm, ⟨2, _⟩ => ⟨S16384x12288, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceOddInIdeal.lean ====
abbrev S16384x4096 : Shape := ⟨2, ![16384, 4096]⟩
abbrev S4096x12288 : Shape := ⟨2, ![4096, 12288]⟩
abbrev S16384x12288 : Shape := ⟨2, ![16384, 12288]⟩

abbrev nBuf : Space → Nat
  | .hbm => 3
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x12288, .bf16⟩
  | .hbm, ⟨2, _⟩ => ⟨S16384x12288, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelOut.lean ====
abbrev S16384x2048 : Shape := ⟨2, ![16384, 2048]⟩
abbrev S4096x4096 : Shape := ⟨2, ![4096, 4096]⟩
abbrev S16384x4096 : Shape := ⟨2, ![16384, 4096]⟩
abbrev S1024x2048 : Shape := ⟨2, ![1024, 2048]⟩
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4096x1024, .bf16⟩
  | .local _ .vmem, ⟨5, _⟩ => ⟨S4096x1024, .bf16⟩
  | .local _ .vmem, ⟨6, _⟩ => ⟨S1024x1024, .bf16⟩
  | .local _ .vmem, ⟨7, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutIdeal.lean ====
abbrev S16384x2048 : Shape := ⟨2, ![16384, 2048]⟩
abbrev S4096x4096 : Shape := ⟨2, ![4096, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .bf16⟩
  | .hbm, ⟨4, _⟩ => ⟨S16384x4096, .f32⟩
  | .hbm, ⟨5, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelLn.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceLnIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x4096, .f32⟩
  | .hbm, ⟨31, _⟩ => ⟨S16384x4096, .f32⟩
  | .hbm, ⟨32, _⟩ => ⟨S1x4096, .f32⟩
  | .hbm, ⟨33, _⟩ => ⟨S16384x4096, .f32⟩
  | .hbm, ⟨34, _⟩ => ⟨S16384x4096, .f32⟩
  | .hbm, ⟨35, _⟩ => ⟨S1x4096, .f32⟩
  | .hbm, ⟨36, _⟩ => ⟨S16384x4096, .f32⟩
  | .hbm, ⟨37, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== KernelLnMix.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S16384x4096, .f32⟩
  | .hbm, ⟨7, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceLnMixIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x4096, .f32⟩
  | .hbm, ⟨31, _⟩ => ⟨S16384x4096, .f32⟩
  | .hbm, ⟨32, _⟩ => ⟨S1x4096, .f32⟩
  | .hbm, ⟨33, _⟩ => ⟨S16384x4096, .f32⟩
  | .hbm, ⟨34, _⟩ => ⟨S16384x4096, .f32⟩
  | .hbm, ⟨35, _⟩ => ⟨S1x4096, .f32⟩
  | .hbm, ⟨36, _⟩ => ⟨S16384x4096, .f32⟩
  | .hbm, ⟨37, _⟩ => ⟨S16384x4096, .f32⟩
  | .hbm, ⟨38, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== KernelLnGate.lean ====
abbrev S16384x4096 : Shape := ⟨2, ![16384, 4096]⟩
abbrev S4096 : Shape := ⟨1, ![4096]⟩
abbrev S4096x128 : Shape := ⟨2, ![4096, 128]⟩
abbrev S1x4096 : Shape := ⟨2, ![1, 4096]⟩
abbrev S16384x128 : Shape := ⟨2, ![16384, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S4096x128, .bf16⟩
  | .hbm, ⟨5, _⟩ => ⟨S1x4096, .f32⟩
  | .hbm, ⟨6, _⟩ => ⟨S1x4096, .f32⟩
  | .hbm, ⟨7, _⟩ => ⟨S16384x4096, .f32⟩
  | .hbm, ⟨8, _⟩ => ⟨S16384x4096, .bf16⟩
  | .hbm, ⟨9, _⟩ => ⟨S16384x128, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S4096x128, .bf16⟩
  | .local _ .vmem, ⟨7, _⟩ => ⟨S256x4096, .f32⟩
  | .local _ .vmem, ⟨8, _⟩ => ⟨S256x4096, .f32⟩
  | .local _ .vmem, ⟨9, _⟩ => ⟨S256x4096, .bf16⟩
  | .local _ .vmem, ⟨10, _⟩ => ⟨S256x4096, .bf16⟩
  | .local _ .vmem, ⟨11, _⟩ => ⟨S256x128, .f32⟩
  | .local _ .vmem, ⟨12, _⟩ => ⟨S256x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceLnGateIdeal.lean ====
abbrev S16384x4096 : Shape := ⟨2, ![16384, 4096]⟩
abbrev S4096 : Shape := ⟨1, ![4096]⟩
abbrev S4096x128 : Shape := ⟨2, ![4096, 128]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x128 : Shape := ⟨2, ![16384, 128]⟩

abbrev nBuf : Space → Nat
  | .hbm => 41
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S4096x128, .bf16⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x4096, .f32⟩
  | .hbm, ⟨26, _⟩ => ⟨S16384x4096, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x4096, .f32⟩
  | .hbm, ⟨32, _⟩ => ⟨S16384x4096, .f32⟩
  | .hbm, ⟨33, _⟩ => ⟨S1x4096, .f32⟩
  | .hbm, ⟨34, _⟩ => ⟨S16384x4096, .f32⟩
  | .hbm, ⟨35, _⟩ => ⟨S16384x4096, .f32⟩
  | .hbm, ⟨36, _⟩ => ⟨S1x4096, .f32⟩
  | .hbm, ⟨37, _⟩ => ⟨S16384x4096, .f32⟩
  | .hbm, ⟨38, _⟩ => ⟨S16384x4096, .f32⟩
  | .hbm, ⟨39, _⟩ => ⟨S16384x4096, .bf16⟩
  | .hbm, ⟨40, _⟩ => ⟨S16384x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== KernelCastGate.lean ====
abbrev S16384x4096 : Shape := ⟨2, ![16384, 4096]⟩
abbrev S4096x128 : Shape := ⟨2, ![4096, 128]⟩
abbrev S16384x128 : Shape := ⟨2, ![16384, 128]⟩
abbrev S512x4096 : Shape := ⟨2, ![512, 4096]⟩
abbrev S512x128 : Shape := ⟨2, ![512, 128]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x128, .bf16⟩
  | .hbm, ⟨2, _⟩ => ⟨S16384x4096, .bf16⟩
  | .hbm, ⟨3, _⟩ => ⟨S16384x128, .f32⟩
  | .local _ .vmem, ⟨0, _⟩ => ⟨S512x4096, .f32⟩
  | .local _ .vmem, ⟨1, _⟩ => ⟨S512x4096, .f32⟩
  | .local _ .vmem, ⟨2, _⟩ => ⟨S4096x128, .bf16⟩
  | .local _ .vmem, ⟨3, _⟩ => ⟨S512x4096, .bf16⟩
  | .local _ .vmem, ⟨4, _⟩ => ⟨S512x4096, .bf16⟩
  | .local _ .vmem, ⟨5, _⟩ => ⟨S512x128, .f32⟩
  | .local _ .vmem, ⟨6, _⟩ => ⟨S512x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceCastGateIdeal.lean ====
abbrev S16384x4096 : Shape := ⟨2, ![16384, 4096]⟩
abbrev S4096x128 : Shape := ⟨2, ![4096, 128]⟩
abbrev S16384x128 : Shape := ⟨2, ![16384, 128]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x128, .bf16⟩
  | .hbm, ⟨2, _⟩ => ⟨S16384x4096, .bf16⟩
  | .hbm, ⟨3, _⟩ => ⟨S16384x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelRet.lean ====
abbrev S2x8192x12288 : Shape := ⟨3, ![2, 8192, 12288]⟩
abbrev S2x8192 : Shape := ⟨2, ![2, 8192]⟩
abbrev S_ : Shape := ⟨0, ![]⟩
abbrev S63 : Shape := ⟨1, ![63]⟩
abbrev S1 : Shape := ⟨1, ![1]⟩
abbrev S64 : Shape := ⟨1, ![64]⟩
abbrev S2x8192x1 : Shape := ⟨3, ![2, 8192, 1]⟩
abbrev S1x1x64 : Shape := ⟨3, ![1, 1, 64]⟩
abbrev S2x8192x64 : Shape := ⟨3, ![2, 8192, 64]⟩
abbrev S2x8192x128 : Shape := ⟨3, ![2, 8192, 128]⟩
abbrev S2x8192x2048 : Shape := ⟨3, ![2, 8192, 2048]⟩
abbrev S1x512x1024 : Shape := ⟨3, ![1, 512, 1024]⟩
abbrev S1x512x2048 : Shape := ⟨3, ![1, 512, 2048]⟩
abbrev S1x512x128 : Shape := ⟨3, ![1, 512, 128]⟩
abbrev S8x128x256 : Shape := ⟨3, ![8, 128, 256]⟩
abbrev S128x128 : Shape := ⟨2, ![128, 128]⟩
abbrev S64x1 : Shape := ⟨2, ![64, 1]⟩
abbrev S1x64x128 : Shape := ⟨3, ![1, 64, 128]⟩
abbrev S64x128 : Shape := ⟨2, ![64, 128]⟩
abbrev S1x64x256 : Shape := ⟨3, ![1, 64, 256]⟩
abbrev S64x256 : Shape := ⟨2, ![64, 256]⟩
abbrev S128x256 : Shape := ⟨2, ![128, 256]⟩
abbrev S128x1 : Shape := ⟨2, ![128, 1]⟩
abbrev S128x64 : Shape := ⟨2, ![128, 64]⟩
abbrev S1x1 : Shape := ⟨2, ![1, 1]⟩
abbrev S1x128x256 : Shape := ⟨3, ![1, 128, 256]⟩
abbrev S128 : Shape := ⟨1, ![128]⟩

abbrev nBuf : Space → Nat
  | .hbm => 43
  | .vmem => 15
  | .smem => 0
  | _ => 0

abbrev bufTy : (tb : Table) → Fin (tcTables nBuf tb) → BufTy
  | .hbm, ⟨0, _⟩ => ⟨S2x8192x12288, .f32⟩
  | .hbm, ⟨1, _⟩ => ⟨S2x8192, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S63, .f32⟩
  | .hbm, ⟨10, _⟩ => ⟨S_, .f32⟩
  | .hbm, ⟨11, _⟩ => ⟨S63, .f32⟩
  | .hbm, ⟨12, _⟩ => ⟨S63, .f32⟩
  | .hbm, ⟨13, _⟩ => ⟨S1, .f32⟩
  | .hbm, ⟨14, _⟩ => ⟨S_, .f32⟩
  | .hbm, ⟨15, _⟩ => ⟨S63, .f32⟩
  | .hbm, ⟨16, _⟩ => ⟨S63, .f32⟩
  | .hbm, ⟨17, _⟩ => ⟨S63, .f32⟩
  | .hbm, ⟨18, _⟩ => ⟨S63, .f32⟩
  | .hbm, ⟨19, _⟩ => ⟨S1, .f32⟩
  | .hbm, ⟨20, _⟩ => ⟨S63, .f32⟩
  | .hbm, ⟨21, _⟩ => ⟨S63, .f32⟩
  | .hbm, ⟨22, _⟩ => ⟨S63, .f32⟩
  | .hbm, ⟨23, _⟩ => ⟨S1, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S2x8192, .f32⟩
  | .hbm, ⟨32, _⟩ => ⟨S2x8192x1, .f32⟩
  | .hbm, ⟨33, _⟩ => ⟨S1x1x64, .f32⟩
  | .hbm, ⟨34, _⟩ => ⟨S2x8192x64, .f32⟩
  | .hbm, ⟨35, _⟩ => ⟨S2x8192x64, .f32⟩
  | .hbm, ⟨36, _⟩ => ⟨S2x8192x64, .f32⟩
  | .hbm, ⟨37, _⟩ => ⟨S2x8192x64, .f32⟩
  | .hbm, ⟨38, _⟩ => ⟨S2x8192x64, .f32⟩
  | .hbm, ⟨39, _⟩ => ⟨S2x8192x128, .f32⟩
  | .hbm, ⟨40, _⟩ => ⟨S2x8192x64, .f32⟩
  | .hbm, ⟨41, _⟩ => ⟨S2x8192x128, .f32⟩
  | .hbm, ⟨42, _⟩ => ⟨S2x8192x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x2048, .f32⟩
  | .local _ .vmem, ⟨5, _⟩ => ⟨S1x512x2048, .f32⟩
  | .local _ .vmem, ⟨6, _⟩ => ⟨S1x512x2048, .f32⟩
  | .local _ .vmem, ⟨7, _⟩ => ⟨S1x512x2048, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x2048, .bf16⟩
  | .local _ .vmem, ⟨13, _⟩ => ⟨S1x512x2048, .bf16⟩
  | .local _ .vmem, ⟨14, _⟩ => ⟨S8x128x256, .f32⟩
  | _, _ => ⟨S2x8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_cst_1 : Ref sig .tc := ⟨.hbm, 25, rfl⟩
abbrev main_v1 : Ref sig .tc := ⟨.hbm, 26, rfl⟩
abbrev main_v2 : Ref sig .tc := ⟨.hbm, 27, rfl⟩
abbrev main_cst_2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelRetIdeal.lean ====
variable {F : FTy → Type} [FloatOps F] [Named F]
def κ : String → Option EReal := fun
  | "end0" => some ((64 * (Real.log (31 / 32)) : ℝ) : EReal)
  | "end1" => some ((64 * (Real.log (63 / 64)) : ℝ) : EReal)
  | "end2" => some ((64 * (Real.log (127 / 128)) : ℝ) : EReal)
  | "end3" => some ((64 * (Real.log (255 / 256)) : ℝ) : EReal)
  | "end4" => some ((64 * (Real.log (511 / 512)) : ℝ) : EReal)
  | "end5" => some ((64 * (Real.log (1023 / 1024)) : ℝ) : EReal)
  | "end6" => some ((64 * (Real.log (2047 / 2048)) : ℝ) : EReal)
  | "end7" => some ((64 * (Real.log (4095 / 4096)) : ℝ) : EReal)
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | "lg4" => some ((Real.log (511 / 512) : ℝ) : EReal)
  | "lg5" => some ((Real.log (1023 / 1024) : ℝ) : EReal)
  | "lg6" => some ((Real.log (2047 / 2048) : ℝ) : EReal)
  | "lg7" => some ((Real.log (4095 / 4096) : ℝ) : EReal)
  | _ => none
-- ==== ReferenceRetIdeal.lean ====
abbrev S2x8192x12288 : Shape := ⟨3, ![2, 8192, 12288]⟩
abbrev S2x8192 : Shape := ⟨2, ![2, 8192]⟩
abbrev S2x8192x1024 : Shape := ⟨3, ![2, 8192, 1024]⟩
abbrev S2x8192x2048 : Shape := ⟨3, ![2, 8192, 2048]⟩
abbrev S_ : Shape := ⟨0, ![]⟩
abbrev S63 : Shape := ⟨1, ![63]⟩
abbrev S1 : Shape := ⟨1, ![1]⟩
abbrev S64 : Shape := ⟨1, ![64]⟩
abbrev S2x1x8192x1 : Shape := ⟨4, ![2, 1, 8192, 1]⟩
abbrev S1x1x1x64 : Shape := ⟨4, ![1, 1, 1, 64]⟩
abbrev S2x1x8192x64 : Shape := ⟨4, ![2, 1, 8192, 64]⟩
abbrev S2x8192x8x128 : Shape := ⟨4, ![2, 8192, 8, 128]⟩
abbrev S2x8x8192x128 : Shape := ⟨4, ![2, 8, 8192, 128]⟩
abbrev S2x8x8192x64 : Shape := ⟨4, ![2, 8, 8192, 64]⟩
abbrev S2x8192x8x256 : Shape := ⟨4, ![2, 8192, 8, 256]⟩
abbrev S2x8x8192x256 : Shape := ⟨4, ![2, 8, 8192, 256]⟩
abbrev S8 : Shape := ⟨1, ![8]⟩
abbrev S1x8x1x1 : Shape := ⟨4, ![1, 8, 1, 1]⟩
abbrev S2x8x8192x1 : Shape := ⟨4, ![2, 8, 8192, 1]⟩
abbrev S64x64 : Shape := ⟨2, ![64, 64]⟩
abbrev S2x8x128x64x128 : Shape := ⟨5, ![2, 8, 128, 64, 128]⟩
abbrev S2x8x128x64x256 : Shape := ⟨5, ![2, 8, 128, 64, 256]⟩
abbrev S2x8x128x64x1 : Shape := ⟨5, ![2, 8, 128, 64, 1]⟩
abbrev S2x8x128x64x64 : Shape := ⟨5, ![2, 8, 128, 64, 64]⟩
abbrev S2x8x128x1x1 : Shape := ⟨5, ![2, 8, 128, 1, 1]⟩
abbrev S2x8x128x1 : Shape := ⟨4, ![2, 8, 128, 1]⟩
abbrev S128x2x8x64x128 : Shape := ⟨5, ![128, 2, 8, 64, 128]⟩
abbrev S128x2x8x64x256 : Shape := ⟨5, ![128, 2, 8, 64, 256]⟩
abbrev S128x2x8x1 : Shape := ⟨4, ![128, 2, 8, 1]⟩
abbrev S2x8x128x256 : Shape := ⟨4, ![2, 8, 128, 256]⟩
abbrev S1x2x8x64x128 : Shape := ⟨5, ![1, 2, 8, 64, 128]⟩
abbrev S2x8x64x128 : Shape := ⟨4, ![2, 8, 64, 128]⟩
abbrev S1x2x8x64x256 : Shape := ⟨5, ![1, 2, 8, 64, 256]⟩
abbrev S2x8x64x256 : Shape := ⟨4, ![2, 8, 64, 256]⟩
abbrev S1x2x8x1 : Shape := ⟨4, ![1, 2, 8, 1]⟩
abbrev S2x8x1 : Shape := ⟨3, ![2, 8, 1]⟩
abbrev S2x8x1x1 : Shape := ⟨4, ![2, 8, 1, 1]⟩
abbrev S2x8x8192 : Shape := ⟨3, ![2, 8, 8192]⟩

abbrev nBuf : Space → Nat
  | .hbm => 226
  | .vmem => 0
  | .smem => 0
  | _ => 0

abbrev hbmTy0_0 (i : Nat) : BufTy := match i % 128 with
  | 0 => ⟨S2x8192x12288, .f32⟩
  | 1 => ⟨S2x8192, .i32⟩
  | 2 => ⟨S2x8192x1024, .f32⟩
  | 3 => ⟨S2x8192x1024, .f32⟩
  | 4 => ⟨S2x8192x2048, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S63, .f32⟩
  | 13 => ⟨S_, .f32⟩
  | 14 => ⟨S63, .f32⟩
  | 15 => ⟨S63, .f32⟩
  | 16 => ⟨S1, .f32⟩
  | 17 => ⟨S_, .f32⟩
  | 18 => ⟨S63, .f32⟩
  | 19 => ⟨S63, .f32⟩
  | 20 => ⟨S63, .f32⟩
  | 21 => ⟨S63, .f32⟩
  | 22 => ⟨S1, .f32⟩
  | 23 => ⟨S63, .f32⟩
  | 24 => ⟨S63, .f32⟩
  | 25 => ⟨S63, .f32⟩
  | 26 => ⟨S1, .f32⟩
  | 27 => ⟨S64, .f32⟩
  | 28 => ⟨S_, .f32⟩
  | 29 => ⟨S64, .f32⟩
  | 30 => ⟨S64, .f32⟩
  | 31 => ⟨S_, .f32⟩
  | 32 => ⟨S64, .f32⟩
  | 33 => ⟨S64, .f32⟩
  | 34 => ⟨S2x8192, .f32⟩
  | 35 => ⟨S2x1x8192x1, .f32⟩
  | 36 => ⟨S1x1x1x64, .f32⟩
  | 37 => ⟨S2x1x8192x64, .f32⟩
  | 38 => ⟨S2x1x8192x64, .f32⟩
  | 39 => ⟨S2x1x8192x64, .f32⟩
  | 40 => ⟨S2x1x8192x64, .f32⟩
  | 41 => ⟨S2x1x8192x64, .f32⟩
  | 42 => ⟨S2x8192x8x128, .f32⟩
  | 43 => ⟨S2x8x8192x128, .f32⟩
  | 44 => ⟨S2x8x8192x64, .f32⟩
  | 45 => ⟨S2x8x8192x64, .f32⟩
  | 46 => ⟨S2x8x8192x64, .f32⟩
  | 47 => ⟨S2x8x8192x64, .f32⟩
  | 48 => ⟨S2x8x8192x64, .f32⟩
  | 49 => ⟨S2x8x8192x64, .f32⟩
  | 50 => ⟨S2x8x8192x64, .f32⟩
  | 51 => ⟨S2x8x8192x64, .f32⟩
  | 52 => ⟨S2x8x8192x64, .f32⟩
  | 53 => ⟨S2x8x8192x64, .f32⟩
  | 54 => ⟨S2x8x8192x64, .f32⟩
  | 55 => ⟨S2x8x8192x64, .f32⟩
  | 56 => ⟨S2x8x8192x128, .f32⟩
  | 57 => ⟨S2x8192x8x128, .f32⟩
  | 58 => ⟨S2x8x8192x128, .f32⟩
  | 59 => ⟨S2x8x8192x64, .f32⟩
  | 60 => ⟨S2x8x8192x64, .f32⟩
  | 61 => ⟨S2x8x8192x64, .f32⟩
  | 62 => ⟨S2x8x8192x64, .f32⟩
  | 63 => ⟨S2x8x8192x64, .f32⟩
  | 64 => ⟨S2x8x8192x64, .f32⟩
  | 65 => ⟨S2x8x8192x64, .f32⟩
  | 66 => ⟨S2x8x8192x64, .f32⟩
  | 67 => ⟨S2x8x8192x64, .f32⟩
  | 68 => ⟨S2x8x8192x64, .f32⟩
  | 69 => ⟨S2x8x8192x64, .f32⟩
  | 70 => ⟨S2x8x8192x64, .f32⟩
  | 71 => ⟨S2x8x8192x128, .f32⟩
  | 72 => ⟨S_, .f32⟩
  | 73 => ⟨S2x8x8192x128, .f32⟩
  | 74 => ⟨S2x8x8192x128, .f32⟩
  | 75 => ⟨S2x8192x8x256, .f32⟩
  | 76 => ⟨S2x8x8192x256, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S8, .f32⟩
  | 88 => ⟨S1x8x1x1, .f32⟩
  | 89 => ⟨S2x8x8192x1, .f32⟩
  | 90 => ⟨S_, .i1⟩
  | 91 => ⟨S64x64, .i1⟩
  | 92 => ⟨S64x64, .i32⟩
  | 93 => ⟨S_, .i32⟩
  | 94 => ⟨S64x64, .i32⟩
  | 95 => ⟨S64x64, .i32⟩
  | 96 => ⟨S64x64, .i32⟩
  | 97 => ⟨S64x64, .i1⟩
  | 98 => ⟨S_, .i1⟩
  | 99 => ⟨S64x64, .i1⟩
  | 100 => ⟨S64x64, .i1⟩
  | 101 => ⟨S2x8x128x64x128, .f32⟩
  | 102 => ⟨S2x8x128x64x128, .f32⟩
  | 103 => ⟨S2x8x128x64x256, .f32⟩
  | 104 => ⟨S2x8x128x64x1, .f32⟩
  | 105 => ⟨S_, .f32⟩
  | 106 => ⟨S_, .f32⟩
  | 107 => ⟨S2x8x128x64x1, .f32⟩
  | 108 => ⟨S2x8x128x64x1, .f32⟩
  | 109 => ⟨S2x8x128x64x128, .f32⟩
  | 110 => ⟨S2x8x128x64x128, .f32⟩
  | 111 => ⟨S2x8x128x64x1, .f32⟩
  | 112 => ⟨S2x8x128x64x1, .f32⟩
  | 113 => ⟨S2x8x128x64x128, .f32⟩
  | 114 => ⟨S2x8x128x64x128, .f32⟩
  | 115 => ⟨S2x8x128x64x64, .f32⟩
  | 116 => ⟨S_, .f32⟩
  | 117 => ⟨S_, .f32⟩
  | 118 => ⟨S2x8x128x64x64, .i1⟩
  | 119 => ⟨S2x8x128x64x64, .f32⟩
  | 120 => ⟨S2x8x128x64x64, .f32⟩
  | 121 => ⟨S2x8x128x64x256, .f32⟩
  | 122 => ⟨S2x8x128x1x1, .f32⟩
  | 123 => ⟨S2x8x128x64x1, .f32⟩
  | 124 => ⟨S2x8x128x64x1, .f32⟩
  | 125 => ⟨S2x8x128x64x1, .f32⟩
  | 126 => ⟨S2x8x128x64x128, .f32⟩
  | 127 => ⟨S2x8x128x64x128, .f32⟩
  | _ => ⟨S2x8192x12288, .f32⟩

abbrev hbmTy0_1 (i : Nat) : BufTy := match i % 128 with
  | 0 => ⟨S2x8x128x1x1, .f32⟩
  | 1 => ⟨S2x8x128x1, .f32⟩
  | 2 => ⟨S2x8x128x1, .f32⟩
  | 3 => ⟨S128x2x8x64x128, .f32⟩
  | 4 => ⟨S128x2x8x64x128, .f32⟩
  | 5 => ⟨S128x2x8x64x256, .f32⟩
  | 6 => ⟨S128x2x8x1, .f32⟩
  | 7 => ⟨S128x2x8x64x256, .f32⟩
  | 8 => ⟨S_, .f32⟩
  | 9 => ⟨S2x8x128x256, .f32⟩
  | 10 => ⟨S_, .f32⟩
  | 11 => ⟨S128x2x8x64x256, .f32⟩
  | 12 => ⟨S_, .i32⟩
  | 13 => ⟨S128x2x8x64x128, .f32⟩
  | 14 => ⟨S128x2x8x64x128, .f32⟩
  | 15 => ⟨S128x2x8x64x256, .f32⟩
  | 16 => ⟨S128x2x8x1, .f32⟩
  | 17 => ⟨S128x2x8x64x256, .f32⟩
  | 18 => ⟨S_, .i32⟩
  | 19 => ⟨S2x8x128x256, .f32⟩
  | 20 => ⟨S128x2x8x64x256, .f32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S1x2x8x64x128, .f32⟩
  | 28 => ⟨S2x8x64x128, .f32⟩
  | 29 => ⟨S_, .i32⟩
  | 30 => ⟨S_, .i32⟩
  | 31 => ⟨S_, .i32⟩
  | 32 => ⟨S_, .i32⟩
  | 33 => ⟨S1x2x8x64x128, .f32⟩
  | 34 => ⟨S2x8x64x128, .f32⟩
  | 35 => ⟨S_, .i32⟩
  | 36 => ⟨S_, .i32⟩
  | 37 => ⟨S_, .i32⟩
  | 38 => ⟨S_, .i32⟩
  | 39 => ⟨S1x2x8x64x256, .f32⟩
  | 40 => ⟨S2x8x64x256, .f32⟩
  | 41 => ⟨S_, .i32⟩
  | 42 => ⟨S_, .i32⟩
  | 43 => ⟨S_, .i32⟩
  | 44 => ⟨S1x2x8x1, .f32⟩
  | 45 => ⟨S2x8x1, .f32⟩
  | 46 => ⟨S_, .i32⟩
  | 47 => ⟨S_, .i32⟩
  | 48 => ⟨S_, .i32⟩
  | 49 => ⟨S_, .i32⟩
  | 50 => ⟨S1x2x8x64x256, .f32⟩
  | 51 => ⟨S2x8x64x256, .f32⟩
  | 52 => ⟨S2x8x64x256, .f32⟩
  | 53 => ⟨S2x8x64x256, .f32⟩
  | 54 => ⟨S2x8x1x1, .f32⟩
  | 55 => ⟨S2x8x128x256, .f32⟩
  | 56 => ⟨S2x8x128x256, .f32⟩
  | 57 => ⟨S2x8x128x256, .f32⟩
  | 58 => ⟨S2x8x128x256, .f32⟩
  | 59 => ⟨S1x2x8x64x256, .f32⟩
  | 60 => ⟨S_, .i32⟩
  | 61 => ⟨S_, .i32⟩
  | 62 => ⟨S_, .i32⟩
  | 63 => ⟨S_, .i32⟩
  | 64 => ⟨S128x2x8x64x256, .f32⟩
  | 65 => ⟨S_, .i32⟩
  | 66 => ⟨S_, .i32⟩
  | 67 => ⟨S2x8x128x64x256, .f32⟩
  | 68 => ⟨S2x8x8192x256, .f32⟩
  | 69 => ⟨S2x8192x2048, .f32⟩
  | 70 => ⟨S2x8x8192x256, .f32⟩
  | 71 => ⟨S_, .f32⟩
  | 72 => ⟨S2x8x8192, .f32⟩
  | 73 => ⟨S2x8x8192x1, .f32⟩
  | 74 => ⟨S_, .f32⟩
  | 75 => ⟨S2x8x8192x1, .f32⟩
  | 76 => ⟨S2x8x8192x1, .f32⟩
  | 77 => ⟨S_, .f32⟩
  | 78 => ⟨S2x8x8192x1, .f32⟩
  | 79 => ⟨S2x8x8192x1, .f32⟩
  | 80 => ⟨S2x8x8192x1, .f32⟩
  | 81 => ⟨S2x8x8192x256, .f32⟩
  | 82 => ⟨S2x8x8192x256, .f32⟩
  | 83 => ⟨S2x8192x8x256, .f32⟩
  | 84 => ⟨S2x8x8192x256, .f32⟩
  | 85 => ⟨S2x8x8192x256, .f32⟩
  | 86 => ⟨S2x8x8192x256, .f32⟩
  | 87 => ⟨S_, .f32⟩
  | 88 => ⟨S2x8x8192x256, .f32⟩
  | 89 => ⟨S2x8x8192x256, .f32⟩
  | 90 => ⟨S_, .f32⟩
  | 91 => ⟨S2x8x8192x256, .f32⟩
  | 92 => ⟨S2x8x8192x256, .f32⟩
  | 93 => ⟨S2x8x8192x256, .f32⟩
  | 94 => ⟨S2x8x8192x256, .f32⟩
  | 95 => ⟨S2x8192x8x256, .f32⟩
  | 96 => ⟨S2x8192x2048, .f32⟩
  | 97 => ⟨S2x8192x2048, .bf16⟩
  | _ => ⟨S2x8192x12288, .f32⟩

abbrev hbmTy (i : Nat) : BufTy := match i / 128 with
  | 0 => hbmTy0_0 i
  | 1 => hbmTy0_1 i
  | _ => ⟨S2x8192x12288, .f32⟩

abbrev bufTy : (tb : Table) → Fin (tcTables nBuf tb) → BufTy
  | .hbm, ⟨i, _⟩ => hbmTy i
  | _, _ => ⟨S2x8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_v3 : Ref sig .tc := ⟨.hbm, 27, rfl⟩
abbrev main_cst_1 : Ref sig .tc := ⟨.hbm, 28, rfl⟩
abbrev main_v4 : Ref sig .tc := ⟨.hbm, 29, rfl⟩
abbrev main_v5 : Ref sig .tc := ⟨.hbm, 30, rfl⟩
abbrev main_cst_2 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_3 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_4 : Ref sig .tc := ⟨.hbm, 78, rfl⟩
abbrev main_v51 : Ref sig .tc := ⟨.hbm, 79, rfl⟩
abbrev main_v52 : Ref sig .tc := ⟨.hbm, 80, rfl⟩
abbrev main_cst_5 : Ref sig .tc := ⟨.hbm, 81, rfl⟩
abbrev main_v53 : Ref sig .tc := ⟨.hbm, 82, rfl⟩
abbrev main_v54 : Ref sig .tc := ⟨.hbm, 83, rfl⟩
abbrev main_cst_6 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c : Ref sig .tc := ⟨.hbm, 90, rfl⟩
abbrev main_v60 : Ref sig .tc := ⟨.hbm, 91, rfl⟩
abbrev main_call1_v0 : Ref sig .tc := ⟨.hbm, 92, rfl⟩
abbrev main_call1_c : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_c_0 : Ref sig .tc := ⟨.hbm, 98, rfl⟩
abbrev main_call1_v5 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_call2_call0_cst : Ref sig .tc := ⟨.hbm, 105, rfl⟩
abbrev main_call2_call0_v0 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_7 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_8 : Ref sig .tc := ⟨.hbm, 136, rfl⟩
abbrev main_v91 : Ref sig .tc := ⟨.hbm, 137, rfl⟩
abbrev main_cst_9 : Ref sig .tc := ⟨.hbm, 138, rfl⟩
abbrev main_v92 : Ref sig .tc := ⟨.hbm, 139, rfl⟩
abbrev main_c_10 : Ref sig .tc := ⟨.hbm, 140, rfl⟩
abbrev main_v93_0 : Ref sig .tc := ⟨.hbm, 141, rfl⟩
abbrev main_v93_1 : Ref sig .tc := ⟨.hbm, 142, rfl⟩
abbrev main_v93_2 : Ref sig .tc := ⟨.hbm, 143, rfl⟩
abbrev main_v93_3 : Ref sig .tc := ⟨.hbm, 144, rfl⟩
abbrev main_v93_4 : Ref sig .tc := ⟨.hbm, 145, rfl⟩
abbrev main_v93_5 : Ref sig .tc := ⟨.hbm, 146, rfl⟩
abbrev main_v93_6 : Ref sig .tc := ⟨.hbm, 147, rfl⟩
abbrev main_v93_7 : Ref sig .tc := ⟨.hbm, 148, rfl⟩
abbrev main_while0c_c_21 : Ref sig .tc := ⟨.hbm, 149, rfl⟩
abbrev main_while0c_v114 : Ref sig .tc := ⟨.hbm, 150, rfl⟩
abbrev main_while0b_call4_c : Ref sig .tc := ⟨.hbm, 151, rfl⟩
abbrev main_while0b_call4_c_0 : Ref sig .tc := ⟨.hbm, 152, rfl⟩
abbrev main_while0b_call4_c_1 : Ref sig .tc := ⟨.hbm, 153, rfl⟩
abbrev main_while0b_call4_c_2 : Ref sig .tc := ⟨.hbm, 154, rfl⟩
abbrev main_while0b_call4_v0 : Ref sig .tc := ⟨.hbm, 155, rfl⟩
abbrev main_while0b_v114 : Ref sig .tc := ⟨.hbm, 156, rfl⟩
abbrev main_while0b_call5_c : Ref sig .tc := ⟨.hbm, 157, rfl⟩
abbrev main_while0b_call5_c_0 : Ref sig .tc := ⟨.hbm, 158, rfl⟩
abbrev main_while0b_call5_c_1 : Ref sig .tc := ⟨.hbm, 159, rfl⟩
abbrev main_while0b_call5_c_2 : Ref sig .tc := ⟨.hbm, 160, rfl⟩
abbrev main_while0b_call5_v0 : Ref sig .tc := ⟨.hbm, 161, rfl⟩
abbrev main_while0b_v115 : Ref sig .tc := ⟨.hbm, 162, rfl⟩
abbrev main_while0b_call6_c : Ref sig .tc := ⟨.hbm, 163, rfl⟩
abbrev main_while0b_call6_c_0 : Ref sig .tc := ⟨.hbm, 164, rfl⟩
abbrev main_while0b_call6_c_1 : Ref sig .tc := ⟨.hbm, 165, rfl⟩
abbrev main_while0b_call6_c_2 : Ref sig .tc := ⟨.hbm, 166, rfl⟩
abbrev main_while0b_call6_v0 : Ref sig .tc := ⟨.hbm, 167, rfl⟩
abbrev main_while0b_v116 : Ref sig .tc := ⟨.hbm, 168, rfl⟩
abbrev main_while0b_call7_c : Ref sig .tc := ⟨.hbm, 169, rfl⟩
abbrev main_while0b_call7_c_0 : Ref sig .tc := ⟨.hbm, 170, rfl⟩
abbrev main_while0b_call7_c_1 : Ref sig .tc := ⟨.hbm, 171, rfl⟩
abbrev main_while0b_call7_v0 : Ref sig .tc := ⟨.hbm, 172, rfl⟩
abbrev main_while0b_v117 : Ref sig .tc := ⟨.hbm, 173, rfl⟩
abbrev main_while0b_call8_c : Ref sig .tc := ⟨.hbm, 174, rfl⟩
abbrev main_while0b_call8_c_0 : Ref sig .tc := ⟨.hbm, 175, rfl⟩
abbrev main_while0b_call8_c_1 : Ref sig .tc := ⟨.hbm, 176, rfl⟩
abbrev main_while0b_call8_c_2 : Ref sig .tc := ⟨.hbm, 177, rfl⟩
abbrev main_while0b_call8_v0 : Ref sig .tc := ⟨.hbm, 178, rfl⟩
abbrev main_while0b_v118 : Ref sig .tc := ⟨.hbm, 179, rfl⟩
abbrev main_while0b_v119 : Ref sig .tc := ⟨.hbm, 180, rfl⟩
abbrev main_while0b_v120 : Ref sig .tc := ⟨.hbm, 181, rfl⟩
abbrev main_while0b_v121 : Ref sig .tc := ⟨.hbm, 182, rfl⟩
abbrev main_while0b_v122 : Ref sig .tc := ⟨.hbm, 183, rfl⟩
abbrev main_while0b_v123 : Ref sig .tc := ⟨.hbm, 184, rfl⟩
abbrev main_while0b_v124 : Ref sig .tc := ⟨.hbm, 185, rfl⟩
abbrev main_while0b_v125 : Ref sig .tc := ⟨.hbm, 186, rfl⟩
abbrev main_while0b_call9_v0 : Ref sig .tc := ⟨.hbm, 187, rfl⟩
abbrev main_while0b_call9_c : Ref sig .tc := ⟨.hbm, 188, rfl⟩
abbrev main_while0b_call9_c_0 : Ref sig .tc := ⟨.hbm, 189, rfl⟩
abbrev main_while0b_call9_c_1 : Ref sig .tc := ⟨.hbm, 190, rfl⟩
abbrev main_while0b_call9_c_2 : Ref sig .tc := ⟨.hbm, 191, rfl⟩
abbrev main_while0b_v126 : Ref sig .tc := ⟨.hbm, 192, rfl⟩
abbrev main_while0b_c_21 : Ref sig .tc := ⟨.hbm, 193, rfl⟩
abbrev main_while0b_v127 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_cst_11 : Ref sig .tc := ⟨.hbm, 199, rfl⟩
abbrev main_v98 : Ref sig .tc := ⟨.hbm, 200, rfl⟩
abbrev main_v99 : Ref sig .tc := ⟨.hbm, 201, rfl⟩
abbrev main_cst_12 : Ref sig .tc := ⟨.hbm, 202, rfl⟩
abbrev main_v100 : Ref sig .tc := ⟨.hbm, 203, rfl⟩
abbrev main_v101 : Ref sig .tc := ⟨.hbm, 204, rfl⟩
abbrev main_cst_13 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩
abbrev main_v106 : Ref sig .tc := ⟨.hbm, 210, rfl⟩
abbrev main_v107 : Ref sig .tc := ⟨.hbm, 211, rfl⟩
abbrev main_v108 : Ref sig .tc := ⟨.hbm, 212, rfl⟩
abbrev main_call10_v0 : Ref sig .tc := ⟨.hbm, 213, rfl⟩
abbrev main_call10_v1 : Ref sig .tc := ⟨.hbm, 214, rfl⟩
abbrev main_call10_cst : Ref sig .tc := ⟨.hbm, 215, rfl⟩
abbrev main_call10_v2 : Ref sig .tc := ⟨.hbm, 216, rfl⟩
abbrev main_call10_v3 : Ref sig .tc := ⟨.hbm, 217, rfl⟩
abbrev main_call10_cst_0 : Ref sig .tc := ⟨.hbm, 218, rfl⟩
abbrev main_call10_v4 : Ref sig .tc := ⟨.hbm, 219, rfl⟩
abbrev main_call10_v5 : Ref sig .tc := ⟨.hbm, 220, rfl⟩
abbrev main_v109 : Ref sig .tc := ⟨.hbm, 221, rfl⟩
abbrev main_v110 : Ref sig .tc := ⟨.hbm, 222, rfl⟩
abbrev main_v111 : Ref sig .tc := ⟨.hbm, 223, rfl⟩
abbrev main_v112 : Ref sig .tc := ⟨.hbm, 224, rfl⟩
abbrev main_v113 : Ref sig .tc := ⟨.hbm, 225, rfl⟩

abbrev nD : Nat := 1
abbrev τ : Topo := Topo.v7x

variable {F : FTy → Type} [FloatOps F]

abbrev main_while0_count : Scf.Loop 32 := ⟨0#32, 128#32, 1#32⟩
-- ==== KernelCastOut.lean ====
abbrev S1x4096x4096 : Shape := ⟨3, ![1, 4096, 4096]⟩
abbrev S4096x4096 : Shape := ⟨2, ![4096, 4096]⟩
abbrev S1x512x4096 : Shape := ⟨3, ![1, 512, 4096]⟩
abbrev S512x4096 : Shape := ⟨2, ![512, 4096]⟩

abbrev nBuf : Space → Nat
  | .hbm => 2
  | .vmem => 4
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .bf16⟩
  | .local _ .vmem, ⟨0, _⟩ => ⟨S1x512x4096, .f32⟩
  | .local _ .vmem, ⟨1, _⟩ => ⟨S1x512x4096, .f32⟩
  | .local _ .vmem, ⟨2, _⟩ => ⟨S512x4096, .bf16⟩
  | .local _ .vmem, ⟨3, _⟩ => ⟨S512x4096, .bf16⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceCastOutIdeal.lean ====
abbrev S1x4096x4096 : Shape := ⟨3, ![1, 4096, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S4096x4096, .bf16⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== KernelCastUp.lean ====
abbrev S2x4096x16384 : Shape := ⟨3, ![2, 4096, 16384]⟩
abbrev S4096x16384 : Shape := ⟨2, ![4096, 16384]⟩
abbrev S1x128x16384 : Shape := ⟨3, ![1, 128, 16384]⟩
abbrev S128x16384 : Shape := ⟨2, ![128, 16384]⟩

abbrev nBuf : Space → Nat
  | .hbm => 2
  | .vmem => 4
  | .smem => 0
  | _ => 0

abbrev bufTy : (tb : Table) → Fin (tcTables nBuf tb) → BufTy
  | .hbm, ⟨0, _⟩ => ⟨S2x4096x16384, .f32⟩
  | .hbm, ⟨1, _⟩ => ⟨S4096x16384, .bf16⟩
  | .local _ .vmem, ⟨0, _⟩ => ⟨S1x128x16384, .f32⟩
  | .local _ .vmem, ⟨1, _⟩ => ⟨S1x128x16384, .f32⟩
  | .local _ .vmem, ⟨2, _⟩ => ⟨S128x16384, .bf16⟩
  | .local _ .vmem, ⟨3, _⟩ => ⟨S128x16384, .bf16⟩
  | _, _ => ⟨S2x4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceCastUpIdeal.lean ====
abbrev S2x4096x16384 : Shape := ⟨3, ![2, 4096, 16384]⟩
abbrev S1x4096x16384 : Shape := ⟨3, ![1, 4096, 16384]⟩
abbrev S4096x16384 : Shape := ⟨2, ![4096, 16384]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x16384, .f32⟩
  | .hbm, ⟨1, _⟩ => ⟨S1x4096x16384, .f32⟩
  | .hbm, ⟨2, _⟩ => ⟨S4096x16384, .f32⟩
  | .hbm, ⟨3, _⟩ => ⟨S4096x16384, .bf16⟩
  | _, _ => ⟨S2x4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== KernelCastUp2.lean ====
abbrev S2x4096x16384 : Shape := ⟨3, ![2, 4096, 16384]⟩
abbrev S4096x16384 : Shape := ⟨2, ![4096, 16384]⟩
abbrev S1x128x16384 : Shape := ⟨3, ![1, 128, 16384]⟩
abbrev S128x16384 : Shape := ⟨2, ![128, 16384]⟩

abbrev nBuf : Space → Nat
  | .hbm => 2
  | .vmem => 4
  | .smem => 0
  | _ => 0

abbrev bufTy : (tb : Table) → Fin (tcTables nBuf tb) → BufTy
  | .hbm, ⟨0, _⟩ => ⟨S2x4096x16384, .f32⟩
  | .hbm, ⟨1, _⟩ => ⟨S4096x16384, .bf16⟩
  | .local _ .vmem, ⟨0, _⟩ => ⟨S1x128x16384, .f32⟩
  | .local _ .vmem, ⟨1, _⟩ => ⟨S1x128x16384, .f32⟩
  | .local _ .vmem, ⟨2, _⟩ => ⟨S128x16384, .bf16⟩
  | .local _ .vmem, ⟨3, _⟩ => ⟨S128x16384, .bf16⟩
  | _, _ => ⟨S2x4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceCastUp2Ideal.lean ====
abbrev S2x4096x16384 : Shape := ⟨3, ![2, 4096, 16384]⟩
abbrev S1x4096x16384 : Shape := ⟨3, ![1, 4096, 16384]⟩
abbrev S4096x16384 : Shape := ⟨2, ![4096, 16384]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x16384, .f32⟩
  | .hbm, ⟨1, _⟩ => ⟨S1x4096x16384, .f32⟩
  | .hbm, ⟨2, _⟩ => ⟨S4096x16384, .f32⟩
  | .hbm, ⟨3, _⟩ => ⟨S4096x16384, .bf16⟩
  | _, _ => ⟨S2x4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== KernelCastDown.lean ====
abbrev S2x16384x4096 : Shape := ⟨3, ![2, 16384, 4096]⟩
abbrev S16384x4096 : Shape := ⟨2, ![16384, 4096]⟩
abbrev S1x512x4096 : Shape := ⟨3, ![1, 512, 4096]⟩
abbrev S512x4096 : Shape := ⟨2, ![512, 4096]⟩

abbrev nBuf : Space → Nat
  | .hbm => 2
  | .vmem => 4
  | .smem => 0
  | _ => 0

abbrev bufTy : (tb : Table) → Fin (tcTables nBuf tb) → BufTy
  | .hbm, ⟨0, _⟩ => ⟨S2x16384x4096, .f32⟩
  | .hbm, ⟨1, _⟩ => ⟨S16384x4096, .bf16⟩
  | .local _ .vmem, ⟨0, _⟩ => ⟨S1x512x4096, .f32⟩
  | .local _ .vmem, ⟨1, _⟩ => ⟨S1x512x4096, .f32⟩
  | .local _ .vmem, ⟨2, _⟩ => ⟨S512x4096, .bf16⟩
  | .local _ .vmem, ⟨3, _⟩ => ⟨S512x4096, .bf16⟩
  | _, _ => ⟨S2x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceCastDownIdeal.lean ====
abbrev S2x16384x4096 : Shape := ⟨3, ![2, 16384, 4096]⟩
abbrev S1x16384x4096 : Shape := ⟨3, ![1, 16384, 4096]⟩
abbrev S16384x4096 : Shape := ⟨2, ![16384, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2x16384x4096, .f32⟩
  | .hbm, ⟨1, _⟩ => ⟨S1x16384x4096, .f32⟩
  | .hbm, ⟨2, _⟩ => ⟨S16384x4096, .f32⟩
  | .hbm, ⟨3, _⟩ => ⟨S16384x4096, .bf16⟩
  | _, _ => ⟨S2x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== KernelCastDown2.lean ====
abbrev S2x16384x4096 : Shape := ⟨3, ![2, 16384, 4096]⟩
abbrev S16384x4096 : Shape := ⟨2, ![16384, 4096]⟩
abbrev S1x512x4096 : Shape := ⟨3, ![1, 512, 4096]⟩
abbrev S512x4096 : Shape := ⟨2, ![512, 4096]⟩

abbrev nBuf : Space → Nat
  | .hbm => 2
  | .vmem => 4
  | .smem => 0
  | _ => 0

abbrev bufTy : (tb : Table) → Fin (tcTables nBuf tb) → BufTy
  | .hbm, ⟨0, _⟩ => ⟨S2x16384x4096, .f32⟩
  | .hbm, ⟨1, _⟩ => ⟨S16384x4096, .bf16⟩
  | .local _ .vmem, ⟨0, _⟩ => ⟨S1x512x4096, .f32⟩
  | .local _ .vmem, ⟨1, _⟩ => ⟨S1x512x4096, .f32⟩
  | .local _ .vmem, ⟨2, _⟩ => ⟨S512x4096, .bf16⟩
  | .local _ .vmem, ⟨3, _⟩ => ⟨S512x4096, .bf16⟩
  | _, _ => ⟨S2x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceCastDown2Ideal.lean ====
abbrev S2x16384x4096 : Shape := ⟨3, ![2, 16384, 4096]⟩
abbrev S1x16384x4096 : Shape := ⟨3, ![1, 16384, 4096]⟩
abbrev S16384x4096 : Shape := ⟨2, ![16384, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2x16384x4096, .f32⟩
  | .hbm, ⟨1, _⟩ => ⟨S1x16384x4096, .f32⟩
  | .hbm, ⟨2, _⟩ => ⟨S16384x4096, .f32⟩
  | .hbm, ⟨3, _⟩ => ⟨S16384x4096, .bf16⟩
  | _, _ => ⟨S2x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.GlaBlocks.lean ====
/- The gated linear attention kernel, one chunk of 64 rows at a time: what a chunk computes from its rows of the
   inputs and the state before it, as functions that the four chunks of a grid point share. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Gla
open Cert.KernelIdeal Cert.KernelIdeal.Gen

variable {F : FTy → Type} [FloatOps F]

/-- Chunk `p`'s rows of head `h` of a query or key block. -/
def cutK (x : Vec F S1x256x1024 .f32) (p h : ℕ) : Vec F S1x64x256 .f32 :=
  fun y => x (ix3 (0 : Fin 1) (⟨(64 * p + (y 1 : ℕ)) % 256, Nat.mod_lt _ (by decide)⟩ : Fin 256) (⟨(256 * h + (y 2 : ℕ)) % 1024, Nat.mod_lt _ (by decide)⟩ : Fin 1024))

/-- Chunk `p`'s rows of head `h` of a value or gate block. -/
def cutV (x : Vec F S1x256x2048 .f32) (p h : ℕ) : Vec F S1x64x512 .f32 :=
  fun y => x (ix3 (0 : Fin 1) (⟨(64 * p + (y 1 : ℕ)) % 256, Nat.mod_lt _ (by decide)⟩ : Fin 256) (⟨(512 * h + (y 2 : ℕ)) % 2048, Nat.mod_lt _ (by decide)⟩ : Fin 2048))

/-- Chunk `p`'s rows of the low-rank decay block. -/
def cutL (x : Vec F S1x256x128 .f32) (p : ℕ) : Vec F S1x64x128 .f32 :=
  fun y => x (ix3 (0 : Fin 1) (⟨(64 * p + (y 1 : ℕ)) % 256, Nat.mod_lt _ (by decide)⟩ : Fin 256) (⟨(y 2 : ℕ) % 128, Nat.mod_lt _ (by decide)⟩ : Fin 128))

/-- Head `h`'s slice of the four states. -/
def hd (s : Vec F S4x256x512 .f32) (h : ℕ) : Vec F S1x256x512 .f32 :=
  fun y => s (ix3 (⟨h % 4, Nat.mod_lt _ (by decide)⟩ : Fin 4) (⟨(y 1 : ℕ) % 256, Nat.mod_lt _ (by decide)⟩ : Fin 256) (⟨(y 2 : ℕ) % 512, Nat.mod_lt _ (by decide)⟩ : Fin 512))

theorem ld_cutK (x : Vec F S1x256x1024 .f32) (o o' p h : ℕ) (ho : o = 64 * p) (ho' : o' = 256 * h) (inb) (hp : p < 4) (hh : h < 4) :
    View.ld (Val := Elt F) x (Rect.unit ![0, o, o'] S1x64x256.size inb) = cutK x p h := by
  funext y
  refine View.ld_unit_apply_of x _ _ inb y _ fun a => ?_
  have h1 : (y 1 : ℕ) < 64 := (y 1).isLt
  have h2 : (y 2 : ℕ) < 256 := (y 2).isLt
  have h0 : (y 0 : ℕ) < 1 := (y 0).isLt
  fin_cases a
  · show 0 = 0 + (y 0 : ℕ); omega
  · show (64 * p + (y 1 : ℕ)) % 256 = o + (y 1 : ℕ); omega
  · show (256 * h + (y 2 : ℕ)) % 1024 = o' + (y 2 : ℕ); omega

theorem ld_cutV (x : Vec F S1x256x2048 .f32) (o o' p h : ℕ) (ho : o = 64 * p) (ho' : o' = 512 * h) (inb) (hp : p < 4) (hh : h < 4) :
    View.ld (Val := Elt F) x (Rect.unit ![0, o, o'] S1x64x512.size inb) = cutV x p h := by
  funext y
  refine View.ld_unit_apply_of x _ _ inb y _ fun a => ?_
  have h1 : (y 1 : ℕ) < 64 := (y 1).isLt
  have h2 : (y 2 : ℕ) < 512 := (y 2).isLt
  have h0 : (y 0 : ℕ) < 1 := (y 0).isLt
  fin_cases a
  · show 0 = 0 + (y 0 : ℕ); omega
  · show (64 * p + (y 1 : ℕ)) % 256 = o + (y 1 : ℕ); omega
  · show (512 * h + (y 2 : ℕ)) % 2048 = o' + (y 2 : ℕ); omega

theorem ld_cutL (x : Vec F S1x256x128 .f32) (o p : ℕ) (ho : o = 64 * p) (inb) (hp : p < 4) :
    View.ld (Val := Elt F) x (Rect.unit ![0, o, 0] S1x64x128.size inb) = cutL x p := by
  funext y
  refine View.ld_unit_apply_of x _ _ inb y _ fun a => ?_
  have h1 : (y 1 : ℕ) < 64 := (y 1).isLt
  have h2 : (y 2 : ℕ) < 128 := (y 2).isLt
  have h0 : (y 0 : ℕ) < 1 := (y 0).isLt
  fin_cases a
  · show 0 = 0 + (y 0 : ℕ); omega
  · show (64 * p + (y 1 : ℕ)) % 256 = o + (y 1 : ℕ); omega
  · show (y 2 : ℕ) % 128 = 0 + (y 2 : ℕ); omega

theorem ld_hd (x : Vec F S4x256x512 .f32) (h : ℕ) (inb) (hh : h < 4) :
    View.ld (Val := Elt F) x (Rect.unit ![h, 0, 0] S1x256x512.size inb) = hd x h := by
  funext y
  refine View.ld_unit_apply_of x _ _ inb y _ fun a => ?_
  have h1 : (y 1 : ℕ) < 256 := (y 1).isLt
  have h2 : (y 2 : ℕ) < 512 := (y 2).isLt
  have h0 : (y 0 : ℕ) < 1 := (y 0).isLt
  fin_cases a
  · show h % 4 = h + (y 0 : ℕ); omega
  · show (y 1 : ℕ) % 256 = 0 + (y 1 : ℕ); omega
  · show (y 2 : ℕ) % 512 = 0 + (y 2 : ℕ); omega

/-- The running sums of the log decays down a chunk. -/
def gBC (la : Vec F S1x64x128 .f32) (wu : Vec F S128x1024 .f32) (wb : Vec F S1x1024 .f32) : FVec F S64x1024 .f32 :=
  k0_pay11 (k0_pay7 la wu wb) (k0_pay8 (iota Kind.tc S64x64 32 [0] iota_S64x64_d0_w32) (iota Kind.tc S64x64 32 [1] iota_S64x64_d1_w32)) k0_pay9 k0_pay10

/-- Which rows see which: the same head, at the same row or an earlier one. -/
def gM : IVec S256x256 1 :=
  k0_pay6 (iota Kind.tc S256x256 32 [0] iota_S256x256_d0_w32) (iota Kind.tc S256x256 32 [1] iota_S256x256_d1_w32) k0_pay3 (64#32) k0_pay4 k0_pay5 1#32 0#1

/-- The scaled queries of a chunk, head under head. -/
def gQ (x : Vec F S1x256x1024 .f32) (p : ℕ) : FVec F S256x256 .f32 := k0_pay12 (cutK x p 0) (cutK x p 1) (cutK x p 2) (cutK x p 3)
/-- The keys of a chunk, head under head. -/
def gK (x : Vec F S1x256x1024 .f32) (p : ℕ) : FVec F S256x256 .f32 := k0_pay13 (cutK x p 0) (cutK x p 1) (cutK x p 2) (cutK x p 3)
/-- The values of a chunk, head under head. -/
def gV (x : Vec F S1x256x2048 .f32) (p : ℕ) : FVec F S256x512 .f32 := k0_pay16 (k0_pay14 (cutV x p 0)) (k0_pay15 (cutV x p 1)) (cutV x p 2) (cutV x p 3)

/-- The output rows of a chunk before the norm. -/
def gO (b : FVec F S64x1024 .f32) (q k : FVec F S256x256 .f32) (v : FVec F S256x512 .f32) (s0 s1 s2 s3 : Vec F S1x256x512 .f32) : FVec F S256x512 .f32 :=
  k0_pay29 v (k0_pay23 b q) (k0_pay24 gM b q k) s0 s1 s2 s3

/-- The keys decayed to the end of the chunk. -/
def gKE (b : FVec F S64x1024 .f32) (k : FVec F S256x256 .f32) : FVec F S256x256 .f32 := k0_pay30 k (k0_pay17 b) (k0_pay18 b)

/-- Each head's state after the chunk. -/
def gN0 (b : FVec F S64x1024 .f32) (k : FVec F S256x256 .f32) (v : FVec F S256x512 .f32) (s : Vec F S1x256x512 .f32) : Vec F S1x256x512 .f32 :=
  k0_pay32 (k0_pay31 k v (k0_pay17 b) (k0_pay18 b) (k0_pay19 b) s)
def gN1 (b : FVec F S64x1024 .f32) (k : FVec F S256x256 .f32) (v : FVec F S256x512 .f32) (s : Vec F S1x256x512 .f32) : Vec F S1x256x512 .f32 :=
  k0_pay33 v (k0_pay20 b) (k0_pay26 s) (gKE b k)
def gN2 (b : FVec F S64x1024 .f32) (k : FVec F S256x256 .f32) (v : FVec F S256x512 .f32) (s : Vec F S1x256x512 .f32) : Vec F S1x256x512 .f32 :=
  k0_pay34 v (k0_pay21 b) (k0_pay27 s) (gKE b k)
def gN3 (b : FVec F S64x1024 .f32) (k : FVec F S256x256 .f32) (v : FVec F S256x512 .f32) (s : Vec F S1x256x512 .f32) : Vec F S1x256x512 .f32 :=
  k0_pay35 v (k0_pay22 b) (k0_pay28 s) (gKE b k)

/-- Each head's output tile: normed, scaled and gated. -/
def gT0 (o : FVec F S256x512 .f32) (nw : Vec F S1x512 .f32) (r : Vec F S1x64x512 .f32) : Vec F S1x64x512 .bf16 :=
  k0_pay39 o (k0_pay36 o) k0_pay37 nw r
def gT1 (o : FVec F S256x512 .f32) (nw : Vec F S1x512 .f32) (r : Vec F S1x64x512 .f32) : Vec F S1x64x512 .bf16 :=
  k0_pay41 (k0_pay40 o (k0_pay36 o) k0_pay37 nw r)
def gT2 (o : FVec F S256x512 .f32) (nw : Vec F S1x512 .f32) (r : Vec F S1x64x512 .f32) : Vec F S1x64x512 .bf16 :=
  k0_pay42 (k0_pay38 o (k0_pay36 o) k0_pay37 nw) r
def gT3 (o : FVec F S256x512 .f32) (nw : Vec F S1x512 .f32) (r : Vec F S1x64x512 .f32) : Vec F S1x64x512 .bf16 :=
  k0_pay43 (k0_pay38 o (k0_pay36 o) k0_pay37 nw) r

/-- The states after `p` chunks of a grid point that starts at `s`. -/
def gS (x1 : Vec F S1x256x1024 .f32) (x2 : Vec F S1x256x2048 .f32) (x4 : Vec F S1x256x128 .f32) (x5 : Vec F S128x1024 .f32) (x6 : Vec F S1x1024 .f32)
    (s : Vec F S4x256x512 .f32) : ℕ → ℕ → Vec F S1x256x512 .f32
  | 0, h => hd s h
  | p + 1, 0 => gN0 (gBC (cutL x4 p) x5 x6) (gK x1 p) (gV x2 p) (gS x1 x2 x4 x5 x6 s p 0)
  | p + 1, 1 => gN1 (gBC (cutL x4 p) x5 x6) (gK x1 p) (gV x2 p) (gS x1 x2 x4 x5 x6 s p 1)
  | p + 1, 2 => gN2 (gBC (cutL x4 p) x5 x6) (gK x1 p) (gV x2 p) (gS x1 x2 x4 x5 x6 s p 2)
  | p + 1, h + 3 => gN3 (gBC (cutL x4 p) x5 x6) (gK x1 p) (gV x2 p) (gS x1 x2 x4 x5 x6 s p (h + 3))

/-- The output rows of chunk `p` of a grid point, before the norm. -/
def gOp (x0 x1 : Vec F S1x256x1024 .f32) (x2 : Vec F S1x256x2048 .f32) (x4 : Vec F S1x256x128 .f32) (x5 : Vec F S128x1024 .f32) (x6 : Vec F S1x1024 .f32)
    (s : Vec F S4x256x512 .f32) (p : ℕ) : FVec F S256x512 .f32 :=
  gO (gBC (cutL x4 p) x5 x6) (gQ x0 p) (gK x1 p) (gV x2 p) (gS x1 x2 x4 x5 x6 s p 0) (gS x1 x2 x4 x5 x6 s p 1) (gS x1 x2 x4 x5 x6 s p 2) (gS x1 x2 x4 x5 x6 s p 3)

/-- The output tile of head `h` in chunk `p`. -/
def gT (x0 x1 : Vec F S1x256x1024 .f32) (x2 x3 : Vec F S1x256x2048 .f32) (x4 : Vec F S1x256x128 .f32) (x5 : Vec F S128x1024 .f32) (x6 : Vec F S1x1024 .f32)
    (x7 : Vec F S1x512 .f32) (s : Vec F S4x256x512 .f32) (p : ℕ) : ℕ → Vec F S1x64x512 .bf16
  | 0 => gT0 (gOp x0 x1 x2 x4 x5 x6 s p) x7 (cutV x3 p 0)
  | 1 => gT1 (gOp x0 x1 x2 x4 x5 x6 s p) x7 (cutV x3 p 1)
  | 2 => gT2 (gOp x0 x1 x2 x4 x5 x6 s p) x7 (cutV x3 p 2)
  | h + 3 => gT3 (gOp x0 x1 x2 x4 x5 x6 s p) x7 (cutV x3 p (h + 3))

/-- A grid point's states at its end, as one array. -/
def gSS (x1 : Vec F S1x256x1024 .f32) (x2 : Vec F S1x256x2048 .f32) (x4 : Vec F S1x256x128 .f32) (x5 : Vec F S128x1024 .f32) (x6 : Vec F S1x1024 .f32)
    (s : Vec F S4x256x512 .f32) : Vec F S4x256x512 .f32 :=
  fun y => gS x1 x2 x4 x5 x6 s 4 (y 0 : ℕ) (ix3 (0 : Fin 1) (⟨(y 1 : ℕ), (y 1).isLt⟩ : Fin 256) (⟨(y 2 : ℕ), (y 2).isLt⟩ : Fin 512))

/-- A grid point's output block, as one array. -/
def gTT (x0 x1 : Vec F S1x256x1024 .f32) (x2 x3 : Vec F S1x256x2048 .f32) (x4 : Vec F S1x256x128 .f32) (x5 : Vec F S128x1024 .f32) (x6 : Vec F S1x1024 .f32)
    (x7 : Vec F S1x512 .f32) (s : Vec F S4x256x512 .f32) : Vec F S1x256x2048 .bf16 :=
  fun y => gT x0 x1 x2 x3 x4 x5 x6 x7 s ((y 1 : ℕ) / 64) ((y 2 : ℕ) / 512)
    (ix3 (0 : Fin 1) (⟨(y 1 : ℕ) % 64, Nat.mod_lt _ (by decide)⟩ : Fin 64) (⟨(y 2 : ℕ) % 512, Nat.mod_lt _ (by decide)⟩ : Fin 512))

/-- A head's stored states are that head's slice of the array. -/
theorem gSS_piece (x1 : Vec F S1x256x1024 .f32) (x2 : Vec F S1x256x2048 .f32) (x4 : Vec F S1x256x128 .f32) (x5 : Vec F S128x1024 .f32) (x6 : Vec F S1x1024 .f32)
    (s : Vec F S4x256x512 .f32) (h : ℕ) (inb) (y : S1x256x512.Idx) :
    gS x1 x2 x4 x5 x6 s 4 h y = gSS x1 x2 x4 x5 x6 s ((Rect.unit (s := S4x256x512) ![h, 0, 0] S1x256x512.size inb).emb y) := by
  have h0 : (y 0 : ℕ) < 1 := (y 0).isLt
  have e0 : (((Rect.unit (s := S4x256x512) ![h, 0, 0] S1x256x512.size inb).emb y) 0 : ℕ) = h := by
    refine (Rect.idx_unit_val _ _ inb y 0).trans ?_; show h + (y 0 : ℕ) = h; omega
  have e1 : (((Rect.unit (s := S4x256x512) ![h, 0, 0] S1x256x512.size inb).emb y) 1 : ℕ) = (y 1 : ℕ) := by
    refine (Rect.idx_unit_val _ _ inb y 1).trans ?_; show 0 + (y 1 : ℕ) = (y 1 : ℕ); omega
  have e2 : (((Rect.unit (s := S4x256x512) ![h, 0, 0] S1x256x512.size inb).emb y) 2 : ℕ) = (y 2 : ℕ) := by
    refine (Rect.idx_unit_val _ _ inb y 2).trans ?_; show 0 + (y 2 : ℕ) = (y 2 : ℕ); omega
  unfold gSS
  rw [e0]
  refine congrArg _ (funext fun a => Fin.ext ?_)
  fin_cases a
  · show (y 0 : ℕ) = 0; omega
  · exact e1.symm
  · exact e2.symm

/-- A stored output tile is its part of the array. -/
theorem gTT_piece (x0 x1 : Vec F S1x256x1024 .f32) (x2 x3 : Vec F S1x256x2048 .f32) (x4 : Vec F S1x256x128 .f32) (x5 : Vec F S128x1024 .f32) (x6 : Vec F S1x1024 .f32)
    (x7 : Vec F S1x512 .f32) (s : Vec F S4x256x512 .f32) (p h o o' : ℕ) (ho : o = 64 * p) (ho' : o' = 512 * h) (inb) (y : S1x64x512.Idx) :
    gT x0 x1 x2 x3 x4 x5 x6 x7 s p h y = gTT x0 x1 x2 x3 x4 x5 x6 x7 s ((Rect.unit (s := S1x256x2048) ![0, o, o'] S1x64x512.size inb).emb y) := by
  have h0 : (y 0 : ℕ) < 1 := (y 0).isLt
  have h1 : (y 1 : ℕ) < 64 := (y 1).isLt
  have h2 : (y 2 : ℕ) < 512 := (y 2).isLt
  have e1 : (((Rect.unit (s := S1x256x2048) ![0, o, o'] S1x64x512.size inb).emb y) 1 : ℕ) = o + (y 1 : ℕ) := Rect.idx_unit_val _ _ inb y 1
  have e2 : (((Rect.unit (s := S1x256x2048) ![0, o, o'] S1x64x512.size inb).emb y) 2 : ℕ) = o' + (y 2 : ℕ) := Rect.idx_unit_val _ _ inb y 2
  have f1 : (((Rect.unit (s := S1x256x2048) ![0, o, o'] S1x64x512.size inb).emb y) 1 : ℕ) / 64 = p := by rw [e1]; omega
  have f2 : (((Rect.unit (s := S1x256x2048) ![0, o, o'] S1x64x512.size inb).emb y) 2 : ℕ) / 512 = h := by rw [e2]; omega
  unfold gTT
  rw [f1, f2]
  refine congrArg _ (funext fun a => Fin.ext ?_)
  fin_cases a
  · show (y 0 : ℕ) = 0; omega
  · show (y 1 : ℕ) = (((Rect.unit (s := S1x256x2048) ![0, o, o'] S1x64x512.size inb).emb y) 1 : ℕ) % 64; rw [e1]; omega
  · show (y 2 : ℕ) = (((Rect.unit (s := S1x256x2048) ![0, o, o'] S1x64x512.size inb).emb y) 2 : ℕ) % 512; rw [e2]; omega

end Cert.KernelIdeal.Gla
end
-- ==== Proof.GlaSpec.lean ====
/- Gated linear attention over the extended reals, entry by entry: the log decays, their running sums down a chunk of
   64 rows, the state before each chunk, and the normed and gated output. -/
module

public import Idealize.ShloMosaic.Lib.Pointwise

@[expose] public section

noncomputable section

open Idealize.ShloMosaic

namespace Cert.Gla

/-- Key column `d` of head `h`. -/
def colK (h : Fin 4) (d : Fin 256) : Fin 1024 := ⟨256 * h.val + d.val, by omega⟩
/-- Value column `e` of head `h`. -/
def colV (h : Fin 4) (e : Fin 512) : Fin 2048 := ⟨512 * h.val + e.val, by omega⟩
/-- Row `i` of chunk `n` of a sequence. -/
def seq (n : ℕ) (i : Fin 64) : Fin 8192 := ⟨(64 * n + i.val) % 8192, Nat.mod_lt _ (by decide)⟩

theorem at2 {n0 n1 : ℕ} {α : Type} (x : (⟨2, ![n0, n1]⟩ : Shape).Idx → α) {a a' : Fin n0} {b b' : Fin n1} (ha : (a : ℕ) = a') (hb : (b : ℕ) = b') :
    x (ix2 a b) = x (ix2 a' b') := by rw [Fin.ext ha, Fin.ext hb]

theorem at3 {n0 n1 n2 : ℕ} {α : Type} (x : (⟨3, ![n0, n1, n2]⟩ : Shape).Idx → α) {a a' : Fin n0} {b b' : Fin n1} {c c' : Fin n2}
    (ha : (a : ℕ) = a') (hb : (b : ℕ) = b') (hc : (c : ℕ) = c') : x (ix3 a b c) = x (ix3 a' b' c') := by
  rw [Fin.ext ha, Fin.ext hb, Fin.ext hc]

/-- The scale of the queries and of the log decay, 1/16. -/
abbrev κ : EReal := Ideal.ofBits FTy.f32 1031798784#32

/-- The log decay of a gate: a sixteenth of the log of its sigmoid. -/
def lg (z : EReal) : EReal := (0 - (max (0 - z) 0 + Ideal.log1p (Ideal.exp (0 - FloatOps.absf (F := Ideal) (φ := .f32) (0 - z))))) * κ

/-- An output entry: the row over its root mean square, scaled and gated. -/
def tile (o : Fin 512 → EReal) (w r : EReal) (e : Fin 512) : EReal :=
  o e * Ideal.rsqrt (Ideal.div (∑ x, o x * o x) (Ideal.ofBits FTy.f32 1140850688#32) + Ideal.ofBits FTy.f32 897988541#32) * w
    * (r * Ideal.div 1 (1 + Ideal.exp (0 - r)))

/-- The running sums of a chunk's log decays. -/
def cum (g : Fin 64 → Fin 256 → EReal) (i : Fin 64) (d : Fin 256) : EReal := ∑ j : Fin 64, if j ≤ i then g j d else 0

/-- The state after a chunk. -/
def nextS (b k : Fin 64 → Fin 256 → EReal) (v : Fin 64 → Fin 512 → EReal) (s : Fin 256 → Fin 512 → EReal) (d : Fin 256) (e : Fin 512) : EReal :=
  s d e * Ideal.exp (b 63 d) + ∑ j : Fin 64, (k j d * Ideal.exp (b 63 d - b j d)) * v j e

/-- The rows a chunk gives before the norm. -/
def outO (b q k : Fin 64 → Fin 256 → EReal) (v : Fin 64 → Fin 512 → EReal) (s : Fin 256 → Fin 512 → EReal) (i : Fin 64) (e : Fin 512) : EReal :=
  (∑ j : Fin 64, (if j ≤ i then ∑ d : Fin 256, (q i d * Ideal.exp (b i d)) * (k j d * Ideal.exp (0 - b j d)) else 0) * v j e)
    + ∑ d : Fin 256, (q i d * Ideal.exp (b i d)) * s d e

section
variable (Y : (⟨3, ![2, 8192, 12288]⟩ : Shape).Idx → EReal) (LA : (⟨3, ![2, 8192, 128]⟩ : Shape).Idx → EReal)
variable (WU : (⟨2, ![16, 1024]⟩ : Shape).Idx → EReal) (BU : (⟨1, ![1024]⟩ : Shape).Idx → EReal) (NW : (⟨1, ![512]⟩ : Shape).Idx → EReal)

/-- Query, key and value rows of a chunk, and its log decays. -/
def qA (b : Fin 2) (n : ℕ) (h : Fin 4) (i : Fin 64) (d : Fin 256) : EReal := Y (ix3 b (seq n i) (⟨6144 + (colK h d).val, by omega⟩ : Fin 12288)) * κ
def kA (b : Fin 2) (n : ℕ) (h : Fin 4) (i : Fin 64) (d : Fin 256) : EReal := Y (ix3 b (seq n i) (⟨7168 + (colK h d).val, by omega⟩ : Fin 12288))
def vA (b : Fin 2) (n : ℕ) (h : Fin 4) (i : Fin 64) (e : Fin 512) : EReal := Y (ix3 b (seq n i) (⟨8192 + (colV h e).val, by omega⟩ : Fin 12288))
def rA (b : Fin 2) (n : ℕ) (h : Fin 4) (i : Fin 64) (e : Fin 512) : EReal := Y (ix3 b (seq n i) (⟨10240 + (colV h e).val, by omega⟩ : Fin 12288))
def gA (b : Fin 2) (n : ℕ) (h : Fin 4) (i : Fin 64) (d : Fin 256) : EReal :=
  lg (∑ k : Fin 16, LA (ix3 b (seq n i) (⟨k.val, by omega⟩ : Fin 128)) * WU (ix2 k (colK h d)) + BU (ix1 (colK h d)))

/-- The state of head `h` of sequence `b` before chunk `n`. -/
def stA (b : Fin 2) (h : Fin 4) : ℕ → Fin 256 → Fin 512 → EReal
  | 0 => fun _ _ => 0
  | n + 1 => nextS (cum (gA LA WU BU b n h)) (kA Y b n h) (vA Y b n h) (stA b h n)

/-- The rows chunk `n` gives before the norm. -/
def oA (b : Fin 2) (n : ℕ) (h : Fin 4) : Fin 64 → Fin 512 → EReal :=
  outO (cum (gA LA WU BU b n h)) (qA Y b n h) (kA Y b n h) (vA Y b n h) (stA Y LA WU BU b h n)

/-- An entry of the result. -/
def resA (b : Fin 2) (n : ℕ) (h : Fin 4) (i : Fin 64) (e : Fin 512) : EReal :=
  tile (oA Y LA WU BU b n h i) (NW (ix1 e)) (rA Y b n h i e) e
end

end Cert.Gla
end
-- ==== Proof.GlaMath.lean ====
/- The gated linear attention kernel's chunk functions, entry by entry. -/
module

public import proofs.«01_k».proof.Proof.GlaBlocks
public import proofs.«01_k».proof.Proof.GlaSpec

@[expose] public section

set_option maxRecDepth 16384

noncomputable section

open Idealize.ShloMosaic Idealize.ShloMosaic.TcCoe Idealize.SL.Sem

namespace Cert.KernelIdeal.Gla
open Cert.KernelIdeal Cert.KernelIdeal.Gen Cert.Gla

/-- Row `i` of head `h` in a chunk's stacked rows. -/
def row (h : Fin 4) (i : Fin 64) : Fin 256 := ⟨64 * h.val + i.val, by omega⟩
/-- Row `i` of chunk `p` in a grid point's block. -/
def rowP (p : Fin 4) (i : Fin 64) : Fin 256 := ⟨64 * p.val + i.val, by omega⟩

theorem gQ_at (x : Vec Ideal S1x256x1024 .f32) (p h : Fin 4) (i : Fin 64) (d : Fin 256) :
    gQ x p (ix2 (row h i) d) = (x (ix3 (0 : Fin 1) (rowP p i) (colK h d)) : EReal) * κ := by
  pointwise [gQ, k0_pay12, cutK, row, rowP, colK]
  split_ifs <;> refine congrArg (fun z : EReal => z * κ) (at3 x rfl ?_ ?_) <;> dsimp only <;> omega

theorem gK_at (x : Vec Ideal S1x256x1024 .f32) (p h : Fin 4) (i : Fin 64) (d : Fin 256) :
    gK x p (ix2 (row h i) d) = x (ix3 (0 : Fin 1) (rowP p i) (colK h d)) := by
  pointwise [gK, k0_pay13, cutK, row, rowP, colK]
  split_ifs <;> refine at3 x rfl ?_ ?_ <;> dsimp only <;> omega

theorem gV_at (x : Vec Ideal S1x256x2048 .f32) (p h : Fin 4) (i : Fin 64) (e : Fin 512) :
    gV x p (ix2 (row h i) e) = x (ix3 (0 : Fin 1) (rowP p i) (colV h e)) := by
  pointwise [gV, k0_pay14, k0_pay15, k0_pay16, cutV, row, rowP, colV]
  split_ifs <;> refine at3 x rfl ?_ ?_ <;> dsimp only <;> omega

theorem b_at (b : FVec Ideal S64x1024 .f32) (h : Fin 4) (i : Fin 64) (d : Fin 256) :
    k0_pay17 b (ix2 (row h i) d) = b (ix2 i (colK h d)) := by
  pointwise [k0_pay17, row, colK]
  split_ifs <;> refine at2 b ?_ ?_ <;> dsimp only <;> omega

theorem bl_at (b : FVec Ideal S64x1024 .f32) (h : Fin 4) (i : Fin 64) (d : Fin 256) :
    k0_pay18 b (ix2 (row h i) d) = b (ix2 63 (colK h d)) := by
  pointwise [k0_pay18, row, colK]
  split_ifs <;> refine at2 b rfl ?_ <;> dsimp only <;> omega

/-- The sum over the stacked rows of a term that vanishes off one head. -/
theorem sum_head (h : Fin 4) (f : Fin 256 → EReal) (hf : ∀ s : Fin 256, s.val / 64 ≠ h.val → f s = 0) :
    ∑ s, f s = ∑ j : Fin 64, f (row h j) := by
  have hinj : Function.Injective (row h) := fun a b hab => by
    have := congrArg Fin.val hab; simp only [row] at this; exact Fin.ext (by omega)
  rw [show (∑ j : Fin 64, f (row h j)) = ∑ j : Fin 64, f ((⟨row h, hinj⟩ : Fin 64 ↪ Fin 256) j) from rfl, ← Finset.sum_map Finset.univ ⟨row h, hinj⟩ f]
  symm
  refine Finset.sum_subset (Finset.subset_univ _) fun s _ hs => hf s fun hh => hs ?_
  rw [Finset.mem_map]
  exact ⟨⟨s.val % 64, Nat.mod_lt _ (by decide)⟩, Finset.mem_univ _, Fin.ext (by show 64 * h.val + s.val % 64 = s.val; omega)⟩

theorem pay3_at (r s : Fin 256) : k0_pay3 (ix2 r s) = BitVec.ofNat 32 (r.val / 64) := by
  pointwise [k0_pay3]
  revert r; decide +kernel

theorem pay6_col (s : Fin 256) (v5 : IVec S256x256 32) (v30 : IVec S256x256 32) (r : Fin 256) (h5 : v5 (ix2 r s) = BitVec.ofNat 32 r.val) (h30 : v30 (ix2 r s) = BitVec.ofNat 32 (r.val / 64)) :
    k0_pay6 v5 (iota Kind.tc S256x256 32 [1] iota_S256x256_d1_w32) v30 (64#32) k0_pay4 k0_pay5 1#32 0#1 (ix2 r s)
      = IntOp.andi (IntOp.cmpi .eq (BitVec.ofNat 32 (r.val / 64)) (BitVec.ofNat 32 (s.val / 64))) (IntOp.cmpi .sge (BitVec.ofNat 32 r.val) (BitVec.ofNat 32 s.val)) := by
  pointwise [k0_pay6, k0_pay4, k0_pay5]
  rw [h5, h30]
  refine congrArg (fun z => IntOp.andi (IntOp.cmpi .eq (BitVec.ofNat 32 (r.val / 64)) z) (IntOp.cmpi .sge (BitVec.ofNat 32 r.val) (BitVec.ofNat 32 s.val))) ?_
  clear h5 h30
  revert s; decide +kernel

theorem gM_at (r s : Fin 256) : gM (ix2 r s) = if r.val / 64 = s.val / 64 ∧ s.val ≤ r.val then 1#1 else 0#1 := by
  unfold gM
  rw [pay6_col s _ _ r (by pointwise) (pay3_at r s), WordCmp.cmpi_eq_ofNat (by omega) (by omega), WordCmp.cmpi_sge_ofNat (by omega) (by omega)]
  by_cases h1 : r.val / 64 = s.val / 64 <;> by_cases h2 : s.val ≤ r.val <;> simp [h1, h2, IntOp.andi]

/-- The masked scores: those of the same head, up to the row. -/
theorem attn_at (b : FVec Ideal S64x1024 .f32) (q k : FVec Ideal S256x256 .f32) (h : Fin 4) (i j : Fin 64) :
    k0_pay24 gM b q k (ix2 (row h i) (row h j)) = if j ≤ i then ∑ d : Fin 256,
      ((q (ix2 (row h i) d) : EReal) * Ideal.exp (b (ix2 i (colK h d)))) * (k (ix2 (row h j) d) * Ideal.exp (0 - b (ix2 j (colK h d)))) else (0 : EReal) := by
  have hm : gM (ix2 (row h i) (row h j)) = if j ≤ i then 1#1 else 0#1 := by
    rw [gM_at]; refine if_congr ?_ rfl rfl
    simp only [row, Fin.le_def]; omega
  pointwise [k0_pay24, k0_pay23]
  simp only [hm, b_at]
  split_ifs <;> rfl

theorem attn_off (b : FVec Ideal S64x1024 .f32) (q k : FVec Ideal S256x256 .f32) (h : Fin 4) (i : Fin 64) (s : Fin 256) (hs : s.val / 64 ≠ h.val) :
    k0_pay24 gM b q k (ix2 (row h i) s) = (0 : EReal) := by
  have hm : gM (ix2 (row h i) s) = 0#1 := by
    rw [gM_at, if_neg]
    simp only [row]; omega
  pointwise [k0_pay24, k0_pay23]
  rw [hm]; rfl

theorem gO_at (b : FVec Ideal S64x1024 .f32) (q k : FVec Ideal S256x256 .f32) (v : FVec Ideal S256x512 .f32) (s0 s1 s2 s3 : Vec Ideal S1x256x512 .f32)
    (s : Fin 4 → Vec Ideal S1x256x512 .f32) (e0 : s 0 = s0) (e1 : s 1 = s1) (e2 : s 2 = s2) (e3 : s 3 = s3) (h : Fin 4) (i : Fin 64) (e : Fin 512) :
    gO b q k v s0 s1 s2 s3 (ix2 (row h i) e) = (∑ j : Fin 64, k0_pay24 gM b q k (ix2 (row h i) (row h j)) * (v (ix2 (row h j) e) : EReal))
      + ∑ d : Fin 256, ((q (ix2 (row h i) d) : EReal) * Ideal.exp (b (ix2 i (colK h d)))) * s h (ix3 (0 : Fin 1) d e) := by
  rw [← sum_head h (fun t => k0_pay24 gM b q k (ix2 (row h i) t) * (v (ix2 t e) : EReal)) fun t ht => by rw [attn_off b q k h i t ht, zero_mul]]
  simp only [← b_at b h i]
  pointwise [gO, k0_pay29, k0_pay25, k0_pay26, k0_pay27, k0_pay28, k0_pay23]
  refine congrArg (fun z : EReal => (∑ t : Fin 256, k0_pay24 gM b q k (ix2 (row h i) t) * (v (ix2 t e) : EReal)) + z) ?_
  have hr : (row h i : ℕ) = 64 * (h : ℕ) + i := rfl
  split_ifs <;> first
    | exact congrArg₂ (fun (t : Fin 256) (S : Vec Ideal S1x256x512 .f32) => ∑ x : Fin 256, q (ix2 t x) * Ideal.exp (k0_pay17 b (ix2 t x)) * S (ix3 (0 : Fin 1) x e))
        rfl (e0.symm.trans (congrArg s (Fin.ext (by show 0 = h.val; omega))))
    | exact congrArg₂ (fun (t : Fin 256) (S : Vec Ideal S1x256x512 .f32) => ∑ x : Fin 256, q (ix2 t x) * Ideal.exp (k0_pay17 b (ix2 t x)) * S (ix3 (0 : Fin 1) x e))
        (Fin.ext (by dsimp only; omega)) (e1.symm.trans (congrArg s (Fin.ext (by show 1 = h.val; omega))))
    | exact congrArg₂ (fun (t : Fin 256) (S : Vec Ideal S1x256x512 .f32) => ∑ x : Fin 256, q (ix2 t x) * Ideal.exp (k0_pay17 b (ix2 t x)) * S (ix3 (0 : Fin 1) x e))
        (Fin.ext (by dsimp only; omega)) (e2.symm.trans (congrArg s (Fin.ext (by show 2 = h.val; omega))))
    | exact congrArg₂ (fun (t : Fin 256) (S : Vec Ideal S1x256x512 .f32) => ∑ x : Fin 256, q (ix2 t x) * Ideal.exp (k0_pay17 b (ix2 t x)) * S (ix3 (0 : Fin 1) x e))
        (Fin.ext (by dsimp only; omega)) (e3.symm.trans (congrArg s (Fin.ext (by show 3 = h.val; omega))))

theorem gKE_at (b : FVec Ideal S64x1024 .f32) (k : FVec Ideal S256x256 .f32) (h : Fin 4) (i : Fin 64) (d : Fin 256) :
    gKE b k (ix2 (row h i) d) = (k (ix2 (row h i) d) : EReal) * Ideal.exp (b (ix2 63 (colK h d)) - b (ix2 i (colK h d))) := by
  rw [← b_at b h i d, ← bl_at b h i d]
  pointwise [gKE, k0_pay30]

theorem gN0_at (b : FVec Ideal S64x1024 .f32) (k : FVec Ideal S256x256 .f32) (v : FVec Ideal S256x512 .f32) (s : Vec Ideal S1x256x512 .f32) (d : Fin 256) (e : Fin 512) :
    gN0 b k v s (ix3 (0 : Fin 1) d e) = (s (ix3 (0 : Fin 1) d e) : EReal) * Ideal.exp (b (ix2 63 (colK 0 d)))
      + ∑ j : Fin 64, gKE b k (ix2 (row 0 j) d) * (v (ix2 (row 0 j) e) : EReal) := by
  pointwise [gN0, gKE, k0_pay32, k0_pay31, k0_pay30, k0_pay25, k0_pay19]
  simp only [row, colK, Fin.isValue, Fin.coe_ofNat_eq_mod, Nat.reduceMod, Nat.mul_zero, Nat.zero_add, Nat.reduceMul]

theorem gN1_at (b : FVec Ideal S64x1024 .f32) (k : FVec Ideal S256x256 .f32) (v : FVec Ideal S256x512 .f32) (s : Vec Ideal S1x256x512 .f32) (d : Fin 256) (e : Fin 512) :
    gN1 b k v s (ix3 (0 : Fin 1) d e) = (s (ix3 (0 : Fin 1) d e) : EReal) * Ideal.exp (b (ix2 63 (colK 1 d)))
      + ∑ j : Fin 64, gKE b k (ix2 (row 1 j) d) * (v (ix2 (row 1 j) e) : EReal) := by
  pointwise [gN1, gKE, k0_pay33, k0_pay26, k0_pay20]
  simp only [row, colK, Fin.isValue, Fin.coe_ofNat_eq_mod, Nat.reduceMod, Nat.mul_zero, Nat.zero_add, Nat.reduceMul]

theorem gN2_at (b : FVec Ideal S64x1024 .f32) (k : FVec Ideal S256x256 .f32) (v : FVec Ideal S256x512 .f32) (s : Vec Ideal S1x256x512 .f32) (d : Fin 256) (e : Fin 512) :
    gN2 b k v s (ix3 (0 : Fin 1) d e) = (s (ix3 (0 : Fin 1) d e) : EReal) * Ideal.exp (b (ix2 63 (colK 2 d)))
      + ∑ j : Fin 64, gKE b k (ix2 (row 2 j) d) * (v (ix2 (row 2 j) e) : EReal) := by
  pointwise [gN2, gKE, k0_pay34, k0_pay27, k0_pay21]
  simp only [row, colK, Fin.isValue, Fin.coe_ofNat_eq_mod, Nat.reduceMod, Nat.mul_zero, Nat.zero_add, Nat.reduceMul]

theorem gN3_at (b : FVec Ideal S64x1024 .f32) (k : FVec Ideal S256x256 .f32) (v : FVec Ideal S256x512 .f32) (s : Vec Ideal S1x256x512 .f32) (d : Fin 256) (e : Fin 512) :
    gN3 b k v s (ix3 (0 : Fin 1) d e) = (s (ix3 (0 : Fin 1) d e) : EReal) * Ideal.exp (b (ix2 63 (colK 3 d)))
      + ∑ j : Fin 64, gKE b k (ix2 (row 3 j) d) * (v (ix2 (row 3 j) e) : EReal) := by
  pointwise [gN3, gKE, k0_pay35, k0_pay28, k0_pay22]
  simp only [row, colK, Fin.isValue, Fin.coe_ofNat_eq_mod, Nat.reduceMod, Nat.mul_zero, Nat.zero_add, Nat.reduceMul]

theorem gT0_at (o : FVec Ideal S256x512 .f32) (nw : Vec Ideal S1x512 .f32) (r : Vec Ideal S1x64x512 .f32) (i : Fin 64) (e : Fin 512) :
    gT0 o nw r (ix3 (0 : Fin 1) i e) = tile (fun x => o (ix2 (row 0 i) x)) (nw (ix2 0 e)) (r (ix3 (0 : Fin 1) i e)) e := by
  pointwise [gT0, k0_pay39, k0_pay38, k0_pay37, k0_pay36]
  unfold tile
  simp only [row, colK, Fin.isValue, Fin.coe_ofNat_eq_mod, Nat.reduceMod, Nat.mul_zero, Nat.zero_add, Nat.reduceMul]

theorem gT1_at (o : FVec Ideal S256x512 .f32) (nw : Vec Ideal S1x512 .f32) (r : Vec Ideal S1x64x512 .f32) (i : Fin 64) (e : Fin 512) :
    gT1 o nw r (ix3 (0 : Fin 1) i e) = tile (fun x => o (ix2 (row 1 i) x)) (nw (ix2 0 e)) (r (ix3 (0 : Fin 1) i e)) e := by
  pointwise [gT1, k0_pay41, k0_pay40, k0_pay38, k0_pay37, k0_pay36]
  unfold tile
  simp only [row, colK, Fin.isValue, Fin.coe_ofNat_eq_mod, Nat.reduceMod, Nat.mul_zero, Nat.zero_add, Nat.reduceMul]

theorem gT2_at (o : FVec Ideal S256x512 .f32) (nw : Vec Ideal S1x512 .f32) (r : Vec Ideal S1x64x512 .f32) (i : Fin 64) (e : Fin 512) :
    gT2 o nw r (ix3 (0 : Fin 1) i e) = tile (fun x => o (ix2 (row 2 i) x)) (nw (ix2 0 e)) (r (ix3 (0 : Fin 1) i e)) e := by
  pointwise [gT2, k0_pay42, k0_pay38, k0_pay37, k0_pay36]
  unfold tile
  simp only [row, colK, Fin.isValue, Fin.coe_ofNat_eq_mod, Nat.reduceMod, Nat.mul_zero, Nat.zero_add, Nat.reduceMul]

theorem gT3_at (o : FVec Ideal S256x512 .f32) (nw : Vec Ideal S1x512 .f32) (r : Vec Ideal S1x64x512 .f32) (i : Fin 64) (e : Fin 512) :
    gT3 o nw r (ix3 (0 : Fin 1) i e) = tile (fun x => o (ix2 (row 3 i) x)) (nw (ix2 0 e)) (r (ix3 (0 : Fin 1) i e)) e := by
  pointwise [gT3, k0_pay43, k0_pay38, k0_pay37, k0_pay36]
  unfold tile
  simp only [row, colK, Fin.isValue, Fin.coe_ofNat_eq_mod, Nat.reduceMod, Nat.mul_zero, Nat.zero_add, Nat.reduceMul]

theorem gBC_at (la : Vec Ideal S1x64x128 .f32) (wu : Vec Ideal S128x1024 .f32) (wb : Vec Ideal S1x1024 .f32) (i : Fin 64) (c : Fin 1024) :
    gBC la wu wb (ix2 i c) = ∑ j : Fin 64, if j ≤ i then lg (∑ k : Fin 128, la (ix3 (0 : Fin 1) j k) * wu (ix2 k c) + wb (ix2 (0 : Fin 1) c)) else (0 : EReal) := by
  pointwise [gBC, k0_pay11, k0_pay7, k0_pay8, k0_pay9, k0_pay10]
  refine Finset.sum_congr rfl fun j _ => ?_
  rw [WordCmp.cmpi_sge_ofNat (by omega) (by omega)]
  by_cases hj : j ≤ i
  · rw [if_pos hj, decide_eq_true (Fin.le_def.mp hj)]; rfl
  · rw [if_neg hj, decide_eq_false (fun hh => hj (Fin.le_def.mpr hh))]; rfl

end Cert.KernelIdeal.Gla
end
-- ==== Proof.GlaPoint.lean ====
/- What a grid point of the gated linear attention kernel computes is the specification of its four chunks. -/
module

public import proofs.«01_k».proof.Proof.GlaMath

@[expose] public section

set_option maxRecDepth 16384

noncomputable section

open Idealize.ShloMosaic Idealize.ShloMosaic.TcCoe Idealize.SL.Sem

namespace Cert.KernelIdeal.Gla
open Cert.KernelIdeal Cert.KernelIdeal.Gen Cert.Gla

variable (Y : (⟨3, ![2, 8192, 12288]⟩ : Shape).Idx → EReal) (LA : (⟨3, ![2, 8192, 128]⟩ : Shape).Idx → EReal)
variable (WU : (⟨2, ![16, 1024]⟩ : Shape).Idx → EReal) (BU : (⟨1, ![1024]⟩ : Shape).Idx → EReal) (NW : (⟨1, ![512]⟩ : Shape).Idx → EReal)
variable (x0 x1 : Vec Ideal S1x256x1024 .f32) (x2 x3 : Vec Ideal S1x256x2048 .f32) (x4 : Vec Ideal S1x256x128 .f32) (x5 : Vec Ideal S128x1024 .f32)
variable (x6 : Vec Ideal S1x1024 .f32) (x7 : Vec Ideal S1x512 .f32) (s : Vec Ideal S4x256x512 .f32)

/-- The blocks of a grid point hold four chunks of sequence `b`, from chunk `4 g`. -/
structure Holds (b : Fin 2) (g : ℕ) : Prop where
  q : ∀ (p h : Fin 4) (i : Fin 64) (d : Fin 256), (x0 (ix3 (0 : Fin 1) (rowP p i) (colK h d)) : EReal) * κ = qA Y b (4 * g + p.val) h i d
  k : ∀ (p h : Fin 4) (i : Fin 64) (d : Fin 256), x1 (ix3 (0 : Fin 1) (rowP p i) (colK h d)) = kA Y b (4 * g + p.val) h i d
  v : ∀ (p h : Fin 4) (i : Fin 64) (e : Fin 512), x2 (ix3 (0 : Fin 1) (rowP p i) (colV h e)) = vA Y b (4 * g + p.val) h i e
  r : ∀ (p h : Fin 4) (i : Fin 64) (e : Fin 512), x3 (ix3 (0 : Fin 1) (rowP p i) (colV h e)) = rA Y b (4 * g + p.val) h i e
  a : ∀ (p : Fin 4) (i : Fin 64) (k : Fin 128), x4 (ix3 (0 : Fin 1) (rowP p i) k) = LA (ix3 b (seq (4 * g + p.val) i) k)
  w : ∀ (k : Fin 128) (c : Fin 1024), x5 (ix2 k c) = if hk : k.val < 16 then WU (ix2 (⟨k.val, hk⟩ : Fin 16) c) else (0 : EReal)
  bu : ∀ c : Fin 1024, x6 (ix2 (0 : Fin 1) c) = BU (ix1 c)
  nw : ∀ e : Fin 512, x7 (ix2 (0 : Fin 1) e) = NW (ix1 e)

/-- Lanes past the rank meet zero rows of the padded weights. -/
theorem sum_rank (f : Fin 128 → EReal) (w : Fin 16 → EReal) :
    (∑ k : Fin 128, f k * (if hk : k.val < 16 then w ⟨k.val, hk⟩ else 0)) = ∑ k : Fin 16, f ⟨k.val, by omega⟩ * w k := by
  show (∑ k : Fin (16 + 112), _) = _
  rw [Fin.sum_univ_add]
  have h2 : (∑ k : Fin 112, f (Fin.natAdd 16 k) * (if hk : (Fin.natAdd 16 k : Fin (16 + 112)).val < 16 then w ⟨_, hk⟩ else 0)) = 0 := by
    refine Finset.sum_eq_zero fun k _ => ?_
    rw [dif_neg (by simp), mul_zero]
  rw [h2, add_zero]
  refine Finset.sum_congr rfl fun k _ => ?_
  rw [dif_pos (show (Fin.castAdd 112 k : Fin (16 + 112)).val < 16 from k.isLt)]
  rfl

variable {Y LA WU BU NW x0 x1 x2 x3 x4 x5 x6 x7 s} {b : Fin 2} {g : ℕ}

theorem cutL_at (p : Fin 4) (j : Fin 64) (k : Fin 128) : cutL x4 p (ix3 (0 : Fin 1) j k) = x4 (ix3 (0 : Fin 1) (rowP p j) k) := by
  unfold cutL rowP
  refine at3 x4 rfl ?_ ?_
  · show (64 * p.val + j.val) % 256 = 64 * p.val + j.val; omega
  · show k.val % 128 = k.val; omega

theorem cutV_at (p h : Fin 4) (j : Fin 64) (e : Fin 512) : cutV x3 p h (ix3 (0 : Fin 1) j e) = x3 (ix3 (0 : Fin 1) (rowP p j) (colV h e)) := by
  unfold cutV rowP colV
  refine at3 x3 rfl ?_ ?_
  · show (64 * p.val + j.val) % 256 = 64 * p.val + j.val; omega
  · show (512 * h.val + e.val) % 2048 = 512 * h.val + e.val; omega

theorem bc_at (H : Holds Y LA WU BU NW x0 x1 x2 x3 x4 x5 x6 x7 b g) (p h : Fin 4) (i : Fin 64) (d : Fin 256) :
    gBC (cutL x4 p) x5 x6 (ix2 i (colK h d)) = cum (gA LA WU BU b (4 * g + p.val) h) i d := by
  rw [gBC_at]
  unfold cum
  refine Finset.sum_congr rfl fun j _ => ?_
  split_ifs
  · unfold gA
    rw [H.bu]
    refine congrArg (fun z => lg (z + BU (ix1 (colK h d)))) ?_
    rw [← sum_rank (fun k => LA (ix3 b (seq (4 * g + p.val) j) k)) (fun k => WU (ix2 k (colK h d)))]
    refine Finset.sum_congr rfl fun k _ => ?_
    rw [cutL_at, H.a, H.w]
  · rfl

/-- One head's state after a chunk. -/
theorem gS_succ (p : ℕ) (h : Fin 4) (d : Fin 256) (e : Fin 512) :
    gS x1 x2 x4 x5 x6 s (p + 1) h (ix3 (0 : Fin 1) d e) = ((gS x1 x2 x4 x5 x6 s p h (ix3 (0 : Fin 1) d e) : EReal) * Ideal.exp (gBC (cutL x4 p) x5 x6 (ix2 63 (colK h d))))
      + ∑ j : Fin 64, gKE (gBC (cutL x4 p) x5 x6) (gK x1 p) (ix2 (row h j) d) * (gV x2 p (ix2 (row h j) e) : EReal) := by
  obtain ⟨h, hh⟩ := h
  interval_cases h
  · exact gN0_at _ _ _ _ d e
  · exact gN1_at _ _ _ _ d e
  · exact gN2_at _ _ _ _ d e
  · exact gN3_at _ _ _ _ d e

theorem st_at (H : Holds Y LA WU BU NW x0 x1 x2 x3 x4 x5 x6 x7 b g) (hs : ∀ (h : Fin 4) (d : Fin 256) (e : Fin 512), s (ix3 h d e) = stA Y LA WU BU b h (4 * g) d e) :
    ∀ p : ℕ, p ≤ 4 → ∀ (h : Fin 4) (d : Fin 256) (e : Fin 512), gS x1 x2 x4 x5 x6 s p h (ix3 (0 : Fin 1) d e) = stA Y LA WU BU b h (4 * g + p) d e
  | 0, _, h, d, e => by
    show hd s h (ix3 (0 : Fin 1) d e) = _
    rw [Nat.add_zero, ← hs h d e]
    unfold hd
    refine at3 s ?_ ?_ ?_
    · show h.val % 4 = h.val; omega
    · show d.val % 256 = d.val; omega
    · show e.val % 512 = e.val; omega
  | p + 1, hp, h, d, e => by
    have hb := fun i => bc_at H (⟨p, by omega⟩ : Fin 4) h i d
    have hk := fun j => gK_at x1 (⟨p, by omega⟩ : Fin 4) h j d
    have hv := fun j => gV_at x2 (⟨p, by omega⟩ : Fin 4) h j e
    have hkk := fun j => H.k (⟨p, by omega⟩ : Fin 4) h j d
    have hvv := fun j => H.v (⟨p, by omega⟩ : Fin 4) h j e
    dsimp only at hb hk hv hkk hvv
    rw [gS_succ, st_at H hs p (by omega) h d e, hb]
    show _ = nextS _ _ _ _ d e
    unfold nextS
    refine congrArg (fun z : EReal => _ + z) (Finset.sum_congr rfl fun j _ => ?_)
    rw [gKE_at, hb, hb, hk, hv, hkk, hvv]
    rfl

theorem o_at (H : Holds Y LA WU BU NW x0 x1 x2 x3 x4 x5 x6 x7 b g) (hs : ∀ (h : Fin 4) (d : Fin 256) (e : Fin 512), s (ix3 h d e) = stA Y LA WU BU b h (4 * g) d e)
    (p h : Fin 4) (i : Fin 64) (e : Fin 512) :
    gOp x0 x1 x2 x4 x5 x6 s p (ix2 (row h i) e) = oA Y LA WU BU b (4 * g + p.val) h i e := by
  unfold gOp
  rw [gO_at _ _ _ _ (gS x1 x2 x4 x5 x6 s p 0) (gS x1 x2 x4 x5 x6 s p 1) (gS x1 x2 x4 x5 x6 s p 2) (gS x1 x2 x4 x5 x6 s p 3) (fun h => gS x1 x2 x4 x5 x6 s p h.val) rfl rfl rfl rfl]
  unfold oA outO
  refine congrArg₂ (· + ·) (Finset.sum_congr rfl fun j _ => ?_) (Finset.sum_congr rfl fun d _ => ?_)
  · rw [attn_at, gV_at, H.v]
    refine congrArg (fun z : EReal => z * _) ?_
    refine if_congr Iff.rfl (Finset.sum_congr rfl fun d _ => ?_) rfl
    rw [gQ_at, H.q, bc_at H, gK_at, H.k, bc_at H]
  · rw [gQ_at, H.q, bc_at H, st_at H hs p.val (by omega)]

theorem t_at (H : Holds Y LA WU BU NW x0 x1 x2 x3 x4 x5 x6 x7 b g) (hs : ∀ (h : Fin 4) (d : Fin 256) (e : Fin 512), s (ix3 h d e) = stA Y LA WU BU b h (4 * g) d e)
    (p h : Fin 4) (i : Fin 64) (e : Fin 512) :
    gT x0 x1 x2 x3 x4 x5 x6 x7 s p h (ix3 (0 : Fin 1) i e) = resA Y LA WU BU NW b (4 * g + p.val) h i e := by
  have key : gT x0 x1 x2 x3 x4 x5 x6 x7 s p h (ix3 (0 : Fin 1) i e)
      = tile (fun x => gOp x0 x1 x2 x4 x5 x6 s p (ix2 (row h i) x)) (x7 (ix2 0 e)) (cutV x3 p h (ix3 (0 : Fin 1) i e)) e := by
    obtain ⟨h, hh⟩ := h
    interval_cases h
    · exact gT0_at _ _ _ i e
    · exact gT1_at _ _ _ i e
    · exact gT2_at _ _ _ i e
    · exact gT3_at _ _ _ i e
  rw [key, H.nw, cutV_at, H.r]
  unfold resA
  refine congrArg (fun o => tile o _ _ e) (funext fun x => o_at H hs p h i x)

/-- A whole block of the result, entry by entry. -/
theorem tt_at (H : Holds Y LA WU BU NW x0 x1 x2 x3 x4 x5 x6 x7 b g) (hs : ∀ (h : Fin 4) (d : Fin 256) (e : Fin 512), s (ix3 h d e) = stA Y LA WU BU b h (4 * g) d e)
    (y : S1x256x2048.Idx) :
    gTT x0 x1 x2 x3 x4 x5 x6 x7 s y = resA Y LA WU BU NW b (4 * g + (y 1).val / 64)
      ⟨(y 2).val / 512, Nat.div_lt_of_lt_mul (y 2).isLt⟩ ⟨(y 1).val % 64, Nat.mod_lt _ (by decide)⟩ ⟨(y 2).val % 512, Nat.mod_lt _ (by decide)⟩ := by
  have hy : (y 1).val / 64 < 4 := Nat.div_lt_of_lt_mul (y 1).isLt
  have hz : (y 2).val / 512 < 4 := Nat.div_lt_of_lt_mul (y 2).isLt
  have key := t_at H hs ⟨(y 1).val / 64, hy⟩ ⟨(y 2).val / 512, hz⟩ ⟨(y 1).val % 64, Nat.mod_lt _ (by decide)⟩ ⟨(y 2).val % 512, Nat.mod_lt _ (by decide)⟩
  exact key

end Cert.KernelIdeal.Gla
end
-- ==== Proof.GlaCaseA.lean ====
/- The values of the gated linear attention kernel at a grid point that begins a sweep: its named values are the shared chunk functions. -/
module

public import proofs.«01_k».proof.Proof.GlaBlocks

@[expose] public section

set_option maxRecDepth 16384

noncomputable section

open Idealize.ShloMosaic Idealize.ShloMosaic.TcCoe Idealize.SL.Sem

namespace Cert.KernelIdeal.Gla.CaseA
open Cert.KernelIdeal Cert.KernelIdeal.Gen Cert.KernelIdeal.Gla

variable {F : FTy → Type} [FloatOps F]
variable (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x256x128 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x256x2048 .bf16) (harg10 : arg10.IsWhole) (arg11 : Memref sig .tc .vmem S4x256x512 .f32) (harg11 : arg11.IsWhole)
variable (x0 : Vec F S1x256x1024 .f32) (x1 : Vec F S1x256x1024 .f32) (x2 : Vec F S1x256x2048 .f32) (x3 : Vec F S1x256x2048 .f32) (x4 : Vec F S1x256x128 .f32) (x5 : Vec F S128x1024 .f32) (x6 : Vec F S1x1024 .f32) (x7 : Vec F S1x512 .f32)

theorem bc_0 :
    (kernelRun0_A.sl.r_2 (F := F) c arg6 harg6 arg7 harg7 arg8 harg8 x4 x5 x6) = gBC (cutL x4 0) x5 x6 := by
  conv_rhs => rw [← ld_cutL x4 0 0 rfl inb_S1x256x128_S1x64x128_0_0_0 (by decide), ← View.ld_unit_lit (S := S128x1024) inb_S128x1024_S128x1024_0_0 x5 (by decide), ← View.ld_unit_lit (S := S1x1024) inb_S1x1024_S1x1024_0_0 x6 (by decide), ← harg6.read_unread (Val := Elt F) x4, ← harg7.read_unread (Val := Elt F) x5, ← harg8.read_unread (Val := Elt F) x6]
  rfl

theorem q_0 :
    (kernelRun0_A.sl.r_3 (F := F) c arg2 harg2 x0) = gQ x0 0 := by
  unfold gQ
  conv_rhs => rw [← ld_cutK x0 0 0 0 0 rfl rfl inb_S1x256x1024_S1x64x256_0_0_0 (by decide) (by decide), ← ld_cutK x0 0 256 0 1 rfl rfl inb_S1x256x1024_S1x64x256_0_0_256 (by decide) (by decide), ← ld_cutK x0 0 512 0 2 rfl rfl inb_S1x256x1024_S1x64x256_0_0_512 (by decide) (by decide), ← ld_cutK x0 0 768 0 3 rfl rfl inb_S1x256x1024_S1x64x256_0_0_768 (by decide) (by decide), ← harg2.read_unread (Val := Elt F) x0]
  rfl

theorem k_0 :
    (kernelRun0_A.sl.r_4 (F := F) c arg3 harg3 x1) = gK x1 0 := by
  unfold gK
  conv_rhs => rw [← ld_cutK x1 0 0 0 0 rfl rfl inb_S1x256x1024_S1x64x256_0_0_0 (by decide) (by decide), ← ld_cutK x1 0 256 0 1 rfl rfl inb_S1x256x1024_S1x64x256_0_0_256 (by decide) (by decide), ← ld_cutK x1 0 512 0 2 rfl rfl inb_S1x256x1024_S1x64x256_0_0_512 (by decide) (by decide), ← ld_cutK x1 0 768 0 3 rfl rfl inb_S1x256x1024_S1x64x256_0_0_768 (by decide) (by decide), ← harg3.read_unread (Val := Elt F) x1]
  rfl

theorem v_0 :
    (kernelRun0_A.sl.r_7 (F := F) c arg4 harg4 x2) = gV x2 0 := by
  unfold gV
  conv_rhs => rw [← ld_cutV x2 0 0 0 0 rfl rfl inb_S1x256x2048_S1x64x512_0_0_0 (by decide) (by decide), ← ld_cutV x2 0 512 0 1 rfl rfl inb_S1x256x2048_S1x64x512_0_0_512 (by decide) (by decide), ← ld_cutV x2 0 1024 0 2 rfl rfl inb_S1x256x2048_S1x64x512_0_0_1024 (by decide) (by decide), ← ld_cutV x2 0 1536 0 3 rfl rfl inb_S1x256x2048_S1x64x512_0_0_1536 (by decide) (by decide), ← harg4.read_unread (Val := Elt F) x2]
  rfl

theorem bc_1 :
    (kernelRun0_A.sl.r_25 (F := F) c arg6 harg6 arg7 harg7 arg8 harg8 x4 x5 x6) = gBC (cutL x4 1) x5 x6 := by
  conv_rhs => rw [← ld_cutL x4 64 1 rfl inb_S1x256x128_S1x64x128_0_64_0 (by decide), ← View.ld_unit_lit (S := S128x1024) inb_S128x1024_S128x1024_0_0 x5 (by decide), ← View.ld_unit_lit (S := S1x1024) inb_S1x1024_S1x1024_0_0 x6 (by decide), ← harg6.read_unread (Val := Elt F) x4, ← harg7.read_unread (Val := Elt F) x5, ← harg8.read_unread (Val := Elt F) x6]
  rfl

theorem q_1 :
    (kernelRun0_A.sl.r_29 (F := F) c arg2 harg2 x0) = gQ x0 1 := by
  unfold gQ
  conv_rhs => rw [← ld_cutK x0 64 0 1 0 rfl rfl inb_S1x256x1024_S1x64x256_0_64_0 (by decide) (by decide), ← ld_cutK x0 64 256 1 1 rfl rfl inb_S1x256x1024_S1x64x256_0_64_256 (by decide) (by decide), ← ld_cutK x0 64 512 1 2 rfl rfl inb_S1x256x1024_S1x64x256_0_64_512 (by decide) (by decide), ← ld_cutK x0 64 768 1 3 rfl rfl inb_S1x256x1024_S1x64x256_0_64_768 (by decide) (by decide), ← harg2.read_unread (Val := Elt F) x0]
  rfl

theorem k_1 :
    (kernelRun0_A.sl.r_30 (F := F) c arg3 harg3 x1) = gK x1 1 := by
  unfold gK
  conv_rhs => rw [← ld_cutK x1 64 0 1 0 rfl rfl inb_S1x256x1024_S1x64x256_0_64_0 (by decide) (by decide), ← ld_cutK x1 64 256 1 1 rfl rfl inb_S1x256x1024_S1x64x256_0_64_256 (by decide) (by decide), ← ld_cutK x1 64 512 1 2 rfl rfl inb_S1x256x1024_S1x64x256_0_64_512 (by decide) (by decide), ← ld_cutK x1 64 768 1 3 rfl rfl inb_S1x256x1024_S1x64x256_0_64_768 (by decide) (by decide), ← harg3.read_unread (Val := Elt F) x1]
  rfl

theorem v_1 :
    (kernelRun0_A.sl.r_31 (F := F) c arg4 harg4 x2) = gV x2 1 := by
  unfold gV
  conv_rhs => rw [← ld_cutV x2 64 0 1 0 rfl rfl inb_S1x256x2048_S1x64x512_0_64_0 (by decide) (by decide), ← ld_cutV x2 64 512 1 1 rfl rfl inb_S1x256x2048_S1x64x512_0_64_512 (by decide) (by decide), ← ld_cutV x2 64 1024 1 2 rfl rfl inb_S1x256x2048_S1x64x512_0_64_1024 (by decide) (by decide), ← ld_cutV x2 64 1536 1 3 rfl rfl inb_S1x256x2048_S1x64x512_0_64_1536 (by decide) (by decide), ← harg4.read_unread (Val := Elt F) x2]
  rfl

theorem bc_2 :
    (kernelRun0_A.sl.r_56 (F := F) c arg6 harg6 arg7 harg7 arg8 harg8 x4 x5 x6) = gBC (cutL x4 2) x5 x6 := by
  conv_rhs => rw [← ld_cutL x4 128 2 rfl inb_S1x256x128_S1x64x128_0_128_0 (by decide), ← View.ld_unit_lit (S := S128x1024) inb_S128x1024_S128x1024_0_0 x5 (by decide), ← View.ld_unit_lit (S := S1x1024) inb_S1x1024_S1x1024_0_0 x6 (by decide), ← harg6.read_unread (Val := Elt F) x4, ← harg7.read_unread (Val := Elt F) x5, ← harg8.read_unread (Val := Elt F) x6]
  rfl

theorem q_2 :
    (kernelRun0_A.sl.r_57 (F := F) c arg2 harg2 x0) = gQ x0 2 := by
  unfold gQ
  conv_rhs => rw [← ld_cutK x0 128 0 2 0 rfl rfl inb_S1x256x1024_S1x64x256_0_128_0 (by decide) (by decide), ← ld_cutK x0 128 256 2 1 rfl rfl inb_S1x256x1024_S1x64x256_0_128_256 (by decide) (by decide), ← ld_cutK x0 128 512 2 2 rfl rfl inb_S1x256x1024_S1x64x256_0_128_512 (by decide) (by decide), ← ld_cutK x0 128 768 2 3 rfl rfl inb_S1x256x1024_S1x64x256_0_128_768 (by decide) (by decide), ← harg2.read_unread (Val := Elt F) x0]
  rfl

theorem k_2 :
    (kernelRun0_A.sl.r_60 (F := F) c arg3 harg3 x1) = gK x1 2 := by
  unfold gK
  conv_rhs => rw [← ld_cutK x1 128 0 2 0 rfl rfl inb_S1x256x1024_S1x64x256_0_128_0 (by decide) (by decide), ← ld_cutK x1 128 256 2 1 rfl rfl inb_S1x256x1024_S1x64x256_0_128_256 (by decide) (by decide), ← ld_cutK x1 128 512 2 2 rfl rfl inb_S1x256x1024_S1x64x256_0_128_512 (by decide) (by decide), ← ld_cutK x1 128 768 2 3 rfl rfl inb_S1x256x1024_S1x64x256_0_128_768 (by decide) (by decide), ← harg3.read_unread (Val := Elt F) x1]
  rfl

theorem v_2 :
    (kernelRun0_A.sl.r_61 (F := F) c arg4 harg4 x2) = gV x2 2 := by
  unfold gV
  conv_rhs => rw [← ld_cutV x2 128 0 2 0 rfl rfl inb_S1x256x2048_S1x64x512_0_128_0 (by decide) (by decide), ← ld_cutV x2 128 512 2 1 rfl rfl inb_S1x256x2048_S1x64x512_0_128_512 (by decide) (by decide), ← ld_cutV x2 128 1024 2 2 rfl rfl inb_S1x256x2048_S1x64x512_0_128_1024 (by decide) (by decide), ← ld_cutV x2 128 1536 2 3 rfl rfl inb_S1x256x2048_S1x64x512_0_128_1536 (by decide) (by decide), ← harg4.read_unread (Val := Elt F) x2]
  rfl

theorem bc_3 :
    (kernelRun0_A.sl.r_87 (F := F) c arg6 harg6 arg7 harg7 arg8 harg8 x4 x5 x6) = gBC (cutL x4 3) x5 x6 := by
  conv_rhs => rw [← ld_cutL x4 192 3 rfl inb_S1x256x128_S1x64x128_0_192_0 (by decide), ← View.ld_unit_lit (S := S128x1024) inb_S128x1024_S128x1024_0_0 x5 (by decide), ← View.ld_unit_lit (S := S1x1024) inb_S1x1024_S1x1024_0_0 x6 (by decide), ← harg6.read_unread (Val := Elt F) x4, ← harg7.read_unread (Val := Elt F) x5, ← harg8.read_unread (Val := Elt F) x6]
  rfl

theorem q_3 :
    (kernelRun0_A.sl.r_88 (F := F) c arg2 harg2 x0) = gQ x0 3 := by
  unfold gQ
  conv_rhs => rw [← ld_cutK x0 192 0 3 0 rfl rfl inb_S1x256x1024_S1x64x256_0_192_0 (by decide) (by decide), ← ld_cutK x0 192 256 3 1 rfl rfl inb_S1x256x1024_S1x64x256_0_192_256 (by decide) (by decide), ← ld_cutK x0 192 512 3 2 rfl rfl inb_S1x256x1024_S1x64x256_0_192_512 (by decide) (by decide), ← ld_cutK x0 192 768 3 3 rfl rfl inb_S1x256x1024_S1x64x256_0_192_768 (by decide) (by decide), ← harg2.read_unread (Val := Elt F) x0]
  rfl

theorem k_3 :
    (kernelRun0_A.sl.r_89 (F := F) c arg3 harg3 x1) = gK x1 3 := by
  unfold gK
  conv_rhs => rw [← ld_cutK x1 192 0 3 0 rfl rfl inb_S1x256x1024_S1x64x256_0_192_0 (by decide) (by decide), ← ld_cutK x1 192 256 3 1 rfl rfl inb_S1x256x1024_S1x64x256_0_192_256 (by decide) (by decide), ← ld_cutK x1 192 512 3 2 rfl rfl inb_S1x256x1024_S1x64x256_0_192_512 (by decide) (by decide), ← ld_cutK x1 192 768 3 3 rfl rfl inb_S1x256x1024_S1x64x256_0_192_768 (by decide) (by decide), ← harg3.read_unread (Val := Elt F) x1]
  rfl

theorem v_3 :
    (kernelRun0_A.sl.r_92 (F := F) c arg4 harg4 x2) = gV x2 3 := by
  unfold gV
  conv_rhs => rw [← ld_cutV x2 192 0 3 0 rfl rfl inb_S1x256x2048_S1x64x512_0_192_0 (by decide) (by decide), ← ld_cutV x2 192 512 3 1 rfl rfl inb_S1x256x2048_S1x64x512_0_192_512 (by decide) (by decide), ← ld_cutV x2 192 1024 3 2 rfl rfl inb_S1x256x2048_S1x64x512_0_192_1024 (by decide) (by decide), ← ld_cutV x2 192 1536 3 3 rfl rfl inb_S1x256x2048_S1x64x512_0_192_1536 (by decide) (by decide), ← harg4.read_unread (Val := Elt F) x2]
  rfl

theorem s_0_0 :
    (kernelRun0_A.sl.v162 (F := F) c arg11) = gS x1 x2 x4 x5 x6 k0_pay2 0 0 := by
  unfold kernelRun0_A.sl.v162 kernelRun0_A.sl.HS0_1
  rw [View.readCov_fill _ _ _ _ _ (by decide)]
  exact ld_hd k0_pay2 0 _ (by decide)

theorem s_0_1 :
    (kernelRun0_A.sl.v164 (F := F) c arg11) = gS x1 x2 x4 x5 x6 k0_pay2 0 1 := by
  unfold kernelRun0_A.sl.v164 kernelRun0_A.sl.HS0_1
  rw [View.readCov_fill _ _ _ _ _ (by decide)]
  exact ld_hd k0_pay2 1 _ (by decide)

theorem s_0_2 :
    (kernelRun0_A.sl.v166 (F := F) c arg11) = gS x1 x2 x4 x5 x6 k0_pay2 0 2 := by
  unfold kernelRun0_A.sl.v166 kernelRun0_A.sl.HS0_1
  rw [View.readCov_fill _ _ _ _ _ (by decide)]
  exact ld_hd k0_pay2 2 _ (by decide)

theorem s_0_3 :
    (kernelRun0_A.sl.v168 (F := F) c arg11) = gS x1 x2 x4 x5 x6 k0_pay2 0 3 := by
  unfold kernelRun0_A.sl.v168 kernelRun0_A.sl.HS0_1
  rw [View.readCov_fill _ _ _ _ _ (by decide)]
  exact ld_hd k0_pay2 3 _ (by decide)

theorem o_0 :
    (kernelRun0_A.sl.r_19 (F := F) c arg2 harg2 arg3 harg3 arg4 harg4 arg6 harg6 arg7 harg7 arg8 harg8 arg11 x0 x1 x2 x4 x5 x6) = gOp x0 x1 x2 x4 x5 x6 k0_pay2 0 := by
  unfold gOp
  rw [← bc_0 (c := c) (harg6 := harg6) (harg7 := harg7) (harg8 := harg8), ← q_0 (c := c) (harg2 := harg2), ← k_0 (c := c) (harg3 := harg3), ← v_0 (c := c) (harg4 := harg4), ← s_0_0 (c := c) (arg11 := arg11), ← s_0_1 (c := c) (arg11 := arg11), ← s_0_2 (c := c) (arg11 := arg11), ← s_0_3 (c := c) (arg11 := arg11)]
  rfl

theorem s_1_0 :
    (kernelRun0_A.sl.v424 (F := F) c arg3 harg3 arg4 harg4 arg6 harg6 arg7 harg7 arg8 harg8 arg11 x1 x2 x4 x5 x6) = gS x1 x2 x4 x5 x6 k0_pay2 1 0 := by
  unfold kernelRun0_A.sl.v424 kernelRun0_A.sl.HS0_5
  rw [View.readCov_skip _ _ _ _ _ (by decide), View.readCov_skip _ _ _ _ _ (by decide), View.readCov_skip _ _ _ _ _ (by decide), View.readCov_cons_toLoadRect]
  change _ = gN0 (gBC (cutL x4 0) x5 x6) (gK x1 0) (gV x2 0) (gS x1 x2 x4 x5 x6 k0_pay2 0 0)
  rw [← bc_0 (c := c) (harg6 := harg6) (harg7 := harg7) (harg8 := harg8), ← k_0 (c := c) (harg3 := harg3), ← v_0 (c := c) (harg4 := harg4), ← s_0_0 (c := c) (arg11 := arg11)]
  rfl

theorem s_1_1 :
    (kernelRun0_A.sl.v426 (F := F) c arg3 harg3 arg4 harg4 arg6 harg6 arg7 harg7 arg8 harg8 arg11 x1 x2 x4 x5 x6) = gS x1 x2 x4 x5 x6 k0_pay2 1 1 := by
  unfold kernelRun0_A.sl.v426 kernelRun0_A.sl.HS0_5
  rw [View.readCov_skip _ _ _ _ _ (by decide), View.readCov_skip _ _ _ _ _ (by decide), View.readCov_cons_toLoadRect]
  change _ = gN1 (gBC (cutL x4 0) x5 x6) (gK x1 0) (gV x2 0) (gS x1 x2 x4 x5 x6 k0_pay2 0 1)
  rw [← bc_0 (c := c) (harg6 := harg6) (harg7 := harg7) (harg8 := harg8), ← k_0 (c := c) (harg3 := harg3), ← v_0 (c := c) (harg4 := harg4), ← s_0_1 (c := c) (arg11 := arg11)]
  rfl

theorem s_1_2 :
    (kernelRun0_A.sl.v428 (F := F) c arg3 harg3 arg4 harg4 arg6 harg6 arg7 harg7 arg8 harg8 arg11 x1 x2 x4 x5 x6) = gS x1 x2 x4 x5 x6 k0_pay2 1 2 := by
  unfold kernelRun0_A.sl.v428 kernelRun0_A.sl.HS0_5
  rw [View.readCov_skip _ _ _ _ _ (by decide), View.readCov_cons_toLoadRect]
  change _ = gN2 (gBC (cutL x4 0) x5 x6) (gK x1 0) (gV x2 0) (gS x1 x2 x4 x5 x6 k0_pay2 0 2)
  rw [← bc_0 (c := c) (harg6 := harg6) (harg7 := harg7) (harg8 := harg8), ← k_0 (c := c) (harg3 := harg3), ← v_0 (c := c) (harg4 := harg4), ← s_0_2 (c := c) (arg11 := arg11)]
  rfl

theorem s_1_3 :
    (kernelRun0_A.sl.v430 (F := F) c arg3 harg3 arg4 harg4 arg6 harg6 arg7 harg7 arg8 harg8 arg11 x1 x2 x4 x5 x6) = gS x1 x2 x4 x5 x6 k0_pay2 1 3 := by
  unfold kernelRun0_A.sl.v430 kernelRun0_A.sl.HS0_5
  rw [View.readCov_cons_toLoadRect]
  change _ = gN3 (gBC (cutL x4 0) x5 x6) (gK x1 0) (gV x2 0) (gS x1 x2 x4 x5 x6 k0_pay2 0 3)
  rw [← bc_0 (c := c) (harg6 := harg6) (harg7 := harg7) (harg8 := harg8), ← k_0 (c := c) (harg3 := harg3), ← v_0 (c := c) (harg4 := harg4), ← s_0_3 (c := c) (arg11 := arg11)]
  rfl

theorem o_1 :
    (kernelRun0_A.sl.r_47 (F := F) c arg2 harg2 arg3 harg3 arg4 harg4 arg6 harg6 arg7 harg7 arg8 harg8 arg11 x0 x1 x2 x4 x5 x6) = gOp x0 x1 x2 x4 x5 x6 k0_pay2 1 := by
  unfold gOp
  rw [← bc_1 (c := c) (harg6 := harg6) (harg7 := harg7) (harg8 := harg8), ← q_1 (c := c) (harg2 := harg2), ← k_1 (c := c) (harg3 := harg3), ← v_1 (c := c) (harg4 := harg4), ← s_1_0 (c := c) (harg3 := harg3) (harg4 := harg4) (harg6 := harg6) (harg7 := harg7) (harg8 := harg8) (arg11 := arg11), ← s_1_1 (c := c) (harg3 := harg3) (harg4 := harg4) (harg6 := harg6) (harg7 := harg7) (harg8 := harg8) (arg11 := arg11), ← s_1_2 (c := c) (harg3 := harg3) (harg4 := harg4) (harg6 := harg6) (harg7 := harg7) (harg8 := harg8) (arg11 := arg11), ← s_1_3 (c := c) (harg3 := harg3) (harg4 := harg4) (harg6 := harg6) (harg7 := harg7) (harg8 := harg8) (arg11 := arg11)]
  rfl

theorem s_2_0 :
    (kernelRun0_A.sl.v686 (F := F) c arg3 harg3 arg4 harg4 arg6 harg6 arg7 harg7 arg8 harg8 arg11 x1 x2 x4 x5 x6) = gS x1 x2 x4 x5 x6 k0_pay2 2 0 := by
  unfold kernelRun0_A.sl.v686 kernelRun0_A.sl.HS0_9
  rw [View.readCov_skip _ _ _ _ _ (by decide), View.readCov_skip _ _ _ _ _ (by decide), View.readCov_skip _ _ _ _ _ (by decide), View.readCov_cons_toLoadRect]
  change _ = gN0 (gBC (cutL x4 1) x5 x6) (gK x1 1) (gV x2 1) (gS x1 x2 x4 x5 x6 k0_pay2 1 0)
  rw [← bc_1 (c := c) (harg6 := harg6) (harg7 := harg7) (harg8 := harg8), ← k_1 (c := c) (harg3 := harg3), ← v_1 (c := c) (harg4 := harg4), ← s_1_0 (c := c) (harg3 := harg3) (harg4 := harg4) (harg6 := harg6) (harg7 := harg7) (harg8 := harg8) (arg11 := arg11)]
  rfl

theorem s_2_1 :
    (kernelRun0_A.sl.v688 (F := F) c arg3 harg3 arg4 harg4 arg6 harg6 arg7 harg7 arg8 harg8 arg11 x1 x2 x4 x5 x6) = gS x1 x2 x4 x5 x6 k0_pay2 2 1 := by
  unfold kernelRun0_A.sl.v688 kernelRun0_A.sl.HS0_9
  rw [View.readCov_skip _ _ _ _ _ (by decide), View.readCov_skip _ _ _ _ _ (by decide), View.readCov_cons_toLoadRect]
  change _ = gN1 (gBC (cutL x4 1) x5 x6) (gK x1 1) (gV x2 1) (gS x1 x2 x4 x5 x6 k0_pay2 1 1)
  rw [← bc_1 (c := c) (harg6 := harg6) (harg7 := harg7) (harg8 := harg8), ← k_1 (c := c) (harg3 := harg3), ← v_1 (c := c) (harg4 := harg4), ← s_1_1 (c := c) (harg3 := harg3) (harg4 := harg4) (harg6 := harg6) (harg7 := harg7) (harg8 := harg8) (arg11 := arg11)]
  rfl

theorem s_2_2 :
    (kernelRun0_A.sl.v690 (F := F) c arg3 harg3 arg4 harg4 arg6 harg6 arg7 harg7 arg8 harg8 arg11 x1 x2 x4 x5 x6) = gS x1 x2 x4 x5 x6 k0_pay2 2 2 := by
  unfold kernelRun0_A.sl.v690 kernelRun0_A.sl.HS0_9
  rw [View.readCov_skip _ _ _ _ _ (by decide), View.readCov_cons_toLoadRect]
  change _ = gN2 (gBC (cutL x4 1) x5 x6) (gK x1 1) (gV x2 1) (gS x1 x2 x4 x5 x6 k0_pay2 1 2)
  rw [← bc_1 (c := c) (harg6 := harg6) (harg7 := harg7) (harg8 := harg8), ← k_1 (c := c) (harg3 := harg3), ← v_1 (c := c) (harg4 := harg4), ← s_1_2 (c := c) (harg3 := harg3) (harg4 := harg4) (harg6 := harg6) (harg7 := harg7) (harg8 := harg8) (arg11 := arg11)]
  rfl

theorem s_2_3 :
    (kernelRun0_A.sl.v692 (F := F) c arg3 harg3 arg4 harg4 arg6 harg6 arg7 harg7 arg8 harg8 arg11 x1 x2 x4 x5 x6) = gS x1 x2 x4 x5 x6 k0_pay2 2 3 := by
  unfold kernelRun0_A.sl.v692 kernelRun0_A.sl.HS0_9
  rw [View.readCov_cons_toLoadRect]
  change _ = gN3 (gBC (cutL x4 1) x5 x6) (gK x1 1) (gV x2 1) (gS x1 x2 x4 x5 x6 k0_pay2 1 3)
  rw [← bc_1 (c := c) (harg6 := harg6) (harg7 := harg7) (harg8 := harg8), ← k_1 (c := c) (harg3 := harg3), ← v_1 (c := c) (harg4 := harg4), ← s_1_3 (c := c) (harg3 := harg3) (harg4 := harg4) (harg6 := harg6) (harg7 := harg7) (harg8 := harg8) (arg11 := arg11)]
  rfl

theorem o_2 :
    (kernelRun0_A.sl.r_79 (F := F) c arg2 harg2 arg3 harg3 arg4 harg4 arg6 harg6 arg7 harg7 arg8 harg8 arg11 x0 x1 x2 x4 x5 x6) = gOp x0 x1 x2 x4 x5 x6 k0_pay2 2 := by
  unfold gOp
  rw [← bc_2 (c := c) (harg6 := harg6) (harg7 := harg7) (harg8 := harg8), ← q_2 (c := c) (harg2 := harg2), ← k_2 (c := c) (harg3 := harg3), ← v_2 (c := c) (harg4 := harg4), ← s_2_0 (c := c) (harg3 := harg3) (harg4 := harg4) (harg6 := harg6) (harg7 := harg7) (harg8 := harg8) (arg11 := arg11), ← s_2_1 (c := c) (harg3 := harg3) (harg4 := harg4) (harg6 := harg6) (harg7 := harg7) (harg8 := harg8) (arg11 := arg11), ← s_2_2 (c := c) (harg3 := harg3) (harg4 := harg4) (harg6 := harg6) (harg7 := harg7) (harg8 := harg8) (arg11 := arg11), ← s_2_3 (c := c) (harg3 := harg3) (harg4 := harg4) (harg6 := harg6) (harg7 := harg7) (harg8 := harg8) (arg11 := arg11)]
  rfl

theorem s_3_0 :
    (kernelRun0_A.sl.v948 (F := F) c arg3 harg3 arg4 harg4 arg6 harg6 arg7 harg7 arg8 harg8 arg11 x1 x2 x4 x5 x6) = gS x1 x2 x4 x5 x6 k0_pay2 3 0 := by
  unfold kernelRun0_A.sl.v948 kernelRun0_A.sl.HS0_13
  rw [View.readCov_skip _ _ _ _ _ (by decide), View.readCov_skip _ _ _ _ _ (by decide), View.readCov_skip _ _ _ _ _ (by decide), View.readCov_cons_toLoadRect]
  change _ = gN0 (gBC (cutL x4 2) x5 x6) (gK x1 2) (gV x2 2) (gS x1 x2 x4 x5 x6 k0_pay2 2 0)
  rw [← bc_2 (c := c) (harg6 := harg6) (harg7 := harg7) (harg8 := harg8), ← k_2 (c := c) (harg3 := harg3), ← v_2 (c := c) (harg4 := harg4), ← s_2_0 (c := c) (harg3 := harg3) (harg4 := harg4) (harg6 := harg6) (harg7 := harg7) (harg8 := harg8) (arg11 := arg11)]
  rfl

theorem s_3_1 :
    (kernelRun0_A.sl.v950 (F := F) c arg3 harg3 arg4 harg4 arg6 harg6 arg7 harg7 arg8 harg8 arg11 x1 x2 x4 x5 x6) = gS x1 x2 x4 x5 x6 k0_pay2 3 1 := by
  unfold kernelRun0_A.sl.v950 kernelRun0_A.sl.HS0_13
  rw [View.readCov_skip _ _ _ _ _ (by decide), View.readCov_skip _ _ _ _ _ (by decide), View.readCov_cons_toLoadRect]
  change _ = gN1 (gBC (cutL x4 2) x5 x6) (gK x1 2) (gV x2 2) (gS x1 x2 x4 x5 x6 k0_pay2 2 1)
  rw [← bc_2 (c := c) (harg6 := harg6) (harg7 := harg7) (harg8 := harg8), ← k_2 (c := c) (harg3 := harg3), ← v_2 (c := c) (harg4 := harg4), ← s_2_1 (c := c) (harg3 := harg3) (harg4 := harg4) (harg6 := harg6) (harg7 := harg7) (harg8 := harg8) (arg11 := arg11)]
  rfl

theorem s_3_2 :
    (kernelRun0_A.sl.v952 (F := F) c arg3 harg3 arg4 harg4 arg6 harg6 arg7 harg7 arg8 harg8 arg11 x1 x2 x4 x5 x6) = gS x1 x2 x4 x5 x6 k0_pay2 3 2 := by
  unfold kernelRun0_A.sl.v952 kernelRun0_A.sl.HS0_13
  rw [View.readCov_skip _ _ _ _ _ (by decide), View.readCov_cons_toLoadRect]
  change _ = gN2 (gBC (cutL x4 2) x5 x6) (gK x1 2) (gV x2 2) (gS x1 x2 x4 x5 x6 k0_pay2 2 2)
  rw [← bc_2 (c := c) (harg6 := harg6) (harg7 := harg7) (harg8 := harg8), ← k_2 (c := c) (harg3 := harg3), ← v_2 (c := c) (harg4 := harg4), ← s_2_2 (c := c) (harg3 := harg3) (harg4 := harg4) (harg6 := harg6) (harg7 := harg7) (harg8 := harg8) (arg11 := arg11)]
  rfl

theorem s_3_3 :
    (kernelRun0_A.sl.v954 (F := F) c arg3 harg3 arg4 harg4 arg6 harg6 arg7 harg7 arg8 harg8 arg11 x1 x2 x4 x5 x6) = gS x1 x2 x4 x5 x6 k0_pay2 3 3 := by
  unfold kernelRun0_A.sl.v954 kernelRun0_A.sl.HS0_13
  rw [View.readCov_cons_toLoadRect]
  change _ = gN3 (gBC (cutL x4 2) x5 x6) (gK x1 2) (gV x2 2) (gS x1 x2 x4 x5 x6 k0_pay2 2 3)
  rw [← bc_2 (c := c) (harg6 := harg6) (harg7 := harg7) (harg8 := harg8), ← k_2 (c := c) (harg3 := harg3), ← v_2 (c := c) (harg4 := harg4), ← s_2_3 (c := c) (harg3 := harg3) (harg4 := harg4) (harg6 := harg6) (harg7 := harg7) (harg8 := harg8) (arg11 := arg11)]
  rfl

theorem o_3 :
    (kernelRun0_A.sl.r_104 (F := F) c arg2 harg2 arg3 harg3 arg4 harg4 arg6 harg6 arg7 harg7 arg8 harg8 arg11 x0 x1 x2 x4 x5 x6) = gOp x0 x1 x2 x4 x5 x6 k0_pay2 3 := by
  unfold gOp
  rw [← bc_3 (c := c) (harg6 := harg6) (harg7 := harg7) (harg8 := harg8), ← q_3 (c := c) (harg2 := harg2), ← k_3 (c := c) (harg3 := harg3), ← v_3 (c := c) (harg4 := harg4), ← s_3_0 (c := c) (harg3 := harg3) (harg4 := harg4) (harg6 := harg6) (harg7 := harg7) (harg8 := harg8) (arg11 := arg11), ← s_3_1 (c := c) (harg3 := harg3) (harg4 := harg4) (harg6 := harg6) (harg7 := harg7) (harg8 := harg8) (arg11 := arg11), ← s_3_2 (c := c) (harg3 := harg3) (harg4 := harg4) (harg6 := harg6) (harg7 := harg7) (harg8 := harg8) (arg11 := arg11), ← s_3_3 (c := c) (harg3 := harg3) (harg4 := harg4) (harg6 := harg6) (harg7 := harg7) (harg8 := harg8) (arg11 := arg11)]
  rfl

theorem pieces_s (hc0 : cond0_0 i) :
    (kernelRun0_A (F := F) c i arg2 harg2 arg3 harg3 arg4 harg4 arg5 harg5 arg6 harg6 arg7 harg7 arg8 harg8 arg9 harg9 arg10 harg10 arg11 harg11 hc0 x0 x1 x2 x3 x4 x5 x6 x7).2.1 = [(⟨Rect.unit (s := S4x256x512) ![3, 0, 0] S1x256x512.size inb_S4x256x512_S1x256x512_3_0_0, gS x1 x2 x4 x5 x6 k0_pay2 4 3⟩ : View.Piece (Elt F) S4x256x512 .f32), (⟨Rect.unit (s := S4x256x512) ![2, 0, 0] S1x256x512.size inb_S4x256x512_S1x256x512_2_0_0, gS x1 x2 x4 x5 x6 k0_pay2 4 2⟩ : View.Piece (Elt F) S4x256x512 .f32), (⟨Rect.unit (s := S4x256x512) ![1, 0, 0] S1x256x512.size inb_S4x256x512_S1x256x512_1_0_0, gS x1 x2 x4 x5 x6 k0_pay2 4 1⟩ : View.Piece (Elt F) S4x256x512 .f32), (⟨Rect.unit (s := S4x256x512) ![0, 0, 0] S1x256x512.size inb_S4x256x512_S1x256x512_0_0_0, gS x1 x2 x4 x5 x6 k0_pay2 4 0⟩ : View.Piece (Elt F) S4x256x512 .f32)] ++ (kernelRun0_A.sl.HS0_13 (F := F) c arg3 harg3 arg4 harg4 arg6 harg6 arg7 harg7 arg8 harg8 arg11 x1 x2 x4 x5 x6) := by
  change _ = [(⟨Rect.unit (s := S4x256x512) ![3, 0, 0] S1x256x512.size inb_S4x256x512_S1x256x512_3_0_0, gN3 (gBC (cutL x4 3) x5 x6) (gK x1 3) (gV x2 3) (gS x1 x2 x4 x5 x6 k0_pay2 3 3)⟩ : View.Piece (Elt F) S4x256x512 .f32), (⟨Rect.unit (s := S4x256x512) ![2, 0, 0] S1x256x512.size inb_S4x256x512_S1x256x512_2_0_0, gN2 (gBC (cutL x4 3) x5 x6) (gK x1 3) (gV x2 3) (gS x1 x2 x4 x5 x6 k0_pay2 3 2)⟩ : View.Piece (Elt F) S4x256x512 .f32), (⟨Rect.unit (s := S4x256x512) ![1, 0, 0] S1x256x512.size inb_S4x256x512_S1x256x512_1_0_0, gN1 (gBC (cutL x4 3) x5 x6) (gK x1 3) (gV x2 3) (gS x1 x2 x4 x5 x6 k0_pay2 3 1)⟩ : View.Piece (Elt F) S4x256x512 .f32), (⟨Rect.unit (s := S4x256x512) ![0, 0, 0] S1x256x512.size inb_S4x256x512_S1x256x512_0_0_0, gN0 (gBC (cutL x4 3) x5 x6) (gK x1 3) (gV x2 3) (gS x1 x2 x4 x5 x6 k0_pay2 3 0)⟩ : View.Piece (Elt F) S4x256x512 .f32)] ++ (kernelRun0_A.sl.HS0_13 (F := F) c arg3 harg3 arg4 harg4 arg6 harg6 arg7 harg7 arg8 harg8 arg11 x1 x2 x4 x5 x6)
  rw [← bc_3 (c := c) (harg6 := harg6) (harg7 := harg7) (harg8 := harg8), ← k_3 (c := c) (harg3 := harg3), ← v_3 (c := c) (harg4 := harg4), ← s_3_0 (c := c) (harg3 := harg3) (harg4 := harg4) (harg6 := harg6) (harg7 := harg7) (harg8 := harg8) (arg11 := arg11), ← s_3_1 (c := c) (harg3 := harg3) (harg4 := harg4) (harg6 := harg6) (harg7 := harg7) (harg8 := harg8) (arg11 := arg11), ← s_3_2 (c := c) (harg3 := harg3) (harg4 := harg4) (harg6 := harg6) (harg7 := harg7) (harg8 := harg8) (arg11 := arg11), ← s_3_3 (c := c) (harg3 := harg3) (harg4 := harg4) (harg6 := harg6) (harg7 := harg7) (harg8 := harg8) (arg11 := arg11)]
  rfl

theorem pieces_o (hc0 : cond0_0 i) :
    (kernelRun0_A (F := F) c i arg2 harg2 arg3 harg3 arg4 harg4 arg5 harg5 arg6 harg6 arg7 harg7 arg8 harg8 arg9 harg9 arg10 harg10 arg11 harg11 hc0 x0 x1 x2 x3 x4 x5 x6 x7).1 = [(⟨Rect.unit (s := S1x256x2048) ![0, 192, 1536] S1x64x512.size inb_S1x256x2048_S1x64x512_0_192_1536, gT x0 x1 x2 x3 x4 x5 x6 x7 k0_pay2 3 3⟩ : View.Piece (Elt F) S1x256x2048 .bf16), (⟨Rect.unit (s := S1x256x2048) ![0, 192, 1024] S1x64x512.size inb_S1x256x2048_S1x64x512_0_192_1024, gT x0 x1 x2 x3 x4 x5 x6 x7 k0_pay2 3 2⟩ : View.Piece (Elt F) S1x256x2048 .bf16), (⟨Rect.unit (s := S1x256x2048) ![0, 192, 512] S1x64x512.size inb_S1x256x2048_S1x64x512_0_192_512, gT x0 x1 x2 x3 x4 x5 x6 x7 k0_pay2 3 1⟩ : View.Piece (Elt F) S1x256x2048 .bf16), (⟨Rect.unit (s := S1x256x2048) ![0, 192, 0] S1x64x512.size inb_S1x256x2048_S1x64x512_0_192_0, gT x0 x1 x2 x3 x4 x5 x6 x7 k0_pay2 3 0⟩ : View.Piece (Elt F) S1x256x2048 .bf16), (⟨Rect.unit (s := S1x256x2048) ![0, 128, 1536] S1x64x512.size inb_S1x256x2048_S1x64x512_0_128_1536, gT x0 x1 x2 x3 x4 x5 x6 x7 k0_pay2 2 3⟩ : View.Piece (Elt F) S1x256x2048 .bf16), (⟨Rect.unit (s := S1x256x2048) ![0, 128, 1024] S1x64x512.size inb_S1x256x2048_S1x64x512_0_128_1024, gT x0 x1 x2 x3 x4 x5 x6 x7 k0_pay2 2 2⟩ : View.Piece (Elt F) S1x256x2048 .bf16), (⟨Rect.unit (s := S1x256x2048) ![0, 128, 512] S1x64x512.size inb_S1x256x2048_S1x64x512_0_128_512, gT x0 x1 x2 x3 x4 x5 x6 x7 k0_pay2 2 1⟩ : View.Piece (Elt F) S1x256x2048 .bf16), (⟨Rect.unit (s := S1x256x2048) ![0, 128, 0] S1x64x512.size inb_S1x256x2048_S1x64x512_0_128_0, gT x0 x1 x2 x3 x4 x5 x6 x7 k0_pay2 2 0⟩ : View.Piece (Elt F) S1x256x2048 .bf16), (⟨Rect.unit (s := S1x256x2048) ![0, 64, 1536] S1x64x512.size inb_S1x256x2048_S1x64x512_0_64_1536, gT x0 x1 x2 x3 x4 x5 x6 x7 k0_pay2 1 3⟩ : View.Piece (Elt F) S1x256x2048 .bf16), (⟨Rect.unit (s := S1x256x2048) ![0, 64, 1024] S1x64x512.size inb_S1x256x2048_S1x64x512_0_64_1024, gT x0 x1 x2 x3 x4 x5 x6 x7 k0_pay2 1 2⟩ : View.Piece (Elt F) S1x256x2048 .bf16), (⟨Rect.unit (s := S1x256x2048) ![0, 64, 512] S1x64x512.size inb_S1x256x2048_S1x64x512_0_64_512, gT x0 x1 x2 x3 x4 x5 x6 x7 k0_pay2 1 1⟩ : View.Piece (Elt F) S1x256x2048 .bf16), (⟨Rect.unit (s := S1x256x2048) ![0, 64, 0] S1x64x512.size inb_S1x256x2048_S1x64x512_0_64_0, gT x0 x1 x2 x3 x4 x5 x6 x7 k0_pay2 1 0⟩ : View.Piece (Elt F) S1x256x2048 .bf16), (⟨Rect.unit (s := S1x256x2048) ![0, 0, 1536] S1x64x512.size inb_S1x256x2048_S1x64x512_0_0_1536, gT x0 x1 x2 x3 x4 x5 x6 x7 k0_pay2 0 3⟩ : View.Piece (Elt F) S1x256x2048 .bf16), (⟨Rect.unit (s := S1x256x2048) ![0, 0, 1024] S1x64x512.size inb_S1x256x2048_S1x64x512_0_0_1024, gT x0 x1 x2 x3 x4 x5 x6 x7 k0_pay2 0 2⟩ : View.Piece (Elt F) S1x256x2048 .bf16), (⟨Rect.unit (s := S1x256x2048) ![0, 0, 512] S1x64x512.size inb_S1x256x2048_S1x64x512_0_0_512, gT x0 x1 x2 x3 x4 x5 x6 x7 k0_pay2 0 1⟩ : View.Piece (Elt F) S1x256x2048 .bf16), (⟨Rect.unit (s := S1x256x2048) ![0, 0, 0] S1x64x512.size inb_S1x256x2048_S1x64x512_0_0_0, gT x0 x1 x2 x3 x4 x5 x6 x7 k0_pay2 0 0⟩ : View.Piece (Elt F) S1x256x2048 .bf16)] := by
  change _ = [(⟨Rect.unit (s := S1x256x2048) ![0, 192, 1536] S1x64x512.size inb_S1x256x2048_S1x64x512_0_192_1536, gT3 (gOp x0 x1 x2 x4 x5 x6 k0_pay2 3) x7 (cutV x3 3 3)⟩ : View.Piece (Elt F) S1x256x2048 .bf16), (⟨Rect.unit (s := S1x256x2048) ![0, 192, 1024] S1x64x512.size inb_S1x256x2048_S1x64x512_0_192_1024, gT2 (gOp x0 x1 x2 x4 x5 x6 k0_pay2 3) x7 (cutV x3 3 2)⟩ : View.Piece (Elt F) S1x256x2048 .bf16), (⟨Rect.unit (s := S1x256x2048) ![0, 192, 512] S1x64x512.size inb_S1x256x2048_S1x64x512_0_192_512, gT1 (gOp x0 x1 x2 x4 x5 x6 k0_pay2 3) x7 (cutV x3 3 1)⟩ : View.Piece (Elt F) S1x256x2048 .bf16), (⟨Rect.unit (s := S1x256x2048) ![0, 192, 0] S1x64x512.size inb_S1x256x2048_S1x64x512_0_192_0, gT0 (gOp x0 x1 x2 x4 x5 x6 k0_pay2 3) x7 (cutV x3 3 0)⟩ : View.Piece (Elt F) S1x256x2048 .bf16), (⟨Rect.unit (s := S1x256x2048) ![0, 128, 1536] S1x64x512.size inb_S1x256x2048_S1x64x512_0_128_1536, gT3 (gOp x0 x1 x2 x4 x5 x6 k0_pay2 2) x7 (cutV x3 2 3)⟩ : View.Piece (Elt F) S1x256x2048 .bf16), (⟨Rect.unit (s := S1x256x2048) ![0, 128, 1024] S1x64x512.size inb_S1x256x2048_S1x64x512_0_128_1024, gT2 (gOp x0 x1 x2 x4 x5 x6 k0_pay2 2) x7 (cutV x3 2 2)⟩ : View.Piece (Elt F) S1x256x2048 .bf16), (⟨Rect.unit (s := S1x256x2048) ![0, 128, 512] S1x64x512.size inb_S1x256x2048_S1x64x512_0_128_512, gT1 (gOp x0 x1 x2 x4 x5 x6 k0_pay2 2) x7 (cutV x3 2 1)⟩ : View.Piece (Elt F) S1x256x2048 .bf16), (⟨Rect.unit (s := S1x256x2048) ![0, 128, 0] S1x64x512.size inb_S1x256x2048_S1x64x512_0_128_0, gT0 (gOp x0 x1 x2 x4 x5 x6 k0_pay2 2) x7 (cutV x3 2 0)⟩ : View.Piece (Elt F) S1x256x2048 .bf16), (⟨Rect.unit (s := S1x256x2048) ![0, 64, 1536] S1x64x512.size inb_S1x256x2048_S1x64x512_0_64_1536, gT3 (gOp x0 x1 x2 x4 x5 x6 k0_pay2 1) x7 (cutV x3 1 3)⟩ : View.Piece (Elt F) S1x256x2048 .bf16), (⟨Rect.unit (s := S1x256x2048) ![0, 64, 1024] S1x64x512.size inb_S1x256x2048_S1x64x512_0_64_1024, gT2 (gOp x0 x1 x2 x4 x5 x6 k0_pay2 1) x7 (cutV x3 1 2)⟩ : View.Piece (Elt F) S1x256x2048 .bf16), (⟨Rect.unit (s := S1x256x2048) ![0, 64, 512] S1x64x512.size inb_S1x256x2048_S1x64x512_0_64_512, gT1 (gOp x0 x1 x2 x4 x5 x6 k0_pay2 1) x7 (cutV x3 1 1)⟩ : View.Piece (Elt F) S1x256x2048 .bf16), (⟨Rect.unit (s := S1x256x2048) ![0, 64, 0] S1x64x512.size inb_S1x256x2048_S1x64x512_0_64_0, gT0 (gOp x0 x1 x2 x4 x5 x6 k0_pay2 1) x7 (cutV x3 1 0)⟩ : View.Piece (Elt F) S1x256x2048 .bf16), (⟨Rect.unit (s := S1x256x2048) ![0, 0, 1536] S1x64x512.size inb_S1x256x2048_S1x64x512_0_0_1536, gT3 (gOp x0 x1 x2 x4 x5 x6 k0_pay2 0) x7 (cutV x3 0 3)⟩ : View.Piece (Elt F) S1x256x2048 .bf16), (⟨Rect.unit (s := S1x256x2048) ![0, 0, 1024] S1x64x512.size inb_S1x256x2048_S1x64x512_0_0_1024, gT2 (gOp x0 x1 x2 x4 x5 x6 k0_pay2 0) x7 (cutV x3 0 2)⟩ : View.Piece (Elt F) S1x256x2048 .bf16), (⟨Rect.unit (s := S1x256x2048) ![0, 0, 512] S1x64x512.size inb_S1x256x2048_S1x64x512_0_0_512, gT1 (gOp x0 x1 x2 x4 x5 x6 k0_pay2 0) x7 (cutV x3 0 1)⟩ : View.Piece (Elt F) S1x256x2048 .bf16), (⟨Rect.unit (s := S1x256x2048) ![0, 0, 0] S1x64x512.size inb_S1x256x2048_S1x64x512_0_0_0, gT0 (gOp x0 x1 x2 x4 x5 x6 k0_pay2 0) x7 (cutV x3 0 0)⟩ : View.Piece (Elt F) S1x256x2048 .bf16)]
  conv_rhs => rw [← o_0 (c := c) (harg2 := harg2) (harg3 := harg3) (harg4 := harg4) (harg6 := harg6) (harg7 := harg7) (harg8 := harg8) (arg11 := arg11), ← o_1 (c := c) (harg2 := harg2) (harg3 := harg3) (harg4 := harg4) (harg6 := harg6) (harg7 := harg7) (harg8 := harg8) (arg11 := arg11), ← o_2 (c := c) (harg2 := harg2) (harg3 := harg3) (harg4 := harg4) (harg6 := harg6) (harg7 := harg7) (harg8 := harg8) (arg11 := arg11), ← o_3 (c := c) (harg2 := harg2) (harg3 := harg3) (harg4 := harg4) (harg6 := harg6) (harg7 := harg7) (harg8 := harg8) (arg11 := arg11), ← ld_cutV x3 192 1536 3 3 rfl rfl inb_S1x256x2048_S1x64x512_0_192_1536 (by decide) (by decide), ← ld_cutV x3 192 1024 3 2 rfl rfl inb_S1x256x2048_S1x64x512_0_192_1024 (by decide) (by decide), ← ld_cutV x3 192 512 3 1 rfl rfl inb_S1x256x2048_S1x64x512_0_192_512 (by decide) (by decide), ← ld_cutV x3 192 0 3 0 rfl rfl inb_S1x256x2048_S1x64x512_0_192_0 (by decide) (by decide), ← ld_cutV x3 128 1536 2 3 rfl rfl inb_S1x256x2048_S1x64x512_0_128_1536 (by decide) (by decide), ← ld_cutV x3 128 1024 2 2 rfl rfl inb_S1x256x2048_S1x64x512_0_128_1024 (by decide) (by decide), ← ld_cutV x3 128 512 2 1 rfl rfl inb_S1x256x2048_S1x64x512_0_128_512 (by decide) (by decide), ← ld_cutV x3 128 0 2 0 rfl rfl inb_S1x256x2048_S1x64x512_0_128_0 (by decide) (by decide), ← ld_cutV x3 64 1536 1 3 rfl rfl inb_S1x256x2048_S1x64x512_0_64_1536 (by decide) (by decide), ← ld_cutV x3 64 1024 1 2 rfl rfl inb_S1x256x2048_S1x64x512_0_64_1024 (by decide) (by decide), ← ld_cutV x3 64 512 1 1 rfl rfl inb_S1x256x2048_S1x64x512_0_64_512 (by decide) (by decide), ← ld_cutV x3 64 0 1 0 rfl rfl inb_S1x256x2048_S1x64x512_0_64_0 (by decide) (by decide), ← ld_cutV x3 0 1536 0 3 rfl rfl inb_S1x256x2048_S1x64x512_0_0_1536 (by decide) (by decide), ← ld_cutV x3 0 1024 0 2 rfl rfl inb_S1x256x2048_S1x64x512_0_0_1024 (by decide) (by decide), ← ld_cutV x3 0 512 0 1 rfl rfl inb_S1x256x2048_S1x64x512_0_0_512 (by decide) (by decide), ← ld_cutV x3 0 0 0 0 rfl rfl inb_S1x256x2048_S1x64x512_0_0_0 (by decide) (by decide), ← View.ld_unit_lit (S := S1x512) inb_S1x512_S1x512_0_0 x7 (by decide), ← harg5.read_unread (Val := Elt F) x3, ← harg9.read_unread (Val := Elt F) x7]
  rfl

theorem sout_eq (hc0 : cond0_0 i) :
    sout0_A_0 (F := F) c i arg2 harg2 arg3 harg3 arg4 harg4 arg5 harg5 arg6 harg6 arg7 harg7 arg8 harg8 arg9 harg9 arg10 harg10 arg11 harg11 hc0 x0 x1 x2 x3 x4 x5 x6 x7 = gSS x1 x2 x4 x5 x6 k0_pay2 := by
  unfold sout0_A_0
  rw [View.read_writes_junk_eq_canon, pieces_s]
  funext y
  refine View.canon_append_of_piecesOf (gSS x1 x2 x4 x5 x6 k0_pay2) _ _ ?_ y ?_
  · exact ⟨fun z => gSS_piece x1 x2 x4 x5 x6 k0_pay2 3 inb_S4x256x512_S1x256x512_3_0_0 z, fun z => gSS_piece x1 x2 x4 x5 x6 k0_pay2 2 inb_S4x256x512_S1x256x512_2_0_0 z, fun z => gSS_piece x1 x2 x4 x5 x6 k0_pay2 1 inb_S4x256x512_S1x256x512_1_0_0 z, fun z => gSS_piece x1 x2 x4 x5 x6 k0_pay2 0 inb_S4x256x512_S1x256x512_0_0_0 z, trivial⟩
  · exact View.cover_of_tiledL (s := S4x256x512) _ S1x256x512.size (by sl_kernel_rfl) y

theorem out_eq (hc0 : cond0_0 i) :
    out0_A_8 (F := F) c i arg2 harg2 arg3 harg3 arg4 harg4 arg5 harg5 arg6 harg6 arg7 harg7 arg8 harg8 arg9 harg9 arg10 harg10 arg11 harg11 hc0 x0 x1 x2 x3 x4 x5 x6 x7 = gTT x0 x1 x2 x3 x4 x5 x6 x7 k0_pay2 := by
  unfold out0_A_8
  rw [View.read_writes_junk_eq_canon, pieces_o]
  funext y
  refine (congrArg (fun l => View.canon l y) (List.append_nil _).symm).trans (View.canon_append_of_piecesOf (gTT x0 x1 x2 x3 x4 x5 x6 x7 k0_pay2) [] _ ?_ y ?_)
  · exact ⟨fun z => gTT_piece x0 x1 x2 x3 x4 x5 x6 x7 k0_pay2 3 3 192 1536 rfl rfl inb_S1x256x2048_S1x64x512_0_192_1536 z, fun z => gTT_piece x0 x1 x2 x3 x4 x5 x6 x7 k0_pay2 3 2 192 1024 rfl rfl inb_S1x256x2048_S1x64x512_0_192_1024 z, fun z => gTT_piece x0 x1 x2 x3 x4 x5 x6 x7 k0_pay2 3 1 192 512 rfl rfl inb_S1x256x2048_S1x64x512_0_192_512 z, fun z => gTT_piece x0 x1 x2 x3 x4 x5 x6 x7 k0_pay2 3 0 192 0 rfl rfl inb_S1x256x2048_S1x64x512_0_192_0 z, fun z => gTT_piece x0 x1 x2 x3 x4 x5 x6 x7 k0_pay2 2 3 128 1536 rfl rfl inb_S1x256x2048_S1x64x512_0_128_1536 z, fun z => gTT_piece x0 x1 x2 x3 x4 x5 x6 x7 k0_pay2 2 2 128 1024 rfl rfl inb_S1x256x2048_S1x64x512_0_128_1024 z, fun z => gTT_piece x0 x1 x2 x3 x4 x5 x6 x7 k0_pay2 2 1 128 512 rfl rfl inb_S1x256x2048_S1x64x512_0_128_512 z, fun z => gTT_piece x0 x1 x2 x3 x4 x5 x6 x7 k0_pay2 2 0 128 0 rfl rfl inb_S1x256x2048_S1x64x512_0_128_0 z, fun z => gTT_piece x0 x1 x2 x3 x4 x5 x6 x7 k0_pay2 1 3 64 1536 rfl rfl inb_S1x256x2048_S1x64x512_0_64_1536 z, fun z => gTT_piece x0 x1 x2 x3 x4 x5 x6 x7 k0_pay2 1 2 64 1024 rfl rfl inb_S1x256x2048_S1x64x512_0_64_1024 z, fun z => gTT_piece x0 x1 x2 x3 x4 x5 x6 x7 k0_pay2 1 1 64 512 rfl rfl inb_S1x256x2048_S1x64x512_0_64_512 z, fun z => gTT_piece x0 x1 x2 x3 x4 x5 x6 x7 k0_pay2 1 0 64 0 rfl rfl inb_S1x256x2048_S1x64x512_0_64_0 z, fun z => gTT_piece x0 x1 x2 x3 x4 x5 x6 x7 k0_pay2 0 3 0 1536 rfl rfl inb_S1x256x2048_S1x64x512_0_0_1536 z, fun z => gTT_piece x0 x1 x2 x3 x4 x5 x6 x7 k0_pay2 0 2 0 1024 rfl rfl inb_S1x256x2048_S1x64x512_0_0_1024 z, fun z => gTT_piece x0 x1 x2 x3 x4 x5 x6 x7 k0_pay2 0 1 0 512 rfl rfl inb_S1x256x2048_S1x64x512_0_0_512 z, fun z => gTT_piece x0 x1 x2 x3 x4 x5 x6 x7 k0_pay2 0 0 0 0 rfl rfl inb_S1x256x2048_S1x64x512_0_0_0 z, trivial⟩
  · exact View.cover_of_tiledL (s := S1x256x2048) _ S1x64x512.size (by sl_kernel_rfl) y

end Cert.KernelIdeal.Gla.CaseA
end
-- ==== Proof.GlaCaseB.lean ====
/- The values of the gated linear attention kernel at a grid point that continues a sweep: its named values are the shared chunk functions. -/
module

public import proofs.«01_k».proof.Proof.GlaBlocks

@[expose] public section

set_option maxRecDepth 16384

noncomputable section

open Idealize.ShloMosaic Idealize.ShloMosaic.TcCoe Idealize.SL.Sem

namespace Cert.KernelIdeal.Gla.CaseB
open Cert.KernelIdeal Cert.KernelIdeal.Gen Cert.KernelIdeal.Gla

variable {F : FTy → Type} [FloatOps F]
variable (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x256x128 .f32) (harg6 : arg6.IsWhole) (arg7 : Memref sig .tc .vmem S128x1024 .f32) (harg7 : arg7.IsWhole) (arg8 : Memref sig .tc .vmem S1x1024 .f32) (harg8 : arg8.IsWhole) (arg9 : Memref sig .tc .vmem S1x512 .f32) (harg9 : arg9.IsWhole) (arg10 : Memref sig .tc .vmem S1x256x2048 .bf16) (harg10 : arg10.IsWhole) (arg11 : Memref sig .tc .vmem S4x256x512 .f32) (harg11 : arg11.IsWhole)
variable (x0 : Vec F S1x256x1024 .f32) (x1 : Vec F S1x256x1024 .f32) (x2 : Vec F S1x256x2048 .f32) (x3 : Vec F S1x256x2048 .f32) (x4 : Vec F S1x256x128 .f32) (x5 : Vec F S128x1024 .f32) (x6 : Vec F S1x1024 .f32) (x7 : Vec F S1x512 .f32) (xs0 : Vec F S4x256x512 .f32)

theorem bc_0 :
    (kernelRun0_B.sl.r_2 (F := F) c arg6 harg6 arg7 harg7 arg8 harg8 x4 x5 x6) = gBC (cutL x4 0) x5 x6 := by
  conv_rhs => rw [← ld_cutL x4 0 0 rfl inb_S1x256x128_S1x64x128_0_0_0 (by decide), ← View.ld_unit_lit (S := S128x1024) inb_S128x1024_S128x1024_0_0 x5 (by decide), ← View.ld_unit_lit (S := S1x1024) inb_S1x1024_S1x1024_0_0 x6 (by decide), ← harg6.read_unread (Val := Elt F) x4, ← harg7.read_unread (Val := Elt F) x5, ← harg8.read_unread (Val := Elt F) x6]
  rfl

theorem q_0 :
    (kernelRun0_B.sl.r_3 (F := F) c arg2 harg2 x0) = gQ x0 0 := by
  unfold gQ
  conv_rhs => rw [← ld_cutK x0 0 0 0 0 rfl rfl inb_S1x256x1024_S1x64x256_0_0_0 (by decide) (by decide), ← ld_cutK x0 0 256 0 1 rfl rfl inb_S1x256x1024_S1x64x256_0_0_256 (by decide) (by decide), ← ld_cutK x0 0 512 0 2 rfl rfl inb_S1x256x1024_S1x64x256_0_0_512 (by decide) (by decide), ← ld_cutK x0 0 768 0 3 rfl rfl inb_S1x256x1024_S1x64x256_0_0_768 (by decide) (by decide), ← harg2.read_unread (Val := Elt F) x0]
  rfl

theorem k_0 :
    (kernelRun0_B.sl.r_4 (F := F) c arg3 harg3 x1) = gK x1 0 := by
  unfold gK
  conv_rhs => rw [← ld_cutK x1 0 0 0 0 rfl rfl inb_S1x256x1024_S1x64x256_0_0_0 (by decide) (by decide), ← ld_cutK x1 0 256 0 1 rfl rfl inb_S1x256x1024_S1x64x256_0_0_256 (by decide) (by decide), ← ld_cutK x1 0 512 0 2 rfl rfl inb_S1x256x1024_S1x64x256_0_0_512 (by decide) (by decide), ← ld_cutK x1 0 768 0 3 rfl rfl inb_S1x256x1024_S1x64x256_0_0_768 (by decide) (by decide), ← harg3.read_unread (Val := Elt F) x1]
  rfl

theorem v_0 :
    (kernelRun0_B.sl.r_7 (F := F) c arg4 harg4 x2) = gV x2 0 := by
  unfold gV
  conv_rhs => rw [← ld_cutV x2 0 0 0 0 rfl rfl inb_S1x256x2048_S1x64x512_0_0_0 (by decide) (by decide), ← ld_cutV x2 0 512 0 1 rfl rfl inb_S1x256x2048_S1x64x512_0_0_512 (by decide) (by decide), ← ld_cutV x2 0 1024 0 2 rfl rfl inb_S1x256x2048_S1x64x512_0_0_1024 (by decide) (by decide), ← ld_cutV x2 0 1536 0 3 rfl rfl inb_S1x256x2048_S1x64x512_0_0_1536 (by decide) (by decide), ← harg4.read_unread (Val := Elt F) x2]
  rfl

theorem bc_1 :
    (kernelRun0_B.sl.r_26 (F := F) c arg6 harg6 arg7 harg7 arg8 harg8 x4 x5 x6) = gBC (cutL x4 1) x5 x6 := by
  conv_rhs => rw [← ld_cutL x4 64 1 rfl inb_S1x256x128_S1x64x128_0_64_0 (by decide), ← View.ld_unit_lit (S := S128x1024) inb_S128x1024_S128x1024_0_0 x5 (by decide), ← View.ld_unit_lit (S := S1x1024) inb_S1x1024_S1x1024_0_0 x6 (by decide), ← harg6.read_unread (Val := Elt F) x4, ← harg7.read_unread (Val := Elt F) x5, ← harg8.read_unread (Val := Elt F) x6]
  rfl

theorem q_1 :
    (kernelRun0_B.sl.r_30 (F := F) c arg2 harg2 x0) = gQ x0 1 := by
  unfold gQ
  conv_rhs => rw [← ld_cutK x0 64 0 1 0 rfl rfl inb_S1x256x1024_S1x64x256_0_64_0 (by decide) (by decide), ← ld_cutK x0 64 256 1 1 rfl rfl inb_S1x256x1024_S1x64x256_0_64_256 (by decide) (by decide), ← ld_cutK x0 64 512 1 2 rfl rfl inb_S1x256x1024_S1x64x256_0_64_512 (by decide) (by decide), ← ld_cutK x0 64 768 1 3 rfl rfl inb_S1x256x1024_S1x64x256_0_64_768 (by decide) (by decide), ← harg2.read_unread (Val := Elt F) x0]
  rfl

theorem k_1 :
    (kernelRun0_B.sl.r_31 (F := F) c arg3 harg3 x1) = gK x1 1 := by
  unfold gK
  conv_rhs => rw [← ld_cutK x1 64 0 1 0 rfl rfl inb_S1x256x1024_S1x64x256_0_64_0 (by decide) (by decide), ← ld_cutK x1 64 256 1 1 rfl rfl inb_S1x256x1024_S1x64x256_0_64_256 (by decide) (by decide), ← ld_cutK x1 64 512 1 2 rfl rfl inb_S1x256x1024_S1x64x256_0_64_512 (by decide) (by decide), ← ld_cutK x1 64 768 1 3 rfl rfl inb_S1x256x1024_S1x64x256_0_64_768 (by decide) (by decide), ← harg3.read_unread (Val := Elt F) x1]
  rfl

theorem v_1 :
    (kernelRun0_B.sl.r_32 (F := F) c arg4 harg4 x2) = gV x2 1 := by
  unfold gV
  conv_rhs => rw [← ld_cutV x2 64 0 1 0 rfl rfl inb_S1x256x2048_S1x64x512_0_64_0 (by decide) (by decide), ← ld_cutV x2 64 512 1 1 rfl rfl inb_S1x256x2048_S1x64x512_0_64_512 (by decide) (by decide), ← ld_cutV x2 64 1024 1 2 rfl rfl inb_S1x256x2048_S1x64x512_0_64_1024 (by decide) (by decide), ← ld_cutV x2 64 1536 1 3 rfl rfl inb_S1x256x2048_S1x64x512_0_64_1536 (by decide) (by decide), ← harg4.read_unread (Val := Elt F) x2]
  rfl

theorem bc_2 :
    (kernelRun0_B.sl.r_57 (F := F) c arg6 harg6 arg7 harg7 arg8 harg8 x4 x5 x6) = gBC (cutL x4 2) x5 x6 := by
  conv_rhs => rw [← ld_cutL x4 128 2 rfl inb_S1x256x128_S1x64x128_0_128_0 (by decide), ← View.ld_unit_lit (S := S128x1024) inb_S128x1024_S128x1024_0_0 x5 (by decide), ← View.ld_unit_lit (S := S1x1024) inb_S1x1024_S1x1024_0_0 x6 (by decide), ← harg6.read_unread (Val := Elt F) x4, ← harg7.read_unread (Val := Elt F) x5, ← harg8.read_unread (Val := Elt F) x6]
  rfl

theorem q_2 :
    (kernelRun0_B.sl.r_58 (F := F) c arg2 harg2 x0) = gQ x0 2 := by
  unfold gQ
  conv_rhs => rw [← ld_cutK x0 128 0 2 0 rfl rfl inb_S1x256x1024_S1x64x256_0_128_0 (by decide) (by decide), ← ld_cutK x0 128 256 2 1 rfl rfl inb_S1x256x1024_S1x64x256_0_128_256 (by decide) (by decide), ← ld_cutK x0 128 512 2 2 rfl rfl inb_S1x256x1024_S1x64x256_0_128_512 (by decide) (by decide), ← ld_cutK x0 128 768 2 3 rfl rfl inb_S1x256x1024_S1x64x256_0_128_768 (by decide) (by decide), ← harg2.read_unread (Val := Elt F) x0]
  rfl

theorem k_2 :
    (kernelRun0_B.sl.r_61 (F := F) c arg3 harg3 x1) = gK x1 2 := by
  unfold gK
  conv_rhs => rw [← ld_cutK x1 128 0 2 0 rfl rfl inb_S1x256x1024_S1x64x256_0_128_0 (by decide) (by decide), ← ld_cutK x1 128 256 2 1 rfl rfl inb_S1x256x1024_S1x64x256_0_128_256 (by decide) (by decide), ← ld_cutK x1 128 512 2 2 rfl rfl inb_S1x256x1024_S1x64x256_0_128_512 (by decide) (by decide), ← ld_cutK x1 128 768 2 3 rfl rfl inb_S1x256x1024_S1x64x256_0_128_768 (by decide) (by decide), ← harg3.read_unread (Val := Elt F) x1]
  rfl

theorem v_2 :
    (kernelRun0_B.sl.r_62 (F := F) c arg4 harg4 x2) = gV x2 2 := by
  unfold gV
  conv_rhs => rw [← ld_cutV x2 128 0 2 0 rfl rfl inb_S1x256x2048_S1x64x512_0_128_0 (by decide) (by decide), ← ld_cutV x2 128 512 2 1 rfl rfl inb_S1x256x2048_S1x64x512_0_128_512 (by decide) (by decide), ← ld_cutV x2 128 1024 2 2 rfl rfl inb_S1x256x2048_S1x64x512_0_128_1024 (by decide) (by decide), ← ld_cutV x2 128 1536 2 3 rfl rfl inb_S1x256x2048_S1x64x512_0_128_1536 (by decide) (by decide), ← harg4.read_unread (Val := Elt F) x2]
  rfl

theorem bc_3 :
    (kernelRun0_B.sl.r_88 (F := F) c arg6 harg6 arg7 harg7 arg8 harg8 x4 x5 x6) = gBC (cutL x4 3) x5 x6 := by
  conv_rhs => rw [← ld_cutL x4 192 3 rfl inb_S1x256x128_S1x64x128_0_192_0 (by decide), ← View.ld_unit_lit (S := S128x1024) inb_S128x1024_S128x1024_0_0 x5 (by decide), ← View.ld_unit_lit (S := S1x1024) inb_S1x1024_S1x1024_0_0 x6 (by decide), ← harg6.read_unread (Val := Elt F) x4, ← harg7.read_unread (Val := Elt F) x5, ← harg8.read_unread (Val := Elt F) x6]
  rfl

theorem q_3 :
    (kernelRun0_B.sl.r_89 (F := F) c arg2 harg2 x0) = gQ x0 3 := by
  unfold gQ
  conv_rhs => rw [← ld_cutK x0 192 0 3 0 rfl rfl inb_S1x256x1024_S1x64x256_0_192_0 (by decide) (by decide), ← ld_cutK x0 192 256 3 1 rfl rfl inb_S1x256x1024_S1x64x256_0_192_256 (by decide) (by decide), ← ld_cutK x0 192 512 3 2 rfl rfl inb_S1x256x1024_S1x64x256_0_192_512 (by decide) (by decide), ← ld_cutK x0 192 768 3 3 rfl rfl inb_S1x256x1024_S1x64x256_0_192_768 (by decide) (by decide), ← harg2.read_unread (Val := Elt F) x0]
  rfl

theorem k_3 :
    (kernelRun0_B.sl.r_90 (F := F) c arg3 harg3 x1) = gK x1 3 := by
  unfold gK
  conv_rhs => rw [← ld_cutK x1 192 0 3 0 rfl rfl inb_S1x256x1024_S1x64x256_0_192_0 (by decide) (by decide), ← ld_cutK x1 192 256 3 1 rfl rfl inb_S1x256x1024_S1x64x256_0_192_256 (by decide) (by decide), ← ld_cutK x1 192 512 3 2 rfl rfl inb_S1x256x1024_S1x64x256_0_192_512 (by decide) (by decide), ← ld_cutK x1 192 768 3 3 rfl rfl inb_S1x256x1024_S1x64x256_0_192_768 (by decide) (by decide), ← harg3.read_unread (Val := Elt F) x1]
  rfl

theorem v_3 :
    (kernelRun0_B.sl.r_93 (F := F) c arg4 harg4 x2) = gV x2 3 := by
  unfold gV
  conv_rhs => rw [← ld_cutV x2 192 0 3 0 rfl rfl inb_S1x256x2048_S1x64x512_0_192_0 (by decide) (by decide), ← ld_cutV x2 192 512 3 1 rfl rfl inb_S1x256x2048_S1x64x512_0_192_512 (by decide) (by decide), ← ld_cutV x2 192 1024 3 2 rfl rfl inb_S1x256x2048_S1x64x512_0_192_1024 (by decide) (by decide), ← ld_cutV x2 192 1536 3 3 rfl rfl inb_S1x256x2048_S1x64x512_0_192_1536 (by decide) (by decide), ← harg4.read_unread (Val := Elt F) x2]
  rfl

theorem s_0_0 :
    ((arg11.view).readAt (Elt F) (Rect.unit (s := S4x256x512) ![0, 0, 0] S1x256x512.size inb_S4x256x512_S1x256x512_0_0_0).toLoadRect (harg11.unread xs0)) = gS x1 x2 x4 x5 x6 xs0 0 0 := by
  rw [View.readAt_eq_ld, harg11.read_unread]
  exact ld_hd xs0 0 _ (by decide)

theorem s_0_1 :
    ((arg11.view).readAt (Elt F) (Rect.unit (s := S4x256x512) ![1, 0, 0] S1x256x512.size inb_S4x256x512_S1x256x512_1_0_0).toLoadRect (harg11.unread xs0)) = gS x1 x2 x4 x5 x6 xs0 0 1 := by
  rw [View.readAt_eq_ld, harg11.read_unread]
  exact ld_hd xs0 1 _ (by decide)

theorem s_0_2 :
    ((arg11.view).readAt (Elt F) (Rect.unit (s := S4x256x512) ![2, 0, 0] S1x256x512.size inb_S4x256x512_S1x256x512_2_0_0).toLoadRect (harg11.unread xs0)) = gS x1 x2 x4 x5 x6 xs0 0 2 := by
  rw [View.readAt_eq_ld, harg11.read_unread]
  exact ld_hd xs0 2 _ (by decide)

theorem s_0_3 :
    ((arg11.view).readAt (Elt F) (Rect.unit (s := S4x256x512) ![3, 0, 0] S1x256x512.size inb_S4x256x512_S1x256x512_3_0_0).toLoadRect (harg11.unread xs0)) = gS x1 x2 x4 x5 x6 xs0 0 3 := by
  rw [View.readAt_eq_ld, harg11.read_unread]
  exact ld_hd xs0 3 _ (by decide)

theorem o_0 :
    (kernelRun0_B.sl.r_19 (F := F) c arg2 harg2 arg3 harg3 arg4 harg4 arg6 harg6 arg7 harg7 arg8 harg8 arg11 harg11 x0 x1 x2 x4 x5 x6 xs0) = gOp x0 x1 x2 x4 x5 x6 xs0 0 := by
  unfold gOp
  rw [← bc_0 (c := c) (harg6 := harg6) (harg7 := harg7) (harg8 := harg8), ← q_0 (c := c) (harg2 := harg2), ← k_0 (c := c) (harg3 := harg3), ← v_0 (c := c) (harg4 := harg4), ← s_0_0 (arg11 := arg11) (harg11 := harg11), ← s_0_1 (arg11 := arg11) (harg11 := harg11), ← s_0_2 (arg11 := arg11) (harg11 := harg11), ← s_0_3 (arg11 := arg11) (harg11 := harg11)]
  rfl

theorem s_1_0 :
    (kernelRun0_B.sl.v424 (F := F) c arg3 harg3 arg4 harg4 arg6 harg6 arg7 harg7 arg8 harg8 arg11 harg11 x1 x2 x4 x5 x6 xs0) = gS x1 x2 x4 x5 x6 xs0 1 0 := by
  unfold kernelRun0_B.sl.v424 kernelRun0_B.sl.HS0_4
  rw [View.readCov_skip _ _ _ _ _ (by decide), View.readCov_skip _ _ _ _ _ (by decide), View.readCov_skip _ _ _ _ _ (by decide), View.readCov_cons_toLoadRect]
  change _ = gN0 (gBC (cutL x4 0) x5 x6) (gK x1 0) (gV x2 0) (gS x1 x2 x4 x5 x6 xs0 0 0)
  rw [← bc_0 (c := c) (harg6 := harg6) (harg7 := harg7) (harg8 := harg8), ← k_0 (c := c) (harg3 := harg3), ← v_0 (c := c) (harg4 := harg4), ← s_0_0 (arg11 := arg11) (harg11 := harg11)]
  rfl

theorem s_1_1 :
    (kernelRun0_B.sl.v426 (F := F) c arg3 harg3 arg4 harg4 arg6 harg6 arg7 harg7 arg8 harg8 arg11 harg11 x1 x2 x4 x5 x6 xs0) = gS x1 x2 x4 x5 x6 xs0 1 1 := by
  unfold kernelRun0_B.sl.v426 kernelRun0_B.sl.HS0_4
  rw [View.readCov_skip _ _ _ _ _ (by decide), View.readCov_skip _ _ _ _ _ (by decide), View.readCov_cons_toLoadRect]
  change _ = gN1 (gBC (cutL x4 0) x5 x6) (gK x1 0) (gV x2 0) (gS x1 x2 x4 x5 x6 xs0 0 1)
  rw [← bc_0 (c := c) (harg6 := harg6) (harg7 := harg7) (harg8 := harg8), ← k_0 (c := c) (harg3 := harg3), ← v_0 (c := c) (harg4 := harg4), ← s_0_1 (arg11 := arg11) (harg11 := harg11)]
  rfl

theorem s_1_2 :
    (kernelRun0_B.sl.v428 (F := F) c arg3 harg3 arg4 harg4 arg6 harg6 arg7 harg7 arg8 harg8 arg11 harg11 x1 x2 x4 x5 x6 xs0) = gS x1 x2 x4 x5 x6 xs0 1 2 := by
  unfold kernelRun0_B.sl.v428 kernelRun0_B.sl.HS0_4
  rw [View.readCov_skip _ _ _ _ _ (by decide), View.readCov_cons_toLoadRect]
  change _ = gN2 (gBC (cutL x4 0) x5 x6) (gK x1 0) (gV x2 0) (gS x1 x2 x4 x5 x6 xs0 0 2)
  rw [← bc_0 (c := c) (harg6 := harg6) (harg7 := harg7) (harg8 := harg8), ← k_0 (c := c) (harg3 := harg3), ← v_0 (c := c) (harg4 := harg4), ← s_0_2 (arg11 := arg11) (harg11 := harg11)]
  rfl

theorem s_1_3 :
    (kernelRun0_B.sl.v430 (F := F) c arg3 harg3 arg4 harg4 arg6 harg6 arg7 harg7 arg8 harg8 arg11 harg11 x1 x2 x4 x5 x6 xs0) = gS x1 x2 x4 x5 x6 xs0 1 3 := by
  unfold kernelRun0_B.sl.v430 kernelRun0_B.sl.HS0_4
  rw [View.readCov_cons_toLoadRect]
  change _ = gN3 (gBC (cutL x4 0) x5 x6) (gK x1 0) (gV x2 0) (gS x1 x2 x4 x5 x6 xs0 0 3)
  rw [← bc_0 (c := c) (harg6 := harg6) (harg7 := harg7) (harg8 := harg8), ← k_0 (c := c) (harg3 := harg3), ← v_0 (c := c) (harg4 := harg4), ← s_0_3 (arg11 := arg11) (harg11 := harg11)]
  rfl

theorem o_1 :
    (kernelRun0_B.sl.r_48 (F := F) c arg2 harg2 arg3 harg3 arg4 harg4 arg6 harg6 arg7 harg7 arg8 harg8 arg11 harg11 x0 x1 x2 x4 x5 x6 xs0) = gOp x0 x1 x2 x4 x5 x6 xs0 1 := by
  unfold gOp
  rw [← bc_1 (c := c) (harg6 := harg6) (harg7 := harg7) (harg8 := harg8), ← q_1 (c := c) (harg2 := harg2), ← k_1 (c := c) (harg3 := harg3), ← v_1 (c := c) (harg4 := harg4), ← s_1_0 (c := c) (harg3 := harg3) (harg4 := harg4) (harg6 := harg6) (harg7 := harg7) (harg8 := harg8) (harg11 := harg11), ← s_1_1 (c := c) (harg3 := harg3) (harg4 := harg4) (harg6 := harg6) (harg7 := harg7) (harg8 := harg8) (harg11 := harg11), ← s_1_2 (c := c) (harg3 := harg3) (harg4 := harg4) (harg6 := harg6) (harg7 := harg7) (harg8 := harg8) (harg11 := harg11), ← s_1_3 (c := c) (harg3 := harg3) (harg4 := harg4) (harg6 := harg6) (harg7 := harg7) (harg8 := harg8) (harg11 := harg11)]
  rfl

theorem s_2_0 :
    (kernelRun0_B.sl.v686 (F := F) c arg3 harg3 arg4 harg4 arg6 harg6 arg7 harg7 arg8 harg8 arg11 harg11 x1 x2 x4 x5 x6 xs0) = gS x1 x2 x4 x5 x6 xs0 2 0 := by
  unfold kernelRun0_B.sl.v686 kernelRun0_B.sl.HS0_8
  rw [View.readCov_skip _ _ _ _ _ (by decide), View.readCov_skip _ _ _ _ _ (by decide), View.readCov_skip _ _ _ _ _ (by decide), View.readCov_cons_toLoadRect]
  change _ = gN0 (gBC (cutL x4 1) x5 x6) (gK x1 1) (gV x2 1) (gS x1 x2 x4 x5 x6 xs0 1 0)
  rw [← bc_1 (c := c) (harg6 := harg6) (harg7 := harg7) (harg8 := harg8), ← k_1 (c := c) (harg3 := harg3), ← v_1 (c := c) (harg4 := harg4), ← s_1_0 (c := c) (harg3 := harg3) (harg4 := harg4) (harg6 := harg6) (harg7 := harg7) (harg8 := harg8) (harg11 := harg11)]
  rfl

theorem s_2_1 :
    (kernelRun0_B.sl.v688 (F := F) c arg3 harg3 arg4 harg4 arg6 harg6 arg7 harg7 arg8 harg8 arg11 harg11 x1 x2 x4 x5 x6 xs0) = gS x1 x2 x4 x5 x6 xs0 2 1 := by
  unfold kernelRun0_B.sl.v688 kernelRun0_B.sl.HS0_8
  rw [View.readCov_skip _ _ _ _ _ (by decide), View.readCov_skip _ _ _ _ _ (by decide), View.readCov_cons_toLoadRect]
  change _ = gN1 (gBC (cutL x4 1) x5 x6) (gK x1 1) (gV x2 1) (gS x1 x2 x4 x5 x6 xs0 1 1)
  rw [← bc_1 (c := c) (harg6 := harg6) (harg7 := harg7) (harg8 := harg8), ← k_1 (c := c) (harg3 := harg3), ← v_1 (c := c) (harg4 := harg4), ← s_1_1 (c := c) (harg3 := harg3) (harg4 := harg4) (harg6 := harg6) (harg7 := harg7) (harg8 := harg8) (harg11 := harg11)]
  rfl

theorem s_2_2 :
    (kernelRun0_B.sl.v690 (F := F) c arg3 harg3 arg4 harg4 arg6 harg6 arg7 harg7 arg8 harg8 arg11 harg11 x1 x2 x4 x5 x6 xs0) = gS x1 x2 x4 x5 x6 xs0 2 2 := by
  unfold kernelRun0_B.sl.v690 kernelRun0_B.sl.HS0_8
  rw [View.readCov_skip _ _ _ _ _ (by decide), View.readCov_cons_toLoadRect]
  change _ = gN2 (gBC (cutL x4 1) x5 x6) (gK x1 1) (gV x2 1) (gS x1 x2 x4 x5 x6 xs0 1 2)
  rw [← bc_1 (c := c) (harg6 := harg6) (harg7 := harg7) (harg8 := harg8), ← k_1 (c := c) (harg3 := harg3), ← v_1 (c := c) (harg4 := harg4), ← s_1_2 (c := c) (harg3 := harg3) (harg4 := harg4) (harg6 := harg6) (harg7 := harg7) (harg8 := harg8) (harg11 := harg11)]
  rfl

theorem s_2_3 :
    (kernelRun0_B.sl.v692 (F := F) c arg3 harg3 arg4 harg4 arg6 harg6 arg7 harg7 arg8 harg8 arg11 harg11 x1 x2 x4 x5 x6 xs0) = gS x1 x2 x4 x5 x6 xs0 2 3 := by
  unfold kernelRun0_B.sl.v692 kernelRun0_B.sl.HS0_8
  rw [View.readCov_cons_toLoadRect]
  change _ = gN3 (gBC (cutL x4 1) x5 x6) (gK x1 1) (gV x2 1) (gS x1 x2 x4 x5 x6 xs0 1 3)
  rw [← bc_1 (c := c) (harg6 := harg6) (harg7 := harg7) (harg8 := harg8), ← k_1 (c := c) (harg3 := harg3), ← v_1 (c := c) (harg4 := harg4), ← s_1_3 (c := c) (harg3 := harg3) (harg4 := harg4) (harg6 := harg6) (harg7 := harg7) (harg8 := harg8) (harg11 := harg11)]
  rfl

theorem o_2 :
    (kernelRun0_B.sl.r_80 (F := F) c arg2 harg2 arg3 harg3 arg4 harg4 arg6 harg6 arg7 harg7 arg8 harg8 arg11 harg11 x0 x1 x2 x4 x5 x6 xs0) = gOp x0 x1 x2 x4 x5 x6 xs0 2 := by
  unfold gOp
  rw [← bc_2 (c := c) (harg6 := harg6) (harg7 := harg7) (harg8 := harg8), ← q_2 (c := c) (harg2 := harg2), ← k_2 (c := c) (harg3 := harg3), ← v_2 (c := c) (harg4 := harg4), ← s_2_0 (c := c) (harg3 := harg3) (harg4 := harg4) (harg6 := harg6) (harg7 := harg7) (harg8 := harg8) (harg11 := harg11), ← s_2_1 (c := c) (harg3 := harg3) (harg4 := harg4) (harg6 := harg6) (harg7 := harg7) (harg8 := harg8) (harg11 := harg11), ← s_2_2 (c := c) (harg3 := harg3) (harg4 := harg4) (harg6 := harg6) (harg7 := harg7) (harg8 := harg8) (harg11 := harg11), ← s_2_3 (c := c) (harg3 := harg3) (harg4 := harg4) (harg6 := harg6) (harg7 := harg7) (harg8 := harg8) (harg11 := harg11)]
  rfl

theorem s_3_0 :
    (kernelRun0_B.sl.v948 (F := F) c arg3 harg3 arg4 harg4 arg6 harg6 arg7 harg7 arg8 harg8 arg11 harg11 x1 x2 x4 x5 x6 xs0) = gS x1 x2 x4 x5 x6 xs0 3 0 := by
  unfold kernelRun0_B.sl.v948 kernelRun0_B.sl.HS0_12
  rw [View.readCov_skip _ _ _ _ _ (by decide), View.readCov_skip _ _ _ _ _ (by decide), View.readCov_skip _ _ _ _ _ (by decide), View.readCov_cons_toLoadRect]
  change _ = gN0 (gBC (cutL x4 2) x5 x6) (gK x1 2) (gV x2 2) (gS x1 x2 x4 x5 x6 xs0 2 0)
  rw [← bc_2 (c := c) (harg6 := harg6) (harg7 := harg7) (harg8 := harg8), ← k_2 (c := c) (harg3 := harg3), ← v_2 (c := c) (harg4 := harg4), ← s_2_0 (c := c) (harg3 := harg3) (harg4 := harg4) (harg6 := harg6) (harg7 := harg7) (harg8 := harg8) (harg11 := harg11)]
  rfl

theorem s_3_1 :
    (kernelRun0_B.sl.v950 (F := F) c arg3 harg3 arg4 harg4 arg6 harg6 arg7 harg7 arg8 harg8 arg11 harg11 x1 x2 x4 x5 x6 xs0) = gS x1 x2 x4 x5 x6 xs0 3 1 := by
  unfold kernelRun0_B.sl.v950 kernelRun0_B.sl.HS0_12
  rw [View.readCov_skip _ _ _ _ _ (by decide), View.readCov_skip _ _ _ _ _ (by decide), View.readCov_cons_toLoadRect]
  change _ = gN1 (gBC (cutL x4 2) x5 x6) (gK x1 2) (gV x2 2) (gS x1 x2 x4 x5 x6 xs0 2 1)
  rw [← bc_2 (c := c) (harg6 := harg6) (harg7 := harg7) (harg8 := harg8), ← k_2 (c := c) (harg3 := harg3), ← v_2 (c := c) (harg4 := harg4), ← s_2_1 (c := c) (harg3 := harg3) (harg4 := harg4) (harg6 := harg6) (harg7 := harg7) (harg8 := harg8) (harg11 := harg11)]
  rfl

theorem s_3_2 :
    (kernelRun0_B.sl.v952 (F := F) c arg3 harg3 arg4 harg4 arg6 harg6 arg7 harg7 arg8 harg8 arg11 harg11 x1 x2 x4 x5 x6 xs0) = gS x1 x2 x4 x5 x6 xs0 3 2 := by
  unfold kernelRun0_B.sl.v952 kernelRun0_B.sl.HS0_12
  rw [View.readCov_skip _ _ _ _ _ (by decide), View.readCov_cons_toLoadRect]
  change _ = gN2 (gBC (cutL x4 2) x5 x6) (gK x1 2) (gV x2 2) (gS x1 x2 x4 x5 x6 xs0 2 2)
  rw [← bc_2 (c := c) (harg6 := harg6) (harg7 := harg7) (harg8 := harg8), ← k_2 (c := c) (harg3 := harg3), ← v_2 (c := c) (harg4 := harg4), ← s_2_2 (c := c) (harg3 := harg3) (harg4 := harg4) (harg6 := harg6) (harg7 := harg7) (harg8 := harg8) (harg11 := harg11)]
  rfl

theorem s_3_3 :
    (kernelRun0_B.sl.v954 (F := F) c arg3 harg3 arg4 harg4 arg6 harg6 arg7 harg7 arg8 harg8 arg11 harg11 x1 x2 x4 x5 x6 xs0) = gS x1 x2 x4 x5 x6 xs0 3 3 := by
  unfold kernelRun0_B.sl.v954 kernelRun0_B.sl.HS0_12
  rw [View.readCov_cons_toLoadRect]
  change _ = gN3 (gBC (cutL x4 2) x5 x6) (gK x1 2) (gV x2 2) (gS x1 x2 x4 x5 x6 xs0 2 3)
  rw [← bc_2 (c := c) (harg6 := harg6) (harg7 := harg7) (harg8 := harg8), ← k_2 (c := c) (harg3 := harg3), ← v_2 (c := c) (harg4 := harg4), ← s_2_3 (c := c) (harg3 := harg3) (harg4 := harg4) (harg6 := harg6) (harg7 := harg7) (harg8 := harg8) (harg11 := harg11)]
  rfl

theorem o_3 :
    (kernelRun0_B.sl.r_105 (F := F) c arg2 harg2 arg3 harg3 arg4 harg4 arg6 harg6 arg7 harg7 arg8 harg8 arg11 harg11 x0 x1 x2 x4 x5 x6 xs0) = gOp x0 x1 x2 x4 x5 x6 xs0 3 := by
  unfold gOp
  rw [← bc_3 (c := c) (harg6 := harg6) (harg7 := harg7) (harg8 := harg8), ← q_3 (c := c) (harg2 := harg2), ← k_3 (c := c) (harg3 := harg3), ← v_3 (c := c) (harg4 := harg4), ← s_3_0 (c := c) (harg3 := harg3) (harg4 := harg4) (harg6 := harg6) (harg7 := harg7) (harg8 := harg8) (harg11 := harg11), ← s_3_1 (c := c) (harg3 := harg3) (harg4 := harg4) (harg6 := harg6) (harg7 := harg7) (harg8 := harg8) (harg11 := harg11), ← s_3_2 (c := c) (harg3 := harg3) (harg4 := harg4) (harg6 := harg6) (harg7 := harg7) (harg8 := harg8) (harg11 := harg11), ← s_3_3 (c := c) (harg3 := harg3) (harg4 := harg4) (harg6 := harg6) (harg7 := harg7) (harg8 := harg8) (harg11 := harg11)]
  rfl

theorem pieces_s (hc0 : ¬cond0_0 i) :
    (kernelRun0_B (F := F) c i arg2 harg2 arg3 harg3 arg4 harg4 arg5 harg5 arg6 harg6 arg7 harg7 arg8 harg8 arg9 harg9 arg10 harg10 arg11 harg11 hc0 x0 x1 x2 x3 x4 x5 x6 x7 xs0).2.1 = [(⟨Rect.unit (s := S4x256x512) ![3, 0, 0] S1x256x512.size inb_S4x256x512_S1x256x512_3_0_0, gS x1 x2 x4 x5 x6 xs0 4 3⟩ : View.Piece (Elt F) S4x256x512 .f32), (⟨Rect.unit (s := S4x256x512) ![2, 0, 0] S1x256x512.size inb_S4x256x512_S1x256x512_2_0_0, gS x1 x2 x4 x5 x6 xs0 4 2⟩ : View.Piece (Elt F) S4x256x512 .f32), (⟨Rect.unit (s := S4x256x512) ![1, 0, 0] S1x256x512.size inb_S4x256x512_S1x256x512_1_0_0, gS x1 x2 x4 x5 x6 xs0 4 1⟩ : View.Piece (Elt F) S4x256x512 .f32), (⟨Rect.unit (s := S4x256x512) ![0, 0, 0] S1x256x512.size inb_S4x256x512_S1x256x512_0_0_0, gS x1 x2 x4 x5 x6 xs0 4 0⟩ : View.Piece (Elt F) S4x256x512 .f32)] ++ (kernelRun0_B.sl.HS0_12 (F := F) c arg3 harg3 arg4 harg4 arg6 harg6 arg7 harg7 arg8 harg8 arg11 harg11 x1 x2 x4 x5 x6 xs0) := by
  change _ = [(⟨Rect.unit (s := S4x256x512) ![3, 0, 0] S1x256x512.size inb_S4x256x512_S1x256x512_3_0_0, gN3 (gBC (cutL x4 3) x5 x6) (gK x1 3) (gV x2 3) (gS x1 x2 x4 x5 x6 xs0 3 3)⟩ : View.Piece (Elt F) S4x256x512 .f32), (⟨Rect.unit (s := S4x256x512) ![2, 0, 0] S1x256x512.size inb_S4x256x512_S1x256x512_2_0_0, gN2 (gBC (cutL x4 3) x5 x6) (gK x1 3) (gV x2 3) (gS x1 x2 x4 x5 x6 xs0 3 2)⟩ : View.Piece (Elt F) S4x256x512 .f32), (⟨Rect.unit (s := S4x256x512) ![1, 0, 0] S1x256x512.size inb_S4x256x512_S1x256x512_1_0_0, gN1 (gBC (cutL x4 3) x5 x6) (gK x1 3) (gV x2 3) (gS x1 x2 x4 x5 x6 xs0 3 1)⟩ : View.Piece (Elt F) S4x256x512 .f32), (⟨Rect.unit (s := S4x256x512) ![0, 0, 0] S1x256x512.size inb_S4x256x512_S1x256x512_0_0_0, gN0 (gBC (cutL x4 3) x5 x6) (gK x1 3) (gV x2 3) (gS x1 x2 x4 x5 x6 xs0 3 0)⟩ : View.Piece (Elt F) S4x256x512 .f32)] ++ (kernelRun0_B.sl.HS0_12 (F := F) c arg3 harg3 arg4 harg4 arg6 harg6 arg7 harg7 arg8 harg8 arg11 harg11 x1 x2 x4 x5 x6 xs0)
  rw [← bc_3 (c := c) (harg6 := harg6) (harg7 := harg7) (harg8 := harg8), ← k_3 (c := c) (harg3 := harg3), ← v_3 (c := c) (harg4 := harg4), ← s_3_0 (c := c) (harg3 := harg3) (harg4 := harg4) (harg6 := harg6) (harg7 := harg7) (harg8 := harg8) (harg11 := harg11), ← s_3_1 (c := c) (harg3 := harg3) (harg4 := harg4) (harg6 := harg6) (harg7 := harg7) (harg8 := harg8) (harg11 := harg11), ← s_3_2 (c := c) (harg3 := harg3) (harg4 := harg4) (harg6 := harg6) (harg7 := harg7) (harg8 := harg8) (harg11 := harg11), ← s_3_3 (c := c) (harg3 := harg3) (harg4 := harg4) (harg6 := harg6) (harg7 := harg7) (harg8 := harg8) (harg11 := harg11)]
  rfl

theorem pieces_o (hc0 : ¬cond0_0 i) :
    (kernelRun0_B (F := F) c i arg2 harg2 arg3 harg3 arg4 harg4 arg5 harg5 arg6 harg6 arg7 harg7 arg8 harg8 arg9 harg9 arg10 harg10 arg11 harg11 hc0 x0 x1 x2 x3 x4 x5 x6 x7 xs0).1 = [(⟨Rect.unit (s := S1x256x2048) ![0, 192, 1536] S1x64x512.size inb_S1x256x2048_S1x64x512_0_192_1536, gT x0 x1 x2 x3 x4 x5 x6 x7 xs0 3 3⟩ : View.Piece (Elt F) S1x256x2048 .bf16), (⟨Rect.unit (s := S1x256x2048) ![0, 192, 1024] S1x64x512.size inb_S1x256x2048_S1x64x512_0_192_1024, gT x0 x1 x2 x3 x4 x5 x6 x7 xs0 3 2⟩ : View.Piece (Elt F) S1x256x2048 .bf16), (⟨Rect.unit (s := S1x256x2048) ![0, 192, 512] S1x64x512.size inb_S1x256x2048_S1x64x512_0_192_512, gT x0 x1 x2 x3 x4 x5 x6 x7 xs0 3 1⟩ : View.Piece (Elt F) S1x256x2048 .bf16), (⟨Rect.unit (s := S1x256x2048) ![0, 192, 0] S1x64x512.size inb_S1x256x2048_S1x64x512_0_192_0, gT x0 x1 x2 x3 x4 x5 x6 x7 xs0 3 0⟩ : View.Piece (Elt F) S1x256x2048 .bf16), (⟨Rect.unit (s := S1x256x2048) ![0, 128, 1536] S1x64x512.size inb_S1x256x2048_S1x64x512_0_128_1536, gT x0 x1 x2 x3 x4 x5 x6 x7 xs0 2 3⟩ : View.Piece (Elt F) S1x256x2048 .bf16), (⟨Rect.unit (s := S1x256x2048) ![0, 128, 1024] S1x64x512.size inb_S1x256x2048_S1x64x512_0_128_1024, gT x0 x1 x2 x3 x4 x5 x6 x7 xs0 2 2⟩ : View.Piece (Elt F) S1x256x2048 .bf16), (⟨Rect.unit (s := S1x256x2048) ![0, 128, 512] S1x64x512.size inb_S1x256x2048_S1x64x512_0_128_512, gT x0 x1 x2 x3 x4 x5 x6 x7 xs0 2 1⟩ : View.Piece (Elt F) S1x256x2048 .bf16), (⟨Rect.unit (s := S1x256x2048) ![0, 128, 0] S1x64x512.size inb_S1x256x2048_S1x64x512_0_128_0, gT x0 x1 x2 x3 x4 x5 x6 x7 xs0 2 0⟩ : View.Piece (Elt F) S1x256x2048 .bf16), (⟨Rect.unit (s := S1x256x2048) ![0, 64, 1536] S1x64x512.size inb_S1x256x2048_S1x64x512_0_64_1536, gT x0 x1 x2 x3 x4 x5 x6 x7 xs0 1 3⟩ : View.Piece (Elt F) S1x256x2048 .bf16), (⟨Rect.unit (s := S1x256x2048) ![0, 64, 1024] S1x64x512.size inb_S1x256x2048_S1x64x512_0_64_1024, gT x0 x1 x2 x3 x4 x5 x6 x7 xs0 1 2⟩ : View.Piece (Elt F) S1x256x2048 .bf16), (⟨Rect.unit (s := S1x256x2048) ![0, 64, 512] S1x64x512.size inb_S1x256x2048_S1x64x512_0_64_512, gT x0 x1 x2 x3 x4 x5 x6 x7 xs0 1 1⟩ : View.Piece (Elt F) S1x256x2048 .bf16), (⟨Rect.unit (s := S1x256x2048) ![0, 64, 0] S1x64x512.size inb_S1x256x2048_S1x64x512_0_64_0, gT x0 x1 x2 x3 x4 x5 x6 x7 xs0 1 0⟩ : View.Piece (Elt F) S1x256x2048 .bf16), (⟨Rect.unit (s := S1x256x2048) ![0, 0, 1536] S1x64x512.size inb_S1x256x2048_S1x64x512_0_0_1536, gT x0 x1 x2 x3 x4 x5 x6 x7 xs0 0 3⟩ : View.Piece (Elt F) S1x256x2048 .bf16), (⟨Rect.unit (s := S1x256x2048) ![0, 0, 1024] S1x64x512.size inb_S1x256x2048_S1x64x512_0_0_1024, gT x0 x1 x2 x3 x4 x5 x6 x7 xs0 0 2⟩ : View.Piece (Elt F) S1x256x2048 .bf16), (⟨Rect.unit (s := S1x256x2048) ![0, 0, 512] S1x64x512.size inb_S1x256x2048_S1x64x512_0_0_512, gT x0 x1 x2 x3 x4 x5 x6 x7 xs0 0 1⟩ : View.Piece (Elt F) S1x256x2048 .bf16), (⟨Rect.unit (s := S1x256x2048) ![0, 0, 0] S1x64x512.size inb_S1x256x2048_S1x64x512_0_0_0, gT x0 x1 x2 x3 x4 x5 x6 x7 xs0 0 0⟩ : View.Piece (Elt F) S1x256x2048 .bf16)] := by
  change _ = [(⟨Rect.unit (s := S1x256x2048) ![0, 192, 1536] S1x64x512.size inb_S1x256x2048_S1x64x512_0_192_1536, gT3 (gOp x0 x1 x2 x4 x5 x6 xs0 3) x7 (cutV x3 3 3)⟩ : View.Piece (Elt F) S1x256x2048 .bf16), (⟨Rect.unit (s := S1x256x2048) ![0, 192, 1024] S1x64x512.size inb_S1x256x2048_S1x64x512_0_192_1024, gT2 (gOp x0 x1 x2 x4 x5 x6 xs0 3) x7 (cutV x3 3 2)⟩ : View.Piece (Elt F) S1x256x2048 .bf16), (⟨Rect.unit (s := S1x256x2048) ![0, 192, 512] S1x64x512.size inb_S1x256x2048_S1x64x512_0_192_512, gT1 (gOp x0 x1 x2 x4 x5 x6 xs0 3) x7 (cutV x3 3 1)⟩ : View.Piece (Elt F) S1x256x2048 .bf16), (⟨Rect.unit (s := S1x256x2048) ![0, 192, 0] S1x64x512.size inb_S1x256x2048_S1x64x512_0_192_0, gT0 (gOp x0 x1 x2 x4 x5 x6 xs0 3) x7 (cutV x3 3 0)⟩ : View.Piece (Elt F) S1x256x2048 .bf16), (⟨Rect.unit (s := S1x256x2048) ![0, 128, 1536] S1x64x512.size inb_S1x256x2048_S1x64x512_0_128_1536, gT3 (gOp x0 x1 x2 x4 x5 x6 xs0 2) x7 (cutV x3 2 3)⟩ : View.Piece (Elt F) S1x256x2048 .bf16), (⟨Rect.unit (s := S1x256x2048) ![0, 128, 1024] S1x64x512.size inb_S1x256x2048_S1x64x512_0_128_1024, gT2 (gOp x0 x1 x2 x4 x5 x6 xs0 2) x7 (cutV x3 2 2)⟩ : View.Piece (Elt F) S1x256x2048 .bf16), (⟨Rect.unit (s := S1x256x2048) ![0, 128, 512] S1x64x512.size inb_S1x256x2048_S1x64x512_0_128_512, gT1 (gOp x0 x1 x2 x4 x5 x6 xs0 2) x7 (cutV x3 2 1)⟩ : View.Piece (Elt F) S1x256x2048 .bf16), (⟨Rect.unit (s := S1x256x2048) ![0, 128, 0] S1x64x512.size inb_S1x256x2048_S1x64x512_0_128_0, gT0 (gOp x0 x1 x2 x4 x5 x6 xs0 2) x7 (cutV x3 2 0)⟩ : View.Piece (Elt F) S1x256x2048 .bf16), (⟨Rect.unit (s := S1x256x2048) ![0, 64, 1536] S1x64x512.size inb_S1x256x2048_S1x64x512_0_64_1536, gT3 (gOp x0 x1 x2 x4 x5 x6 xs0 1) x7 (cutV x3 1 3)⟩ : View.Piece (Elt F) S1x256x2048 .bf16), (⟨Rect.unit (s := S1x256x2048) ![0, 64, 1024] S1x64x512.size inb_S1x256x2048_S1x64x512_0_64_1024, gT2 (gOp x0 x1 x2 x4 x5 x6 xs0 1) x7 (cutV x3 1 2)⟩ : View.Piece (Elt F) S1x256x2048 .bf16), (⟨Rect.unit (s := S1x256x2048) ![0, 64, 512] S1x64x512.size inb_S1x256x2048_S1x64x512_0_64_512, gT1 (gOp x0 x1 x2 x4 x5 x6 xs0 1) x7 (cutV x3 1 1)⟩ : View.Piece (Elt F) S1x256x2048 .bf16), (⟨Rect.unit (s := S1x256x2048) ![0, 64, 0] S1x64x512.size inb_S1x256x2048_S1x64x512_0_64_0, gT0 (gOp x0 x1 x2 x4 x5 x6 xs0 1) x7 (cutV x3 1 0)⟩ : View.Piece (Elt F) S1x256x2048 .bf16), (⟨Rect.unit (s := S1x256x2048) ![0, 0, 1536] S1x64x512.size inb_S1x256x2048_S1x64x512_0_0_1536, gT3 (gOp x0 x1 x2 x4 x5 x6 xs0 0) x7 (cutV x3 0 3)⟩ : View.Piece (Elt F) S1x256x2048 .bf16), (⟨Rect.unit (s := S1x256x2048) ![0, 0, 1024] S1x64x512.size inb_S1x256x2048_S1x64x512_0_0_1024, gT2 (gOp x0 x1 x2 x4 x5 x6 xs0 0) x7 (cutV x3 0 2)⟩ : View.Piece (Elt F) S1x256x2048 .bf16), (⟨Rect.unit (s := S1x256x2048) ![0, 0, 512] S1x64x512.size inb_S1x256x2048_S1x64x512_0_0_512, gT1 (gOp x0 x1 x2 x4 x5 x6 xs0 0) x7 (cutV x3 0 1)⟩ : View.Piece (Elt F) S1x256x2048 .bf16), (⟨Rect.unit (s := S1x256x2048) ![0, 0, 0] S1x64x512.size inb_S1x256x2048_S1x64x512_0_0_0, gT0 (gOp x0 x1 x2 x4 x5 x6 xs0 0) x7 (cutV x3 0 0)⟩ : View.Piece (Elt F) S1x256x2048 .bf16)]
  conv_rhs => rw [← o_0 (c := c) (harg2 := harg2) (harg3 := harg3) (harg4 := harg4) (harg6 := harg6) (harg7 := harg7) (harg8 := harg8) (harg11 := harg11), ← o_1 (c := c) (harg2 := harg2) (harg3 := harg3) (harg4 := harg4) (harg6 := harg6) (harg7 := harg7) (harg8 := harg8) (harg11 := harg11), ← o_2 (c := c) (harg2 := harg2) (harg3 := harg3) (harg4 := harg4) (harg6 := harg6) (harg7 := harg7) (harg8 := harg8) (harg11 := harg11), ← o_3 (c := c) (harg2 := harg2) (harg3 := harg3) (harg4 := harg4) (harg6 := harg6) (harg7 := harg7) (harg8 := harg8) (harg11 := harg11), ← ld_cutV x3 192 1536 3 3 rfl rfl inb_S1x256x2048_S1x64x512_0_192_1536 (by decide) (by decide), ← ld_cutV x3 192 1024 3 2 rfl rfl inb_S1x256x2048_S1x64x512_0_192_1024 (by decide) (by decide), ← ld_cutV x3 192 512 3 1 rfl rfl inb_S1x256x2048_S1x64x512_0_192_512 (by decide) (by decide), ← ld_cutV x3 192 0 3 0 rfl rfl inb_S1x256x2048_S1x64x512_0_192_0 (by decide) (by decide), ← ld_cutV x3 128 1536 2 3 rfl rfl inb_S1x256x2048_S1x64x512_0_128_1536 (by decide) (by decide), ← ld_cutV x3 128 1024 2 2 rfl rfl inb_S1x256x2048_S1x64x512_0_128_1024 (by decide) (by decide), ← ld_cutV x3 128 512 2 1 rfl rfl inb_S1x256x2048_S1x64x512_0_128_512 (by decide) (by decide), ← ld_cutV x3 128 0 2 0 rfl rfl inb_S1x256x2048_S1x64x512_0_128_0 (by decide) (by decide), ← ld_cutV x3 64 1536 1 3 rfl rfl inb_S1x256x2048_S1x64x512_0_64_1536 (by decide) (by decide), ← ld_cutV x3 64 1024 1 2 rfl rfl inb_S1x256x2048_S1x64x512_0_64_1024 (by decide) (by decide), ← ld_cutV x3 64 512 1 1 rfl rfl inb_S1x256x2048_S1x64x512_0_64_512 (by decide) (by decide), ← ld_cutV x3 64 0 1 0 rfl rfl inb_S1x256x2048_S1x64x512_0_64_0 (by decide) (by decide), ← ld_cutV x3 0 1536 0 3 rfl rfl inb_S1x256x2048_S1x64x512_0_0_1536 (by decide) (by decide), ← ld_cutV x3 0 1024 0 2 rfl rfl inb_S1x256x2048_S1x64x512_0_0_1024 (by decide) (by decide), ← ld_cutV x3 0 512 0 1 rfl rfl inb_S1x256x2048_S1x64x512_0_0_512 (by decide) (by decide), ← ld_cutV x3 0 0 0 0 rfl rfl inb_S1x256x2048_S1x64x512_0_0_0 (by decide) (by decide), ← View.ld_unit_lit (S := S1x512) inb_S1x512_S1x512_0_0 x7 (by decide), ← harg5.read_unread (Val := Elt F) x3, ← harg9.read_unread (Val := Elt F) x7]
  rfl

theorem sout_eq (hc0 : ¬cond0_0 i) :
    sout0_B_0 (F := F) c i arg2 harg2 arg3 harg3 arg4 harg4 arg5 harg5 arg6 harg6 arg7 harg7 arg8 harg8 arg9 harg9 arg10 harg10 arg11 harg11 hc0 x0 x1 x2 x3 x4 x5 x6 x7 xs0 = gSS x1 x2 x4 x5 x6 xs0 := by
  unfold sout0_B_0
  rw [View.read_writes_junk_eq_canon, pieces_s]
  funext y
  refine View.canon_append_of_piecesOf (gSS x1 x2 x4 x5 x6 xs0) _ _ ?_ y ?_
  · exact ⟨fun z => gSS_piece x1 x2 x4 x5 x6 xs0 3 inb_S4x256x512_S1x256x512_3_0_0 z, fun z => gSS_piece x1 x2 x4 x5 x6 xs0 2 inb_S4x256x512_S1x256x512_2_0_0 z, fun z => gSS_piece x1 x2 x4 x5 x6 xs0 1 inb_S4x256x512_S1x256x512_1_0_0 z, fun z => gSS_piece x1 x2 x4 x5 x6 xs0 0 inb_S4x256x512_S1x256x512_0_0_0 z, trivial⟩
  · exact View.cover_of_tiledL (s := S4x256x512) _ S1x256x512.size (by sl_kernel_rfl) y

theorem out_eq (hc0 : ¬cond0_0 i) :
    out0_B_8 (F := F) c i arg2 harg2 arg3 harg3 arg4 harg4 arg5 harg5 arg6 harg6 arg7 harg7 arg8 harg8 arg9 harg9 arg10 harg10 arg11 harg11 hc0 x0 x1 x2 x3 x4 x5 x6 x7 xs0 = gTT x0 x1 x2 x3 x4 x5 x6 x7 xs0 := by
  unfold out0_B_8
  rw [View.read_writes_junk_eq_canon, pieces_o]
  funext y
  refine (congrArg (fun l => View.canon l y) (List.append_nil _).symm).trans (View.canon_append_of_piecesOf (gTT x0 x1 x2 x3 x4 x5 x6 x7 xs0) [] _ ?_ y ?_)
  · exact ⟨fun z => gTT_piece x0 x1 x2 x3 x4 x5 x6 x7 xs0 3 3 192 1536 rfl rfl inb_S1x256x2048_S1x64x512_0_192_1536 z, fun z => gTT_piece x0 x1 x2 x3 x4 x5 x6 x7 xs0 3 2 192 1024 rfl rfl inb_S1x256x2048_S1x64x512_0_192_1024 z, fun z => gTT_piece x0 x1 x2 x3 x4 x5 x6 x7 xs0 3 1 192 512 rfl rfl inb_S1x256x2048_S1x64x512_0_192_512 z, fun z => gTT_piece x0 x1 x2 x3 x4 x5 x6 x7 xs0 3 0 192 0 rfl rfl inb_S1x256x2048_S1x64x512_0_192_0 z, fun z => gTT_piece x0 x1 x2 x3 x4 x5 x6 x7 xs0 2 3 128 1536 rfl rfl inb_S1x256x2048_S1x64x512_0_128_1536 z, fun z => gTT_piece x0 x1 x2 x3 x4 x5 x6 x7 xs0 2 2 128 1024 rfl rfl inb_S1x256x2048_S1x64x512_0_128_1024 z, fun z => gTT_piece x0 x1 x2 x3 x4 x5 x6 x7 xs0 2 1 128 512 rfl rfl inb_S1x256x2048_S1x64x512_0_128_512 z, fun z => gTT_piece x0 x1 x2 x3 x4 x5 x6 x7 xs0 2 0 128 0 rfl rfl inb_S1x256x2048_S1x64x512_0_128_0 z, fun z => gTT_piece x0 x1 x2 x3 x4 x5 x6 x7 xs0 1 3 64 1536 rfl rfl inb_S1x256x2048_S1x64x512_0_64_1536 z, fun z => gTT_piece x0 x1 x2 x3 x4 x5 x6 x7 xs0 1 2 64 1024 rfl rfl inb_S1x256x2048_S1x64x512_0_64_1024 z, fun z => gTT_piece x0 x1 x2 x3 x4 x5 x6 x7 xs0 1 1 64 512 rfl rfl inb_S1x256x2048_S1x64x512_0_64_512 z, fun z => gTT_piece x0 x1 x2 x3 x4 x5 x6 x7 xs0 1 0 64 0 rfl rfl inb_S1x256x2048_S1x64x512_0_64_0 z, fun z => gTT_piece x0 x1 x2 x3 x4 x5 x6 x7 xs0 0 3 0 1536 rfl rfl inb_S1x256x2048_S1x64x512_0_0_1536 z, fun z => gTT_piece x0 x1 x2 x3 x4 x5 x6 x7 xs0 0 2 0 1024 rfl rfl inb_S1x256x2048_S1x64x512_0_0_1024 z, fun z => gTT_piece x0 x1 x2 x3 x4 x5 x6 x7 xs0 0 1 0 512 rfl rfl inb_S1x256x2048_S1x64x512_0_0_512 z, fun z => gTT_piece x0 x1 x2 x3 x4 x5 x6 x7 xs0 0 0 0 0 rfl rfl inb_S1x256x2048_S1x64x512_0_0_0 z, trivial⟩
  · exact View.cover_of_tiledL (s := S1x256x2048) _ S1x64x512.size (by sl_kernel_rfl) y

end Cert.KernelIdeal.Gla.CaseB
end
-- ==== Proof.GlaKernel.lean ====
/- The gated linear attention kernel's result array, entry by entry. -/
module

public import proofs.«01_k».proof.Proof.GlaPoint
public import Idealize.ShloMosaic.Lib.StableHlo.ReadAt
public import proofs.«01_k».proof.Proof.GlaCaseA
public import proofs.«01_k».proof.Proof.GlaCaseB
public import proofs.«01_k».proof.Proof.Gen.KernelIdeal.Value

@[expose] public section

set_option maxRecDepth 16384

noncomputable section

open Idealize.ShloMosaic Idealize.ShloMosaic.TcCoe Idealize.SL.Sem

namespace Cert.KernelIdeal.Gla
open Cert.KernelIdeal Cert.KernelIdeal.Gen Cert.Gla

variable (m : (ℓ : Loc nD τ sig) → Buf (Elt Ideal) ℓ)

/-- Which block of each array a grid point works on. -/
theorem idx : ∀ t : Fin cfg0.N, win0_0.index t = ![t.val / 32, t.val % 32, 6] ∧ win0_1.index t = ![t.val / 32, t.val % 32, 7]
    ∧ win0_2.index t = ![t.val / 32, t.val % 32, 4] ∧ win0_3.index t = ![t.val / 32, t.val % 32, 5] ∧ win0_4.index t = ![t.val / 32, t.val % 32, 0]
    ∧ win0_5.index t = ![0, 0] ∧ win0_6.index t = ![0, 0] ∧ win0_7.index t = ![0, 0] ∧ win0_8.index t = ![t.val / 32, t.val % 32, 0] :=
  (by decide +kernel : ∀ t : Fin grid0.N, _)

abbrev aY (c : Dev nD) : (⟨3, ![2, 8192, 12288]⟩ : Shape).Idx → EReal := m ((c : Thread nD τ).loc main_arg0)
abbrev aLA (c : Dev nD) : (⟨3, ![2, 8192, 128]⟩ : Shape).Idx → EReal := m ((c : Thread nD τ).loc main_arg1)
abbrev aWU (c : Dev nD) : (⟨2, ![16, 1024]⟩ : Shape).Idx → EReal := m ((c : Thread nD τ).loc main_arg2)
abbrev aBU (c : Dev nD) : (⟨1, ![1024]⟩ : Shape).Idx → EReal := m ((c : Thread nD τ).loc main_arg3)
abbrev aNW (c : Dev nD) : (⟨1, ![512]⟩ : Shape).Idx → EReal := m ((c : Thread nD τ).loc main_arg4)

/-- The sequence a grid point works on. -/
abbrev bat (t : Fin cfg0.N) : Fin 2 := ⟨t.val / 32 % 2, Nat.mod_lt _ (by decide)⟩

/-- The narrow weights, padded with zero rows. -/
theorem V_wu (c : Dev nD) (k : Fin 128) (cc : Fin 1024) : V m c main_v0 (ix2 k cc) = if hk : k.val < 16 then aWU m c (ix2 (⟨k.val, hk⟩ : Fin 16) cc) else (0 : EReal) := by
  unfold V
  after_reads_at
  refine dite_congr rfl (fun _ => rfl) fun _ => ?_
  show ((((0#32 : BitVec 32).toInt : ℝ)) : EReal) = 0
  norm_num

theorem V_bu (c : Dev nD) (cc : Fin 1024) : V m c main_v1 (ix2 (0 : Fin 1) cc) = aBU m c (ix1 cc) := by
  unfold V
  after_reads_at

theorem V_nw (c : Dev nD) (e : Fin 512) : V m c main_v2 (ix2 (0 : Fin 1) e) = aNW m c (ix1 e) := by
  unfold V
  after_reads_at

theorem holds (c : Dev nD) (t : Fin cfg0.N) :
    Holds (aY m c) (aLA m c) (aWU m c) (aBU m c) (aNW m c) (iblk m c 0 t) (iblk m c 1 t) (iblk m c 2 t) (iblk m c 3 t) (iblk m c 4 t)
      (iblk m c 5 t) (iblk m c 6 t) (iblk m c 7 t) (bat t) (t.val % 32) := by
  have ht : t.val < 64 := t.isLt
  refine ⟨fun p h i d => ?_, fun p h i d => ?_, fun p h i e => ?_, fun p h i e => ?_, fun p i k => ?_, fun k cc => ?_, fun cc => ?_, fun e => ?_⟩
  · unfold qA
    refine congrArg (fun z : EReal => z * κ) ?_
    blk_point [iblk, V, idx t]
    all_goals simp only [rowP, seq, colK]; omega
  · unfold kA
    blk_point [iblk, V, idx t]
    all_goals simp only [rowP, seq, colK]; omega
  · unfold vA
    blk_point [iblk, V, idx t]
    all_goals simp only [rowP, seq, colV]; omega
  · unfold rA
    blk_point [iblk, V, idx t]
    all_goals simp only [rowP, seq, colV]; omega
  · blk_point [iblk, V, idx t]
    all_goals simp only [rowP, seq]; omega
  · rw [← V_wu m c]
    blk_point [iblk, idx t]
  · rw [← V_bu m c]
    blk_point [iblk, idx t]
  · rw [← V_nw m c]
    blk_point [iblk, idx t]

theorem pay2_at (h : Fin 4) (d : Fin 256) (e : Fin 512) : k0_pay2 (F := Ideal) (ix3 h d e) = (0 : EReal) := by
  pointwise [k0_pay2]

/-- What a point leaves in the carried state. -/
theorem state_at (c : Dev nD) : ∀ (n : ℕ) (hn : n < cfg0.N) (h : Fin 4) (d : Fin 256) (e : Fin 512),
    (outsAt0 m c n hn).2 (ix3 h d e) = stA (aY m c) (aLA m c) (aWU m c) (aBU m c) (bat ⟨n, hn⟩) h (4 * (n % 32 + 1)) d e := by
  intro n
  induction n with
  | zero =>
    intro hn h d e
    rw [outsAt0_A m c ⟨0, hn⟩ rfl, CaseA.sout_eq]
    exact st_at (holds m c ⟨0, hn⟩) (fun h d e => by rw [pay2_at]; rfl) 4 le_rfl h d e
  | succ n ih =>
    intro hn h d e
    have hN : n + 1 < 64 := hn
    by_cases h0 : (n + 1) % 32 = 0
    · rw [outsAt0_A m c ⟨n + 1, hn⟩ h0, CaseA.sout_eq]
      exact st_at (holds m c ⟨n + 1, hn⟩) (fun h d e => by rw [pay2_at, h0]; rfl) 4 le_rfl h d e
    · rw [outsAt0_B m c ⟨n + 1, hn⟩ h0, CaseB.sout_eq]
      refine st_at (holds m c ⟨n + 1, hn⟩) (fun h d e => ?_) 4 le_rfl h d e
      rw [show (n + 1) % 32 = n % 32 + 1 by omega]
      have := ih (by omega) h d e
      rwa [show bat ⟨n, by omega⟩ = bat ⟨n + 1, hn⟩ from Fin.ext (show n / 32 % 2 = (n + 1) / 32 % 2 by omega)] at this

/-- What a point writes into its block of the result. -/
theorem out_at (c : Dev nD) (t : Fin cfg0.N) (y : S1x256x2048.Idx) :
    (outsAt0 m c t.val t.isLt).1 y = resA (aY m c) (aLA m c) (aWU m c) (aBU m c) (aNW m c) (bat t) (4 * (t.val % 32) + (y 1).val / 64)
      ⟨(y 2).val / 512, Nat.div_lt_of_lt_mul (y 2).isLt⟩ ⟨(y 1).val % 64, Nat.mod_lt _ (by decide)⟩ ⟨(y 2).val % 512, Nat.mod_lt _ (by decide)⟩ := by
  by_cases h0 : t.val % 32 = 0
  · rw [outsAt0_A m c t h0, CaseA.out_eq]
    exact tt_at (holds m c t) (fun h d e => by rw [pay2_at, h0]; rfl) y
  · rw [outsAt0_B m c t h0, CaseB.out_eq]
    refine tt_at (holds m c t) (fun h d e => ?_) y
    have hN : t.val < 64 := t.isLt
    have := state_at m c (t.val - 1) (by omega) h d e
    rw [show (t.val - 1) % 32 + 1 = t.val % 32 by omega] at this
    rwa [show bat ⟨t.val - 1, _⟩ = bat t from Fin.ext (show (t.val - 1) / 32 % 2 = t.val / 32 % 2 by omega)] at this

/-- The result array: the answer at a token is found in its chunk. -/
def RES (Y : (⟨3, ![2, 8192, 12288]⟩ : Shape).Idx → EReal) (LA : (⟨3, ![2, 8192, 128]⟩ : Shape).Idx → EReal) (WU : (⟨2, ![16, 1024]⟩ : Shape).Idx → EReal)
    (BU : (⟨1, ![1024]⟩ : Shape).Idx → EReal) (NW : (⟨1, ![512]⟩ : Shape).Idx → EReal) : (⟨3, ![2, 8192, 2048]⟩ : Shape).Idx → EReal :=
  fun y => resA Y LA WU BU NW ⟨(y 0).val, (y 0).isLt⟩ ((y 1).val / 64) ⟨(y 2).val / 512, Nat.div_lt_of_lt_mul (y 2).isLt⟩
    ⟨(y 1).val % 64, Nat.mod_lt _ (by decide)⟩ ⟨(y 2).val % 512, Nat.mod_lt _ (by decide)⟩

theorem res_at {Y : (⟨3, ![2, 8192, 12288]⟩ : Shape).Idx → EReal} {LA : (⟨3, ![2, 8192, 128]⟩ : Shape).Idx → EReal} {WU : (⟨2, ![16, 1024]⟩ : Shape).Idx → EReal}
    {BU : (⟨1, ![1024]⟩ : Shape).Idx → EReal} {NW : (⟨1, ![512]⟩ : Shape).Idx → EReal} (z : (⟨3, ![2, 8192, 2048]⟩ : Shape).Idx)
    (b : Fin 2) (n : ℕ) (h : Fin 4) (i : Fin 64) (e : Fin 512) (h0 : (z 0).val = b.val) (h1 : (z 1).val = 64 * n + i.val)
    (h2 : (z 2).val = 512 * h.val + e.val) : RES Y LA WU BU NW z = resA Y LA WU BU NW b n h i e := by
  unfold RES
  have e0 : (⟨(z 0).val, (z 0).isLt⟩ : Fin 2) = b := Fin.ext h0
  have e1 : (z 1).val / 64 = n := by omega
  have e2 : (⟨(z 1).val % 64, Nat.mod_lt _ (by decide)⟩ : Fin 64) = i := Fin.ext (by show (z 1).val % 64 = i.val; omega)
  have e3 : (⟨(z 2).val / 512, Nat.div_lt_of_lt_mul (z 2).isLt⟩ : Fin 4) = h := Fin.ext (by show (z 2).val / 512 = h.val; omega)
  have e4 : (⟨(z 2).val % 512, Nat.mod_lt _ (by decide)⟩ : Fin 512) = e := Fin.ext (by show (z 2).val % 512 = e.val; omega)
  rw [e0, e1, e2, e3, e4]

/-- The result array after the run. -/
theorem final (c : Dev nD) : (dats m 0 c).arrAt 8 (cfgs 0).N = RES (aY m c) (aLA m c) (aWU m c) (aBU m c) (aNW m c) := by
  refine (dats m 0 c).arrAt_eq_of_covers 8 _ (by decide +kernel) fun t hf y => ?_
  blk_simp
  rw [after0_8, out_at]
  have ht : t.val < 64 := t.isLt
  have hy0 : (y 0).val < 1 := (y 0).isLt
  have h0 : (((win0_8.blk t).view.emb y) 0).val = t.val / 32 * 1 + (y 0).val := by blk_point [idx t]
  have h1 : (((win0_8.blk t).view.emb y) 1).val = t.val % 32 * 256 + (y 1).val := by blk_point [idx t]
  have h2 : (((win0_8.blk t).view.emb y) 2).val = 0 * 2048 + (y 2).val := by blk_point [idx t]
  refine (res_at _ _ _ _ _ _ ?_ ?_ ?_).symm
  · rw [h0]; show _ = t.val / 32 % 2; omega
  · rw [h1]; show _ = 64 * (4 * (t.val % 32) + (y 1).val / 64) + (y 1).val % 64; omega
  · rw [h2]; show _ = 512 * ((y 2).val / 512) + (y 2).val % 512; omega

end Cert.KernelIdeal.Gla
end
-- ==== Proof.GlaRefRun.lean ====
/- The gated linear attention reference's run: its scan as the iterates of one trip. -/
module

public import proofs.«01_k».proof.Proof.Gen.ReferenceIdeal.Run
public import proofs.«01_k».proof.Proof.Gen.ReferenceIdeal.Step

@[expose] public section

noncomputable section

namespace Cert.GlaRef

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State)

variable {F : FTy → Type} [FloatOps F]

/-- The loop's carried arrays, as a trip finds them. -/
def stOf (W : Valuation τ sig (Elt F)) : State F :=
  { main_v65_6 := W (Proc.devRef .tc main_v65_6), main_v65_7 := W (Proc.devRef .tc main_v65_7), main_v65_0 := W (Proc.devRef .tc main_v65_0)
    main_v65_1 := W (Proc.devRef .tc main_v65_1), main_v65_2 := W (Proc.devRef .tc main_v65_2), main_v65_3 := W (Proc.devRef .tc main_v65_3)
    main_v65_4 := W (Proc.devRef .tc main_v65_4) }

variable (W : Valuation τ sig (Elt F)) (j : ℕ)

set_option maxRecDepth 8192 in
theorem trip6 (hn : W (Proc.devRef .tc main_v65_5) = constantI S_ 32 (BitVec.ofNat 32 j)) : step_main_v65_6 W = Step.b35 j (stOf W) := by
  unfold step_main_v65_6
  rw [hn]
  rfl

set_option maxRecDepth 8192 in
theorem trip7 (hn : W (Proc.devRef .tc main_v65_5) = constantI S_ 32 (BitVec.ofNat 32 j)) : step_main_v65_7 W = Step.b41 j (stOf W) := by
  unfold step_main_v65_7
  rw [hn]
  rfl

theorem trip5 (hn : W (Proc.devRef .tc main_v65_5) = constantI S_ 32 (BitVec.ofNat 32 j)) : step_main_v65_5 W = constantI S_ 32 (BitVec.ofNat 32 (j + 1)) := by
  unfold step_main_v65_5
  rw [hn]
  funext i
  show BitVec.ofNat 32 j + 1#32 = BitVec.ofNat 32 (j + 1)
  simp only [BitVec.ofNat_add]

theorem trip (hn : W (Proc.devRef .tc main_v65_5) = constantI S_ 32 (BitVec.ofNat 32 j)) : stOf (STEP W) = Step.step j (stOf W) := by
  unfold stOf Step.step
  rw [STEP_main_v65_6, STEP_main_v65_7, STEP_main_v65_0, STEP_main_v65_1, STEP_main_v65_2, STEP_main_v65_3, STEP_main_v65_4, trip6 W j hn, trip7 W j hn]
  rfl

variable (m : (ℓ : Loc nD τ sig) → Buf (Elt F) ℓ) (c : Dev nD)

abbrev start : State F := Step.init (m ((c : Thread nD τ).loc main_arg0)) (m ((c : Thread nD τ).loc main_arg1)) (m ((c : Thread nD τ).loc main_arg2)) (m ((c : Thread nD τ).loc main_arg3))

set_option maxRecDepth 65536 in
set_option maxHeartbeats 600000 in
theorem entry5 : entryContents preI m c (Proc.devRef .tc main_v65_5) = constantI S_ 32 (BitVec.ofNat 32 0) := by
  simp only [entryContents, afterL_cons, afterL_nil]; after_reads_simp; rfl

set_option maxRecDepth 65536 in
set_option maxHeartbeats 1600000 in
theorem entry : stOf (entryContents preI m c) = start m c := by
  unfold stOf start Step.init
  congr 1 <;> (simp only [entryContents, afterL_cons, afterL_nil]; after_reads_simp) <;> rfl

/-- The states of the scan. -/
def states : ℕ → State F
  | 0 => start m c
  | n + 1 => Step.step n (states n)

theorem iterates : ∀ n, stOf (STEP^[n] (entryContents preI m c)) = states m c n
    ∧ STEP^[n] (entryContents preI m c) (Proc.devRef .tc main_v65_5) = constantI S_ 32 (BitVec.ofNat 32 n)
  | 0 => ⟨entry m c, entry5 m c⟩
  | n + 1 => by
    obtain ⟨h1, h2⟩ := iterates n
    rw [Function.iterate_succ_apply']
    exact ⟨(trip _ n h2).trans (by rw [h1]; rfl), (STEP_main_v65_5 _).trans (trip5 _ n h2)⟩

set_option maxRecDepth 8192 in
theorem out_eq : out_main_v88 W = Step.R_main_v88 (stOf W) (W (Proc.devRef .tc main_arg0)) (W (Proc.devRef .tc main_arg4)) := by
  unfold out_main_v88 Step.R_main_v88
  rfl

/-- The reference's result, of the last state. -/
theorem run (g : Dev nD → PrngReg) : θ_run defs (onTc (τ := τ) (main (F := F))) ⟨m, fun _ => 0, g⟩ fun r => ∀ c : Dev nD,
      r.2.mem ((c : Thread nD τ).loc main_v88) = Step.R_main_v88 (states m c 128) (m ((c : Thread nD τ).loc main_arg0)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (by rw [out_eq, (iterates m c 128).1, iter_main_arg0, iter_main_arg4]), (h c).2⟩) (Value.run m g)

end Cert.GlaRef
end
-- ==== Proof.GlaRefMath.lean ====
/- The gated linear attention reference's arrays, entry by entry. -/
module

public import proofs.«01_k».proof.Proof.GlaSpec
public import proofs.«01_k».proof.Proof.Gen.ReferenceIdeal.Step
public import Idealize.ShloMosaic.Lib.Pointwise
public import Idealize.ShloMosaic.Lib.DynamicIndex
public import Idealize.ShloMosaic.Lib.WordCmp

@[expose] public section

noncomputable section

namespace Cert.GlaRef

open Idealize.ShloMosaic
open Cert.ReferenceIdeal Cert.ReferenceIdeal.Gen Cert.ReferenceIdeal.Step Cert.Gla

/-- A left fold of additions is the sum. -/
theorem fold_sum {n : ℕ} (f : Fin n → EReal) : (List.finRange n).foldl (fun r k => r + f k) 0 = ∑ k, f k := by
  rw [← List.sum_ofFn, List.ofFn_eq_map, List.sum_eq_foldl, List.foldl_map]

/-- The one long axis of a window. -/
def longAxis : Fin 64 ≃ (⟨5, ![1, 1, 1, 64, 1]⟩ : Shape).Idx where
  toFun k := ix5 (0 : Fin 1) (0 : Fin 1) (0 : Fin 1) k (0 : Fin 1)
  invFun w := ⟨(w 3).val, (w 3).isLt⟩
  left_inv k := rfl
  right_inv w := by
    funext a
    fin_cases a
    · exact Fin.ext (by have : (w 0).val < 1 := (w 0).isLt; show 0 = (w 0).val; omega)
    · exact Fin.ext (by have : (w 1).val < 1 := (w 1).isLt; show 0 = (w 1).val; omega)
    · exact Fin.ext (by have : (w 2).val < 1 := (w 2).isLt; show 0 = (w 2).val; omega)
    · rfl
    · exact Fin.ext (by have : (w 4).val < 1 := (w 4).isLt; show 0 = (w 4).val; omega)

/-- The running sum along the rows of a chunk. -/
theorem scan_at (x : S2x4x128x64x256.Idx → EReal) (v : S_.Idx → EReal) (hv : ∀ k, v k = 0)
    (hw : S2x4x128x64x256.ReduceWindows (![1, 1, 1, 64, 1] : Fin 5 → Nat) ![1, 1, 1, 1, 1] ![0, 0, 0, 63, 0] ![0, 0, 0, 0, 0] S2x4x128x64x256) (hu : 0 < S_.numel)
    (b : Fin 2) (h : Fin 4) (n : Fin 128) (i : Fin 64) (d : Fin 256) :
    Host.reduceWindowAdd (F := Ideal) (φ := .f32) ![1, 1, 1, 64, 1] ![1, 1, 1, 1, 1] ![0, 0, 0, 63, 0] ![0, 0, 0, 0, 0] x v hw hu (ix5 b h n i d)
      = ∑ j : Fin 64, if j ≤ i then x (ix5 b h n j d) else 0 := by
  unfold Host.reduceWindowAdd
  rw [Ideal.hostReduceWindowAdd_def, hv]
  unfold Ideal.hostReduceWindowAdd Host.reduceWindow
  dsimp only
  rw [fold_sum]
  let W : Shape := ⟨5, ![1, 1, 1, 64, 1]⟩
  let G : W.Idx → EReal := fun w =>
    if hin : ∀ a : Fin 5, (![0, 0, 0, 63, 0] : Fin 5 → ℕ) a ≤ ((ix5 b h n i d : S2x4x128x64x256.Idx) a).val * (![1, 1, 1, 1, 1] : Fin 5 → ℕ) a + (w a).val
        ∧ ((ix5 b h n i d : S2x4x128x64x256.Idx) a).val * (![1, 1, 1, 1, 1] : Fin 5 → ℕ) a + (w a).val - (![0, 0, 0, 63, 0] : Fin 5 → ℕ) a < S2x4x128x64x256.size a
      then x (fun a => ⟨_, (hin a).2⟩) else 0
  refine Eq.trans (Finset.sum_congr rfl fun k _ => (?_ : _ = G (W.rowMajor.symm k))) ?_
  · dsimp only [G]
    refine dite_congr (propext ⟨fun hin => hin, fun hin => hin⟩) (fun _ => rfl) fun _ => rfl
  rw [Equiv.sum_comp W.rowMajor.symm G, ← Equiv.sum_comp longAxis G, ← Equiv.sum_comp (Equiv.addRight (i + 1)) (fun j : Fin 64 => if j ≤ i then x (ix5 b h n j d) else 0)]
  refine Finset.sum_congr rfl fun w _ => ?_
  have hv : (Equiv.addRight (i + 1) w : Fin 64).val = (w.val + (i.val + 1)) % 64 := by
    show (w + (i + 1)).val = _
    rw [Fin.val_add, Fin.val_add]; simp
  have hw64 := w.isLt
  have hi64 := i.isLt
  by_cases hc : 63 ≤ i.val + w.val
  · have hle : (Equiv.addRight (i + 1) w : Fin 64) ≤ i := by rw [Fin.le_def, hv]; omega
    have hin : ∀ a : Fin 5, (![0, 0, 0, 63, 0] : Fin 5 → ℕ) a ≤ ((ix5 b h n i d : S2x4x128x64x256.Idx) a).val * (![1, 1, 1, 1, 1] : Fin 5 → ℕ) a + (longAxis w a).val
        ∧ ((ix5 b h n i d : S2x4x128x64x256.Idx) a).val * (![1, 1, 1, 1, 1] : Fin 5 → ℕ) a + (longAxis w a).val - (![0, 0, 0, 63, 0] : Fin 5 → ℕ) a < S2x4x128x64x256.size a := by
      intro a
      have hb := b.isLt
      have hh := h.isLt
      have hn := n.isLt
      have hd := d.isLt
      fin_cases a
      · exact ⟨Nat.zero_le _, (by omega : b.val * 1 + 0 - 0 < 2)⟩
      · exact ⟨Nat.zero_le _, (by omega : h.val * 1 + 0 - 0 < 4)⟩
      · exact ⟨Nat.zero_le _, (by omega : n.val * 1 + 0 - 0 < 128)⟩
      · exact ⟨(by omega : 63 ≤ i.val * 1 + w.val), (by omega : i.val * 1 + w.val - 63 < 64)⟩
      · exact ⟨Nat.zero_le _, (by omega : d.val * 1 + 0 - 0 < 256)⟩
    rw [if_pos hle]
    refine (dif_pos hin).trans (congrArg x ?_)
    funext a
    fin_cases a
    · exact Fin.ext (by show b.val * 1 + 0 - 0 = b.val; omega)
    · exact Fin.ext (by show h.val * 1 + 0 - 0 = h.val; omega)
    · exact Fin.ext (by show n.val * 1 + 0 - 0 = n.val; omega)
    · exact Fin.ext (by show i.val * 1 + w.val - 63 = (Equiv.addRight (i + 1) w : Fin 64).val; omega)
    · exact Fin.ext (by show d.val * 1 + 0 - 0 = d.val; omega)
  · have hle : ¬(Equiv.addRight (i + 1) w : Fin 64) ≤ i := by rw [Fin.le_def, hv]; omega
    rw [if_neg hle]
    exact dif_neg fun hin => hc (by have h3 : 63 ≤ i.val * 1 + w.val := (hin 3).1; omega)

/-- A sixteenth, as a product. -/
theorem div16 (x : EReal) : Ideal.div x (Ideal.ofBits FTy.f32 1098907648#32) = x * κ := by
  have h16 : Ideal.ofBits FTy.f32 1098907648#32 = ((16 : ℝ) : EReal) := by simp [Ideal.ofBits, Ideal.ieee, -EReal.coe_mul]; norm_num
  have hk : κ = ((1 / 16 : ℝ) : EReal) := by simp [κ, Ideal.ofBits, Ideal.ieee, -EReal.coe_mul]; norm_num
  rw [h16, hk, Ideal.div_coe (by norm_num : (16 : ℝ) ≠ 0)]

/-- Two, and minus five. -/
theorem two_bits : Ideal.ofBits FTy.f32 1073741824#32 = ((2 : ℝ) : EReal) := by simp [Ideal.ofBits, Ideal.ieee, -EReal.coe_mul]; norm_num
theorem five_bits : Ideal.ofBits FTy.f32 3231711232#32 = ((-5 : ℝ) : EReal) := by simp [Ideal.ofBits, Ideal.ieee, -EReal.coe_mul]; norm_num

/-- The logarithm of the decay as the reference spells it. -/
theorem lg_ref (z : EReal) :
    Ideal.div (-if -z ≠ -z then -z else max (-z) 0 + Ideal.log1p (Ideal.exp (-FloatOps.absf (F := Ideal) (φ := .f32) (-z)))) (Ideal.ofBits FTy.f32 1098907648#32) = lg z := by
  rw [if_neg (by simp), div16]
  unfold lg
  simp only [sub_eq_add_neg, zero_add]

variable (x0 : S2x8192x12288.Idx → EReal) (x1 : S2x8192x128.Idx → EReal) (x2 : S16x1024.Idx → EReal) (x3 : S1024.Idx → EReal)

theorem v7_at (b : Fin 2) (s : Fin 8192) (c : Fin 1024) :
    A_main_v7 (F := Ideal) x0 x1 x2 x3 (ix3 b s c) = ∑ k : Fin 16, x1 (ix3 b s (⟨k.val, by omega⟩ : Fin 128)) * x2 (ix2 k c) + x3 (ix1 c) := by
  pointwise [A_main_v7, A_main_v6, A_main_v5, A_main_v4, A_main_v3]

theorem v40_at (b : Fin 2) (h : Fin 4) (n : Fin 128) (i : Fin 64) (d : Fin 256) :
    A_main_v40 (F := Ideal) x0 x1 x2 x3 (ix5 b h n i d) = gA x1 x2 x3 b n.val h i d := by
  unfold gA
  have hs : (⟨n.val * 64 + i.val, by omega⟩ : Fin 8192) = seq n.val i := Fin.ext (by show n.val * 64 + i.val = (64 * n.val + i.val) % 8192; omega)
  have hc : (⟨h.val * 256 + d.val, by omega⟩ : Fin 1024) = colK h d := Fin.ext (by show h.val * 256 + d.val = 256 * h.val + d.val; omega)
  rw [← v7_at x0]
  pointwise [A_main_v40, A_main_v26, A_main_v25, A_main_v24, A_main_v22, A_main_v21, A_main_v13, A_main_v12, A_main_v15, A_main_v20, A_main_v19, A_main_v18, A_main_v17, A_main_v16, A_main_v10, A_main_v8, K_main_v9, K_main_v11, K_main_v14, K_main_v23, K_main_cst, K_main_cst_0]
  rw [hs, hc]
  exact lg_ref _

theorem v37_at (b : Fin 2) (h : Fin 4) (n : Fin 128) (i : Fin 64) (d : Fin 256) :
    A_main_v37 (F := Ideal) x0 x1 x2 x3 (ix5 b h n i d) = qA x0 b n.val h i d := by
  unfold qA
  pointwise [A_main_v37, A_main_v30, A_main_v28, A_main_v27, A_main_v0, K_main_v29, K_main_cst_1]
  refine congrArg (fun z : EReal => z * κ) (at3 x0 rfl ?_ ?_)
  · show n.val * 64 + i.val = (64 * n.val + i.val) % 8192; omega
  · show 6144 + (h.val * 256 + d.val) = 6144 + (256 * h.val + d.val); omega

theorem v38_at (b : Fin 2) (h : Fin 4) (n : Fin 128) (i : Fin 64) (d : Fin 256) :
    A_main_v38 (F := Ideal) x0 x1 x2 x3 (ix5 b h n i d) = kA x0 b n.val h i d := by
  unfold kA
  pointwise [A_main_v38, A_main_v32, A_main_v31, A_main_v1]
  refine at3 x0 rfl ?_ ?_
  · show n.val * 64 + i.val = (64 * n.val + i.val) % 8192; omega
  · show 7168 + (h.val * 256 + d.val) = 7168 + (256 * h.val + d.val); omega

theorem v39_at (b : Fin 2) (h : Fin 4) (n : Fin 128) (i : Fin 64) (e : Fin 512) :
    A_main_v39 (F := Ideal) x0 x1 x2 x3 (ix5 b h n i e) = vA x0 b n.val h i e := by
  unfold vA
  pointwise [A_main_v39, A_main_v34, A_main_v33, A_main_v2]
  refine at3 x0 rfl ?_ ?_
  · show n.val * 64 + i.val = (64 * n.val + i.val) % 8192; omega
  · show 8192 + (h.val * 512 + e.val) = 8192 + (512 * h.val + e.val); omega

/-- The running log decays. -/
theorem v41_at (b : Fin 2) (h : Fin 4) (n : Fin 128) (i : Fin 64) (d : Fin 256) :
    A_main_v41 (F := Ideal) x0 x1 x2 x3 (ix5 b h n i d) = cum (gA x1 x2 x3 b n.val h) i d := by
  unfold A_main_v41 cum
  rw [scan_at _ _ (fun k => by pointwise [K_main_call1_call0_v0, K_main_call1_call0_cst])]
  exact Finset.sum_congr rfl fun j _ => by rw [v40_at]

theorem v43_at (b : Fin 2) (h : Fin 4) (n : Fin 128) (i : Fin 64) (d : Fin 256) :
    A_main_v43 (F := Ideal) x0 x1 x2 x3 (ix5 b h n i d) = qA x0 b n.val h i d * Ideal.exp (cum (gA x1 x2 x3 b n.val h) i d) := by
  rw [← v37_at x0 x1 x2 x3, ← v41_at x0 x1 x2 x3]
  pointwise [A_main_v43, A_main_v42]

theorem v46_at (b : Fin 2) (h : Fin 4) (n : Fin 128) (i : Fin 64) (d : Fin 256) :
    A_main_v46 (F := Ideal) x0 x1 x2 x3 (ix5 b h n i d) = kA x0 b n.val h i d * Ideal.exp (0 - cum (gA x1 x2 x3 b n.val h) i d) := by
  rw [← v38_at x0 x1 x2 x3, ← v41_at x0 x1 x2 x3, sub_eq_add_neg, zero_add]
  pointwise [A_main_v46, A_main_v45, A_main_v44]

theorem v54_at (b : Fin 2) (h : Fin 4) (n : Fin 128) (i : Fin 64) (d : Fin 256) :
    A_main_v54 (F := Ideal) x0 x1 x2 x3 (ix5 b h n i d)
      = kA x0 b n.val h i d * Ideal.exp (cum (gA x1 x2 x3 b n.val h) 63 d - cum (gA x1 x2 x3 b n.val h) i d) := by
  rw [← v38_at x0 x1 x2 x3, ← v41_at x0 x1 x2 x3, ← v41_at x0 x1 x2 x3]
  pointwise [A_main_v54, A_main_v53, A_main_v52, A_main_v51, A_main_v50]

theorem v57_at (b : Fin 2) (h : Fin 4) (n : Fin 128) (d : Fin 256) :
    A_main_v57 (F := Ideal) x0 x1 x2 x3 (ix4 b h n d) = Ideal.exp (cum (gA x1 x2 x3 b n.val h) 63 d) := by
  rw [← v41_at x0 x1 x2 x3]
  pointwise [A_main_v57, A_main_v56, A_main_v55]

theorem mask_at (b : Fin 2) (h : Fin 4) (n : Fin 128) (i j : Fin 64) :
    K_main_call2_v1 (F := Ideal) (ix5 b h n i j) = BitVec.ofBool (decide (j ≤ i)) := by
  pointwise [K_main_call2_v1, K_main_v36, K_main_call0_v4, K_main_call0_v2, K_main_call0_v0, K_main_call0_v1, K_main_call0_c, K_main_call0_v3, K_main_v35, K_main_c, K_main_call0_v5, K_main_call0_c_0]
  rw [show IntOp.addi (BitVec.ofNat 32 i.val) 0#32 = BitVec.ofNat 32 i.val from BitVec.add_zero _, WordCmp.cmpi_sge_ofNat (by omega) (by omega)]
  simp only [Fin.le_def]
  by_cases hc : j.val ≤ i.val <;> simp [hc, Scalar.select]

theorem v48_at (b : Fin 2) (h : Fin 4) (n : Fin 128) (i j : Fin 64) :
    A_main_v48 (F := Ideal) x0 x1 x2 x3 (ix5 b h n i j) = if j ≤ i then ∑ d : Fin 256,
      (qA x0 b n.val h i d * Ideal.exp (cum (gA x1 x2 x3 b n.val h) i d)) * (kA x0 b n.val h j d * Ideal.exp (0 - cum (gA x1 x2 x3 b n.val h) j d)) else 0 := by
  simp only [← v43_at x0 x1 x2 x3, ← v46_at x0 x1 x2 x3]
  pointwise [A_main_v48, A_main_v47, K_main_call2_v2, K_main_call2_v0, K_main_cst_2]
  rw [mask_at]
  by_cases hc : j ≤ i
  · simp [hc, Scalar.select]
  · rw [decide_eq_false hc, if_neg hc]
    refine (if_neg (by decide)).trans ?_
    show constant (F := Ideal) S_ FTy.f32 0#32 ix0 = 0
    pointwise

theorem v49_at (b : Fin 2) (h : Fin 4) (n : Fin 128) (i : Fin 64) (e : Fin 512) :
    A_main_v49 (F := Ideal) x0 x1 x2 x3 (ix5 b h n i e) = ∑ j : Fin 64, (if j ≤ i then ∑ d : Fin 256,
      (qA x0 b n.val h i d * Ideal.exp (cum (gA x1 x2 x3 b n.val h) i d)) * (kA x0 b n.val h j d * Ideal.exp (0 - cum (gA x1 x2 x3 b n.val h) j d)) else 0) * vA x0 b n.val h j e := by
  simp only [← v48_at x0 x1 x2 x3, ← v39_at x0 x1 x2 x3]
  pointwise [A_main_v49]

variable (s : State Ideal)

theorem toInt_trip (j : Fin 128) : (BitVec.ofNat 32 j.val).toInt = (j.val : Int) := by
  have hj := j.isLt
  rw [BitVec.toInt_eq_toNat_of_lt (by rw [BitVec.toNat_ofNat]; omega), BitVec.toNat_ofNat]
  omega

theorem fits5 {l : ℕ} (j : Fin 128) : (⟨5, ![128, 2, 4, 64, l]⟩ : Shape).Slices (![j.val, 0, 0, 0, 0] : Fin 5 → ℕ) ⟨5, ![1, 2, 4, 64, l]⟩ :=
  ⟨rfl, fun a => by
    have hj := j.isLt
    fin_cases a
    · show j.val + 1 ≤ 128; omega
    · show 0 + 2 ≤ 2; omega
    · show 0 + 4 ≤ 4; omega
    · show 0 + 64 ≤ 64; omega
    · show 0 + l ≤ l; omega⟩

theorem fits4 (j : Fin 128) : S128x2x4x256.Slices (![j.val, 0, 0, 0] : Fin 4 → ℕ) S1x2x4x256 :=
  ⟨rfl, fun a => by
    have hj := j.isLt
    fin_cases a
    · show j.val + 1 ≤ 128; omega
    · show 0 + 2 ≤ 2; omega
    · show 0 + 4 ≤ 4; omega
    · show 0 + 256 ≤ 256; omega⟩

theorem start5 (j : Fin 128) (w : Fin 5 → S_.Idx → BitVec 32) (k : S_.Idx) (h0 : w 0 k = BitVec.ofNat 32 j.val)
    (hz : w 1 k = 0#32 ∧ w 2 k = 0#32 ∧ w 3 k = 0#32 ∧ w 4 k = 0#32) (a : Fin 5) : (w a k).toInt = ((![j.val, 0, 0, 0, 0] : Fin 5 → ℕ) a : Int) := by
  obtain ⟨h1, h2, h3, h4⟩ := hz
  fin_cases a
  · show (w 0 k).toInt = (j.val : Int); rw [h0, toInt_trip]
  · show (w 1 k).toInt = 0; rw [h1]; rfl
  · show (w 2 k).toInt = 0; rw [h2]; rfl
  · show (w 3 k).toInt = 0; rw [h3]; rfl
  · show (w 4 k).toInt = 0; rw [h4]; rfl

theorem start4 (j : Fin 128) (w : Fin 4 → S_.Idx → BitVec 32) (k : S_.Idx) (h0 : w 0 k = BitVec.ofNat 32 j.val)
    (hz : w 1 k = 0#32 ∧ w 2 k = 0#32 ∧ w 3 k = 0#32) (a : Fin 4) : (w a k).toInt = ((![j.val, 0, 0, 0] : Fin 4 → ℕ) a : Int) := by
  obtain ⟨h1, h2, h3⟩ := hz
  fin_cases a
  · show (w 0 k).toInt = (j.val : Int); rw [h0, toInt_trip]
  · show (w 1 k).toInt = 0; rw [h1]; rfl
  · show (w 2 k).toInt = 0; rw [h2]; rfl
  · show (w 3 k).toInt = 0; rw [h3]; rfl

/-- A slice written back where it fits. -/
theorem put_at {r r' : Shape} {α : Type} (x : r.Idx → α) (u : r'.Idx → α) (start : Fin r.rank → Int) (off : Fin r.rank → ℕ) (h : r.Slices (fun _ => 0) r')
    (hoff : r.Slices off r') (hs : ∀ a, start a = (off a : Int)) : Host.dynamicUpdateSlice x u start h = updateSlice x u off hoff := by
  have e : (fun a => (min (max (start a) 0) ((r.size a - r'.size (a.cast h.1.symm) : Nat) : Int)).toNat) = off :=
    funext fun a => by have := hoff.2 a; rw [hs a]; omega
  subst e
  rfl

theorem b5_at (j : Fin 128) (b : Fin 2) (h : Fin 4) (i : Fin 64) (d : Fin 256) : b5 j.val s (ix4 b h i d) = s.main_v65_0 (ix5 j b h i d) := by
  unfold b5 b4
  rw [Host.dynamicSlice_eq_extractStridedSlice _ _ _ (![j.val, 0, 0, 0, 0] : Fin 5 → ℕ) _ (fits5 j) (start5 j _ _ rfl ⟨rfl, rfl, rfl, rfl⟩)]
  pointwise

theorem b11_at (j : Fin 128) (b : Fin 2) (h : Fin 4) (i : Fin 64) (d : Fin 256) : b11 j.val s (ix4 b h i d) = s.main_v65_1 (ix5 j b h i d) := by
  unfold b11 b10
  rw [Host.dynamicSlice_eq_extractStridedSlice _ _ _ (![j.val, 0, 0, 0, 0] : Fin 5 → ℕ) _ (fits5 j) (start5 j _ _ rfl ⟨rfl, rfl, rfl, rfl⟩)]
  pointwise

theorem b17_at (j : Fin 128) (b : Fin 2) (h : Fin 4) (i : Fin 64) (e : Fin 512) : b17 j.val s (ix4 b h i e) = s.main_v65_2 (ix5 j b h i e) := by
  unfold b17 b16
  rw [Host.dynamicSlice_eq_extractStridedSlice _ _ _ (![j.val, 0, 0, 0, 0] : Fin 5 → ℕ) _ (fits5 j) (start5 j _ _ rfl ⟨rfl, rfl, rfl, rfl⟩)]
  pointwise

theorem b28_at (j : Fin 128) (b : Fin 2) (h : Fin 4) (i : Fin 64) (e : Fin 512) : b28 j.val s (ix4 b h i e) = s.main_v65_4 (ix5 j b h i e) := by
  unfold b28 b27
  rw [Host.dynamicSlice_eq_extractStridedSlice _ _ _ (![j.val, 0, 0, 0, 0] : Fin 5 → ℕ) _ (fits5 j) (start5 j _ _ rfl ⟨rfl, rfl, rfl, rfl⟩)]
  pointwise

theorem b22_at (j : Fin 128) (b : Fin 2) (h : Fin 4) (d : Fin 256) : b22 j.val s (ix3 b h d) = s.main_v65_3 (ix4 j b h d) := by
  unfold b22 b21
  rw [Host.dynamicSlice_eq_extractStridedSlice _ _ _ (![j.val, 0, 0, 0] : Fin 4 → ℕ) _ (fits4 j) (start4 j _ _ rfl ⟨rfl, rfl, rfl⟩)]
  pointwise

theorem b41_at (j k : Fin 128) (b : Fin 2) (h : Fin 4) (i : Fin 64) (e : Fin 512) :
    b41 j.val s (ix5 k b h i e) = if k = j then b30 j.val s (ix4 b h i e) else s.main_v65_7 (ix5 k b h i e) := by
  unfold b41 b36
  rw [put_at _ _ _ (![j.val, 0, 0, 0, 0] : Fin 5 → ℕ) _ (fits5 j) (start5 j _ _ rfl ⟨rfl, rfl, rfl, rfl⟩)]
  pointwise
  refine dite_congr (propext ⟨fun hh => Fin.ext (by omega), fun hh => by subst hh; omega⟩) (fun _ => rfl) fun _ => rfl

theorem b30_at (j : Fin 128) (b : Fin 2) (h : Fin 4) (i : Fin 64) (e : Fin 512) :
    b30 j.val s (ix4 b h i e) = b28 j.val s (ix4 b h i e) + ∑ d : Fin 256, b5 j.val s (ix4 b h i d) * s.main_v65_6 (ix4 b h d e) := by
  pointwise [b30, b29]

theorem b35_at (j : Fin 128) (b : Fin 2) (h : Fin 4) (d : Fin 256) (e : Fin 512) :
    b35 j.val s (ix4 b h d e) = s.main_v65_6 (ix4 b h d e) * b22 j.val s (ix3 b h d) + ∑ i : Fin 64, b11 j.val s (ix4 b h i d) * b17 j.val s (ix4 b h i e) := by
  pointwise [b35, b34, b33, b32, b31]

/-- The result over the last state. -/
theorem out_at (x4 : S512.Idx → EReal) (b : Fin 2) (t : Fin 8192) (c : Fin 2048) :
    R_main_v88 s x0 x4 (ix3 b t c) = tile (fun x => s.main_v65_7 (ix5 (⟨t.val / 64, by omega⟩ : Fin 128) b (⟨c.val / 512, by omega⟩ : Fin 4) (⟨t.val % 64, by omega⟩ : Fin 64) x))
      (x4 (ix1 (⟨c.val % 512, by omega⟩ : Fin 512))) (x0 (ix3 b t (⟨10240 + c.val, by omega⟩ : Fin 12288))) (⟨c.val % 512, by omega⟩ : Fin 512) := by
  unfold tile
  rw [sub_eq_add_neg, zero_add]
  pointwise [R_main_v88]

/-- The states of the scan. -/
def chain : ℕ → State Ideal
  | 0 => Step.init x0 x1 x2 x3
  | n + 1 => Step.step n (chain n)

theorem chain_fixed (n : ℕ) : (chain x0 x1 x2 x3 n).main_v65_0 = A_main_v58 x0 x1 x2 x3 ∧ (chain x0 x1 x2 x3 n).main_v65_1 = A_main_v59 x0 x1 x2 x3
    ∧ (chain x0 x1 x2 x3 n).main_v65_2 = A_main_v60 x0 x1 x2 x3 ∧ (chain x0 x1 x2 x3 n).main_v65_3 = A_main_v61 x0 x1 x2 x3
    ∧ (chain x0 x1 x2 x3 n).main_v65_4 = A_main_v62 x0 x1 x2 x3 := by
  induction n with
  | zero => exact ⟨rfl, rfl, rfl, rfl, rfl⟩
  | succ n ih => exact ih

theorem v58_at (k : Fin 128) (b : Fin 2) (h : Fin 4) (i : Fin 64) (d : Fin 256) :
    A_main_v58 (F := Ideal) x0 x1 x2 x3 (ix5 k b h i d) = qA x0 b k.val h i d * Ideal.exp (cum (gA x1 x2 x3 b k.val h) i d) := by
  rw [← v43_at x0 x1 x2 x3]
  pointwise [A_main_v58]

theorem v59_at (k : Fin 128) (b : Fin 2) (h : Fin 4) (i : Fin 64) (d : Fin 256) :
    A_main_v59 (F := Ideal) x0 x1 x2 x3 (ix5 k b h i d)
      = kA x0 b k.val h i d * Ideal.exp (cum (gA x1 x2 x3 b k.val h) 63 d - cum (gA x1 x2 x3 b k.val h) i d) := by
  rw [← v54_at x0 x1 x2 x3]
  pointwise [A_main_v59]

theorem v60_at (k : Fin 128) (b : Fin 2) (h : Fin 4) (i : Fin 64) (e : Fin 512) :
    A_main_v60 (F := Ideal) x0 x1 x2 x3 (ix5 k b h i e) = vA x0 b k.val h i e := by
  rw [← v39_at x0 x1 x2 x3]
  pointwise [A_main_v60]

theorem v61_at (k : Fin 128) (b : Fin 2) (h : Fin 4) (d : Fin 256) :
    A_main_v61 (F := Ideal) x0 x1 x2 x3 (ix4 k b h d) = Ideal.exp (cum (gA x1 x2 x3 b k.val h) 63 d) := by
  rw [← v57_at x0 x1 x2 x3]
  pointwise [A_main_v61]

theorem v62_at (k : Fin 128) (b : Fin 2) (h : Fin 4) (i : Fin 64) (e : Fin 512) :
    A_main_v62 (F := Ideal) x0 x1 x2 x3 (ix5 k b h i e) = A_main_v49 x0 x1 x2 x3 (ix5 b h k i e) := by
  pointwise [A_main_v62]

/-- The carried state before each trip. -/
theorem chain_state (n : ℕ) (hn : n ≤ 128) (b : Fin 2) (h : Fin 4) (d : Fin 256) (e : Fin 512) :
    (chain x0 x1 x2 x3 n).main_v65_6 (ix4 b h d e) = stA x0 x1 x2 x3 b h n d e := by
  induction n generalizing d e with
  | zero =>
    show K_main_v63 (F := Ideal) (ix4 b h d e) = 0
    pointwise [K_main_v63, K_main_cst_3]
  | succ n ih =>
    obtain ⟨-, f1, f2, f3, -⟩ := chain_fixed x0 x1 x2 x3 n
    refine (b35_at (chain x0 x1 x2 x3 n) (⟨n, by omega⟩ : Fin 128) b h d e).trans ?_
    rw [ih (by omega), b22_at, f3, v61_at]
    refine congrArg (_ + ·) (Finset.sum_congr rfl fun i _ => ?_)
    rw [b11_at, b17_at, f1, f2, v59_at, v60_at]

/-- The rows a trip stores. -/
theorem chain_row (n : Fin 128) (b : Fin 2) (h : Fin 4) (i : Fin 64) (e : Fin 512) :
    b30 n.val (chain x0 x1 x2 x3 n.val) (ix4 b h i e) = oA x0 x1 x2 x3 b n.val h i e := by
  obtain ⟨f0, -, -, -, f4⟩ := chain_fixed x0 x1 x2 x3 n.val
  rw [b30_at, b28_at, f4, v62_at, v49_at]
  refine congrArg (_ + ·) (Finset.sum_congr rfl fun d _ => ?_)
  rw [b5_at, f0, v58_at, chain_state x0 x1 x2 x3 n.val n.isLt.le]

/-- The stored rows. -/
theorem chain_out (n : ℕ) (hn : n ≤ 128) (k : Fin 128) (hk : k.val < n) (b : Fin 2) (h : Fin 4) (i : Fin 64) (e : Fin 512) :
    (chain x0 x1 x2 x3 n).main_v65_7 (ix5 k b h i e) = oA x0 x1 x2 x3 b k.val h i e := by
  induction n with
  | zero => omega
  | succ n ih =>
    refine (b41_at (chain x0 x1 x2 x3 n) (⟨n, by omega⟩ : Fin 128) k b h i e).trans ?_
    by_cases he : k.val = n
    · subst he
      rw [if_pos rfl]
      exact chain_row x0 x1 x2 x3 k b h i e
    · rw [if_neg fun hh => he (congrArg Fin.val hh)]
      exact ih (by omega) (by omega)

/-- The reference's result. -/
theorem result_at (x4 : S512.Idx → EReal) (b : Fin 2) (t : Fin 8192) (c : Fin 2048) :
    R_main_v88 (chain x0 x1 x2 x3 128) x0 x4 (ix3 b t c) = resA x0 x1 x2 x3 x4 b (t.val / 64) (⟨c.val / 512, by omega⟩ : Fin 4)
      (⟨t.val % 64, by omega⟩ : Fin 64) (⟨c.val % 512, by omega⟩ : Fin 512) := by
  rw [out_at]
  unfold resA rA
  have e5 : seq (t.val / 64) (⟨t.val % 64, by omega⟩ : Fin 64) = t := Fin.ext (by show (64 * (t.val / 64) + t.val % 64) % 8192 = t.val; omega)
  have e6 : (⟨10240 + (colV (⟨c.val / 512, by omega⟩ : Fin 4) (⟨c.val % 512, by omega⟩ : Fin 512)).val, by omega⟩ : Fin 12288) = ⟨10240 + c.val, by omega⟩ :=
    Fin.ext (by show 10240 + (512 * (c.val / 512) + c.val % 512) = 10240 + c.val; omega)
  rw [e5, e6]
  refine congrArg (fun o => tile o _ _ _) (funext fun x => ?_)
  exact chain_out x0 x1 x2 x3 128 le_rfl (⟨t.val / 64, by omega⟩ : Fin 128) (by show t.val / 64 < 128; omega) b _ _ x

end Cert.GlaRef
end
-- ==== Proof.GlaValue.lean ====
/- The gated linear attention kernel's result is the reference's. -/
module

public import proofs.«01_k».proof.Proof.GlaKernel
public import proofs.«01_k».proof.Proof.GlaRefRun
public import proofs.«01_k».proof.Proof.GlaRefMath

@[expose] public section

noncomputable section

namespace Cert.GlaValue

open Idealize.ShloMosaic Idealize.ShloMosaic.TcCoe

/-- The run's states are the scan's. -/
theorem states_eq (m : (ℓ : Loc Cert.ReferenceIdeal.nD Cert.ReferenceIdeal.τ Cert.ReferenceIdeal.sig) → Buf (Elt Ideal) ℓ) (c : Dev Cert.ReferenceIdeal.nD) (n : ℕ) :
    Cert.GlaRef.states m c n = Cert.GlaRef.chain (m ((c : Thread Cert.ReferenceIdeal.nD Cert.ReferenceIdeal.τ).loc Cert.ReferenceIdeal.main_arg0))
      (m ((c : Thread Cert.ReferenceIdeal.nD Cert.ReferenceIdeal.τ).loc Cert.ReferenceIdeal.main_arg1)) (m ((c : Thread Cert.ReferenceIdeal.nD Cert.ReferenceIdeal.τ).loc Cert.ReferenceIdeal.main_arg2))
      (m ((c : Thread Cert.ReferenceIdeal.nD Cert.ReferenceIdeal.τ).loc Cert.ReferenceIdeal.main_arg3)) n := by
  induction n with
  | zero => rfl
  | succ n ih => exact congrArg (Cert.ReferenceIdeal.Step.step n) ih

/-- The reference's result is the array the kernel leaves. -/
theorem result_eq (x0 : (⟨3, ![2, 8192, 12288]⟩ : Shape).Idx → EReal) (x1 : (⟨3, ![2, 8192, 128]⟩ : Shape).Idx → EReal) (x2 : (⟨2, ![16, 1024]⟩ : Shape).Idx → EReal)
    (x3 : (⟨1, ![1024]⟩ : Shape).Idx → EReal) (x4 : (⟨1, ![512]⟩ : Shape).Idx → EReal) :
    Cert.ReferenceIdeal.Step.R_main_v88 (Cert.GlaRef.chain x0 x1 x2 x3 128) x0 x4 = Cert.KernelIdeal.Gla.RES x0 x1 x2 x3 x4 := by
  funext y
  have e : y = ix3 (⟨(y 0).val, (y 0).isLt⟩ : Fin 2) (⟨(y 1).val, (y 1).isLt⟩ : Fin 8192) (⟨(y 2).val, (y 2).isLt⟩ : Fin 2048) := by
    funext a
    fin_cases a <;> rfl
  refine (congrArg _ e).trans ((Cert.GlaRef.result_at x0 x1 x2 x3 x4 _ _ _).trans ?_)
  rfl

end Cert.GlaValue
end
-- ==== Proof.UpValue.lean ====
/- The up projection with the squared ReLU: the tiled kernel's result array is the reference's. -/
module

public import proofs.«01_k».proof.Proof.Gen.KernelUpIdeal.Frame
public import proofs.«01_k».proof.Proof.Gen.ReferenceUpIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelUpIdeal.Value
open Cert.KernelUpIdeal Cert.KernelUpIdeal.Gen

variable (m : (ℓ : Loc nD τ sig) → Buf (Elt Ideal) ℓ)

/-- The whole product's entries, as the reference computes them. -/
abbrev REF (X : FVec Ideal S16384x4096 .bf16) (W : FVec Ideal S4096x16384 .bf16) : FVec Ideal S16384x16384 .bf16 :=
  truncf .bf16 (mulf
    (maximumf (Host.dotGeneral Cert.ReferenceUpIdeal.dot_S16384x4096_S4096x16384_S16384x16384_1_0_0_1_n_n none X W)
      (broadcastInDim Cert.ReferenceUpIdeal.S16384x16384 ![] Cert.ReferenceUpIdeal.Gen.bcast_S_S16384x16384 (constant Cert.ReferenceUpIdeal.S_ .f32 0x00000000#32)))
    (maximumf (Host.dotGeneral Cert.ReferenceUpIdeal.dot_S16384x4096_S4096x16384_S16384x16384_1_0_0_1_n_n none X W)
      (broadcastInDim Cert.ReferenceUpIdeal.S16384x16384 ![] Cert.ReferenceUpIdeal.Gen.bcast_S_S16384x16384 (constant Cert.ReferenceUpIdeal.S_ .f32 0x00000000#32))))
    Cert.ReferenceUpIdeal.Gen.bitsLt_bf16_f32

/-- Which block of each array a grid point works on. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- What the body stores at an index of its block is the reference's entry at the array index it sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.KernelUpIdeal.Value

end
-- ==== Proof.DownValue.lean ====
/- The up projection with the squared ReLU: the tiled kernel's result array is the reference's. -/
module

public import proofs.«01_k».proof.Proof.Gen.KernelDownIdeal.Frame
public import proofs.«01_k».proof.Proof.Gen.ReferenceDownIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelDownIdeal.Value
open Cert.KernelDownIdeal Cert.KernelDownIdeal.Gen

variable (m : (ℓ : Loc nD τ sig) → Buf (Elt Ideal) ℓ)

/-- The whole product's entries, as the reference computes them. -/
abbrev REF (X : FVec Ideal S16384x16384 .bf16) (W : FVec Ideal S16384x4096 .bf16) : FVec Ideal S16384x4096 .bf16 :=
  truncf .bf16 (Host.dotGeneral Cert.ReferenceDownIdeal.dot_S16384x16384_S16384x4096_S16384x4096_1_0_0_1_n_n none X W)
    Cert.ReferenceDownIdeal.Gen.bitsLt_bf16_f32

/-- Which block of each array a grid point works on. -/
theorem idx : ∀ t : Fin cfg0.N, win0_0.index t = ![t.val / 16, t.val % 4] ∧ win0_1.index t = ![t.val % 4, t.val / 4 % 4]
    ∧ win0_2.index t = ![t.val / 16, t.val / 4 % 4] :=
  (by decide +kernel : ∀ t : Fin grid0.N, _)

/-- The accumulator starts at zero. -/
theorem hzero (j : S1024x1024.Idx) : k0_pay1 (F := Ideal) j = 0 := by
  pointwise [k0_pay1]

/-- One step adds the product of the two blocks. -/
theorem hpay (acc : FVec Ideal S1024x1024 .f32) (x : FVec Ideal S1024x4096 .bf16) (w : FVec Ideal S4096x1024 .bf16) (j : S1024x1024.Idx) :
    k0_pay2 (F := Ideal) acc x w j = acc j + ∑ k : Fin 4096, (x (ix2 ⟨j 0, (j 0).isLt⟩ k) : EReal) * w (ix2 k ⟨j 1, (j 1).isLt⟩) := by
  pointwise [k0_pay2]

/-- The reference's entry is one sum over the whole contraction. -/
theorem href (X : FVec Ideal S16384x16384 .bf16) (W : FVec Ideal S16384x4096 .bf16) (j : S16384x4096.Idx) :
    REF X W j = ∑ l : Fin 16384, (X (ix2 ⟨j 0, (j 0).isLt⟩ l) : EReal) * W (ix2 l ⟨j 1, (j 1).isLt⟩) := by
  pointwise [REF]

/-- The accumulator after a point at which a run of four points begins. -/
theorem acc_first (c : Dev nD) (t : Fin cfg0.N) (h : t.val % 4 = 0) (j : S1024x1024.Idx) :
    (outsAt0 m c t.val t.isLt).2 j = k0_pay2 (F := Ideal) (k0_pay1 (F := Ideal)) (iblk m c 0 t) (iblk m c 1 t) j := by
  rw [outsAt0_A m c t h (by omega)]; frame_out

/-- The accumulator after any other point. -/
theorem acc_next (c : Dev nD) (t : Fin cfg0.N) (h : ¬t.val % 4 = 0) (j : S1024x1024.Idx) :
    (outsAt0 m c t.val t.isLt).2 j = k0_pay2 (F := Ideal)
      (outsAt0 m c (t.val - 1) (Nat.lt_of_le_of_lt (Nat.sub_le _ _) t.isLt)).2 (iblk m c 0 t) (iblk m c 1 t) j := by
  by_cases h3 : t.val % 4 = 3
  · rw [outsAt0_C m c t h h3]; frame_out; rw [(Memref.isWhole_whole _).read_unread]
  · rw [outsAt0_B m c t h h3]; frame_out; rw [(Memref.isWhole_whole _).read_unread]

/-- What the last point of a run stores is its accumulator, rounded. -/
theorem out_last (c : Dev nD) (t : Fin cfg0.N) (h : t.val % 4 = 3) (j : S1024x1024.Idx) :
    (outsAt0 m c t.val t.isLt).1 j = k0_pay3 (F := Ideal) (k0_pay2 (F := Ideal)
      (outsAt0 m c (t.val - 1) (Nat.lt_of_le_of_lt (Nat.sub_le _ _) t.isLt)).2 (iblk m c 0 t) (iblk m c 1 t)) j := by
  rw [outsAt0_C m c t (by omega) h]; frame_out; rw [(Memref.isWhole_whole _).read_unread]

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  have ht := (flush0_2 t).mp hf
  rw [out_last m c t ht]
  have hc : k0_pay3 (F := Ideal) (k0_pay2 (F := Ideal)
      (outsAt0 m c (t.val - 1) (Nat.lt_of_le_of_lt (Nat.sub_le _ _) t.isLt)).2 (iblk m c 0 t) (iblk m c 1 t)) y
      = (outsAt0 m c t.val t.isLt).2 y := by
    rw [acc_next m c t (by omega)]; pointwise [k0_pay3]
  rw [hc, Pipeline.eq_sum_fin_of_reset_step_apply_of_flush (fun n h => (outsAt0 m c n h).2) 4 (fun _ => 0) _
    (fun t h j => by rw [acc_first m c t h, hpay, hzero]) (fun t h j => by rw [acc_next m c t h, hpay])
    t ht _, zero_add, href]
  refine Fin.sum_mul_add_congr fun s k hl => ?_
  blk_point [iblk, V, idx t, idx ⟨_, Pipeline.run_point_lt_of_flush t ht s⟩]

end Cert.KernelDownIdeal.Value

end
-- ==== Proof.EvenInValue.lean ====
/- The even layer's input projection: the tiled kernel's result array is the reference's. -/
module

public import proofs.«01_k».proof.Proof.Gen.KernelEvenInIdeal.Frame
public import proofs.«01_k».proof.Proof.Gen.ReferenceEvenInIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelEvenInIdeal.Value
open Cert.KernelEvenInIdeal Cert.KernelEvenInIdeal.Gen

variable (m : (ℓ : Loc nD τ sig) → Buf (Elt Ideal) ℓ)

/-- The whole product's entries, as the reference computes them. -/
abbrev REF (X : FVec Ideal S16384x4096 .bf16) (W : FVec Ideal S4096x14336 .bf16) : FVec Ideal S16384x14336 .f32 :=
  Host.dotGeneral Cert.ReferenceEvenInIdeal.dot_S16384x4096_S4096x14336_S16384x14336_1_0_0_1_n_n none X W

/-- Which block of each array a grid point works on. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- What the body stores at an index of its block is the reference's entry at the array index it sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.KernelEvenInIdeal.Value

end
-- ==== Proof.OddInValue.lean ====
/- The odd layer's input projection: the tiled kernel's result array is the reference's. -/
module

public import proofs.«01_k».proof.Proof.Gen.KernelOddInIdeal.Frame
public import proofs.«01_k».proof.Proof.Gen.ReferenceOddInIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelOddInIdeal.Value
open Cert.KernelOddInIdeal Cert.KernelOddInIdeal.Gen

variable (m : (ℓ : Loc nD τ sig) → Buf (Elt Ideal) ℓ)

/-- The whole product's entries, as the reference computes them. -/
abbrev REF (X : FVec Ideal S16384x4096 .bf16) (W : FVec Ideal S4096x12288 .bf16) : FVec Ideal S16384x12288 .f32 :=
  Host.dotGeneral Cert.ReferenceOddInIdeal.dot_S16384x4096_S4096x12288_S16384x12288_1_0_0_1_n_n none X W

/-- Which block of each array a grid point works on. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- What the body stores at an index of its block is the reference's entry at the array index it sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.KernelOddInIdeal.Value

end
-- ==== Proof.OutValue.lean ====
/- The out-projection of the two mixers: the tiled kernel's result array is the reference's product with the
   concatenated mixers. -/
module

public import proofs.«01_k».proof.Proof.Gen.KernelOutIdeal.Frame
public import proofs.«01_k».proof.Proof.Gen.ReferenceOutIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelOutIdeal.Value
open Cert.KernelOutIdeal Cert.KernelOutIdeal.Gen

variable (m : (ℓ : Loc nD τ sig) → Buf (Elt Ideal) ℓ)

/-- The out-projection of the two mixers side by side, as the reference computes it. -/
abbrev REF (A B : FVec Ideal S16384x2048 .bf16) (W : FVec Ideal S4096x4096 .bf16) : FVec Ideal S16384x4096 .bf16 :=
  truncf .bf16 (Host.dotGeneral Cert.ReferenceOutIdeal.dot_S16384x4096_S4096x4096_S16384x4096_1_0_0_1_n_n none
    (concatenate Cert.ReferenceOutIdeal.S16384x4096 1 [⟨Cert.ReferenceOutIdeal.S16384x2048, A⟩, ⟨Cert.ReferenceOutIdeal.S16384x2048, B⟩] Cert.ReferenceOutIdeal.Gen.concatenates_S16384x2048_S16384x2048_S16384x4096_d1) W)
    Cert.ReferenceOutIdeal.Gen.bitsLt_bf16_f32

/-- Which block of each array a grid point works on. -/
theorem idx : ∀ t : Fin cfg0.N, win0_0.index t = ![(grid0.coords t 0).val, 0] ∧ win0_1.index t = ![(grid0.coords t 0).val, 0]
    ∧ win0_2.index t = ![0, (grid0.coords t 1).val] ∧ win0_3.index t = ![(grid0.coords t 0).val, (grid0.coords t 1).val] :=
  (by decide +kernel : ∀ t : Fin grid0.N, _)

/-- What the body stores at an index of its block is the reference's entry at the array index it sits at: the reference's sum
    over both mixers splits into the two sums of the body. -/
theorem point (c : Dev nD) (t : Fin cfg0.N) (y) : Gen.out0_3 (iblk m c 0 t) (iblk m c 1 t) (iblk m c 2 t) y
    = REF (m ((c : Thread nD τ).loc main_arg0)) (m ((c : Thread nD τ).loc main_arg1)) (m ((c : Thread nD τ).loc main_arg2))
        (((cfg0.win 3).blk t).view.emb y) := by
  frame_out
  pointwise [k0_pay1, REF]
  blk_point [iblk, V, idx t]

/-- The result array after the run is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.KernelOutIdeal.Value

end
-- ==== Proof.LnValue.lean ====
/- The residual layer norm: the tiled kernel's result array is the reference's. -/
module

public import proofs.«01_k».proof.Proof.Gen.KernelLnIdeal.Frame
public import proofs.«01_k».proof.Proof.Gen.ReferenceLnIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelLnIdeal.Value
open Cert.KernelLnIdeal Cert.KernelLnIdeal.Gen

variable (m : (ℓ : Loc nD τ sig) → Buf (Elt Ideal) ℓ)

/-- The residual layer norm, as the reference computes it. -/
noncomputable def REF (arg0 : FVec Ideal S16384x4096 .f32) (arg1 : FVec Ideal S16384x4096 .bf16) (arg2 arg3 : FVec Ideal S4096 .f32) :
    FVec Ideal S16384x4096 .f32 :=
  have cst : FVec Ideal Cert.ReferenceLnIdeal.S_ .f32 := (constant Cert.ReferenceLnIdeal.S_ .f32 0x3FB504F3#32)
  have v0 : FVec Ideal Cert.ReferenceLnIdeal.S16384x4096 .f32 := (broadcastInDim Cert.ReferenceLnIdeal.S16384x4096 ![] Cert.ReferenceLnIdeal.Gen.bcast_S_S16384x4096) cst
  have v1 : FVec Ideal Cert.ReferenceLnIdeal.S16384x4096 .f32 := mulf v0 arg0
  have v2 : FVec Ideal Cert.ReferenceLnIdeal.S16384x4096 .f32 := (extf .f32 arg1 Cert.ReferenceLnIdeal.Gen.bitsLt_bf16_f32)
  have v3 : FVec Ideal Cert.ReferenceLnIdeal.S16384x4096 .f32 := addf v1 v2
  have cst_0 : FVec Ideal Cert.ReferenceLnIdeal.S_ .f32 := (constant Cert.ReferenceLnIdeal.S_ .f32 0x00000000#32)
  have v4 : FVec Ideal Cert.ReferenceLnIdeal.S16384 .f32 := ((fun x v => Host.reduceAdd x v Cert.ReferenceLnIdeal.Gen.reducesTo_S16384x4096_S16384_d1 Cert.ReferenceLnIdeal.Gen.h_S_)) v3 cst_0
  have v5 : FVec Ideal Cert.ReferenceLnIdeal.S16384x1 .f32 := (broadcastInDim Cert.ReferenceLnIdeal.S16384x1 ![0] Cert.ReferenceLnIdeal.Gen.bcast_S16384_S16384x1_0) v4
  have cst_1 : FVec Ideal Cert.ReferenceLnIdeal.S_ .f32 := (constant Cert.ReferenceLnIdeal.S_ .f32 0x45800000#32)
  have v6 : FVec Ideal Cert.ReferenceLnIdeal.S16384x1 .f32 := (broadcastInDim Cert.ReferenceLnIdeal.S16384x1 ![] Cert.ReferenceLnIdeal.Gen.bcast_S_S16384x1) cst_1
  have v7 : FVec Ideal Cert.ReferenceLnIdeal.S16384x1 .f32 := Host.divf v5 v6
  have v8 : FVec Ideal Cert.ReferenceLnIdeal.S16384x4096 .f32 := (broadcastInDim Cert.ReferenceLnIdeal.S16384x4096 ![0, 1] Cert.ReferenceLnIdeal.Gen.bcast_S16384x1_S16384x4096_0_1) v7
  have v9 : FVec Ideal Cert.ReferenceLnIdeal.S16384x4096 .f32 := subf v3 v8
  have v10 : FVec Ideal Cert.ReferenceLnIdeal.S16384x4096 .f32 := mulf v9 v9
  have cst_2 : FVec Ideal Cert.ReferenceLnIdeal.S_ .f32 := (constant Cert.ReferenceLnIdeal.S_ .f32 0x00000000#32)
  have v11 : FVec Ideal Cert.ReferenceLnIdeal.S16384 .f32 := ((fun x v => Host.reduceAdd x v Cert.ReferenceLnIdeal.Gen.reducesTo_S16384x4096_S16384_d1 Cert.ReferenceLnIdeal.Gen.h_S_)) v10 cst_2
  have v12 : FVec Ideal Cert.ReferenceLnIdeal.S16384x1 .f32 := (broadcastInDim Cert.ReferenceLnIdeal.S16384x1 ![0] Cert.ReferenceLnIdeal.Gen.bcast_S16384_S16384x1_0) v11
  have cst_3 : FVec Ideal Cert.ReferenceLnIdeal.S_ .f32 := (constant Cert.ReferenceLnIdeal.S_ .f32 0x45800000#32)
  have v13 : FVec Ideal Cert.ReferenceLnIdeal.S16384x1 .f32 := (broadcastInDim Cert.ReferenceLnIdeal.S16384x1 ![] Cert.ReferenceLnIdeal.Gen.bcast_S_S16384x1) cst_3
  have v14 : FVec Ideal Cert.ReferenceLnIdeal.S16384x1 .f32 := Host.divf v12 v13
  have v15 : FVec Ideal Cert.ReferenceLnIdeal.S16384x4096 .f32 := (broadcastInDim Cert.ReferenceLnIdeal.S16384x4096 ![0, 1] Cert.ReferenceLnIdeal.Gen.bcast_S16384x1_S16384x4096_0_1) v7
  have v16 : FVec Ideal Cert.ReferenceLnIdeal.S16384x4096 .f32 := subf v3 v15
  have cst_4 : FVec Ideal Cert.ReferenceLnIdeal.S_ .f32 := (constant Cert.ReferenceLnIdeal.S_ .f32 0x3727C5AC#32)
  have v17 : FVec Ideal Cert.ReferenceLnIdeal.S16384x1 .f32 := (broadcastInDim Cert.ReferenceLnIdeal.S16384x1 ![] Cert.ReferenceLnIdeal.Gen.bcast_S_S16384x1) cst_4
  have v18 : FVec Ideal Cert.ReferenceLnIdeal.S16384x1 .f32 := addf v14 v17
  have v19 : FVec Ideal Cert.ReferenceLnIdeal.S16384x1 .f32 := Host.rsqrt v18
  have v20 : FVec Ideal Cert.ReferenceLnIdeal.S16384x4096 .f32 := (broadcastInDim Cert.ReferenceLnIdeal.S16384x4096 ![0, 1] Cert.ReferenceLnIdeal.Gen.bcast_S16384x1_S16384x4096_0_1) v19
  have v21 : FVec Ideal Cert.ReferenceLnIdeal.S16384x4096 .f32 := mulf v16 v20
  have v22 : FVec Ideal Cert.ReferenceLnIdeal.S1x4096 .f32 := (broadcastInDim Cert.ReferenceLnIdeal.S1x4096 ![1] Cert.ReferenceLnIdeal.Gen.bcast_S4096_S1x4096_1) arg2
  have v23 : FVec Ideal Cert.ReferenceLnIdeal.S16384x4096 .f32 := (broadcastInDim Cert.ReferenceLnIdeal.S16384x4096 ![0, 1] Cert.ReferenceLnIdeal.Gen.bcast_S1x4096_S16384x4096_0_1) v22
  have v24 : FVec Ideal Cert.ReferenceLnIdeal.S16384x4096 .f32 := mulf v21 v23
  have v25 : FVec Ideal Cert.ReferenceLnIdeal.S1x4096 .f32 := (broadcastInDim Cert.ReferenceLnIdeal.S1x4096 ![1] Cert.ReferenceLnIdeal.Gen.bcast_S4096_S1x4096_1) arg3
  have v26 : FVec Ideal Cert.ReferenceLnIdeal.S16384x4096 .f32 := (broadcastInDim Cert.ReferenceLnIdeal.S16384x4096 ![0, 1] Cert.ReferenceLnIdeal.Gen.bcast_S1x4096_S16384x4096_0_1) v25
  have v27 : FVec Ideal Cert.ReferenceLnIdeal.S16384x4096 .f32 := addf v24 v26
  v27

/-- Which block of each array a grid point works on. -/
theorem idx : ∀ t : Fin cfg0.N, win0_0.index t = ![t.val, 0] ∧ win0_1.index t = ![t.val, 0]
    ∧ win0_2.index t = ![0, 0] ∧ win0_3.index t = ![0, 0] ∧ win0_4.index t = ![t.val, 0] :=
  (by decide +kernel : ∀ t : Fin grid0.N, _)

/-- What the body stores at an index of its block is the reference's entry at the array index it sits at. -/
theorem point (c : Dev nD) (t : Fin cfg0.N) (y) : k0_pay1 (iblk m c 0 t) (iblk m c 1 t) (iblk m c 2 t) (iblk m c 3 t) y
    = REF (m ((c : Thread nD τ).loc main_arg0)) (m ((c : Thread nD τ).loc main_arg1)) (m ((c : Thread nD τ).loc main_arg2))
        (m ((c : Thread nD τ).loc main_arg3)) (((cfg0.win 4).blk t).view.emb y) := by
  pointwise [k0_pay1, REF]
  blk_point [iblk, V, idx t]

/-- The result array after the run is the reference's. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]; frame_out
  exact point m c t y

end Cert.KernelLnIdeal.Value

end
-- ==== Proof.LnMixValue.lean ====
/- The residual layer norm with a bf16 copy: both result arrays are the reference's. -/
module

public import proofs.«01_k».proof.Proof.Gen.KernelLnMixIdeal.Frame
public import proofs.«01_k».proof.Proof.Gen.ReferenceLnMixIdeal
public import proofs.«01_k».proof.Proof.LnValue
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelLnMixIdeal.Value
open Cert.KernelLnMixIdeal Cert.KernelLnMixIdeal.Gen

variable (m : (ℓ : Loc nD τ sig) → Buf (Elt Ideal) ℓ)

/-- The residual layer norm, as the reference computes it. -/
abbrev REF := Cert.KernelLnIdeal.Value.REF

/-- Its copy rounded to bf16, as the reference computes it. -/
abbrev REFB (arg0 : FVec Ideal S16384x4096 .f32) (arg1 : FVec Ideal S16384x4096 .bf16) (arg2 arg3 : FVec Ideal S4096 .f32) :
    FVec Ideal S16384x4096 .bf16 :=
  truncf .bf16 (REF arg0 arg1 arg2 arg3) Cert.ReferenceLnMixIdeal.Gen.bitsLt_bf16_f32

/-- Which block of each array a grid point works on. -/
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0] :=
  (by decide +kernel : ∀ t : Fin grid0.N, _)

/-- What the body stores at an index of its block is the reference's entry at the array index it sits at. -/
theorem point (c : Dev nD) (t : Fin cfg0.N) (y) : k0_pay1 (iblk m c 0 t) (iblk m c 1 t) (iblk m c 2 t) (iblk m c 3 t) y
    = REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, REF, Cert.KernelLnIdeal.Value.REF]
  blk_point [iblk, V, idx t]

/-- What the body stores at an index of its block is the reference's entry at the array index it sits at, for the bf16 copy. -/
theorem pointb (c : Dev nD) (t : Fin cfg0.N) (y) : k0_pay2 (iblk m c 0 t) (iblk m c 1 t) (iblk m c 2 t) (iblk m c 3 t) y
    = REFB (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay2, k0_pay1, REFB, REF, Cert.KernelLnIdeal.Value.REF]
  blk_point [iblk, V, idx t]

/-- The result array after the run is the reference's. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

/-- The result array after the run is the reference's, for the bf16 copy. -/
theorem finalb (c : Dev nD) : (dats m 0 c).arrAt 5 (cfgs 0).N
    = REFB (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact pointb m c t y

end Cert.KernelLnMixIdeal.Value

end
-- ==== Proof.LnGateValue.lean ====
/- The residual layer norm with a bf16 copy and the next layer's gate columns: the three result arrays are the reference's. -/
module

public import proofs.«01_k».proof.Proof.Gen.KernelLnGateIdeal.Frame
public import proofs.«01_k».proof.Proof.Gen.ReferenceLnGateIdeal
public import proofs.«01_k».proof.Proof.LnValue
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelLnGateIdeal.Value
open Cert.KernelLnGateIdeal Cert.KernelLnGateIdeal.Gen

variable (m : (ℓ : Loc nD τ sig) → Buf (Elt Ideal) ℓ)

/-- The residual layer norm, as the reference computes it. -/
abbrev REF := Cert.KernelLnIdeal.Value.REF

/-- Its copy rounded to bf16, as the reference computes it. -/
abbrev REFB (arg0 : FVec Ideal S16384x4096 .f32) (arg1 : FVec Ideal S16384x4096 .bf16) (arg2 arg3 : FVec Ideal S4096 .f32) :
    FVec Ideal S16384x4096 .bf16 :=
  truncf .bf16 (REF arg0 arg1 arg2 arg3) Cert.ReferenceLnGateIdeal.Gen.bitsLt_bf16_f32

/-- The copy's product with the next layer's gate columns, as the reference computes it. -/
abbrev REFG (arg0 : FVec Ideal S16384x4096 .f32) (arg1 : FVec Ideal S16384x4096 .bf16) (arg2 arg3 : FVec Ideal S4096 .f32)
    (arg4 : FVec Ideal S4096x128 .bf16) : FVec Ideal S16384x128 .f32 :=
  Host.dotGeneral Cert.ReferenceLnGateIdeal.dot_S16384x4096_S4096x128_S16384x128_1_0_0_1_n_n none (REFB arg0 arg1 arg2 arg3) arg4

/-- Which block of each array a grid point works on. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![t.val, 0] :=
  (by decide +kernel : ∀ t : Fin grid0.N, _)

/-- What the body stores at an index of its block is the reference's entry at the array index it sits at. -/
theorem point (c : Dev nD) (t : Fin cfg0.N) (y) : k0_pay1 (iblk m c 0 t) (iblk m c 1 t) (iblk m c 2 t) (iblk m c 3 t) y
    = REF (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, REF, Cert.KernelLnIdeal.Value.REF]
  blk_point [iblk, V, idx t]

/-- What the body stores at an index of its block is the reference's entry at the array index it sits at, for the bf16 copy. -/
theorem pointb (c : Dev nD) (t : Fin cfg0.N) (y) : k0_pay2 (iblk m c 0 t) (iblk m c 1 t) (iblk m c 2 t) (iblk m c 3 t) y
    = REFB (m ((c : Thread nD τ).loc main_arg0)) (m ((c : Thread nD τ).loc main_arg1)) (m ((c : Thread nD τ).loc main_arg2)) (m ((c : Thread nD τ).loc main_arg3)) (((cfg0.win 6).blk t).view.emb y) := by
  pointwise [k0_pay2, k0_pay1, REFB, REF, Cert.KernelLnIdeal.Value.REF]
  blk_point [iblk, V, idx t]

/-- What the body stores at an index of its block is the reference's entry at the array index it sits at, for the gate columns. -/
theorem pointg (c : Dev nD) (t : Fin cfg0.N) (y) : k0_pay3 (iblk m c 0 t) (iblk m c 1 t) (iblk m c 2 t) (iblk m c 3 t) (iblk m c 4 t) y
    = REFG (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  pointwise [k0_pay3, k0_pay2, k0_pay1, REFG, REFB, REF, Cert.KernelLnIdeal.Value.REF]
  blk_point [iblk, V, idx t]

/-- The result array after the run is the reference's. -/
theorem final (c : Dev nD) : (dats m 0 c).arrAt 5 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point m c t y

/-- The result array after the run is the reference's, for the bf16 copy. -/
theorem finalb (c : Dev nD) : (dats m 0 c).arrAt 6 (cfgs 0).N
    = REFB (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  exact pointb m c t y

/-- The result array after the run is the reference's, for the gate columns. -/
theorem finalg (c : Dev nD) : (dats m 0 c).arrAt 7 (cfgs 0).N
    = REFG (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]; frame_out
  exact pointg m c t y

end Cert.KernelLnGateIdeal.Value

end
-- ==== Proof.CastGateValue.lean ====
/- The input's bf16 copy and its gate columns: both result arrays are the reference's. -/
module

public import proofs.«01_k».proof.Proof.Gen.KernelCastGateIdeal.Frame
public import proofs.«01_k».proof.Proof.Gen.ReferenceCastGateIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelCastGateIdeal.Value
open Cert.KernelCastGateIdeal Cert.KernelCastGateIdeal.Gen

variable (m : (ℓ : Loc nD τ sig) → Buf (Elt Ideal) ℓ)

/-- The input rounded to bf16, as the reference computes it. -/
abbrev REFB (arg0 : FVec Ideal S16384x4096 .f32) : FVec Ideal S16384x4096 .bf16 :=
  truncf .bf16 arg0 Cert.ReferenceCastGateIdeal.Gen.bitsLt_bf16_f32

/-- The gate columns, as the reference computes them. -/
abbrev REFG (arg0 : FVec Ideal S16384x4096 .f32) (arg1 : FVec Ideal S4096x128 .bf16) : FVec Ideal S16384x128 .f32 :=
  Host.dotGeneral Cert.ReferenceCastGateIdeal.dot_S16384x4096_S4096x128_S16384x128_1_0_0_1_n_n none (REFB arg0) arg1

/-- Which block of each array a grid point works on. -/
theorem idx : ∀ t : Fin cfg0.N, win0_0.index t = ![t.val, 0]
    ∧ win0_1.index t = ![0, 0]
    ∧ win0_2.index t = ![t.val, 0]
    ∧ win0_3.index t = ![t.val, 0] :=
  (by decide +kernel : ∀ t : Fin grid0.N, _)

/-- What the body stores at an index of its block is the reference's entry at the array index it sits at, for the bf16 copy. -/
theorem pointb (c : Dev nD) (t : Fin cfg0.N) (y) : k0_pay1 (iblk m c 0 t) y
    = REFB (m ((c : Thread nD τ).loc main_arg0)) (((cfg0.win 2).blk t).view.emb y) := by
  pointwise [k0_pay1, REFB]
  blk_point [iblk, V, idx t]

/-- What the body stores at an index of its block is the reference's entry at the array index it sits at, for the gate columns. -/
theorem pointg (c : Dev nD) (t : Fin cfg0.N) (y) : k0_pay2 (iblk m c 0 t) (iblk m c 1 t) y
    = REFG (m ((c : Thread nD τ).loc main_arg0)) (m ((c : Thread nD τ).loc main_arg1)) (((cfg0.win 3).blk t).view.emb y) := by
  pointwise [k0_pay2, k0_pay1, REFG, REFB]
  blk_point [iblk, V, idx t]

/-- The result array after the run is the reference's, for the bf16 copy. -/
theorem finalb (c : Dev nD) : (dats m 0 c).arrAt 2 (cfgs 0).N
    = REFB (m ((c : Thread nD τ).loc main_arg0)) := by
  refine (dats m 0 c).arrAt_eq_of_covers 2 _ (by decide +kernel) fun t _ y => ?_
  blk_simp
  rw [after0_2]; frame_out
  exact pointb m c t y

/-- The result array after the run is the reference's, for the gate columns. -/
theorem finalg (c : Dev nD) : (dats m 0 c).arrAt 3 (cfgs 0).N
    = REFG (m ((c : Thread nD τ).loc main_arg0)) (m ((c : Thread nD τ).loc main_arg1)) := by
  refine (dats m 0 c).arrAt_eq_of_covers 3 _ (by decide +kernel) fun t _ y => ?_
  blk_simp
  rw [after0_3]; frame_out
  exact pointg m c t y

end Cert.KernelCastGateIdeal.Value

end
-- ==== Proof.RetBlocks.lean ====
/- The retention kernel, two heads and one chunk of 64 rows at a time: what a chunk computes from its rows of the inputs
   and the state before it, as functions that the chunks and head pairs of a grid point share. -/
module

public import proofs.«01_k».proof.Proof.Gen.KernelRetIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelRetIdeal.Ret
open Cert.KernelRetIdeal Cert.KernelRetIdeal.Gen

variable {F : FTy → Type} [FloatOps F] [Named F]

/-- The first and second head of a pair. -/
abbrev hA (g : Fin 4) : Fin 8 := ⟨2 * g.val, by omega⟩
abbrev hB (g : Fin 4) : Fin 8 := ⟨2 * g.val + 1, by omega⟩

/-- Chunk `p`'s rows of head `h` of a query or key block. -/
def cutK (x : Vec F S1x512x1024 .f32) (p h : Fin 8) : Vec F S1x64x128 .f32 :=
  fun y => x (ix3 (0 : Fin 1) (⟨64 * p.val + (y 1 : ℕ), by have := (y 1).isLt; change _ < 64 at this; omega⟩ : Fin 512)
    (⟨128 * h.val + (y 2 : ℕ), by have := (y 2).isLt; change _ < 128 at this; omega⟩ : Fin 1024))

/-- Chunk `p`'s rows of head `h` of a value or gate block. -/
def cutV (x : Vec F S1x512x2048 .f32) (p h : Fin 8) : Vec F S1x64x256 .f32 :=
  fun y => x (ix3 (0 : Fin 1) (⟨64 * p.val + (y 1 : ℕ), by have := (y 1).isLt; change _ < 64 at this; omega⟩ : Fin 512)
    (⟨256 * h.val + (y 2 : ℕ), by have := (y 2).isLt; change _ < 256 at this; omega⟩ : Fin 2048))

/-- Chunk `p`'s rows of a cosine or sine block. -/
def cutC (x : Vec F S1x512x128 .f32) (p : Fin 8) : Vec F S1x64x128 .f32 :=
  fun y => x (ix3 (0 : Fin 1) (⟨64 * p.val + (y 1 : ℕ), by have := (y 1).isLt; change _ < 64 at this; omega⟩ : Fin 512)
    (⟨(y 2 : ℕ), (y 2).isLt⟩ : Fin 128))

/-- Head `h`'s slice of the eight states. -/
def hd (s : Vec F S8x128x256 .f32) (h : Fin 8) : Vec F S1x128x256 .f32 :=
  fun y => s (ix3 h (⟨(y 1 : ℕ), (y 1).isLt⟩ : Fin 128) (⟨(y 2 : ℕ), (y 2).isLt⟩ : Fin 256))

theorem inbK (p h : Fin 8) : ∀ a, (![0, 64 * p.val, 128 * h.val] : Fin 3 → ℕ) a + S1x64x128.size a ≤ S1x512x1024.size a := fun a => by
  have := p.isLt; have := h.isLt
  fin_cases a
  · exact (by decide : 0 + 1 ≤ 1)
  · show 64 * p.val + 64 ≤ 512; omega
  · show 128 * h.val + 128 ≤ 1024; omega

theorem inbV (p h : Fin 8) : ∀ a, (![0, 64 * p.val, 256 * h.val] : Fin 3 → ℕ) a + S1x64x256.size a ≤ S1x512x2048.size a := fun a => by
  have := p.isLt; have := h.isLt
  fin_cases a
  · exact (by decide : 0 + 1 ≤ 1)
  · show 64 * p.val + 64 ≤ 512; omega
  · show 256 * h.val + 256 ≤ 2048; omega

theorem inbC (p : Fin 8) : ∀ a, (![0, 64 * p.val, 0] : Fin 3 → ℕ) a + S1x64x128.size a ≤ S1x512x128.size a := fun a => by
  have := p.isLt
  fin_cases a
  · exact (by decide : 0 + 1 ≤ 1)
  · show 64 * p.val + 64 ≤ 512; omega
  · exact (by decide : 0 + 128 ≤ 128)

theorem inbS (h : Fin 8) : ∀ a, (![h.val, 0, 0] : Fin 3 → ℕ) a + S1x128x256.size a ≤ S8x128x256.size a := fun a => by
  have := h.isLt
  fin_cases a
  · show h.val + 1 ≤ 8; omega
  · exact (by decide : 0 + 128 ≤ 128)
  · exact (by decide : 0 + 256 ≤ 256)

section reads

theorem rK {arg : Memref sig .tc .vmem S1x512x1024 .f32} (harg : arg.IsWhole) (x : Vec F S1x512x1024 .f32) (p h : Fin 8) :
    cutK x p h = View.readAt (Elt F) arg.view (Rect.unit (s := S1x512x1024) ![0, 64 * p.val, 128 * h.val] S1x64x128.size (inbK p h)).toLoadRect (harg.unread x) := by
  rw [View.readAt_eq_ld, harg.read_unread]
  funext y
  refine (View.ld_unit_apply_of x _ _ _ y _ fun a => ?_).symm
  fin_cases a
  · have h0 : (y 0 : ℕ) < 1 := (y 0).isLt
    show 0 = 0 + (y 0 : ℕ); omega
  · rfl
  · rfl

theorem rV {arg : Memref sig .tc .vmem S1x512x2048 .f32} (harg : arg.IsWhole) (x : Vec F S1x512x2048 .f32) (p h : Fin 8) :
    cutV x p h = View.readAt (Elt F) arg.view (Rect.unit (s := S1x512x2048) ![0, 64 * p.val, 256 * h.val] S1x64x256.size (inbV p h)).toLoadRect (harg.unread x) := by
  rw [View.readAt_eq_ld, harg.read_unread]
  funext y
  refine (View.ld_unit_apply_of x _ _ _ y _ fun a => ?_).symm
  fin_cases a
  · have h0 : (y 0 : ℕ) < 1 := (y 0).isLt
    show 0 = 0 + (y 0 : ℕ); omega
  · rfl
  · rfl

theorem rC {arg : Memref sig .tc .vmem S1x512x128 .f32} (harg : arg.IsWhole) (x : Vec F S1x512x128 .f32) (p : Fin 8) :
    cutC x p = View.readAt (Elt F) arg.view (Rect.unit (s := S1x512x128) ![0, 64 * p.val, 0] S1x64x128.size (inbC p)).toLoadRect (harg.unread x) := by
  rw [View.readAt_eq_ld, harg.read_unread]
  funext y
  refine (View.ld_unit_apply_of x _ _ _ y _ fun a => ?_).symm
  fin_cases a
  · have h0 : (y 0 : ℕ) < 1 := (y 0).isLt
    show 0 = 0 + (y 0 : ℕ); omega
  · rfl
  · show (y 2 : ℕ) = 0 + (y 2 : ℕ); omega
end reads

theorem ld_hd (x : Vec F S8x128x256 .f32) (h : Fin 8) (inb) :
    View.ld (Val := Elt F) x (Rect.unit ![h.val, 0, 0] S1x128x256.size inb) = hd x h := by
  funext y
  refine View.ld_unit_apply_of x _ _ inb y _ fun a => ?_
  have h0 : (y 0 : ℕ) < 1 := (y 0).isLt
  fin_cases a
  · show h.val = h.val + (y 0 : ℕ); omega
  · show (y 1 : ℕ) = 0 + (y 1 : ℕ); omega
  · show (y 2 : ℕ) = 0 + (y 2 : ℕ); omega

theorem rS {arg : Memref sig .tc .vmem S8x128x256 .f32} (harg : arg.IsWhole) (x : Vec F S8x128x256 .f32) (h : Fin 8) :
    hd x h = View.readAt (Elt F) arg.view (Rect.unit (s := S8x128x256) ![h.val, 0, 0] S1x128x256.size (inbS h)).toLoadRect (harg.unread x) := by
  rw [View.readAt_eq_ld, harg.read_unread, ld_hd]

/-- The log decay of each head, and that of a whole chunk. -/
def lgn (h : Fin 8) : F .f32 :=
  match h.val with
  | 0 => Named.named κ "lg0" 0xBD020AEC#32
  | 1 => Named.named κ "lg1" 0xBC8102B3#32
  | 2 => Named.named κ "lg2" 0xBC0080AC#32
  | 3 => Named.named κ "lg3" 0xBB80402B#32
  | 4 => Named.named κ "lg4" 0xBB00200B#32
  | 5 => Named.named κ "lg5" 0xBA801003#32
  | 6 => Named.named κ "lg6" 0xBA000801#32
  | _ => Named.named κ "lg7" 0xB9800400#32
def endn (h : Fin 8) : F .f32 :=
  match h.val with
  | 0 => Named.named κ "end0" 0xC0020AEC#32
  | 1 => Named.named κ "end1" 0xBF8102B3#32
  | 2 => Named.named κ "end2" 0xBF0080AC#32
  | 3 => Named.named κ "end3" 0xBE80402B#32
  | 4 => Named.named κ "end4" 0xBE00200B#32
  | 5 => Named.named κ "end5" 0xBD801003#32
  | 6 => Named.named κ "end6" 0xBD000801#32
  | _ => Named.named κ "end7" 0xBC800400#32

/-- Which rows see which: the same head, at the same row or an earlier one. -/
def gM : IVec S128x128 1 :=
  k0_pay7 (iota Kind.tc S128x128 32 [0] iota_S128x128_d0_w32) (iota Kind.tc S128x128 32 [1] iota_S128x128_d1_w32) k0_pay4 (64#32) k0_pay5 k0_pay6 1#32

/-- The rows of two heads, one under the other. -/
def g2K (a b : Vec F S1x64x128 .f32) : FVec F S128x128 .f32 :=
  concatenate S128x128 0 [⟨S64x128, shapeCast S64x128 a shapeCasts_S1x64x128_S64x128⟩, ⟨S64x128, shapeCast S64x128 b shapeCasts_S1x64x128_S64x128⟩] concatenates_S64x128_S64x128_S128x128_d0
def g2V (a b : Vec F S1x64x256 .f32) : FVec F S128x256 .f32 :=
  concatenate S128x256 0 [⟨S64x256, shapeCast S64x256 a shapeCasts_S1x64x256_S64x256⟩, ⟨S64x256, shapeCast S64x256 b shapeCasts_S1x64x256_S64x256⟩] concatenates_S64x256_S64x256_S128x256_d0

/-- The rotation of rows by their position. -/
def gRope (a : FVec F S128x128 .f32) (c s : Vec F S1x64x128 .f32) : FVec F S128x128 .f32 :=
  addf (mulf a (g2K c c)) (mulf (dynamicRotate 1 64#32 none a rotates_S128x128_d1) (g2K s s))

/-- The running log decays of two heads, and those at the end of a chunk. -/
def gB (la lb : F .f32) : FVec F S128x1 .f32 :=
  concatenate S128x1 0 [⟨S64x1, mulf k0_pay8 (broadcast S64x1 la)⟩, ⟨S64x1, mulf k0_pay8 (broadcast S64x1 lb)⟩] concatenates_S64x1_S64x1_S128x1_d0
def gEnd (ea eb : F .f32) : FVec F S128x1 .f32 :=
  concatenate S128x1 0 [⟨S64x1, broadcast S64x1 ea⟩, ⟨S64x1, broadcast S64x1 eb⟩] concatenates_S64x1_S64x1_S128x1_d0

/-- The keys, rotated and scaled. -/
def gKr (k : FVec F S128x128 .f32) (c s : Vec F S1x64x128 .f32) : FVec F S128x128 .f32 :=
  mulf (gRope k c s) (broadcast S128x128 (Scalar.ofBits .f32 0x3DB504F3#32))

/-- The queries, decayed from the chunk's start. -/
def gQD (q : FVec F S128x128 .f32) (c s : Vec F S1x64x128 .f32) (b : FVec F S128x1 .f32) : FVec F S128x128 .f32 :=
  mulf (gRope q c s) (broadcastTo S128x128 (exp b) broadcasts_S128x1_S128x128)

/-- The masked scores within the chunk, and the rows they give. -/
def gAt (qd k : FVec F S128x128 .f32) (b : FVec F S128x1 .f32) : FVec F S128x128 .f32 :=
  select gM (matmul dot_S128x128_S128x128_S128x128_1_1_0_0_n_n none (truncf .bf16 qd bitsLt_bf16_f32)
      (truncf .bf16 (mulf k (broadcastTo S128x128 (exp (subf (broadcast S128x1 (Scalar.ofBits .f32 0x00000000#32)) b)) broadcasts_S128x1_S128x128)) bitsLt_bf16_f32)
      (constant S128x128 .f32 0x00000000#32)) (broadcast S128x128 (Scalar.ofBits .f32 0x00000000#32))
def gOI (qd k : FVec F S128x128 .f32) (b : FVec F S128x1 .f32) (v : FVec F S128x256 .f32) : FVec F S128x256 .f32 :=
  matmul dot_S128x128_S128x256_S128x256_1_0_0_1_n_n none (truncf .bf16 (gAt qd k b) bitsLt_bf16_f32) (truncf .bf16 v bitsLt_bf16_f32) (constant S128x256 .f32 0x00000000#32)

/-- The keys decayed to the chunk's end. -/
def gKE (k : FVec F S128x128 .f32) (e b : FVec F S128x1 .f32) : FVec F S128x128 .f32 :=
  mulf k (broadcastTo S128x128 (exp (subf e b)) broadcasts_S128x1_S128x128)

/-- What the chunk adds to each head's state. -/
def gKV0 (ke : FVec F S128x128 .f32) (v : FVec F S128x256 .f32) : FVec F S128x256 .f32 :=
  matmul dot_S128x64_S64x256_S128x256_1_0_0_1_n_n none
    (truncf .bf16 (transpose S128x64 [1, 0] (extractStridedSlice S64x128 ![0, 0] ke slices_S128x128_o0_0_S64x128) transposes_S64x128_p1_0_S128x64) bitsLt_bf16_f32)
    (truncf .bf16 (extractStridedSlice S64x256 ![0, 0] v slices_S128x256_o0_0_S64x256) bitsLt_bf16_f32) (constant S128x256 .f32 0x00000000#32)
def gKV1 (ke : FVec F S128x128 .f32) (v : FVec F S128x256 .f32) : FVec F S128x256 .f32 :=
  matmul dot_S128x64_S64x256_S128x256_1_0_0_1_n_n none
    (truncf .bf16 (transpose S128x64 [1, 0] (extractStridedSlice S64x128 ![64, 0] ke slices_S128x128_o64_0_S64x128) transposes_S64x128_p1_0_S128x64) bitsLt_bf16_f32)
    (truncf .bf16 (extractStridedSlice S64x256 ![64, 0] v slices_S128x256_o64_0_S64x256) bitsLt_bf16_f32) (constant S128x256 .f32 0x00000000#32)

/-- A head's state after the chunk. -/
def gN (s : FVec F S128x256 .f32) (e : F .f32) (kv : FVec F S128x256 .f32) : FVec F S128x256 .f32 :=
  addf (mulf s (broadcastTo S128x256 (exp (broadcast S1x1 e)) broadcasts_S1x1_S128x256)) kv

/-- The rows of the chunk, from within it and from the state before it. -/
def gO (oi : FVec F S128x256 .f32) (qd : FVec F S128x128 .f32) (s0 s1 : FVec F S128x256 .f32) : FVec F S128x256 .f32 :=
  addf oi (concatenate S128x256 0
    [⟨S64x256, matmul dot_S64x128_S128x256_S64x256_1_0_0_1_n_n none (truncf .bf16 (extractStridedSlice S64x128 ![0, 0] qd slices_S128x128_o0_0_S64x128) bitsLt_bf16_f32)
        (truncf .bf16 s0 bitsLt_bf16_f32) (constant S64x256 .f32 0x00000000#32)⟩,
     ⟨S64x256, matmul dot_S64x128_S128x256_S64x256_1_0_0_1_n_n none (truncf .bf16 (extractStridedSlice S64x128 ![64, 0] qd slices_S128x128_o64_0_S64x128) bitsLt_bf16_f32)
        (truncf .bf16 s1 bitsLt_bf16_f32) (constant S64x256 .f32 0x00000000#32)⟩] concatenates_S64x256_S64x256_S128x256_d0)

/-- Each row over its root mean square. -/
def gNorm (o : FVec F S128x256 .f32) : FVec F S128x256 .f32 :=
  mulf o (broadcastTo S128x256 (rsqrt (addf (divf (shapeCast S128x1 (multiReduction .add [1] S128 (mulf o o) 0x00000000#32 reduces_S128x256_S128 (.inl rfl) rfl) shapeCasts_S128_S128x1)
    (broadcast S128x1 (Scalar.ofBits .f32 0x43800000#32))) (broadcast S128x1 (Scalar.ofBits .f32 0x358637BD#32)))) broadcasts_S128x1_S128x256)

/-- The gate of a tile. -/
def gSilu (r : Vec F S1x64x256 .f32) : FVec F S64x256 .f32 :=
  mulf (shapeCast S64x256 r shapeCasts_S1x64x256_S64x256) (divf (broadcast S64x256 (Scalar.ofBits .f32 0x3F800000#32)) (addf (broadcast S64x256 (Scalar.ofBits .f32 0x3F800000#32))
    (exp (subf (broadcast S64x256 (Scalar.ofBits .f32 0x00000000#32)) (shapeCast S64x256 r shapeCasts_S1x64x256_S64x256)))))

/-- Each head's output tile. -/
def gT0 (o : FVec F S128x256 .f32) (r : Vec F S1x64x256 .f32) : Vec F S1x64x256 .bf16 :=
  shapeCast S1x64x256 (truncf .bf16 (mulf (extractStridedSlice S64x256 ![0, 0] (gNorm o) slices_S128x256_o0_0_S64x256) (gSilu r)) bitsLt_bf16_f32) shapeCasts_S64x256_S1x64x256
def gT1 (o : FVec F S128x256 .f32) (r : Vec F S1x64x256 .f32) : Vec F S1x64x256 .bf16 :=
  shapeCast S1x64x256 (truncf .bf16 (mulf (extractStridedSlice S64x256 ![64, 0] (gNorm o) slices_S128x256_o64_0_S64x256) (gSilu r)) bitsLt_bf16_f32) shapeCasts_S64x256_S1x64x256

section point
variable (x0 x1 : Vec F S1x512x1024 .f32) (x2 x3 : Vec F S1x512x2048 .f32) (x4 x5 : Vec F S1x512x128 .f32) (s : Vec F S8x128x256 .f32)

/-- What chunk `p` of a grid point gives for the pair of heads `g`. -/
def pQD (p : Fin 8) (g : Fin 4) : FVec F S128x128 .f32 :=
  gQD (g2K (cutK x0 p (hA g)) (cutK x0 p (hB g))) (cutC x4 p) (cutC x5 p) (gB (lgn (hA g)) (lgn (hB g)))
def pKr (p : Fin 8) (g : Fin 4) : FVec F S128x128 .f32 := gKr (g2K (cutK x1 p (hA g)) (cutK x1 p (hB g))) (cutC x4 p) (cutC x5 p)
def pOI (p : Fin 8) (g : Fin 4) : FVec F S128x256 .f32 :=
  gOI (pQD x0 x4 x5 p g) (pKr x1 x4 x5 p g) (gB (lgn (hA g)) (lgn (hB g))) (g2V (cutV x2 p (hA g)) (cutV x2 p (hB g)))
def pKE (p : Fin 8) (g : Fin 4) : FVec F S128x128 .f32 := gKE (pKr x1 x4 x5 p g) (gEnd (endn (hA g)) (endn (hB g))) (gB (lgn (hA g)) (lgn (hB g)))
def pKV0 (p : Fin 8) (g : Fin 4) : FVec F S128x256 .f32 := gKV0 (pKE x1 x4 x5 p g) (g2V (cutV x2 p (hA g)) (cutV x2 p (hB g)))
def pKV1 (p : Fin 8) (g : Fin 4) : FVec F S128x256 .f32 := gKV1 (pKE x1 x4 x5 p g) (g2V (cutV x2 p (hA g)) (cutV x2 p (hB g)))

/-- The two states of a pair after `p` chunks of a grid point that starts at `s`. -/
def pS0 (g : Fin 4) : ℕ → FVec F S128x256 .f32
  | 0 => shapeCast S128x256 (hd s (hA g)) shapeCasts_S1x128x256_S128x256
  | p + 1 => gN (pS0 g p) (endn (hA g)) (pKV0 x1 x2 x4 x5 (Fin.ofNat 8 p) g)
def pS1 (g : Fin 4) : ℕ → FVec F S128x256 .f32
  | 0 => shapeCast S128x256 (hd s (hB g)) shapeCasts_S1x128x256_S128x256
  | p + 1 => gN (pS1 g p) (endn (hB g)) (pKV1 x1 x2 x4 x5 (Fin.ofNat 8 p) g)

/-- The rows of a pair in chunk `p`, before the norm. -/
def pO (p : Fin 8) (g : Fin 4) : FVec F S128x256 .f32 :=
  gO (pOI x0 x1 x2 x4 x5 p g) (pQD x0 x4 x5 p g) (pS0 x1 x2 x4 x5 s g p.val) (pS1 x1 x2 x4 x5 s g p.val)

/-- The output tiles of a pair in chunk `p`. -/
def pT0 (p : Fin 8) (g : Fin 4) : Vec F S1x64x256 .bf16 := gT0 (pO x0 x1 x2 x4 x5 s p g) (cutV x3 p (hA g))
def pT1 (p : Fin 8) (g : Fin 4) : Vec F S1x64x256 .bf16 := gT1 (pO x0 x1 x2 x4 x5 s p g) (cutV x3 p (hB g))

/-- The states and tiles by head. -/
def pSE (h : Fin 8) : Vec F S1x128x256 .f32 :=
  if h.val % 2 = 0 then shapeCast S1x128x256 (pS0 x1 x2 x4 x5 s ⟨h.val / 2, by omega⟩ 8) shapeCasts_S128x256_S1x128x256
  else shapeCast S1x128x256 (pS1 x1 x2 x4 x5 s ⟨h.val / 2, by omega⟩ 8) shapeCasts_S128x256_S1x128x256
def pT (p h : Fin 8) : Vec F S1x64x256 .bf16 :=
  if h.val % 2 = 0 then pT0 x0 x1 x2 x3 x4 x5 s p ⟨h.val / 2, by omega⟩ else pT1 x0 x1 x2 x3 x4 x5 s p ⟨h.val / 2, by omega⟩

/-- A stored state and a stored tile. -/
abbrev pcS (h : Fin 8) : View.Piece (Elt F) S8x128x256 .f32 :=
  ⟨Rect.unit (s := S8x128x256) ![h.val, 0, 0] S1x128x256.size (inbS h), pSE x1 x2 x4 x5 s h⟩
abbrev pcO (p h : Fin 8) : View.Piece (Elt F) S1x512x2048 .bf16 :=
  ⟨Rect.unit (s := S1x512x2048) ![0, 64 * p.val, 256 * h.val] S1x64x256.size (inbV p h), pT x0 x1 x2 x3 x4 x5 s p h⟩

/-- A grid point's states at its end, as one array. -/
def gSS : Vec F S8x128x256 .f32 :=
  fun y => pSE x1 x2 x4 x5 s ⟨(y 0 : ℕ), (y 0).isLt⟩ (ix3 (0 : Fin 1) (⟨(y 1 : ℕ), (y 1).isLt⟩ : Fin 128) (⟨(y 2 : ℕ), (y 2).isLt⟩ : Fin 256))

/-- A grid point's output block, as one array. -/
def gTT : Vec F S1x512x2048 .bf16 :=
  fun y => pT x0 x1 x2 x3 x4 x5 s ⟨(y 1 : ℕ) / 64, by have := (y 1).isLt; change _ < 512 at this; omega⟩ ⟨(y 2 : ℕ) / 256, by have := (y 2).isLt; change _ < 2048 at this; omega⟩
    (ix3 (0 : Fin 1) (⟨(y 1 : ℕ) % 64, Nat.mod_lt _ (by decide)⟩ : Fin 64) (⟨(y 2 : ℕ) % 256, Nat.mod_lt _ (by decide)⟩ : Fin 256))

/-- A head's stored state is that head's slice of the array. -/
theorem gSS_piece (h : Fin 8) (inb) (y : S1x128x256.Idx) :
    pSE x1 x2 x4 x5 s h y = gSS x1 x2 x4 x5 s ((Rect.unit (s := S8x128x256) ![h.val, 0, 0] S1x128x256.size inb).emb y) := by
  have h0 : (y 0 : ℕ) < 1 := (y 0).isLt
  have e0 : (((Rect.unit (s := S8x128x256) ![h.val, 0, 0] S1x128x256.size inb).emb y) 0 : ℕ) = h.val := by
    refine (Rect.idx_unit_val _ _ inb y 0).trans ?_; show h.val + (y 0 : ℕ) = h.val; omega
  have e1 : (((Rect.unit (s := S8x128x256) ![h.val, 0, 0] S1x128x256.size inb).emb y) 1 : ℕ) = (y 1 : ℕ) := by
    refine (Rect.idx_unit_val _ _ inb y 1).trans ?_; show 0 + (y 1 : ℕ) = (y 1 : ℕ); omega
  have e2 : (((Rect.unit (s := S8x128x256) ![h.val, 0, 0] S1x128x256.size inb).emb y) 2 : ℕ) = (y 2 : ℕ) := by
    refine (Rect.idx_unit_val _ _ inb y 2).trans ?_; show 0 + (y 2 : ℕ) = (y 2 : ℕ); omega
  unfold gSS
  refine congrArg₂ (fun (a : Fin 8) (z : S1x128x256.Idx) => pSE x1 x2 x4 x5 s a z) (Fin.ext e0.symm) (funext fun a => Fin.ext ?_)
  fin_cases a
  · show (y 0 : ℕ) = 0; omega
  · exact e1.symm
  · exact e2.symm

/-- A stored output tile is its part of the array. -/
theorem gTT_piece (p h : Fin 8) (inb) (y : S1x64x256.Idx) :
    pT x0 x1 x2 x3 x4 x5 s p h y = gTT x0 x1 x2 x3 x4 x5 s ((Rect.unit (s := S1x512x2048) ![0, 64 * p.val, 256 * h.val] S1x64x256.size inb).emb y) := by
  have h0 : (y 0 : ℕ) < 1 := (y 0).isLt
  have h1 : (y 1 : ℕ) < 64 := (y 1).isLt
  have h2 : (y 2 : ℕ) < 256 := (y 2).isLt
  have e1 : (((Rect.unit (s := S1x512x2048) ![0, 64 * p.val, 256 * h.val] S1x64x256.size inb).emb y) 1 : ℕ) = 64 * p.val + (y 1 : ℕ) := Rect.idx_unit_val _ _ inb y 1
  have e2 : (((Rect.unit (s := S1x512x2048) ![0, 64 * p.val, 256 * h.val] S1x64x256.size inb).emb y) 2 : ℕ) = 256 * h.val + (y 2 : ℕ) := Rect.idx_unit_val _ _ inb y 2
  unfold gTT
  have f1 : (⟨(((Rect.unit (s := S1x512x2048) ![0, 64 * p.val, 256 * h.val] S1x64x256.size inb).emb y) 1 : ℕ) / 64, by rw [e1]; omega⟩ : Fin 8) = p :=
    Fin.ext (by dsimp only; rw [e1]; omega)
  have f2 : (⟨(((Rect.unit (s := S1x512x2048) ![0, 64 * p.val, 256 * h.val] S1x64x256.size inb).emb y) 2 : ℕ) / 256, by rw [e2]; omega⟩ : Fin 8) = h :=
    Fin.ext (by dsimp only; rw [e2]; omega)
  rw [f1, f2]
  refine congrArg _ (funext fun a => Fin.ext ?_)
  fin_cases a
  · show (y 0 : ℕ) = 0; omega
  · show (y 1 : ℕ) = (((Rect.unit (s := S1x512x2048) ![0, 64 * p.val, 256 * h.val] S1x64x256.size inb).emb y) 1 : ℕ) % 64; rw [e1]; omega
  · show (y 2 : ℕ) = (((Rect.unit (s := S1x512x2048) ![0, 64 * p.val, 256 * h.val] S1x64x256.size inb).emb y) 2 : ℕ) % 256; rw [e2]; omega
end point

end Cert.KernelRetIdeal.Ret
end
-- ==== Proof.RetSpec.lean ====
/- Retention over the extended reals, entry by entry: the rotation of the queries and keys, the fixed decay of each head,
   the state before each chunk of 64 rows, and the normed and gated output. -/
module

public import Idealize.ShloMosaic.Lib.Pointwise

@[expose] public section

noncomputable section

open Idealize.ShloMosaic

namespace Cert.Ret

/-- Key column `d` of head `h`. -/
def colK (h : Fin 8) (d : Fin 128) : Fin 1024 := ⟨128 * h.val + d.val, by omega⟩
/-- Value column `e` of head `h`. -/
def colV (h : Fin 8) (e : Fin 256) : Fin 2048 := ⟨256 * h.val + e.val, by omega⟩
/-- Row `i` of chunk `n` of a sequence. -/
def seq (n : ℕ) (i : Fin 64) : Fin 8192 := ⟨(64 * n + i.val) % 8192, Nat.mod_lt _ (by decide)⟩

theorem at2 {n0 n1 : ℕ} {α : Type} (x : (⟨2, ![n0, n1]⟩ : Shape).Idx → α) {a a' : Fin n0} {b b' : Fin n1} (ha : (a : ℕ) = a') (hb : (b : ℕ) = b') :
    x (ix2 a b) = x (ix2 a' b') := by rw [Fin.ext ha, Fin.ext hb]

theorem at3 {n0 n1 n2 : ℕ} {α : Type} (x : (⟨3, ![n0, n1, n2]⟩ : Shape).Idx → α) {a a' : Fin n0} {b b' : Fin n1} {c c' : Fin n2}
    (ha : (a : ℕ) = a') (hb : (b : ℕ) = b') (hc : (c : ℕ) = c') : x (ix3 a b c) = x (ix3 a' b' c') := by
  rw [Fin.ext ha, Fin.ext hb, Fin.ext hc]

/-- The scale of the keys. -/
abbrev sc : EReal := Ideal.ofBits FTy.f32 1035273459#32

/-- The log decay of a head, `log (1 - 2^-(5+h))`. -/
def lgR (h : Fin 8) : ℝ := Real.log ((2 ^ (5 + h.val) - 1) / 2 ^ (5 + h.val))

/-- The running log decay at row `i` of a chunk. -/
def cum (h : Fin 8) (i : Fin 64) : EReal := ((((i.val : ℝ) + 1) * lgR h : ℝ) : EReal)

/-- The cosine and the signed sine that entry `d` of a rotated row takes. -/
def cosR (θ : Fin 64 → EReal) (d : Fin 128) : EReal := Ideal.cos (θ ⟨d.val % 64, Nat.mod_lt _ (by decide)⟩)
def sinR (θ : Fin 64 → EReal) (d : Fin 128) : EReal :=
  if d.val < 64 then -Ideal.sin (θ ⟨d.val % 64, Nat.mod_lt _ (by decide)⟩) else Ideal.sin (θ ⟨d.val % 64, Nat.mod_lt _ (by decide)⟩)

/-- A row turned by its angles: entry `d` meets the entry half a row away. -/
def rope (x c s : Fin 128 → EReal) (d : Fin 128) : EReal := x d * c d + x ⟨(d.val + 64) % 128, Nat.mod_lt _ (by decide)⟩ * s d

/-- An output entry: the row over its root mean square, gated. -/
def tile (o : Fin 256 → EReal) (r : EReal) (e : Fin 256) : EReal :=
  o e * Ideal.rsqrt (Ideal.div (∑ x, o x * o x) (Ideal.ofBits FTy.f32 1132462080#32) + Ideal.ofBits FTy.f32 897988541#32)
    * (r * Ideal.div 1 (1 + Ideal.exp (0 - r)))

/-- The state after a chunk. -/
def nextS (b : Fin 64 → EReal) (k : Fin 64 → Fin 128 → EReal) (v : Fin 64 → Fin 256 → EReal) (s : Fin 128 → Fin 256 → EReal) (d : Fin 128) (e : Fin 256) : EReal :=
  s d e * Ideal.exp (b 63) + ∑ j : Fin 64, (k j d * Ideal.exp (b 63 - b j)) * v j e

/-- The rows a chunk gives before the norm. -/
def outO (b : Fin 64 → EReal) (q k : Fin 64 → Fin 128 → EReal) (v : Fin 64 → Fin 256 → EReal) (s : Fin 128 → Fin 256 → EReal) (i : Fin 64) (e : Fin 256) : EReal :=
  (∑ j : Fin 64, (if j ≤ i then ∑ d : Fin 128, (q i d * Ideal.exp (b i)) * (k j d * Ideal.exp (0 - b j)) else 0) * v j e)
    + ∑ d : Fin 128, (q i d * Ideal.exp (b i)) * s d e

section
variable (Y : (⟨3, ![2, 8192, 12288]⟩ : Shape).Idx → EReal) (P : (⟨2, ![2, 8192]⟩ : Shape).Idx → BitVec 32) (fr : Fin 64 → EReal)

/-- The angles of a row, from its position and the frequencies. -/
def ang (b : Fin 2) (n : ℕ) (i : Fin 64) (d : Fin 64) : EReal := (((P (ix2 b (seq n i))).toInt : ℝ) : EReal) * fr d

/-- Query, key, value and gate rows of a chunk. -/
def qA (b : Fin 2) (n : ℕ) (h : Fin 8) (i : Fin 64) (d : Fin 128) : EReal :=
  rope (fun d => Y (ix3 b (seq n i) (⟨(colK h d).val, by omega⟩ : Fin 12288))) (cosR (ang P fr b n i)) (sinR (ang P fr b n i)) d
def kA (b : Fin 2) (n : ℕ) (h : Fin 8) (i : Fin 64) (d : Fin 128) : EReal :=
  rope (fun d => Y (ix3 b (seq n i) (⟨1024 + (colK h d).val, by omega⟩ : Fin 12288))) (cosR (ang P fr b n i)) (sinR (ang P fr b n i)) d * sc
def vA (b : Fin 2) (n : ℕ) (h : Fin 8) (i : Fin 64) (e : Fin 256) : EReal := Y (ix3 b (seq n i) (⟨2048 + (colV h e).val, by omega⟩ : Fin 12288))
def rA (b : Fin 2) (n : ℕ) (h : Fin 8) (i : Fin 64) (e : Fin 256) : EReal := Y (ix3 b (seq n i) (⟨4096 + (colV h e).val, by omega⟩ : Fin 12288))

/-- The state of head `h` of sequence `b` before chunk `n`. -/
def stA (b : Fin 2) (h : Fin 8) : ℕ → Fin 128 → Fin 256 → EReal
  | 0 => fun _ _ => 0
  | n + 1 => nextS (cum h) (kA Y P fr b n h) (vA Y b n h) (stA b h n)

/-- The rows chunk `n` gives before the norm. -/
def oA (b : Fin 2) (n : ℕ) (h : Fin 8) : Fin 64 → Fin 256 → EReal :=
  outO (cum h) (qA Y P fr b n h) (kA Y P fr b n h) (vA Y b n h) (stA Y P fr b h n)

/-- An entry of the result. -/
def resA (b : Fin 2) (n : ℕ) (h : Fin 8) (i : Fin 64) (e : Fin 256) : EReal := tile (oA Y P fr b n h i) (rA Y b n h i e) e
end

end Cert.Ret
end
-- ==== Proof.RetMath.lean ====
/- The retention kernel's chunk functions, entry by entry. -/
module

public import proofs.«01_k».proof.Proof.RetBlocks
public import proofs.«01_k».proof.Proof.RetSpec

@[expose] public section

set_option maxRecDepth 16384

noncomputable section

open Idealize.ShloMosaic Idealize.ShloMosaic.TcCoe Idealize.SL.Sem

namespace Cert.KernelRetIdeal.Ret
open Cert.KernelRetIdeal Cert.KernelRetIdeal.Gen Cert.Ret

/-- Row `i` of head `j` of a pair in a chunk's stacked rows. -/
def row (j : Fin 2) (i : Fin 64) : Fin 128 := ⟨64 * j.val + i.val, by omega⟩
/-- Row `i` of chunk `p` in a grid point's block. -/
def rowP (p : Fin 8) (i : Fin 64) : Fin 512 := ⟨64 * p.val + i.val, by omega⟩

theorem g2K_at (x : Fin 2 → Vec Ideal S1x64x128 .f32) (j : Fin 2) (i : Fin 64) (d : Fin 128) : g2K (x 0) (x 1) (ix2 (row j i) d) = x j (ix3 (0 : Fin 1) i d) := by
  obtain ⟨j, hj⟩ := j
  interval_cases j
  · pointwise [g2K, row]
  · pointwise [g2K, row]

theorem g2V_at (x : Fin 2 → Vec Ideal S1x64x256 .f32) (j : Fin 2) (i : Fin 64) (d : Fin 256) : g2V (x 0) (x 1) (ix2 (row j i) d) = x j (ix3 (0 : Fin 1) i d) := by
  obtain ⟨j, hj⟩ := j
  interval_cases j
  · pointwise [g2V, row]
  · pointwise [g2V, row]

theorem gB_at (l : Fin 2 → EReal) (j : Fin 2) (i : Fin 64) : gB (F := Ideal) (l 0) (l 1) (ix2 (row j i) (0 : Fin 1)) = (((i.val : ℝ) + 1 : ℝ) : EReal) * l j := by
  have h1 : (((BitVec.ofNat 32 i.val + 1#32).toInt : ℝ) : EReal) = (((i.val : ℝ) + 1 : ℝ) : EReal) := by
    have hi := i.isLt
    rw [show BitVec.ofNat 32 i.val + 1#32 = BitVec.ofNat 32 (i.val + 1) by rw [BitVec.ofNat_add], BitVec.toInt_eq_toNat_of_lt (by rw [BitVec.toNat_ofNat]; omega), BitVec.toNat_ofNat,
      Nat.mod_eq_of_lt (by omega)]
    push_cast; rfl
  rw [← h1]
  obtain ⟨j, hj⟩ := j
  interval_cases j
  · pointwise [gB, k0_pay8, row]
    rfl
  · pointwise [gB, k0_pay8, row]
    rfl

theorem gEnd_at (l : Fin 2 → EReal) (j : Fin 2) (i : Fin 64) : gEnd (F := Ideal) (l 0) (l 1) (ix2 (row j i) (0 : Fin 1)) = l j := by
  obtain ⟨j, hj⟩ := j
  interval_cases j
  · pointwise [gEnd, row]
  · pointwise [gEnd, row]

theorem gRope_at (x : FVec Ideal S128x128 .f32) (c s : Vec Ideal S1x64x128 .f32) (j : Fin 2) (i : Fin 64) (d : Fin 128) :
    gRope x c s (ix2 (row j i) d) = rope (fun d => x (ix2 (row j i) d)) (fun d => c (ix3 (0 : Fin 1) i d)) (fun d => s (ix3 (0 : Fin 1) i d)) d := by
  have hc := g2K_at (fun _ => c) j i d
  have hs := g2K_at (fun _ => s) j i d
  unfold rope
  dsimp only at hc hs ⊢
  rw [← hc, ← hs]
  pointwise [gRope]
  refine congrArg (fun t : Fin 128 => x (ix2 (row j i) d) * g2K c c (ix2 (row j i) d) + x (ix2 (row j i) t) * g2K s s (ix2 (row j i) d)) (Fin.ext ?_)
  show (d.val + 128 - 64) % 128 = (d.val + 64) % 128
  omega

theorem gKr_at (k : FVec Ideal S128x128 .f32) (c s : Vec Ideal S1x64x128 .f32) (r d : Fin 128) : gKr k c s (ix2 r d) = (gRope k c s (ix2 r d) : EReal) * sc := by
  pointwise [gKr]

theorem gQD_at (q : FVec Ideal S128x128 .f32) (c s : Vec Ideal S1x64x128 .f32) (b : FVec Ideal S128x1 .f32) (r d : Fin 128) :
    gQD q c s b (ix2 r d) = (gRope q c s (ix2 r d) : EReal) * Ideal.exp (b (ix2 r (0 : Fin 1))) := by
  pointwise [gQD]

/-- The sum over the stacked rows of a term that vanishes off one head. -/
theorem sum_head (h : Fin 2) (f : Fin 128 → EReal) (hf : ∀ s : Fin 128, s.val / 64 ≠ h.val → f s = 0) :
    ∑ s, f s = ∑ j : Fin 64, f (row h j) := by
  have hinj : Function.Injective (row h) := fun a b hab => by
    have := congrArg Fin.val hab; simp only [row] at this; exact Fin.ext (by omega)
  rw [show (∑ j : Fin 64, f (row h j)) = ∑ j : Fin 64, f ((⟨row h, hinj⟩ : Fin 64 ↪ Fin 128) j) from rfl, ← Finset.sum_map Finset.univ ⟨row h, hinj⟩ f]
  symm
  refine Finset.sum_subset (Finset.subset_univ _) fun s _ hs => hf s fun hh => hs ?_
  rw [Finset.mem_map]
  exact ⟨⟨s.val % 64, Nat.mod_lt _ (by decide)⟩, Finset.mem_univ _, Fin.ext (by show 64 * h.val + s.val % 64 = s.val; omega)⟩

theorem pay4_at (r s : Fin 128) : k0_pay4 (ix2 r s) = BitVec.ofNat 32 (r.val / 64) := by
  pointwise [k0_pay4]
  revert r; decide +kernel

theorem pay7_at (s : Fin 128) (v3 v28 : IVec S128x128 32) (r : Fin 128) (h3 : v3 (ix2 r s) = BitVec.ofNat 32 r.val) (h28 : v28 (ix2 r s) = BitVec.ofNat 32 (r.val / 64)) :
    k0_pay7 v3 (iota Kind.tc S128x128 32 [1] iota_S128x128_d1_w32) v28 (64#32) k0_pay5 k0_pay6 1#32 (ix2 r s)
      = IntOp.andi (IntOp.cmpi .eq (BitVec.ofNat 32 (r.val / 64)) (BitVec.ofNat 32 (s.val / 64))) (IntOp.cmpi .sge (BitVec.ofNat 32 r.val) (BitVec.ofNat 32 s.val)) := by
  pointwise [k0_pay7, k0_pay5, k0_pay6]
  rw [h3, h28]
  refine congrArg (fun z => IntOp.andi (IntOp.cmpi .eq (BitVec.ofNat 32 (r.val / 64)) z) (IntOp.cmpi .sge (BitVec.ofNat 32 r.val) (BitVec.ofNat 32 s.val))) ?_
  clear h3 h28
  revert s; decide +kernel

theorem gM_at (r s : Fin 128) : gM (ix2 r s) = if r.val / 64 = s.val / 64 ∧ s.val ≤ r.val then 1#1 else 0#1 := by
  unfold gM
  rw [pay7_at s _ _ r (by pointwise) (pay4_at r s), WordCmp.cmpi_eq_ofNat (by omega) (by omega), WordCmp.cmpi_sge_ofNat (by omega) (by omega)]
  by_cases h1 : r.val / 64 = s.val / 64 <;> by_cases h2 : s.val ≤ r.val <;> simp [h1, h2, IntOp.andi]

/-- The masked scores: those of the same head, up to the row. -/
theorem gAt_at (qd k : FVec Ideal S128x128 .f32) (b : FVec Ideal S128x1 .f32) (h : Fin 2) (i j : Fin 64) :
    gAt qd k b (ix2 (row h i) (row h j)) = if j ≤ i then ∑ d : Fin 128, (qd (ix2 (row h i) d) : EReal) * (k (ix2 (row h j) d) * Ideal.exp (0 - b (ix2 (row h j) (0 : Fin 1)))) else (0 : EReal) := by
  have hm : gM (ix2 (row h i) (row h j)) = if j ≤ i then 1#1 else 0#1 := by
    rw [gM_at]; refine if_congr ?_ rfl rfl
    simp only [row, Fin.le_def]; omega
  pointwise [gAt]
  simp only [hm]
  split_ifs <;> rfl

theorem gAt_off (qd k : FVec Ideal S128x128 .f32) (b : FVec Ideal S128x1 .f32) (h : Fin 2) (i : Fin 64) (s : Fin 128) (hs : s.val / 64 ≠ h.val) :
    gAt qd k b (ix2 (row h i) s) = (0 : EReal) := by
  have hm : gM (ix2 (row h i) s) = 0#1 := by
    rw [gM_at, if_neg]
    simp only [row]; omega
  pointwise [gAt]
  rw [hm]; rfl

theorem gOI_at (qd k : FVec Ideal S128x128 .f32) (b : FVec Ideal S128x1 .f32) (v : FVec Ideal S128x256 .f32) (h : Fin 2) (i : Fin 64) (e : Fin 256) :
    gOI qd k b v (ix2 (row h i) e) = ∑ j : Fin 64, gAt qd k b (ix2 (row h i) (row h j)) * (v (ix2 (row h j) e) : EReal) := by
  rw [← sum_head h (fun t => gAt qd k b (ix2 (row h i) t) * (v (ix2 t e) : EReal)) fun t ht => by rw [gAt_off qd k b h i t ht, zero_mul]]
  pointwise [gOI]

theorem gKE_at (k : FVec Ideal S128x128 .f32) (e b : FVec Ideal S128x1 .f32) (r d : Fin 128) :
    gKE k e b (ix2 r d) = (k (ix2 r d) : EReal) * Ideal.exp (e (ix2 r (0 : Fin 1)) - b (ix2 r (0 : Fin 1))) := by
  pointwise [gKE]

theorem gKV0_at (ke : FVec Ideal S128x128 .f32) (v : FVec Ideal S128x256 .f32) (d : Fin 128) (e : Fin 256) :
    gKV0 ke v (ix2 d e) = ∑ j : Fin 64, (ke (ix2 (row 0 j) d) : EReal) * v (ix2 (row 0 j) e) := by
  pointwise [gKV0]
  simp only [row, Fin.isValue, Fin.coe_ofNat_eq_mod, Nat.reduceMod, Nat.mul_zero, Nat.zero_add, Nat.reduceMul]

theorem gKV1_at (ke : FVec Ideal S128x128 .f32) (v : FVec Ideal S128x256 .f32) (d : Fin 128) (e : Fin 256) :
    gKV1 ke v (ix2 d e) = ∑ j : Fin 64, (ke (ix2 (row 1 j) d) : EReal) * v (ix2 (row 1 j) e) := by
  pointwise [gKV1]
  simp only [row, Fin.isValue, Fin.coe_ofNat_eq_mod, Nat.reduceMod, Nat.mul_one, Nat.zero_add, Nat.reduceMul]

theorem gN_at (s : FVec Ideal S128x256 .f32) (l : EReal) (kv : FVec Ideal S128x256 .f32) (d : Fin 128) (e : Fin 256) :
    gN (F := Ideal) s l kv (ix2 d e) = (s (ix2 d e) : EReal) * Ideal.exp l + kv (ix2 d e) := by
  pointwise [gN]

theorem gO_at (oi : FVec Ideal S128x256 .f32) (qd : FVec Ideal S128x128 .f32) (s : Fin 2 → FVec Ideal S128x256 .f32) (j : Fin 2) (i : Fin 64) (e : Fin 256) :
    gO oi qd (s 0) (s 1) (ix2 (row j i) e) = (oi (ix2 (row j i) e) : EReal) + ∑ d : Fin 128, (qd (ix2 (row j i) d) : EReal) * s j (ix2 d e) := by
  obtain ⟨j, hj⟩ := j
  interval_cases j
  · pointwise [gO, row]
  · pointwise [gO, row]

theorem gT0_at (o : FVec Ideal S128x256 .f32) (r : Vec Ideal S1x64x256 .f32) (i : Fin 64) (e : Fin 256) :
    gT0 o r (ix3 (0 : Fin 1) i e) = tile (fun x => o (ix2 (row 0 i) x)) (r (ix3 (0 : Fin 1) i e)) e := by
  pointwise [gT0, gNorm, gSilu]
  unfold tile
  simp only [row, Fin.isValue, Fin.coe_ofNat_eq_mod, Nat.reduceMod, Nat.mul_zero, Nat.zero_add, Nat.reduceMul]

theorem gT1_at (o : FVec Ideal S128x256 .f32) (r : Vec Ideal S1x64x256 .f32) (i : Fin 64) (e : Fin 256) :
    gT1 o r (ix3 (0 : Fin 1) i e) = tile (fun x => o (ix2 (row 1 i) x)) (r (ix3 (0 : Fin 1) i e)) e := by
  pointwise [gT1, gNorm, gSilu]
  unfold tile
  simp only [row, Fin.isValue, Fin.coe_ofNat_eq_mod, Nat.reduceMod, Nat.mul_one, Nat.zero_add, Nat.reduceMul]

end Cert.KernelRetIdeal.Ret
end
-- ==== Proof.RetPoint.lean ====
/- What a grid point of the retention kernel computes is the specification of its eight chunks. -/
module

public import proofs.«01_k».proof.Proof.RetMath

@[expose] public section

set_option maxRecDepth 16384

noncomputable section

open Idealize.ShloMosaic Idealize.ShloMosaic.TcCoe Idealize.SL.Sem

namespace Cert.KernelRetIdeal.Ret
open Cert.KernelRetIdeal Cert.KernelRetIdeal.Gen Cert.Ret

/-- Head `j` of pair `g`. -/
def hP (g : Fin 4) (j : Fin 2) : Fin 8 := ⟨2 * g.val + j.val, by omega⟩

theorem lgn_eq (h : Fin 8) : (lgn h : Ideal .f32) = ((lgR h : ℝ) : EReal) := by
  obtain ⟨h, hh⟩ := h
  interval_cases h <;> (show ((_ : ℝ) : EReal) = _; unfold lgR; norm_num)

theorem endn_eq (h : Fin 8) : (endn h : Ideal .f32) = ((64 * lgR h : ℝ) : EReal) := by
  obtain ⟨h, hh⟩ := h
  interval_cases h <;> (show ((_ : ℝ) : EReal) = _; unfold lgR; norm_num)

theorem endn_cum (h : Fin 8) : (endn h : Ideal .f32) = cum h 63 := by
  rw [endn_eq]; unfold cum
  refine congrArg (fun z : ℝ => ((z * lgR h : ℝ) : EReal)) ?_
  show (64 : ℝ) = ((63 : ℕ) : ℝ) + 1
  norm_num

theorem b_at (g : Fin 4) (j : Fin 2) (i : Fin 64) : gB (F := Ideal) (lgn (hA g)) (lgn (hB g)) (ix2 (row j i) (0 : Fin 1)) = cum (hP g j) i := by
  refine (gB_at (fun j => lgn (F := Ideal) (hP g j)) j i).trans ?_
  rw [lgn_eq]; unfold cum
  rw [EReal.coe_mul]

theorem e_at (g : Fin 4) (j : Fin 2) (i : Fin 64) : gEnd (F := Ideal) (endn (hA g)) (endn (hB g)) (ix2 (row j i) (0 : Fin 1)) = cum (hP g j) 63 :=
  (gEnd_at (fun j => endn (F := Ideal) (hP g j)) j i).trans (endn_cum _)

variable (Y : (⟨3, ![2, 8192, 12288]⟩ : Shape).Idx → EReal) (P : (⟨2, ![2, 8192]⟩ : Shape).Idx → BitVec 32) (fr : Fin 64 → EReal)
variable (x0 x1 : Vec Ideal S1x512x1024 .f32) (x2 x3 : Vec Ideal S1x512x2048 .f32) (x4 x5 : Vec Ideal S1x512x128 .f32) (s : Vec Ideal S8x128x256 .f32)

/-- The blocks of a grid point hold eight chunks of sequence `b`, from chunk `8 g`. -/
structure Holds (b : Fin 2) (g : ℕ) : Prop where
  q : ∀ (p h : Fin 8) (i : Fin 64) (d : Fin 128), x0 (ix3 (0 : Fin 1) (rowP p i) (colK h d)) = Y (ix3 b (seq (8 * g + p.val) i) (⟨(colK h d).val, by omega⟩ : Fin 12288))
  k : ∀ (p h : Fin 8) (i : Fin 64) (d : Fin 128), x1 (ix3 (0 : Fin 1) (rowP p i) (colK h d)) = Y (ix3 b (seq (8 * g + p.val) i) (⟨1024 + (colK h d).val, by omega⟩ : Fin 12288))
  v : ∀ (p h : Fin 8) (i : Fin 64) (e : Fin 256), x2 (ix3 (0 : Fin 1) (rowP p i) (colV h e)) = vA Y b (8 * g + p.val) h i e
  r : ∀ (p h : Fin 8) (i : Fin 64) (e : Fin 256), x3 (ix3 (0 : Fin 1) (rowP p i) (colV h e)) = rA Y b (8 * g + p.val) h i e
  c : ∀ (p : Fin 8) (i : Fin 64) (d : Fin 128), x4 (ix3 (0 : Fin 1) (rowP p i) d) = cosR (ang P fr b (8 * g + p.val) i) d
  s : ∀ (p : Fin 8) (i : Fin 64) (d : Fin 128), x5 (ix3 (0 : Fin 1) (rowP p i) d) = sinR (ang P fr b (8 * g + p.val) i) d

variable {Y P fr x0 x1 x2 x3 x4 x5 s} {b : Fin 2} {n : ℕ}

theorem q_at (H : Holds Y P fr x0 x1 x2 x3 x4 x5 b n) (p : Fin 8) (g : Fin 4) (j : Fin 2) (i : Fin 64) (d : Fin 128) :
    pQD x0 x4 x5 p g (ix2 (row j i) d) = qA Y P fr b (8 * n + p.val) (hP g j) i d * Ideal.exp (cum (hP g j) i) := by
  unfold pQD qA
  rw [gQD_at, gRope_at, b_at]
  refine congrArg (fun z : EReal => z * _) ?_
  have hx : (fun d => g2K (cutK x0 p (hA g)) (cutK x0 p (hB g)) (ix2 (row j i) d))
      = fun d => Y (ix3 b (seq (8 * n + p.val) i) (⟨(colK (hP g j) d).val, by omega⟩ : Fin 12288)) :=
    funext fun d => (g2K_at (fun j => cutK x0 p (hP g j)) j i d).trans (H.q p (hP g j) i d)
  have hc : (fun d => cutC x4 p (ix3 (0 : Fin 1) i d)) = cosR (ang P fr b (8 * n + p.val) i) := funext fun d => H.c p i d
  have hs : (fun d => cutC x5 p (ix3 (0 : Fin 1) i d)) = sinR (ang P fr b (8 * n + p.val) i) := funext fun d => H.s p i d
  rw [hx, hc, hs]

theorem k_at (H : Holds Y P fr x0 x1 x2 x3 x4 x5 b n) (p : Fin 8) (g : Fin 4) (j : Fin 2) (i : Fin 64) (d : Fin 128) :
    pKr x1 x4 x5 p g (ix2 (row j i) d) = kA Y P fr b (8 * n + p.val) (hP g j) i d := by
  unfold pKr kA
  rw [gKr_at, gRope_at]
  refine congrArg (fun z : EReal => z * _) ?_
  have hx : (fun d => g2K (cutK x1 p (hA g)) (cutK x1 p (hB g)) (ix2 (row j i) d))
      = fun d => Y (ix3 b (seq (8 * n + p.val) i) (⟨1024 + (colK (hP g j) d).val, by omega⟩ : Fin 12288)) :=
    funext fun d => (g2K_at (fun j => cutK x1 p (hP g j)) j i d).trans (H.k p (hP g j) i d)
  have hc : (fun d => cutC x4 p (ix3 (0 : Fin 1) i d)) = cosR (ang P fr b (8 * n + p.val) i) := funext fun d => H.c p i d
  have hs : (fun d => cutC x5 p (ix3 (0 : Fin 1) i d)) = sinR (ang P fr b (8 * n + p.val) i) := funext fun d => H.s p i d
  rw [hx, hc, hs]

theorem v_at (H : Holds Y P fr x0 x1 x2 x3 x4 x5 b n) (p : Fin 8) (g : Fin 4) (j : Fin 2) (i : Fin 64) (e : Fin 256) :
    g2V (cutV x2 p (hA g)) (cutV x2 p (hB g)) (ix2 (row j i) e) = vA Y b (8 * n + p.val) (hP g j) i e :=
  (g2V_at (fun j => cutV x2 p (hP g j)) j i e).trans (H.v p (hP g j) i e)

theorem ke_at (H : Holds Y P fr x0 x1 x2 x3 x4 x5 b n) (p : Fin 8) (g : Fin 4) (j : Fin 2) (i : Fin 64) (d : Fin 128) :
    pKE x1 x4 x5 p g (ix2 (row j i) d) = kA Y P fr b (8 * n + p.val) (hP g j) i d * Ideal.exp (cum (hP g j) 63 - cum (hP g j) i) := by
  unfold pKE
  rw [gKE_at, k_at H, e_at, b_at]

/-- A pair's states, by head. -/
def pS (x1 : Vec Ideal S1x512x1024 .f32) (x2 : Vec Ideal S1x512x2048 .f32) (x4 x5 : Vec Ideal S1x512x128 .f32) (s : Vec Ideal S8x128x256 .f32) (g : Fin 4) (p : ℕ) (j : Fin 2) :
    FVec Ideal S128x256 .f32 := if j = 0 then pS0 x1 x2 x4 x5 s g p else pS1 x1 x2 x4 x5 s g p

/-- One head's state after a chunk. -/
theorem pS_succ (g : Fin 4) (p : ℕ) (j : Fin 2) (d : Fin 128) (e : Fin 256) :
    pS x1 x2 x4 x5 s g (p + 1) j (ix2 d e) = ((pS x1 x2 x4 x5 s g p j (ix2 d e) : EReal) * Ideal.exp (cum (hP g j) 63))
      + ∑ i : Fin 64, pKE x1 x4 x5 (Fin.ofNat 8 p) g (ix2 (row j i) d) * (g2V (cutV x2 (Fin.ofNat 8 p) (hA g)) (cutV x2 (Fin.ofNat 8 p) (hB g)) (ix2 (row j i) e) : EReal) := by
  rw [← endn_cum]
  obtain ⟨j, hj⟩ := j
  interval_cases j
  · refine (gN_at (pS0 x1 x2 x4 x5 s g p) (endn (F := Ideal) (hA g)) (pKV0 x1 x2 x4 x5 (Fin.ofNat 8 p) g) d e).trans ?_
    unfold pKV0
    rw [gKV0_at]; rfl
  · refine (gN_at (pS1 x1 x2 x4 x5 s g p) (endn (F := Ideal) (hB g)) (pKV1 x1 x2 x4 x5 (Fin.ofNat 8 p) g) d e).trans ?_
    unfold pKV1
    rw [gKV1_at]; rfl

theorem cast_at (t : Vec Ideal S1x128x256 .f32) (d : Fin 128) (e : Fin 256) : shapeCast S128x256 t shapeCasts_S1x128x256_S128x256 (ix2 d e) = t (ix3 (0 : Fin 1) d e) := by
  pointwise

theorem cast_back (t : Vec Ideal S128x256 .f32) (d : Fin 128) (e : Fin 256) : shapeCast S1x128x256 t shapeCasts_S128x256_S1x128x256 (ix3 (0 : Fin 1) d e) = t (ix2 d e) := by
  pointwise

theorem pS_zero (g : Fin 4) (j : Fin 2) (d : Fin 128) (e : Fin 256) : pS x1 x2 x4 x5 s g 0 j (ix2 d e) = s (ix3 (hP g j) d e) := by
  obtain ⟨j, hj⟩ := j
  interval_cases j
  · exact cast_at (hd s (hA g)) d e
  · exact cast_at (hd s (hB g)) d e

theorem st_at (H : Holds Y P fr x0 x1 x2 x3 x4 x5 b n) (hs : ∀ (h : Fin 8) (d : Fin 128) (e : Fin 256), s (ix3 h d e) = stA Y P fr b h (8 * n) d e) :
    ∀ p : ℕ, p ≤ 8 → ∀ (g : Fin 4) (j : Fin 2) (d : Fin 128) (e : Fin 256), pS x1 x2 x4 x5 s g p j (ix2 d e) = stA Y P fr b (hP g j) (8 * n + p) d e
  | 0, _, g, j, d, e => by rw [pS_zero, hs, Nat.add_zero]
  | p + 1, hp, g, j, d, e => by
    have e8 : (Fin.ofNat 8 p).val = p := Nat.mod_eq_of_lt (by omega)
    rw [pS_succ, st_at H hs p (by omega) g j d e]
    show _ = nextS _ _ _ _ d e
    unfold nextS
    refine congrArg (fun z : EReal => _ + z) (Finset.sum_congr rfl fun i _ => ?_)
    rw [ke_at H, v_at H, e8]
    rfl

theorem o_at (H : Holds Y P fr x0 x1 x2 x3 x4 x5 b n) (hs : ∀ (h : Fin 8) (d : Fin 128) (e : Fin 256), s (ix3 h d e) = stA Y P fr b h (8 * n) d e)
    (p : Fin 8) (g : Fin 4) (j : Fin 2) (i : Fin 64) (e : Fin 256) :
    pO x0 x1 x2 x4 x5 s p g (ix2 (row j i) e) = oA Y P fr b (8 * n + p.val) (hP g j) i e := by
  unfold pO
  refine (gO_at _ _ (pS x1 x2 x4 x5 s g p.val) j i e).trans ?_
  unfold oA outO pOI
  rw [gOI_at]
  refine congrArg₂ (· + ·) (Finset.sum_congr rfl fun t _ => ?_) (Finset.sum_congr rfl fun d _ => ?_)
  · rw [gAt_at, v_at H]
    refine congrArg (fun z : EReal => z * _) ?_
    refine if_congr Iff.rfl (Finset.sum_congr rfl fun d _ => ?_) rfl
    rw [q_at H, k_at H, b_at]
  · rw [q_at H, st_at H hs p.val (by omega)]

theorem t_at (H : Holds Y P fr x0 x1 x2 x3 x4 x5 b n) (hs : ∀ (h : Fin 8) (d : Fin 128) (e : Fin 256), s (ix3 h d e) = stA Y P fr b h (8 * n) d e)
    (p h : Fin 8) (i : Fin 64) (e : Fin 256) :
    pT x0 x1 x2 x3 x4 x5 s p h (ix3 (0 : Fin 1) i e) = resA Y P fr b (8 * n + p.val) h i e := by
  have hr : cutV x3 p h (ix3 (0 : Fin 1) i e) = rA Y b (8 * n + p.val) h i e := H.r p h i e
  unfold pT resA
  rw [← hr]
  split_ifs with h2
  · have e1 : hP ⟨h.val / 2, by omega⟩ 0 = h := Fin.ext (by show 2 * (h.val / 2) + 0 = h.val; omega)
    unfold pT0
    rw [gT0_at]
    refine congrArg₂ (fun o z => tile o z e) (funext fun x => ?_) ?_
    · rw [o_at H hs, e1]
    · exact congrArg (fun h => cutV x3 p h (ix3 (0 : Fin 1) i e)) e1
  · have e1 : hP ⟨h.val / 2, by omega⟩ 1 = h := Fin.ext (by show 2 * (h.val / 2) + 1 = h.val; omega)
    unfold pT1
    rw [gT1_at]
    refine congrArg₂ (fun o z => tile o z e) (funext fun x => ?_) ?_
    · rw [o_at H hs, e1]
    · exact congrArg (fun h => cutV x3 p h (ix3 (0 : Fin 1) i e)) e1

/-- A whole block of the result, entry by entry. -/
theorem tt_at (H : Holds Y P fr x0 x1 x2 x3 x4 x5 b n) (hs : ∀ (h : Fin 8) (d : Fin 128) (e : Fin 256), s (ix3 h d e) = stA Y P fr b h (8 * n) d e)
    (y : S1x512x2048.Idx) :
    gTT x0 x1 x2 x3 x4 x5 s y = resA Y P fr b (8 * n + (y 1).val / 64)
      ⟨(y 2).val / 256, Nat.div_lt_of_lt_mul (y 2).isLt⟩ ⟨(y 1).val % 64, Nat.mod_lt _ (by decide)⟩ ⟨(y 2).val % 256, Nat.mod_lt _ (by decide)⟩ := by
  have hy : (y 1).val / 64 < 8 := Nat.div_lt_of_lt_mul (y 1).isLt
  have hz : (y 2).val / 256 < 8 := Nat.div_lt_of_lt_mul (y 2).isLt
  exact t_at H hs ⟨(y 1).val / 64, hy⟩ ⟨(y 2).val / 256, hz⟩ ⟨(y 1).val % 64, Nat.mod_lt _ (by decide)⟩ ⟨(y 2).val % 256, Nat.mod_lt _ (by decide)⟩

/-- The states at the end of a grid point. -/
theorem ss_at (H : Holds Y P fr x0 x1 x2 x3 x4 x5 b n) (hs : ∀ (h : Fin 8) (d : Fin 128) (e : Fin 256), s (ix3 h d e) = stA Y P fr b h (8 * n) d e)
    (h : Fin 8) (d : Fin 128) (e : Fin 256) : gSS x1 x2 x4 x5 s (ix3 h d e) = stA Y P fr b h (8 * n + 8) d e := by
  show pSE x1 x2 x4 x5 s h (ix3 (0 : Fin 1) d e) = _
  unfold pSE
  split_ifs with h2
  · have e1 : hP ⟨h.val / 2, by omega⟩ 0 = h := Fin.ext (by show 2 * (h.val / 2) + 0 = h.val; omega)
    exact (cast_back _ d e).trans ((st_at H hs 8 le_rfl ⟨h.val / 2, by omega⟩ 0 d e).trans (by rw [e1]))
  · have e1 : hP ⟨h.val / 2, by omega⟩ 1 = h := Fin.ext (by show 2 * (h.val / 2) + 1 = h.val; omega)
    exact (cast_back _ d e).trans ((st_at H hs 8 le_rfl ⟨h.val / 2, by omega⟩ 1 d e).trans (by rw [e1]))

end Cert.KernelRetIdeal.Ret
end
-- ==== Proof.RetCaseA1.lean ====
/- The values of the retention kernel at a grid point that begins a sweep: within a chunk, the named values are the shared functions. -/
module

public import proofs.«01_k».proof.Proof.RetBlocks

@[expose] public section

set_option maxRecDepth 16384

noncomputable section

open Idealize.ShloMosaic Idealize.ShloMosaic.TcCoe Idealize.SL.Sem

namespace Cert.KernelRetIdeal.Ret.CaseA
open Cert.KernelRetIdeal Cert.KernelRetIdeal.Gen Cert.KernelRetIdeal.Ret

variable {F : FTy → Type} [FloatOps F] [Named F]
variable (c : Dev nD) (i : grid0.Coords) {arg2 : Memref sig .tc .vmem S1x512x1024 .f32} (harg2 : arg2.IsWhole) {arg3 : Memref sig .tc .vmem S1x512x1024 .f32} (harg3 : arg3.IsWhole) {arg4 : Memref sig .tc .vmem S1x512x2048 .f32} (harg4 : arg4.IsWhole) {arg5 : Memref sig .tc .vmem S1x512x2048 .f32} (harg5 : arg5.IsWhole) {arg6 : Memref sig .tc .vmem S1x512x128 .f32} (harg6 : arg6.IsWhole) {arg7 : Memref sig .tc .vmem S1x512x128 .f32} (harg7 : arg7.IsWhole) {arg8 : Memref sig .tc .vmem S1x512x2048 .bf16} (harg8 : arg8.IsWhole) {arg9 : Memref sig .tc .vmem S8x128x256 .f32} (harg9 : arg9.IsWhole)
variable (x0 : Vec F S1x512x1024 .f32) (x1 : Vec F S1x512x1024 .f32) (x2 : Vec F S1x512x2048 .f32) (x3 : Vec F S1x512x2048 .f32) (x4 : Vec F S1x512x128 .f32) (x5 : Vec F S1x512x128 .f32)

theorem qd_0_0 :
    kernelRun0_A.sl.r_1 (F := F) c arg2 harg2 arg6 harg6 arg7 harg7 x0 x4 x5 = pQD x0 x4 x5 0 0 := by
  unfold pQD
  simp only [rK harg2 x0, rC harg6 x4, rC harg7 x5]
  rfl

theorem oi_0_0 :
    kernelRun0_A.sl.r_2 (F := F) c arg2 harg2 arg3 harg3 arg4 harg4 arg6 harg6 arg7 harg7 x0 x1 x2 x4 x5 = pOI x0 x1 x2 x4 x5 0 0 := by
  unfold pOI pQD pKr
  simp only [rK harg2 x0, rK harg3 x1, rV harg4 x2, rC harg6 x4, rC harg7 x5]
  rfl

theorem kv0_0_0 :
    kernelRun0_A.sl.v124 (F := F) c arg3 harg3 arg4 harg4 arg6 harg6 arg7 harg7 x1 x2 x4 x5 = pKV0 x1 x2 x4 x5 0 0 := by
  unfold pKV0 pKE pKr
  simp only [rK harg3 x1, rV harg4 x2, rC harg6 x4, rC harg7 x5]
  rfl

theorem kv1_0_0 :
    kernelRun0_A.sl.v130 (F := F) c arg3 harg3 arg4 harg4 arg6 harg6 arg7 harg7 x1 x2 x4 x5 = pKV1 x1 x2 x4 x5 0 0 := by
  unfold pKV1 pKE pKr
  simp only [rK harg3 x1, rV harg4 x2, rC harg6 x4, rC harg7 x5]
  rfl

theorem qd_0_1 :
    kernelRun0_A.sl.r_6 (F := F) c arg2 harg2 arg6 harg6 arg7 harg7 x0 x4 x5 = pQD x0 x4 x5 0 1 := by
  unfold pQD
  simp only [rK harg2 x0, rC harg6 x4, rC harg7 x5]
  rfl

theorem oi_0_1 :
    kernelRun0_A.sl.r_7 (F := F) c arg2 harg2 arg3 harg3 arg4 harg4 arg6 harg6 arg7 harg7 x0 x1 x2 x4 x5 = pOI x0 x1 x2 x4 x5 0 1 := by
  unfold pOI pQD pKr
  simp only [rK harg2 x0, rK harg3 x1, rV harg4 x2, rC harg6 x4, rC harg7 x5]
  rfl

theorem kv0_0_1 :
    kernelRun0_A.sl.r_8 (F := F) c arg3 harg3 arg4 harg4 arg6 harg6 arg7 harg7 x1 x2 x4 x5 = pKV0 x1 x2 x4 x5 0 1 := by
  unfold pKV0 pKE pKr
  simp only [rK harg3 x1, rV harg4 x2, rC harg6 x4, rC harg7 x5]
  rfl

theorem kv1_0_1 :
    kernelRun0_A.sl.r_9 (F := F) c arg3 harg3 arg4 harg4 arg6 harg6 arg7 harg7 x1 x2 x4 x5 = pKV1 x1 x2 x4 x5 0 1 := by
  unfold pKV1 pKE pKr
  simp only [rK harg3 x1, rV harg4 x2, rC harg6 x4, rC harg7 x5]
  rfl

theorem qd_0_2 :
    kernelRun0_A.sl.r_16 (F := F) c arg2 harg2 arg6 harg6 arg7 harg7 x0 x4 x5 = pQD x0 x4 x5 0 2 := by
  unfold pQD
  simp only [rK harg2 x0, rC harg6 x4, rC harg7 x5]
  rfl

theorem oi_0_2 :
    kernelRun0_A.sl.r_17 (F := F) c arg2 harg2 arg3 harg3 arg4 harg4 arg6 harg6 arg7 harg7 x0 x1 x2 x4 x5 = pOI x0 x1 x2 x4 x5 0 2 := by
  unfold pOI pQD pKr
  simp only [rK harg2 x0, rK harg3 x1, rV harg4 x2, rC harg6 x4, rC harg7 x5]
  rfl

theorem kv0_0_2 :
    kernelRun0_A.sl.r_18 (F := F) c arg3 harg3 arg4 harg4 arg6 harg6 arg7 harg7 x1 x2 x4 x5 = pKV0 x1 x2 x4 x5 0 2 := by
  unfold pKV0 pKE pKr
  simp only [rK harg3 x1, rV harg4 x2, rC harg6 x4, rC harg7 x5]
  rfl

theorem kv1_0_2 :
    kernelRun0_A.sl.r_19 (F := F) c arg3 harg3 arg4 harg4 arg6 harg6 arg7 harg7 x1 x2 x4 x5 = pKV1 x1 x2 x4 x5 0 2 := by
  unfold pKV1 pKE pKr
  simp only [rK harg3 x1, rV harg4 x2, rC harg6 x4, rC harg7 x5]
  rfl

theorem qd_0_3 :
    kernelRun0_A.sl.r_26 (F := F) c arg2 harg2 arg6 harg6 arg7 harg7 x0 x4 x5 = pQD x0 x4 x5 0 3 := by
  unfold pQD
  simp only [rK harg2 x0, rC harg6 x4, rC harg7 x5]
  rfl

theorem oi_0_3 :
    kernelRun0_A.sl.v327 (F := F) c arg2 harg2 arg3 harg3 arg4 harg4 arg6 harg6 arg7 harg7 x0 x1 x2 x4 x5 = pOI x0 x1 x2 x4 x5 0 3 := by
  unfold pOI pQD pKr
  simp only [rK harg2 x0, rK harg3 x1, rV harg4 x2, rC harg6 x4, rC harg7 x5]
  rfl

theorem kv0_0_3 :
    kernelRun0_A.sl.v337 (F := F) c arg3 harg3 arg4 harg4 arg6 harg6 arg7 harg7 x1 x2 x4 x5 = pKV0 x1 x2 x4 x5 0 3 := by
  unfold pKV0 pKE pKr
  simp only [rK harg3 x1, rV harg4 x2, rC harg6 x4, rC harg7 x5]
  rfl

theorem kv1_0_3 :
    kernelRun0_A.sl.v343 (F := F) c arg3 harg3 arg4 harg4 arg6 harg6 arg7 harg7 x1 x2 x4 x5 = pKV1 x1 x2 x4 x5 0 3 := by
  unfold pKV1 pKE pKr
  simp only [rK harg3 x1, rV harg4 x2, rC harg6 x4, rC harg7 x5]
  rfl

theorem qd_1_0 :
    kernelRun0_A.sl.r_31 (F := F) c arg2 harg2 arg6 harg6 arg7 harg7 x0 x4 x5 = pQD x0 x4 x5 1 0 := by
  unfold pQD
  simp only [rK harg2 x0, rC harg6 x4, rC harg7 x5]
  rfl

theorem oi_1_0 :
    kernelRun0_A.sl.v398 (F := F) c arg2 harg2 arg3 harg3 arg4 harg4 arg6 harg6 arg7 harg7 x0 x1 x2 x4 x5 = pOI x0 x1 x2 x4 x5 1 0 := by
  unfold pOI pQD pKr
  simp only [rK harg2 x0, rK harg3 x1, rV harg4 x2, rC harg6 x4, rC harg7 x5]
  rfl

theorem kv0_1_0 :
    kernelRun0_A.sl.v408 (F := F) c arg3 harg3 arg4 harg4 arg6 harg6 arg7 harg7 x1 x2 x4 x5 = pKV0 x1 x2 x4 x5 1 0 := by
  unfold pKV0 pKE pKr
  simp only [rK harg3 x1, rV harg4 x2, rC harg6 x4, rC harg7 x5]
  rfl

theorem kv1_1_0 :
    kernelRun0_A.sl.v414 (F := F) c arg3 harg3 arg4 harg4 arg6 harg6 arg7 harg7 x1 x2 x4 x5 = pKV1 x1 x2 x4 x5 1 0 := by
  unfold pKV1 pKE pKr
  simp only [rK harg3 x1, rV harg4 x2, rC harg6 x4, rC harg7 x5]
  rfl

theorem qd_1_1 :
    kernelRun0_A.sl.r_35 (F := F) c arg2 harg2 arg6 harg6 arg7 harg7 x0 x4 x5 = pQD x0 x4 x5 1 1 := by
  unfold pQD
  simp only [rK harg2 x0, rC harg6 x4, rC harg7 x5]
  rfl

theorem oi_1_1 :
    kernelRun0_A.sl.r_36 (F := F) c arg2 harg2 arg3 harg3 arg4 harg4 arg6 harg6 arg7 harg7 x0 x1 x2 x4 x5 = pOI x0 x1 x2 x4 x5 1 1 := by
  unfold pOI pQD pKr
  simp only [rK harg2 x0, rK harg3 x1, rV harg4 x2, rC harg6 x4, rC harg7 x5]
  rfl

theorem kv0_1_1 :
    kernelRun0_A.sl.v479 (F := F) c arg3 harg3 arg4 harg4 arg6 harg6 arg7 harg7 x1 x2 x4 x5 = pKV0 x1 x2 x4 x5 1 1 := by
  unfold pKV0 pKE pKr
  simp only [rK harg3 x1, rV harg4 x2, rC harg6 x4, rC harg7 x5]
  rfl

theorem kv1_1_1 :
    kernelRun0_A.sl.v485 (F := F) c arg3 harg3 arg4 harg4 arg6 harg6 arg7 harg7 x1 x2 x4 x5 = pKV1 x1 x2 x4 x5 1 1 := by
  unfold pKV1 pKE pKr
  simp only [rK harg3 x1, rV harg4 x2, rC harg6 x4, rC harg7 x5]
  rfl

theorem qd_1_2 :
    kernelRun0_A.sl.r_40 (F := F) c arg2 harg2 arg6 harg6 arg7 harg7 x0 x4 x5 = pQD x0 x4 x5 1 2 := by
  unfold pQD
  simp only [rK harg2 x0, rC harg6 x4, rC harg7 x5]
  rfl

theorem oi_1_2 :
    kernelRun0_A.sl.r_41 (F := F) c arg2 harg2 arg3 harg3 arg4 harg4 arg6 harg6 arg7 harg7 x0 x1 x2 x4 x5 = pOI x0 x1 x2 x4 x5 1 2 := by
  unfold pOI pQD pKr
  simp only [rK harg2 x0, rK harg3 x1, rV harg4 x2, rC harg6 x4, rC harg7 x5]
  rfl

theorem kv0_1_2 :
    kernelRun0_A.sl.r_42 (F := F) c arg3 harg3 arg4 harg4 arg6 harg6 arg7 harg7 x1 x2 x4 x5 = pKV0 x1 x2 x4 x5 1 2 := by
  unfold pKV0 pKE pKr
  simp only [rK harg3 x1, rV harg4 x2, rC harg6 x4, rC harg7 x5]
  rfl

theorem kv1_1_2 :
    kernelRun0_A.sl.r_43 (F := F) c arg3 harg3 arg4 harg4 arg6 harg6 arg7 harg7 x1 x2 x4 x5 = pKV1 x1 x2 x4 x5 1 2 := by
  unfold pKV1 pKE pKr
  simp only [rK harg3 x1, rV harg4 x2, rC harg6 x4, rC harg7 x5]
  rfl

theorem qd_1_3 :
    kernelRun0_A.sl.r_50 (F := F) c arg2 harg2 arg6 harg6 arg7 harg7 x0 x4 x5 = pQD x0 x4 x5 1 3 := by
  unfold pQD
  simp only [rK harg2 x0, rC harg6 x4, rC harg7 x5]
  rfl

theorem oi_1_3 :
    kernelRun0_A.sl.r_51 (F := F) c arg2 harg2 arg3 harg3 arg4 harg4 arg6 harg6 arg7 harg7 x0 x1 x2 x4 x5 = pOI x0 x1 x2 x4 x5 1 3 := by
  unfold pOI pQD pKr
  simp only [rK harg2 x0, rK harg3 x1, rV harg4 x2, rC harg6 x4, rC harg7 x5]
  rfl

theorem kv0_1_3 :
    kernelRun0_A.sl.r_52 (F := F) c arg3 harg3 arg4 harg4 arg6 harg6 arg7 harg7 x1 x2 x4 x5 = pKV0 x1 x2 x4 x5 1 3 := by
  unfold pKV0 pKE pKr
  simp only [rK harg3 x1, rV harg4 x2, rC harg6 x4, rC harg7 x5]
  rfl

theorem kv1_1_3 :
    kernelRun0_A.sl.r_53 (F := F) c arg3 harg3 arg4 harg4 arg6 harg6 arg7 harg7 x1 x2 x4 x5 = pKV1 x1 x2 x4 x5 1 3 := by
  unfold pKV1 pKE pKr
  simp only [rK harg3 x1, rV harg4 x2, rC harg6 x4, rC harg7 x5]
  rfl

theorem qd_2_0 :
    kernelRun0_A.sl.r_60 (F := F) c arg2 harg2 arg6 harg6 arg7 harg7 x0 x4 x5 = pQD x0 x4 x5 2 0 := by
  unfold pQD
  simp only [rK harg2 x0, rC harg6 x4, rC harg7 x5]
  rfl

theorem oi_2_0 :
    kernelRun0_A.sl.v682 (F := F) c arg2 harg2 arg3 harg3 arg4 harg4 arg6 harg6 arg7 harg7 x0 x1 x2 x4 x5 = pOI x0 x1 x2 x4 x5 2 0 := by
  unfold pOI pQD pKr
  simp only [rK harg2 x0, rK harg3 x1, rV harg4 x2, rC harg6 x4, rC harg7 x5]
  rfl

theorem kv0_2_0 :
    kernelRun0_A.sl.v692 (F := F) c arg3 harg3 arg4 harg4 arg6 harg6 arg7 harg7 x1 x2 x4 x5 = pKV0 x1 x2 x4 x5 2 0 := by
  unfold pKV0 pKE pKr
  simp only [rK harg3 x1, rV harg4 x2, rC harg6 x4, rC harg7 x5]
  rfl

theorem kv1_2_0 :
    kernelRun0_A.sl.v698 (F := F) c arg3 harg3 arg4 harg4 arg6 harg6 arg7 harg7 x1 x2 x4 x5 = pKV1 x1 x2 x4 x5 2 0 := by
  unfold pKV1 pKE pKr
  simp only [rK harg3 x1, rV harg4 x2, rC harg6 x4, rC harg7 x5]
  rfl

theorem qd_2_1 :
    kernelRun0_A.sl.r_65 (F := F) c arg2 harg2 arg6 harg6 arg7 harg7 x0 x4 x5 = pQD x0 x4 x5 2 1 := by
  unfold pQD
  simp only [rK harg2 x0, rC harg6 x4, rC harg7 x5]
  rfl

theorem oi_2_1 :
    kernelRun0_A.sl.v753 (F := F) c arg2 harg2 arg3 harg3 arg4 harg4 arg6 harg6 arg7 harg7 x0 x1 x2 x4 x5 = pOI x0 x1 x2 x4 x5 2 1 := by
  unfold pOI pQD pKr
  simp only [rK harg2 x0, rK harg3 x1, rV harg4 x2, rC harg6 x4, rC harg7 x5]
  rfl

theorem kv0_2_1 :
    kernelRun0_A.sl.v763 (F := F) c arg3 harg3 arg4 harg4 arg6 harg6 arg7 harg7 x1 x2 x4 x5 = pKV0 x1 x2 x4 x5 2 1 := by
  unfold pKV0 pKE pKr
  simp only [rK harg3 x1, rV harg4 x2, rC harg6 x4, rC harg7 x5]
  rfl

theorem kv1_2_1 :
    kernelRun0_A.sl.v769 (F := F) c arg3 harg3 arg4 harg4 arg6 harg6 arg7 harg7 x1 x2 x4 x5 = pKV1 x1 x2 x4 x5 2 1 := by
  unfold pKV1 pKE pKr
  simp only [rK harg3 x1, rV harg4 x2, rC harg6 x4, rC harg7 x5]
  rfl

theorem qd_2_2 :
    kernelRun0_A.sl.r_69 (F := F) c arg2 harg2 arg6 harg6 arg7 harg7 x0 x4 x5 = pQD x0 x4 x5 2 2 := by
  unfold pQD
  simp only [rK harg2 x0, rC harg6 x4, rC harg7 x5]
  rfl

theorem oi_2_2 :
    kernelRun0_A.sl.r_70 (F := F) c arg2 harg2 arg3 harg3 arg4 harg4 arg6 harg6 arg7 harg7 x0 x1 x2 x4 x5 = pOI x0 x1 x2 x4 x5 2 2 := by
  unfold pOI pQD pKr
  simp only [rK harg2 x0, rK harg3 x1, rV harg4 x2, rC harg6 x4, rC harg7 x5]
  rfl

theorem kv0_2_2 :
    kernelRun0_A.sl.v834 (F := F) c arg3 harg3 arg4 harg4 arg6 harg6 arg7 harg7 x1 x2 x4 x5 = pKV0 x1 x2 x4 x5 2 2 := by
  unfold pKV0 pKE pKr
  simp only [rK harg3 x1, rV harg4 x2, rC harg6 x4, rC harg7 x5]
  rfl

theorem kv1_2_2 :
    kernelRun0_A.sl.v840 (F := F) c arg3 harg3 arg4 harg4 arg6 harg6 arg7 harg7 x1 x2 x4 x5 = pKV1 x1 x2 x4 x5 2 2 := by
  unfold pKV1 pKE pKr
  simp only [rK harg3 x1, rV harg4 x2, rC harg6 x4, rC harg7 x5]
  rfl

theorem qd_2_3 :
    kernelRun0_A.sl.r_74 (F := F) c arg2 harg2 arg6 harg6 arg7 harg7 x0 x4 x5 = pQD x0 x4 x5 2 3 := by
  unfold pQD
  simp only [rK harg2 x0, rC harg6 x4, rC harg7 x5]
  rfl

theorem oi_2_3 :
    kernelRun0_A.sl.r_75 (F := F) c arg2 harg2 arg3 harg3 arg4 harg4 arg6 harg6 arg7 harg7 x0 x1 x2 x4 x5 = pOI x0 x1 x2 x4 x5 2 3 := by
  unfold pOI pQD pKr
  simp only [rK harg2 x0, rK harg3 x1, rV harg4 x2, rC harg6 x4, rC harg7 x5]
  rfl

theorem kv0_2_3 :
    kernelRun0_A.sl.r_76 (F := F) c arg3 harg3 arg4 harg4 arg6 harg6 arg7 harg7 x1 x2 x4 x5 = pKV0 x1 x2 x4 x5 2 3 := by
  unfold pKV0 pKE pKr
  simp only [rK harg3 x1, rV harg4 x2, rC harg6 x4, rC harg7 x5]
  rfl

theorem kv1_2_3 :
    kernelRun0_A.sl.r_77 (F := F) c arg3 harg3 arg4 harg4 arg6 harg6 arg7 harg7 x1 x2 x4 x5 = pKV1 x1 x2 x4 x5 2 3 := by
  unfold pKV1 pKE pKr
  simp only [rK harg3 x1, rV harg4 x2, rC harg6 x4, rC harg7 x5]
  rfl

theorem qd_3_0 :
    kernelRun0_A.sl.r_84 (F := F) c arg2 harg2 arg6 harg6 arg7 harg7 x0 x4 x5 = pQD x0 x4 x5 3 0 := by
  unfold pQD
  simp only [rK harg2 x0, rC harg6 x4, rC harg7 x5]
  rfl

theorem oi_3_0 :
    kernelRun0_A.sl.r_85 (F := F) c arg2 harg2 arg3 harg3 arg4 harg4 arg6 harg6 arg7 harg7 x0 x1 x2 x4 x5 = pOI x0 x1 x2 x4 x5 3 0 := by
  unfold pOI pQD pKr
  simp only [rK harg2 x0, rK harg3 x1, rV harg4 x2, rC harg6 x4, rC harg7 x5]
  rfl

theorem kv0_3_0 :
    kernelRun0_A.sl.r_86 (F := F) c arg3 harg3 arg4 harg4 arg6 harg6 arg7 harg7 x1 x2 x4 x5 = pKV0 x1 x2 x4 x5 3 0 := by
  unfold pKV0 pKE pKr
  simp only [rK harg3 x1, rV harg4 x2, rC harg6 x4, rC harg7 x5]
  rfl

theorem kv1_3_0 :
    kernelRun0_A.sl.r_87 (F := F) c arg3 harg3 arg4 harg4 arg6 harg6 arg7 harg7 x1 x2 x4 x5 = pKV1 x1 x2 x4 x5 3 0 := by
  unfold pKV1 pKE pKr
  simp only [rK harg3 x1, rV harg4 x2, rC harg6 x4, rC harg7 x5]
  rfl

theorem qd_3_1 :
    kernelRun0_A.sl.r_94 (F := F) c arg2 harg2 arg6 harg6 arg7 harg7 x0 x4 x5 = pQD x0 x4 x5 3 1 := by
  unfold pQD
  simp only [rK harg2 x0, rC harg6 x4, rC harg7 x5]
  rfl

theorem oi_3_1 :
    kernelRun0_A.sl.v1037 (F := F) c arg2 harg2 arg3 harg3 arg4 harg4 arg6 harg6 arg7 harg7 x0 x1 x2 x4 x5 = pOI x0 x1 x2 x4 x5 3 1 := by
  unfold pOI pQD pKr
  simp only [rK harg2 x0, rK harg3 x1, rV harg4 x2, rC harg6 x4, rC harg7 x5]
  rfl

theorem kv0_3_1 :
    kernelRun0_A.sl.v1047 (F := F) c arg3 harg3 arg4 harg4 arg6 harg6 arg7 harg7 x1 x2 x4 x5 = pKV0 x1 x2 x4 x5 3 1 := by
  unfold pKV0 pKE pKr
  simp only [rK harg3 x1, rV harg4 x2, rC harg6 x4, rC harg7 x5]
  rfl

theorem kv1_3_1 :
    kernelRun0_A.sl.v1053 (F := F) c arg3 harg3 arg4 harg4 arg6 harg6 arg7 harg7 x1 x2 x4 x5 = pKV1 x1 x2 x4 x5 3 1 := by
  unfold pKV1 pKE pKr
  simp only [rK harg3 x1, rV harg4 x2, rC harg6 x4, rC harg7 x5]
  rfl

theorem qd_3_2 :
    kernelRun0_A.sl.r_99 (F := F) c arg2 harg2 arg6 harg6 arg7 harg7 x0 x4 x5 = pQD x0 x4 x5 3 2 := by
  unfold pQD
  simp only [rK harg2 x0, rC harg6 x4, rC harg7 x5]
  rfl

theorem oi_3_2 :
    kernelRun0_A.sl.v1108 (F := F) c arg2 harg2 arg3 harg3 arg4 harg4 arg6 harg6 arg7 harg7 x0 x1 x2 x4 x5 = pOI x0 x1 x2 x4 x5 3 2 := by
  unfold pOI pQD pKr
  simp only [rK harg2 x0, rK harg3 x1, rV harg4 x2, rC harg6 x4, rC harg7 x5]
  rfl

theorem kv0_3_2 :
    kernelRun0_A.sl.v1118 (F := F) c arg3 harg3 arg4 harg4 arg6 harg6 arg7 harg7 x1 x2 x4 x5 = pKV0 x1 x2 x4 x5 3 2 := by
  unfold pKV0 pKE pKr
  simp only [rK harg3 x1, rV harg4 x2, rC harg6 x4, rC harg7 x5]
  rfl

theorem kv1_3_2 :
    kernelRun0_A.sl.v1124 (F := F) c arg3 harg3 arg4 harg4 arg6 harg6 arg7 harg7 x1 x2 x4 x5 = pKV1 x1 x2 x4 x5 3 2 := by
  unfold pKV1 pKE pKr
  simp only [rK harg3 x1, rV harg4 x2, rC harg6 x4, rC harg7 x5]
  rfl

theorem qd_3_3 :
    kernelRun0_A.sl.r_103 (F := F) c arg2 harg2 arg6 harg6 arg7 harg7 x0 x4 x5 = pQD x0 x4 x5 3 3 := by
  unfold pQD
  simp only [rK harg2 x0, rC harg6 x4, rC harg7 x5]
  rfl

theorem oi_3_3 :
    kernelRun0_A.sl.r_104 (F := F) c arg2 harg2 arg3 harg3 arg4 harg4 arg6 harg6 arg7 harg7 x0 x1 x2 x4 x5 = pOI x0 x1 x2 x4 x5 3 3 := by
  unfold pOI pQD pKr
  simp only [rK harg2 x0, rK harg3 x1, rV harg4 x2, rC harg6 x4, rC harg7 x5]
  rfl

theorem kv0_3_3 :
    kernelRun0_A.sl.v1189 (F := F) c arg3 harg3 arg4 harg4 arg6 harg6 arg7 harg7 x1 x2 x4 x5 = pKV0 x1 x2 x4 x5 3 3 := by
  unfold pKV0 pKE pKr
  simp only [rK harg3 x1, rV harg4 x2, rC harg6 x4, rC harg7 x5]
  rfl

theorem kv1_3_3 :
    kernelRun0_A.sl.v1195 (F := F) c arg3 harg3 arg4 harg4 arg6 harg6 arg7 harg7 x1 x2 x4 x5 = pKV1 x1 x2 x4 x5 3 3 := by
  unfold pKV1 pKE pKr
  simp only [rK harg3 x1, rV harg4 x2, rC harg6 x4, rC harg7 x5]
  rfl

theorem qd_4_0 :
    kernelRun0_A.sl.r_108 (F := F) c arg2 harg2 arg6 harg6 arg7 harg7 x0 x4 x5 = pQD x0 x4 x5 4 0 := by
  unfold pQD
  simp only [rK harg2 x0, rC harg6 x4, rC harg7 x5]
  rfl

theorem oi_4_0 :
    kernelRun0_A.sl.r_109 (F := F) c arg2 harg2 arg3 harg3 arg4 harg4 arg6 harg6 arg7 harg7 x0 x1 x2 x4 x5 = pOI x0 x1 x2 x4 x5 4 0 := by
  unfold pOI pQD pKr
  simp only [rK harg2 x0, rK harg3 x1, rV harg4 x2, rC harg6 x4, rC harg7 x5]
  rfl

theorem kv0_4_0 :
    kernelRun0_A.sl.r_110 (F := F) c arg3 harg3 arg4 harg4 arg6 harg6 arg7 harg7 x1 x2 x4 x5 = pKV0 x1 x2 x4 x5 4 0 := by
  unfold pKV0 pKE pKr
  simp only [rK harg3 x1, rV harg4 x2, rC harg6 x4, rC harg7 x5]
  rfl

theorem kv1_4_0 :
    kernelRun0_A.sl.r_111 (F := F) c arg3 harg3 arg4 harg4 arg6 harg6 arg7 harg7 x1 x2 x4 x5 = pKV1 x1 x2 x4 x5 4 0 := by
  unfold pKV1 pKE pKr
  simp only [rK harg3 x1, rV harg4 x2, rC harg6 x4, rC harg7 x5]
  rfl

theorem qd_4_1 :
    kernelRun0_A.sl.r_118 (F := F) c arg2 harg2 arg6 harg6 arg7 harg7 x0 x4 x5 = pQD x0 x4 x5 4 1 := by
  unfold pQD
  simp only [rK harg2 x0, rC harg6 x4, rC harg7 x5]
  rfl

theorem oi_4_1 :
    kernelRun0_A.sl.r_119 (F := F) c arg2 harg2 arg3 harg3 arg4 harg4 arg6 harg6 arg7 harg7 x0 x1 x2 x4 x5 = pOI x0 x1 x2 x4 x5 4 1 := by
  unfold pOI pQD pKr
  simp only [rK harg2 x0, rK harg3 x1, rV harg4 x2, rC harg6 x4, rC harg7 x5]
  rfl

theorem kv0_4_1 :
    kernelRun0_A.sl.r_120 (F := F) c arg3 harg3 arg4 harg4 arg6 harg6 arg7 harg7 x1 x2 x4 x5 = pKV0 x1 x2 x4 x5 4 1 := by
  unfold pKV0 pKE pKr
  simp only [rK harg3 x1, rV harg4 x2, rC harg6 x4, rC harg7 x5]
  rfl

theorem kv1_4_1 :
    kernelRun0_A.sl.r_121 (F := F) c arg3 harg3 arg4 harg4 arg6 harg6 arg7 harg7 x1 x2 x4 x5 = pKV1 x1 x2 x4 x5 4 1 := by
  unfold pKV1 pKE pKr
  simp only [rK harg3 x1, rV harg4 x2, rC harg6 x4, rC harg7 x5]
  rfl

theorem qd_4_2 :
    kernelRun0_A.sl.r_128 (F := F) c arg2 harg2 arg6 harg6 arg7 harg7 x0 x4 x5 = pQD x0 x4 x5 4 2 := by
  unfold pQD
  simp only [rK harg2 x0, rC harg6 x4, rC harg7 x5]
  rfl

theorem oi_4_2 :
    kernelRun0_A.sl.v1392 (F := F) c arg2 harg2 arg3 harg3 arg4 harg4 arg6 harg6 arg7 harg7 x0 x1 x2 x4 x5 = pOI x0 x1 x2 x4 x5 4 2 := by
  unfold pOI pQD pKr
  simp only [rK harg2 x0, rK harg3 x1, rV harg4 x2, rC harg6 x4, rC harg7 x5]
  rfl

theorem kv0_4_2 :
    kernelRun0_A.sl.v1402 (F := F) c arg3 harg3 arg4 harg4 arg6 harg6 arg7 harg7 x1 x2 x4 x5 = pKV0 x1 x2 x4 x5 4 2 := by
  unfold pKV0 pKE pKr
  simp only [rK harg3 x1, rV harg4 x2, rC harg6 x4, rC harg7 x5]
  rfl

theorem kv1_4_2 :
    kernelRun0_A.sl.v1408 (F := F) c arg3 harg3 arg4 harg4 arg6 harg6 arg7 harg7 x1 x2 x4 x5 = pKV1 x1 x2 x4 x5 4 2 := by
  unfold pKV1 pKE pKr
  simp only [rK harg3 x1, rV harg4 x2, rC harg6 x4, rC harg7 x5]
  rfl

theorem qd_4_3 :
    kernelRun0_A.sl.r_133 (F := F) c arg2 harg2 arg6 harg6 arg7 harg7 x0 x4 x5 = pQD x0 x4 x5 4 3 := by
  unfold pQD
  simp only [rK harg2 x0, rC harg6 x4, rC harg7 x5]
  rfl

theorem oi_4_3 :
    kernelRun0_A.sl.v1463 (F := F) c arg2 harg2 arg3 harg3 arg4 harg4 arg6 harg6 arg7 harg7 x0 x1 x2 x4 x5 = pOI x0 x1 x2 x4 x5 4 3 := by
  unfold pOI pQD pKr
  simp only [rK harg2 x0, rK harg3 x1, rV harg4 x2, rC harg6 x4, rC harg7 x5]
  rfl

theorem kv0_4_3 :
    kernelRun0_A.sl.v1473 (F := F) c arg3 harg3 arg4 harg4 arg6 harg6 arg7 harg7 x1 x2 x4 x5 = pKV0 x1 x2 x4 x5 4 3 := by
  unfold pKV0 pKE pKr
  simp only [rK harg3 x1, rV harg4 x2, rC harg6 x4, rC harg7 x5]
  rfl

theorem kv1_4_3 :
    kernelRun0_A.sl.v1479 (F := F) c arg3 harg3 arg4 harg4 arg6 harg6 arg7 harg7 x1 x2 x4 x5 = pKV1 x1 x2 x4 x5 4 3 := by
  unfold pKV1 pKE pKr
  simp only [rK harg3 x1, rV harg4 x2, rC harg6 x4, rC harg7 x5]
  rfl

theorem qd_5_0 :
    kernelRun0_A.sl.r_137 (F := F) c arg2 harg2 arg6 harg6 arg7 harg7 x0 x4 x5 = pQD x0 x4 x5 5 0 := by
  unfold pQD
  simp only [rK harg2 x0, rC harg6 x4, rC harg7 x5]
  rfl

theorem oi_5_0 :
    kernelRun0_A.sl.r_138 (F := F) c arg2 harg2 arg3 harg3 arg4 harg4 arg6 harg6 arg7 harg7 x0 x1 x2 x4 x5 = pOI x0 x1 x2 x4 x5 5 0 := by
  unfold pOI pQD pKr
  simp only [rK harg2 x0, rK harg3 x1, rV harg4 x2, rC harg6 x4, rC harg7 x5]
  rfl

theorem kv0_5_0 :
    kernelRun0_A.sl.v1544 (F := F) c arg3 harg3 arg4 harg4 arg6 harg6 arg7 harg7 x1 x2 x4 x5 = pKV0 x1 x2 x4 x5 5 0 := by
  unfold pKV0 pKE pKr
  simp only [rK harg3 x1, rV harg4 x2, rC harg6 x4, rC harg7 x5]
  rfl

theorem kv1_5_0 :
    kernelRun0_A.sl.v1550 (F := F) c arg3 harg3 arg4 harg4 arg6 harg6 arg7 harg7 x1 x2 x4 x5 = pKV1 x1 x2 x4 x5 5 0 := by
  unfold pKV1 pKE pKr
  simp only [rK harg3 x1, rV harg4 x2, rC harg6 x4, rC harg7 x5]
  rfl

theorem qd_5_1 :
    kernelRun0_A.sl.r_142 (F := F) c arg2 harg2 arg6 harg6 arg7 harg7 x0 x4 x5 = pQD x0 x4 x5 5 1 := by
  unfold pQD
  simp only [rK harg2 x0, rC harg6 x4, rC harg7 x5]
  rfl

theorem oi_5_1 :
    kernelRun0_A.sl.r_143 (F := F) c arg2 harg2 arg3 harg3 arg4 harg4 arg6 harg6 arg7 harg7 x0 x1 x2 x4 x5 = pOI x0 x1 x2 x4 x5 5 1 := by
  unfold pOI pQD pKr
  simp only [rK harg2 x0, rK harg3 x1, rV harg4 x2, rC harg6 x4, rC harg7 x5]
  rfl

theorem kv0_5_1 :
    kernelRun0_A.sl.r_144 (F := F) c arg3 harg3 arg4 harg4 arg6 harg6 arg7 harg7 x1 x2 x4 x5 = pKV0 x1 x2 x4 x5 5 1 := by
  unfold pKV0 pKE pKr
  simp only [rK harg3 x1, rV harg4 x2, rC harg6 x4, rC harg7 x5]
  rfl

theorem kv1_5_1 :
    kernelRun0_A.sl.r_145 (F := F) c arg3 harg3 arg4 harg4 arg6 harg6 arg7 harg7 x1 x2 x4 x5 = pKV1 x1 x2 x4 x5 5 1 := by
  unfold pKV1 pKE pKr
  simp only [rK harg3 x1, rV harg4 x2, rC harg6 x4, rC harg7 x5]
  rfl

theorem qd_5_2 :
    kernelRun0_A.sl.r_152 (F := F) c arg2 harg2 arg6 harg6 arg7 harg7 x0 x4 x5 = pQD x0 x4 x5 5 2 := by
  unfold pQD
  simp only [rK harg2 x0, rC harg6 x4, rC harg7 x5]
  rfl

theorem oi_5_2 :
    kernelRun0_A.sl.r_153 (F := F) c arg2 harg2 arg3 harg3 arg4 harg4 arg6 harg6 arg7 harg7 x0 x1 x2 x4 x5 = pOI x0 x1 x2 x4 x5 5 2 := by
  unfold pOI pQD pKr
  simp only [rK harg2 x0, rK harg3 x1, rV harg4 x2, rC harg6 x4, rC harg7 x5]
  rfl

theorem kv0_5_2 :
    kernelRun0_A.sl.r_154 (F := F) c arg3 harg3 arg4 harg4 arg6 harg6 arg7 harg7 x1 x2 x4 x5 = pKV0 x1 x2 x4 x5 5 2 := by
  unfold pKV0 pKE pKr
  simp only [rK harg3 x1, rV harg4 x2, rC harg6 x4, rC harg7 x5]
  rfl

theorem kv1_5_2 :
    kernelRun0_A.sl.r_155 (F := F) c arg3 harg3 arg4 harg4 arg6 harg6 arg7 harg7 x1 x2 x4 x5 = pKV1 x1 x2 x4 x5 5 2 := by
  unfold pKV1 pKE pKr
  simp only [rK harg3 x1, rV harg4 x2, rC harg6 x4, rC harg7 x5]
  rfl

theorem qd_5_3 :
    kernelRun0_A.sl.r_162 (F := F) c arg2 harg2 arg6 harg6 arg7 harg7 x0 x4 x5 = pQD x0 x4 x5 5 3 := by
  unfold pQD
  simp only [rK harg2 x0, rC harg6 x4, rC harg7 x5]
  rfl

theorem oi_5_3 :
    kernelRun0_A.sl.v1747 (F := F) c arg2 harg2 arg3 harg3 arg4 harg4 arg6 harg6 arg7 harg7 x0 x1 x2 x4 x5 = pOI x0 x1 x2 x4 x5 5 3 := by
  unfold pOI pQD pKr
  simp only [rK harg2 x0, rK harg3 x1, rV harg4 x2, rC harg6 x4, rC harg7 x5]
  rfl

theorem kv0_5_3 :
    kernelRun0_A.sl.v1757 (F := F) c arg3 harg3 arg4 harg4 arg6 harg6 arg7 harg7 x1 x2 x4 x5 = pKV0 x1 x2 x4 x5 5 3 := by
  unfold pKV0 pKE pKr
  simp only [rK harg3 x1, rV harg4 x2, rC harg6 x4, rC harg7 x5]
  rfl

theorem kv1_5_3 :
    kernelRun0_A.sl.v1763 (F := F) c arg3 harg3 arg4 harg4 arg6 harg6 arg7 harg7 x1 x2 x4 x5 = pKV1 x1 x2 x4 x5 5 3 := by
  unfold pKV1 pKE pKr
  simp only [rK harg3 x1, rV harg4 x2, rC harg6 x4, rC harg7 x5]
  rfl

theorem qd_6_0 :
    kernelRun0_A.sl.r_167 (F := F) c arg2 harg2 arg6 harg6 arg7 harg7 x0 x4 x5 = pQD x0 x4 x5 6 0 := by
  unfold pQD
  simp only [rK harg2 x0, rC harg6 x4, rC harg7 x5]
  rfl

theorem oi_6_0 :
    kernelRun0_A.sl.v1818 (F := F) c arg2 harg2 arg3 harg3 arg4 harg4 arg6 harg6 arg7 harg7 x0 x1 x2 x4 x5 = pOI x0 x1 x2 x4 x5 6 0 := by
  unfold pOI pQD pKr
  simp only [rK harg2 x0, rK harg3 x1, rV harg4 x2, rC harg6 x4, rC harg7 x5]
  rfl

theorem kv0_6_0 :
    kernelRun0_A.sl.v1828 (F := F) c arg3 harg3 arg4 harg4 arg6 harg6 arg7 harg7 x1 x2 x4 x5 = pKV0 x1 x2 x4 x5 6 0 := by
  unfold pKV0 pKE pKr
  simp only [rK harg3 x1, rV harg4 x2, rC harg6 x4, rC harg7 x5]
  rfl

theorem kv1_6_0 :
    kernelRun0_A.sl.v1834 (F := F) c arg3 harg3 arg4 harg4 arg6 harg6 arg7 harg7 x1 x2 x4 x5 = pKV1 x1 x2 x4 x5 6 0 := by
  unfold pKV1 pKE pKr
  simp only [rK harg3 x1, rV harg4 x2, rC harg6 x4, rC harg7 x5]
  rfl

theorem qd_6_1 :
    kernelRun0_A.sl.r_171 (F := F) c arg2 harg2 arg6 harg6 arg7 harg7 x0 x4 x5 = pQD x0 x4 x5 6 1 := by
  unfold pQD
  simp only [rK harg2 x0, rC harg6 x4, rC harg7 x5]
  rfl

theorem oi_6_1 :
    kernelRun0_A.sl.r_172 (F := F) c arg2 harg2 arg3 harg3 arg4 harg4 arg6 harg6 arg7 harg7 x0 x1 x2 x4 x5 = pOI x0 x1 x2 x4 x5 6 1 := by
  unfold pOI pQD pKr
  simp only [rK harg2 x0, rK harg3 x1, rV harg4 x2, rC harg6 x4, rC harg7 x5]
  rfl

theorem kv0_6_1 :
    kernelRun0_A.sl.v1899 (F := F) c arg3 harg3 arg4 harg4 arg6 harg6 arg7 harg7 x1 x2 x4 x5 = pKV0 x1 x2 x4 x5 6 1 := by
  unfold pKV0 pKE pKr
  simp only [rK harg3 x1, rV harg4 x2, rC harg6 x4, rC harg7 x5]
  rfl

theorem kv1_6_1 :
    kernelRun0_A.sl.v1905 (F := F) c arg3 harg3 arg4 harg4 arg6 harg6 arg7 harg7 x1 x2 x4 x5 = pKV1 x1 x2 x4 x5 6 1 := by
  unfold pKV1 pKE pKr
  simp only [rK harg3 x1, rV harg4 x2, rC harg6 x4, rC harg7 x5]
  rfl

theorem qd_6_2 :
    kernelRun0_A.sl.r_176 (F := F) c arg2 harg2 arg6 harg6 arg7 harg7 x0 x4 x5 = pQD x0 x4 x5 6 2 := by
  unfold pQD
  simp only [rK harg2 x0, rC harg6 x4, rC harg7 x5]
  rfl

theorem oi_6_2 :
    kernelRun0_A.sl.r_177 (F := F) c arg2 harg2 arg3 harg3 arg4 harg4 arg6 harg6 arg7 harg7 x0 x1 x2 x4 x5 = pOI x0 x1 x2 x4 x5 6 2 := by
  unfold pOI pQD pKr
  simp only [rK harg2 x0, rK harg3 x1, rV harg4 x2, rC harg6 x4, rC harg7 x5]
  rfl

theorem kv0_6_2 :
    kernelRun0_A.sl.r_178 (F := F) c arg3 harg3 arg4 harg4 arg6 harg6 arg7 harg7 x1 x2 x4 x5 = pKV0 x1 x2 x4 x5 6 2 := by
  unfold pKV0 pKE pKr
  simp only [rK harg3 x1, rV harg4 x2, rC harg6 x4, rC harg7 x5]
  rfl

theorem kv1_6_2 :
    kernelRun0_A.sl.r_179 (F := F) c arg3 harg3 arg4 harg4 arg6 harg6 arg7 harg7 x1 x2 x4 x5 = pKV1 x1 x2 x4 x5 6 2 := by
  unfold pKV1 pKE pKr
  simp only [rK harg3 x1, rV harg4 x2, rC harg6 x4, rC harg7 x5]
  rfl

theorem qd_6_3 :
    kernelRun0_A.sl.r_186 (F := F) c arg2 harg2 arg6 harg6 arg7 harg7 x0 x4 x5 = pQD x0 x4 x5 6 3 := by
  unfold pQD
  simp only [rK harg2 x0, rC harg6 x4, rC harg7 x5]
  rfl

theorem oi_6_3 :
    kernelRun0_A.sl.r_187 (F := F) c arg2 harg2 arg3 harg3 arg4 harg4 arg6 harg6 arg7 harg7 x0 x1 x2 x4 x5 = pOI x0 x1 x2 x4 x5 6 3 := by
  unfold pOI pQD pKr
  simp only [rK harg2 x0, rK harg3 x1, rV harg4 x2, rC harg6 x4, rC harg7 x5]
  rfl

theorem kv0_6_3 :
    kernelRun0_A.sl.r_188 (F := F) c arg3 harg3 arg4 harg4 arg6 harg6 arg7 harg7 x1 x2 x4 x5 = pKV0 x1 x2 x4 x5 6 3 := by
  unfold pKV0 pKE pKr
  simp only [rK harg3 x1, rV harg4 x2, rC harg6 x4, rC harg7 x5]
  rfl

theorem kv1_6_3 :
    kernelRun0_A.sl.r_189 (F := F) c arg3 harg3 arg4 harg4 arg6 harg6 arg7 harg7 x1 x2 x4 x5 = pKV1 x1 x2 x4 x5 6 3 := by
  unfold pKV1 pKE pKr
  simp only [rK harg3 x1, rV harg4 x2, rC harg6 x4, rC harg7 x5]
  rfl

theorem qd_7_0 :
    kernelRun0_A.sl.r_196 (F := F) c arg2 harg2 arg6 harg6 arg7 harg7 x0 x4 x5 = pQD x0 x4 x5 7 0 := by
  unfold pQD
  simp only [rK harg2 x0, rC harg6 x4, rC harg7 x5]
  rfl

theorem oi_7_0 :
    kernelRun0_A.sl.v2102 (F := F) c arg2 harg2 arg3 harg3 arg4 harg4 arg6 harg6 arg7 harg7 x0 x1 x2 x4 x5 = pOI x0 x1 x2 x4 x5 7 0 := by
  unfold pOI pQD pKr
  simp only [rK harg2 x0, rK harg3 x1, rV harg4 x2, rC harg6 x4, rC harg7 x5]
  rfl

theorem kv0_7_0 :
    kernelRun0_A.sl.v2112 (F := F) c arg3 harg3 arg4 harg4 arg6 harg6 arg7 harg7 x1 x2 x4 x5 = pKV0 x1 x2 x4 x5 7 0 := by
  unfold pKV0 pKE pKr
  simp only [rK harg3 x1, rV harg4 x2, rC harg6 x4, rC harg7 x5]
  rfl

theorem kv1_7_0 :
    kernelRun0_A.sl.v2118 (F := F) c arg3 harg3 arg4 harg4 arg6 harg6 arg7 harg7 x1 x2 x4 x5 = pKV1 x1 x2 x4 x5 7 0 := by
  unfold pKV1 pKE pKr
  simp only [rK harg3 x1, rV harg4 x2, rC harg6 x4, rC harg7 x5]
  rfl

theorem qd_7_1 :
    kernelRun0_A.sl.r_201 (F := F) c arg2 harg2 arg6 harg6 arg7 harg7 x0 x4 x5 = pQD x0 x4 x5 7 1 := by
  unfold pQD
  simp only [rK harg2 x0, rC harg6 x4, rC harg7 x5]
  rfl

theorem oi_7_1 :
    kernelRun0_A.sl.v2173 (F := F) c arg2 harg2 arg3 harg3 arg4 harg4 arg6 harg6 arg7 harg7 x0 x1 x2 x4 x5 = pOI x0 x1 x2 x4 x5 7 1 := by
  unfold pOI pQD pKr
  simp only [rK harg2 x0, rK harg3 x1, rV harg4 x2, rC harg6 x4, rC harg7 x5]
  rfl

theorem kv0_7_1 :
    kernelRun0_A.sl.v2183 (F := F) c arg3 harg3 arg4 harg4 arg6 harg6 arg7 harg7 x1 x2 x4 x5 = pKV0 x1 x2 x4 x5 7 1 := by
  unfold pKV0 pKE pKr
  simp only [rK harg3 x1, rV harg4 x2, rC harg6 x4, rC harg7 x5]
  rfl

theorem kv1_7_1 :
    kernelRun0_A.sl.v2189 (F := F) c arg3 harg3 arg4 harg4 arg6 harg6 arg7 harg7 x1 x2 x4 x5 = pKV1 x1 x2 x4 x5 7 1 := by
  unfold pKV1 pKE pKr
  simp only [rK harg3 x1, rV harg4 x2, rC harg6 x4, rC harg7 x5]
  rfl

theorem qd_7_2 :
    kernelRun0_A.sl.r_205 (F := F) c arg2 harg2 arg6 harg6 arg7 harg7 x0 x4 x5 = pQD x0 x4 x5 7 2 := by
  unfold pQD
  simp only [rK harg2 x0, rC harg6 x4, rC harg7 x5]
  rfl

theorem oi_7_2 :
    kernelRun0_A.sl.r_206 (F := F) c arg2 harg2 arg3 harg3 arg4 harg4 arg6 harg6 arg7 harg7 x0 x1 x2 x4 x5 = pOI x0 x1 x2 x4 x5 7 2 := by
  unfold pOI pQD pKr
  simp only [rK harg2 x0, rK harg3 x1, rV harg4 x2, rC harg6 x4, rC harg7 x5]
  rfl

theorem kv0_7_2 :
    kernelRun0_A.sl.v2254 (F := F) c arg3 harg3 arg4 harg4 arg6 harg6 arg7 harg7 x1 x2 x4 x5 = pKV0 x1 x2 x4 x5 7 2 := by
  unfold pKV0 pKE pKr
  simp only [rK harg3 x1, rV harg4 x2, rC harg6 x4, rC harg7 x5]
  rfl

theorem kv1_7_2 :
    kernelRun0_A.sl.v2260 (F := F) c arg3 harg3 arg4 harg4 arg6 harg6 arg7 harg7 x1 x2 x4 x5 = pKV1 x1 x2 x4 x5 7 2 := by
  unfold pKV1 pKE pKr
  simp only [rK harg3 x1, rV harg4 x2, rC harg6 x4, rC harg7 x5]
  rfl

theorem qd_7_3 :
    kernelRun0_A.sl.r_210 (F := F) c arg2 harg2 arg6 harg6 arg7 harg7 x0 x4 x5 = pQD x0 x4 x5 7 3 := by
  unfold pQD
  simp only [rK harg2 x0, rC harg6 x4, rC harg7 x5]
  rfl

theorem oi_7_3 :
    kernelRun0_A.sl.r_211 (F := F) c arg2 harg2 arg3 harg3 arg4 harg4 arg6 harg6 arg7 harg7 x0 x1 x2 x4 x5 = pOI x0 x1 x2 x4 x5 7 3 := by
  unfold pOI pQD pKr
  simp only [rK harg2 x0, rK harg3 x1, rV harg4 x2, rC harg6 x4, rC harg7 x5]
  rfl

theorem kv0_7_3 :
    kernelRun0_A.sl.r_212 (F := F) c arg3 harg3 arg4 harg4 arg6 harg6 arg7 harg7 x1 x2 x4 x5 = pKV0 x1 x2 x4 x5 7 3 := by
  unfold pKV0 pKE pKr
  simp only [rK harg3 x1, rV harg4 x2, rC harg6 x4, rC harg7 x5]
  rfl

theorem kv1_7_3 :
    kernelRun0_A.sl.r_213 (F := F) c arg3 harg3 arg4 harg4 arg6 harg6 arg7 harg7 x1 x2 x4 x5 = pKV1 x1 x2 x4 x5 7 3 := by
  unfold pKV1 pKE pKr
  simp only [rK harg3 x1, rV harg4 x2, rC harg6 x4, rC harg7 x5]
  rfl

end Cert.KernelRetIdeal.Ret.CaseA
end
-- ==== Proof.RetCaseA2.lean ====
/- The values of the retention kernel at a grid point that begins a sweep: the states and rows from chunk to chunk. -/
module

public import proofs.«01_k».proof.Proof.RetCaseA1

@[expose] public section

set_option maxRecDepth 16384

noncomputable section

open Idealize.ShloMosaic Idealize.ShloMosaic.TcCoe Idealize.SL.Sem

namespace Cert.KernelRetIdeal.Ret.CaseA
open Cert.KernelRetIdeal Cert.KernelRetIdeal.Gen Cert.KernelRetIdeal.Ret

variable {F : FTy → Type} [FloatOps F] [Named F]
variable (c : Dev nD) (i : grid0.Coords) {arg2 : Memref sig .tc .vmem S1x512x1024 .f32} (harg2 : arg2.IsWhole) {arg3 : Memref sig .tc .vmem S1x512x1024 .f32} (harg3 : arg3.IsWhole) {arg4 : Memref sig .tc .vmem S1x512x2048 .f32} (harg4 : arg4.IsWhole) {arg5 : Memref sig .tc .vmem S1x512x2048 .f32} (harg5 : arg5.IsWhole) {arg6 : Memref sig .tc .vmem S1x512x128 .f32} (harg6 : arg6.IsWhole) {arg7 : Memref sig .tc .vmem S1x512x128 .f32} (harg7 : arg7.IsWhole) {arg8 : Memref sig .tc .vmem S1x512x2048 .bf16} (harg8 : arg8.IsWhole) {arg9 : Memref sig .tc .vmem S8x128x256 .f32} (harg9 : arg9.IsWhole)
variable (x0 : Vec F S1x512x1024 .f32) (x1 : Vec F S1x512x1024 .f32) (x2 : Vec F S1x512x2048 .f32) (x3 : Vec F S1x512x2048 .f32) (x4 : Vec F S1x512x128 .f32) (x5 : Vec F S1x512x128 .f32)

theorem z0_0 :
    kernelRun0_A.sl.v2336 (F := F) c arg9 = hd k0_pay3 0 := by
  unfold kernelRun0_A.sl.v2336 kernelRun0_A.sl.HS0_1
  rw [View.readCov_fill _ _ _ _ _ (by decide)]
  exact ld_hd k0_pay3 0 _

theorem z1_0 :
    kernelRun0_A.sl.v2338 (F := F) c arg9 = hd k0_pay3 1 := by
  unfold kernelRun0_A.sl.v2338 kernelRun0_A.sl.HS0_1
  rw [View.readCov_fill _ _ _ _ _ (by decide)]
  exact ld_hd k0_pay3 1 _

theorem z0_1 :
    kernelRun0_A.sl.v2814 (F := F) c arg3 harg3 arg4 harg4 arg6 harg6 arg7 harg7 arg9 x1 x2 x4 x5 = hd k0_pay3 2 := by
  unfold kernelRun0_A.sl.v2814 kernelRun0_A.sl.HS0_3 kernelRun0_A.sl.HS0_1
  rw [View.readCov_skip _ _ _ _ _ (by decide), View.readCov_skip _ _ _ _ _ (by decide), View.readCov_fill _ _ _ _ _ (by decide)]
  exact ld_hd k0_pay3 2 _

theorem z1_1 :
    kernelRun0_A.sl.v2816 (F := F) c arg3 harg3 arg4 harg4 arg6 harg6 arg7 harg7 arg9 x1 x2 x4 x5 = hd k0_pay3 3 := by
  unfold kernelRun0_A.sl.v2816 kernelRun0_A.sl.HS0_3 kernelRun0_A.sl.HS0_1
  rw [View.readCov_skip _ _ _ _ _ (by decide), View.readCov_skip _ _ _ _ _ (by decide), View.readCov_fill _ _ _ _ _ (by decide)]
  exact ld_hd k0_pay3 3 _

theorem z0_2 :
    kernelRun0_A.sl.v3292 (F := F) c arg3 harg3 arg4 harg4 arg6 harg6 arg7 harg7 arg9 x1 x2 x4 x5 = hd k0_pay3 4 := by
  unfold kernelRun0_A.sl.v3292 kernelRun0_A.sl.HS0_5 kernelRun0_A.sl.HS0_3 kernelRun0_A.sl.HS0_1
  rw [View.readCov_skip _ _ _ _ _ (by decide), View.readCov_skip _ _ _ _ _ (by decide), View.readCov_skip _ _ _ _ _ (by decide), View.readCov_skip _ _ _ _ _ (by decide), View.readCov_fill _ _ _ _ _ (by decide)]
  exact ld_hd k0_pay3 4 _

theorem z1_2 :
    kernelRun0_A.sl.v3294 (F := F) c arg3 harg3 arg4 harg4 arg6 harg6 arg7 harg7 arg9 x1 x2 x4 x5 = hd k0_pay3 5 := by
  unfold kernelRun0_A.sl.v3294 kernelRun0_A.sl.HS0_5 kernelRun0_A.sl.HS0_3 kernelRun0_A.sl.HS0_1
  rw [View.readCov_skip _ _ _ _ _ (by decide), View.readCov_skip _ _ _ _ _ (by decide), View.readCov_skip _ _ _ _ _ (by decide), View.readCov_skip _ _ _ _ _ (by decide), View.readCov_fill _ _ _ _ _ (by decide)]
  exact ld_hd k0_pay3 5 _

theorem z0_3 :
    kernelRun0_A.sl.v3770 (F := F) c arg3 harg3 arg4 harg4 arg6 harg6 arg7 harg7 arg9 x1 x2 x4 x5 = hd k0_pay3 6 := by
  unfold kernelRun0_A.sl.v3770 kernelRun0_A.sl.HS0_7 kernelRun0_A.sl.HS0_5 kernelRun0_A.sl.HS0_3 kernelRun0_A.sl.HS0_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
  exact ld_hd k0_pay3 6 _

theorem z1_3 :
    kernelRun0_A.sl.v3772 (F := F) c arg3 harg3 arg4 harg4 arg6 harg6 arg7 harg7 arg9 x1 x2 x4 x5 = hd k0_pay3 7 := by
  unfold kernelRun0_A.sl.v3772 kernelRun0_A.sl.HS0_7 kernelRun0_A.sl.HS0_5 kernelRun0_A.sl.HS0_3 kernelRun0_A.sl.HS0_1
  rw [View.readCov_skip _ _ _ _ _ (by decide), View.readCov_skip _ _ _ _ _ (by decide), View.readCov_skip _ _ _ _ _ (by decide), View.readCov_skip _ _ _ _ _ (by decide), View.readCov_skip _ _ _ _ _ (by decide), View.readCov_skip _ _ _ _ _ (by decide), View.readCov_fill _ _ _ _ _ (by decide)]
  exact ld_hd k0_pay3 7 _

theorem o_0_0 :
    gO (kernelRun0_A.sl.r_2 (F := F) c arg2 harg2 arg3 harg3 arg4 harg4 arg6 harg6 arg7 harg7 x0 x1 x2 x4 x5) (kernelRun0_A.sl.r_1 (F := F) c arg2 harg2 arg6 harg6 arg7 harg7 x0 x4 x5) (shapeCast S128x256 (kernelRun0_A.sl.v2336 (F := F) c arg9) shapeCasts_S1x128x256_S128x256) (shapeCast S128x256 (kernelRun0_A.sl.v2338 (F := F) c arg9) shapeCasts_S1x128x256_S128x256) = pO x0 x1 x2 x4 x5 k0_pay3 0 0 := by
  change _ = gO (pOI x0 x1 x2 x4 x5 0 0) (pQD x0 x4 x5 0 0) (shapeCast S128x256 (hd k0_pay3 0) shapeCasts_S1x128x256_S128x256) (shapeCast S128x256 (hd k0_pay3 1) shapeCasts_S1x128x256_S128x256)
  rw [← oi_0_0 c harg2 harg3 harg4 harg6 harg7 x0 x1 x2 x4 x5, ← qd_0_0 c harg2 harg6 harg7 x0 x4 x5, ← z0_0 c (arg9 := arg9), ← z1_0 c (arg9 := arg9)]

theorem st0_0_1 :
    kernelRun0_A.sl.v2352 (F := F) c arg3 harg3 arg4 harg4 arg6 harg6 arg7 harg7 arg9 x1 x2 x4 x5 = pS0 x1 x2 x4 x5 k0_pay3 0 1 := by
  change _ = gN (shapeCast S128x256 (hd k0_pay3 0) shapeCasts_S1x128x256_S128x256) (endn 0) (pKV0 x1 x2 x4 x5 0 0)
  rw [← kv0_0_0 c harg3 harg4 harg6 harg7 x1 x2 x4 x5, ← z0_0 c (arg9 := arg9)]
  rfl

theorem st1_0_1 :
    kernelRun0_A.sl.v2355 (F := F) c arg3 harg3 arg4 harg4 arg6 harg6 arg7 harg7 arg9 x1 x2 x4 x5 = pS1 x1 x2 x4 x5 k0_pay3 0 1 := by
  change _ = gN (shapeCast S128x256 (hd k0_pay3 1) shapeCasts_S1x128x256_S128x256) (endn 1) (pKV1 x1 x2 x4 x5 0 0)
  rw [← kv1_0_0 c harg3 harg4 harg6 harg7 x1 x2 x4 x5, ← z1_0 c (arg9 := arg9)]
  rfl

theorem o_1_0 :
    gO (kernelRun0_A.sl.v398 (F := F) c arg2 harg2 arg3 harg3 arg4 harg4 arg6 harg6 arg7 harg7 x0 x1 x2 x4 x5) (kernelRun0_A.sl.r_31 (F := F) c arg2 harg2 arg6 harg6 arg7 harg7 x0 x4 x5) (kernelRun0_A.sl.v2352 (F := F) c arg3 harg3 arg4 harg4 arg6 harg6 arg7 harg7 arg9 x1 x2 x4 x5) (kernelRun0_A.sl.v2355 (F := F) c arg3 harg3 arg4 harg4 arg6 harg6 arg7 harg7 arg9 x1 x2 x4 x5) = pO x0 x1 x2 x4 x5 k0_pay3 1 0 := by
  change _ = gO (pOI x0 x1 x2 x4 x5 1 0) (pQD x0 x4 x5 1 0) (pS0 x1 x2 x4 x5 k0_pay3 0 1) (pS1 x1 x2 x4 x5 k0_pay3 0 1)
  rw [← oi_1_0 c harg2 harg3 harg4 harg6 harg7 x0 x1 x2 x4 x5, ← qd_1_0 c harg2 harg6 harg7 x0 x4 x5, ← st0_0_1 c harg3 harg4 harg6 harg7 x1 x2 x4 x5 (arg9 := arg9), ← st1_0_1 c harg3 harg4 harg6 harg7 x1 x2 x4 x5 (arg9 := arg9)]

theorem st0_0_2 :
    kernelRun0_A.sl.r_215 (F := F) c arg3 harg3 arg4 harg4 arg6 harg6 arg7 harg7 arg9 x1 x2 x4 x5 = pS0 x1 x2 x4 x5 k0_pay3 0 2 := by
  change _ = gN (pS0 x1 x2 x4 x5 k0_pay3 0 1) (endn 0) (pKV0 x1 x2 x4 x5 1 0)
  rw [← kv0_1_0 c harg3 harg4 harg6 harg7 x1 x2 x4 x5, ← st0_0_1 c harg3 harg4 harg6 harg7 x1 x2 x4 x5 (arg9 := arg9)]
  rfl

theorem st1_0_2 :
    kernelRun0_A.sl.r_216 (F := F) c arg3 harg3 arg4 harg4 arg6 harg6 arg7 harg7 arg9 x1 x2 x4 x5 = pS1 x1 x2 x4 x5 k0_pay3 0 2 := by
  change _ = gN (pS1 x1 x2 x4 x5 k0_pay3 0 1) (endn 1) (pKV1 x1 x2 x4 x5 1 0)
  rw [← kv1_1_0 c harg3 harg4 harg6 harg7 x1 x2 x4 x5, ← st1_0_1 c harg3 harg4 harg6 harg7 x1 x2 x4 x5 (arg9 := arg9)]
  rfl

theorem o_2_0 :
    gO (kernelRun0_A.sl.v682 (F := F) c arg2 harg2 arg3 harg3 arg4 harg4 arg6 harg6 arg7 harg7 x0 x1 x2 x4 x5) (kernelRun0_A.sl.r_60 (F := F) c arg2 harg2 arg6 harg6 arg7 harg7 x0 x4 x5) (kernelRun0_A.sl.r_215 (F := F) c arg3 harg3 arg4 harg4 arg6 harg6 arg7 harg7 arg9 x1 x2 x4 x5) (kernelRun0_A.sl.r_216 (F := F) c arg3 harg3 arg4 harg4 arg6 harg6 arg7 harg7 arg9 x1 x2 x4 x5) = pO x0 x1 x2 x4 x5 k0_pay3 2 0 := by
  change _ = gO (pOI x0 x1 x2 x4 x5 2 0) (pQD x0 x4 x5 2 0) (pS0 x1 x2 x4 x5 k0_pay3 0 2) (pS1 x1 x2 x4 x5 k0_pay3 0 2)
  rw [← oi_2_0 c harg2 harg3 harg4 harg6 harg7 x0 x1 x2 x4 x5, ← qd_2_0 c harg2 harg6 harg7 x0 x4 x5, ← st0_0_2 c harg3 harg4 harg6 harg7 x1 x2 x4 x5 (arg9 := arg9), ← st1_0_2 c harg3 harg4 harg6 harg7 x1 x2 x4 x5 (arg9 := arg9)]

theorem st0_0_3 :
    kernelRun0_A.sl.r_219 (F := F) c arg3 harg3 arg4 harg4 arg6 harg6 arg7 harg7 arg9 x1 x2 x4 x5 = pS0 x1 x2 x4 x5 k0_pay3 0 3 := by
  change _ = gN (pS0 x1 x2 x4 x5 k0_pay3 0 2) (endn 0) (pKV0 x1 x2 x4 x5 2 0)
  rw [← kv0_2_0 c harg3 harg4 harg6 harg7 x1 x2 x4 x5, ← st0_0_2 c harg3 harg4 harg6 harg7 x1 x2 x4 x5 (arg9 := arg9)]
  rfl

theorem st1_0_3 :
    kernelRun0_A.sl.r_220 (F := F) c arg3 harg3 arg4 harg4 arg6 harg6 arg7 harg7 arg9 x1 x2 x4 x5 = pS1 x1 x2 x4 x5 k0_pay3 0 3 := by
  change _ = gN (pS1 x1 x2 x4 x5 k0_pay3 0 2) (endn 1) (pKV1 x1 x2 x4 x5 2 0)
  rw [← kv1_2_0 c harg3 harg4 harg6 harg7 x1 x2 x4 x5, ← st1_0_2 c harg3 harg4 harg6 harg7 x1 x2 x4 x5 (arg9 := arg9)]
  rfl

theorem o_3_0 :
    gO (kernelRun0_A.sl.r_85 (F := F) c arg2 harg2 arg3 harg3 arg4 harg4 arg6 harg6 arg7 harg7 x0 x1 x2 x4 x5) (kernelRun0_A.sl.r_84 (F := F) c arg2 harg2 arg6 harg6 arg7 harg7 x0 x4 x5) (kernelRun0_A.sl.r_219 (F := F) c arg3 harg3 arg4 harg4 arg6 harg6 arg7 harg7 arg9 x1 x2 x4 x5) (kernelRun0_A.sl.r_220 (F := F) c arg3 harg3 arg4 harg4 arg6 harg6 arg7 harg7 arg9 x1 x2 x4 x5) = pO x0 x1 x2 x4 x5 k0_pay3 3 0 := by
  change _ = gO (pOI x0 x1 x2 x4 x5 3 0) (pQD x0 x4 x5 3 0) (pS0 x1 x2 x4 x5 k0_pay3 0 3) (pS1 x1 x2 x4 x5 k0_pay3 0 3)
  rw [← oi_3_0 c harg2 harg3 harg4 harg6 harg7 x0 x1 x2 x4 x5, ← qd_3_0 c harg2 harg6 harg7 x0 x4 x5, ← st0_0_3 c harg3 harg4 harg6 harg7 x1 x2 x4 x5 (arg9 := arg9), ← st1_0_3 c harg3 harg4 harg6 harg7 x1 x2 x4 x5 (arg9 := arg9)]

theorem st0_0_4 :
    kernelRun0_A.sl.r_223 (F := F) c arg3 harg3 arg4 harg4 arg6 harg6 arg7 harg7 arg9 x1 x2 x4 x5 = pS0 x1 x2 x4 x5 k0_pay3 0 4 := by
  change _ = gN (pS0 x1 x2 x4 x5 k0_pay3 0 3) (endn 0) (pKV0 x1 x2 x4 x5 3 0)
  rw [← kv0_3_0 c harg3 harg4 harg6 harg7 x1 x2 x4 x5, ← st0_0_3 c harg3 harg4 harg6 harg7 x1 x2 x4 x5 (arg9 := arg9)]
  rfl

theorem st1_0_4 :
    kernelRun0_A.sl.r_224 (F := F) c arg3 harg3 arg4 harg4 arg6 harg6 arg7 harg7 arg9 x1 x2 x4 x5 = pS1 x1 x2 x4 x5 k0_pay3 0 4 := by
  change _ = gN (pS1 x1 x2 x4 x5 k0_pay3 0 3) (endn 1) (pKV1 x1 x2 x4 x5 3 0)
  rw [← kv1_3_0 c harg3 harg4 harg6 harg7 x1 x2 x4 x5, ← st1_0_3 c harg3 harg4 harg6 harg7 x1 x2 x4 x5 (arg9 := arg9)]
  rfl

theorem o_4_0 :
    gO (kernelRun0_A.sl.r_109 (F := F) c arg2 harg2 arg3 harg3 arg4 harg4 arg6 harg6 arg7 harg7 x0 x1 x2 x4 x5) (kernelRun0_A.sl.r_108 (F := F) c arg2 harg2 arg6 harg6 arg7 harg7 x0 x4 x5) (kernelRun0_A.sl.r_223 (F := F) c arg3 harg3 arg4 harg4 arg6 harg6 arg7 harg7 arg9 x1 x2 x4 x5) (kernelRun0_A.sl.r_224 (F := F) c arg3 harg3 arg4 harg4 arg6 harg6 arg7 harg7 arg9 x1 x2 x4 x5) = pO x0 x1 x2 x4 x5 k0_pay3 4 0 := by
  change _ = gO (pOI x0 x1 x2 x4 x5 4 0) (pQD x0 x4 x5 4 0) (pS0 x1 x2 x4 x5 k0_pay3 0 4) (pS1 x1 x2 x4 x5 k0_pay3 0 4)
  rw [← oi_4_0 c harg2 harg3 harg4 harg6 harg7 x0 x1 x2 x4 x5, ← qd_4_0 c harg2 harg6 harg7 x0 x4 x5, ← st0_0_4 c harg3 harg4 harg6 harg7 x1 x2 x4 x5 (arg9 := arg9), ← st1_0_4 c harg3 harg4 harg6 harg7 x1 x2 x4 x5 (arg9 := arg9)]

theorem st0_0_5 :
    kernelRun0_A.sl.r_229 (F := F) c arg3 harg3 arg4 harg4 arg6 harg6 arg7 harg7 arg9 x1 x2 x4 x5 = pS0 x1 x2 x4 x5 k0_pay3 0 5 := by
  change _ = gN (pS0 x1 x2 x4 x5 k0_pay3 0 4) (endn 0) (pKV0 x1 x2 x4 x5 4 0)
  rw [← kv0_4_0 c harg3 harg4 harg6 harg7 x1 x2 x4 x5, ← st0_0_4 c harg3 harg4 harg6 harg7 x1 x2 x4 x5 (arg9 := arg9)]
  rfl

theorem st1_0_5 :
    kernelRun0_A.sl.r_231 (F := F) c arg3 harg3 arg4 harg4 arg6 harg6 arg7 harg7 arg9 x1 x2 x4 x5 = pS1 x1 x2 x4 x5 k0_pay3 0 5 := by
  change _ = gN (pS1 x1 x2 x4 x5 k0_pay3 0 4) (endn 1) (pKV1 x1 x2 x4 x5 4 0)
  rw [← kv1_4_0 c harg3 harg4 harg6 harg7 x1 x2 x4 x5, ← st1_0_4 c harg3 harg4 harg6 harg7 x1 x2 x4 x5 (arg9 := arg9)]
  rfl

theorem o_5_0 :
    gO (kernelRun0_A.sl.r_138 (F := F) c arg2 harg2 arg3 harg3 arg4 harg4 arg6 harg6 arg7 harg7 x0 x1 x2 x4 x5) (kernelRun0_A.sl.r_137 (F := F) c arg2 harg2 arg6 harg6 arg7 harg7 x0 x4 x5) (kernelRun0_A.sl.r_229 (F := F) c arg3 harg3 arg4 harg4 arg6 harg6 arg7 harg7 arg9 x1 x2 x4 x5) (kernelRun0_A.sl.r_231 (F := F) c arg3 harg3 arg4 harg4 arg6 harg6 arg7 harg7 arg9 x1 x2 x4 x5) = pO x0 x1 x2 x4 x5 k0_pay3 5 0 := by
  change _ = gO (pOI x0 x1 x2 x4 x5 5 0) (pQD x0 x4 x5 5 0) (pS0 x1 x2 x4 x5 k0_pay3 0 5) (pS1 x1 x2 x4 x5 k0_pay3 0 5)
  rw [← oi_5_0 c harg2 harg3 harg4 harg6 harg7 x0 x1 x2 x4 x5, ← qd_5_0 c harg2 harg6 harg7 x0 x4 x5, ← st0_0_5 c harg3 harg4 harg6 harg7 x1 x2 x4 x5 (arg9 := arg9), ← st1_0_5 c harg3 harg4 harg6 harg7 x1 x2 x4 x5 (arg9 := arg9)]

theorem st0_0_6 :
    kernelRun0_A.sl.r_233 (F := F) c arg3 harg3 arg4 harg4 arg6 harg6 arg7 harg7 arg9 x1 x2 x4 x5 = pS0 x1 x2 x4 x5 k0_pay3 0 6 := by
  change _ = gN (pS0 x1 x2 x4 x5 k0_pay3 0 5) (endn 0) (pKV0 x1 x2 x4 x5 5 0)
  rw [← kv0_5_0 c harg3 harg4 harg6 harg7 x1 x2 x4 x5, ← st0_0_5 c harg3 harg4 harg6 harg7 x1 x2 x4 x5 (arg9 := arg9)]
  rfl

theorem st1_0_6 :
    kernelRun0_A.sl.r_234 (F := F) c arg3 harg3 arg4 harg4 arg6 harg6 arg7 harg7 arg9 x1 x2 x4 x5 = pS1 x1 x2 x4 x5 k0_pay3 0 6 := by
  change _ = gN (pS1 x1 x2 x4 x5 k0_pay3 0 5) (endn 1) (pKV1 x1 x2 x4 x5 5 0)
  rw [← kv1_5_0 c harg3 harg4 harg6 harg7 x1 x2 x4 x5, ← st1_0_5 c harg3 harg4 harg6 harg7 x1 x2 x4 x5 (arg9 := arg9)]
  rfl

theorem o_6_0 :
    gO (kernelRun0_A.sl.v1818 (F := F) c arg2 harg2 arg3 harg3 arg4 harg4 arg6 harg6 arg7 harg7 x0 x1 x2 x4 x5) (kernelRun0_A.sl.r_167 (F := F) c arg2 harg2 arg6 harg6 arg7 harg7 x0 x4 x5) (kernelRun0_A.sl.r_233 (F := F) c arg3 harg3 arg4 harg4 arg6 harg6 arg7 harg7 arg9 x1 x2 x4 x5) (kernelRun0_A.sl.r_234 (F := F) c arg3 harg3 arg4 harg4 arg6 harg6 arg7 harg7 arg9 x1 x2 x4 x5) = pO x0 x1 x2 x4 x5 k0_pay3 6 0 := by
  change _ = gO (pOI x0 x1 x2 x4 x5 6 0) (pQD x0 x4 x5 6 0) (pS0 x1 x2 x4 x5 k0_pay3 0 6) (pS1 x1 x2 x4 x5 k0_pay3 0 6)
  rw [← oi_6_0 c harg2 harg3 harg4 harg6 harg7 x0 x1 x2 x4 x5, ← qd_6_0 c harg2 harg6 harg7 x0 x4 x5, ← st0_0_6 c harg3 harg4 harg6 harg7 x1 x2 x4 x5 (arg9 := arg9), ← st1_0_6 c harg3 harg4 harg6 harg7 x1 x2 x4 x5 (arg9 := arg9)]

theorem st0_0_7 :
    kernelRun0_A.sl.r_238 (F := F) c arg3 harg3 arg4 harg4 arg6 harg6 arg7 harg7 arg9 x1 x2 x4 x5 = pS0 x1 x2 x4 x5 k0_pay3 0 7 := by
  change _ = gN (pS0 x1 x2 x4 x5 k0_pay3 0 6) (endn 0) (pKV0 x1 x2 x4 x5 6 0)
  rw [← kv0_6_0 c harg3 harg4 harg6 harg7 x1 x2 x4 x5, ← st0_0_6 c harg3 harg4 harg6 harg7 x1 x2 x4 x5 (arg9 := arg9)]
  rfl

theorem st1_0_7 :
    kernelRun0_A.sl.r_239 (F := F) c arg3 harg3 arg4 harg4 arg6 harg6 arg7 harg7 arg9 x1 x2 x4 x5 = pS1 x1 x2 x4 x5 k0_pay3 0 7 := by
  change _ = gN (pS1 x1 x2 x4 x5 k0_pay3 0 6) (endn 1) (pKV1 x1 x2 x4 x5 6 0)
  rw [← kv1_6_0 c harg3 harg4 harg6 harg7 x1 x2 x4 x5, ← st1_0_6 c harg3 harg4 harg6 harg7 x1 x2 x4 x5 (arg9 := arg9)]
  rfl

theorem o_7_0 :
    gO (kernelRun0_A.sl.v2102 (F := F) c arg2 harg2 arg3 harg3 arg4 harg4 arg6 harg6 arg7 harg7 x0 x1 x2 x4 x5) (kernelRun0_A.sl.r_196 (F := F) c arg2 harg2 arg6 harg6 arg7 harg7 x0 x4 x5) (kernelRun0_A.sl.r_238 (F := F) c arg3 harg3 arg4 harg4 arg6 harg6 arg7 harg7 arg9 x1 x2 x4 x5) (kernelRun0_A.sl.r_239 (F := F) c arg3 harg3 arg4 harg4 arg6 harg6 arg7 harg7 arg9 x1 x2 x4 x5) = pO x0 x1 x2 x4 x5 k0_pay3 7 0 := by
  change _ = gO (pOI x0 x1 x2 x4 x5 7 0) (pQD x0 x4 x5 7 0) (pS0 x1 x2 x4 x5 k0_pay3 0 7) (pS1 x1 x2 x4 x5 k0_pay3 0 7)
  rw [← oi_7_0 c harg2 harg3 harg4 harg6 harg7 x0 x1 x2 x4 x5, ← qd_7_0 c harg2 harg6 harg7 x0 x4 x5, ← st0_0_7 c harg3 harg4 harg6 harg7 x1 x2 x4 x5 (arg9 := arg9), ← st1_0_7 c harg3 harg4 harg6 harg7 x1 x2 x4 x5 (arg9 := arg9)]

theorem st0_0_8 :
    kernelRun0_A.sl.r_243 (F := F) c arg3 harg3 arg4 harg4 arg6 harg6 arg7 harg7 arg9 x1 x2 x4 x5 = pS0 x1 x2 x4 x5 k0_pay3 0 8 := by
  change _ = gN (pS0 x1 x2 x4 x5 k0_pay3 0 7) (endn 0) (pKV0 x1 x2 x4 x5 7 0)
  rw [← kv0_7_0 c harg3 harg4 harg6 harg7 x1 x2 x4 x5, ← st0_0_7 c harg3 harg4 harg6 harg7 x1 x2 x4 x5 (arg9 := arg9)]
  rfl

theorem st1_0_8 :
    kernelRun0_A.sl.r_244 (F := F) c arg3 harg3 arg4 harg4 arg6 harg6 arg7 harg7 arg9 x1 x2 x4 x5 = pS1 x1 x2 x4 x5 k0_pay3 0 8 := by
  change _ = gN (pS1 x1 x2 x4 x5 k0_pay3 0 7) (endn 1) (pKV1 x1 x2 x4 x5 7 0)
  rw [← kv1_7_0 c harg3 harg4 harg6 harg7 x1 x2 x4 x5, ← st1_0_7 c harg3 harg4 harg6 harg7 x1 x2 x4 x5 (arg9 := arg9)]
  rfl

theorem o_0_1 :
    gO (kernelRun0_A.sl.r_7 (F := F) c arg2 harg2 arg3 harg3 arg4 harg4 arg6 harg6 arg7 harg7 x0 x1 x2 x4 x5) (kernelRun0_A.sl.r_6 (F := F) c arg2 harg2 arg6 harg6 arg7 harg7 x0 x4 x5) (shapeCast S128x256 (kernelRun0_A.sl.v2814 (F := F) c arg3 harg3 arg4 harg4 arg6 harg6 arg7 harg7 arg9 x1 x2 x4 x5) shapeCasts_S1x128x256_S128x256) (shapeCast S128x256 (kernelRun0_A.sl.v2816 (F := F) c arg3 harg3 arg4 harg4 arg6 harg6 arg7 harg7 arg9 x1 x2 x4 x5) shapeCasts_S1x128x256_S128x256) = pO x0 x1 x2 x4 x5 k0_pay3 0 1 := by
  change _ = gO (pOI x0 x1 x2 x4 x5 0 1) (pQD x0 x4 x5 0 1) (shapeCast S128x256 (hd k0_pay3 2) shapeCasts_S1x128x256_S128x256) (shapeCast S128x256 (hd k0_pay3 3) shapeCasts_S1x128x256_S128x256)
  rw [← oi_0_1 c harg2 harg3 harg4 harg6 harg7 x0 x1 x2 x4 x5, ← qd_0_1 c harg2 harg6 harg7 x0 x4 x5, ← z0_1 c harg3 harg4 harg6 harg7 x1 x2 x4 x5 (arg9 := arg9), ← z1_1 c harg3 harg4 harg6 harg7 x1 x2 x4 x5 (arg9 := arg9)]

theorem st0_1_1 :
    kernelRun0_A.sl.r_251 (F := F) c arg3 harg3 arg4 harg4 arg6 harg6 arg7 harg7 arg9 x1 x2 x4 x5 = pS0 x1 x2 x4 x5 k0_pay3 1 1 := by
  change _ = gN (shapeCast S128x256 (hd k0_pay3 2) shapeCasts_S1x128x256_S128x256) (endn 2) (pKV0 x1 x2 x4 x5 0 1)
  rw [← kv0_0_1 c harg3 harg4 harg6 harg7 x1 x2 x4 x5, ← z0_1 c harg3 harg4 harg6 harg7 x1 x2 x4 x5 (arg9 := arg9)]
  rfl

theorem st1_1_1 :
    kernelRun0_A.sl.r_252 (F := F) c arg3 harg3 arg4 harg4 arg6 harg6 arg7 harg7 arg9 x1 x2 x4 x5 = pS1 x1 x2 x4 x5 k0_pay3 1 1 := by
  change _ = gN (shapeCast S128x256 (hd k0_pay3 3) shapeCasts_S1x128x256_S128x256) (endn 3) (pKV1 x1 x2 x4 x5 0 1)
  rw [← kv1_0_1 c harg3 harg4 harg6 harg7 x1 x2 x4 x5, ← z1_1 c harg3 harg4 harg6 harg7 x1 x2 x4 x5 (arg9 := arg9)]
  rfl

theorem o_1_1 :
    gO (kernelRun0_A.sl.r_36 (F := F) c arg2 harg2 arg3 harg3 arg4 harg4 arg6 harg6 arg7 harg7 x0 x1 x2 x4 x5) (kernelRun0_A.sl.r_35 (F := F) c arg2 harg2 arg6 harg6 arg7 harg7 x0 x4 x5) (kernelRun0_A.sl.r_251 (F := F) c arg3 harg3 arg4 harg4 arg6 harg6 arg7 harg7 arg9 x1 x2 x4 x5) (kernelRun0_A.sl.r_252 (F := F) c arg3 harg3 arg4 harg4 arg6 harg6 arg7 harg7 arg9 x1 x2 x4 x5) = pO x0 x1 x2 x4 x5 k0_pay3 1 1 := by
  change _ = gO (pOI x0 x1 x2 x4 x5 1 1) (pQD x0 x4 x5 1 1) (pS0 x1 x2 x4 x5 k0_pay3 1 1) (pS1 x1 x2 x4 x5 k0_pay3 1 1)
  rw [← oi_1_1 c harg2 harg3 harg4 harg6 harg7 x0 x1 x2 x4 x5, ← qd_1_1 c harg2 harg6 harg7 x0 x4 x5, ← st0_1_1 c harg3 harg4 harg6 harg7 x1 x2 x4 x5 (arg9 := arg9), ← st1_1_1 c harg3 harg4 harg6 harg7 x1 x2 x4 x5 (arg9 := arg9)]

theorem st0_1_2 :
    kernelRun0_A.sl.r_255 (F := F) c arg3 harg3 arg4 harg4 arg6 harg6 arg7 harg7 arg9 x1 x2 x4 x5 = pS0 x1 x2 x4 x5 k0_pay3 1 2 := by
  change _ = gN (pS0 x1 x2 x4 x5 k0_pay3 1 1) (endn 2) (pKV0 x1 x2 x4 x5 1 1)
  rw [← kv0_1_1 c harg3 harg4 harg6 harg7 x1 x2 x4 x5, ← st0_1_1 c harg3 harg4 harg6 harg7 x1 x2 x4 x5 (arg9 := arg9)]
  rfl

theorem st1_1_2 :
    kernelRun0_A.sl.r_256 (F := F) c arg3 harg3 arg4 harg4 arg6 harg6 arg7 harg7 arg9 x1 x2 x4 x5 = pS1 x1 x2 x4 x5 k0_pay3 1 2 := by
  change _ = gN (pS1 x1 x2 x4 x5 k0_pay3 1 1) (endn 3) (pKV1 x1 x2 x4 x5 1 1)
  rw [← kv1_1_1 c harg3 harg4 harg6 harg7 x1 x2 x4 x5, ← st1_1_1 c harg3 harg4 harg6 harg7 x1 x2 x4 x5 (arg9 := arg9)]
  rfl

theorem o_2_1 :
    gO (kernelRun0_A.sl.v753 (F := F) c arg2 harg2 arg3 harg3 arg4 harg4 arg6 harg6 arg7 harg7 x0 x1 x2 x4 x5) (kernelRun0_A.sl.r_65 (F := F) c arg2 harg2 arg6 harg6 arg7 harg7 x0 x4 x5) (kernelRun0_A.sl.r_255 (F := F) c arg3 harg3 arg4 harg4 arg6 harg6 arg7 harg7 arg9 x1 x2 x4 x5) (kernelRun0_A.sl.r_256 (F := F) c arg3 harg3 arg4 harg4 arg6 harg6 arg7 harg7 arg9 x1 x2 x4 x5) = pO x0 x1 x2 x4 x5 k0_pay3 2 1 := by
  change _ = gO (pOI x0 x1 x2 x4 x5 2 1) (pQD x0 x4 x5 2 1) (pS0 x1 x2 x4 x5 k0_pay3 1 2) (pS1 x1 x2 x4 x5 k0_pay3 1 2)
  rw [← oi_2_1 c harg2 harg3 harg4 harg6 harg7 x0 x1 x2 x4 x5, ← qd_2_1 c harg2 harg6 harg7 x0 x4 x5, ← st0_1_2 c harg3 harg4 harg6 harg7 x1 x2 x4 x5 (arg9 := arg9), ← st1_1_2 c harg3 harg4 harg6 harg7 x1 x2 x4 x5 (arg9 := arg9)]

theorem st0_1_3 :
    kernelRun0_A.sl.r_260 (F := F) c arg3 harg3 arg4 harg4 arg6 harg6 arg7 harg7 arg9 x1 x2 x4 x5 = pS0 x1 x2 x4 x5 k0_pay3 1 3 := by
  change _ = gN (pS0 x1 x2 x4 x5 k0_pay3 1 2) (endn 2) (pKV0 x1 x2 x4 x5 2 1)
  rw [← kv0_2_1 c harg3 harg4 harg6 harg7 x1 x2 x4 x5, ← st0_1_2 c harg3 harg4 harg6 harg7 x1 x2 x4 x5 (arg9 := arg9)]
  rfl

theorem st1_1_3 :
    kernelRun0_A.sl.r_261 (F := F) c arg3 harg3 arg4 harg4 arg6 harg6 arg7 harg7 arg9 x1 x2 x4 x5 = pS1 x1 x2 x4 x5 k0_pay3 1 3 := by
  change _ = gN (pS1 x1 x2 x4 x5 k0_pay3 1 2) (endn 3) (pKV1 x1 x2 x4 x5 2 1)
  rw [← kv1_2_1 c harg3 harg4 harg6 harg7 x1 x2 x4 x5, ← st1_1_2 c harg3 harg4 harg6 harg7 x1 x2 x4 x5 (arg9 := arg9)]
  rfl

theorem o_3_1 :
    gO (kernelRun0_A.sl.v1037 (F := F) c arg2 harg2 arg3 harg3 arg4 harg4 arg6 harg6 arg7 harg7 x0 x1 x2 x4 x5) (kernelRun0_A.sl.r_94 (F := F) c arg2 harg2 arg6 harg6 arg7 harg7 x0 x4 x5) (kernelRun0_A.sl.r_260 (F := F) c arg3 harg3 arg4 harg4 arg6 harg6 arg7 harg7 arg9 x1 x2 x4 x5) (kernelRun0_A.sl.r_261 (F := F) c arg3 harg3 arg4 harg4 arg6 harg6 arg7 harg7 arg9 x1 x2 x4 x5) = pO x0 x1 x2 x4 x5 k0_pay3 3 1 := by
  change _ = gO (pOI x0 x1 x2 x4 x5 3 1) (pQD x0 x4 x5 3 1) (pS0 x1 x2 x4 x5 k0_pay3 1 3) (pS1 x1 x2 x4 x5 k0_pay3 1 3)
  rw [← oi_3_1 c harg2 harg3 harg4 harg6 harg7 x0 x1 x2 x4 x5, ← qd_3_1 c harg2 harg6 harg7 x0 x4 x5, ← st0_1_3 c harg3 harg4 harg6 harg7 x1 x2 x4 x5 (arg9 := arg9), ← st1_1_3 c harg3 harg4 harg6 harg7 x1 x2 x4 x5 (arg9 := arg9)]

theorem st0_1_4 :
    kernelRun0_A.sl.r_264 (F := F) c arg3 harg3 arg4 harg4 arg6 harg6 arg7 harg7 arg9 x1 x2 x4 x5 = pS0 x1 x2 x4 x5 k0_pay3 1 4 := by
  change _ = gN (pS0 x1 x2 x4 x5 k0_pay3 1 3) (endn 2) (pKV0 x1 x2 x4 x5 3 1)
  rw [← kv0_3_1 c harg3 harg4 harg6 harg7 x1 x2 x4 x5, ← st0_1_3 c harg3 harg4 harg6 harg7 x1 x2 x4 x5 (arg9 := arg9)]
  rfl

theorem st1_1_4 :
    kernelRun0_A.sl.r_265 (F := F) c arg3 harg3 arg4 harg4 arg6 harg6 arg7 harg7 arg9 x1 x2 x4 x5 = pS1 x1 x2 x4 x5 k0_pay3 1 4 := by
  change _ = gN (pS1 x1 x2 x4 x5 k0_pay3 1 3) (endn 3) (pKV1 x1 x2 x4 x5 3 1)
  rw [← kv1_3_1 c harg3 harg4 harg6 harg7 x1 x2 x4 x5, ← st1_1_3 c harg3 harg4 harg6 harg7 x1 x2 x4 x5 (arg9 := arg9)]
  rfl

theorem o_4_1 :
    gO (kernelRun0_A.sl.r_119 (F := F) c arg2 harg2 arg3 harg3 arg4 harg4 arg6 harg6 arg7 harg7 x0 x1 x2 x4 x5) (kernelRun0_A.sl.r_118 (F := F) c arg2 harg2 arg6 harg6 arg7 harg7 x0 x4 x5) (kernelRun0_A.sl.r_264 (F := F) c arg3 harg3 arg4 harg4 arg6 harg6 arg7 harg7 arg9 x1 x2 x4 x5) (kernelRun0_A.sl.r_265 (F := F) c arg3 harg3 arg4 harg4 arg6 harg6 arg7 harg7 arg9 x1 x2 x4 x5) = pO x0 x1 x2 x4 x5 k0_pay3 4 1 := by
  change _ = gO (pOI x0 x1 x2 x4 x5 4 1) (pQD x0 x4 x5 4 1) (pS0 x1 x2 x4 x5 k0_pay3 1 4) (pS1 x1 x2 x4 x5 k0_pay3 1 4)
  rw [← oi_4_1 c harg2 harg3 harg4 harg6 harg7 x0 x1 x2 x4 x5, ← qd_4_1 c harg2 harg6 harg7 x0 x4 x5, ← st0_1_4 c harg3 harg4 harg6 harg7 x1 x2 x4 x5 (arg9 := arg9), ← st1_1_4 c harg3 harg4 harg6 harg7 x1 x2 x4 x5 (arg9 := arg9)]

theorem st0_1_5 :
    kernelRun0_A.sl.r_268 (F := F) c arg3 harg3 arg4 harg4 arg6 harg6 arg7 harg7 arg9 x1 x2 x4 x5 = pS0 x1 x2 x4 x5 k0_pay3 1 5 := by
  change _ = gN (pS0 x1 x2 x4 x5 k0_pay3 1 4) (endn 2) (pKV0 x1 x2 x4 x5 4 1)
  rw [← kv0_4_1 c harg3 harg4 harg6 harg7 x1 x2 x4 x5, ← st0_1_4 c harg3 harg4 harg6 harg7 x1 x2 x4 x5 (arg9 := arg9)]
  rfl

theorem st1_1_5 :
    kernelRun0_A.sl.r_269 (F := F) c arg3 harg3 arg4 harg4 arg6 harg6 arg7 harg7 arg9 x1 x2 x4 x5 = pS1 x1 x2 x4 x5 k0_pay3 1 5 := by
  change _ = gN (pS1 x1 x2 x4 x5 k0_pay3 1 4) (endn 3) (pKV1 x1 x2 x4 x5 4 1)
  rw [← kv1_4_1 c harg3 harg4 harg6 harg7 x1 x2 x4 x5, ← st1_1_4 c harg3 harg4 harg6 harg7 x1 x2 x4 x5 (arg9 := arg9)]
  rfl

theorem o_5_1 :
    gO (kernelRun0_A.sl.r_143 (F := F) c arg2 harg2 arg3 harg3 arg4 harg4 arg6 harg6 arg7 harg7 x0 x1 x2 x4 x5) (kernelRun0_A.sl.r_142 (F := F) c arg2 harg2 arg6 harg6 arg7 harg7 x0 x4 x5) (kernelRun0_A.sl.r_268 (F := F) c arg3 harg3 arg4 harg4 arg6 harg6 arg7 harg7 arg9 x1 x2 x4 x5) (kernelRun0_A.sl.r_269 (F := F) c arg3 harg3 arg4 harg4 arg6 harg6 arg7 harg7 arg9 x1 x2 x4 x5) = pO x0 x1 x2 x4 x5 k0_pay3 5 1 := by
  change _ = gO (pOI x0 x1 x2 x4 x5 5 1) (pQD x0 x4 x5 5 1) (pS0 x1 x2 x4 x5 k0_pay3 1 5) (pS1 x1 x2 x4 x5 k0_pay3 1 5)
  rw [← oi_5_1 c harg2 harg3 harg4 harg6 harg7 x0 x1 x2 x4 x5, ← qd_5_1 c harg2 harg6 harg7 x0 x4 x5, ← st0_1_5 c harg3 harg4 harg6 harg7 x1 x2 x4 x5 (arg9 := arg9), ← st1_1_5 c harg3 harg4 harg6 harg7 x1 x2 x4 x5 (arg9 := arg9)]

theorem st0_1_6 :
    kernelRun0_A.sl.r_275 (F := F) c arg3 harg3 arg4 harg4 arg6 harg6 arg7 harg7 arg9 x1 x2 x4 x5 = pS0 x1 x2 x4 x5 k0_pay3 1 6 := by
  change _ = gN (pS0 x1 x2 x4 x5 k0_pay3 1 5) (endn 2) (pKV0 x1 x2 x4 x5 5 1)
  rw [← kv0_5_1 c harg3 harg4 harg6 harg7 x1 x2 x4 x5, ← st0_1_5 c harg3 harg4 harg6 harg7 x1 x2 x4 x5 (arg9 := arg9)]
  rfl

theorem st1_1_6 :
    kernelRun0_A.sl.r_276 (F := F) c arg3 harg3 arg4 harg4 arg6 harg6 arg7 harg7 arg9 x1 x2 x4 x5 = pS1 x1 x2 x4 x5 k0_pay3 1 6 := by
  change _ = gN (pS1 x1 x2 x4 x5 k0_pay3 1 5) (endn 3) (pKV1 x1 x2 x4 x5 5 1)
  rw [← kv1_5_1 c harg3 harg4 harg6 harg7 x1 x2 x4 x5, ← st1_1_5 c harg3 harg4 harg6 harg7 x1 x2 x4 x5 (arg9 := arg9)]
  rfl

theorem o_6_1 :
    gO (kernelRun0_A.sl.r_172 (F := F) c arg2 harg2 arg3 harg3 arg4 harg4 arg6 harg6 arg7 harg7 x0 x1 x2 x4 x5) (kernelRun0_A.sl.r_171 (F := F) c arg2 harg2 arg6 harg6 arg7 harg7 x0 x4 x5) (kernelRun0_A.sl.r_275 (F := F) c arg3 harg3 arg4 harg4 arg6 harg6 arg7 harg7 arg9 x1 x2 x4 x5) (kernelRun0_A.sl.r_276 (F := F) c arg3 harg3 arg4 harg4 arg6 harg6 arg7 harg7 arg9 x1 x2 x4 x5) = pO x0 x1 x2 x4 x5 k0_pay3 6 1 := by
  change _ = gO (pOI x0 x1 x2 x4 x5 6 1) (pQD x0 x4 x5 6 1) (pS0 x1 x2 x4 x5 k0_pay3 1 6) (pS1 x1 x2 x4 x5 k0_pay3 1 6)
  rw [← oi_6_1 c harg2 harg3 harg4 harg6 harg7 x0 x1 x2 x4 x5, ← qd_6_1 c harg2 harg6 harg7 x0 x4 x5, ← st0_1_6 c harg3 harg4 harg6 harg7 x1 x2 x4 x5 (arg9 := arg9), ← st1_1_6 c harg3 harg4 harg6 harg7 x1 x2 x4 x5 (arg9 := arg9)]

theorem st0_1_7 :
    kernelRun0_A.sl.r_279 (F := F) c arg3 harg3 arg4 harg4 arg6 harg6 arg7 harg7 arg9 x1 x2 x4 x5 = pS0 x1 x2 x4 x5 k0_pay3 1 7 := by
  change _ = gN (pS0 x1 x2 x4 x5 k0_pay3 1 6) (endn 2) (pKV0 x1 x2 x4 x5 6 1)
  rw [← kv0_6_1 c harg3 harg4 harg6 harg7 x1 x2 x4 x5, ← st0_1_6 c harg3 harg4 harg6 harg7 x1 x2 x4 x5 (arg9 := arg9)]
  rfl

theorem st1_1_7 :
    kernelRun0_A.sl.r_280 (F := F) c arg3 harg3 arg4 harg4 arg6 harg6 arg7 harg7 arg9 x1 x2 x4 x5 = pS1 x1 x2 x4 x5 k0_pay3 1 7 := by
  change _ = gN (pS1 x1 x2 x4 x5 k0_pay3 1 6) (endn 3) (pKV1 x1 x2 x4 x5 6 1)
  rw [← kv1_6_1 c harg3 harg4 harg6 harg7 x1 x2 x4 x5, ← st1_1_6 c harg3 harg4 harg6 harg7 x1 x2 x4 x5 (arg9 := arg9)]
  rfl

theorem o_7_1 :
    gO (kernelRun0_A.sl.v2173 (F := F) c arg2 harg2 arg3 harg3 arg4 harg4 arg6 harg6 arg7 harg7 x0 x1 x2 x4 x5) (kernelRun0_A.sl.r_201 (F := F) c arg2 harg2 arg6 harg6 arg7 harg7 x0 x4 x5) (kernelRun0_A.sl.r_279 (F := F) c arg3 harg3 arg4 harg4 arg6 harg6 arg7 harg7 arg9 x1 x2 x4 x5) (kernelRun0_A.sl.r_280 (F := F) c arg3 harg3 arg4 harg4 arg6 harg6 arg7 harg7 arg9 x1 x2 x4 x5) = pO x0 x1 x2 x4 x5 k0_pay3 7 1 := by
  change _ = gO (pOI x0 x1 x2 x4 x5 7 1) (pQD x0 x4 x5 7 1) (pS0 x1 x2 x4 x5 k0_pay3 1 7) (pS1 x1 x2 x4 x5 k0_pay3 1 7)
  rw [← oi_7_1 c harg2 harg3 harg4 harg6 harg7 x0 x1 x2 x4 x5, ← qd_7_1 c harg2 harg6 harg7 x0 x4 x5, ← st0_1_7 c harg3 harg4 harg6 harg7 x1 x2 x4 x5 (arg9 := arg9), ← st1_1_7 c harg3 harg4 harg6 harg7 x1 x2 x4 x5 (arg9 := arg9)]

theorem st0_1_8 :
    kernelRun0_A.sl.r_283 (F := F) c arg3 harg3 arg4 harg4 arg6 harg6 arg7 harg7 arg9 x1 x2 x4 x5 = pS0 x1 x2 x4 x5 k0_pay3 1 8 := by
  change _ = gN (pS0 x1 x2 x4 x5 k0_pay3 1 7) (endn 2) (pKV0 x1 x2 x4 x5 7 1)
  rw [← kv0_7_1 c harg3 harg4 harg6 harg7 x1 x2 x4 x5, ← st0_1_7 c harg3 harg4 harg6 harg7 x1 x2 x4 x5 (arg9 := arg9)]
  rfl

theorem st1_1_8 :
    kernelRun0_A.sl.r_284 (F := F) c arg3 harg3 arg4 harg4 arg6 harg6 arg7 harg7 arg9 x1 x2 x4 x5 = pS1 x1 x2 x4 x5 k0_pay3 1 8 := by
  change _ = gN (pS1 x1 x2 x4 x5 k0_pay3 1 7) (endn 3) (pKV1 x1 x2 x4 x5 7 1)
  rw [← kv1_7_1 c harg3 harg4 harg6 harg7 x1 x2 x4 x5, ← st1_1_7 c harg3 harg4 harg6 harg7 x1 x2 x4 x5 (arg9 := arg9)]
  rfl

theorem o_0_2 :
    gO (kernelRun0_A.sl.r_17 (F := F) c arg2 harg2 arg3 harg3 arg4 harg4 arg6 harg6 arg7 harg7 x0 x1 x2 x4 x5) (kernelRun0_A.sl.r_16 (F := F) c arg2 harg2 arg6 harg6 arg7 harg7 x0 x4 x5) (shapeCast S128x256 (kernelRun0_A.sl.v3292 (F := F) c arg3 harg3 arg4 harg4 arg6 harg6 arg7 harg7 arg9 x1 x2 x4 x5) shapeCasts_S1x128x256_S128x256) (shapeCast S128x256 (kernelRun0_A.sl.v3294 (F := F) c arg3 harg3 arg4 harg4 arg6 harg6 arg7 harg7 arg9 x1 x2 x4 x5) shapeCasts_S1x128x256_S128x256) = pO x0 x1 x2 x4 x5 k0_pay3 0 2 := by
  change _ = gO (pOI x0 x1 x2 x4 x5 0 2) (pQD x0 x4 x5 0 2) (shapeCast S128x256 (hd k0_pay3 4) shapeCasts_S1x128x256_S128x256) (shapeCast S128x256 (hd k0_pay3 5) shapeCasts_S1x128x256_S128x256)
  rw [← oi_0_2 c harg2 harg3 harg4 harg6 harg7 x0 x1 x2 x4 x5, ← qd_0_2 c harg2 harg6 harg7 x0 x4 x5, ← z0_2 c harg3 harg4 harg6 harg7 x1 x2 x4 x5 (arg9 := arg9), ← z1_2 c harg3 harg4 harg6 harg7 x1 x2 x4 x5 (arg9 := arg9)]

theorem st0_2_1 :
    kernelRun0_A.sl.r_286 (F := F) c arg3 harg3 arg4 harg4 arg6 harg6 arg7 harg7 arg9 x1 x2 x4 x5 = pS0 x1 x2 x4 x5 k0_pay3 2 1 := by
  change _ = gN (shapeCast S128x256 (hd k0_pay3 4) shapeCasts_S1x128x256_S128x256) (endn 4) (pKV0 x1 x2 x4 x5 0 2)
  rw [← kv0_0_2 c harg3 harg4 harg6 harg7 x1 x2 x4 x5, ← z0_2 c harg3 harg4 harg6 harg7 x1 x2 x4 x5 (arg9 := arg9)]
  rfl

theorem st1_2_1 :
    kernelRun0_A.sl.r_287 (F := F) c arg3 harg3 arg4 harg4 arg6 harg6 arg7 harg7 arg9 x1 x2 x4 x5 = pS1 x1 x2 x4 x5 k0_pay3 2 1 := by
  change _ = gN (shapeCast S128x256 (hd k0_pay3 5) shapeCasts_S1x128x256_S128x256) (endn 5) (pKV1 x1 x2 x4 x5 0 2)
  rw [← kv1_0_2 c harg3 harg4 harg6 harg7 x1 x2 x4 x5, ← z1_2 c harg3 harg4 harg6 harg7 x1 x2 x4 x5 (arg9 := arg9)]
  rfl

theorem o_1_2 :
    gO (kernelRun0_A.sl.r_41 (F := F) c arg2 harg2 arg3 harg3 arg4 harg4 arg6 harg6 arg7 harg7 x0 x1 x2 x4 x5) (kernelRun0_A.sl.r_40 (F := F) c arg2 harg2 arg6 harg6 arg7 harg7 x0 x4 x5) (kernelRun0_A.sl.r_286 (F := F) c arg3 harg3 arg4 harg4 arg6 harg6 arg7 harg7 arg9 x1 x2 x4 x5) (kernelRun0_A.sl.r_287 (F := F) c arg3 harg3 arg4 harg4 arg6 harg6 arg7 harg7 arg9 x1 x2 x4 x5) = pO x0 x1 x2 x4 x5 k0_pay3 1 2 := by
  change _ = gO (pOI x0 x1 x2 x4 x5 1 2) (pQD x0 x4 x5 1 2) (pS0 x1 x2 x4 x5 k0_pay3 2 1) (pS1 x1 x2 x4 x5 k0_pay3 2 1)
  rw [← oi_1_2 c harg2 harg3 harg4 harg6 harg7 x0 x1 x2 x4 x5, ← qd_1_2 c harg2 harg6 harg7 x0 x4 x5, ← st0_2_1 c harg3 harg4 harg6 harg7 x1 x2 x4 x5 (arg9 := arg9), ← st1_2_1 c harg3 harg4 harg6 harg7 x1 x2 x4 x5 (arg9 := arg9)]

theorem st0_2_2 :
    kernelRun0_A.sl.r_293 (F := F) c arg3 harg3 arg4 harg4 arg6 harg6 arg7 harg7 arg9 x1 x2 x4 x5 = pS0 x1 x2 x4 x5 k0_pay3 2 2 := by
  change _ = gN (pS0 x1 x2 x4 x5 k0_pay3 2 1) (endn 4) (pKV0 x1 x2 x4 x5 1 2)
  rw [← kv0_1_2 c harg3 harg4 harg6 harg7 x1 x2 x4 x5, ← st0_2_1 c harg3 harg4 harg6 harg7 x1 x2 x4 x5 (arg9 := arg9)]
  rfl

theorem st1_2_2 :
    kernelRun0_A.sl.r_295 (F := F) c arg3 harg3 arg4 harg4 arg6 harg6 arg7 harg7 arg9 x1 x2 x4 x5 = pS1 x1 x2 x4 x5 k0_pay3 2 2 := by
  change _ = gN (pS1 x1 x2 x4 x5 k0_pay3 2 1) (endn 5) (pKV1 x1 x2 x4 x5 1 2)
  rw [← kv1_1_2 c harg3 harg4 harg6 harg7 x1 x2 x4 x5, ← st1_2_1 c harg3 harg4 harg6 harg7 x1 x2 x4 x5 (arg9 := arg9)]
  rfl

theorem o_2_2 :
    gO (kernelRun0_A.sl.r_70 (F := F) c arg2 harg2 arg3 harg3 arg4 harg4 arg6 harg6 arg7 harg7 x0 x1 x2 x4 x5) (kernelRun0_A.sl.r_69 (F := F) c arg2 harg2 arg6 harg6 arg7 harg7 x0 x4 x5) (kernelRun0_A.sl.r_293 (F := F) c arg3 harg3 arg4 harg4 arg6 harg6 arg7 harg7 arg9 x1 x2 x4 x5) (kernelRun0_A.sl.r_295 (F := F) c arg3 harg3 arg4 harg4 arg6 harg6 arg7 harg7 arg9 x1 x2 x4 x5) = pO x0 x1 x2 x4 x5 k0_pay3 2 2 := by
  change _ = gO (pOI x0 x1 x2 x4 x5 2 2) (pQD x0 x4 x5 2 2) (pS0 x1 x2 x4 x5 k0_pay3 2 2) (pS1 x1 x2 x4 x5 k0_pay3 2 2)
  rw [← oi_2_2 c harg2 harg3 harg4 harg6 harg7 x0 x1 x2 x4 x5, ← qd_2_2 c harg2 harg6 harg7 x0 x4 x5, ← st0_2_2 c harg3 harg4 harg6 harg7 x1 x2 x4 x5 (arg9 := arg9), ← st1_2_2 c harg3 harg4 harg6 harg7 x1 x2 x4 x5 (arg9 := arg9)]

theorem st0_2_3 :
    kernelRun0_A.sl.r_297 (F := F) c arg3 harg3 arg4 harg4 arg6 harg6 arg7 harg7 arg9 x1 x2 x4 x5 = pS0 x1 x2 x4 x5 k0_pay3 2 3 := by
  change _ = gN (pS0 x1 x2 x4 x5 k0_pay3 2 2) (endn 4) (pKV0 x1 x2 x4 x5 2 2)
  rw [← kv0_2_2 c harg3 harg4 harg6 harg7 x1 x2 x4 x5, ← st0_2_2 c harg3 harg4 harg6 harg7 x1 x2 x4 x5 (arg9 := arg9)]
  rfl

theorem st1_2_3 :
    kernelRun0_A.sl.r_298 (F := F) c arg3 harg3 arg4 harg4 arg6 harg6 arg7 harg7 arg9 x1 x2 x4 x5 = pS1 x1 x2 x4 x5 k0_pay3 2 3 := by
  change _ = gN (pS1 x1 x2 x4 x5 k0_pay3 2 2) (endn 5) (pKV1 x1 x2 x4 x5 2 2)
  rw [← kv1_2_2 c harg3 harg4 harg6 harg7 x1 x2 x4 x5, ← st1_2_2 c harg3 harg4 harg6 harg7 x1 x2 x4 x5 (arg9 := arg9)]
  rfl

theorem o_3_2 :
    gO (kernelRun0_A.sl.v1108 (F := F) c arg2 harg2 arg3 harg3 arg4 harg4 arg6 harg6 arg7 harg7 x0 x1 x2 x4 x5) (kernelRun0_A.sl.r_99 (F := F) c arg2 harg2 arg6 harg6 arg7 harg7 x0 x4 x5) (kernelRun0_A.sl.r_297 (F := F) c arg3 harg3 arg4 harg4 arg6 harg6 arg7 harg7 arg9 x1 x2 x4 x5) (kernelRun0_A.sl.r_298 (F := F) c arg3 harg3 arg4 harg4 arg6 harg6 arg7 harg7 arg9 x1 x2 x4 x5) = pO x0 x1 x2 x4 x5 k0_pay3 3 2 := by
  change _ = gO (pOI x0 x1 x2 x4 x5 3 2) (pQD x0 x4 x5 3 2) (pS0 x1 x2 x4 x5 k0_pay3 2 3) (pS1 x1 x2 x4 x5 k0_pay3 2 3)
  rw [← oi_3_2 c harg2 harg3 harg4 harg6 harg7 x0 x1 x2 x4 x5, ← qd_3_2 c harg2 harg6 harg7 x0 x4 x5, ← st0_2_3 c harg3 harg4 harg6 harg7 x1 x2 x4 x5 (arg9 := arg9), ← st1_2_3 c harg3 harg4 harg6 harg7 x1 x2 x4 x5 (arg9 := arg9)]

theorem st0_2_4 :
    kernelRun0_A.sl.r_301 (F := F) c arg3 harg3 arg4 harg4 arg6 harg6 arg7 harg7 arg9 x1 x2 x4 x5 = pS0 x1 x2 x4 x5 k0_pay3 2 4 := by
  change _ = gN (pS0 x1 x2 x4 x5 k0_pay3 2 3) (endn 4) (pKV0 x1 x2 x4 x5 3 2)
  rw [← kv0_3_2 c harg3 harg4 harg6 harg7 x1 x2 x4 x5, ← st0_2_3 c harg3 harg4 harg6 harg7 x1 x2 x4 x5 (arg9 := arg9)]
  rfl

theorem st1_2_4 :
    kernelRun0_A.sl.r_302 (F := F) c arg3 harg3 arg4 harg4 arg6 harg6 arg7 harg7 arg9 x1 x2 x4 x5 = pS1 x1 x2 x4 x5 k0_pay3 2 4 := by
  change _ = gN (pS1 x1 x2 x4 x5 k0_pay3 2 3) (endn 5) (pKV1 x1 x2 x4 x5 3 2)
  rw [← kv1_3_2 c harg3 harg4 harg6 harg7 x1 x2 x4 x5, ← st1_2_3 c harg3 harg4 harg6 harg7 x1 x2 x4 x5 (arg9 := arg9)]
  rfl

theorem o_4_2 :
    gO (kernelRun0_A.sl.v1392 (F := F) c arg2 harg2 arg3 harg3 arg4 harg4 arg6 harg6 arg7 harg7 x0 x1 x2 x4 x5) (kernelRun0_A.sl.r_128 (F := F) c arg2 harg2 arg6 harg6 arg7 harg7 x0 x4 x5) (kernelRun0_A.sl.r_301 (F := F) c arg3 harg3 arg4 harg4 arg6 harg6 arg7 harg7 arg9 x1 x2 x4 x5) (kernelRun0_A.sl.r_302 (F := F) c arg3 harg3 arg4 harg4 arg6 harg6 arg7 harg7 arg9 x1 x2 x4 x5) = pO x0 x1 x2 x4 x5 k0_pay3 4 2 := by
  change _ = gO (pOI x0 x1 x2 x4 x5 4 2) (pQD x0 x4 x5 4 2) (pS0 x1 x2 x4 x5 k0_pay3 2 4) (pS1 x1 x2 x4 x5 k0_pay3 2 4)
  rw [← oi_4_2 c harg2 harg3 harg4 harg6 harg7 x0 x1 x2 x4 x5, ← qd_4_2 c harg2 harg6 harg7 x0 x4 x5, ← st0_2_4 c harg3 harg4 harg6 harg7 x1 x2 x4 x5 (arg9 := arg9), ← st1_2_4 c harg3 harg4 harg6 harg7 x1 x2 x4 x5 (arg9 := arg9)]

theorem st0_2_5 :
    kernelRun0_A.sl.r_307 (F := F) c arg3 harg3 arg4 harg4 arg6 harg6 arg7 harg7 arg9 x1 x2 x4 x5 = pS0 x1 x2 x4 x5 k0_pay3 2 5 := by
  change _ = gN (pS0 x1 x2 x4 x5 k0_pay3 2 4) (endn 4) (pKV0 x1 x2 x4 x5 4 2)
  rw [← kv0_4_2 c harg3 harg4 harg6 harg7 x1 x2 x4 x5, ← st0_2_4 c harg3 harg4 harg6 harg7 x1 x2 x4 x5 (arg9 := arg9)]
  rfl

theorem st1_2_5 :
    kernelRun0_A.sl.r_308 (F := F) c arg3 harg3 arg4 harg4 arg6 harg6 arg7 harg7 arg9 x1 x2 x4 x5 = pS1 x1 x2 x4 x5 k0_pay3 2 5 := by
  change _ = gN (pS1 x1 x2 x4 x5 k0_pay3 2 4) (endn 5) (pKV1 x1 x2 x4 x5 4 2)
  rw [← kv1_4_2 c harg3 harg4 harg6 harg7 x1 x2 x4 x5, ← st1_2_4 c harg3 harg4 harg6 harg7 x1 x2 x4 x5 (arg9 := arg9)]
  rfl

theorem o_5_2 :
    gO (kernelRun0_A.sl.r_153 (F := F) c arg2 harg2 arg3 harg3 arg4 harg4 arg6 harg6 arg7 harg7 x0 x1 x2 x4 x5) (kernelRun0_A.sl.r_152 (F := F) c arg2 harg2 arg6 harg6 arg7 harg7 x0 x4 x5) (kernelRun0_A.sl.r_307 (F := F) c arg3 harg3 arg4 harg4 arg6 harg6 arg7 harg7 arg9 x1 x2 x4 x5) (kernelRun0_A.sl.r_308 (F := F) c arg3 harg3 arg4 harg4 arg6 harg6 arg7 harg7 arg9 x1 x2 x4 x5) = pO x0 x1 x2 x4 x5 k0_pay3 5 2 := by
  change _ = gO (pOI x0 x1 x2 x4 x5 5 2) (pQD x0 x4 x5 5 2) (pS0 x1 x2 x4 x5 k0_pay3 2 5) (pS1 x1 x2 x4 x5 k0_pay3 2 5)
  rw [← oi_5_2 c harg2 harg3 harg4 harg6 harg7 x0 x1 x2 x4 x5, ← qd_5_2 c harg2 harg6 harg7 x0 x4 x5, ← st0_2_5 c harg3 harg4 harg6 harg7 x1 x2 x4 x5 (arg9 := arg9), ← st1_2_5 c harg3 harg4 harg6 harg7 x1 x2 x4 x5 (arg9 := arg9)]

theorem st0_2_6 :
    kernelRun0_A.sl.r_312 (F := F) c arg3 harg3 arg4 harg4 arg6 harg6 arg7 harg7 arg9 x1 x2 x4 x5 = pS0 x1 x2 x4 x5 k0_pay3 2 6 := by
  change _ = gN (pS0 x1 x2 x4 x5 k0_pay3 2 5) (endn 4) (pKV0 x1 x2 x4 x5 5 2)
  rw [← kv0_5_2 c harg3 harg4 harg6 harg7 x1 x2 x4 x5, ← st0_2_5 c harg3 harg4 harg6 harg7 x1 x2 x4 x5 (arg9 := arg9)]
  rfl

theorem st1_2_6 :
    kernelRun0_A.sl.r_313 (F := F) c arg3 harg3 arg4 harg4 arg6 harg6 arg7 harg7 arg9 x1 x2 x4 x5 = pS1 x1 x2 x4 x5 k0_pay3 2 6 := by
  change _ = gN (pS1 x1 x2 x4 x5 k0_pay3 2 5) (endn 5) (pKV1 x1 x2 x4 x5 5 2)
  rw [← kv1_5_2 c harg3 harg4 harg6 harg7 x1 x2 x4 x5, ← st1_2_5 c harg3 harg4 harg6 harg7 x1 x2 x4 x5 (arg9 := arg9)]
  rfl

theorem o_6_2 :
    gO (kernelRun0_A.sl.r_177 (F := F) c arg2 harg2 arg3 harg3 arg4 harg4 arg6 harg6 arg7 harg7 x0 x1 x2 x4 x5) (kernelRun0_A.sl.r_176 (F := F) c arg2 harg2 arg6 harg6 arg7 harg7 x0 x4 x5) (kernelRun0_A.sl.r_312 (F := F) c arg3 harg3 arg4 harg4 arg6 harg6 arg7 harg7 arg9 x1 x2 x4 x5) (kernelRun0_A.sl.r_313 (F := F) c arg3 harg3 arg4 harg4 arg6 harg6 arg7 harg7 arg9 x1 x2 x4 x5) = pO x0 x1 x2 x4 x5 k0_pay3 6 2 := by
  change _ = gO (pOI x0 x1 x2 x4 x5 6 2) (pQD x0 x4 x5 6 2) (pS0 x1 x2 x4 x5 k0_pay3 2 6) (pS1 x1 x2 x4 x5 k0_pay3 2 6)
  rw [← oi_6_2 c harg2 harg3 harg4 harg6 harg7 x0 x1 x2 x4 x5, ← qd_6_2 c harg2 harg6 harg7 x0 x4 x5, ← st0_2_6 c harg3 harg4 harg6 harg7 x1 x2 x4 x5 (arg9 := arg9), ← st1_2_6 c harg3 harg4 harg6 harg7 x1 x2 x4 x5 (arg9 := arg9)]

theorem st0_2_7 :
    kernelRun0_A.sl.r_319 (F := F) c arg3 harg3 arg4 harg4 arg6 harg6 arg7 harg7 arg9 x1 x2 x4 x5 = pS0 x1 x2 x4 x5 k0_pay3 2 7 := by
  change _ = gN (pS0 x1 x2 x4 x5 k0_pay3 2 6) (endn 4) (pKV0 x1 x2 x4 x5 6 2)
  rw [← kv0_6_2 c harg3 harg4 harg6 harg7 x1 x2 x4 x5, ← st0_2_6 c harg3 harg4 harg6 harg7 x1 x2 x4 x5 (arg9 := arg9)]
  rfl

theorem st1_2_7 :
    kernelRun0_A.sl.r_320 (F := F) c arg3 harg3 arg4 harg4 arg6 harg6 arg7 harg7 arg9 x1 x2 x4 x5 = pS1 x1 x2 x4 x5 k0_pay3 2 7 := by
  change _ = gN (pS1 x1 x2 x4 x5 k0_pay3 2 6) (endn 5) (pKV1 x1 x2 x4 x5 6 2)
  rw [← kv1_6_2 c harg3 harg4 harg6 harg7 x1 x2 x4 x5, ← st1_2_6 c harg3 harg4 harg6 harg7 x1 x2 x4 x5 (arg9 := arg9)]
  rfl

theorem o_7_2 :
    gO (kernelRun0_A.sl.r_206 (F := F) c arg2 harg2 arg3 harg3 arg4 harg4 arg6 harg6 arg7 harg7 x0 x1 x2 x4 x5) (kernelRun0_A.sl.r_205 (F := F) c arg2 harg2 arg6 harg6 arg7 harg7 x0 x4 x5) (kernelRun0_A.sl.r_319 (F := F) c arg3 harg3 arg4 harg4 arg6 harg6 arg7 harg7 arg9 x1 x2 x4 x5) (kernelRun0_A.sl.r_320 (F := F) c arg3 harg3 arg4 harg4 arg6 harg6 arg7 harg7 arg9 x1 x2 x4 x5) = pO x0 x1 x2 x4 x5 k0_pay3 7 2 := by
  change _ = gO (pOI x0 x1 x2 x4 x5 7 2) (pQD x0 x4 x5 7 2) (pS0 x1 x2 x4 x5 k0_pay3 2 7) (pS1 x1 x2 x4 x5 k0_pay3 2 7)
  rw [← oi_7_2 c harg2 harg3 harg4 harg6 harg7 x0 x1 x2 x4 x5, ← qd_7_2 c harg2 harg6 harg7 x0 x4 x5, ← st0_2_7 c harg3 harg4 harg6 harg7 x1 x2 x4 x5 (arg9 := arg9), ← st1_2_7 c harg3 harg4 harg6 harg7 x1 x2 x4 x5 (arg9 := arg9)]

theorem st0_2_8 :
    kernelRun0_A.sl.r_323 (F := F) c arg3 harg3 arg4 harg4 arg6 harg6 arg7 harg7 arg9 x1 x2 x4 x5 = pS0 x1 x2 x4 x5 k0_pay3 2 8 := by
  change _ = gN (pS0 x1 x2 x4 x5 k0_pay3 2 7) (endn 4) (pKV0 x1 x2 x4 x5 7 2)
  rw [← kv0_7_2 c harg3 harg4 harg6 harg7 x1 x2 x4 x5, ← st0_2_7 c harg3 harg4 harg6 harg7 x1 x2 x4 x5 (arg9 := arg9)]
  rfl

theorem st1_2_8 :
    kernelRun0_A.sl.r_324 (F := F) c arg3 harg3 arg4 harg4 arg6 harg6 arg7 harg7 arg9 x1 x2 x4 x5 = pS1 x1 x2 x4 x5 k0_pay3 2 8 := by
  change _ = gN (pS1 x1 x2 x4 x5 k0_pay3 2 7) (endn 5) (pKV1 x1 x2 x4 x5 7 2)
  rw [← kv1_7_2 c harg3 harg4 harg6 harg7 x1 x2 x4 x5, ← st1_2_7 c harg3 harg4 harg6 harg7 x1 x2 x4 x5 (arg9 := arg9)]
  rfl

theorem o_0_3 :
    gO (kernelRun0_A.sl.v327 (F := F) c arg2 harg2 arg3 harg3 arg4 harg4 arg6 harg6 arg7 harg7 x0 x1 x2 x4 x5) (kernelRun0_A.sl.r_26 (F := F) c arg2 harg2 arg6 harg6 arg7 harg7 x0 x4 x5) (shapeCast S128x256 (kernelRun0_A.sl.v3770 (F := F) c arg3 harg3 arg4 harg4 arg6 harg6 arg7 harg7 arg9 x1 x2 x4 x5) shapeCasts_S1x128x256_S128x256) (shapeCast S128x256 (kernelRun0_A.sl.v3772 (F := F) c arg3 harg3 arg4 harg4 arg6 harg6 arg7 harg7 arg9 x1 x2 x4 x5) shapeCasts_S1x128x256_S128x256) = pO x0 x1 x2 x4 x5 k0_pay3 0 3 := by
  change _ = gO (pOI x0 x1 x2 x4 x5 0 3) (pQD x0 x4 x5 0 3) (shapeCast S128x256 (hd k0_pay3 6) shapeCasts_S1x128x256_S128x256) (shapeCast S128x256 (hd k0_pay3 7) shapeCasts_S1x128x256_S128x256)
  rw [← oi_0_3 c harg2 harg3 harg4 harg6 harg7 x0 x1 x2 x4 x5, ← qd_0_3 c harg2 harg6 harg7 x0 x4 x5, ← z0_3 c harg3 harg4 harg6 harg7 x1 x2 x4 x5 (arg9 := arg9), ← z1_3 c harg3 harg4 harg6 harg7 x1 x2 x4 x5 (arg9 := arg9)]

theorem st0_3_1 :
    kernelRun0_A.sl.r_330 (F := F) c arg3 harg3 arg4 harg4 arg6 harg6 arg7 harg7 arg9 x1 x2 x4 x5 = pS0 x1 x2 x4 x5 k0_pay3 3 1 := by
  change _ = gN (shapeCast S128x256 (hd k0_pay3 6) shapeCasts_S1x128x256_S128x256) (endn 6) (pKV0 x1 x2 x4 x5 0 3)
  rw [← kv0_0_3 c harg3 harg4 harg6 harg7 x1 x2 x4 x5, ← z0_3 c harg3 harg4 harg6 harg7 x1 x2 x4 x5 (arg9 := arg9)]
  rfl

theorem st1_3_1 :
    kernelRun0_A.sl.r_331 (F := F) c arg3 harg3 arg4 harg4 arg6 harg6 arg7 harg7 arg9 x1 x2 x4 x5 = pS1 x1 x2 x4 x5 k0_pay3 3 1 := by
  change _ = gN (shapeCast S128x256 (hd k0_pay3 7) shapeCasts_S1x128x256_S128x256) (endn 7) (pKV1 x1 x2 x4 x5 0 3)
  rw [← kv1_0_3 c harg3 harg4 harg6 harg7 x1 x2 x4 x5, ← z1_3 c harg3 harg4 harg6 harg7 x1 x2 x4 x5 (arg9 := arg9)]
  rfl

theorem o_1_3 :
    gO (kernelRun0_A.sl.r_51 (F := F) c arg2 harg2 arg3 harg3 arg4 harg4 arg6 harg6 arg7 harg7 x0 x1 x2 x4 x5) (kernelRun0_A.sl.r_50 (F := F) c arg2 harg2 arg6 harg6 arg7 harg7 x0 x4 x5) (kernelRun0_A.sl.r_330 (F := F) c arg3 harg3 arg4 harg4 arg6 harg6 arg7 harg7 arg9 x1 x2 x4 x5) (kernelRun0_A.sl.r_331 (F := F) c arg3 harg3 arg4 harg4 arg6 harg6 arg7 harg7 arg9 x1 x2 x4 x5) = pO x0 x1 x2 x4 x5 k0_pay3 1 3 := by
  change _ = gO (pOI x0 x1 x2 x4 x5 1 3) (pQD x0 x4 x5 1 3) (pS0 x1 x2 x4 x5 k0_pay3 3 1) (pS1 x1 x2 x4 x5 k0_pay3 3 1)
  rw [← oi_1_3 c harg2 harg3 harg4 harg6 harg7 x0 x1 x2 x4 x5, ← qd_1_3 c harg2 harg6 harg7 x0 x4 x5, ← st0_3_1 c harg3 harg4 harg6 harg7 x1 x2 x4 x5 (arg9 := arg9), ← st1_3_1 c harg3 harg4 harg6 harg7 x1 x2 x4 x5 (arg9 := arg9)]

theorem st0_3_2 :
    kernelRun0_A.sl.r_335 (F := F) c arg3 harg3 arg4 harg4 arg6 harg6 arg7 harg7 arg9 x1 x2 x4 x5 = pS0 x1 x2 x4 x5 k0_pay3 3 2 := by
  change _ = gN (pS0 x1 x2 x4 x5 k0_pay3 3 1) (endn 6) (pKV0 x1 x2 x4 x5 1 3)
  rw [← kv0_1_3 c harg3 harg4 harg6 harg7 x1 x2 x4 x5, ← st0_3_1 c harg3 harg4 harg6 harg7 x1 x2 x4 x5 (arg9 := arg9)]
  rfl

theorem st1_3_2 :
    kernelRun0_A.sl.r_336 (F := F) c arg3 harg3 arg4 harg4 arg6 harg6 arg7 harg7 arg9 x1 x2 x4 x5 = pS1 x1 x2 x4 x5 k0_pay3 3 2 := by
  change _ = gN (pS1 x1 x2 x4 x5 k0_pay3 3 1) (endn 7) (pKV1 x1 x2 x4 x5 1 3)
  rw [← kv1_1_3 c harg3 harg4 harg6 harg7 x1 x2 x4 x5, ← st1_3_1 c harg3 harg4 harg6 harg7 x1 x2 x4 x5 (arg9 := arg9)]
  rfl

theorem o_2_3 :
    gO (kernelRun0_A.sl.r_75 (F := F) c arg2 harg2 arg3 harg3 arg4 harg4 arg6 harg6 arg7 harg7 x0 x1 x2 x4 x5) (kernelRun0_A.sl.r_74 (F := F) c arg2 harg2 arg6 harg6 arg7 harg7 x0 x4 x5) (kernelRun0_A.sl.r_335 (F := F) c arg3 harg3 arg4 harg4 arg6 harg6 arg7 harg7 arg9 x1 x2 x4 x5) (kernelRun0_A.sl.r_336 (F := F) c arg3 harg3 arg4 harg4 arg6 harg6 arg7 harg7 arg9 x1 x2 x4 x5) = pO x0 x1 x2 x4 x5 k0_pay3 2 3 := by
  change _ = gO (pOI x0 x1 x2 x4 x5 2 3) (pQD x0 x4 x5 2 3) (pS0 x1 x2 x4 x5 k0_pay3 3 2) (pS1 x1 x2 x4 x5 k0_pay3 3 2)
  rw [← oi_2_3 c harg2 harg3 harg4 harg6 harg7 x0 x1 x2 x4 x5, ← qd_2_3 c harg2 harg6 harg7 x0 x4 x5, ← st0_3_2 c harg3 harg4 harg6 harg7 x1 x2 x4 x5 (arg9 := arg9), ← st1_3_2 c harg3 harg4 harg6 harg7 x1 x2 x4 x5 (arg9 := arg9)]

theorem st0_3_3 :
    kernelRun0_A.sl.r_342 (F := F) c arg3 harg3 arg4 harg4 arg6 harg6 arg7 harg7 arg9 x1 x2 x4 x5 = pS0 x1 x2 x4 x5 k0_pay3 3 3 := by
  change _ = gN (pS0 x1 x2 x4 x5 k0_pay3 3 2) (endn 6) (pKV0 x1 x2 x4 x5 2 3)
  rw [← kv0_2_3 c harg3 harg4 harg6 harg7 x1 x2 x4 x5, ← st0_3_2 c harg3 harg4 harg6 harg7 x1 x2 x4 x5 (arg9 := arg9)]
  rfl

theorem st1_3_3 :
    kernelRun0_A.sl.r_343 (F := F) c arg3 harg3 arg4 harg4 arg6 harg6 arg7 harg7 arg9 x1 x2 x4 x5 = pS1 x1 x2 x4 x5 k0_pay3 3 3 := by
  change _ = gN (pS1 x1 x2 x4 x5 k0_pay3 3 2) (endn 7) (pKV1 x1 x2 x4 x5 2 3)
  rw [← kv1_2_3 c harg3 harg4 harg6 harg7 x1 x2 x4 x5, ← st1_3_2 c harg3 harg4 harg6 harg7 x1 x2 x4 x5 (arg9 := arg9)]
  rfl

theorem o_3_3 :
    gO (kernelRun0_A.sl.r_104 (F := F) c arg2 harg2 arg3 harg3 arg4 harg4 arg6 harg6 arg7 harg7 x0 x1 x2 x4 x5) (kernelRun0_A.sl.r_103 (F := F) c arg2 harg2 arg6 harg6 arg7 harg7 x0 x4 x5) (kernelRun0_A.sl.r_342 (F := F) c arg3 harg3 arg4 harg4 arg6 harg6 arg7 harg7 arg9 x1 x2 x4 x5) (kernelRun0_A.sl.r_343 (F := F) c arg3 harg3 arg4 harg4 arg6 harg6 arg7 harg7 arg9 x1 x2 x4 x5) = pO x0 x1 x2 x4 x5 k0_pay3 3 3 := by
  change _ = gO (pOI x0 x1 x2 x4 x5 3 3) (pQD x0 x4 x5 3 3) (pS0 x1 x2 x4 x5 k0_pay3 3 3) (pS1 x1 x2 x4 x5 k0_pay3 3 3)
  rw [← oi_3_3 c harg2 harg3 harg4 harg6 harg7 x0 x1 x2 x4 x5, ← qd_3_3 c harg2 harg6 harg7 x0 x4 x5, ← st0_3_3 c harg3 harg4 harg6 harg7 x1 x2 x4 x5 (arg9 := arg9), ← st1_3_3 c harg3 harg4 harg6 harg7 x1 x2 x4 x5 (arg9 := arg9)]

theorem st0_3_4 :
    kernelRun0_A.sl.r_346 (F := F) c arg3 harg3 arg4 harg4 arg6 harg6 arg7 harg7 arg9 x1 x2 x4 x5 = pS0 x1 x2 x4 x5 k0_pay3 3 4 := by
  change _ = gN (pS0 x1 x2 x4 x5 k0_pay3 3 3) (endn 6) (pKV0 x1 x2 x4 x5 3 3)
  rw [← kv0_3_3 c harg3 harg4 harg6 harg7 x1 x2 x4 x5, ← st0_3_3 c harg3 harg4 harg6 harg7 x1 x2 x4 x5 (arg9 := arg9)]
  rfl

theorem st1_3_4 :
    kernelRun0_A.sl.r_347 (F := F) c arg3 harg3 arg4 harg4 arg6 harg6 arg7 harg7 arg9 x1 x2 x4 x5 = pS1 x1 x2 x4 x5 k0_pay3 3 4 := by
  change _ = gN (pS1 x1 x2 x4 x5 k0_pay3 3 3) (endn 7) (pKV1 x1 x2 x4 x5 3 3)
  rw [← kv1_3_3 c harg3 harg4 harg6 harg7 x1 x2 x4 x5, ← st1_3_3 c harg3 harg4 harg6 harg7 x1 x2 x4 x5 (arg9 := arg9)]
  rfl

theorem o_4_3 :
    gO (kernelRun0_A.sl.v1463 (F := F) c arg2 harg2 arg3 harg3 arg4 harg4 arg6 harg6 arg7 harg7 x0 x1 x2 x4 x5) (kernelRun0_A.sl.r_133 (F := F) c arg2 harg2 arg6 harg6 arg7 harg7 x0 x4 x5) (kernelRun0_A.sl.r_346 (F := F) c arg3 harg3 arg4 harg4 arg6 harg6 arg7 harg7 arg9 x1 x2 x4 x5) (kernelRun0_A.sl.r_347 (F := F) c arg3 harg3 arg4 harg4 arg6 harg6 arg7 harg7 arg9 x1 x2 x4 x5) = pO x0 x1 x2 x4 x5 k0_pay3 4 3 := by
  change _ = gO (pOI x0 x1 x2 x4 x5 4 3) (pQD x0 x4 x5 4 3) (pS0 x1 x2 x4 x5 k0_pay3 3 4) (pS1 x1 x2 x4 x5 k0_pay3 3 4)
  rw [← oi_4_3 c harg2 harg3 harg4 harg6 harg7 x0 x1 x2 x4 x5, ← qd_4_3 c harg2 harg6 harg7 x0 x4 x5, ← st0_3_4 c harg3 harg4 harg6 harg7 x1 x2 x4 x5 (arg9 := arg9), ← st1_3_4 c harg3 harg4 harg6 harg7 x1 x2 x4 x5 (arg9 := arg9)]

theorem st0_3_5 :
    kernelRun0_A.sl.r_349 (F := F) c arg3 harg3 arg4 harg4 arg6 harg6 arg7 harg7 arg9 x1 x2 x4 x5 = pS0 x1 x2 x4 x5 k0_pay3 3 5 := by
  change _ = gN (pS0 x1 x2 x4 x5 k0_pay3 3 4) (endn 6) (pKV0 x1 x2 x4 x5 4 3)
  rw [← kv0_4_3 c harg3 harg4 harg6 harg7 x1 x2 x4 x5, ← st0_3_4 c harg3 harg4 harg6 harg7 x1 x2 x4 x5 (arg9 := arg9)]
  rfl

theorem st1_3_5 :
    kernelRun0_A.sl.r_350 (F := F) c arg3 harg3 arg4 harg4 arg6 harg6 arg7 harg7 arg9 x1 x2 x4 x5 = pS1 x1 x2 x4 x5 k0_pay3 3 5 := by
  change _ = gN (pS1 x1 x2 x4 x5 k0_pay3 3 4) (endn 7) (pKV1 x1 x2 x4 x5 4 3)
  rw [← kv1_4_3 c harg3 harg4 harg6 harg7 x1 x2 x4 x5, ← st1_3_4 c harg3 harg4 harg6 harg7 x1 x2 x4 x5 (arg9 := arg9)]
  rfl

theorem o_5_3 :
    gO (kernelRun0_A.sl.v1747 (F := F) c arg2 harg2 arg3 harg3 arg4 harg4 arg6 harg6 arg7 harg7 x0 x1 x2 x4 x5) (kernelRun0_A.sl.r_162 (F := F) c arg2 harg2 arg6 harg6 arg7 harg7 x0 x4 x5) (kernelRun0_A.sl.r_349 (F := F) c arg3 harg3 arg4 harg4 arg6 harg6 arg7 harg7 arg9 x1 x2 x4 x5) (kernelRun0_A.sl.r_350 (F := F) c arg3 harg3 arg4 harg4 arg6 harg6 arg7 harg7 arg9 x1 x2 x4 x5) = pO x0 x1 x2 x4 x5 k0_pay3 5 3 := by
  change _ = gO (pOI x0 x1 x2 x4 x5 5 3) (pQD x0 x4 x5 5 3) (pS0 x1 x2 x4 x5 k0_pay3 3 5) (pS1 x1 x2 x4 x5 k0_pay3 3 5)
  rw [← oi_5_3 c harg2 harg3 harg4 harg6 harg7 x0 x1 x2 x4 x5, ← qd_5_3 c harg2 harg6 harg7 x0 x4 x5, ← st0_3_5 c harg3 harg4 harg6 harg7 x1 x2 x4 x5 (arg9 := arg9), ← st1_3_5 c harg3 harg4 harg6 harg7 x1 x2 x4 x5 (arg9 := arg9)]

theorem st0_3_6 :
    kernelRun0_A.sl.r_353 (F := F) c arg3 harg3 arg4 harg4 arg6 harg6 arg7 harg7 arg9 x1 x2 x4 x5 = pS0 x1 x2 x4 x5 k0_pay3 3 6 := by
  change _ = gN (pS0 x1 x2 x4 x5 k0_pay3 3 5) (endn 6) (pKV0 x1 x2 x4 x5 5 3)
  rw [← kv0_5_3 c harg3 harg4 harg6 harg7 x1 x2 x4 x5, ← st0_3_5 c harg3 harg4 harg6 harg7 x1 x2 x4 x5 (arg9 := arg9)]
  rfl

theorem st1_3_6 :
    kernelRun0_A.sl.r_354 (F := F) c arg3 harg3 arg4 harg4 arg6 harg6 arg7 harg7 arg9 x1 x2 x4 x5 = pS1 x1 x2 x4 x5 k0_pay3 3 6 := by
  change _ = gN (pS1 x1 x2 x4 x5 k0_pay3 3 5) (endn 7) (pKV1 x1 x2 x4 x5 5 3)
  rw [← kv1_5_3 c harg3 harg4 harg6 harg7 x1 x2 x4 x5, ← st1_3_5 c harg3 harg4 harg6 harg7 x1 x2 x4 x5 (arg9 := arg9)]
  rfl

theorem o_6_3 :
    gO (kernelRun0_A.sl.r_187 (F := F) c arg2 harg2 arg3 harg3 arg4 harg4 arg6 harg6 arg7 harg7 x0 x1 x2 x4 x5) (kernelRun0_A.sl.r_186 (F := F) c arg2 harg2 arg6 harg6 arg7 harg7 x0 x4 x5) (kernelRun0_A.sl.r_353 (F := F) c arg3 harg3 arg4 harg4 arg6 harg6 arg7 harg7 arg9 x1 x2 x4 x5) (kernelRun0_A.sl.r_354 (F := F) c arg3 harg3 arg4 harg4 arg6 harg6 arg7 harg7 arg9 x1 x2 x4 x5) = pO x0 x1 x2 x4 x5 k0_pay3 6 3 := by
  change _ = gO (pOI x0 x1 x2 x4 x5 6 3) (pQD x0 x4 x5 6 3) (pS0 x1 x2 x4 x5 k0_pay3 3 6) (pS1 x1 x2 x4 x5 k0_pay3 3 6)
  rw [← oi_6_3 c harg2 harg3 harg4 harg6 harg7 x0 x1 x2 x4 x5, ← qd_6_3 c harg2 harg6 harg7 x0 x4 x5, ← st0_3_6 c harg3 harg4 harg6 harg7 x1 x2 x4 x5 (arg9 := arg9), ← st1_3_6 c harg3 harg4 harg6 harg7 x1 x2 x4 x5 (arg9 := arg9)]

theorem st0_3_7 :
    kernelRun0_A.sl.r_358 (F := F) c arg3 harg3 arg4 harg4 arg6 harg6 arg7 harg7 arg9 x1 x2 x4 x5 = pS0 x1 x2 x4 x5 k0_pay3 3 7 := by
  change _ = gN (pS0 x1 x2 x4 x5 k0_pay3 3 6) (endn 6) (pKV0 x1 x2 x4 x5 6 3)
  rw [← kv0_6_3 c harg3 harg4 harg6 harg7 x1 x2 x4 x5, ← st0_3_6 c harg3 harg4 harg6 harg7 x1 x2 x4 x5 (arg9 := arg9)]
  rfl

theorem st1_3_7 :
    kernelRun0_A.sl.r_359 (F := F) c arg3 harg3 arg4 harg4 arg6 harg6 arg7 harg7 arg9 x1 x2 x4 x5 = pS1 x1 x2 x4 x5 k0_pay3 3 7 := by
  change _ = gN (pS1 x1 x2 x4 x5 k0_pay3 3 6) (endn 7) (pKV1 x1 x2 x4 x5 6 3)
  rw [← kv1_6_3 c harg3 harg4 harg6 harg7 x1 x2 x4 x5, ← st1_3_6 c harg3 harg4 harg6 harg7 x1 x2 x4 x5 (arg9 := arg9)]
  rfl

theorem o_7_3 :
    gO (kernelRun0_A.sl.r_211 (F := F) c arg2 harg2 arg3 harg3 arg4 harg4 arg6 harg6 arg7 harg7 x0 x1 x2 x4 x5) (kernelRun0_A.sl.r_210 (F := F) c arg2 harg2 arg6 harg6 arg7 harg7 x0 x4 x5) (kernelRun0_A.sl.r_358 (F := F) c arg3 harg3 arg4 harg4 arg6 harg6 arg7 harg7 arg9 x1 x2 x4 x5) (kernelRun0_A.sl.r_359 (F := F) c arg3 harg3 arg4 harg4 arg6 harg6 arg7 harg7 arg9 x1 x2 x4 x5) = pO x0 x1 x2 x4 x5 k0_pay3 7 3 := by
  change _ = gO (pOI x0 x1 x2 x4 x5 7 3) (pQD x0 x4 x5 7 3) (pS0 x1 x2 x4 x5 k0_pay3 3 7) (pS1 x1 x2 x4 x5 k0_pay3 3 7)
  rw [← oi_7_3 c harg2 harg3 harg4 harg6 harg7 x0 x1 x2 x4 x5, ← qd_7_3 c harg2 harg6 harg7 x0 x4 x5, ← st0_3_7 c harg3 harg4 harg6 harg7 x1 x2 x4 x5 (arg9 := arg9), ← st1_3_7 c harg3 harg4 harg6 harg7 x1 x2 x4 x5 (arg9 := arg9)]

theorem st0_3_8 :
    kernelRun0_A.sl.r_364 (F := F) c arg3 harg3 arg4 harg4 arg6 harg6 arg7 harg7 arg9 x1 x2 x4 x5 = pS0 x1 x2 x4 x5 k0_pay3 3 8 := by
  change _ = gN (pS0 x1 x2 x4 x5 k0_pay3 3 7) (endn 6) (pKV0 x1 x2 x4 x5 7 3)
  rw [← kv0_7_3 c harg3 harg4 harg6 harg7 x1 x2 x4 x5, ← st0_3_7 c harg3 harg4 harg6 harg7 x1 x2 x4 x5 (arg9 := arg9)]
  rfl

theorem st1_3_8 :
    kernelRun0_A.sl.r_365 (F := F) c arg3 harg3 arg4 harg4 arg6 harg6 arg7 harg7 arg9 x1 x2 x4 x5 = pS1 x1 x2 x4 x5 k0_pay3 3 8 := by
  change _ = gN (pS1 x1 x2 x4 x5 k0_pay3 3 7) (endn 7) (pKV1 x1 x2 x4 x5 7 3)
  rw [← kv1_7_3 c harg3 harg4 harg6 harg7 x1 x2 x4 x5, ← st1_3_7 c harg3 harg4 harg6 harg7 x1 x2 x4 x5 (arg9 := arg9)]
  rfl

end Cert.KernelRetIdeal.Ret.CaseA
end
-- ==== Proof.RetCaseA.lean ====
/- The values of the retention kernel at a grid point that begins a sweep: what it stores. -/
module

public import proofs.«01_k».proof.Proof.RetCaseA2

@[expose] public section

set_option maxRecDepth 16384

noncomputable section

open Idealize.ShloMosaic Idealize.ShloMosaic.TcCoe Idealize.SL.Sem

namespace Cert.KernelRetIdeal.Ret.CaseA
open Cert.KernelRetIdeal Cert.KernelRetIdeal.Gen Cert.KernelRetIdeal.Ret

variable {F : FTy → Type} [FloatOps F] [Named F]
variable (c : Dev nD) (i : grid0.Coords) {arg2 : Memref sig .tc .vmem S1x512x1024 .f32} (harg2 : arg2.IsWhole) {arg3 : Memref sig .tc .vmem S1x512x1024 .f32} (harg3 : arg3.IsWhole) {arg4 : Memref sig .tc .vmem S1x512x2048 .f32} (harg4 : arg4.IsWhole) {arg5 : Memref sig .tc .vmem S1x512x2048 .f32} (harg5 : arg5.IsWhole) {arg6 : Memref sig .tc .vmem S1x512x128 .f32} (harg6 : arg6.IsWhole) {arg7 : Memref sig .tc .vmem S1x512x128 .f32} (harg7 : arg7.IsWhole) {arg8 : Memref sig .tc .vmem S1x512x2048 .bf16} (harg8 : arg8.IsWhole) {arg9 : Memref sig .tc .vmem S8x128x256 .f32} (harg9 : arg9.IsWhole)
variable (x0 : Vec F S1x512x1024 .f32) (x1 : Vec F S1x512x1024 .f32) (x2 : Vec F S1x512x2048 .f32) (x3 : Vec F S1x512x2048 .f32) (x4 : Vec F S1x512x128 .f32) (x5 : Vec F S1x512x128 .f32)

theorem pieces_s (hc0 : cond0_0 i) :
    (kernelRun0_A (F := F) c i arg2 harg2 arg3 harg3 arg4 harg4 arg5 harg5 arg6 harg6 arg7 harg7 arg8 harg8 arg9 harg9 hc0 x0 x1 x2 x3 x4 x5).2.1 = [pcS x1 x2 x4 x5 k0_pay3 7, pcS x1 x2 x4 x5 k0_pay3 6, pcS x1 x2 x4 x5 k0_pay3 5, pcS x1 x2 x4 x5 k0_pay3 4, pcS x1 x2 x4 x5 k0_pay3 3, pcS x1 x2 x4 x5 k0_pay3 2, pcS x1 x2 x4 x5 k0_pay3 1, pcS x1 x2 x4 x5 k0_pay3 0] ++ kernelRun0_A.sl.HS0_1 := by
  change _ = [(⟨Rect.unit (s := S8x128x256) ![7, 0, 0] S1x128x256.size (inbS 7), shapeCast S1x128x256 (pS1 x1 x2 x4 x5 k0_pay3 3 8) shapeCasts_S128x256_S1x128x256⟩ : View.Piece (Elt F) S8x128x256 .f32), (⟨Rect.unit (s := S8x128x256) ![6, 0, 0] S1x128x256.size (inbS 6), shapeCast S1x128x256 (pS0 x1 x2 x4 x5 k0_pay3 3 8) shapeCasts_S128x256_S1x128x256⟩ : View.Piece (Elt F) S8x128x256 .f32), (⟨Rect.unit (s := S8x128x256) ![5, 0, 0] S1x128x256.size (inbS 5), shapeCast S1x128x256 (pS1 x1 x2 x4 x5 k0_pay3 2 8) shapeCasts_S128x256_S1x128x256⟩ : View.Piece (Elt F) S8x128x256 .f32), (⟨Rect.unit (s := S8x128x256) ![4, 0, 0] S1x128x256.size (inbS 4), shapeCast S1x128x256 (pS0 x1 x2 x4 x5 k0_pay3 2 8) shapeCasts_S128x256_S1x128x256⟩ : View.Piece (Elt F) S8x128x256 .f32), (⟨Rect.unit (s := S8x128x256) ![3, 0, 0] S1x128x256.size (inbS 3), shapeCast S1x128x256 (pS1 x1 x2 x4 x5 k0_pay3 1 8) shapeCasts_S128x256_S1x128x256⟩ : View.Piece (Elt F) S8x128x256 .f32), (⟨Rect.unit (s := S8x128x256) ![2, 0, 0] S1x128x256.size (inbS 2), shapeCast S1x128x256 (pS0 x1 x2 x4 x5 k0_pay3 1 8) shapeCasts_S128x256_S1x128x256⟩ : View.Piece (Elt F) S8x128x256 .f32), (⟨Rect.unit (s := S8x128x256) ![1, 0, 0] S1x128x256.size (inbS 1), shapeCast S1x128x256 (pS1 x1 x2 x4 x5 k0_pay3 0 8) shapeCasts_S128x256_S1x128x256⟩ : View.Piece (Elt F) S8x128x256 .f32), (⟨Rect.unit (s := S8x128x256) ![0, 0, 0] S1x128x256.size (inbS 0), shapeCast S1x128x256 (pS0 x1 x2 x4 x5 k0_pay3 0 8) shapeCasts_S128x256_S1x128x256⟩ : View.Piece (Elt F) S8x128x256 .f32)] ++ kernelRun0_A.sl.HS0_1
  rw [← st0_0_8 c harg3 harg4 harg6 harg7 x1 x2 x4 x5 (arg9 := arg9), ← st1_0_8 c harg3 harg4 harg6 harg7 x1 x2 x4 x5 (arg9 := arg9), ← st0_1_8 c harg3 harg4 harg6 harg7 x1 x2 x4 x5 (arg9 := arg9), ← st1_1_8 c harg3 harg4 harg6 harg7 x1 x2 x4 x5 (arg9 := arg9), ← st0_2_8 c harg3 harg4 harg6 harg7 x1 x2 x4 x5 (arg9 := arg9), ← st1_2_8 c harg3 harg4 harg6 harg7 x1 x2 x4 x5 (arg9 := arg9), ← st0_3_8 c harg3 harg4 harg6 harg7 x1 x2 x4 x5 (arg9 := arg9), ← st1_3_8 c harg3 harg4 harg6 harg7 x1 x2 x4 x5 (arg9 := arg9)]
  rfl

theorem pieces_o (hc0 : cond0_0 i) :
    (kernelRun0_A (F := F) c i arg2 harg2 arg3 harg3 arg4 harg4 arg5 harg5 arg6 harg6 arg7 harg7 arg8 harg8 arg9 harg9 hc0 x0 x1 x2 x3 x4 x5).1 = [pcO x0 x1 x2 x3 x4 x5 k0_pay3 7 7, pcO x0 x1 x2 x3 x4 x5 k0_pay3 7 6, pcO x0 x1 x2 x3 x4 x5 k0_pay3 6 7, pcO x0 x1 x2 x3 x4 x5 k0_pay3 6 6, pcO x0 x1 x2 x3 x4 x5 k0_pay3 5 7, pcO x0 x1 x2 x3 x4 x5 k0_pay3 5 6, pcO x0 x1 x2 x3 x4 x5 k0_pay3 4 7, pcO x0 x1 x2 x3 x4 x5 k0_pay3 4 6, pcO x0 x1 x2 x3 x4 x5 k0_pay3 3 7, pcO x0 x1 x2 x3 x4 x5 k0_pay3 3 6, pcO x0 x1 x2 x3 x4 x5 k0_pay3 2 7, pcO x0 x1 x2 x3 x4 x5 k0_pay3 2 6, pcO x0 x1 x2 x3 x4 x5 k0_pay3 1 7, pcO x0 x1 x2 x3 x4 x5 k0_pay3 1 6, pcO x0 x1 x2 x3 x4 x5 k0_pay3 0 7, pcO x0 x1 x2 x3 x4 x5 k0_pay3 0 6, pcO x0 x1 x2 x3 x4 x5 k0_pay3 7 5, pcO x0 x1 x2 x3 x4 x5 k0_pay3 7 4, pcO x0 x1 x2 x3 x4 x5 k0_pay3 6 5, pcO x0 x1 x2 x3 x4 x5 k0_pay3 6 4, pcO x0 x1 x2 x3 x4 x5 k0_pay3 5 5, pcO x0 x1 x2 x3 x4 x5 k0_pay3 5 4, pcO x0 x1 x2 x3 x4 x5 k0_pay3 4 5, pcO x0 x1 x2 x3 x4 x5 k0_pay3 4 4, pcO x0 x1 x2 x3 x4 x5 k0_pay3 3 5, pcO x0 x1 x2 x3 x4 x5 k0_pay3 3 4, pcO x0 x1 x2 x3 x4 x5 k0_pay3 2 5, pcO x0 x1 x2 x3 x4 x5 k0_pay3 2 4, pcO x0 x1 x2 x3 x4 x5 k0_pay3 1 5, pcO x0 x1 x2 x3 x4 x5 k0_pay3 1 4, pcO x0 x1 x2 x3 x4 x5 k0_pay3 0 5, pcO x0 x1 x2 x3 x4 x5 k0_pay3 0 4, pcO x0 x1 x2 x3 x4 x5 k0_pay3 7 3, pcO x0 x1 x2 x3 x4 x5 k0_pay3 7 2, pcO x0 x1 x2 x3 x4 x5 k0_pay3 6 3, pcO x0 x1 x2 x3 x4 x5 k0_pay3 6 2, pcO x0 x1 x2 x3 x4 x5 k0_pay3 5 3, pcO x0 x1 x2 x3 x4 x5 k0_pay3 5 2, pcO x0 x1 x2 x3 x4 x5 k0_pay3 4 3, pcO x0 x1 x2 x3 x4 x5 k0_pay3 4 2, pcO x0 x1 x2 x3 x4 x5 k0_pay3 3 3, pcO x0 x1 x2 x3 x4 x5 k0_pay3 3 2, pcO x0 x1 x2 x3 x4 x5 k0_pay3 2 3, pcO x0 x1 x2 x3 x4 x5 k0_pay3 2 2, pcO x0 x1 x2 x3 x4 x5 k0_pay3 1 3, pcO x0 x1 x2 x3 x4 x5 k0_pay3 1 2, pcO x0 x1 x2 x3 x4 x5 k0_pay3 0 3, pcO x0 x1 x2 x3 x4 x5 k0_pay3 0 2, pcO x0 x1 x2 x3 x4 x5 k0_pay3 7 1, pcO x0 x1 x2 x3 x4 x5 k0_pay3 7 0, pcO x0 x1 x2 x3 x4 x5 k0_pay3 6 1, pcO x0 x1 x2 x3 x4 x5 k0_pay3 6 0, pcO x0 x1 x2 x3 x4 x5 k0_pay3 5 1, pcO x0 x1 x2 x3 x4 x5 k0_pay3 5 0, pcO x0 x1 x2 x3 x4 x5 k0_pay3 4 1, pcO x0 x1 x2 x3 x4 x5 k0_pay3 4 0, pcO x0 x1 x2 x3 x4 x5 k0_pay3 3 1, pcO x0 x1 x2 x3 x4 x5 k0_pay3 3 0, pcO x0 x1 x2 x3 x4 x5 k0_pay3 2 1, pcO x0 x1 x2 x3 x4 x5 k0_pay3 2 0, pcO x0 x1 x2 x3 x4 x5 k0_pay3 1 1, pcO x0 x1 x2 x3 x4 x5 k0_pay3 1 0, pcO x0 x1 x2 x3 x4 x5 k0_pay3 0 1, pcO x0 x1 x2 x3 x4 x5 k0_pay3 0 0] := by
  refine congrArg₂ List.cons ?_ ?_
  · change _ = (⟨Rect.unit (s := S1x512x2048) ![0, 448, 1792] S1x64x256.size (inbV 7 7), gT1 (pO x0 x1 x2 x4 x5 k0_pay3 7 3) (cutV x3 7 7)⟩ : View.Piece (Elt F) S1x512x2048 .bf16)
    rw [← o_7_3 c harg2 harg3 harg4 harg6 harg7 x0 x1 x2 x4 x5 (arg9 := arg9), rV harg5 x3]; rfl
  refine congrArg₂ List.cons ?_ ?_
  · change _ = (⟨Rect.unit (s := S1x512x2048) ![0, 448, 1536] S1x64x256.size (inbV 7 6), gT0 (pO x0 x1 x2 x4 x5 k0_pay3 7 3) (cutV x3 7 6)⟩ : View.Piece (Elt F) S1x512x2048 .bf16)
    rw [← o_7_3 c harg2 harg3 harg4 harg6 harg7 x0 x1 x2 x4 x5 (arg9 := arg9), rV harg5 x3]; rfl
  refine congrArg₂ List.cons ?_ ?_
  · change _ = (⟨Rect.unit (s := S1x512x2048) ![0, 384, 1792] S1x64x256.size (inbV 6 7), gT1 (pO x0 x1 x2 x4 x5 k0_pay3 6 3) (cutV x3 6 7)⟩ : View.Piece (Elt F) S1x512x2048 .bf16)
    rw [← o_6_3 c harg2 harg3 harg4 harg6 harg7 x0 x1 x2 x4 x5 (arg9 := arg9), rV harg5 x3]; rfl
  refine congrArg₂ List.cons ?_ ?_
  · change _ = (⟨Rect.unit (s := S1x512x2048) ![0, 384, 1536] S1x64x256.size (inbV 6 6), gT0 (pO x0 x1 x2 x4 x5 k0_pay3 6 3) (cutV x3 6 6)⟩ : View.Piece (Elt F) S1x512x2048 .bf16)
    rw [← o_6_3 c harg2 harg3 harg4 harg6 harg7 x0 x1 x2 x4 x5 (arg9 := arg9), rV harg5 x3]; rfl
  refine congrArg₂ List.cons ?_ ?_
  · change _ = (⟨Rect.unit (s := S1x512x2048) ![0, 320, 1792] S1x64x256.size (inbV 5 7), gT1 (pO x0 x1 x2 x4 x5 k0_pay3 5 3) (cutV x3 5 7)⟩ : View.Piece (Elt F) S1x512x2048 .bf16)
    rw [← o_5_3 c harg2 harg3 harg4 harg6 harg7 x0 x1 x2 x4 x5 (arg9 := arg9), rV harg5 x3]; rfl
  refine congrArg₂ List.cons ?_ ?_
  · change _ = (⟨Rect.unit (s := S1x512x2048) ![0, 320, 1536] S1x64x256.size (inbV 5 6), gT0 (pO x0 x1 x2 x4 x5 k0_pay3 5 3) (cutV x3 5 6)⟩ : View.Piece (Elt F) S1x512x2048 .bf16)
    rw [← o_5_3 c harg2 harg3 harg4 harg6 harg7 x0 x1 x2 x4 x5 (arg9 := arg9), rV harg5 x3]; rfl
  refine congrArg₂ List.cons ?_ ?_
  · change _ = (⟨Rect.unit (s := S1x512x2048) ![0, 256, 1792] S1x64x256.size (inbV 4 7), gT1 (pO x0 x1 x2 x4 x5 k0_pay3 4 3) (cutV x3 4 7)⟩ : View.Piece (Elt F) S1x512x2048 .bf16)
    rw [← o_4_3 c harg2 harg3 harg4 harg6 harg7 x0 x1 x2 x4 x5 (arg9 := arg9), rV harg5 x3]; rfl
  refine congrArg₂ List.cons ?_ ?_
  · change _ = (⟨Rect.unit (s := S1x512x2048) ![0, 256, 1536] S1x64x256.size (inbV 4 6), gT0 (pO x0 x1 x2 x4 x5 k0_pay3 4 3) (cutV x3 4 6)⟩ : View.Piece (Elt F) S1x512x2048 .bf16)
    rw [← o_4_3 c harg2 harg3 harg4 harg6 harg7 x0 x1 x2 x4 x5 (arg9 := arg9), rV harg5 x3]; rfl
  refine congrArg₂ List.cons ?_ ?_
  · change _ = (⟨Rect.unit (s := S1x512x2048) ![0, 192, 1792] S1x64x256.size (inbV 3 7), gT1 (pO x0 x1 x2 x4 x5 k0_pay3 3 3) (cutV x3 3 7)⟩ : View.Piece (Elt F) S1x512x2048 .bf16)
    rw [← o_3_3 c harg2 harg3 harg4 harg6 harg7 x0 x1 x2 x4 x5 (arg9 := arg9), rV harg5 x3]; rfl
  refine congrArg₂ List.cons ?_ ?_
  · change _ = (⟨Rect.unit (s := S1x512x2048) ![0, 192, 1536] S1x64x256.size (inbV 3 6), gT0 (pO x0 x1 x2 x4 x5 k0_pay3 3 3) (cutV x3 3 6)⟩ : View.Piece (Elt F) S1x512x2048 .bf16)
    rw [← o_3_3 c harg2 harg3 harg4 harg6 harg7 x0 x1 x2 x4 x5 (arg9 := arg9), rV harg5 x3]; rfl
  refine congrArg₂ List.cons ?_ ?_
  · change _ = (⟨Rect.unit (s := S1x512x2048) ![0, 128, 1792] S1x64x256.size (inbV 2 7), gT1 (pO x0 x1 x2 x4 x5 k0_pay3 2 3) (cutV x3 2 7)⟩ : View.Piece (Elt F) S1x512x2048 .bf16)
    rw [← o_2_3 c harg2 harg3 harg4 harg6 harg7 x0 x1 x2 x4 x5 (arg9 := arg9), rV harg5 x3]; rfl
  refine congrArg₂ List.cons ?_ ?_
  · change _ = (⟨Rect.unit (s := S1x512x2048) ![0, 128, 1536] S1x64x256.size (inbV 2 6), gT0 (pO x0 x1 x2 x4 x5 k0_pay3 2 3) (cutV x3 2 6)⟩ : View.Piece (Elt F) S1x512x2048 .bf16)
    rw [← o_2_3 c harg2 harg3 harg4 harg6 harg7 x0 x1 x2 x4 x5 (arg9 := arg9), rV harg5 x3]; rfl
  refine congrArg₂ List.cons ?_ ?_
  · change _ = (⟨Rect.unit (s := S1x512x2048) ![0, 64, 1792] S1x64x256.size (inbV 1 7), gT1 (pO x0 x1 x2 x4 x5 k0_pay3 1 3) (cutV x3 1 7)⟩ : View.Piece (Elt F) S1x512x2048 .bf16)
    rw [← o_1_3 c harg2 harg3 harg4 harg6 harg7 x0 x1 x2 x4 x5 (arg9 := arg9), rV harg5 x3]; rfl
  refine congrArg₂ List.cons ?_ ?_
  · change _ = (⟨Rect.unit (s := S1x512x2048) ![0, 64, 1536] S1x64x256.size (inbV 1 6), gT0 (pO x0 x1 x2 x4 x5 k0_pay3 1 3) (cutV x3 1 6)⟩ : View.Piece (Elt F) S1x512x2048 .bf16)
    rw [← o_1_3 c harg2 harg3 harg4 harg6 harg7 x0 x1 x2 x4 x5 (arg9 := arg9), rV harg5 x3]; rfl
  refine congrArg₂ List.cons ?_ ?_
  · change _ = (⟨Rect.unit (s := S1x512x2048) ![0, 0, 1792] S1x64x256.size (inbV 0 7), gT1 (pO x0 x1 x2 x4 x5 k0_pay3 0 3) (cutV x3 0 7)⟩ : View.Piece (Elt F) S1x512x2048 .bf16)
    rw [← o_0_3 c harg2 harg3 harg4 harg6 harg7 x0 x1 x2 x4 x5 (arg9 := arg9), rV harg5 x3]; rfl
  refine congrArg₂ List.cons ?_ ?_
  · change _ = (⟨Rect.unit (s := S1x512x2048) ![0, 0, 1536] S1x64x256.size (inbV 0 6), gT0 (pO x0 x1 x2 x4 x5 k0_pay3 0 3) (cutV x3 0 6)⟩ : View.Piece (Elt F) S1x512x2048 .bf16)
    rw [← o_0_3 c harg2 harg3 harg4 harg6 harg7 x0 x1 x2 x4 x5 (arg9 := arg9), rV harg5 x3]; rfl
  refine congrArg₂ List.cons ?_ ?_
  · change _ = (⟨Rect.unit (s := S1x512x2048) ![0, 448, 1280] S1x64x256.size (inbV 7 5), gT1 (pO x0 x1 x2 x4 x5 k0_pay3 7 2) (cutV x3 7 5)⟩ : View.Piece (Elt F) S1x512x2048 .bf16)
    rw [← o_7_2 c harg2 harg3 harg4 harg6 harg7 x0 x1 x2 x4 x5 (arg9 := arg9), rV harg5 x3]; rfl
  refine congrArg₂ List.cons ?_ ?_
  · change _ = (⟨Rect.unit (s := S1x512x2048) ![0, 448, 1024] S1x64x256.size (inbV 7 4), gT0 (pO x0 x1 x2 x4 x5 k0_pay3 7 2) (cutV x3 7 4)⟩ : View.Piece (Elt F) S1x512x2048 .bf16)
    rw [← o_7_2 c harg2 harg3 harg4 harg6 harg7 x0 x1 x2 x4 x5 (arg9 := arg9), rV harg5 x3]; rfl
  refine congrArg₂ List.cons ?_ ?_
  · change _ = (⟨Rect.unit (s := S1x512x2048) ![0, 384, 1280] S1x64x256.size (inbV 6 5), gT1 (pO x0 x1 x2 x4 x5 k0_pay3 6 2) (cutV x3 6 5)⟩ : View.Piece (Elt F) S1x512x2048 .bf16)
    rw [← o_6_2 c harg2 harg3 harg4 harg6 harg7 x0 x1 x2 x4 x5 (arg9 := arg9), rV harg5 x3]; rfl
  refine congrArg₂ List.cons ?_ ?_
  · change _ = (⟨Rect.unit (s := S1x512x2048) ![0, 384, 1024] S1x64x256.size (inbV 6 4), gT0 (pO x0 x1 x2 x4 x5 k0_pay3 6 2) (cutV x3 6 4)⟩ : View.Piece (Elt F) S1x512x2048 .bf16)
    rw [← o_6_2 c harg2 harg3 harg4 harg6 harg7 x0 x1 x2 x4 x5 (arg9 := arg9), rV harg5 x3]; rfl
  refine congrArg₂ List.cons ?_ ?_
  · change _ = (⟨Rect.unit (s := S1x512x2048) ![0, 320, 1280] S1x64x256.size (inbV 5 5), gT1 (pO x0 x1 x2 x4 x5 k0_pay3 5 2) (cutV x3 5 5)⟩ : View.Piece (Elt F) S1x512x2048 .bf16)
    rw [← o_5_2 c harg2 harg3 harg4 harg6 harg7 x0 x1 x2 x4 x5 (arg9 := arg9), rV harg5 x3]; rfl
  refine congrArg₂ List.cons ?_ ?_
  · change _ = (⟨Rect.unit (s := S1x512x2048) ![0, 320, 1024] S1x64x256.size (inbV 5 4), gT0 (pO x0 x1 x2 x4 x5 k0_pay3 5 2) (cutV x3 5 4)⟩ : View.Piece (Elt F) S1x512x2048 .bf16)
    rw [← o_5_2 c harg2 harg3 harg4 harg6 harg7 x0 x1 x2 x4 x5 (arg9 := arg9), rV harg5 x3]; rfl
  refine congrArg₂ List.cons ?_ ?_
  · change _ = (⟨Rect.unit (s := S1x512x2048) ![0, 256, 1280] S1x64x256.size (inbV 4 5), gT1 (pO x0 x1 x2 x4 x5 k0_pay3 4 2) (cutV x3 4 5)⟩ : View.Piece (Elt F) S1x512x2048 .bf16)
    rw [← o_4_2 c harg2 harg3 harg4 harg6 harg7 x0 x1 x2 x4 x5 (arg9 := arg9), rV harg5 x3]; rfl
  refine congrArg₂ List.cons ?_ ?_
  · change _ = (⟨Rect.unit (s := S1x512x2048) ![0, 256, 1024] S1x64x256.size (inbV 4 4), gT0 (pO x0 x1 x2 x4 x5 k0_pay3 4 2) (cutV x3 4 4)⟩ : View.Piece (Elt F) S1x512x2048 .bf16)
    rw [← o_4_2 c harg2 harg3 harg4 harg6 harg7 x0 x1 x2 x4 x5 (arg9 := arg9), rV harg5 x3]; rfl
  refine congrArg₂ List.cons ?_ ?_
  · change _ = (⟨Rect.unit (s := S1x512x2048) ![0, 192, 1280] S1x64x256.size (inbV 3 5), gT1 (pO x0 x1 x2 x4 x5 k0_pay3 3 2) (cutV x3 3 5)⟩ : View.Piece (Elt F) S1x512x2048 .bf16)
    rw [← o_3_2 c harg2 harg3 harg4 harg6 harg7 x0 x1 x2 x4 x5 (arg9 := arg9), rV harg5 x3]; rfl
  refine congrArg₂ List.cons ?_ ?_
  · change _ = (⟨Rect.unit (s := S1x512x2048) ![0, 192, 1024] S1x64x256.size (inbV 3 4), gT0 (pO x0 x1 x2 x4 x5 k0_pay3 3 2) (cutV x3 3 4)⟩ : View.Piece (Elt F) S1x512x2048 .bf16)
    rw [← o_3_2 c harg2 harg3 harg4 harg6 harg7 x0 x1 x2 x4 x5 (arg9 := arg9), rV harg5 x3]; rfl
  refine congrArg₂ List.cons ?_ ?_
  · change _ = (⟨Rect.unit (s := S1x512x2048) ![0, 128, 1280] S1x64x256.size (inbV 2 5), gT1 (pO x0 x1 x2 x4 x5 k0_pay3 2 2) (cutV x3 2 5)⟩ : View.Piece (Elt F) S1x512x2048 .bf16)
    rw [← o_2_2 c harg2 harg3 harg4 harg6 harg7 x0 x1 x2 x4 x5 (arg9 := arg9), rV harg5 x3]; rfl
  refine congrArg₂ List.cons ?_ ?_
  · change _ = (⟨Rect.unit (s := S1x512x2048) ![0, 128, 1024] S1x64x256.size (inbV 2 4), gT0 (pO x0 x1 x2 x4 x5 k0_pay3 2 2) (cutV x3 2 4)⟩ : View.Piece (Elt F) S1x512x2048 .bf16)
    rw [← o_2_2 c harg2 harg3 harg4 harg6 harg7 x0 x1 x2 x4 x5 (arg9 := arg9), rV harg5 x3]; rfl
  refine congrArg₂ List.cons ?_ ?_
  · change _ = (⟨Rect.unit (s := S1x512x2048) ![0, 64, 1280] S1x64x256.size (inbV 1 5), gT1 (pO x0 x1 x2 x4 x5 k0_pay3 1 2) (cutV x3 1 5)⟩ : View.Piece (Elt F) S1x512x2048 .bf16)
    rw [← o_1_2 c harg2 harg3 harg4 harg6 harg7 x0 x1 x2 x4 x5 (arg9 := arg9), rV harg5 x3]; rfl
  refine congrArg₂ List.cons ?_ ?_
  · change _ = (⟨Rect.unit (s := S1x512x2048) ![0, 64, 1024] S1x64x256.size (inbV 1 4), gT0 (pO x0 x1 x2 x4 x5 k0_pay3 1 2) (cutV x3 1 4)⟩ : View.Piece (Elt F) S1x512x2048 .bf16)
    rw [← o_1_2 c harg2 harg3 harg4 harg6 harg7 x0 x1 x2 x4 x5 (arg9 := arg9), rV harg5 x3]; rfl
  refine congrArg₂ List.cons ?_ ?_
  · change _ = (⟨Rect.unit (s := S1x512x2048) ![0, 0, 1280] S1x64x256.size (inbV 0 5), gT1 (pO x0 x1 x2 x4 x5 k0_pay3 0 2) (cutV x3 0 5)⟩ : View.Piece (Elt F) S1x512x2048 .bf16)
    rw [← o_0_2 c harg2 harg3 harg4 harg6 harg7 x0 x1 x2 x4 x5 (arg9 := arg9), rV harg5 x3]; rfl
  refine congrArg₂ List.cons ?_ ?_
  · change _ = (⟨Rect.unit (s := S1x512x2048) ![0, 0, 1024] S1x64x256.size (inbV 0 4), gT0 (pO x0 x1 x2 x4 x5 k0_pay3 0 2) (cutV x3 0 4)⟩ : View.Piece (Elt F) S1x512x2048 .bf16)
    rw [← o_0_2 c harg2 harg3 harg4 harg6 harg7 x0 x1 x2 x4 x5 (arg9 := arg9), rV harg5 x3]; rfl
  refine congrArg₂ List.cons ?_ ?_
  · change _ = (⟨Rect.unit (s := S1x512x2048) ![0, 448, 768] S1x64x256.size (inbV 7 3), gT1 (pO x0 x1 x2 x4 x5 k0_pay3 7 1) (cutV x3 7 3)⟩ : View.Piece (Elt F) S1x512x2048 .bf16)
    rw [← o_7_1 c harg2 harg3 harg4 harg6 harg7 x0 x1 x2 x4 x5 (arg9 := arg9), rV harg5 x3]; rfl
  refine congrArg₂ List.cons ?_ ?_
  · change _ = (⟨Rect.unit (s := S1x512x2048) ![0, 448, 512] S1x64x256.size (inbV 7 2), gT0 (pO x0 x1 x2 x4 x5 k0_pay3 7 1) (cutV x3 7 2)⟩ : View.Piece (Elt F) S1x512x2048 .bf16)
    rw [← o_7_1 c harg2 harg3 harg4 harg6 harg7 x0 x1 x2 x4 x5 (arg9 := arg9), rV harg5 x3]; rfl
  refine congrArg₂ List.cons ?_ ?_
  · change _ = (⟨Rect.unit (s := S1x512x2048) ![0, 384, 768] S1x64x256.size (inbV 6 3), gT1 (pO x0 x1 x2 x4 x5 k0_pay3 6 1) (cutV x3 6 3)⟩ : View.Piece (Elt F) S1x512x2048 .bf16)
    rw [← o_6_1 c harg2 harg3 harg4 harg6 harg7 x0 x1 x2 x4 x5 (arg9 := arg9), rV harg5 x3]; rfl
  refine congrArg₂ List.cons ?_ ?_
  · change _ = (⟨Rect.unit (s := S1x512x2048) ![0, 384, 512] S1x64x256.size (inbV 6 2), gT0 (pO x0 x1 x2 x4 x5 k0_pay3 6 1) (cutV x3 6 2)⟩ : View.Piece (Elt F) S1x512x2048 .bf16)
    rw [← o_6_1 c harg2 harg3 harg4 harg6 harg7 x0 x1 x2 x4 x5 (arg9 := arg9), rV harg5 x3]; rfl
  refine congrArg₂ List.cons ?_ ?_
  · change _ = (⟨Rect.unit (s := S1x512x2048) ![0, 320, 768] S1x64x256.size (inbV 5 3), gT1 (pO x0 x1 x2 x4 x5 k0_pay3 5 1) (cutV x3 5 3)⟩ : View.Piece (Elt F) S1x512x2048 .bf16)
    rw [← o_5_1 c harg2 harg3 harg4 harg6 harg7 x0 x1 x2 x4 x5 (arg9 := arg9), rV harg5 x3]; rfl
  refine congrArg₂ List.cons ?_ ?_
  · change _ = (⟨Rect.unit (s := S1x512x2048) ![0, 320, 512] S1x64x256.size (inbV 5 2), gT0 (pO x0 x1 x2 x4 x5 k0_pay3 5 1) (cutV x3 5 2)⟩ : View.Piece (Elt F) S1x512x2048 .bf16)
    rw [← o_5_1 c harg2 harg3 harg4 harg6 harg7 x0 x1 x2 x4 x5 (arg9 := arg9), rV harg5 x3]; rfl
  refine congrArg₂ List.cons ?_ ?_
  · change _ = (⟨Rect.unit (s := S1x512x2048) ![0, 256, 768] S1x64x256.size (inbV 4 3), gT1 (pO x0 x1 x2 x4 x5 k0_pay3 4 1) (cutV x3 4 3)⟩ : View.Piece (Elt F) S1x512x2048 .bf16)
    rw [← o_4_1 c harg2 harg3 harg4 harg6 harg7 x0 x1 x2 x4 x5 (arg9 := arg9), rV harg5 x3]; rfl
  refine congrArg₂ List.cons ?_ ?_
  · change _ = (⟨Rect.unit (s := S1x512x2048) ![0, 256, 512] S1x64x256.size (inbV 4 2), gT0 (pO x0 x1 x2 x4 x5 k0_pay3 4 1) (cutV x3 4 2)⟩ : View.Piece (Elt F) S1x512x2048 .bf16)
    rw [← o_4_1 c harg2 harg3 harg4 harg6 harg7 x0 x1 x2 x4 x5 (arg9 := arg9), rV harg5 x3]; rfl
  refine congrArg₂ List.cons ?_ ?_
  · change _ = (⟨Rect.unit (s := S1x512x2048) ![0, 192, 768] S1x64x256.size (inbV 3 3), gT1 (pO x0 x1 x2 x4 x5 k0_pay3 3 1) (cutV x3 3 3)⟩ : View.Piece (Elt F) S1x512x2048 .bf16)
    rw [← o_3_1 c harg2 harg3 harg4 harg6 harg7 x0 x1 x2 x4 x5 (arg9 := arg9), rV harg5 x3]; rfl
  refine congrArg₂ List.cons ?_ ?_
  · change _ = (⟨Rect.unit (s := S1x512x2048) ![0, 192, 512] S1x64x256.size (inbV 3 2), gT0 (pO x0 x1 x2 x4 x5 k0_pay3 3 1) (cutV x3 3 2)⟩ : View.Piece (Elt F) S1x512x2048 .bf16)
    rw [← o_3_1 c harg2 harg3 harg4 harg6 harg7 x0 x1 x2 x4 x5 (arg9 := arg9), rV harg5 x3]; rfl
  refine congrArg₂ List.cons ?_ ?_
  · change _ = (⟨Rect.unit (s := S1x512x2048) ![0, 128, 768] S1x64x256.size (inbV 2 3), gT1 (pO x0 x1 x2 x4 x5 k0_pay3 2 1) (cutV x3 2 3)⟩ : View.Piece (Elt F) S1x512x2048 .bf16)
    rw [← o_2_1 c harg2 harg3 harg4 harg6 harg7 x0 x1 x2 x4 x5 (arg9 := arg9), rV harg5 x3]; rfl
  refine congrArg₂ List.cons ?_ ?_
  · change _ = (⟨Rect.unit (s := S1x512x2048) ![0, 128, 512] S1x64x256.size (inbV 2 2), gT0 (pO x0 x1 x2 x4 x5 k0_pay3 2 1) (cutV x3 2 2)⟩ : View.Piece (Elt F) S1x512x2048 .bf16)
    rw [← o_2_1 c harg2 harg3 harg4 harg6 harg7 x0 x1 x2 x4 x5 (arg9 := arg9), rV harg5 x3]; rfl
  refine congrArg₂ List.cons ?_ ?_
  · change _ = (⟨Rect.unit (s := S1x512x2048) ![0, 64, 768] S1x64x256.size (inbV 1 3), gT1 (pO x0 x1 x2 x4 x5 k0_pay3 1 1) (cutV x3 1 3)⟩ : View.Piece (Elt F) S1x512x2048 .bf16)
    rw [← o_1_1 c harg2 harg3 harg4 harg6 harg7 x0 x1 x2 x4 x5 (arg9 := arg9), rV harg5 x3]; rfl
  refine congrArg₂ List.cons ?_ ?_
  · change _ = (⟨Rect.unit (s := S1x512x2048) ![0, 64, 512] S1x64x256.size (inbV 1 2), gT0 (pO x0 x1 x2 x4 x5 k0_pay3 1 1) (cutV x3 1 2)⟩ : View.Piece (Elt F) S1x512x2048 .bf16)
    rw [← o_1_1 c harg2 harg3 harg4 harg6 harg7 x0 x1 x2 x4 x5 (arg9 := arg9), rV harg5 x3]; rfl
  refine congrArg₂ List.cons ?_ ?_
  · change _ = (⟨Rect.unit (s := S1x512x2048) ![0, 0, 768] S1x64x256.size (inbV 0 3), gT1 (pO x0 x1 x2 x4 x5 k0_pay3 0 1) (cutV x3 0 3)⟩ : View.Piece (Elt F) S1x512x2048 .bf16)
    rw [← o_0_1 c harg2 harg3 harg4 harg6 harg7 x0 x1 x2 x4 x5 (arg9 := arg9), rV harg5 x3]; rfl
  refine congrArg₂ List.cons ?_ ?_
  · change _ = (⟨Rect.unit (s := S1x512x2048) ![0, 0, 512] S1x64x256.size (inbV 0 2), gT0 (pO x0 x1 x2 x4 x5 k0_pay3 0 1) (cutV x3 0 2)⟩ : View.Piece (Elt F) S1x512x2048 .bf16)
    rw [← o_0_1 c harg2 harg3 harg4 harg6 harg7 x0 x1 x2 x4 x5 (arg9 := arg9), rV harg5 x3]; rfl
  refine congrArg₂ List.cons ?_ ?_
  · change _ = (⟨Rect.unit (s := S1x512x2048) ![0, 448, 256] S1x64x256.size (inbV 7 1), gT1 (pO x0 x1 x2 x4 x5 k0_pay3 7 0) (cutV x3 7 1)⟩ : View.Piece (Elt F) S1x512x2048 .bf16)
    rw [← o_7_0 c harg2 harg3 harg4 harg6 harg7 x0 x1 x2 x4 x5 (arg9 := arg9), rV harg5 x3]; rfl
  refine congrArg₂ List.cons ?_ ?_
  · change _ = (⟨Rect.unit (s := S1x512x2048) ![0, 448, 0] S1x64x256.size (inbV 7 0), gT0 (pO x0 x1 x2 x4 x5 k0_pay3 7 0) (cutV x3 7 0)⟩ : View.Piece (Elt F) S1x512x2048 .bf16)
    rw [← o_7_0 c harg2 harg3 harg4 harg6 harg7 x0 x1 x2 x4 x5 (arg9 := arg9), rV harg5 x3]; rfl
  refine congrArg₂ List.cons ?_ ?_
  · change _ = (⟨Rect.unit (s := S1x512x2048) ![0, 384, 256] S1x64x256.size (inbV 6 1), gT1 (pO x0 x1 x2 x4 x5 k0_pay3 6 0) (cutV x3 6 1)⟩ : View.Piece (Elt F) S1x512x2048 .bf16)
    rw [← o_6_0 c harg2 harg3 harg4 harg6 harg7 x0 x1 x2 x4 x5 (arg9 := arg9), rV harg5 x3]; rfl
  refine congrArg₂ List.cons ?_ ?_
  · change _ = (⟨Rect.unit (s := S1x512x2048) ![0, 384, 0] S1x64x256.size (inbV 6 0), gT0 (pO x0 x1 x2 x4 x5 k0_pay3 6 0) (cutV x3 6 0)⟩ : View.Piece (Elt F) S1x512x2048 .bf16)
    rw [← o_6_0 c harg2 harg3 harg4 harg6 harg7 x0 x1 x2 x4 x5 (arg9 := arg9), rV harg5 x3]; rfl
  refine congrArg₂ List.cons ?_ ?_
  · change _ = (⟨Rect.unit (s := S1x512x2048) ![0, 320, 256] S1x64x256.size (inbV 5 1), gT1 (pO x0 x1 x2 x4 x5 k0_pay3 5 0) (cutV x3 5 1)⟩ : View.Piece (Elt F) S1x512x2048 .bf16)
    rw [← o_5_0 c harg2 harg3 harg4 harg6 harg7 x0 x1 x2 x4 x5 (arg9 := arg9), rV harg5 x3]; rfl
  refine congrArg₂ List.cons ?_ ?_
  · change _ = (⟨Rect.unit (s := S1x512x2048) ![0, 320, 0] S1x64x256.size (inbV 5 0), gT0 (pO x0 x1 x2 x4 x5 k0_pay3 5 0) (cutV x3 5 0)⟩ : View.Piece (Elt F) S1x512x2048 .bf16)
    rw [← o_5_0 c harg2 harg3 harg4 harg6 harg7 x0 x1 x2 x4 x5 (arg9 := arg9), rV harg5 x3]; rfl
  refine congrArg₂ List.cons ?_ ?_
  · change _ = (⟨Rect.unit (s := S1x512x2048) ![0, 256, 256] S1x64x256.size (inbV 4 1), gT1 (pO x0 x1 x2 x4 x5 k0_pay3 4 0) (cutV x3 4 1)⟩ : View.Piece (Elt F) S1x512x2048 .bf16)
    rw [← o_4_0 c harg2 harg3 harg4 harg6 harg7 x0 x1 x2 x4 x5 (arg9 := arg9), rV harg5 x3]; rfl
  refine congrArg₂ List.cons ?_ ?_
  · change _ = (⟨Rect.unit (s := S1x512x2048) ![0, 256, 0] S1x64x256.size (inbV 4 0), gT0 (pO x0 x1 x2 x4 x5 k0_pay3 4 0) (cutV x3 4 0)⟩ : View.Piece (Elt F) S1x512x2048 .bf16)
    rw [← o_4_0 c harg2 harg3 harg4 harg6 harg7 x0 x1 x2 x4 x5 (arg9 := arg9), rV harg5 x3]; rfl
  refine congrArg₂ List.cons ?_ ?_
  · change _ = (⟨Rect.unit (s := S1x512x2048) ![0, 192, 256] S1x64x256.size (inbV 3 1), gT1 (pO x0 x1 x2 x4 x5 k0_pay3 3 0) (cutV x3 3 1)⟩ : View.Piece (Elt F) S1x512x2048 .bf16)
    rw [← o_3_0 c harg2 harg3 harg4 harg6 harg7 x0 x1 x2 x4 x5 (arg9 := arg9), rV harg5 x3]; rfl
  refine congrArg₂ List.cons ?_ ?_
  · change _ = (⟨Rect.unit (s := S1x512x2048) ![0, 192, 0] S1x64x256.size (inbV 3 0), gT0 (pO x0 x1 x2 x4 x5 k0_pay3 3 0) (cutV x3 3 0)⟩ : View.Piece (Elt F) S1x512x2048 .bf16)
    rw [← o_3_0 c harg2 harg3 harg4 harg6 harg7 x0 x1 x2 x4 x5 (arg9 := arg9), rV harg5 x3]; rfl
  refine congrArg₂ List.cons ?_ ?_
  · change _ = (⟨Rect.unit (s := S1x512x2048) ![0, 128, 256] S1x64x256.size (inbV 2 1), gT1 (pO x0 x1 x2 x4 x5 k0_pay3 2 0) (cutV x3 2 1)⟩ : View.Piece (Elt F) S1x512x2048 .bf16)
    rw [← o_2_0 c harg2 harg3 harg4 harg6 harg7 x0 x1 x2 x4 x5 (arg9 := arg9), rV harg5 x3]; rfl
  refine congrArg₂ List.cons ?_ ?_
  · change _ = (⟨Rect.unit (s := S1x512x2048) ![0, 128, 0] S1x64x256.size (inbV 2 0), gT0 (pO x0 x1 x2 x4 x5 k0_pay3 2 0) (cutV x3 2 0)⟩ : View.Piece (Elt F) S1x512x2048 .bf16)
    rw [← o_2_0 c harg2 harg3 harg4 harg6 harg7 x0 x1 x2 x4 x5 (arg9 := arg9), rV harg5 x3]; rfl
  refine congrArg₂ List.cons ?_ ?_
  · change _ = (⟨Rect.unit (s := S1x512x2048) ![0, 64, 256] S1x64x256.size (inbV 1 1), gT1 (pO x0 x1 x2 x4 x5 k0_pay3 1 0) (cutV x3 1 1)⟩ : View.Piece (Elt F) S1x512x2048 .bf16)
    rw [← o_1_0 c harg2 harg3 harg4 harg6 harg7 x0 x1 x2 x4 x5 (arg9 := arg9), rV harg5 x3]; rfl
  refine congrArg₂ List.cons ?_ ?_
  · change _ = (⟨Rect.unit (s := S1x512x2048) ![0, 64, 0] S1x64x256.size (inbV 1 0), gT0 (pO x0 x1 x2 x4 x5 k0_pay3 1 0) (cutV x3 1 0)⟩ : View.Piece (Elt F) S1x512x2048 .bf16)
    rw [← o_1_0 c harg2 harg3 harg4 harg6 harg7 x0 x1 x2 x4 x5 (arg9 := arg9), rV harg5 x3]; rfl
  refine congrArg₂ List.cons ?_ ?_
  · change _ = (⟨Rect.unit (s := S1x512x2048) ![0, 0, 256] S1x64x256.size (inbV 0 1), gT1 (pO x0 x1 x2 x4 x5 k0_pay3 0 0) (cutV x3 0 1)⟩ : View.Piece (Elt F) S1x512x2048 .bf16)
    rw [← o_0_0 c harg2 harg3 harg4 harg6 harg7 x0 x1 x2 x4 x5 (arg9 := arg9), rV harg5 x3]; rfl
  refine congrArg₂ List.cons ?_ ?_
  · change _ = (⟨Rect.unit (s := S1x512x2048) ![0, 0, 0] S1x64x256.size (inbV 0 0), gT0 (pO x0 x1 x2 x4 x5 k0_pay3 0 0) (cutV x3 0 0)⟩ : View.Piece (Elt F) S1x512x2048 .bf16)
    rw [← o_0_0 c harg2 harg3 harg4 harg6 harg7 x0 x1 x2 x4 x5 (arg9 := arg9), rV harg5 x3]; rfl
  rfl

theorem sout_eq (hc0 : cond0_0 i) :
    sout0_A_0 (F := F) c i arg2 harg2 arg3 harg3 arg4 harg4 arg5 harg5 arg6 harg6 arg7 harg7 arg8 harg8 arg9 harg9 hc0 x0 x1 x2 x3 x4 x5 = gSS x1 x2 x4 x5 k0_pay3 := by
  unfold sout0_A_0
  rw [View.read_writes_junk_eq_canon, pieces_s]
  funext y
  refine View.canon_append_of_piecesOf (gSS x1 x2 x4 x5 k0_pay3) _ _ ?_ y ?_
  · exact ⟨gSS_piece x1 x2 x4 x5 k0_pay3 7 (inbS 7), gSS_piece x1 x2 x4 x5 k0_pay3 6 (inbS 6), gSS_piece x1 x2 x4 x5 k0_pay3 5 (inbS 5), gSS_piece x1 x2 x4 x5 k0_pay3 4 (inbS 4), gSS_piece x1 x2 x4 x5 k0_pay3 3 (inbS 3), gSS_piece x1 x2 x4 x5 k0_pay3 2 (inbS 2), gSS_piece x1 x2 x4 x5 k0_pay3 1 (inbS 1), gSS_piece x1 x2 x4 x5 k0_pay3 0 (inbS 0), trivial⟩
  · exact View.cover_of_tiledL (s := S8x128x256) _ S1x128x256.size (by sl_kernel_rfl) y

theorem out_eq (hc0 : cond0_0 i) :
    out0_A_6 (F := F) c i arg2 harg2 arg3 harg3 arg4 harg4 arg5 harg5 arg6 harg6 arg7 harg7 arg8 harg8 arg9 harg9 hc0 x0 x1 x2 x3 x4 x5 = gTT x0 x1 x2 x3 x4 x5 k0_pay3 := by
  unfold out0_A_6
  rw [View.read_writes_junk_eq_canon, pieces_o]
  funext y
  refine (congrArg (fun l => View.canon l y) (List.append_nil _).symm).trans (View.canon_append_of_piecesOf (gTT x0 x1 x2 x3 x4 x5 k0_pay3) [] _ ?_ y ?_)
  · exact ⟨gTT_piece x0 x1 x2 x3 x4 x5 k0_pay3 7 7 (inbV 7 7), gTT_piece x0 x1 x2 x3 x4 x5 k0_pay3 7 6 (inbV 7 6), gTT_piece x0 x1 x2 x3 x4 x5 k0_pay3 6 7 (inbV 6 7), gTT_piece x0 x1 x2 x3 x4 x5 k0_pay3 6 6 (inbV 6 6), gTT_piece x0 x1 x2 x3 x4 x5 k0_pay3 5 7 (inbV 5 7), gTT_piece x0 x1 x2 x3 x4 x5 k0_pay3 5 6 (inbV 5 6), gTT_piece x0 x1 x2 x3 x4 x5 k0_pay3 4 7 (inbV 4 7), gTT_piece x0 x1 x2 x3 x4 x5 k0_pay3 4 6 (inbV 4 6), gTT_piece x0 x1 x2 x3 x4 x5 k0_pay3 3 7 (inbV 3 7), gTT_piece x0 x1 x2 x3 x4 x5 k0_pay3 3 6 (inbV 3 6), gTT_piece x0 x1 x2 x3 x4 x5 k0_pay3 2 7 (inbV 2 7), gTT_piece x0 x1 x2 x3 x4 x5 k0_pay3 2 6 (inbV 2 6), gTT_piece x0 x1 x2 x3 x4 x5 k0_pay3 1 7 (inbV 1 7), gTT_piece x0 x1 x2 x3 x4 x5 k0_pay3 1 6 (inbV 1 6), gTT_piece x0 x1 x2 x3 x4 x5 k0_pay3 0 7 (inbV 0 7), gTT_piece x0 x1 x2 x3 x4 x5 k0_pay3 0 6 (inbV 0 6), gTT_piece x0 x1 x2 x3 x4 x5 k0_pay3 7 5 (inbV 7 5), gTT_piece x0 x1 x2 x3 x4 x5 k0_pay3 7 4 (inbV 7 4), gTT_piece x0 x1 x2 x3 x4 x5 k0_pay3 6 5 (inbV 6 5), gTT_piece x0 x1 x2 x3 x4 x5 k0_pay3 6 4 (inbV 6 4), gTT_piece x0 x1 x2 x3 x4 x5 k0_pay3 5 5 (inbV 5 5), gTT_piece x0 x1 x2 x3 x4 x5 k0_pay3 5 4 (inbV 5 4), gTT_piece x0 x1 x2 x3 x4 x5 k0_pay3 4 5 (inbV 4 5), gTT_piece x0 x1 x2 x3 x4 x5 k0_pay3 4 4 (inbV 4 4), gTT_piece x0 x1 x2 x3 x4 x5 k0_pay3 3 5 (inbV 3 5), gTT_piece x0 x1 x2 x3 x4 x5 k0_pay3 3 4 (inbV 3 4), gTT_piece x0 x1 x2 x3 x4 x5 k0_pay3 2 5 (inbV 2 5), gTT_piece x0 x1 x2 x3 x4 x5 k0_pay3 2 4 (inbV 2 4), gTT_piece x0 x1 x2 x3 x4 x5 k0_pay3 1 5 (inbV 1 5), gTT_piece x0 x1 x2 x3 x4 x5 k0_pay3 1 4 (inbV 1 4), gTT_piece x0 x1 x2 x3 x4 x5 k0_pay3 0 5 (inbV 0 5), gTT_piece x0 x1 x2 x3 x4 x5 k0_pay3 0 4 (inbV 0 4), gTT_piece x0 x1 x2 x3 x4 x5 k0_pay3 7 3 (inbV 7 3), gTT_piece x0 x1 x2 x3 x4 x5 k0_pay3 7 2 (inbV 7 2), gTT_piece x0 x1 x2 x3 x4 x5 k0_pay3 6 3 (inbV 6 3), gTT_piece x0 x1 x2 x3 x4 x5 k0_pay3 6 2 (inbV 6 2), gTT_piece x0 x1 x2 x3 x4 x5 k0_pay3 5 3 (inbV 5 3), gTT_piece x0 x1 x2 x3 x4 x5 k0_pay3 5 2 (inbV 5 2), gTT_piece x0 x1 x2 x3 x4 x5 k0_pay3 4 3 (inbV 4 3), gTT_piece x0 x1 x2 x3 x4 x5 k0_pay3 4 2 (inbV 4 2), gTT_piece x0 x1 x2 x3 x4 x5 k0_pay3 3 3 (inbV 3 3), gTT_piece x0 x1 x2 x3 x4 x5 k0_pay3 3 2 (inbV 3 2), gTT_piece x0 x1 x2 x3 x4 x5 k0_pay3 2 3 (inbV 2 3), gTT_piece x0 x1 x2 x3 x4 x5 k0_pay3 2 2 (inbV 2 2), gTT_piece x0 x1 x2 x3 x4 x5 k0_pay3 1 3 (inbV 1 3), gTT_piece x0 x1 x2 x3 x4 x5 k0_pay3 1 2 (inbV 1 2), gTT_piece x0 x1 x2 x3 x4 x5 k0_pay3 0 3 (inbV 0 3), gTT_piece x0 x1 x2 x3 x4 x5 k0_pay3 0 2 (inbV 0 2), gTT_piece x0 x1 x2 x3 x4 x5 k0_pay3 7 1 (inbV 7 1), gTT_piece x0 x1 x2 x3 x4 x5 k0_pay3 7 0 (inbV 7 0), gTT_piece x0 x1 x2 x3 x4 x5 k0_pay3 6 1 (inbV 6 1), gTT_piece x0 x1 x2 x3 x4 x5 k0_pay3 6 0 (inbV 6 0), gTT_piece x0 x1 x2 x3 x4 x5 k0_pay3 5 1 (inbV 5 1), gTT_piece x0 x1 x2 x3 x4 x5 k0_pay3 5 0 (inbV 5 0), gTT_piece x0 x1 x2 x3 x4 x5 k0_pay3 4 1 (inbV 4 1), gTT_piece x0 x1 x2 x3 x4 x5 k0_pay3 4 0 (inbV 4 0), gTT_piece x0 x1 x2 x3 x4 x5 k0_pay3 3 1 (inbV 3 1), gTT_piece x0 x1 x2 x3 x4 x5 k0_pay3 3 0 (inbV 3 0), gTT_piece x0 x1 x2 x3 x4 x5 k0_pay3 2 1 (inbV 2 1), gTT_piece x0 x1 x2 x3 x4 x5 k0_pay3 2 0 (inbV 2 0), gTT_piece x0 x1 x2 x3 x4 x5 k0_pay3 1 1 (inbV 1 1), gTT_piece x0 x1 x2 x3 x4 x5 k0_pay3 1 0 (inbV 1 0), gTT_piece x0 x1 x2 x3 x4 x5 k0_pay3 0 1 (inbV 0 1), gTT_piece x0 x1 x2 x3 x4 x5 k0_pay3 0 0 (inbV 0 0), trivial⟩
  · exact View.cover_of_tiledL (s := S1x512x2048) _ S1x64x256.size (by sl_kernel_rfl) y

end Cert.KernelRetIdeal.Ret.CaseA
end
-- ==== Proof.RetCaseB1.lean ====
/- The values of the retention kernel at a grid point that continues a sweep: within a chunk, the named values are the shared functions. -/
module

public import proofs.«01_k».proof.Proof.RetBlocks

@[expose] public section

set_option maxRecDepth 16384

noncomputable section

open Idealize.ShloMosaic Idealize.ShloMosaic.TcCoe Idealize.SL.Sem

namespace Cert.KernelRetIdeal.Ret.CaseB
open Cert.KernelRetIdeal Cert.KernelRetIdeal.Gen Cert.KernelRetIdeal.Ret

variable {F : FTy → Type} [FloatOps F] [Named F]
variable (c : Dev nD) (i : grid0.Coords) {arg2 : Memref sig .tc .vmem S1x512x1024 .f32} (harg2 : arg2.IsWhole) {arg3 : Memref sig .tc .vmem S1x512x1024 .f32} (harg3 : arg3.IsWhole) {arg4 : Memref sig .tc .vmem S1x512x2048 .f32} (harg4 : arg4.IsWhole) {arg5 : Memref sig .tc .vmem S1x512x2048 .f32} (harg5 : arg5.IsWhole) {arg6 : Memref sig .tc .vmem S1x512x128 .f32} (harg6 : arg6.IsWhole) {arg7 : Memref sig .tc .vmem S1x512x128 .f32} (harg7 : arg7.IsWhole) {arg8 : Memref sig .tc .vmem S1x512x2048 .bf16} (harg8 : arg8.IsWhole) {arg9 : Memref sig .tc .vmem S8x128x256 .f32} (harg9 : arg9.IsWhole)
variable (x0 : Vec F S1x512x1024 .f32) (x1 : Vec F S1x512x1024 .f32) (x2 : Vec F S1x512x2048 .f32) (x3 : Vec F S1x512x2048 .f32) (x4 : Vec F S1x512x128 .f32) (x5 : Vec F S1x512x128 .f32) (xs0 : Vec F S8x128x256 .f32)

theorem qd_0_0 :
    kernelRun0_B.sl.r_1 (F := F) c arg2 harg2 arg6 harg6 arg7 harg7 x0 x4 x5 = pQD x0 x4 x5 0 0 := by
  unfold pQD
  simp only [rK harg2 x0, rC harg6 x4, rC harg7 x5]
  rfl

theorem oi_0_0 :
    kernelRun0_B.sl.r_2 (F := F) c arg2 harg2 arg3 harg3 arg4 harg4 arg6 harg6 arg7 harg7 x0 x1 x2 x4 x5 = pOI x0 x1 x2 x4 x5 0 0 := by
  unfold pOI pQD pKr
  simp only [rK harg2 x0, rK harg3 x1, rV harg4 x2, rC harg6 x4, rC harg7 x5]
  rfl

theorem kv0_0_0 :
    kernelRun0_B.sl.v124 (F := F) c arg3 harg3 arg4 harg4 arg6 harg6 arg7 harg7 x1 x2 x4 x5 = pKV0 x1 x2 x4 x5 0 0 := by
  unfold pKV0 pKE pKr
  simp only [rK harg3 x1, rV harg4 x2, rC harg6 x4, rC harg7 x5]
  rfl

theorem kv1_0_0 :
    kernelRun0_B.sl.v130 (F := F) c arg3 harg3 arg4 harg4 arg6 harg6 arg7 harg7 x1 x2 x4 x5 = pKV1 x1 x2 x4 x5 0 0 := by
  unfold pKV1 pKE pKr
  simp only [rK harg3 x1, rV harg4 x2, rC harg6 x4, rC harg7 x5]
  rfl

theorem qd_0_1 :
    kernelRun0_B.sl.r_6 (F := F) c arg2 harg2 arg6 harg6 arg7 harg7 x0 x4 x5 = pQD x0 x4 x5 0 1 := by
  unfold pQD
  simp only [rK harg2 x0, rC harg6 x4, rC harg7 x5]
  rfl

theorem oi_0_1 :
    kernelRun0_B.sl.r_7 (F := F) c arg2 harg2 arg3 harg3 arg4 harg4 arg6 harg6 arg7 harg7 x0 x1 x2 x4 x5 = pOI x0 x1 x2 x4 x5 0 1 := by
  unfold pOI pQD pKr
  simp only [rK harg2 x0, rK harg3 x1, rV harg4 x2, rC harg6 x4, rC harg7 x5]
  rfl

theorem kv0_0_1 :
    kernelRun0_B.sl.r_8 (F := F) c arg3 harg3 arg4 harg4 arg6 harg6 arg7 harg7 x1 x2 x4 x5 = pKV0 x1 x2 x4 x5 0 1 := by
  unfold pKV0 pKE pKr
  simp only [rK harg3 x1, rV harg4 x2, rC harg6 x4, rC harg7 x5]
  rfl

theorem kv1_0_1 :
    kernelRun0_B.sl.r_9 (F := F) c arg3 harg3 arg4 harg4 arg6 harg6 arg7 harg7 x1 x2 x4 x5 = pKV1 x1 x2 x4 x5 0 1 := by
  unfold pKV1 pKE pKr
  simp only [rK harg3 x1, rV harg4 x2, rC harg6 x4, rC harg7 x5]
  rfl

theorem qd_0_2 :
    kernelRun0_B.sl.r_16 (F := F) c arg2 harg2 arg6 harg6 arg7 harg7 x0 x4 x5 = pQD x0 x4 x5 0 2 := by
  unfold pQD
  simp only [rK harg2 x0, rC harg6 x4, rC harg7 x5]
  rfl

theorem oi_0_2 :
    kernelRun0_B.sl.r_17 (F := F) c arg2 harg2 arg3 harg3 arg4 harg4 arg6 harg6 arg7 harg7 x0 x1 x2 x4 x5 = pOI x0 x1 x2 x4 x5 0 2 := by
  unfold pOI pQD pKr
  simp only [rK harg2 x0, rK harg3 x1, rV harg4 x2, rC harg6 x4, rC harg7 x5]
  rfl

theorem kv0_0_2 :
    kernelRun0_B.sl.r_18 (F := F) c arg3 harg3 arg4 harg4 arg6 harg6 arg7 harg7 x1 x2 x4 x5 = pKV0 x1 x2 x4 x5 0 2 := by
  unfold pKV0 pKE pKr
  simp only [rK harg3 x1, rV harg4 x2, rC harg6 x4, rC harg7 x5]
  rfl

theorem kv1_0_2 :
    kernelRun0_B.sl.r_19 (F := F) c arg3 harg3 arg4 harg4 arg6 harg6 arg7 harg7 x1 x2 x4 x5 = pKV1 x1 x2 x4 x5 0 2 := by
  unfold pKV1 pKE pKr
  simp only [rK harg3 x1, rV harg4 x2, rC harg6 x4, rC harg7 x5]
  rfl

theorem qd_0_3 :
    kernelRun0_B.sl.r_26 (F := F) c arg2 harg2 arg6 harg6 arg7 harg7 x0 x4 x5 = pQD x0 x4 x5 0 3 := by
  unfold pQD
  simp only [rK harg2 x0, rC harg6 x4, rC harg7 x5]
  rfl

theorem oi_0_3 :
    kernelRun0_B.sl.v327 (F := F) c arg2 harg2 arg3 harg3 arg4 harg4 arg6 harg6 arg7 harg7 x0 x1 x2 x4 x5 = pOI x0 x1 x2 x4 x5 0 3 := by
  unfold pOI pQD pKr
  simp only [rK harg2 x0, rK harg3 x1, rV harg4 x2, rC harg6 x4, rC harg7 x5]
  rfl

theorem kv0_0_3 :
    kernelRun0_B.sl.v337 (F := F) c arg3 harg3 arg4 harg4 arg6 harg6 arg7 harg7 x1 x2 x4 x5 = pKV0 x1 x2 x4 x5 0 3 := by
  unfold pKV0 pKE pKr
  simp only [rK harg3 x1, rV harg4 x2, rC harg6 x4, rC harg7 x5]
  rfl

theorem kv1_0_3 :
    kernelRun0_B.sl.v343 (F := F) c arg3 harg3 arg4 harg4 arg6 harg6 arg7 harg7 x1 x2 x4 x5 = pKV1 x1 x2 x4 x5 0 3 := by
  unfold pKV1 pKE pKr
  simp only [rK harg3 x1, rV harg4 x2, rC harg6 x4, rC harg7 x5]
  rfl

theorem qd_1_0 :
    kernelRun0_B.sl.r_31 (F := F) c arg2 harg2 arg6 harg6 arg7 harg7 x0 x4 x5 = pQD x0 x4 x5 1 0 := by
  unfold pQD
  simp only [rK harg2 x0, rC harg6 x4, rC harg7 x5]
  rfl

theorem oi_1_0 :
    kernelRun0_B.sl.v398 (F := F) c arg2 harg2 arg3 harg3 arg4 harg4 arg6 harg6 arg7 harg7 x0 x1 x2 x4 x5 = pOI x0 x1 x2 x4 x5 1 0 := by
  unfold pOI pQD pKr
  simp only [rK harg2 x0, rK harg3 x1, rV harg4 x2, rC harg6 x4, rC harg7 x5]
  rfl

theorem kv0_1_0 :
    kernelRun0_B.sl.v408 (F := F) c arg3 harg3 arg4 harg4 arg6 harg6 arg7 harg7 x1 x2 x4 x5 = pKV0 x1 x2 x4 x5 1 0 := by
  unfold pKV0 pKE pKr
  simp only [rK harg3 x1, rV harg4 x2, rC harg6 x4, rC harg7 x5]
  rfl

theorem kv1_1_0 :
    kernelRun0_B.sl.v414 (F := F) c arg3 harg3 arg4 harg4 arg6 harg6 arg7 harg7 x1 x2 x4 x5 = pKV1 x1 x2 x4 x5 1 0 := by
  unfold pKV1 pKE pKr
  simp only [rK harg3 x1, rV harg4 x2, rC harg6 x4, rC harg7 x5]
  rfl

theorem qd_1_1 :
    kernelRun0_B.sl.r_35 (F := F) c arg2 harg2 arg6 harg6 arg7 harg7 x0 x4 x5 = pQD x0 x4 x5 1 1 := by
  unfold pQD
  simp only [rK harg2 x0, rC harg6 x4, rC harg7 x5]
  rfl

theorem oi_1_1 :
    kernelRun0_B.sl.r_36 (F := F) c arg2 harg2 arg3 harg3 arg4 harg4 arg6 harg6 arg7 harg7 x0 x1 x2 x4 x5 = pOI x0 x1 x2 x4 x5 1 1 := by
  unfold pOI pQD pKr
  simp only [rK harg2 x0, rK harg3 x1, rV harg4 x2, rC harg6 x4, rC harg7 x5]
  rfl

theorem kv0_1_1 :
    kernelRun0_B.sl.v479 (F := F) c arg3 harg3 arg4 harg4 arg6 harg6 arg7 harg7 x1 x2 x4 x5 = pKV0 x1 x2 x4 x5 1 1 := by
  unfold pKV0 pKE pKr
  simp only [rK harg3 x1, rV harg4 x2, rC harg6 x4, rC harg7 x5]
  rfl

theorem kv1_1_1 :
    kernelRun0_B.sl.v485 (F := F) c arg3 harg3 arg4 harg4 arg6 harg6 arg7 harg7 x1 x2 x4 x5 = pKV1 x1 x2 x4 x5 1 1 := by
  unfold pKV1 pKE pKr
  simp only [rK harg3 x1, rV harg4 x2, rC harg6 x4, rC harg7 x5]
  rfl

theorem qd_1_2 :
    kernelRun0_B.sl.r_40 (F := F) c arg2 harg2 arg6 harg6 arg7 harg7 x0 x4 x5 = pQD x0 x4 x5 1 2 := by
  unfold pQD
  simp only [rK harg2 x0, rC harg6 x4, rC harg7 x5]
  rfl

theorem oi_1_2 :
    kernelRun0_B.sl.r_41 (F := F) c arg2 harg2 arg3 harg3 arg4 harg4 arg6 harg6 arg7 harg7 x0 x1 x2 x4 x5 = pOI x0 x1 x2 x4 x5 1 2 := by
  unfold pOI pQD pKr
  simp only [rK harg2 x0, rK harg3 x1, rV harg4 x2, rC harg6 x4, rC harg7 x5]
  rfl

theorem kv0_1_2 :
    kernelRun0_B.sl.r_42 (F := F) c arg3 harg3 arg4 harg4 arg6 harg6 arg7 harg7 x1 x2 x4 x5 = pKV0 x1 x2 x4 x5 1 2 := by
  unfold pKV0 pKE pKr
  simp only [rK harg3 x1, rV harg4 x2, rC harg6 x4, rC harg7 x5]
  rfl

theorem kv1_1_2 :
    kernelRun0_B.sl.r_43 (F := F) c arg3 harg3 arg4 harg4 arg6 harg6 arg7 harg7 x1 x2 x4 x5 = pKV1 x1 x2 x4 x5 1 2 := by
  unfold pKV1 pKE pKr
  simp only [rK harg3 x1, rV harg4 x2, rC harg6 x4, rC harg7 x5]
  rfl

theorem qd_1_3 :
    kernelRun0_B.sl.r_50 (F := F) c arg2 harg2 arg6 harg6 arg7 harg7 x0 x4 x5 = pQD x0 x4 x5 1 3 := by
  unfold pQD
  simp only [rK harg2 x0, rC harg6 x4, rC harg7 x5]
  rfl

theorem oi_1_3 :
    kernelRun0_B.sl.r_51 (F := F) c arg2 harg2 arg3 harg3 arg4 harg4 arg6 harg6 arg7 harg7 x0 x1 x2 x4 x5 = pOI x0 x1 x2 x4 x5 1 3 := by
  unfold pOI pQD pKr
  simp only [rK harg2 x0, rK harg3 x1, rV harg4 x2, rC harg6 x4, rC harg7 x5]
  rfl

theorem kv0_1_3 :
    kernelRun0_B.sl.r_52 (F := F) c arg3 harg3 arg4 harg4 arg6 harg6 arg7 harg7 x1 x2 x4 x5 = pKV0 x1 x2 x4 x5 1 3 := by
  unfold pKV0 pKE pKr
  simp only [rK harg3 x1, rV harg4 x2, rC harg6 x4, rC harg7 x5]
  rfl

theorem kv1_1_3 :
    kernelRun0_B.sl.r_53 (F := F) c arg3 harg3 arg4 harg4 arg6 harg6 arg7 harg7 x1 x2 x4 x5 = pKV1 x1 x2 x4 x5 1 3 := by
  unfold pKV1 pKE pKr
  simp only [rK harg3 x1, rV harg4 x2, rC harg6 x4, rC harg7 x5]
  rfl

theorem qd_2_0 :
    kernelRun0_B.sl.r_60 (F := F) c arg2 harg2 arg6 harg6 arg7 harg7 x0 x4 x5 = pQD x0 x4 x5 2 0 := by
  unfold pQD
  simp only [rK harg2 x0, rC harg6 x4, rC harg7 x5]
  rfl

theorem oi_2_0 :
    kernelRun0_B.sl.v682 (F := F) c arg2 harg2 arg3 harg3 arg4 harg4 arg6 harg6 arg7 harg7 x0 x1 x2 x4 x5 = pOI x0 x1 x2 x4 x5 2 0 := by
  unfold pOI pQD pKr
  simp only [rK harg2 x0, rK harg3 x1, rV harg4 x2, rC harg6 x4, rC harg7 x5]
  rfl

theorem kv0_2_0 :
    kernelRun0_B.sl.v692 (F := F) c arg3 harg3 arg4 harg4 arg6 harg6 arg7 harg7 x1 x2 x4 x5 = pKV0 x1 x2 x4 x5 2 0 := by
  unfold pKV0 pKE pKr
  simp only [rK harg3 x1, rV harg4 x2, rC harg6 x4, rC harg7 x5]
  rfl

theorem kv1_2_0 :
    kernelRun0_B.sl.v698 (F := F) c arg3 harg3 arg4 harg4 arg6 harg6 arg7 harg7 x1 x2 x4 x5 = pKV1 x1 x2 x4 x5 2 0 := by
  unfold pKV1 pKE pKr
  simp only [rK harg3 x1, rV harg4 x2, rC harg6 x4, rC harg7 x5]
  rfl

theorem qd_2_1 :
    kernelRun0_B.sl.r_65 (F := F) c arg2 harg2 arg6 harg6 arg7 harg7 x0 x4 x5 = pQD x0 x4 x5 2 1 := by
  unfold pQD
  simp only [rK harg2 x0, rC harg6 x4, rC harg7 x5]
  rfl

theorem oi_2_1 :
    kernelRun0_B.sl.v753 (F := F) c arg2 harg2 arg3 harg3 arg4 harg4 arg6 harg6 arg7 harg7 x0 x1 x2 x4 x5 = pOI x0 x1 x2 x4 x5 2 1 := by
  unfold pOI pQD pKr
  simp only [rK harg2 x0, rK harg3 x1, rV harg4 x2, rC harg6 x4, rC harg7 x5]
  rfl

theorem kv0_2_1 :
    kernelRun0_B.sl.v763 (F := F) c arg3 harg3 arg4 harg4 arg6 harg6 arg7 harg7 x1 x2 x4 x5 = pKV0 x1 x2 x4 x5 2 1 := by
  unfold pKV0 pKE pKr
  simp only [rK harg3 x1, rV harg4 x2, rC harg6 x4, rC harg7 x5]
  rfl

theorem kv1_2_1 :
    kernelRun0_B.sl.v769 (F := F) c arg3 harg3 arg4 harg4 arg6 harg6 arg7 harg7 x1 x2 x4 x5 = pKV1 x1 x2 x4 x5 2 1 := by
  unfold pKV1 pKE pKr
  simp only [rK harg3 x1, rV harg4 x2, rC harg6 x4, rC harg7 x5]
  rfl

theorem qd_2_2 :
    kernelRun0_B.sl.r_69 (F := F) c arg2 harg2 arg6 harg6 arg7 harg7 x0 x4 x5 = pQD x0 x4 x5 2 2 := by
  unfold pQD
  simp only [rK harg2 x0, rC harg6 x4, rC harg7 x5]
  rfl

theorem oi_2_2 :
    kernelRun0_B.sl.r_70 (F := F) c arg2 harg2 arg3 harg3 arg4 harg4 arg6 harg6 arg7 harg7 x0 x1 x2 x4 x5 = pOI x0 x1 x2 x4 x5 2 2 := by
  unfold pOI pQD pKr
  simp only [rK harg2 x0, rK harg3 x1, rV harg4 x2, rC harg6 x4, rC harg7 x5]
  rfl

theorem kv0_2_2 :
    kernelRun0_B.sl.v834 (F := F) c arg3 harg3 arg4 harg4 arg6 harg6 arg7 harg7 x1 x2 x4 x5 = pKV0 x1 x2 x4 x5 2 2 := by
  unfold pKV0 pKE pKr
  simp only [rK harg3 x1, rV harg4 x2, rC harg6 x4, rC harg7 x5]
  rfl

theorem kv1_2_2 :
    kernelRun0_B.sl.v840 (F := F) c arg3 harg3 arg4 harg4 arg6 harg6 arg7 harg7 x1 x2 x4 x5 = pKV1 x1 x2 x4 x5 2 2 := by
  unfold pKV1 pKE pKr
  simp only [rK harg3 x1, rV harg4 x2, rC harg6 x4, rC harg7 x5]
  rfl

theorem qd_2_3 :
    kernelRun0_B.sl.r_74 (F := F) c arg2 harg2 arg6 harg6 arg7 harg7 x0 x4 x5 = pQD x0 x4 x5 2 3 := by
  unfold pQD
  simp only [rK harg2 x0, rC harg6 x4, rC harg7 x5]
  rfl

theorem oi_2_3 :
    kernelRun0_B.sl.r_75 (F := F) c arg2 harg2 arg3 harg3 arg4 harg4 arg6 harg6 arg7 harg7 x0 x1 x2 x4 x5 = pOI x0 x1 x2 x4 x5 2 3 := by
  unfold pOI pQD pKr
  simp only [rK harg2 x0, rK harg3 x1, rV harg4 x2, rC harg6 x4, rC harg7 x5]
  rfl

theorem kv0_2_3 :
    kernelRun0_B.sl.r_76 (F := F) c arg3 harg3 arg4 harg4 arg6 harg6 arg7 harg7 x1 x2 x4 x5 = pKV0 x1 x2 x4 x5 2 3 := by
  unfold pKV0 pKE pKr
  simp only [rK harg3 x1, rV harg4 x2, rC harg6 x4, rC harg7 x5]
  rfl

theorem kv1_2_3 :
    kernelRun0_B.sl.r_77 (F := F) c arg3 harg3 arg4 harg4 arg6 harg6 arg7 harg7 x1 x2 x4 x5 = pKV1 x1 x2 x4 x5 2 3 := by
  unfold pKV1 pKE pKr
  simp only [rK harg3 x1, rV harg4 x2, rC harg6 x4, rC harg7 x5]
  rfl

theorem qd_3_0 :
    kernelRun0_B.sl.r_84 (F := F) c arg2 harg2 arg6 harg6 arg7 harg7 x0 x4 x5 = pQD x0 x4 x5 3 0 := by
  unfold pQD
  simp only [rK harg2 x0, rC harg6 x4, rC harg7 x5]
  rfl

theorem oi_3_0 :
    kernelRun0_B.sl.r_85 (F := F) c arg2 harg2 arg3 harg3 arg4 harg4 arg6 harg6 arg7 harg7 x0 x1 x2 x4 x5 = pOI x0 x1 x2 x4 x5 3 0 := by
  unfold pOI pQD pKr
  simp only [rK harg2 x0, rK harg3 x1, rV harg4 x2, rC harg6 x4, rC harg7 x5]
  rfl

theorem kv0_3_0 :
    kernelRun0_B.sl.r_86 (F := F) c arg3 harg3 arg4 harg4 arg6 harg6 arg7 harg7 x1 x2 x4 x5 = pKV0 x1 x2 x4 x5 3 0 := by
  unfold pKV0 pKE pKr
  simp only [rK harg3 x1, rV harg4 x2, rC harg6 x4, rC harg7 x5]
  rfl

theorem kv1_3_0 :
    kernelRun0_B.sl.r_87 (F := F) c arg3 harg3 arg4 harg4 arg6 harg6 arg7 harg7 x1 x2 x4 x5 = pKV1 x1 x2 x4 x5 3 0 := by
  unfold pKV1 pKE pKr
  simp only [rK harg3 x1, rV harg4 x2, rC harg6 x4, rC harg7 x5]
  rfl

theorem qd_3_1 :
    kernelRun0_B.sl.r_94 (F := F) c arg2 harg2 arg6 harg6 arg7 harg7 x0 x4 x5 = pQD x0 x4 x5 3 1 := by
  unfold pQD
  simp only [rK harg2 x0, rC harg6 x4, rC harg7 x5]
  rfl

theorem oi_3_1 :
    kernelRun0_B.sl.v1037 (F := F) c arg2 harg2 arg3 harg3 arg4 harg4 arg6 harg6 arg7 harg7 x0 x1 x2 x4 x5 = pOI x0 x1 x2 x4 x5 3 1 := by
  unfold pOI pQD pKr
  simp only [rK harg2 x0, rK harg3 x1, rV harg4 x2, rC harg6 x4, rC harg7 x5]
  rfl

theorem kv0_3_1 :
    kernelRun0_B.sl.v1047 (F := F) c arg3 harg3 arg4 harg4 arg6 harg6 arg7 harg7 x1 x2 x4 x5 = pKV0 x1 x2 x4 x5 3 1 := by
  unfold pKV0 pKE pKr
  simp only [rK harg3 x1, rV harg4 x2, rC harg6 x4, rC harg7 x5]
  rfl

theorem kv1_3_1 :
    kernelRun0_B.sl.v1053 (F := F) c arg3 harg3 arg4 harg4 arg6 harg6 arg7 harg7 x1 x2 x4 x5 = pKV1 x1 x2 x4 x5 3 1 := by
  unfold pKV1 pKE pKr
  simp only [rK harg3 x1, rV harg4 x2, rC harg6 x4, rC harg7 x5]
  rfl

theorem qd_3_2 :
    kernelRun0_B.sl.r_99 (F := F) c arg2 harg2 arg6 harg6 arg7 harg7 x0 x4 x5 = pQD x0 x4 x5 3 2 := by
  unfold pQD
  simp only [rK harg2 x0, rC harg6 x4, rC harg7 x5]
  rfl

theorem oi_3_2 :
    kernelRun0_B.sl.v1108 (F := F) c arg2 harg2 arg3 harg3 arg4 harg4 arg6 harg6 arg7 harg7 x0 x1 x2 x4 x5 = pOI x0 x1 x2 x4 x5 3 2 := by
  unfold pOI pQD pKr
  simp only [rK harg2 x0, rK harg3 x1, rV harg4 x2, rC harg6 x4, rC harg7 x5]
  rfl

theorem kv0_3_2 :
    kernelRun0_B.sl.v1118 (F := F) c arg3 harg3 arg4 harg4 arg6 harg6 arg7 harg7 x1 x2 x4 x5 = pKV0 x1 x2 x4 x5 3 2 := by
  unfold pKV0 pKE pKr
  simp only [rK harg3 x1, rV harg4 x2, rC harg6 x4, rC harg7 x5]
  rfl

theorem kv1_3_2 :
    kernelRun0_B.sl.v1124 (F := F) c arg3 harg3 arg4 harg4 arg6 harg6 arg7 harg7 x1 x2 x4 x5 = pKV1 x1 x2 x4 x5 3 2 := by
  unfold pKV1 pKE pKr
  simp only [rK harg3 x1, rV harg4 x2, rC harg6 x4, rC harg7 x5]
  rfl

theorem qd_3_3 :
    kernelRun0_B.sl.r_103 (F := F) c arg2 harg2 arg6 harg6 arg7 harg7 x0 x4 x5 = pQD x0 x4 x5 3 3 := by
  unfold pQD
  simp only [rK harg2 x0, rC harg6 x4, rC harg7 x5]
  rfl

theorem oi_3_3 :
    kernelRun0_B.sl.r_104 (F := F) c arg2 harg2 arg3 harg3 arg4 harg4 arg6 harg6 arg7 harg7 x0 x1 x2 x4 x5 = pOI x0 x1 x2 x4 x5 3 3 := by
  unfold pOI pQD pKr
  simp only [rK harg2 x0, rK harg3 x1, rV harg4 x2, rC harg6 x4, rC harg7 x5]
  rfl

theorem kv0_3_3 :
    kernelRun0_B.sl.v1189 (F := F) c arg3 harg3 arg4 harg4 arg6 harg6 arg7 harg7 x1 x2 x4 x5 = pKV0 x1 x2 x4 x5 3 3 := by
  unfold pKV0 pKE pKr
  simp only [rK harg3 x1, rV harg4 x2, rC harg6 x4, rC harg7 x5]
  rfl

theorem kv1_3_3 :
    kernelRun0_B.sl.v1195 (F := F) c arg3 harg3 arg4 harg4 arg6 harg6 arg7 harg7 x1 x2 x4 x5 = pKV1 x1 x2 x4 x5 3 3 := by
  unfold pKV1 pKE pKr
  simp only [rK harg3 x1, rV harg4 x2, rC harg6 x4, rC harg7 x5]
  rfl

theorem qd_4_0 :
    kernelRun0_B.sl.r_108 (F := F) c arg2 harg2 arg6 harg6 arg7 harg7 x0 x4 x5 = pQD x0 x4 x5 4 0 := by
  unfold pQD
  simp only [rK harg2 x0, rC harg6 x4, rC harg7 x5]
  rfl

theorem oi_4_0 :
    kernelRun0_B.sl.r_109 (F := F) c arg2 harg2 arg3 harg3 arg4 harg4 arg6 harg6 arg7 harg7 x0 x1 x2 x4 x5 = pOI x0 x1 x2 x4 x5 4 0 := by
  unfold pOI pQD pKr
  simp only [rK harg2 x0, rK harg3 x1, rV harg4 x2, rC harg6 x4, rC harg7 x5]
  rfl

theorem kv0_4_0 :
    kernelRun0_B.sl.r_110 (F := F) c arg3 harg3 arg4 harg4 arg6 harg6 arg7 harg7 x1 x2 x4 x5 = pKV0 x1 x2 x4 x5 4 0 := by
  unfold pKV0 pKE pKr
  simp only [rK harg3 x1, rV harg4 x2, rC harg6 x4, rC harg7 x5]
  rfl

theorem kv1_4_0 :
    kernelRun0_B.sl.r_111 (F := F) c arg3 harg3 arg4 harg4 arg6 harg6 arg7 harg7 x1 x2 x4 x5 = pKV1 x1 x2 x4 x5 4 0 := by
  unfold pKV1 pKE pKr
  simp only [rK harg3 x1, rV harg4 x2, rC harg6 x4, rC harg7 x5]
  rfl

theorem qd_4_1 :
    kernelRun0_B.sl.r_118 (F := F) c arg2 harg2 arg6 harg6 arg7 harg7 x0 x4 x5 = pQD x0 x4 x5 4 1 := by
  unfold pQD
  simp only [rK harg2 x0, rC harg6 x4, rC harg7 x5]
  rfl

theorem oi_4_1 :
    kernelRun0_B.sl.r_119 (F := F) c arg2 harg2 arg3 harg3 arg4 harg4 arg6 harg6 arg7 harg7 x0 x1 x2 x4 x5 = pOI x0 x1 x2 x4 x5 4 1 := by
  unfold pOI pQD pKr
  simp only [rK harg2 x0, rK harg3 x1, rV harg4 x2, rC harg6 x4, rC harg7 x5]
  rfl

theorem kv0_4_1 :
    kernelRun0_B.sl.r_120 (F := F) c arg3 harg3 arg4 harg4 arg6 harg6 arg7 harg7 x1 x2 x4 x5 = pKV0 x1 x2 x4 x5 4 1 := by
  unfold pKV0 pKE pKr
  simp only [rK harg3 x1, rV harg4 x2, rC harg6 x4, rC harg7 x5]
  rfl

theorem kv1_4_1 :
    kernelRun0_B.sl.r_121 (F := F) c arg3 harg3 arg4 harg4 arg6 harg6 arg7 harg7 x1 x2 x4 x5 = pKV1 x1 x2 x4 x5 4 1 := by
  unfold pKV1 pKE pKr
  simp only [rK harg3 x1, rV harg4 x2, rC harg6 x4, rC harg7 x5]
  rfl

theorem qd_4_2 :
    kernelRun0_B.sl.r_128 (F := F) c arg2 harg2 arg6 harg6 arg7 harg7 x0 x4 x5 = pQD x0 x4 x5 4 2 := by
  unfold pQD
  simp only [rK harg2 x0, rC harg6 x4, rC harg7 x5]
  rfl

theorem oi_4_2 :
    kernelRun0_B.sl.v1392 (F := F) c arg2 harg2 arg3 harg3 arg4 harg4 arg6 harg6 arg7 harg7 x0 x1 x2 x4 x5 = pOI x0 x1 x2 x4 x5 4 2 := by
  unfold pOI pQD pKr
  simp only [rK harg2 x0, rK harg3 x1, rV harg4 x2, rC harg6 x4, rC harg7 x5]
  rfl

theorem kv0_4_2 :
    kernelRun0_B.sl.v1402 (F := F) c arg3 harg3 arg4 harg4 arg6 harg6 arg7 harg7 x1 x2 x4 x5 = pKV0 x1 x2 x4 x5 4 2 := by
  unfold pKV0 pKE pKr
  simp only [rK harg3 x1, rV harg4 x2, rC harg6 x4, rC harg7 x5]
  rfl

theorem kv1_4_2 :
    kernelRun0_B.sl.v1408 (F := F) c arg3 harg3 arg4 harg4 arg6 harg6 arg7 harg7 x1 x2 x4 x5 = pKV1 x1 x2 x4 x5 4 2 := by
  unfold pKV1 pKE pKr
  simp only [rK harg3 x1, rV harg4 x2, rC harg6 x4, rC harg7 x5]
  rfl

theorem qd_4_3 :
    kernelRun0_B.sl.r_133 (F := F) c arg2 harg2 arg6 harg6 arg7 harg7 x0 x4 x5 = pQD x0 x4 x5 4 3 := by
  unfold pQD
  simp only [rK harg2 x0, rC harg6 x4, rC harg7 x5]
  rfl

theorem oi_4_3 :
    kernelRun0_B.sl.v1463 (F := F) c arg2 harg2 arg3 harg3 arg4 harg4 arg6 harg6 arg7 harg7 x0 x1 x2 x4 x5 = pOI x0 x1 x2 x4 x5 4 3 := by
  unfold pOI pQD pKr
  simp only [rK harg2 x0, rK harg3 x1, rV harg4 x2, rC harg6 x4, rC harg7 x5]
  rfl

theorem kv0_4_3 :
    kernelRun0_B.sl.v1473 (F := F) c arg3 harg3 arg4 harg4 arg6 harg6 arg7 harg7 x1 x2 x4 x5 = pKV0 x1 x2 x4 x5 4 3 := by
  unfold pKV0 pKE pKr
  simp only [rK harg3 x1, rV harg4 x2, rC harg6 x4, rC harg7 x5]
  rfl

theorem kv1_4_3 :
    kernelRun0_B.sl.v1479 (F := F) c arg3 harg3 arg4 harg4 arg6 harg6 arg7 harg7 x1 x2 x4 x5 = pKV1 x1 x2 x4 x5 4 3 := by
  unfold pKV1 pKE pKr
  simp only [rK harg3 x1, rV harg4 x2, rC harg6 x4, rC harg7 x5]
  rfl

theorem qd_5_0 :
    kernelRun0_B.sl.r_137 (F := F) c arg2 harg2 arg6 harg6 arg7 harg7 x0 x4 x5 = pQD x0 x4 x5 5 0 := by
  unfold pQD
  simp only [rK harg2 x0, rC harg6 x4, rC harg7 x5]
  rfl

theorem oi_5_0 :
    kernelRun0_B.sl.r_138 (F := F) c arg2 harg2 arg3 harg3 arg4 harg4 arg6 harg6 arg7 harg7 x0 x1 x2 x4 x5 = pOI x0 x1 x2 x4 x5 5 0 := by
  unfold pOI pQD pKr
  simp only [rK harg2 x0, rK harg3 x1, rV harg4 x2, rC harg6 x4, rC harg7 x5]
  rfl

theorem kv0_5_0 :
    kernelRun0_B.sl.v1544 (F := F) c arg3 harg3 arg4 harg4 arg6 harg6 arg7 harg7 x1 x2 x4 x5 = pKV0 x1 x2 x4 x5 5 0 := by
  unfold pKV0 pKE pKr
  simp only [rK harg3 x1, rV harg4 x2, rC harg6 x4, rC harg7 x5]
  rfl

theorem kv1_5_0 :
    kernelRun0_B.sl.v1550 (F := F) c arg3 harg3 arg4 harg4 arg6 harg6 arg7 harg7 x1 x2 x4 x5 = pKV1 x1 x2 x4 x5 5 0 := by
  unfold pKV1 pKE pKr
  simp only [rK harg3 x1, rV harg4 x2, rC harg6 x4, rC harg7 x5]
  rfl

theorem qd_5_1 :
    kernelRun0_B.sl.r_142 (F := F) c arg2 harg2 arg6 harg6 arg7 harg7 x0 x4 x5 = pQD x0 x4 x5 5 1 := by
  unfold pQD
  simp only [rK harg2 x0, rC harg6 x4, rC harg7 x5]
  rfl

theorem oi_5_1 :
    kernelRun0_B.sl.r_143 (F := F) c arg2 harg2 arg3 harg3 arg4 harg4 arg6 harg6 arg7 harg7 x0 x1 x2 x4 x5 = pOI x0 x1 x2 x4 x5 5 1 := by
  unfold pOI pQD pKr
  simp only [rK harg2 x0, rK harg3 x1, rV harg4 x2, rC harg6 x4, rC harg7 x5]
  rfl

theorem kv0_5_1 :
    kernelRun0_B.sl.r_144 (F := F) c arg3 harg3 arg4 harg4 arg6 harg6 arg7 harg7 x1 x2 x4 x5 = pKV0 x1 x2 x4 x5 5 1 := by
  unfold pKV0 pKE pKr
  simp only [rK harg3 x1, rV harg4 x2, rC harg6 x4, rC harg7 x5]
  rfl

theorem kv1_5_1 :
    kernelRun0_B.sl.r_145 (F := F) c arg3 harg3 arg4 harg4 arg6 harg6 arg7 harg7 x1 x2 x4 x5 = pKV1 x1 x2 x4 x5 5 1 := by
  unfold pKV1 pKE pKr
  simp only [rK harg3 x1, rV harg4 x2, rC harg6 x4, rC harg7 x5]
  rfl

theorem qd_5_2 :
    kernelRun0_B.sl.r_152 (F := F) c arg2 harg2 arg6 harg6 arg7 harg7 x0 x4 x5 = pQD x0 x4 x5 5 2 := by
  unfold pQD
  simp only [rK harg2 x0, rC harg6 x4, rC harg7 x5]
  rfl

theorem oi_5_2 :
    kernelRun0_B.sl.r_153 (F := F) c arg2 harg2 arg3 harg3 arg4 harg4 arg6 harg6 arg7 harg7 x0 x1 x2 x4 x5 = pOI x0 x1 x2 x4 x5 5 2 := by
  unfold pOI pQD pKr
  simp only [rK harg2 x0, rK harg3 x1, rV harg4 x2, rC harg6 x4, rC harg7 x5]
  rfl

theorem kv0_5_2 :
    kernelRun0_B.sl.r_154 (F := F) c arg3 harg3 arg4 harg4 arg6 harg6 arg7 harg7 x1 x2 x4 x5 = pKV0 x1 x2 x4 x5 5 2 := by
  unfold pKV0 pKE pKr
  simp only [rK harg3 x1, rV harg4 x2, rC harg6 x4, rC harg7 x5]
  rfl

theorem kv1_5_2 :
    kernelRun0_B.sl.r_155 (F := F) c arg3 harg3 arg4 harg4 arg6 harg6 arg7 harg7 x1 x2 x4 x5 = pKV1 x1 x2 x4 x5 5 2 := by
  unfold pKV1 pKE pKr
  simp only [rK harg3 x1, rV harg4 x2, rC harg6 x4, rC harg7 x5]
  rfl

theorem qd_5_3 :
    kernelRun0_B.sl.r_162 (F := F) c arg2 harg2 arg6 harg6 arg7 harg7 x0 x4 x5 = pQD x0 x4 x5 5 3 := by
  unfold pQD
  simp only [rK harg2 x0, rC harg6 x4, rC harg7 x5]
  rfl

theorem oi_5_3 :
    kernelRun0_B.sl.v1747 (F := F) c arg2 harg2 arg3 harg3 arg4 harg4 arg6 harg6 arg7 harg7 x0 x1 x2 x4 x5 = pOI x0 x1 x2 x4 x5 5 3 := by
  unfold pOI pQD pKr
  simp only [rK harg2 x0, rK harg3 x1, rV harg4 x2, rC harg6 x4, rC harg7 x5]
  rfl

theorem kv0_5_3 :
    kernelRun0_B.sl.v1757 (F := F) c arg3 harg3 arg4 harg4 arg6 harg6 arg7 harg7 x1 x2 x4 x5 = pKV0 x1 x2 x4 x5 5 3 := by
  unfold pKV0 pKE pKr
  simp only [rK harg3 x1, rV harg4 x2, rC harg6 x4, rC harg7 x5]
  rfl

theorem kv1_5_3 :
    kernelRun0_B.sl.v1763 (F := F) c arg3 harg3 arg4 harg4 arg6 harg6 arg7 harg7 x1 x2 x4 x5 = pKV1 x1 x2 x4 x5 5 3 := by
  unfold pKV1 pKE pKr
  simp only [rK harg3 x1, rV harg4 x2, rC harg6 x4, rC harg7 x5]
  rfl

theorem qd_6_0 :
    kernelRun0_B.sl.r_167 (F := F) c arg2 harg2 arg6 harg6 arg7 harg7 x0 x4 x5 = pQD x0 x4 x5 6 0 := by
  unfold pQD
  simp only [rK harg2 x0, rC harg6 x4, rC harg7 x5]
  rfl

theorem oi_6_0 :
    kernelRun0_B.sl.v1818 (F := F) c arg2 harg2 arg3 harg3 arg4 harg4 arg6 harg6 arg7 harg7 x0 x1 x2 x4 x5 = pOI x0 x1 x2 x4 x5 6 0 := by
  unfold pOI pQD pKr
  simp only [rK harg2 x0, rK harg3 x1, rV harg4 x2, rC harg6 x4, rC harg7 x5]
  rfl

theorem kv0_6_0 :
    kernelRun0_B.sl.v1828 (F := F) c arg3 harg3 arg4 harg4 arg6 harg6 arg7 harg7 x1 x2 x4 x5 = pKV0 x1 x2 x4 x5 6 0 := by
  unfold pKV0 pKE pKr
  simp only [rK harg3 x1, rV harg4 x2, rC harg6 x4, rC harg7 x5]
  rfl

theorem kv1_6_0 :
    kernelRun0_B.sl.v1834 (F := F) c arg3 harg3 arg4 harg4 arg6 harg6 arg7 harg7 x1 x2 x4 x5 = pKV1 x1 x2 x4 x5 6 0 := by
  unfold pKV1 pKE pKr
  simp only [rK harg3 x1, rV harg4 x2, rC harg6 x4, rC harg7 x5]
  rfl

theorem qd_6_1 :
    kernelRun0_B.sl.r_171 (F := F) c arg2 harg2 arg6 harg6 arg7 harg7 x0 x4 x5 = pQD x0 x4 x5 6 1 := by
  unfold pQD
  simp only [rK harg2 x0, rC harg6 x4, rC harg7 x5]
  rfl

theorem oi_6_1 :
    kernelRun0_B.sl.r_172 (F := F) c arg2 harg2 arg3 harg3 arg4 harg4 arg6 harg6 arg7 harg7 x0 x1 x2 x4 x5 = pOI x0 x1 x2 x4 x5 6 1 := by
  unfold pOI pQD pKr
  simp only [rK harg2 x0, rK harg3 x1, rV harg4 x2, rC harg6 x4, rC harg7 x5]
  rfl

theorem kv0_6_1 :
    kernelRun0_B.sl.v1899 (F := F) c arg3 harg3 arg4 harg4 arg6 harg6 arg7 harg7 x1 x2 x4 x5 = pKV0 x1 x2 x4 x5 6 1 := by
  unfold pKV0 pKE pKr
  simp only [rK harg3 x1, rV harg4 x2, rC harg6 x4, rC harg7 x5]
  rfl

theorem kv1_6_1 :
    kernelRun0_B.sl.v1905 (F := F) c arg3 harg3 arg4 harg4 arg6 harg6 arg7 harg7 x1 x2 x4 x5 = pKV1 x1 x2 x4 x5 6 1 := by
  unfold pKV1 pKE pKr
  simp only [rK harg3 x1, rV harg4 x2, rC harg6 x4, rC harg7 x5]
  rfl

theorem qd_6_2 :
    kernelRun0_B.sl.r_176 (F := F) c arg2 harg2 arg6 harg6 arg7 harg7 x0 x4 x5 = pQD x0 x4 x5 6 2 := by
  unfold pQD
  simp only [rK harg2 x0, rC harg6 x4, rC harg7 x5]
  rfl

theorem oi_6_2 :
    kernelRun0_B.sl.r_177 (F := F) c arg2 harg2 arg3 harg3 arg4 harg4 arg6 harg6 arg7 harg7 x0 x1 x2 x4 x5 = pOI x0 x1 x2 x4 x5 6 2 := by
  unfold pOI pQD pKr
  simp only [rK harg2 x0, rK harg3 x1, rV harg4 x2, rC harg6 x4, rC harg7 x5]
  rfl

theorem kv0_6_2 :
    kernelRun0_B.sl.r_178 (F := F) c arg3 harg3 arg4 harg4 arg6 harg6 arg7 harg7 x1 x2 x4 x5 = pKV0 x1 x2 x4 x5 6 2 := by
  unfold pKV0 pKE pKr
  simp only [rK harg3 x1, rV harg4 x2, rC harg6 x4, rC harg7 x5]
  rfl

theorem kv1_6_2 :
    kernelRun0_B.sl.r_179 (F := F) c arg3 harg3 arg4 harg4 arg6 harg6 arg7 harg7 x1 x2 x4 x5 = pKV1 x1 x2 x4 x5 6 2 := by
  unfold pKV1 pKE pKr
  simp only [rK harg3 x1, rV harg4 x2, rC harg6 x4, rC harg7 x5]
  rfl

theorem qd_6_3 :
    kernelRun0_B.sl.r_186 (F := F) c arg2 harg2 arg6 harg6 arg7 harg7 x0 x4 x5 = pQD x0 x4 x5 6 3 := by
  unfold pQD
  simp only [rK harg2 x0, rC harg6 x4, rC harg7 x5]
  rfl

theorem oi_6_3 :
    kernelRun0_B.sl.r_187 (F := F) c arg2 harg2 arg3 harg3 arg4 harg4 arg6 harg6 arg7 harg7 x0 x1 x2 x4 x5 = pOI x0 x1 x2 x4 x5 6 3 := by
  unfold pOI pQD pKr
  simp only [rK harg2 x0, rK harg3 x1, rV harg4 x2, rC harg6 x4, rC harg7 x5]
  rfl

theorem kv0_6_3 :
    kernelRun0_B.sl.r_188 (F := F) c arg3 harg3 arg4 harg4 arg6 harg6 arg7 harg7 x1 x2 x4 x5 = pKV0 x1 x2 x4 x5 6 3 := by
  unfold pKV0 pKE pKr
  simp only [rK harg3 x1, rV harg4 x2, rC harg6 x4, rC harg7 x5]
  rfl

theorem kv1_6_3 :
    kernelRun0_B.sl.r_189 (F := F) c arg3 harg3 arg4 harg4 arg6 harg6 arg7 harg7 x1 x2 x4 x5 = pKV1 x1 x2 x4 x5 6 3 := by
  unfold pKV1 pKE pKr
  simp only [rK harg3 x1, rV harg4 x2, rC harg6 x4, rC harg7 x5]
  rfl

theorem qd_7_0 :
    kernelRun0_B.sl.r_196 (F := F) c arg2 harg2 arg6 harg6 arg7 harg7 x0 x4 x5 = pQD x0 x4 x5 7 0 := by
  unfold pQD
  simp only [rK harg2 x0, rC harg6 x4, rC harg7 x5]
  rfl

theorem oi_7_0 :
    kernelRun0_B.sl.v2102 (F := F) c arg2 harg2 arg3 harg3 arg4 harg4 arg6 harg6 arg7 harg7 x0 x1 x2 x4 x5 = pOI x0 x1 x2 x4 x5 7 0 := by
  unfold pOI pQD pKr
  simp only [rK harg2 x0, rK harg3 x1, rV harg4 x2, rC harg6 x4, rC harg7 x5]
  rfl

theorem kv0_7_0 :
    kernelRun0_B.sl.v2112 (F := F) c arg3 harg3 arg4 harg4 arg6 harg6 arg7 harg7 x1 x2 x4 x5 = pKV0 x1 x2 x4 x5 7 0 := by
  unfold pKV0 pKE pKr
  simp only [rK harg3 x1, rV harg4 x2, rC harg6 x4, rC harg7 x5]
  rfl

theorem kv1_7_0 :
    kernelRun0_B.sl.v2118 (F := F) c arg3 harg3 arg4 harg4 arg6 harg6 arg7 harg7 x1 x2 x4 x5 = pKV1 x1 x2 x4 x5 7 0 := by
  unfold pKV1 pKE pKr
  simp only [rK harg3 x1, rV harg4 x2, rC harg6 x4, rC harg7 x5]
  rfl

theorem qd_7_1 :
    kernelRun0_B.sl.r_201 (F := F) c arg2 harg2 arg6 harg6 arg7 harg7 x0 x4 x5 = pQD x0 x4 x5 7 1 := by
  unfold pQD
  simp only [rK harg2 x0, rC harg6 x4, rC harg7 x5]
  rfl

theorem oi_7_1 :
    kernelRun0_B.sl.v2173 (F := F) c arg2 harg2 arg3 harg3 arg4 harg4 arg6 harg6 arg7 harg7 x0 x1 x2 x4 x5 = pOI x0 x1 x2 x4 x5 7 1 := by
  unfold pOI pQD pKr
  simp only [rK harg2 x0, rK harg3 x1, rV harg4 x2, rC harg6 x4, rC harg7 x5]
  rfl

theorem kv0_7_1 :
    kernelRun0_B.sl.v2183 (F := F) c arg3 harg3 arg4 harg4 arg6 harg6 arg7 harg7 x1 x2 x4 x5 = pKV0 x1 x2 x4 x5 7 1 := by
  unfold pKV0 pKE pKr
  simp only [rK harg3 x1, rV harg4 x2, rC harg6 x4, rC harg7 x5]
  rfl

theorem kv1_7_1 :
    kernelRun0_B.sl.v2189 (F := F) c arg3 harg3 arg4 harg4 arg6 harg6 arg7 harg7 x1 x2 x4 x5 = pKV1 x1 x2 x4 x5 7 1 := by
  unfold pKV1 pKE pKr
  simp only [rK harg3 x1, rV harg4 x2, rC harg6 x4, rC harg7 x5]
  rfl

theorem qd_7_2 :
    kernelRun0_B.sl.r_205 (F := F) c arg2 harg2 arg6 harg6 arg7 harg7 x0 x4 x5 = pQD x0 x4 x5 7 2 := by
  unfold pQD
  simp only [rK harg2 x0, rC harg6 x4, rC harg7 x5]
  rfl

theorem oi_7_2 :
    kernelRun0_B.sl.r_206 (F := F) c arg2 harg2 arg3 harg3 arg4 harg4 arg6 harg6 arg7 harg7 x0 x1 x2 x4 x5 = pOI x0 x1 x2 x4 x5 7 2 := by
  unfold pOI pQD pKr
  simp only [rK harg2 x0, rK harg3 x1, rV harg4 x2, rC harg6 x4, rC harg7 x5]
  rfl

theorem kv0_7_2 :
    kernelRun0_B.sl.v2254 (F := F) c arg3 harg3 arg4 harg4 arg6 harg6 arg7 harg7 x1 x2 x4 x5 = pKV0 x1 x2 x4 x5 7 2 := by
  unfold pKV0 pKE pKr
  simp only [rK harg3 x1, rV harg4 x2, rC harg6 x4, rC harg7 x5]
  rfl

theorem kv1_7_2 :
    kernelRun0_B.sl.v2260 (F := F) c arg3 harg3 arg4 harg4 arg6 harg6 arg7 harg7 x1 x2 x4 x5 = pKV1 x1 x2 x4 x5 7 2 := by
  unfold pKV1 pKE pKr
  simp only [rK harg3 x1, rV harg4 x2, rC harg6 x4, rC harg7 x5]
  rfl

theorem qd_7_3 :
    kernelRun0_B.sl.r_210 (F := F) c arg2 harg2 arg6 harg6 arg7 harg7 x0 x4 x5 = pQD x0 x4 x5 7 3 := by
  unfold pQD
  simp only [rK harg2 x0, rC harg6 x4, rC harg7 x5]
  rfl

theorem oi_7_3 :
    kernelRun0_B.sl.r_211 (F := F) c arg2 harg2 arg3 harg3 arg4 harg4 arg6 harg6 arg7 harg7 x0 x1 x2 x4 x5 = pOI x0 x1 x2 x4 x5 7 3 := by
  unfold pOI pQD pKr
  simp only [rK harg2 x0, rK harg3 x1, rV harg4 x2, rC harg6 x4, rC harg7 x5]
  rfl

theorem kv0_7_3 :
    kernelRun0_B.sl.r_212 (F := F) c arg3 harg3 arg4 harg4 arg6 harg6 arg7 harg7 x1 x2 x4 x5 = pKV0 x1 x2 x4 x5 7 3 := by
  unfold pKV0 pKE pKr
  simp only [rK harg3 x1, rV harg4 x2, rC harg6 x4, rC harg7 x5]
  rfl

theorem kv1_7_3 :
    kernelRun0_B.sl.r_213 (F := F) c arg3 harg3 arg4 harg4 arg6 harg6 arg7 harg7 x1 x2 x4 x5 = pKV1 x1 x2 x4 x5 7 3 := by
  unfold pKV1 pKE pKr
  simp only [rK harg3 x1, rV harg4 x2, rC harg6 x4, rC harg7 x5]
  rfl

end Cert.KernelRetIdeal.Ret.CaseB
end
-- ==== Proof.RetCaseB2.lean ====
/- The values of the retention kernel at a grid point that continues a sweep: the states and rows from chunk to chunk. -/
module

public import proofs.«01_k».proof.Proof.RetCaseB1

@[expose] public section

set_option maxRecDepth 16384

noncomputable section

open Idealize.ShloMosaic Idealize.ShloMosaic.TcCoe Idealize.SL.Sem

namespace Cert.KernelRetIdeal.Ret.CaseB
open Cert.KernelRetIdeal Cert.KernelRetIdeal.Gen Cert.KernelRetIdeal.Ret

variable {F : FTy → Type} [FloatOps F] [Named F]
variable (c : Dev nD) (i : grid0.Coords) {arg2 : Memref sig .tc .vmem S1x512x1024 .f32} (harg2 : arg2.IsWhole) {arg3 : Memref sig .tc .vmem S1x512x1024 .f32} (harg3 : arg3.IsWhole) {arg4 : Memref sig .tc .vmem S1x512x2048 .f32} (harg4 : arg4.IsWhole) {arg5 : Memref sig .tc .vmem S1x512x2048 .f32} (harg5 : arg5.IsWhole) {arg6 : Memref sig .tc .vmem S1x512x128 .f32} (harg6 : arg6.IsWhole) {arg7 : Memref sig .tc .vmem S1x512x128 .f32} (harg7 : arg7.IsWhole) {arg8 : Memref sig .tc .vmem S1x512x2048 .bf16} (harg8 : arg8.IsWhole) {arg9 : Memref sig .tc .vmem S8x128x256 .f32} (harg9 : arg9.IsWhole)
variable (x0 : Vec F S1x512x1024 .f32) (x1 : Vec F S1x512x1024 .f32) (x2 : Vec F S1x512x2048 .f32) (x3 : Vec F S1x512x2048 .f32) (x4 : Vec F S1x512x128 .f32) (x5 : Vec F S1x512x128 .f32) (xs0 : Vec F S8x128x256 .f32)

theorem z0_0 :
    View.readAt (Elt F) arg9.view (Rect.unit (s := S8x128x256) ![0, 0, 0] S1x128x256.size inb_S8x128x256_S1x128x256_0_0_0).toLoadRect (harg9.unread xs0) = hd xs0 0 := by
  exact (rS harg9 xs0 0).symm

theorem z1_0 :
    View.readAt (Elt F) arg9.view (Rect.unit (s := S8x128x256) ![1, 0, 0] S1x128x256.size inb_S8x128x256_S1x128x256_1_0_0).toLoadRect (harg9.unread xs0) = hd xs0 1 := by
  exact (rS harg9 xs0 1).symm

theorem z0_1 :
    kernelRun0_B.sl.v2814 (F := F) c arg9 harg9 xs0 = hd xs0 2 := by
  exact (rS harg9 xs0 2).symm

theorem z1_1 :
    kernelRun0_B.sl.v2816 (F := F) c arg9 harg9 xs0 = hd xs0 3 := by
  exact (rS harg9 xs0 3).symm

theorem z0_2 :
    kernelRun0_B.sl.v3292 (F := F) c arg9 harg9 xs0 = hd xs0 4 := by
  exact (rS harg9 xs0 4).symm

theorem z1_2 :
    kernelRun0_B.sl.v3294 (F := F) c arg9 harg9 xs0 = hd xs0 5 := by
  exact (rS harg9 xs0 5).symm

theorem z0_3 :
    kernelRun0_B.sl.v3770 (F := F) c arg9 harg9 xs0 = hd xs0 6 := by
  exact (rS harg9 xs0 6).symm

theorem z1_3 :
    kernelRun0_B.sl.v3772 (F := F) c arg9 harg9 xs0 = hd xs0 7 := by
  exact (rS harg9 xs0 7).symm

theorem o_0_0 :
    gO (kernelRun0_B.sl.r_2 (F := F) c arg2 harg2 arg3 harg3 arg4 harg4 arg6 harg6 arg7 harg7 x0 x1 x2 x4 x5) (kernelRun0_B.sl.r_1 (F := F) c arg2 harg2 arg6 harg6 arg7 harg7 x0 x4 x5) (shapeCast S128x256 (View.readAt (Elt F) arg9.view (Rect.unit (s := S8x128x256) ![0, 0, 0] S1x128x256.size inb_S8x128x256_S1x128x256_0_0_0).toLoadRect (harg9.unread xs0)) shapeCasts_S1x128x256_S128x256) (shapeCast S128x256 (View.readAt (Elt F) arg9.view (Rect.unit (s := S8x128x256) ![1, 0, 0] S1x128x256.size inb_S8x128x256_S1x128x256_1_0_0).toLoadRect (harg9.unread xs0)) shapeCasts_S1x128x256_S128x256) = pO x0 x1 x2 x4 x5 xs0 0 0 := by
  change _ = gO (pOI x0 x1 x2 x4 x5 0 0) (pQD x0 x4 x5 0 0) (shapeCast S128x256 (hd xs0 0) shapeCasts_S1x128x256_S128x256) (shapeCast S128x256 (hd xs0 1) shapeCasts_S1x128x256_S128x256)
  rw [← oi_0_0 c harg2 harg3 harg4 harg6 harg7 x0 x1 x2 x4 x5, ← qd_0_0 c harg2 harg6 harg7 x0 x4 x5, ← z0_0 harg9 xs0, ← z1_0 harg9 xs0]

theorem st0_0_1 :
    kernelRun0_B.sl.v2352 (F := F) c arg3 harg3 arg4 harg4 arg6 harg6 arg7 harg7 arg9 harg9 x1 x2 x4 x5 xs0 = pS0 x1 x2 x4 x5 xs0 0 1 := by
  change _ = gN (shapeCast S128x256 (hd xs0 0) shapeCasts_S1x128x256_S128x256) (endn 0) (pKV0 x1 x2 x4 x5 0 0)
  rw [← kv0_0_0 c harg3 harg4 harg6 harg7 x1 x2 x4 x5, ← z0_0 harg9 xs0]
  rfl

theorem st1_0_1 :
    kernelRun0_B.sl.v2355 (F := F) c arg3 harg3 arg4 harg4 arg6 harg6 arg7 harg7 arg9 harg9 x1 x2 x4 x5 xs0 = pS1 x1 x2 x4 x5 xs0 0 1 := by
  change _ = gN (shapeCast S128x256 (hd xs0 1) shapeCasts_S1x128x256_S128x256) (endn 1) (pKV1 x1 x2 x4 x5 0 0)
  rw [← kv1_0_0 c harg3 harg4 harg6 harg7 x1 x2 x4 x5, ← z1_0 harg9 xs0]
  rfl

theorem o_1_0 :
    gO (kernelRun0_B.sl.v398 (F := F) c arg2 harg2 arg3 harg3 arg4 harg4 arg6 harg6 arg7 harg7 x0 x1 x2 x4 x5) (kernelRun0_B.sl.r_31 (F := F) c arg2 harg2 arg6 harg6 arg7 harg7 x0 x4 x5) (kernelRun0_B.sl.v2352 (F := F) c arg3 harg3 arg4 harg4 arg6 harg6 arg7 harg7 arg9 harg9 x1 x2 x4 x5 xs0) (kernelRun0_B.sl.v2355 (F := F) c arg3 harg3 arg4 harg4 arg6 harg6 arg7 harg7 arg9 harg9 x1 x2 x4 x5 xs0) = pO x0 x1 x2 x4 x5 xs0 1 0 := by
  change _ = gO (pOI x0 x1 x2 x4 x5 1 0) (pQD x0 x4 x5 1 0) (pS0 x1 x2 x4 x5 xs0 0 1) (pS1 x1 x2 x4 x5 xs0 0 1)
  rw [← oi_1_0 c harg2 harg3 harg4 harg6 harg7 x0 x1 x2 x4 x5, ← qd_1_0 c harg2 harg6 harg7 x0 x4 x5, ← st0_0_1 c harg3 harg4 harg6 harg7 harg9 x1 x2 x4 x5 xs0, ← st1_0_1 c harg3 harg4 harg6 harg7 harg9 x1 x2 x4 x5 xs0]

theorem st0_0_2 :
    kernelRun0_B.sl.r_215 (F := F) c arg3 harg3 arg4 harg4 arg6 harg6 arg7 harg7 arg9 harg9 x1 x2 x4 x5 xs0 = pS0 x1 x2 x4 x5 xs0 0 2 := by
  change _ = gN (pS0 x1 x2 x4 x5 xs0 0 1) (endn 0) (pKV0 x1 x2 x4 x5 1 0)
  rw [← kv0_1_0 c harg3 harg4 harg6 harg7 x1 x2 x4 x5, ← st0_0_1 c harg3 harg4 harg6 harg7 harg9 x1 x2 x4 x5 xs0]
  rfl

theorem st1_0_2 :
    kernelRun0_B.sl.r_216 (F := F) c arg3 harg3 arg4 harg4 arg6 harg6 arg7 harg7 arg9 harg9 x1 x2 x4 x5 xs0 = pS1 x1 x2 x4 x5 xs0 0 2 := by
  change _ = gN (pS1 x1 x2 x4 x5 xs0 0 1) (endn 1) (pKV1 x1 x2 x4 x5 1 0)
  rw [← kv1_1_0 c harg3 harg4 harg6 harg7 x1 x2 x4 x5, ← st1_0_1 c harg3 harg4 harg6 harg7 harg9 x1 x2 x4 x5 xs0]
  rfl

theorem o_2_0 :
    gO (kernelRun0_B.sl.v682 (F := F) c arg2 harg2 arg3 harg3 arg4 harg4 arg6 harg6 arg7 harg7 x0 x1 x2 x4 x5) (kernelRun0_B.sl.r_60 (F := F) c arg2 harg2 arg6 harg6 arg7 harg7 x0 x4 x5) (kernelRun0_B.sl.r_215 (F := F) c arg3 harg3 arg4 harg4 arg6 harg6 arg7 harg7 arg9 harg9 x1 x2 x4 x5 xs0) (kernelRun0_B.sl.r_216 (F := F) c arg3 harg3 arg4 harg4 arg6 harg6 arg7 harg7 arg9 harg9 x1 x2 x4 x5 xs0) = pO x0 x1 x2 x4 x5 xs0 2 0 := by
  change _ = gO (pOI x0 x1 x2 x4 x5 2 0) (pQD x0 x4 x5 2 0) (pS0 x1 x2 x4 x5 xs0 0 2) (pS1 x1 x2 x4 x5 xs0 0 2)
  rw [← oi_2_0 c harg2 harg3 harg4 harg6 harg7 x0 x1 x2 x4 x5, ← qd_2_0 c harg2 harg6 harg7 x0 x4 x5, ← st0_0_2 c harg3 harg4 harg6 harg7 harg9 x1 x2 x4 x5 xs0, ← st1_0_2 c harg3 harg4 harg6 harg7 harg9 x1 x2 x4 x5 xs0]

theorem st0_0_3 :
    kernelRun0_B.sl.r_219 (F := F) c arg3 harg3 arg4 harg4 arg6 harg6 arg7 harg7 arg9 harg9 x1 x2 x4 x5 xs0 = pS0 x1 x2 x4 x5 xs0 0 3 := by
  change _ = gN (pS0 x1 x2 x4 x5 xs0 0 2) (endn 0) (pKV0 x1 x2 x4 x5 2 0)
  rw [← kv0_2_0 c harg3 harg4 harg6 harg7 x1 x2 x4 x5, ← st0_0_2 c harg3 harg4 harg6 harg7 harg9 x1 x2 x4 x5 xs0]
  rfl

theorem st1_0_3 :
    kernelRun0_B.sl.r_220 (F := F) c arg3 harg3 arg4 harg4 arg6 harg6 arg7 harg7 arg9 harg9 x1 x2 x4 x5 xs0 = pS1 x1 x2 x4 x5 xs0 0 3 := by
  change _ = gN (pS1 x1 x2 x4 x5 xs0 0 2) (endn 1) (pKV1 x1 x2 x4 x5 2 0)
  rw [← kv1_2_0 c harg3 harg4 harg6 harg7 x1 x2 x4 x5, ← st1_0_2 c harg3 harg4 harg6 harg7 harg9 x1 x2 x4 x5 xs0]
  rfl

theorem o_3_0 :
    gO (kernelRun0_B.sl.r_85 (F := F) c arg2 harg2 arg3 harg3 arg4 harg4 arg6 harg6 arg7 harg7 x0 x1 x2 x4 x5) (kernelRun0_B.sl.r_84 (F := F) c arg2 harg2 arg6 harg6 arg7 harg7 x0 x4 x5) (kernelRun0_B.sl.r_219 (F := F) c arg3 harg3 arg4 harg4 arg6 harg6 arg7 harg7 arg9 harg9 x1 x2 x4 x5 xs0) (kernelRun0_B.sl.r_220 (F := F) c arg3 harg3 arg4 harg4 arg6 harg6 arg7 harg7 arg9 harg9 x1 x2 x4 x5 xs0) = pO x0 x1 x2 x4 x5 xs0 3 0 := by
  change _ = gO (pOI x0 x1 x2 x4 x5 3 0) (pQD x0 x4 x5 3 0) (pS0 x1 x2 x4 x5 xs0 0 3) (pS1 x1 x2 x4 x5 xs0 0 3)
  rw [← oi_3_0 c harg2 harg3 harg4 harg6 harg7 x0 x1 x2 x4 x5, ← qd_3_0 c harg2 harg6 harg7 x0 x4 x5, ← st0_0_3 c harg3 harg4 harg6 harg7 harg9 x1 x2 x4 x5 xs0, ← st1_0_3 c harg3 harg4 harg6 harg7 harg9 x1 x2 x4 x5 xs0]

theorem st0_0_4 :
    kernelRun0_B.sl.r_223 (F := F) c arg3 harg3 arg4 harg4 arg6 harg6 arg7 harg7 arg9 harg9 x1 x2 x4 x5 xs0 = pS0 x1 x2 x4 x5 xs0 0 4 := by
  change _ = gN (pS0 x1 x2 x4 x5 xs0 0 3) (endn 0) (pKV0 x1 x2 x4 x5 3 0)
  rw [← kv0_3_0 c harg3 harg4 harg6 harg7 x1 x2 x4 x5, ← st0_0_3 c harg3 harg4 harg6 harg7 harg9 x1 x2 x4 x5 xs0]
  rfl

theorem st1_0_4 :
    kernelRun0_B.sl.r_224 (F := F) c arg3 harg3 arg4 harg4 arg6 harg6 arg7 harg7 arg9 harg9 x1 x2 x4 x5 xs0 = pS1 x1 x2 x4 x5 xs0 0 4 := by
  change _ = gN (pS1 x1 x2 x4 x5 xs0 0 3) (endn 1) (pKV1 x1 x2 x4 x5 3 0)
  rw [← kv1_3_0 c harg3 harg4 harg6 harg7 x1 x2 x4 x5, ← st1_0_3 c harg3 harg4 harg6 harg7 harg9 x1 x2 x4 x5 xs0]
  rfl

theorem o_4_0 :
    gO (kernelRun0_B.sl.r_109 (F := F) c arg2 harg2 arg3 harg3 arg4 harg4 arg6 harg6 arg7 harg7 x0 x1 x2 x4 x5) (kernelRun0_B.sl.r_108 (F := F) c arg2 harg2 arg6 harg6 arg7 harg7 x0 x4 x5) (kernelRun0_B.sl.r_223 (F := F) c arg3 harg3 arg4 harg4 arg6 harg6 arg7 harg7 arg9 harg9 x1 x2 x4 x5 xs0) (kernelRun0_B.sl.r_224 (F := F) c arg3 harg3 arg4 harg4 arg6 harg6 arg7 harg7 arg9 harg9 x1 x2 x4 x5 xs0) = pO x0 x1 x2 x4 x5 xs0 4 0 := by
  change _ = gO (pOI x0 x1 x2 x4 x5 4 0) (pQD x0 x4 x5 4 0) (pS0 x1 x2 x4 x5 xs0 0 4) (pS1 x1 x2 x4 x5 xs0 0 4)
  rw [← oi_4_0 c harg2 harg3 harg4 harg6 harg7 x0 x1 x2 x4 x5, ← qd_4_0 c harg2 harg6 harg7 x0 x4 x5, ← st0_0_4 c harg3 harg4 harg6 harg7 harg9 x1 x2 x4 x5 xs0, ← st1_0_4 c harg3 harg4 harg6 harg7 harg9 x1 x2 x4 x5 xs0]

theorem st0_0_5 :
    kernelRun0_B.sl.r_229 (F := F) c arg3 harg3 arg4 harg4 arg6 harg6 arg7 harg7 arg9 harg9 x1 x2 x4 x5 xs0 = pS0 x1 x2 x4 x5 xs0 0 5 := by
  change _ = gN (pS0 x1 x2 x4 x5 xs0 0 4) (endn 0) (pKV0 x1 x2 x4 x5 4 0)
  rw [← kv0_4_0 c harg3 harg4 harg6 harg7 x1 x2 x4 x5, ← st0_0_4 c harg3 harg4 harg6 harg7 harg9 x1 x2 x4 x5 xs0]
  rfl

theorem st1_0_5 :
    kernelRun0_B.sl.r_231 (F := F) c arg3 harg3 arg4 harg4 arg6 harg6 arg7 harg7 arg9 harg9 x1 x2 x4 x5 xs0 = pS1 x1 x2 x4 x5 xs0 0 5 := by
  change _ = gN (pS1 x1 x2 x4 x5 xs0 0 4) (endn 1) (pKV1 x1 x2 x4 x5 4 0)
  rw [← kv1_4_0 c harg3 harg4 harg6 harg7 x1 x2 x4 x5, ← st1_0_4 c harg3 harg4 harg6 harg7 harg9 x1 x2 x4 x5 xs0]
  rfl

theorem o_5_0 :
    gO (kernelRun0_B.sl.r_138 (F := F) c arg2 harg2 arg3 harg3 arg4 harg4 arg6 harg6 arg7 harg7 x0 x1 x2 x4 x5) (kernelRun0_B.sl.r_137 (F := F) c arg2 harg2 arg6 harg6 arg7 harg7 x0 x4 x5) (kernelRun0_B.sl.r_229 (F := F) c arg3 harg3 arg4 harg4 arg6 harg6 arg7 harg7 arg9 harg9 x1 x2 x4 x5 xs0) (kernelRun0_B.sl.r_231 (F := F) c arg3 harg3 arg4 harg4 arg6 harg6 arg7 harg7 arg9 harg9 x1 x2 x4 x5 xs0) = pO x0 x1 x2 x4 x5 xs0 5 0 := by
  change _ = gO (pOI x0 x1 x2 x4 x5 5 0) (pQD x0 x4 x5 5 0) (pS0 x1 x2 x4 x5 xs0 0 5) (pS1 x1 x2 x4 x5 xs0 0 5)
  rw [← oi_5_0 c harg2 harg3 harg4 harg6 harg7 x0 x1 x2 x4 x5, ← qd_5_0 c harg2 harg6 harg7 x0 x4 x5, ← st0_0_5 c harg3 harg4 harg6 harg7 harg9 x1 x2 x4 x5 xs0, ← st1_0_5 c harg3 harg4 harg6 harg7 harg9 x1 x2 x4 x5 xs0]

theorem st0_0_6 :
    kernelRun0_B.sl.r_233 (F := F) c arg3 harg3 arg4 harg4 arg6 harg6 arg7 harg7 arg9 harg9 x1 x2 x4 x5 xs0 = pS0 x1 x2 x4 x5 xs0 0 6 := by
  change _ = gN (pS0 x1 x2 x4 x5 xs0 0 5) (endn 0) (pKV0 x1 x2 x4 x5 5 0)
  rw [← kv0_5_0 c harg3 harg4 harg6 harg7 x1 x2 x4 x5, ← st0_0_5 c harg3 harg4 harg6 harg7 harg9 x1 x2 x4 x5 xs0]
  rfl

theorem st1_0_6 :
    kernelRun0_B.sl.r_234 (F := F) c arg3 harg3 arg4 harg4 arg6 harg6 arg7 harg7 arg9 harg9 x1 x2 x4 x5 xs0 = pS1 x1 x2 x4 x5 xs0 0 6 := by
  change _ = gN (pS1 x1 x2 x4 x5 xs0 0 5) (endn 1) (pKV1 x1 x2 x4 x5 5 0)
  rw [← kv1_5_0 c harg3 harg4 harg6 harg7 x1 x2 x4 x5, ← st1_0_5 c harg3 harg4 harg6 harg7 harg9 x1 x2 x4 x5 xs0]
  rfl

theorem o_6_0 :
    gO (kernelRun0_B.sl.v1818 (F := F) c arg2 harg2 arg3 harg3 arg4 harg4 arg6 harg6 arg7 harg7 x0 x1 x2 x4 x5) (kernelRun0_B.sl.r_167 (F := F) c arg2 harg2 arg6 harg6 arg7 harg7 x0 x4 x5) (kernelRun0_B.sl.r_233 (F := F) c arg3 harg3 arg4 harg4 arg6 harg6 arg7 harg7 arg9 harg9 x1 x2 x4 x5 xs0) (kernelRun0_B.sl.r_234 (F := F) c arg3 harg3 arg4 harg4 arg6 harg6 arg7 harg7 arg9 harg9 x1 x2 x4 x5 xs0) = pO x0 x1 x2 x4 x5 xs0 6 0 := by
  change _ = gO (pOI x0 x1 x2 x4 x5 6 0) (pQD x0 x4 x5 6 0) (pS0 x1 x2 x4 x5 xs0 0 6) (pS1 x1 x2 x4 x5 xs0 0 6)
  rw [← oi_6_0 c harg2 harg3 harg4 harg6 harg7 x0 x1 x2 x4 x5, ← qd_6_0 c harg2 harg6 harg7 x0 x4 x5, ← st0_0_6 c harg3 harg4 harg6 harg7 harg9 x1 x2 x4 x5 xs0, ← st1_0_6 c harg3 harg4 harg6 harg7 harg9 x1 x2 x4 x5 xs0]

theorem st0_0_7 :
    kernelRun0_B.sl.r_238 (F := F) c arg3 harg3 arg4 harg4 arg6 harg6 arg7 harg7 arg9 harg9 x1 x2 x4 x5 xs0 = pS0 x1 x2 x4 x5 xs0 0 7 := by
  change _ = gN (pS0 x1 x2 x4 x5 xs0 0 6) (endn 0) (pKV0 x1 x2 x4 x5 6 0)
  rw [← kv0_6_0 c harg3 harg4 harg6 harg7 x1 x2 x4 x5, ← st0_0_6 c harg3 harg4 harg6 harg7 harg9 x1 x2 x4 x5 xs0]
  rfl

theorem st1_0_7 :
    kernelRun0_B.sl.r_239 (F := F) c arg3 harg3 arg4 harg4 arg6 harg6 arg7 harg7 arg9 harg9 x1 x2 x4 x5 xs0 = pS1 x1 x2 x4 x5 xs0 0 7 := by
  change _ = gN (pS1 x1 x2 x4 x5 xs0 0 6) (endn 1) (pKV1 x1 x2 x4 x5 6 0)
  rw [← kv1_6_0 c harg3 harg4 harg6 harg7 x1 x2 x4 x5, ← st1_0_6 c harg3 harg4 harg6 harg7 harg9 x1 x2 x4 x5 xs0]
  rfl

theorem o_7_0 :
    gO (kernelRun0_B.sl.v2102 (F := F) c arg2 harg2 arg3 harg3 arg4 harg4 arg6 harg6 arg7 harg7 x0 x1 x2 x4 x5) (kernelRun0_B.sl.r_196 (F := F) c arg2 harg2 arg6 harg6 arg7 harg7 x0 x4 x5) (kernelRun0_B.sl.r_238 (F := F) c arg3 harg3 arg4 harg4 arg6 harg6 arg7 harg7 arg9 harg9 x1 x2 x4 x5 xs0) (kernelRun0_B.sl.r_239 (F := F) c arg3 harg3 arg4 harg4 arg6 harg6 arg7 harg7 arg9 harg9 x1 x2 x4 x5 xs0) = pO x0 x1 x2 x4 x5 xs0 7 0 := by
  change _ = gO (pOI x0 x1 x2 x4 x5 7 0) (pQD x0 x4 x5 7 0) (pS0 x1 x2 x4 x5 xs0 0 7) (pS1 x1 x2 x4 x5 xs0 0 7)
  rw [← oi_7_0 c harg2 harg3 harg4 harg6 harg7 x0 x1 x2 x4 x5, ← qd_7_0 c harg2 harg6 harg7 x0 x4 x5, ← st0_0_7 c harg3 harg4 harg6 harg7 harg9 x1 x2 x4 x5 xs0, ← st1_0_7 c harg3 harg4 harg6 harg7 harg9 x1 x2 x4 x5 xs0]

theorem st0_0_8 :
    kernelRun0_B.sl.r_243 (F := F) c arg3 harg3 arg4 harg4 arg6 harg6 arg7 harg7 arg9 harg9 x1 x2 x4 x5 xs0 = pS0 x1 x2 x4 x5 xs0 0 8 := by
  change _ = gN (pS0 x1 x2 x4 x5 xs0 0 7) (endn 0) (pKV0 x1 x2 x4 x5 7 0)
  rw [← kv0_7_0 c harg3 harg4 harg6 harg7 x1 x2 x4 x5, ← st0_0_7 c harg3 harg4 harg6 harg7 harg9 x1 x2 x4 x5 xs0]
  rfl

theorem st1_0_8 :
    kernelRun0_B.sl.r_244 (F := F) c arg3 harg3 arg4 harg4 arg6 harg6 arg7 harg7 arg9 harg9 x1 x2 x4 x5 xs0 = pS1 x1 x2 x4 x5 xs0 0 8 := by
  change _ = gN (pS1 x1 x2 x4 x5 xs0 0 7) (endn 1) (pKV1 x1 x2 x4 x5 7 0)
  rw [← kv1_7_0 c harg3 harg4 harg6 harg7 x1 x2 x4 x5, ← st1_0_7 c harg3 harg4 harg6 harg7 harg9 x1 x2 x4 x5 xs0]
  rfl

theorem o_0_1 :
    gO (kernelRun0_B.sl.r_7 (F := F) c arg2 harg2 arg3 harg3 arg4 harg4 arg6 harg6 arg7 harg7 x0 x1 x2 x4 x5) (kernelRun0_B.sl.r_6 (F := F) c arg2 harg2 arg6 harg6 arg7 harg7 x0 x4 x5) (shapeCast S128x256 (kernelRun0_B.sl.v2814 (F := F) c arg9 harg9 xs0) shapeCasts_S1x128x256_S128x256) (shapeCast S128x256 (kernelRun0_B.sl.v2816 (F := F) c arg9 harg9 xs0) shapeCasts_S1x128x256_S128x256) = pO x0 x1 x2 x4 x5 xs0 0 1 := by
  change _ = gO (pOI x0 x1 x2 x4 x5 0 1) (pQD x0 x4 x5 0 1) (shapeCast S128x256 (hd xs0 2) shapeCasts_S1x128x256_S128x256) (shapeCast S128x256 (hd xs0 3) shapeCasts_S1x128x256_S128x256)
  rw [← oi_0_1 c harg2 harg3 harg4 harg6 harg7 x0 x1 x2 x4 x5, ← qd_0_1 c harg2 harg6 harg7 x0 x4 x5, ← z0_1 c harg9 xs0, ← z1_1 c harg9 xs0]

theorem st0_1_1 :
    kernelRun0_B.sl.r_251 (F := F) c arg3 harg3 arg4 harg4 arg6 harg6 arg7 harg7 arg9 harg9 x1 x2 x4 x5 xs0 = pS0 x1 x2 x4 x5 xs0 1 1 := by
  change _ = gN (shapeCast S128x256 (hd xs0 2) shapeCasts_S1x128x256_S128x256) (endn 2) (pKV0 x1 x2 x4 x5 0 1)
  rw [← kv0_0_1 c harg3 harg4 harg6 harg7 x1 x2 x4 x5, ← z0_1 c harg9 xs0]
  rfl

theorem st1_1_1 :
    kernelRun0_B.sl.r_252 (F := F) c arg3 harg3 arg4 harg4 arg6 harg6 arg7 harg7 arg9 harg9 x1 x2 x4 x5 xs0 = pS1 x1 x2 x4 x5 xs0 1 1 := by
  change _ = gN (shapeCast S128x256 (hd xs0 3) shapeCasts_S1x128x256_S128x256) (endn 3) (pKV1 x1 x2 x4 x5 0 1)
  rw [← kv1_0_1 c harg3 harg4 harg6 harg7 x1 x2 x4 x5, ← z1_1 c harg9 xs0]
  rfl

theorem o_1_1 :
    gO (kernelRun0_B.sl.r_36 (F := F) c arg2 harg2 arg3 harg3 arg4 harg4 arg6 harg6 arg7 harg7 x0 x1 x2 x4 x5) (kernelRun0_B.sl.r_35 (F := F) c arg2 harg2 arg6 harg6 arg7 harg7 x0 x4 x5) (kernelRun0_B.sl.r_251 (F := F) c arg3 harg3 arg4 harg4 arg6 harg6 arg7 harg7 arg9 harg9 x1 x2 x4 x5 xs0) (kernelRun0_B.sl.r_252 (F := F) c arg3 harg3 arg4 harg4 arg6 harg6 arg7 harg7 arg9 harg9 x1 x2 x4 x5 xs0) = pO x0 x1 x2 x4 x5 xs0 1 1 := by
  change _ = gO (pOI x0 x1 x2 x4 x5 1 1) (pQD x0 x4 x5 1 1) (pS0 x1 x2 x4 x5 xs0 1 1) (pS1 x1 x2 x4 x5 xs0 1 1)
  rw [← oi_1_1 c harg2 harg3 harg4 harg6 harg7 x0 x1 x2 x4 x5, ← qd_1_1 c harg2 harg6 harg7 x0 x4 x5, ← st0_1_1 c harg3 harg4 harg6 harg7 harg9 x1 x2 x4 x5 xs0, ← st1_1_1 c harg3 harg4 harg6 harg7 harg9 x1 x2 x4 x5 xs0]

theorem st0_1_2 :
    kernelRun0_B.sl.r_255 (F := F) c arg3 harg3 arg4 harg4 arg6 harg6 arg7 harg7 arg9 harg9 x1 x2 x4 x5 xs0 = pS0 x1 x2 x4 x5 xs0 1 2 := by
  change _ = gN (pS0 x1 x2 x4 x5 xs0 1 1) (endn 2) (pKV0 x1 x2 x4 x5 1 1)
  rw [← kv0_1_1 c harg3 harg4 harg6 harg7 x1 x2 x4 x5, ← st0_1_1 c harg3 harg4 harg6 harg7 harg9 x1 x2 x4 x5 xs0]
  rfl

theorem st1_1_2 :
    kernelRun0_B.sl.r_256 (F := F) c arg3 harg3 arg4 harg4 arg6 harg6 arg7 harg7 arg9 harg9 x1 x2 x4 x5 xs0 = pS1 x1 x2 x4 x5 xs0 1 2 := by
  change _ = gN (pS1 x1 x2 x4 x5 xs0 1 1) (endn 3) (pKV1 x1 x2 x4 x5 1 1)
  rw [← kv1_1_1 c harg3 harg4 harg6 harg7 x1 x2 x4 x5, ← st1_1_1 c harg3 harg4 harg6 harg7 harg9 x1 x2 x4 x5 xs0]
  rfl

theorem o_2_1 :
    gO (kernelRun0_B.sl.v753 (F := F) c arg2 harg2 arg3 harg3 arg4 harg4 arg6 harg6 arg7 harg7 x0 x1 x2 x4 x5) (kernelRun0_B.sl.r_65 (F := F) c arg2 harg2 arg6 harg6 arg7 harg7 x0 x4 x5) (kernelRun0_B.sl.r_255 (F := F) c arg3 harg3 arg4 harg4 arg6 harg6 arg7 harg7 arg9 harg9 x1 x2 x4 x5 xs0) (kernelRun0_B.sl.r_256 (F := F) c arg3 harg3 arg4 harg4 arg6 harg6 arg7 harg7 arg9 harg9 x1 x2 x4 x5 xs0) = pO x0 x1 x2 x4 x5 xs0 2 1 := by
  change _ = gO (pOI x0 x1 x2 x4 x5 2 1) (pQD x0 x4 x5 2 1) (pS0 x1 x2 x4 x5 xs0 1 2) (pS1 x1 x2 x4 x5 xs0 1 2)
  rw [← oi_2_1 c harg2 harg3 harg4 harg6 harg7 x0 x1 x2 x4 x5, ← qd_2_1 c harg2 harg6 harg7 x0 x4 x5, ← st0_1_2 c harg3 harg4 harg6 harg7 harg9 x1 x2 x4 x5 xs0, ← st1_1_2 c harg3 harg4 harg6 harg7 harg9 x1 x2 x4 x5 xs0]

theorem st0_1_3 :
    kernelRun0_B.sl.r_260 (F := F) c arg3 harg3 arg4 harg4 arg6 harg6 arg7 harg7 arg9 harg9 x1 x2 x4 x5 xs0 = pS0 x1 x2 x4 x5 xs0 1 3 := by
  change _ = gN (pS0 x1 x2 x4 x5 xs0 1 2) (endn 2) (pKV0 x1 x2 x4 x5 2 1)
  rw [← kv0_2_1 c harg3 harg4 harg6 harg7 x1 x2 x4 x5, ← st0_1_2 c harg3 harg4 harg6 harg7 harg9 x1 x2 x4 x5 xs0]
  rfl

theorem st1_1_3 :
    kernelRun0_B.sl.r_261 (F := F) c arg3 harg3 arg4 harg4 arg6 harg6 arg7 harg7 arg9 harg9 x1 x2 x4 x5 xs0 = pS1 x1 x2 x4 x5 xs0 1 3 := by
  change _ = gN (pS1 x1 x2 x4 x5 xs0 1 2) (endn 3) (pKV1 x1 x2 x4 x5 2 1)
  rw [← kv1_2_1 c harg3 harg4 harg6 harg7 x1 x2 x4 x5, ← st1_1_2 c harg3 harg4 harg6 harg7 harg9 x1 x2 x4 x5 xs0]
  rfl

theorem o_3_1 :
    gO (kernelRun0_B.sl.v1037 (F := F) c arg2 harg2 arg3 harg3 arg4 harg4 arg6 harg6 arg7 harg7 x0 x1 x2 x4 x5) (kernelRun0_B.sl.r_94 (F := F) c arg2 harg2 arg6 harg6 arg7 harg7 x0 x4 x5) (kernelRun0_B.sl.r_260 (F := F) c arg3 harg3 arg4 harg4 arg6 harg6 arg7 harg7 arg9 harg9 x1 x2 x4 x5 xs0) (kernelRun0_B.sl.r_261 (F := F) c arg3 harg3 arg4 harg4 arg6 harg6 arg7 harg7 arg9 harg9 x1 x2 x4 x5 xs0) = pO x0 x1 x2 x4 x5 xs0 3 1 := by
  change _ = gO (pOI x0 x1 x2 x4 x5 3 1) (pQD x0 x4 x5 3 1) (pS0 x1 x2 x4 x5 xs0 1 3) (pS1 x1 x2 x4 x5 xs0 1 3)
  rw [← oi_3_1 c harg2 harg3 harg4 harg6 harg7 x0 x1 x2 x4 x5, ← qd_3_1 c harg2 harg6 harg7 x0 x4 x5, ← st0_1_3 c harg3 harg4 harg6 harg7 harg9 x1 x2 x4 x5 xs0, ← st1_1_3 c harg3 harg4 harg6 harg7 harg9 x1 x2 x4 x5 xs0]

theorem st0_1_4 :
    kernelRun0_B.sl.r_264 (F := F) c arg3 harg3 arg4 harg4 arg6 harg6 arg7 harg7 arg9 harg9 x1 x2 x4 x5 xs0 = pS0 x1 x2 x4 x5 xs0 1 4 := by
  change _ = gN (pS0 x1 x2 x4 x5 xs0 1 3) (endn 2) (pKV0 x1 x2 x4 x5 3 1)
  rw [← kv0_3_1 c harg3 harg4 harg6 harg7 x1 x2 x4 x5, ← st0_1_3 c harg3 harg4 harg6 harg7 harg9 x1 x2 x4 x5 xs0]
  rfl

theorem st1_1_4 :
    kernelRun0_B.sl.r_265 (F := F) c arg3 harg3 arg4 harg4 arg6 harg6 arg7 harg7 arg9 harg9 x1 x2 x4 x5 xs0 = pS1 x1 x2 x4 x5 xs0 1 4 := by
  change _ = gN (pS1 x1 x2 x4 x5 xs0 1 3) (endn 3) (pKV1 x1 x2 x4 x5 3 1)
  rw [← kv1_3_1 c harg3 harg4 harg6 harg7 x1 x2 x4 x5, ← st1_1_3 c harg3 harg4 harg6 harg7 harg9 x1 x2 x4 x5 xs0]
  rfl

theorem o_4_1 :
    gO (kernelRun0_B.sl.r_119 (F := F) c arg2 harg2 arg3 harg3 arg4 harg4 arg6 harg6 arg7 harg7 x0 x1 x2 x4 x5) (kernelRun0_B.sl.r_118 (F := F) c arg2 harg2 arg6 harg6 arg7 harg7 x0 x4 x5) (kernelRun0_B.sl.r_264 (F := F) c arg3 harg3 arg4 harg4 arg6 harg6 arg7 harg7 arg9 harg9 x1 x2 x4 x5 xs0) (kernelRun0_B.sl.r_265 (F := F) c arg3 harg3 arg4 harg4 arg6 harg6 arg7 harg7 arg9 harg9 x1 x2 x4 x5 xs0) = pO x0 x1 x2 x4 x5 xs0 4 1 := by
  change _ = gO (pOI x0 x1 x2 x4 x5 4 1) (pQD x0 x4 x5 4 1) (pS0 x1 x2 x4 x5 xs0 1 4) (pS1 x1 x2 x4 x5 xs0 1 4)
  rw [← oi_4_1 c harg2 harg3 harg4 harg6 harg7 x0 x1 x2 x4 x5, ← qd_4_1 c harg2 harg6 harg7 x0 x4 x5, ← st0_1_4 c harg3 harg4 harg6 harg7 harg9 x1 x2 x4 x5 xs0, ← st1_1_4 c harg3 harg4 harg6 harg7 harg9 x1 x2 x4 x5 xs0]

theorem st0_1_5 :
    kernelRun0_B.sl.r_268 (F := F) c arg3 harg3 arg4 harg4 arg6 harg6 arg7 harg7 arg9 harg9 x1 x2 x4 x5 xs0 = pS0 x1 x2 x4 x5 xs0 1 5 := by
  change _ = gN (pS0 x1 x2 x4 x5 xs0 1 4) (endn 2) (pKV0 x1 x2 x4 x5 4 1)
  rw [← kv0_4_1 c harg3 harg4 harg6 harg7 x1 x2 x4 x5, ← st0_1_4 c harg3 harg4 harg6 harg7 harg9 x1 x2 x4 x5 xs0]
  rfl

theorem st1_1_5 :
    kernelRun0_B.sl.r_269 (F := F) c arg3 harg3 arg4 harg4 arg6 harg6 arg7 harg7 arg9 harg9 x1 x2 x4 x5 xs0 = pS1 x1 x2 x4 x5 xs0 1 5 := by
  change _ = gN (pS1 x1 x2 x4 x5 xs0 1 4) (endn 3) (pKV1 x1 x2 x4 x5 4 1)
  rw [← kv1_4_1 c harg3 harg4 harg6 harg7 x1 x2 x4 x5, ← st1_1_4 c harg3 harg4 harg6 harg7 harg9 x1 x2 x4 x5 xs0]
  rfl

theorem o_5_1 :
    gO (kernelRun0_B.sl.r_143 (F := F) c arg2 harg2 arg3 harg3 arg4 harg4 arg6 harg6 arg7 harg7 x0 x1 x2 x4 x5) (kernelRun0_B.sl.r_142 (F := F) c arg2 harg2 arg6 harg6 arg7 harg7 x0 x4 x5) (kernelRun0_B.sl.r_268 (F := F) c arg3 harg3 arg4 harg4 arg6 harg6 arg7 harg7 arg9 harg9 x1 x2 x4 x5 xs0) (kernelRun0_B.sl.r_269 (F := F) c arg3 harg3 arg4 harg4 arg6 harg6 arg7 harg7 arg9 harg9 x1 x2 x4 x5 xs0) = pO x0 x1 x2 x4 x5 xs0 5 1 := by
  change _ = gO (pOI x0 x1 x2 x4 x5 5 1) (pQD x0 x4 x5 5 1) (pS0 x1 x2 x4 x5 xs0 1 5) (pS1 x1 x2 x4 x5 xs0 1 5)
  rw [← oi_5_1 c harg2 harg3 harg4 harg6 harg7 x0 x1 x2 x4 x5, ← qd_5_1 c harg2 harg6 harg7 x0 x4 x5, ← st0_1_5 c harg3 harg4 harg6 harg7 harg9 x1 x2 x4 x5 xs0, ← st1_1_5 c harg3 harg4 harg6 harg7 harg9 x1 x2 x4 x5 xs0]

theorem st0_1_6 :
    kernelRun0_B.sl.r_275 (F := F) c arg3 harg3 arg4 harg4 arg6 harg6 arg7 harg7 arg9 harg9 x1 x2 x4 x5 xs0 = pS0 x1 x2 x4 x5 xs0 1 6 := by
  change _ = gN (pS0 x1 x2 x4 x5 xs0 1 5) (endn 2) (pKV0 x1 x2 x4 x5 5 1)
  rw [← kv0_5_1 c harg3 harg4 harg6 harg7 x1 x2 x4 x5, ← st0_1_5 c harg3 harg4 harg6 harg7 harg9 x1 x2 x4 x5 xs0]
  rfl

theorem st1_1_6 :
    kernelRun0_B.sl.r_276 (F := F) c arg3 harg3 arg4 harg4 arg6 harg6 arg7 harg7 arg9 harg9 x1 x2 x4 x5 xs0 = pS1 x1 x2 x4 x5 xs0 1 6 := by
  change _ = gN (pS1 x1 x2 x4 x5 xs0 1 5) (endn 3) (pKV1 x1 x2 x4 x5 5 1)
  rw [← kv1_5_1 c harg3 harg4 harg6 harg7 x1 x2 x4 x5, ← st1_1_5 c harg3 harg4 harg6 harg7 harg9 x1 x2 x4 x5 xs0]
  rfl

theorem o_6_1 :
    gO (kernelRun0_B.sl.r_172 (F := F) c arg2 harg2 arg3 harg3 arg4 harg4 arg6 harg6 arg7 harg7 x0 x1 x2 x4 x5) (kernelRun0_B.sl.r_171 (F := F) c arg2 harg2 arg6 harg6 arg7 harg7 x0 x4 x5) (kernelRun0_B.sl.r_275 (F := F) c arg3 harg3 arg4 harg4 arg6 harg6 arg7 harg7 arg9 harg9 x1 x2 x4 x5 xs0) (kernelRun0_B.sl.r_276 (F := F) c arg3 harg3 arg4 harg4 arg6 harg6 arg7 harg7 arg9 harg9 x1 x2 x4 x5 xs0) = pO x0 x1 x2 x4 x5 xs0 6 1 := by
  change _ = gO (pOI x0 x1 x2 x4 x5 6 1) (pQD x0 x4 x5 6 1) (pS0 x1 x2 x4 x5 xs0 1 6) (pS1 x1 x2 x4 x5 xs0 1 6)
  rw [← oi_6_1 c harg2 harg3 harg4 harg6 harg7 x0 x1 x2 x4 x5, ← qd_6_1 c harg2 harg6 harg7 x0 x4 x5, ← st0_1_6 c harg3 harg4 harg6 harg7 harg9 x1 x2 x4 x5 xs0, ← st1_1_6 c harg3 harg4 harg6 harg7 harg9 x1 x2 x4 x5 xs0]

theorem st0_1_7 :
    kernelRun0_B.sl.r_279 (F := F) c arg3 harg3 arg4 harg4 arg6 harg6 arg7 harg7 arg9 harg9 x1 x2 x4 x5 xs0 = pS0 x1 x2 x4 x5 xs0 1 7 := by
  change _ = gN (pS0 x1 x2 x4 x5 xs0 1 6) (endn 2) (pKV0 x1 x2 x4 x5 6 1)
  rw [← kv0_6_1 c harg3 harg4 harg6 harg7 x1 x2 x4 x5, ← st0_1_6 c harg3 harg4 harg6 harg7 harg9 x1 x2 x4 x5 xs0]
  rfl

theorem st1_1_7 :
    kernelRun0_B.sl.r_280 (F := F) c arg3 harg3 arg4 harg4 arg6 harg6 arg7 harg7 arg9 harg9 x1 x2 x4 x5 xs0 = pS1 x1 x2 x4 x5 xs0 1 7 := by
  change _ = gN (pS1 x1 x2 x4 x5 xs0 1 6) (endn 3) (pKV1 x1 x2 x4 x5 6 1)
  rw [← kv1_6_1 c harg3 harg4 harg6 harg7 x1 x2 x4 x5, ← st1_1_6 c harg3 harg4 harg6 harg7 harg9 x1 x2 x4 x5 xs0]
  rfl

theorem o_7_1 :
    gO (kernelRun0_B.sl.v2173 (F := F) c arg2 harg2 arg3 harg3 arg4 harg4 arg6 harg6 arg7 harg7 x0 x1 x2 x4 x5) (kernelRun0_B.sl.r_201 (F := F) c arg2 harg2 arg6 harg6 arg7 harg7 x0 x4 x5) (kernelRun0_B.sl.r_279 (F := F) c arg3 harg3 arg4 harg4 arg6 harg6 arg7 harg7 arg9 harg9 x1 x2 x4 x5 xs0) (kernelRun0_B.sl.r_280 (F := F) c arg3 harg3 arg4 harg4 arg6 harg6 arg7 harg7 arg9 harg9 x1 x2 x4 x5 xs0) = pO x0 x1 x2 x4 x5 xs0 7 1 := by
  change _ = gO (pOI x0 x1 x2 x4 x5 7 1) (pQD x0 x4 x5 7 1) (pS0 x1 x2 x4 x5 xs0 1 7) (pS1 x1 x2 x4 x5 xs0 1 7)
  rw [← oi_7_1 c harg2 harg3 harg4 harg6 harg7 x0 x1 x2 x4 x5, ← qd_7_1 c harg2 harg6 harg7 x0 x4 x5, ← st0_1_7 c harg3 harg4 harg6 harg7 harg9 x1 x2 x4 x5 xs0, ← st1_1_7 c harg3 harg4 harg6 harg7 harg9 x1 x2 x4 x5 xs0]

theorem st0_1_8 :
    kernelRun0_B.sl.r_283 (F := F) c arg3 harg3 arg4 harg4 arg6 harg6 arg7 harg7 arg9 harg9 x1 x2 x4 x5 xs0 = pS0 x1 x2 x4 x5 xs0 1 8 := by
  change _ = gN (pS0 x1 x2 x4 x5 xs0 1 7) (endn 2) (pKV0 x1 x2 x4 x5 7 1)
  rw [← kv0_7_1 c harg3 harg4 harg6 harg7 x1 x2 x4 x5, ← st0_1_7 c harg3 harg4 harg6 harg7 harg9 x1 x2 x4 x5 xs0]
  rfl

theorem st1_1_8 :
    kernelRun0_B.sl.r_284 (F := F) c arg3 harg3 arg4 harg4 arg6 harg6 arg7 harg7 arg9 harg9 x1 x2 x4 x5 xs0 = pS1 x1 x2 x4 x5 xs0 1 8 := by
  change _ = gN (pS1 x1 x2 x4 x5 xs0 1 7) (endn 3) (pKV1 x1 x2 x4 x5 7 1)
  rw [← kv1_7_1 c harg3 harg4 harg6 harg7 x1 x2 x4 x5, ← st1_1_7 c harg3 harg4 harg6 harg7 harg9 x1 x2 x4 x5 xs0]
  rfl

theorem o_0_2 :
    gO (kernelRun0_B.sl.r_17 (F := F) c arg2 harg2 arg3 harg3 arg4 harg4 arg6 harg6 arg7 harg7 x0 x1 x2 x4 x5) (kernelRun0_B.sl.r_16 (F := F) c arg2 harg2 arg6 harg6 arg7 harg7 x0 x4 x5) (shapeCast S128x256 (kernelRun0_B.sl.v3292 (F := F) c arg9 harg9 xs0) shapeCasts_S1x128x256_S128x256) (shapeCast S128x256 (kernelRun0_B.sl.v3294 (F := F) c arg9 harg9 xs0) shapeCasts_S1x128x256_S128x256) = pO x0 x1 x2 x4 x5 xs0 0 2 := by
  change _ = gO (pOI x0 x1 x2 x4 x5 0 2) (pQD x0 x4 x5 0 2) (shapeCast S128x256 (hd xs0 4) shapeCasts_S1x128x256_S128x256) (shapeCast S128x256 (hd xs0 5) shapeCasts_S1x128x256_S128x256)
  rw [← oi_0_2 c harg2 harg3 harg4 harg6 harg7 x0 x1 x2 x4 x5, ← qd_0_2 c harg2 harg6 harg7 x0 x4 x5, ← z0_2 c harg9 xs0, ← z1_2 c harg9 xs0]

theorem st0_2_1 :
    kernelRun0_B.sl.r_286 (F := F) c arg3 harg3 arg4 harg4 arg6 harg6 arg7 harg7 arg9 harg9 x1 x2 x4 x5 xs0 = pS0 x1 x2 x4 x5 xs0 2 1 := by
  change _ = gN (shapeCast S128x256 (hd xs0 4) shapeCasts_S1x128x256_S128x256) (endn 4) (pKV0 x1 x2 x4 x5 0 2)
  rw [← kv0_0_2 c harg3 harg4 harg6 harg7 x1 x2 x4 x5, ← z0_2 c harg9 xs0]
  rfl

theorem st1_2_1 :
    kernelRun0_B.sl.r_287 (F := F) c arg3 harg3 arg4 harg4 arg6 harg6 arg7 harg7 arg9 harg9 x1 x2 x4 x5 xs0 = pS1 x1 x2 x4 x5 xs0 2 1 := by
  change _ = gN (shapeCast S128x256 (hd xs0 5) shapeCasts_S1x128x256_S128x256) (endn 5) (pKV1 x1 x2 x4 x5 0 2)
  rw [← kv1_0_2 c harg3 harg4 harg6 harg7 x1 x2 x4 x5, ← z1_2 c harg9 xs0]
  rfl

theorem o_1_2 :
    gO (kernelRun0_B.sl.r_41 (F := F) c arg2 harg2 arg3 harg3 arg4 harg4 arg6 harg6 arg7 harg7 x0 x1 x2 x4 x5) (kernelRun0_B.sl.r_40 (F := F) c arg2 harg2 arg6 harg6 arg7 harg7 x0 x4 x5) (kernelRun0_B.sl.r_286 (F := F) c arg3 harg3 arg4 harg4 arg6 harg6 arg7 harg7 arg9 harg9 x1 x2 x4 x5 xs0) (kernelRun0_B.sl.r_287 (F := F) c arg3 harg3 arg4 harg4 arg6 harg6 arg7 harg7 arg9 harg9 x1 x2 x4 x5 xs0) = pO x0 x1 x2 x4 x5 xs0 1 2 := by
  change _ = gO (pOI x0 x1 x2 x4 x5 1 2) (pQD x0 x4 x5 1 2) (pS0 x1 x2 x4 x5 xs0 2 1) (pS1 x1 x2 x4 x5 xs0 2 1)
  rw [← oi_1_2 c harg2 harg3 harg4 harg6 harg7 x0 x1 x2 x4 x5, ← qd_1_2 c harg2 harg6 harg7 x0 x4 x5, ← st0_2_1 c harg3 harg4 harg6 harg7 harg9 x1 x2 x4 x5 xs0, ← st1_2_1 c harg3 harg4 harg6 harg7 harg9 x1 x2 x4 x5 xs0]

theorem st0_2_2 :
    kernelRun0_B.sl.r_293 (F := F) c arg3 harg3 arg4 harg4 arg6 harg6 arg7 harg7 arg9 harg9 x1 x2 x4 x5 xs0 = pS0 x1 x2 x4 x5 xs0 2 2 := by
  change _ = gN (pS0 x1 x2 x4 x5 xs0 2 1) (endn 4) (pKV0 x1 x2 x4 x5 1 2)
  rw [← kv0_1_2 c harg3 harg4 harg6 harg7 x1 x2 x4 x5, ← st0_2_1 c harg3 harg4 harg6 harg7 harg9 x1 x2 x4 x5 xs0]
  rfl

theorem st1_2_2 :
    kernelRun0_B.sl.r_295 (F := F) c arg3 harg3 arg4 harg4 arg6 harg6 arg7 harg7 arg9 harg9 x1 x2 x4 x5 xs0 = pS1 x1 x2 x4 x5 xs0 2 2 := by
  change _ = gN (pS1 x1 x2 x4 x5 xs0 2 1) (endn 5) (pKV1 x1 x2 x4 x5 1 2)
  rw [← kv1_1_2 c harg3 harg4 harg6 harg7 x1 x2 x4 x5, ← st1_2_1 c harg3 harg4 harg6 harg7 harg9 x1 x2 x4 x5 xs0]
  rfl

theorem o_2_2 :
    gO (kernelRun0_B.sl.r_70 (F := F) c arg2 harg2 arg3 harg3 arg4 harg4 arg6 harg6 arg7 harg7 x0 x1 x2 x4 x5) (kernelRun0_B.sl.r_69 (F := F) c arg2 harg2 arg6 harg6 arg7 harg7 x0 x4 x5) (kernelRun0_B.sl.r_293 (F := F) c arg3 harg3 arg4 harg4 arg6 harg6 arg7 harg7 arg9 harg9 x1 x2 x4 x5 xs0) (kernelRun0_B.sl.r_295 (F := F) c arg3 harg3 arg4 harg4 arg6 harg6 arg7 harg7 arg9 harg9 x1 x2 x4 x5 xs0) = pO x0 x1 x2 x4 x5 xs0 2 2 := by
  change _ = gO (pOI x0 x1 x2 x4 x5 2 2) (pQD x0 x4 x5 2 2) (pS0 x1 x2 x4 x5 xs0 2 2) (pS1 x1 x2 x4 x5 xs0 2 2)
  rw [← oi_2_2 c harg2 harg3 harg4 harg6 harg7 x0 x1 x2 x4 x5, ← qd_2_2 c harg2 harg6 harg7 x0 x4 x5, ← st0_2_2 c harg3 harg4 harg6 harg7 harg9 x1 x2 x4 x5 xs0, ← st1_2_2 c harg3 harg4 harg6 harg7 harg9 x1 x2 x4 x5 xs0]

theorem st0_2_3 :
    kernelRun0_B.sl.r_297 (F := F) c arg3 harg3 arg4 harg4 arg6 harg6 arg7 harg7 arg9 harg9 x1 x2 x4 x5 xs0 = pS0 x1 x2 x4 x5 xs0 2 3 := by
  change _ = gN (pS0 x1 x2 x4 x5 xs0 2 2) (endn 4) (pKV0 x1 x2 x4 x5 2 2)
  rw [← kv0_2_2 c harg3 harg4 harg6 harg7 x1 x2 x4 x5, ← st0_2_2 c harg3 harg4 harg6 harg7 harg9 x1 x2 x4 x5 xs0]
  rfl

theorem st1_2_3 :
    kernelRun0_B.sl.r_298 (F := F) c arg3 harg3 arg4 harg4 arg6 harg6 arg7 harg7 arg9 harg9 x1 x2 x4 x5 xs0 = pS1 x1 x2 x4 x5 xs0 2 3 := by
  change _ = gN (pS1 x1 x2 x4 x5 xs0 2 2) (endn 5) (pKV1 x1 x2 x4 x5 2 2)
  rw [← kv1_2_2 c harg3 harg4 harg6 harg7 x1 x2 x4 x5, ← st1_2_2 c harg3 harg4 harg6 harg7 harg9 x1 x2 x4 x5 xs0]
  rfl

theorem o_3_2 :
    gO (kernelRun0_B.sl.v1108 (F := F) c arg2 harg2 arg3 harg3 arg4 harg4 arg6 harg6 arg7 harg7 x0 x1 x2 x4 x5) (kernelRun0_B.sl.r_99 (F := F) c arg2 harg2 arg6 harg6 arg7 harg7 x0 x4 x5) (kernelRun0_B.sl.r_297 (F := F) c arg3 harg3 arg4 harg4 arg6 harg6 arg7 harg7 arg9 harg9 x1 x2 x4 x5 xs0) (kernelRun0_B.sl.r_298 (F := F) c arg3 harg3 arg4 harg4 arg6 harg6 arg7 harg7 arg9 harg9 x1 x2 x4 x5 xs0) = pO x0 x1 x2 x4 x5 xs0 3 2 := by
  change _ = gO (pOI x0 x1 x2 x4 x5 3 2) (pQD x0 x4 x5 3 2) (pS0 x1 x2 x4 x5 xs0 2 3) (pS1 x1 x2 x4 x5 xs0 2 3)
  rw [← oi_3_2 c harg2 harg3 harg4 harg6 harg7 x0 x1 x2 x4 x5, ← qd_3_2 c harg2 harg6 harg7 x0 x4 x5, ← st0_2_3 c harg3 harg4 harg6 harg7 harg9 x1 x2 x4 x5 xs0, ← st1_2_3 c harg3 harg4 harg6 harg7 harg9 x1 x2 x4 x5 xs0]

theorem st0_2_4 :
    kernelRun0_B.sl.r_301 (F := F) c arg3 harg3 arg4 harg4 arg6 harg6 arg7 harg7 arg9 harg9 x1 x2 x4 x5 xs0 = pS0 x1 x2 x4 x5 xs0 2 4 := by
  change _ = gN (pS0 x1 x2 x4 x5 xs0 2 3) (endn 4) (pKV0 x1 x2 x4 x5 3 2)
  rw [← kv0_3_2 c harg3 harg4 harg6 harg7 x1 x2 x4 x5, ← st0_2_3 c harg3 harg4 harg6 harg7 harg9 x1 x2 x4 x5 xs0]
  rfl

theorem st1_2_4 :
    kernelRun0_B.sl.r_302 (F := F) c arg3 harg3 arg4 harg4 arg6 harg6 arg7 harg7 arg9 harg9 x1 x2 x4 x5 xs0 = pS1 x1 x2 x4 x5 xs0 2 4 := by
  change _ = gN (pS1 x1 x2 x4 x5 xs0 2 3) (endn 5) (pKV1 x1 x2 x4 x5 3 2)
  rw [← kv1_3_2 c harg3 harg4 harg6 harg7 x1 x2 x4 x5, ← st1_2_3 c harg3 harg4 harg6 harg7 harg9 x1 x2 x4 x5 xs0]
  rfl

theorem o_4_2 :
    gO (kernelRun0_B.sl.v1392 (F := F) c arg2 harg2 arg3 harg3 arg4 harg4 arg6 harg6 arg7 harg7 x0 x1 x2 x4 x5) (kernelRun0_B.sl.r_128 (F := F) c arg2 harg2 arg6 harg6 arg7 harg7 x0 x4 x5) (kernelRun0_B.sl.r_301 (F := F) c arg3 harg3 arg4 harg4 arg6 harg6 arg7 harg7 arg9 harg9 x1 x2 x4 x5 xs0) (kernelRun0_B.sl.r_302 (F := F) c arg3 harg3 arg4 harg4 arg6 harg6 arg7 harg7 arg9 harg9 x1 x2 x4 x5 xs0) = pO x0 x1 x2 x4 x5 xs0 4 2 := by
  change _ = gO (pOI x0 x1 x2 x4 x5 4 2) (pQD x0 x4 x5 4 2) (pS0 x1 x2 x4 x5 xs0 2 4) (pS1 x1 x2 x4 x5 xs0 2 4)
  rw [← oi_4_2 c harg2 harg3 harg4 harg6 harg7 x0 x1 x2 x4 x5, ← qd_4_2 c harg2 harg6 harg7 x0 x4 x5, ← st0_2_4 c harg3 harg4 harg6 harg7 harg9 x1 x2 x4 x5 xs0, ← st1_2_4 c harg3 harg4 harg6 harg7 harg9 x1 x2 x4 x5 xs0]

theorem st0_2_5 :
    kernelRun0_B.sl.r_307 (F := F) c arg3 harg3 arg4 harg4 arg6 harg6 arg7 harg7 arg9 harg9 x1 x2 x4 x5 xs0 = pS0 x1 x2 x4 x5 xs0 2 5 := by
  change _ = gN (pS0 x1 x2 x4 x5 xs0 2 4) (endn 4) (pKV0 x1 x2 x4 x5 4 2)
  rw [← kv0_4_2 c harg3 harg4 harg6 harg7 x1 x2 x4 x5, ← st0_2_4 c harg3 harg4 harg6 harg7 harg9 x1 x2 x4 x5 xs0]
  rfl

theorem st1_2_5 :
    kernelRun0_B.sl.r_308 (F := F) c arg3 harg3 arg4 harg4 arg6 harg6 arg7 harg7 arg9 harg9 x1 x2 x4 x5 xs0 = pS1 x1 x2 x4 x5 xs0 2 5 := by
  change _ = gN (pS1 x1 x2 x4 x5 xs0 2 4) (endn 5) (pKV1 x1 x2 x4 x5 4 2)
  rw [← kv1_4_2 c harg3 harg4 harg6 harg7 x1 x2 x4 x5, ← st1_2_4 c harg3 harg4 harg6 harg7 harg9 x1 x2 x4 x5 xs0]
  rfl

theorem o_5_2 :
    gO (kernelRun0_B.sl.r_153 (F := F) c arg2 harg2 arg3 harg3 arg4 harg4 arg6 harg6 arg7 harg7 x0 x1 x2 x4 x5) (kernelRun0_B.sl.r_152 (F := F) c arg2 harg2 arg6 harg6 arg7 harg7 x0 x4 x5) (kernelRun0_B.sl.r_307 (F := F) c arg3 harg3 arg4 harg4 arg6 harg6 arg7 harg7 arg9 harg9 x1 x2 x4 x5 xs0) (kernelRun0_B.sl.r_308 (F := F) c arg3 harg3 arg4 harg4 arg6 harg6 arg7 harg7 arg9 harg9 x1 x2 x4 x5 xs0) = pO x0 x1 x2 x4 x5 xs0 5 2 := by
  change _ = gO (pOI x0 x1 x2 x4 x5 5 2) (pQD x0 x4 x5 5 2) (pS0 x1 x2 x4 x5 xs0 2 5) (pS1 x1 x2 x4 x5 xs0 2 5)
  rw [← oi_5_2 c harg2 harg3 harg4 harg6 harg7 x0 x1 x2 x4 x5, ← qd_5_2 c harg2 harg6 harg7 x0 x4 x5, ← st0_2_5 c harg3 harg4 harg6 harg7 harg9 x1 x2 x4 x5 xs0, ← st1_2_5 c harg3 harg4 harg6 harg7 harg9 x1 x2 x4 x5 xs0]

theorem st0_2_6 :
    kernelRun0_B.sl.r_312 (F := F) c arg3 harg3 arg4 harg4 arg6 harg6 arg7 harg7 arg9 harg9 x1 x2 x4 x5 xs0 = pS0 x1 x2 x4 x5 xs0 2 6 := by
  change _ = gN (pS0 x1 x2 x4 x5 xs0 2 5) (endn 4) (pKV0 x1 x2 x4 x5 5 2)
  rw [← kv0_5_2 c harg3 harg4 harg6 harg7 x1 x2 x4 x5, ← st0_2_5 c harg3 harg4 harg6 harg7 harg9 x1 x2 x4 x5 xs0]
  rfl

theorem st1_2_6 :
    kernelRun0_B.sl.r_313 (F := F) c arg3 harg3 arg4 harg4 arg6 harg6 arg7 harg7 arg9 harg9 x1 x2 x4 x5 xs0 = pS1 x1 x2 x4 x5 xs0 2 6 := by
  change _ = gN (pS1 x1 x2 x4 x5 xs0 2 5) (endn 5) (pKV1 x1 x2 x4 x5 5 2)
  rw [← kv1_5_2 c harg3 harg4 harg6 harg7 x1 x2 x4 x5, ← st1_2_5 c harg3 harg4 harg6 harg7 harg9 x1 x2 x4 x5 xs0]
  rfl

theorem o_6_2 :
    gO (kernelRun0_B.sl.r_177 (F := F) c arg2 harg2 arg3 harg3 arg4 harg4 arg6 harg6 arg7 harg7 x0 x1 x2 x4 x5) (kernelRun0_B.sl.r_176 (F := F) c arg2 harg2 arg6 harg6 arg7 harg7 x0 x4 x5) (kernelRun0_B.sl.r_312 (F := F) c arg3 harg3 arg4 harg4 arg6 harg6 arg7 harg7 arg9 harg9 x1 x2 x4 x5 xs0) (kernelRun0_B.sl.r_313 (F := F) c arg3 harg3 arg4 harg4 arg6 harg6 arg7 harg7 arg9 harg9 x1 x2 x4 x5 xs0) = pO x0 x1 x2 x4 x5 xs0 6 2 := by
  change _ = gO (pOI x0 x1 x2 x4 x5 6 2) (pQD x0 x4 x5 6 2) (pS0 x1 x2 x4 x5 xs0 2 6) (pS1 x1 x2 x4 x5 xs0 2 6)
  rw [← oi_6_2 c harg2 harg3 harg4 harg6 harg7 x0 x1 x2 x4 x5, ← qd_6_2 c harg2 harg6 harg7 x0 x4 x5, ← st0_2_6 c harg3 harg4 harg6 harg7 harg9 x1 x2 x4 x5 xs0, ← st1_2_6 c harg3 harg4 harg6 harg7 harg9 x1 x2 x4 x5 xs0]

theorem st0_2_7 :
    kernelRun0_B.sl.r_319 (F := F) c arg3 harg3 arg4 harg4 arg6 harg6 arg7 harg7 arg9 harg9 x1 x2 x4 x5 xs0 = pS0 x1 x2 x4 x5 xs0 2 7 := by
  change _ = gN (pS0 x1 x2 x4 x5 xs0 2 6) (endn 4) (pKV0 x1 x2 x4 x5 6 2)
  rw [← kv0_6_2 c harg3 harg4 harg6 harg7 x1 x2 x4 x5, ← st0_2_6 c harg3 harg4 harg6 harg7 harg9 x1 x2 x4 x5 xs0]
  rfl

theorem st1_2_7 :
    kernelRun0_B.sl.r_320 (F := F) c arg3 harg3 arg4 harg4 arg6 harg6 arg7 harg7 arg9 harg9 x1 x2 x4 x5 xs0 = pS1 x1 x2 x4 x5 xs0 2 7 := by
  change _ = gN (pS1 x1 x2 x4 x5 xs0 2 6) (endn 5) (pKV1 x1 x2 x4 x5 6 2)
  rw [← kv1_6_2 c harg3 harg4 harg6 harg7 x1 x2 x4 x5, ← st1_2_6 c harg3 harg4 harg6 harg7 harg9 x1 x2 x4 x5 xs0]
  rfl

theorem o_7_2 :
    gO (kernelRun0_B.sl.r_206 (F := F) c arg2 harg2 arg3 harg3 arg4 harg4 arg6 harg6 arg7 harg7 x0 x1 x2 x4 x5) (kernelRun0_B.sl.r_205 (F := F) c arg2 harg2 arg6 harg6 arg7 harg7 x0 x4 x5) (kernelRun0_B.sl.r_319 (F := F) c arg3 harg3 arg4 harg4 arg6 harg6 arg7 harg7 arg9 harg9 x1 x2 x4 x5 xs0) (kernelRun0_B.sl.r_320 (F := F) c arg3 harg3 arg4 harg4 arg6 harg6 arg7 harg7 arg9 harg9 x1 x2 x4 x5 xs0) = pO x0 x1 x2 x4 x5 xs0 7 2 := by
  change _ = gO (pOI x0 x1 x2 x4 x5 7 2) (pQD x0 x4 x5 7 2) (pS0 x1 x2 x4 x5 xs0 2 7) (pS1 x1 x2 x4 x5 xs0 2 7)
  rw [← oi_7_2 c harg2 harg3 harg4 harg6 harg7 x0 x1 x2 x4 x5, ← qd_7_2 c harg2 harg6 harg7 x0 x4 x5, ← st0_2_7 c harg3 harg4 harg6 harg7 harg9 x1 x2 x4 x5 xs0, ← st1_2_7 c harg3 harg4 harg6 harg7 harg9 x1 x2 x4 x5 xs0]

theorem st0_2_8 :
    kernelRun0_B.sl.r_323 (F := F) c arg3 harg3 arg4 harg4 arg6 harg6 arg7 harg7 arg9 harg9 x1 x2 x4 x5 xs0 = pS0 x1 x2 x4 x5 xs0 2 8 := by
  change _ = gN (pS0 x1 x2 x4 x5 xs0 2 7) (endn 4) (pKV0 x1 x2 x4 x5 7 2)
  rw [← kv0_7_2 c harg3 harg4 harg6 harg7 x1 x2 x4 x5, ← st0_2_7 c harg3 harg4 harg6 harg7 harg9 x1 x2 x4 x5 xs0]
  rfl

theorem st1_2_8 :
    kernelRun0_B.sl.r_324 (F := F) c arg3 harg3 arg4 harg4 arg6 harg6 arg7 harg7 arg9 harg9 x1 x2 x4 x5 xs0 = pS1 x1 x2 x4 x5 xs0 2 8 := by
  change _ = gN (pS1 x1 x2 x4 x5 xs0 2 7) (endn 5) (pKV1 x1 x2 x4 x5 7 2)
  rw [← kv1_7_2 c harg3 harg4 harg6 harg7 x1 x2 x4 x5, ← st1_2_7 c harg3 harg4 harg6 harg7 harg9 x1 x2 x4 x5 xs0]
  rfl

theorem o_0_3 :
    gO (kernelRun0_B.sl.v327 (F := F) c arg2 harg2 arg3 harg3 arg4 harg4 arg6 harg6 arg7 harg7 x0 x1 x2 x4 x5) (kernelRun0_B.sl.r_26 (F := F) c arg2 harg2 arg6 harg6 arg7 harg7 x0 x4 x5) (shapeCast S128x256 (kernelRun0_B.sl.v3770 (F := F) c arg9 harg9 xs0) shapeCasts_S1x128x256_S128x256) (shapeCast S128x256 (kernelRun0_B.sl.v3772 (F := F) c arg9 harg9 xs0) shapeCasts_S1x128x256_S128x256) = pO x0 x1 x2 x4 x5 xs0 0 3 := by
  change _ = gO (pOI x0 x1 x2 x4 x5 0 3) (pQD x0 x4 x5 0 3) (shapeCast S128x256 (hd xs0 6) shapeCasts_S1x128x256_S128x256) (shapeCast S128x256 (hd xs0 7) shapeCasts_S1x128x256_S128x256)
  rw [← oi_0_3 c harg2 harg3 harg4 harg6 harg7 x0 x1 x2 x4 x5, ← qd_0_3 c harg2 harg6 harg7 x0 x4 x5, ← z0_3 c harg9 xs0, ← z1_3 c harg9 xs0]

theorem st0_3_1 :
    kernelRun0_B.sl.r_330 (F := F) c arg3 harg3 arg4 harg4 arg6 harg6 arg7 harg7 arg9 harg9 x1 x2 x4 x5 xs0 = pS0 x1 x2 x4 x5 xs0 3 1 := by
  change _ = gN (shapeCast S128x256 (hd xs0 6) shapeCasts_S1x128x256_S128x256) (endn 6) (pKV0 x1 x2 x4 x5 0 3)
  rw [← kv0_0_3 c harg3 harg4 harg6 harg7 x1 x2 x4 x5, ← z0_3 c harg9 xs0]
  rfl

theorem st1_3_1 :
    kernelRun0_B.sl.r_331 (F := F) c arg3 harg3 arg4 harg4 arg6 harg6 arg7 harg7 arg9 harg9 x1 x2 x4 x5 xs0 = pS1 x1 x2 x4 x5 xs0 3 1 := by
  change _ = gN (shapeCast S128x256 (hd xs0 7) shapeCasts_S1x128x256_S128x256) (endn 7) (pKV1 x1 x2 x4 x5 0 3)
  rw [← kv1_0_3 c harg3 harg4 harg6 harg7 x1 x2 x4 x5, ← z1_3 c harg9 xs0]
  rfl

theorem o_1_3 :
    gO (kernelRun0_B.sl.r_51 (F := F) c arg2 harg2 arg3 harg3 arg4 harg4 arg6 harg6 arg7 harg7 x0 x1 x2 x4 x5) (kernelRun0_B.sl.r_50 (F := F) c arg2 harg2 arg6 harg6 arg7 harg7 x0 x4 x5) (kernelRun0_B.sl.r_330 (F := F) c arg3 harg3 arg4 harg4 arg6 harg6 arg7 harg7 arg9 harg9 x1 x2 x4 x5 xs0) (kernelRun0_B.sl.r_331 (F := F) c arg3 harg3 arg4 harg4 arg6 harg6 arg7 harg7 arg9 harg9 x1 x2 x4 x5 xs0) = pO x0 x1 x2 x4 x5 xs0 1 3 := by
  change _ = gO (pOI x0 x1 x2 x4 x5 1 3) (pQD x0 x4 x5 1 3) (pS0 x1 x2 x4 x5 xs0 3 1) (pS1 x1 x2 x4 x5 xs0 3 1)
  rw [← oi_1_3 c harg2 harg3 harg4 harg6 harg7 x0 x1 x2 x4 x5, ← qd_1_3 c harg2 harg6 harg7 x0 x4 x5, ← st0_3_1 c harg3 harg4 harg6 harg7 harg9 x1 x2 x4 x5 xs0, ← st1_3_1 c harg3 harg4 harg6 harg7 harg9 x1 x2 x4 x5 xs0]

theorem st0_3_2 :
    kernelRun0_B.sl.r_335 (F := F) c arg3 harg3 arg4 harg4 arg6 harg6 arg7 harg7 arg9 harg9 x1 x2 x4 x5 xs0 = pS0 x1 x2 x4 x5 xs0 3 2 := by
  change _ = gN (pS0 x1 x2 x4 x5 xs0 3 1) (endn 6) (pKV0 x1 x2 x4 x5 1 3)
  rw [← kv0_1_3 c harg3 harg4 harg6 harg7 x1 x2 x4 x5, ← st0_3_1 c harg3 harg4 harg6 harg7 harg9 x1 x2 x4 x5 xs0]
  rfl

theorem st1_3_2 :
    kernelRun0_B.sl.r_336 (F := F) c arg3 harg3 arg4 harg4 arg6 harg6 arg7 harg7 arg9 harg9 x1 x2 x4 x5 xs0 = pS1 x1 x2 x4 x5 xs0 3 2 := by
  change _ = gN (pS1 x1 x2 x4 x5 xs0 3 1) (endn 7) (pKV1 x1 x2 x4 x5 1 3)
  rw [← kv1_1_3 c harg3 harg4 harg6 harg7 x1 x2 x4 x5, ← st1_3_1 c harg3 harg4 harg6 harg7 harg9 x1 x2 x4 x5 xs0]
  rfl

theorem o_2_3 :
    gO (kernelRun0_B.sl.r_75 (F := F) c arg2 harg2 arg3 harg3 arg4 harg4 arg6 harg6 arg7 harg7 x0 x1 x2 x4 x5) (kernelRun0_B.sl.r_74 (F := F) c arg2 harg2 arg6 harg6 arg7 harg7 x0 x4 x5) (kernelRun0_B.sl.r_335 (F := F) c arg3 harg3 arg4 harg4 arg6 harg6 arg7 harg7 arg9 harg9 x1 x2 x4 x5 xs0) (kernelRun0_B.sl.r_336 (F := F) c arg3 harg3 arg4 harg4 arg6 harg6 arg7 harg7 arg9 harg9 x1 x2 x4 x5 xs0) = pO x0 x1 x2 x4 x5 xs0 2 3 := by
  change _ = gO (pOI x0 x1 x2 x4 x5 2 3) (pQD x0 x4 x5 2 3) (pS0 x1 x2 x4 x5 xs0 3 2) (pS1 x1 x2 x4 x5 xs0 3 2)
  rw [← oi_2_3 c harg2 harg3 harg4 harg6 harg7 x0 x1 x2 x4 x5, ← qd_2_3 c harg2 harg6 harg7 x0 x4 x5, ← st0_3_2 c harg3 harg4 harg6 harg7 harg9 x1 x2 x4 x5 xs0, ← st1_3_2 c harg3 harg4 harg6 harg7 harg9 x1 x2 x4 x5 xs0]

theorem st0_3_3 :
    kernelRun0_B.sl.r_342 (F := F) c arg3 harg3 arg4 harg4 arg6 harg6 arg7 harg7 arg9 harg9 x1 x2 x4 x5 xs0 = pS0 x1 x2 x4 x5 xs0 3 3 := by
  change _ = gN (pS0 x1 x2 x4 x5 xs0 3 2) (endn 6) (pKV0 x1 x2 x4 x5 2 3)
  rw [← kv0_2_3 c harg3 harg4 harg6 harg7 x1 x2 x4 x5, ← st0_3_2 c harg3 harg4 harg6 harg7 harg9 x1 x2 x4 x5 xs0]
  rfl

theorem st1_3_3 :
    kernelRun0_B.sl.r_343 (F := F) c arg3 harg3 arg4 harg4 arg6 harg6 arg7 harg7 arg9 harg9 x1 x2 x4 x5 xs0 = pS1 x1 x2 x4 x5 xs0 3 3 := by
  change _ = gN (pS1 x1 x2 x4 x5 xs0 3 2) (endn 7) (pKV1 x1 x2 x4 x5 2 3)
  rw [← kv1_2_3 c harg3 harg4 harg6 harg7 x1 x2 x4 x5, ← st1_3_2 c harg3 harg4 harg6 harg7 harg9 x1 x2 x4 x5 xs0]
  rfl

theorem o_3_3 :
    gO (kernelRun0_B.sl.r_104 (F := F) c arg2 harg2 arg3 harg3 arg4 harg4 arg6 harg6 arg7 harg7 x0 x1 x2 x4 x5) (kernelRun0_B.sl.r_103 (F := F) c arg2 harg2 arg6 harg6 arg7 harg7 x0 x4 x5) (kernelRun0_B.sl.r_342 (F := F) c arg3 harg3 arg4 harg4 arg6 harg6 arg7 harg7 arg9 harg9 x1 x2 x4 x5 xs0) (kernelRun0_B.sl.r_343 (F := F) c arg3 harg3 arg4 harg4 arg6 harg6 arg7 harg7 arg9 harg9 x1 x2 x4 x5 xs0) = pO x0 x1 x2 x4 x5 xs0 3 3 := by
  change _ = gO (pOI x0 x1 x2 x4 x5 3 3) (pQD x0 x4 x5 3 3) (pS0 x1 x2 x4 x5 xs0 3 3) (pS1 x1 x2 x4 x5 xs0 3 3)
  rw [← oi_3_3 c harg2 harg3 harg4 harg6 harg7 x0 x1 x2 x4 x5, ← qd_3_3 c harg2 harg6 harg7 x0 x4 x5, ← st0_3_3 c harg3 harg4 harg6 harg7 harg9 x1 x2 x4 x5 xs0, ← st1_3_3 c harg3 harg4 harg6 harg7 harg9 x1 x2 x4 x5 xs0]

theorem st0_3_4 :
    kernelRun0_B.sl.r_346 (F := F) c arg3 harg3 arg4 harg4 arg6 harg6 arg7 harg7 arg9 harg9 x1 x2 x4 x5 xs0 = pS0 x1 x2 x4 x5 xs0 3 4 := by
  change _ = gN (pS0 x1 x2 x4 x5 xs0 3 3) (endn 6) (pKV0 x1 x2 x4 x5 3 3)
  rw [← kv0_3_3 c harg3 harg4 harg6 harg7 x1 x2 x4 x5, ← st0_3_3 c harg3 harg4 harg6 harg7 harg9 x1 x2 x4 x5 xs0]
  rfl

theorem st1_3_4 :
    kernelRun0_B.sl.r_347 (F := F) c arg3 harg3 arg4 harg4 arg6 harg6 arg7 harg7 arg9 harg9 x1 x2 x4 x5 xs0 = pS1 x1 x2 x4 x5 xs0 3 4 := by
  change _ = gN (pS1 x1 x2 x4 x5 xs0 3 3) (endn 7) (pKV1 x1 x2 x4 x5 3 3)
  rw [← kv1_3_3 c harg3 harg4 harg6 harg7 x1 x2 x4 x5, ← st1_3_3 c harg3 harg4 harg6 harg7 harg9 x1 x2 x4 x5 xs0]
  rfl

theorem o_4_3 :
    gO (kernelRun0_B.sl.v1463 (F := F) c arg2 harg2 arg3 harg3 arg4 harg4 arg6 harg6 arg7 harg7 x0 x1 x2 x4 x5) (kernelRun0_B.sl.r_133 (F := F) c arg2 harg2 arg6 harg6 arg7 harg7 x0 x4 x5) (kernelRun0_B.sl.r_346 (F := F) c arg3 harg3 arg4 harg4 arg6 harg6 arg7 harg7 arg9 harg9 x1 x2 x4 x5 xs0) (kernelRun0_B.sl.r_347 (F := F) c arg3 harg3 arg4 harg4 arg6 harg6 arg7 harg7 arg9 harg9 x1 x2 x4 x5 xs0) = pO x0 x1 x2 x4 x5 xs0 4 3 := by
  change _ = gO (pOI x0 x1 x2 x4 x5 4 3) (pQD x0 x4 x5 4 3) (pS0 x1 x2 x4 x5 xs0 3 4) (pS1 x1 x2 x4 x5 xs0 3 4)
  rw [← oi_4_3 c harg2 harg3 harg4 harg6 harg7 x0 x1 x2 x4 x5, ← qd_4_3 c harg2 harg6 harg7 x0 x4 x5, ← st0_3_4 c harg3 harg4 harg6 harg7 harg9 x1 x2 x4 x5 xs0, ← st1_3_4 c harg3 harg4 harg6 harg7 harg9 x1 x2 x4 x5 xs0]

theorem st0_3_5 :
    kernelRun0_B.sl.r_349 (F := F) c arg3 harg3 arg4 harg4 arg6 harg6 arg7 harg7 arg9 harg9 x1 x2 x4 x5 xs0 = pS0 x1 x2 x4 x5 xs0 3 5 := by
  change _ = gN (pS0 x1 x2 x4 x5 xs0 3 4) (endn 6) (pKV0 x1 x2 x4 x5 4 3)
  rw [← kv0_4_3 c harg3 harg4 harg6 harg7 x1 x2 x4 x5, ← st0_3_4 c harg3 harg4 harg6 harg7 harg9 x1 x2 x4 x5 xs0]
  rfl

theorem st1_3_5 :
    kernelRun0_B.sl.r_350 (F := F) c arg3 harg3 arg4 harg4 arg6 harg6 arg7 harg7 arg9 harg9 x1 x2 x4 x5 xs0 = pS1 x1 x2 x4 x5 xs0 3 5 := by
  change _ = gN (pS1 x1 x2 x4 x5 xs0 3 4) (endn 7) (pKV1 x1 x2 x4 x5 4 3)
  rw [← kv1_4_3 c harg3 harg4 harg6 harg7 x1 x2 x4 x5, ← st1_3_4 c harg3 harg4 harg6 harg7 harg9 x1 x2 x4 x5 xs0]
  rfl

theorem o_5_3 :
    gO (kernelRun0_B.sl.v1747 (F := F) c arg2 harg2 arg3 harg3 arg4 harg4 arg6 harg6 arg7 harg7 x0 x1 x2 x4 x5) (kernelRun0_B.sl.r_162 (F := F) c arg2 harg2 arg6 harg6 arg7 harg7 x0 x4 x5) (kernelRun0_B.sl.r_349 (F := F) c arg3 harg3 arg4 harg4 arg6 harg6 arg7 harg7 arg9 harg9 x1 x2 x4 x5 xs0) (kernelRun0_B.sl.r_350 (F := F) c arg3 harg3 arg4 harg4 arg6 harg6 arg7 harg7 arg9 harg9 x1 x2 x4 x5 xs0) = pO x0 x1 x2 x4 x5 xs0 5 3 := by
  change _ = gO (pOI x0 x1 x2 x4 x5 5 3) (pQD x0 x4 x5 5 3) (pS0 x1 x2 x4 x5 xs0 3 5) (pS1 x1 x2 x4 x5 xs0 3 5)
  rw [← oi_5_3 c harg2 harg3 harg4 harg6 harg7 x0 x1 x2 x4 x5, ← qd_5_3 c harg2 harg6 harg7 x0 x4 x5, ← st0_3_5 c harg3 harg4 harg6 harg7 harg9 x1 x2 x4 x5 xs0, ← st1_3_5 c harg3 harg4 harg6 harg7 harg9 x1 x2 x4 x5 xs0]

theorem st0_3_6 :
    kernelRun0_B.sl.r_353 (F := F) c arg3 harg3 arg4 harg4 arg6 harg6 arg7 harg7 arg9 harg9 x1 x2 x4 x5 xs0 = pS0 x1 x2 x4 x5 xs0 3 6 := by
  change _ = gN (pS0 x1 x2 x4 x5 xs0 3 5) (endn 6) (pKV0 x1 x2 x4 x5 5 3)
  rw [← kv0_5_3 c harg3 harg4 harg6 harg7 x1 x2 x4 x5, ← st0_3_5 c harg3 harg4 harg6 harg7 harg9 x1 x2 x4 x5 xs0]
  rfl

theorem st1_3_6 :
    kernelRun0_B.sl.r_354 (F := F) c arg3 harg3 arg4 harg4 arg6 harg6 arg7 harg7 arg9 harg9 x1 x2 x4 x5 xs0 = pS1 x1 x2 x4 x5 xs0 3 6 := by
  change _ = gN (pS1 x1 x2 x4 x5 xs0 3 5) (endn 7) (pKV1 x1 x2 x4 x5 5 3)
  rw [← kv1_5_3 c harg3 harg4 harg6 harg7 x1 x2 x4 x5, ← st1_3_5 c harg3 harg4 harg6 harg7 harg9 x1 x2 x4 x5 xs0]
  rfl

theorem o_6_3 :
    gO (kernelRun0_B.sl.r_187 (F := F) c arg2 harg2 arg3 harg3 arg4 harg4 arg6 harg6 arg7 harg7 x0 x1 x2 x4 x5) (kernelRun0_B.sl.r_186 (F := F) c arg2 harg2 arg6 harg6 arg7 harg7 x0 x4 x5) (kernelRun0_B.sl.r_353 (F := F) c arg3 harg3 arg4 harg4 arg6 harg6 arg7 harg7 arg9 harg9 x1 x2 x4 x5 xs0) (kernelRun0_B.sl.r_354 (F := F) c arg3 harg3 arg4 harg4 arg6 harg6 arg7 harg7 arg9 harg9 x1 x2 x4 x5 xs0) = pO x0 x1 x2 x4 x5 xs0 6 3 := by
  change _ = gO (pOI x0 x1 x2 x4 x5 6 3) (pQD x0 x4 x5 6 3) (pS0 x1 x2 x4 x5 xs0 3 6) (pS1 x1 x2 x4 x5 xs0 3 6)
  rw [← oi_6_3 c harg2 harg3 harg4 harg6 harg7 x0 x1 x2 x4 x5, ← qd_6_3 c harg2 harg6 harg7 x0 x4 x5, ← st0_3_6 c harg3 harg4 harg6 harg7 harg9 x1 x2 x4 x5 xs0, ← st1_3_6 c harg3 harg4 harg6 harg7 harg9 x1 x2 x4 x5 xs0]

theorem st0_3_7 :
    kernelRun0_B.sl.r_358 (F := F) c arg3 harg3 arg4 harg4 arg6 harg6 arg7 harg7 arg9 harg9 x1 x2 x4 x5 xs0 = pS0 x1 x2 x4 x5 xs0 3 7 := by
  change _ = gN (pS0 x1 x2 x4 x5 xs0 3 6) (endn 6) (pKV0 x1 x2 x4 x5 6 3)
  rw [← kv0_6_3 c harg3 harg4 harg6 harg7 x1 x2 x4 x5, ← st0_3_6 c harg3 harg4 harg6 harg7 harg9 x1 x2 x4 x5 xs0]
  rfl

theorem st1_3_7 :
    kernelRun0_B.sl.r_359 (F := F) c arg3 harg3 arg4 harg4 arg6 harg6 arg7 harg7 arg9 harg9 x1 x2 x4 x5 xs0 = pS1 x1 x2 x4 x5 xs0 3 7 := by
  change _ = gN (pS1 x1 x2 x4 x5 xs0 3 6) (endn 7) (pKV1 x1 x2 x4 x5 6 3)
  rw [← kv1_6_3 c harg3 harg4 harg6 harg7 x1 x2 x4 x5, ← st1_3_6 c harg3 harg4 harg6 harg7 harg9 x1 x2 x4 x5 xs0]
  rfl

theorem o_7_3 :
    gO (kernelRun0_B.sl.r_211 (F := F) c arg2 harg2 arg3 harg3 arg4 harg4 arg6 harg6 arg7 harg7 x0 x1 x2 x4 x5) (kernelRun0_B.sl.r_210 (F := F) c arg2 harg2 arg6 harg6 arg7 harg7 x0 x4 x5) (kernelRun0_B.sl.r_358 (F := F) c arg3 harg3 arg4 harg4 arg6 harg6 arg7 harg7 arg9 harg9 x1 x2 x4 x5 xs0) (kernelRun0_B.sl.r_359 (F := F) c arg3 harg3 arg4 harg4 arg6 harg6 arg7 harg7 arg9 harg9 x1 x2 x4 x5 xs0) = pO x0 x1 x2 x4 x5 xs0 7 3 := by
  change _ = gO (pOI x0 x1 x2 x4 x5 7 3) (pQD x0 x4 x5 7 3) (pS0 x1 x2 x4 x5 xs0 3 7) (pS1 x1 x2 x4 x5 xs0 3 7)
  rw [← oi_7_3 c harg2 harg3 harg4 harg6 harg7 x0 x1 x2 x4 x5, ← qd_7_3 c harg2 harg6 harg7 x0 x4 x5, ← st0_3_7 c harg3 harg4 harg6 harg7 harg9 x1 x2 x4 x5 xs0, ← st1_3_7 c harg3 harg4 harg6 harg7 harg9 x1 x2 x4 x5 xs0]

theorem st0_3_8 :
    kernelRun0_B.sl.r_364 (F := F) c arg3 harg3 arg4 harg4 arg6 harg6 arg7 harg7 arg9 harg9 x1 x2 x4 x5 xs0 = pS0 x1 x2 x4 x5 xs0 3 8 := by
  change _ = gN (pS0 x1 x2 x4 x5 xs0 3 7) (endn 6) (pKV0 x1 x2 x4 x5 7 3)
  rw [← kv0_7_3 c harg3 harg4 harg6 harg7 x1 x2 x4 x5, ← st0_3_7 c harg3 harg4 harg6 harg7 harg9 x1 x2 x4 x5 xs0]
  rfl

theorem st1_3_8 :
    kernelRun0_B.sl.r_365 (F := F) c arg3 harg3 arg4 harg4 arg6 harg6 arg7 harg7 arg9 harg9 x1 x2 x4 x5 xs0 = pS1 x1 x2 x4 x5 xs0 3 8 := by
  change _ = gN (pS1 x1 x2 x4 x5 xs0 3 7) (endn 7) (pKV1 x1 x2 x4 x5 7 3)
  rw [← kv1_7_3 c harg3 harg4 harg6 harg7 x1 x2 x4 x5, ← st1_3_7 c harg3 harg4 harg6 harg7 harg9 x1 x2 x4 x5 xs0]
  rfl

end Cert.KernelRetIdeal.Ret.CaseB
end
-- ==== Proof.RetCaseB.lean ====
/- The values of the retention kernel at a grid point that continues a sweep: what it stores. -/
module

public import proofs.«01_k».proof.Proof.RetCaseB2

@[expose] public section

set_option maxRecDepth 16384

noncomputable section

open Idealize.ShloMosaic Idealize.ShloMosaic.TcCoe Idealize.SL.Sem

namespace Cert.KernelRetIdeal.Ret.CaseB
open Cert.KernelRetIdeal Cert.KernelRetIdeal.Gen Cert.KernelRetIdeal.Ret

variable {F : FTy → Type} [FloatOps F] [Named F]
variable (c : Dev nD) (i : grid0.Coords) {arg2 : Memref sig .tc .vmem S1x512x1024 .f32} (harg2 : arg2.IsWhole) {arg3 : Memref sig .tc .vmem S1x512x1024 .f32} (harg3 : arg3.IsWhole) {arg4 : Memref sig .tc .vmem S1x512x2048 .f32} (harg4 : arg4.IsWhole) {arg5 : Memref sig .tc .vmem S1x512x2048 .f32} (harg5 : arg5.IsWhole) {arg6 : Memref sig .tc .vmem S1x512x128 .f32} (harg6 : arg6.IsWhole) {arg7 : Memref sig .tc .vmem S1x512x128 .f32} (harg7 : arg7.IsWhole) {arg8 : Memref sig .tc .vmem S1x512x2048 .bf16} (harg8 : arg8.IsWhole) {arg9 : Memref sig .tc .vmem S8x128x256 .f32} (harg9 : arg9.IsWhole)
variable (x0 : Vec F S1x512x1024 .f32) (x1 : Vec F S1x512x1024 .f32) (x2 : Vec F S1x512x2048 .f32) (x3 : Vec F S1x512x2048 .f32) (x4 : Vec F S1x512x128 .f32) (x5 : Vec F S1x512x128 .f32) (xs0 : Vec F S8x128x256 .f32)

theorem pieces_s (hc0 : ¬cond0_0 i) :
    (kernelRun0_B (F := F) c i arg2 harg2 arg3 harg3 arg4 harg4 arg5 harg5 arg6 harg6 arg7 harg7 arg8 harg8 arg9 harg9 hc0 x0 x1 x2 x3 x4 x5 xs0).2.1 = [pcS x1 x2 x4 x5 xs0 7, pcS x1 x2 x4 x5 xs0 6, pcS x1 x2 x4 x5 xs0 5, pcS x1 x2 x4 x5 xs0 4, pcS x1 x2 x4 x5 xs0 3, pcS x1 x2 x4 x5 xs0 2, pcS x1 x2 x4 x5 xs0 1, pcS x1 x2 x4 x5 xs0 0] := by
  change _ = [(⟨Rect.unit (s := S8x128x256) ![7, 0, 0] S1x128x256.size (inbS 7), shapeCast S1x128x256 (pS1 x1 x2 x4 x5 xs0 3 8) shapeCasts_S128x256_S1x128x256⟩ : View.Piece (Elt F) S8x128x256 .f32), (⟨Rect.unit (s := S8x128x256) ![6, 0, 0] S1x128x256.size (inbS 6), shapeCast S1x128x256 (pS0 x1 x2 x4 x5 xs0 3 8) shapeCasts_S128x256_S1x128x256⟩ : View.Piece (Elt F) S8x128x256 .f32), (⟨Rect.unit (s := S8x128x256) ![5, 0, 0] S1x128x256.size (inbS 5), shapeCast S1x128x256 (pS1 x1 x2 x4 x5 xs0 2 8) shapeCasts_S128x256_S1x128x256⟩ : View.Piece (Elt F) S8x128x256 .f32), (⟨Rect.unit (s := S8x128x256) ![4, 0, 0] S1x128x256.size (inbS 4), shapeCast S1x128x256 (pS0 x1 x2 x4 x5 xs0 2 8) shapeCasts_S128x256_S1x128x256⟩ : View.Piece (Elt F) S8x128x256 .f32), (⟨Rect.unit (s := S8x128x256) ![3, 0, 0] S1x128x256.size (inbS 3), shapeCast S1x128x256 (pS1 x1 x2 x4 x5 xs0 1 8) shapeCasts_S128x256_S1x128x256⟩ : View.Piece (Elt F) S8x128x256 .f32), (⟨Rect.unit (s := S8x128x256) ![2, 0, 0] S1x128x256.size (inbS 2), shapeCast S1x128x256 (pS0 x1 x2 x4 x5 xs0 1 8) shapeCasts_S128x256_S1x128x256⟩ : View.Piece (Elt F) S8x128x256 .f32), (⟨Rect.unit (s := S8x128x256) ![1, 0, 0] S1x128x256.size (inbS 1), shapeCast S1x128x256 (pS1 x1 x2 x4 x5 xs0 0 8) shapeCasts_S128x256_S1x128x256⟩ : View.Piece (Elt F) S8x128x256 .f32), (⟨Rect.unit (s := S8x128x256) ![0, 0, 0] S1x128x256.size (inbS 0), shapeCast S1x128x256 (pS0 x1 x2 x4 x5 xs0 0 8) shapeCasts_S128x256_S1x128x256⟩ : View.Piece (Elt F) S8x128x256 .f32)]
  rw [← st0_0_8 c harg3 harg4 harg6 harg7 harg9 x1 x2 x4 x5 xs0, ← st1_0_8 c harg3 harg4 harg6 harg7 harg9 x1 x2 x4 x5 xs0, ← st0_1_8 c harg3 harg4 harg6 harg7 harg9 x1 x2 x4 x5 xs0, ← st1_1_8 c harg3 harg4 harg6 harg7 harg9 x1 x2 x4 x5 xs0, ← st0_2_8 c harg3 harg4 harg6 harg7 harg9 x1 x2 x4 x5 xs0, ← st1_2_8 c harg3 harg4 harg6 harg7 harg9 x1 x2 x4 x5 xs0, ← st0_3_8 c harg3 harg4 harg6 harg7 harg9 x1 x2 x4 x5 xs0, ← st1_3_8 c harg3 harg4 harg6 harg7 harg9 x1 x2 x4 x5 xs0]
  rfl

theorem pieces_o (hc0 : ¬cond0_0 i) :
    (kernelRun0_B (F := F) c i arg2 harg2 arg3 harg3 arg4 harg4 arg5 harg5 arg6 harg6 arg7 harg7 arg8 harg8 arg9 harg9 hc0 x0 x1 x2 x3 x4 x5 xs0).1 = [pcO x0 x1 x2 x3 x4 x5 xs0 7 7, pcO x0 x1 x2 x3 x4 x5 xs0 7 6, pcO x0 x1 x2 x3 x4 x5 xs0 6 7, pcO x0 x1 x2 x3 x4 x5 xs0 6 6, pcO x0 x1 x2 x3 x4 x5 xs0 5 7, pcO x0 x1 x2 x3 x4 x5 xs0 5 6, pcO x0 x1 x2 x3 x4 x5 xs0 4 7, pcO x0 x1 x2 x3 x4 x5 xs0 4 6, pcO x0 x1 x2 x3 x4 x5 xs0 3 7, pcO x0 x1 x2 x3 x4 x5 xs0 3 6, pcO x0 x1 x2 x3 x4 x5 xs0 2 7, pcO x0 x1 x2 x3 x4 x5 xs0 2 6, pcO x0 x1 x2 x3 x4 x5 xs0 1 7, pcO x0 x1 x2 x3 x4 x5 xs0 1 6, pcO x0 x1 x2 x3 x4 x5 xs0 0 7, pcO x0 x1 x2 x3 x4 x5 xs0 0 6, pcO x0 x1 x2 x3 x4 x5 xs0 7 5, pcO x0 x1 x2 x3 x4 x5 xs0 7 4, pcO x0 x1 x2 x3 x4 x5 xs0 6 5, pcO x0 x1 x2 x3 x4 x5 xs0 6 4, pcO x0 x1 x2 x3 x4 x5 xs0 5 5, pcO x0 x1 x2 x3 x4 x5 xs0 5 4, pcO x0 x1 x2 x3 x4 x5 xs0 4 5, pcO x0 x1 x2 x3 x4 x5 xs0 4 4, pcO x0 x1 x2 x3 x4 x5 xs0 3 5, pcO x0 x1 x2 x3 x4 x5 xs0 3 4, pcO x0 x1 x2 x3 x4 x5 xs0 2 5, pcO x0 x1 x2 x3 x4 x5 xs0 2 4, pcO x0 x1 x2 x3 x4 x5 xs0 1 5, pcO x0 x1 x2 x3 x4 x5 xs0 1 4, pcO x0 x1 x2 x3 x4 x5 xs0 0 5, pcO x0 x1 x2 x3 x4 x5 xs0 0 4, pcO x0 x1 x2 x3 x4 x5 xs0 7 3, pcO x0 x1 x2 x3 x4 x5 xs0 7 2, pcO x0 x1 x2 x3 x4 x5 xs0 6 3, pcO x0 x1 x2 x3 x4 x5 xs0 6 2, pcO x0 x1 x2 x3 x4 x5 xs0 5 3, pcO x0 x1 x2 x3 x4 x5 xs0 5 2, pcO x0 x1 x2 x3 x4 x5 xs0 4 3, pcO x0 x1 x2 x3 x4 x5 xs0 4 2, pcO x0 x1 x2 x3 x4 x5 xs0 3 3, pcO x0 x1 x2 x3 x4 x5 xs0 3 2, pcO x0 x1 x2 x3 x4 x5 xs0 2 3, pcO x0 x1 x2 x3 x4 x5 xs0 2 2, pcO x0 x1 x2 x3 x4 x5 xs0 1 3, pcO x0 x1 x2 x3 x4 x5 xs0 1 2, pcO x0 x1 x2 x3 x4 x5 xs0 0 3, pcO x0 x1 x2 x3 x4 x5 xs0 0 2, pcO x0 x1 x2 x3 x4 x5 xs0 7 1, pcO x0 x1 x2 x3 x4 x5 xs0 7 0, pcO x0 x1 x2 x3 x4 x5 xs0 6 1, pcO x0 x1 x2 x3 x4 x5 xs0 6 0, pcO x0 x1 x2 x3 x4 x5 xs0 5 1, pcO x0 x1 x2 x3 x4 x5 xs0 5 0, pcO x0 x1 x2 x3 x4 x5 xs0 4 1, pcO x0 x1 x2 x3 x4 x5 xs0 4 0, pcO x0 x1 x2 x3 x4 x5 xs0 3 1, pcO x0 x1 x2 x3 x4 x5 xs0 3 0, pcO x0 x1 x2 x3 x4 x5 xs0 2 1, pcO x0 x1 x2 x3 x4 x5 xs0 2 0, pcO x0 x1 x2 x3 x4 x5 xs0 1 1, pcO x0 x1 x2 x3 x4 x5 xs0 1 0, pcO x0 x1 x2 x3 x4 x5 xs0 0 1, pcO x0 x1 x2 x3 x4 x5 xs0 0 0] := by
  refine congrArg₂ List.cons ?_ ?_
  · change _ = (⟨Rect.unit (s := S1x512x2048) ![0, 448, 1792] S1x64x256.size (inbV 7 7), gT1 (pO x0 x1 x2 x4 x5 xs0 7 3) (cutV x3 7 7)⟩ : View.Piece (Elt F) S1x512x2048 .bf16)
    rw [← o_7_3 c harg2 harg3 harg4 harg6 harg7 harg9 x0 x1 x2 x4 x5 xs0, rV harg5 x3]; rfl
  refine congrArg₂ List.cons ?_ ?_
  · change _ = (⟨Rect.unit (s := S1x512x2048) ![0, 448, 1536] S1x64x256.size (inbV 7 6), gT0 (pO x0 x1 x2 x4 x5 xs0 7 3) (cutV x3 7 6)⟩ : View.Piece (Elt F) S1x512x2048 .bf16)
    rw [← o_7_3 c harg2 harg3 harg4 harg6 harg7 harg9 x0 x1 x2 x4 x5 xs0, rV harg5 x3]; rfl
  refine congrArg₂ List.cons ?_ ?_
  · change _ = (⟨Rect.unit (s := S1x512x2048) ![0, 384, 1792] S1x64x256.size (inbV 6 7), gT1 (pO x0 x1 x2 x4 x5 xs0 6 3) (cutV x3 6 7)⟩ : View.Piece (Elt F) S1x512x2048 .bf16)
    rw [← o_6_3 c harg2 harg3 harg4 harg6 harg7 harg9 x0 x1 x2 x4 x5 xs0, rV harg5 x3]; rfl
  refine congrArg₂ List.cons ?_ ?_
  · change _ = (⟨Rect.unit (s := S1x512x2048) ![0, 384, 1536] S1x64x256.size (inbV 6 6), gT0 (pO x0 x1 x2 x4 x5 xs0 6 3) (cutV x3 6 6)⟩ : View.Piece (Elt F) S1x512x2048 .bf16)
    rw [← o_6_3 c harg2 harg3 harg4 harg6 harg7 harg9 x0 x1 x2 x4 x5 xs0, rV harg5 x3]; rfl
  refine congrArg₂ List.cons ?_ ?_
  · change _ = (⟨Rect.unit (s := S1x512x2048) ![0, 320, 1792] S1x64x256.size (inbV 5 7), gT1 (pO x0 x1 x2 x4 x5 xs0 5 3) (cutV x3 5 7)⟩ : View.Piece (Elt F) S1x512x2048 .bf16)
    rw [← o_5_3 c harg2 harg3 harg4 harg6 harg7 harg9 x0 x1 x2 x4 x5 xs0, rV harg5 x3]; rfl
  refine congrArg₂ List.cons ?_ ?_
  · change _ = (⟨Rect.unit (s := S1x512x2048) ![0, 320, 1536] S1x64x256.size (inbV 5 6), gT0 (pO x0 x1 x2 x4 x5 xs0 5 3) (cutV x3 5 6)⟩ : View.Piece (Elt F) S1x512x2048 .bf16)
    rw [← o_5_3 c harg2 harg3 harg4 harg6 harg7 harg9 x0 x1 x2 x4 x5 xs0, rV harg5 x3]; rfl
  refine congrArg₂ List.cons ?_ ?_
  · change _ = (⟨Rect.unit (s := S1x512x2048) ![0, 256, 1792] S1x64x256.size (inbV 4 7), gT1 (pO x0 x1 x2 x4 x5 xs0 4 3) (cutV x3 4 7)⟩ : View.Piece (Elt F) S1x512x2048 .bf16)
    rw [← o_4_3 c harg2 harg3 harg4 harg6 harg7 harg9 x0 x1 x2 x4 x5 xs0, rV harg5 x3]; rfl
  refine congrArg₂ List.cons ?_ ?_
  · change _ = (⟨Rect.unit (s := S1x512x2048) ![0, 256, 1536] S1x64x256.size (inbV 4 6), gT0 (pO x0 x1 x2 x4 x5 xs0 4 3) (cutV x3 4 6)⟩ : View.Piece (Elt F) S1x512x2048 .bf16)
    rw [← o_4_3 c harg2 harg3 harg4 harg6 harg7 harg9 x0 x1 x2 x4 x5 xs0, rV harg5 x3]; rfl
  refine congrArg₂ List.cons ?_ ?_
  · change _ = (⟨Rect.unit (s := S1x512x2048) ![0, 192, 1792] S1x64x256.size (inbV 3 7), gT1 (pO x0 x1 x2 x4 x5 xs0 3 3) (cutV x3 3 7)⟩ : View.Piece (Elt F) S1x512x2048 .bf16)
    rw [← o_3_3 c harg2 harg3 harg4 harg6 harg7 harg9 x0 x1 x2 x4 x5 xs0, rV harg5 x3]; rfl
  refine congrArg₂ List.cons ?_ ?_
  · change _ = (⟨Rect.unit (s := S1x512x2048) ![0, 192, 1536] S1x64x256.size (inbV 3 6), gT0 (pO x0 x1 x2 x4 x5 xs0 3 3) (cutV x3 3 6)⟩ : View.Piece (Elt F) S1x512x2048 .bf16)
    rw [← o_3_3 c harg2 harg3 harg4 harg6 harg7 harg9 x0 x1 x2 x4 x5 xs0, rV harg5 x3]; rfl
  refine congrArg₂ List.cons ?_ ?_
  · change _ = (⟨Rect.unit (s := S1x512x2048) ![0, 128, 1792] S1x64x256.size (inbV 2 7), gT1 (pO x0 x1 x2 x4 x5 xs0 2 3) (cutV x3 2 7)⟩ : View.Piece (Elt F) S1x512x2048 .bf16)
    rw [← o_2_3 c harg2 harg3 harg4 harg6 harg7 harg9 x0 x1 x2 x4 x5 xs0, rV harg5 x3]; rfl
  refine congrArg₂ List.cons ?_ ?_
  · change _ = (⟨Rect.unit (s := S1x512x2048) ![0, 128, 1536] S1x64x256.size (inbV 2 6), gT0 (pO x0 x1 x2 x4 x5 xs0 2 3) (cutV x3 2 6)⟩ : View.Piece (Elt F) S1x512x2048 .bf16)
    rw [← o_2_3 c harg2 harg3 harg4 harg6 harg7 harg9 x0 x1 x2 x4 x5 xs0, rV harg5 x3]; rfl
  refine congrArg₂ List.cons ?_ ?_
  · change _ = (⟨Rect.unit (s := S1x512x2048) ![0, 64, 1792] S1x64x256.size (inbV 1 7), gT1 (pO x0 x1 x2 x4 x5 xs0 1 3) (cutV x3 1 7)⟩ : View.Piece (Elt F) S1x512x2048 .bf16)
    rw [← o_1_3 c harg2 harg3 harg4 harg6 harg7 harg9 x0 x1 x2 x4 x5 xs0, rV harg5 x3]; rfl
  refine congrArg₂ List.cons ?_ ?_
  · change _ = (⟨Rect.unit (s := S1x512x2048) ![0, 64, 1536] S1x64x256.size (inbV 1 6), gT0 (pO x0 x1 x2 x4 x5 xs0 1 3) (cutV x3 1 6)⟩ : View.Piece (Elt F) S1x512x2048 .bf16)
    rw [← o_1_3 c harg2 harg3 harg4 harg6 harg7 harg9 x0 x1 x2 x4 x5 xs0, rV harg5 x3]; rfl
  refine congrArg₂ List.cons ?_ ?_
  · change _ = (⟨Rect.unit (s := S1x512x2048) ![0, 0, 1792] S1x64x256.size (inbV 0 7), gT1 (pO x0 x1 x2 x4 x5 xs0 0 3) (cutV x3 0 7)⟩ : View.Piece (Elt F) S1x512x2048 .bf16)
    rw [← o_0_3 c harg2 harg3 harg4 harg6 harg7 harg9 x0 x1 x2 x4 x5 xs0, rV harg5 x3]; rfl
  refine congrArg₂ List.cons ?_ ?_
  · change _ = (⟨Rect.unit (s := S1x512x2048) ![0, 0, 1536] S1x64x256.size (inbV 0 6), gT0 (pO x0 x1 x2 x4 x5 xs0 0 3) (cutV x3 0 6)⟩ : View.Piece (Elt F) S1x512x2048 .bf16)
    rw [← o_0_3 c harg2 harg3 harg4 harg6 harg7 harg9 x0 x1 x2 x4 x5 xs0, rV harg5 x3]; rfl
  refine congrArg₂ List.cons ?_ ?_
  · change _ = (⟨Rect.unit (s := S1x512x2048) ![0, 448, 1280] S1x64x256.size (inbV 7 5), gT1 (pO x0 x1 x2 x4 x5 xs0 7 2) (cutV x3 7 5)⟩ : View.Piece (Elt F) S1x512x2048 .bf16)
    rw [← o_7_2 c harg2 harg3 harg4 harg6 harg7 harg9 x0 x1 x2 x4 x5 xs0, rV harg5 x3]; rfl
  refine congrArg₂ List.cons ?_ ?_
  · change _ = (⟨Rect.unit (s := S1x512x2048) ![0, 448, 1024] S1x64x256.size (inbV 7 4), gT0 (pO x0 x1 x2 x4 x5 xs0 7 2) (cutV x3 7 4)⟩ : View.Piece (Elt F) S1x512x2048 .bf16)
    rw [← o_7_2 c harg2 harg3 harg4 harg6 harg7 harg9 x0 x1 x2 x4 x5 xs0, rV harg5 x3]; rfl
  refine congrArg₂ List.cons ?_ ?_
  · change _ = (⟨Rect.unit (s := S1x512x2048) ![0, 384, 1280] S1x64x256.size (inbV 6 5), gT1 (pO x0 x1 x2 x4 x5 xs0 6 2) (cutV x3 6 5)⟩ : View.Piece (Elt F) S1x512x2048 .bf16)
    rw [← o_6_2 c harg2 harg3 harg4 harg6 harg7 harg9 x0 x1 x2 x4 x5 xs0, rV harg5 x3]; rfl
  refine congrArg₂ List.cons ?_ ?_
  · change _ = (⟨Rect.unit (s := S1x512x2048) ![0, 384, 1024] S1x64x256.size (inbV 6 4), gT0 (pO x0 x1 x2 x4 x5 xs0 6 2) (cutV x3 6 4)⟩ : View.Piece (Elt F) S1x512x2048 .bf16)
    rw [← o_6_2 c harg2 harg3 harg4 harg6 harg7 harg9 x0 x1 x2 x4 x5 xs0, rV harg5 x3]; rfl
  refine congrArg₂ List.cons ?_ ?_
  · change _ = (⟨Rect.unit (s := S1x512x2048) ![0, 320, 1280] S1x64x256.size (inbV 5 5), gT1 (pO x0 x1 x2 x4 x5 xs0 5 2) (cutV x3 5 5)⟩ : View.Piece (Elt F) S1x512x2048 .bf16)
    rw [← o_5_2 c harg2 harg3 harg4 harg6 harg7 harg9 x0 x1 x2 x4 x5 xs0, rV harg5 x3]; rfl
  refine congrArg₂ List.cons ?_ ?_
  · change _ = (⟨Rect.unit (s := S1x512x2048) ![0, 320, 1024] S1x64x256.size (inbV 5 4), gT0 (pO x0 x1 x2 x4 x5 xs0 5 2) (cutV x3 5 4)⟩ : View.Piece (Elt F) S1x512x2048 .bf16)
    rw [← o_5_2 c harg2 harg3 harg4 harg6 harg7 harg9 x0 x1 x2 x4 x5 xs0, rV harg5 x3]; rfl
  refine congrArg₂ List.cons ?_ ?_
  · change _ = (⟨Rect.unit (s := S1x512x2048) ![0, 256, 1280] S1x64x256.size (inbV 4 5), gT1 (pO x0 x1 x2 x4 x5 xs0 4 2) (cutV x3 4 5)⟩ : View.Piece (Elt F) S1x512x2048 .bf16)
    rw [← o_4_2 c harg2 harg3 harg4 harg6 harg7 harg9 x0 x1 x2 x4 x5 xs0, rV harg5 x3]; rfl
  refine congrArg₂ List.cons ?_ ?_
  · change _ = (⟨Rect.unit (s := S1x512x2048) ![0, 256, 1024] S1x64x256.size (inbV 4 4), gT0 (pO x0 x1 x2 x4 x5 xs0 4 2) (cutV x3 4 4)⟩ : View.Piece (Elt F) S1x512x2048 .bf16)
    rw [← o_4_2 c harg2 harg3 harg4 harg6 harg7 harg9 x0 x1 x2 x4 x5 xs0, rV harg5 x3]; rfl
  refine congrArg₂ List.cons ?_ ?_
  · change _ = (⟨Rect.unit (s := S1x512x2048) ![0, 192, 1280] S1x64x256.size (inbV 3 5), gT1 (pO x0 x1 x2 x4 x5 xs0 3 2) (cutV x3 3 5)⟩ : View.Piece (Elt F) S1x512x2048 .bf16)
    rw [← o_3_2 c harg2 harg3 harg4 harg6 harg7 harg9 x0 x1 x2 x4 x5 xs0, rV harg5 x3]; rfl
  refine congrArg₂ List.cons ?_ ?_
  · change _ = (⟨Rect.unit (s := S1x512x2048) ![0, 192, 1024] S1x64x256.size (inbV 3 4), gT0 (pO x0 x1 x2 x4 x5 xs0 3 2) (cutV x3 3 4)⟩ : View.Piece (Elt F) S1x512x2048 .bf16)
    rw [← o_3_2 c harg2 harg3 harg4 harg6 harg7 harg9 x0 x1 x2 x4 x5 xs0, rV harg5 x3]; rfl
  refine congrArg₂ List.cons ?_ ?_
  · change _ = (⟨Rect.unit (s := S1x512x2048) ![0, 128, 1280] S1x64x256.size (inbV 2 5), gT1 (pO x0 x1 x2 x4 x5 xs0 2 2) (cutV x3 2 5)⟩ : View.Piece (Elt F) S1x512x2048 .bf16)
    rw [← o_2_2 c harg2 harg3 harg4 harg6 harg7 harg9 x0 x1 x2 x4 x5 xs0, rV harg5 x3]; rfl
  refine congrArg₂ List.cons ?_ ?_
  · change _ = (⟨Rect.unit (s := S1x512x2048) ![0, 128, 1024] S1x64x256.size (inbV 2 4), gT0 (pO x0 x1 x2 x4 x5 xs0 2 2) (cutV x3 2 4)⟩ : View.Piece (Elt F) S1x512x2048 .bf16)
    rw [← o_2_2 c harg2 harg3 harg4 harg6 harg7 harg9 x0 x1 x2 x4 x5 xs0, rV harg5 x3]; rfl
  refine congrArg₂ List.cons ?_ ?_
  · change _ = (⟨Rect.unit (s := S1x512x2048) ![0, 64, 1280] S1x64x256.size (inbV 1 5), gT1 (pO x0 x1 x2 x4 x5 xs0 1 2) (cutV x3 1 5)⟩ : View.Piece (Elt F) S1x512x2048 .bf16)
    rw [← o_1_2 c harg2 harg3 harg4 harg6 harg7 harg9 x0 x1 x2 x4 x5 xs0, rV harg5 x3]; rfl
  refine congrArg₂ List.cons ?_ ?_
  · change _ = (⟨Rect.unit (s := S1x512x2048) ![0, 64, 1024] S1x64x256.size (inbV 1 4), gT0 (pO x0 x1 x2 x4 x5 xs0 1 2) (cutV x3 1 4)⟩ : View.Piece (Elt F) S1x512x2048 .bf16)
    rw [← o_1_2 c harg2 harg3 harg4 harg6 harg7 harg9 x0 x1 x2 x4 x5 xs0, rV harg5 x3]; rfl
  refine congrArg₂ List.cons ?_ ?_
  · change _ = (⟨Rect.unit (s := S1x512x2048) ![0, 0, 1280] S1x64x256.size (inbV 0 5), gT1 (pO x0 x1 x2 x4 x5 xs0 0 2) (cutV x3 0 5)⟩ : View.Piece (Elt F) S1x512x2048 .bf16)
    rw [← o_0_2 c harg2 harg3 harg4 harg6 harg7 harg9 x0 x1 x2 x4 x5 xs0, rV harg5 x3]; rfl
  refine congrArg₂ List.cons ?_ ?_
  · change _ = (⟨Rect.unit (s := S1x512x2048) ![0, 0, 1024] S1x64x256.size (inbV 0 4), gT0 (pO x0 x1 x2 x4 x5 xs0 0 2) (cutV x3 0 4)⟩ : View.Piece (Elt F) S1x512x2048 .bf16)
    rw [← o_0_2 c harg2 harg3 harg4 harg6 harg7 harg9 x0 x1 x2 x4 x5 xs0, rV harg5 x3]; rfl
  refine congrArg₂ List.cons ?_ ?_
  · change _ = (⟨Rect.unit (s := S1x512x2048) ![0, 448, 768] S1x64x256.size (inbV 7 3), gT1 (pO x0 x1 x2 x4 x5 xs0 7 1) (cutV x3 7 3)⟩ : View.Piece (Elt F) S1x512x2048 .bf16)
    rw [← o_7_1 c harg2 harg3 harg4 harg6 harg7 harg9 x0 x1 x2 x4 x5 xs0, rV harg5 x3]; rfl
  refine congrArg₂ List.cons ?_ ?_
  · change _ = (⟨Rect.unit (s := S1x512x2048) ![0, 448, 512] S1x64x256.size (inbV 7 2), gT0 (pO x0 x1 x2 x4 x5 xs0 7 1) (cutV x3 7 2)⟩ : View.Piece (Elt F) S1x512x2048 .bf16)
    rw [← o_7_1 c harg2 harg3 harg4 harg6 harg7 harg9 x0 x1 x2 x4 x5 xs0, rV harg5 x3]; rfl
  refine congrArg₂ List.cons ?_ ?_
  · change _ = (⟨Rect.unit (s := S1x512x2048) ![0, 384, 768] S1x64x256.size (inbV 6 3), gT1 (pO x0 x1 x2 x4 x5 xs0 6 1) (cutV x3 6 3)⟩ : View.Piece (Elt F) S1x512x2048 .bf16)
    rw [← o_6_1 c harg2 harg3 harg4 harg6 harg7 harg9 x0 x1 x2 x4 x5 xs0, rV harg5 x3]; rfl
  refine congrArg₂ List.cons ?_ ?_
  · change _ = (⟨Rect.unit (s := S1x512x2048) ![0, 384, 512] S1x64x256.size (inbV 6 2), gT0 (pO x0 x1 x2 x4 x5 xs0 6 1) (cutV x3 6 2)⟩ : View.Piece (Elt F) S1x512x2048 .bf16)
    rw [← o_6_1 c harg2 harg3 harg4 harg6 harg7 harg9 x0 x1 x2 x4 x5 xs0, rV harg5 x3]; rfl
  refine congrArg₂ List.cons ?_ ?_
  · change _ = (⟨Rect.unit (s := S1x512x2048) ![0, 320, 768] S1x64x256.size (inbV 5 3), gT1 (pO x0 x1 x2 x4 x5 xs0 5 1) (cutV x3 5 3)⟩ : View.Piece (Elt F) S1x512x2048 .bf16)
    rw [← o_5_1 c harg2 harg3 harg4 harg6 harg7 harg9 x0 x1 x2 x4 x5 xs0, rV harg5 x3]; rfl
  refine congrArg₂ List.cons ?_ ?_
  · change _ = (⟨Rect.unit (s := S1x512x2048) ![0, 320, 512] S1x64x256.size (inbV 5 2), gT0 (pO x0 x1 x2 x4 x5 xs0 5 1) (cutV x3 5 2)⟩ : View.Piece (Elt F) S1x512x2048 .bf16)
    rw [← o_5_1 c harg2 harg3 harg4 harg6 harg7 harg9 x0 x1 x2 x4 x5 xs0, rV harg5 x3]; rfl
  refine congrArg₂ List.cons ?_ ?_
  · change _ = (⟨Rect.unit (s := S1x512x2048) ![0, 256, 768] S1x64x256.size (inbV 4 3), gT1 (pO x0 x1 x2 x4 x5 xs0 4 1) (cutV x3 4 3)⟩ : View.Piece (Elt F) S1x512x2048 .bf16)
    rw [← o_4_1 c harg2 harg3 harg4 harg6 harg7 harg9 x0 x1 x2 x4 x5 xs0, rV harg5 x3]; rfl
  refine congrArg₂ List.cons ?_ ?_
  · change _ = (⟨Rect.unit (s := S1x512x2048) ![0, 256, 512] S1x64x256.size (inbV 4 2), gT0 (pO x0 x1 x2 x4 x5 xs0 4 1) (cutV x3 4 2)⟩ : View.Piece (Elt F) S1x512x2048 .bf16)
    rw [← o_4_1 c harg2 harg3 harg4 harg6 harg7 harg9 x0 x1 x2 x4 x5 xs0, rV harg5 x3]; rfl
  refine congrArg₂ List.cons ?_ ?_
  · change _ = (⟨Rect.unit (s := S1x512x2048) ![0, 192, 768] S1x64x256.size (inbV 3 3), gT1 (pO x0 x1 x2 x4 x5 xs0 3 1) (cutV x3 3 3)⟩ : View.Piece (Elt F) S1x512x2048 .bf16)
    rw [← o_3_1 c harg2 harg3 harg4 harg6 harg7 harg9 x0 x1 x2 x4 x5 xs0, rV harg5 x3]; rfl
  refine congrArg₂ List.cons ?_ ?_
  · change _ = (⟨Rect.unit (s := S1x512x2048) ![0, 192, 512] S1x64x256.size (inbV 3 2), gT0 (pO x0 x1 x2 x4 x5 xs0 3 1) (cutV x3 3 2)⟩ : View.Piece (Elt F) S1x512x2048 .bf16)
    rw [← o_3_1 c harg2 harg3 harg4 harg6 harg7 harg9 x0 x1 x2 x4 x5 xs0, rV harg5 x3]; rfl
  refine congrArg₂ List.cons ?_ ?_
  · change _ = (⟨Rect.unit (s := S1x512x2048) ![0, 128, 768] S1x64x256.size (inbV 2 3), gT1 (pO x0 x1 x2 x4 x5 xs0 2 1) (cutV x3 2 3)⟩ : View.Piece (Elt F) S1x512x2048 .bf16)
    rw [← o_2_1 c harg2 harg3 harg4 harg6 harg7 harg9 x0 x1 x2 x4 x5 xs0, rV harg5 x3]; rfl
  refine congrArg₂ List.cons ?_ ?_
  · change _ = (⟨Rect.unit (s := S1x512x2048) ![0, 128, 512] S1x64x256.size (inbV 2 2), gT0 (pO x0 x1 x2 x4 x5 xs0 2 1) (cutV x3 2 2)⟩ : View.Piece (Elt F) S1x512x2048 .bf16)
    rw [← o_2_1 c harg2 harg3 harg4 harg6 harg7 harg9 x0 x1 x2 x4 x5 xs0, rV harg5 x3]; rfl
  refine congrArg₂ List.cons ?_ ?_
  · change _ = (⟨Rect.unit (s := S1x512x2048) ![0, 64, 768] S1x64x256.size (inbV 1 3), gT1 (pO x0 x1 x2 x4 x5 xs0 1 1) (cutV x3 1 3)⟩ : View.Piece (Elt F) S1x512x2048 .bf16)
    rw [← o_1_1 c harg2 harg3 harg4 harg6 harg7 harg9 x0 x1 x2 x4 x5 xs0, rV harg5 x3]; rfl
  refine congrArg₂ List.cons ?_ ?_
  · change _ = (⟨Rect.unit (s := S1x512x2048) ![0, 64, 512] S1x64x256.size (inbV 1 2), gT0 (pO x0 x1 x2 x4 x5 xs0 1 1) (cutV x3 1 2)⟩ : View.Piece (Elt F) S1x512x2048 .bf16)
    rw [← o_1_1 c harg2 harg3 harg4 harg6 harg7 harg9 x0 x1 x2 x4 x5 xs0, rV harg5 x3]; rfl
  refine congrArg₂ List.cons ?_ ?_
  · change _ = (⟨Rect.unit (s := S1x512x2048) ![0, 0, 768] S1x64x256.size (inbV 0 3), gT1 (pO x0 x1 x2 x4 x5 xs0 0 1) (cutV x3 0 3)⟩ : View.Piece (Elt F) S1x512x2048 .bf16)
    rw [← o_0_1 c harg2 harg3 harg4 harg6 harg7 harg9 x0 x1 x2 x4 x5 xs0, rV harg5 x3]; rfl
  refine congrArg₂ List.cons ?_ ?_
  · change _ = (⟨Rect.unit (s := S1x512x2048) ![0, 0, 512] S1x64x256.size (inbV 0 2), gT0 (pO x0 x1 x2 x4 x5 xs0 0 1) (cutV x3 0 2)⟩ : View.Piece (Elt F) S1x512x2048 .bf16)
    rw [← o_0_1 c harg2 harg3 harg4 harg6 harg7 harg9 x0 x1 x2 x4 x5 xs0, rV harg5 x3]; rfl
  refine congrArg₂ List.cons ?_ ?_
  · change _ = (⟨Rect.unit (s := S1x512x2048) ![0, 448, 256] S1x64x256.size (inbV 7 1), gT1 (pO x0 x1 x2 x4 x5 xs0 7 0) (cutV x3 7 1)⟩ : View.Piece (Elt F) S1x512x2048 .bf16)
    rw [← o_7_0 c harg2 harg3 harg4 harg6 harg7 harg9 x0 x1 x2 x4 x5 xs0, rV harg5 x3]; rfl
  refine congrArg₂ List.cons ?_ ?_
  · change _ = (⟨Rect.unit (s := S1x512x2048) ![0, 448, 0] S1x64x256.size (inbV 7 0), gT0 (pO x0 x1 x2 x4 x5 xs0 7 0) (cutV x3 7 0)⟩ : View.Piece (Elt F) S1x512x2048 .bf16)
    rw [← o_7_0 c harg2 harg3 harg4 harg6 harg7 harg9 x0 x1 x2 x4 x5 xs0, rV harg5 x3]; rfl
  refine congrArg₂ List.cons ?_ ?_
  · change _ = (⟨Rect.unit (s := S1x512x2048) ![0, 384, 256] S1x64x256.size (inbV 6 1), gT1 (pO x0 x1 x2 x4 x5 xs0 6 0) (cutV x3 6 1)⟩ : View.Piece (Elt F) S1x512x2048 .bf16)
    rw [← o_6_0 c harg2 harg3 harg4 harg6 harg7 harg9 x0 x1 x2 x4 x5 xs0, rV harg5 x3]; rfl
  refine congrArg₂ List.cons ?_ ?_
  · change _ = (⟨Rect.unit (s := S1x512x2048) ![0, 384, 0] S1x64x256.size (inbV 6 0), gT0 (pO x0 x1 x2 x4 x5 xs0 6 0) (cutV x3 6 0)⟩ : View.Piece (Elt F) S1x512x2048 .bf16)
    rw [← o_6_0 c harg2 harg3 harg4 harg6 harg7 harg9 x0 x1 x2 x4 x5 xs0, rV harg5 x3]; rfl
  refine congrArg₂ List.cons ?_ ?_
  · change _ = (⟨Rect.unit (s := S1x512x2048) ![0, 320, 256] S1x64x256.size (inbV 5 1), gT1 (pO x0 x1 x2 x4 x5 xs0 5 0) (cutV x3 5 1)⟩ : View.Piece (Elt F) S1x512x2048 .bf16)
    rw [← o_5_0 c harg2 harg3 harg4 harg6 harg7 harg9 x0 x1 x2 x4 x5 xs0, rV harg5 x3]; rfl
  refine congrArg₂ List.cons ?_ ?_
  · change _ = (⟨Rect.unit (s := S1x512x2048) ![0, 320, 0] S1x64x256.size (inbV 5 0), gT0 (pO x0 x1 x2 x4 x5 xs0 5 0) (cutV x3 5 0)⟩ : View.Piece (Elt F) S1x512x2048 .bf16)
    rw [← o_5_0 c harg2 harg3 harg4 harg6 harg7 harg9 x0 x1 x2 x4 x5 xs0, rV harg5 x3]; rfl
  refine congrArg₂ List.cons ?_ ?_
  · change _ = (⟨Rect.unit (s := S1x512x2048) ![0, 256, 256] S1x64x256.size (inbV 4 1), gT1 (pO x0 x1 x2 x4 x5 xs0 4 0) (cutV x3 4 1)⟩ : View.Piece (Elt F) S1x512x2048 .bf16)
    rw [← o_4_0 c harg2 harg3 harg4 harg6 harg7 harg9 x0 x1 x2 x4 x5 xs0, rV harg5 x3]; rfl
  refine congrArg₂ List.cons ?_ ?_
  · change _ = (⟨Rect.unit (s := S1x512x2048) ![0, 256, 0] S1x64x256.size (inbV 4 0), gT0 (pO x0 x1 x2 x4 x5 xs0 4 0) (cutV x3 4 0)⟩ : View.Piece (Elt F) S1x512x2048 .bf16)
    rw [← o_4_0 c harg2 harg3 harg4 harg6 harg7 harg9 x0 x1 x2 x4 x5 xs0, rV harg5 x3]; rfl
  refine congrArg₂ List.cons ?_ ?_
  · change _ = (⟨Rect.unit (s := S1x512x2048) ![0, 192, 256] S1x64x256.size (inbV 3 1), gT1 (pO x0 x1 x2 x4 x5 xs0 3 0) (cutV x3 3 1)⟩ : View.Piece (Elt F) S1x512x2048 .bf16)
    rw [← o_3_0 c harg2 harg3 harg4 harg6 harg7 harg9 x0 x1 x2 x4 x5 xs0, rV harg5 x3]; rfl
  refine congrArg₂ List.cons ?_ ?_
  · change _ = (⟨Rect.unit (s := S1x512x2048) ![0, 192, 0] S1x64x256.size (inbV 3 0), gT0 (pO x0 x1 x2 x4 x5 xs0 3 0) (cutV x3 3 0)⟩ : View.Piece (Elt F) S1x512x2048 .bf16)
    rw [← o_3_0 c harg2 harg3 harg4 harg6 harg7 harg9 x0 x1 x2 x4 x5 xs0, rV harg5 x3]; rfl
  refine congrArg₂ List.cons ?_ ?_
  · change _ = (⟨Rect.unit (s := S1x512x2048) ![0, 128, 256] S1x64x256.size (inbV 2 1), gT1 (pO x0 x1 x2 x4 x5 xs0 2 0) (cutV x3 2 1)⟩ : View.Piece (Elt F) S1x512x2048 .bf16)
    rw [← o_2_0 c harg2 harg3 harg4 harg6 harg7 harg9 x0 x1 x2 x4 x5 xs0, rV harg5 x3]; rfl
  refine congrArg₂ List.cons ?_ ?_
  · change _ = (⟨Rect.unit (s := S1x512x2048) ![0, 128, 0] S1x64x256.size (inbV 2 0), gT0 (pO x0 x1 x2 x4 x5 xs0 2 0) (cutV x3 2 0)⟩ : View.Piece (Elt F) S1x512x2048 .bf16)
    rw [← o_2_0 c harg2 harg3 harg4 harg6 harg7 harg9 x0 x1 x2 x4 x5 xs0, rV harg5 x3]; rfl
  refine congrArg₂ List.cons ?_ ?_
  · change _ = (⟨Rect.unit (s := S1x512x2048) ![0, 64, 256] S1x64x256.size (inbV 1 1), gT1 (pO x0 x1 x2 x4 x5 xs0 1 0) (cutV x3 1 1)⟩ : View.Piece (Elt F) S1x512x2048 .bf16)
    rw [← o_1_0 c harg2 harg3 harg4 harg6 harg7 harg9 x0 x1 x2 x4 x5 xs0, rV harg5 x3]; rfl
  refine congrArg₂ List.cons ?_ ?_
  · change _ = (⟨Rect.unit (s := S1x512x2048) ![0, 64, 0] S1x64x256.size (inbV 1 0), gT0 (pO x0 x1 x2 x4 x5 xs0 1 0) (cutV x3 1 0)⟩ : View.Piece (Elt F) S1x512x2048 .bf16)
    rw [← o_1_0 c harg2 harg3 harg4 harg6 harg7 harg9 x0 x1 x2 x4 x5 xs0, rV harg5 x3]; rfl
  refine congrArg₂ List.cons ?_ ?_
  · change _ = (⟨Rect.unit (s := S1x512x2048) ![0, 0, 256] S1x64x256.size (inbV 0 1), gT1 (pO x0 x1 x2 x4 x5 xs0 0 0) (cutV x3 0 1)⟩ : View.Piece (Elt F) S1x512x2048 .bf16)
    rw [← o_0_0 c harg2 harg3 harg4 harg6 harg7 harg9 x0 x1 x2 x4 x5 xs0, rV harg5 x3]; rfl
  refine congrArg₂ List.cons ?_ ?_
  · change _ = (⟨Rect.unit (s := S1x512x2048) ![0, 0, 0] S1x64x256.size (inbV 0 0), gT0 (pO x0 x1 x2 x4 x5 xs0 0 0) (cutV x3 0 0)⟩ : View.Piece (Elt F) S1x512x2048 .bf16)
    rw [← o_0_0 c harg2 harg3 harg4 harg6 harg7 harg9 x0 x1 x2 x4 x5 xs0, rV harg5 x3]; rfl
  rfl

theorem sout_eq (hc0 : ¬cond0_0 i) :
    sout0_B_0 (F := F) c i arg2 harg2 arg3 harg3 arg4 harg4 arg5 harg5 arg6 harg6 arg7 harg7 arg8 harg8 arg9 harg9 hc0 x0 x1 x2 x3 x4 x5 xs0 = gSS x1 x2 x4 x5 xs0 := by
  unfold sout0_B_0
  rw [View.read_writes_junk_eq_canon, pieces_s]
  funext y
  refine (congrArg (fun l => View.canon l y) (List.append_nil _).symm).trans (View.canon_append_of_piecesOf (gSS x1 x2 x4 x5 xs0) [] _ ?_ y ?_)
  · exact ⟨gSS_piece x1 x2 x4 x5 xs0 7 (inbS 7), gSS_piece x1 x2 x4 x5 xs0 6 (inbS 6), gSS_piece x1 x2 x4 x5 xs0 5 (inbS 5), gSS_piece x1 x2 x4 x5 xs0 4 (inbS 4), gSS_piece x1 x2 x4 x5 xs0 3 (inbS 3), gSS_piece x1 x2 x4 x5 xs0 2 (inbS 2), gSS_piece x1 x2 x4 x5 xs0 1 (inbS 1), gSS_piece x1 x2 x4 x5 xs0 0 (inbS 0), trivial⟩
  · exact View.cover_of_tiledL (s := S8x128x256) _ S1x128x256.size (by sl_kernel_rfl) y

theorem out_eq (hc0 : ¬cond0_0 i) :
    out0_B_6 (F := F) c i arg2 harg2 arg3 harg3 arg4 harg4 arg5 harg5 arg6 harg6 arg7 harg7 arg8 harg8 arg9 harg9 hc0 x0 x1 x2 x3 x4 x5 xs0 = gTT x0 x1 x2 x3 x4 x5 xs0 := by
  unfold out0_B_6
  rw [View.read_writes_junk_eq_canon, pieces_o]
  funext y
  refine (congrArg (fun l => View.canon l y) (List.append_nil _).symm).trans (View.canon_append_of_piecesOf (gTT x0 x1 x2 x3 x4 x5 xs0) [] _ ?_ y ?_)
  · exact ⟨gTT_piece x0 x1 x2 x3 x4 x5 xs0 7 7 (inbV 7 7), gTT_piece x0 x1 x2 x3 x4 x5 xs0 7 6 (inbV 7 6), gTT_piece x0 x1 x2 x3 x4 x5 xs0 6 7 (inbV 6 7), gTT_piece x0 x1 x2 x3 x4 x5 xs0 6 6 (inbV 6 6), gTT_piece x0 x1 x2 x3 x4 x5 xs0 5 7 (inbV 5 7), gTT_piece x0 x1 x2 x3 x4 x5 xs0 5 6 (inbV 5 6), gTT_piece x0 x1 x2 x3 x4 x5 xs0 4 7 (inbV 4 7), gTT_piece x0 x1 x2 x3 x4 x5 xs0 4 6 (inbV 4 6), gTT_piece x0 x1 x2 x3 x4 x5 xs0 3 7 (inbV 3 7), gTT_piece x0 x1 x2 x3 x4 x5 xs0 3 6 (inbV 3 6), gTT_piece x0 x1 x2 x3 x4 x5 xs0 2 7 (inbV 2 7), gTT_piece x0 x1 x2 x3 x4 x5 xs0 2 6 (inbV 2 6), gTT_piece x0 x1 x2 x3 x4 x5 xs0 1 7 (inbV 1 7), gTT_piece x0 x1 x2 x3 x4 x5 xs0 1 6 (inbV 1 6), gTT_piece x0 x1 x2 x3 x4 x5 xs0 0 7 (inbV 0 7), gTT_piece x0 x1 x2 x3 x4 x5 xs0 0 6 (inbV 0 6), gTT_piece x0 x1 x2 x3 x4 x5 xs0 7 5 (inbV 7 5), gTT_piece x0 x1 x2 x3 x4 x5 xs0 7 4 (inbV 7 4), gTT_piece x0 x1 x2 x3 x4 x5 xs0 6 5 (inbV 6 5), gTT_piece x0 x1 x2 x3 x4 x5 xs0 6 4 (inbV 6 4), gTT_piece x0 x1 x2 x3 x4 x5 xs0 5 5 (inbV 5 5), gTT_piece x0 x1 x2 x3 x4 x5 xs0 5 4 (inbV 5 4), gTT_piece x0 x1 x2 x3 x4 x5 xs0 4 5 (inbV 4 5), gTT_piece x0 x1 x2 x3 x4 x5 xs0 4 4 (inbV 4 4), gTT_piece x0 x1 x2 x3 x4 x5 xs0 3 5 (inbV 3 5), gTT_piece x0 x1 x2 x3 x4 x5 xs0 3 4 (inbV 3 4), gTT_piece x0 x1 x2 x3 x4 x5 xs0 2 5 (inbV 2 5), gTT_piece x0 x1 x2 x3 x4 x5 xs0 2 4 (inbV 2 4), gTT_piece x0 x1 x2 x3 x4 x5 xs0 1 5 (inbV 1 5), gTT_piece x0 x1 x2 x3 x4 x5 xs0 1 4 (inbV 1 4), gTT_piece x0 x1 x2 x3 x4 x5 xs0 0 5 (inbV 0 5), gTT_piece x0 x1 x2 x3 x4 x5 xs0 0 4 (inbV 0 4), gTT_piece x0 x1 x2 x3 x4 x5 xs0 7 3 (inbV 7 3), gTT_piece x0 x1 x2 x3 x4 x5 xs0 7 2 (inbV 7 2), gTT_piece x0 x1 x2 x3 x4 x5 xs0 6 3 (inbV 6 3), gTT_piece x0 x1 x2 x3 x4 x5 xs0 6 2 (inbV 6 2), gTT_piece x0 x1 x2 x3 x4 x5 xs0 5 3 (inbV 5 3), gTT_piece x0 x1 x2 x3 x4 x5 xs0 5 2 (inbV 5 2), gTT_piece x0 x1 x2 x3 x4 x5 xs0 4 3 (inbV 4 3), gTT_piece x0 x1 x2 x3 x4 x5 xs0 4 2 (inbV 4 2), gTT_piece x0 x1 x2 x3 x4 x5 xs0 3 3 (inbV 3 3), gTT_piece x0 x1 x2 x3 x4 x5 xs0 3 2 (inbV 3 2), gTT_piece x0 x1 x2 x3 x4 x5 xs0 2 3 (inbV 2 3), gTT_piece x0 x1 x2 x3 x4 x5 xs0 2 2 (inbV 2 2), gTT_piece x0 x1 x2 x3 x4 x5 xs0 1 3 (inbV 1 3), gTT_piece x0 x1 x2 x3 x4 x5 xs0 1 2 (inbV 1 2), gTT_piece x0 x1 x2 x3 x4 x5 xs0 0 3 (inbV 0 3), gTT_piece x0 x1 x2 x3 x4 x5 xs0 0 2 (inbV 0 2), gTT_piece x0 x1 x2 x3 x4 x5 xs0 7 1 (inbV 7 1), gTT_piece x0 x1 x2 x3 x4 x5 xs0 7 0 (inbV 7 0), gTT_piece x0 x1 x2 x3 x4 x5 xs0 6 1 (inbV 6 1), gTT_piece x0 x1 x2 x3 x4 x5 xs0 6 0 (inbV 6 0), gTT_piece x0 x1 x2 x3 x4 x5 xs0 5 1 (inbV 5 1), gTT_piece x0 x1 x2 x3 x4 x5 xs0 5 0 (inbV 5 0), gTT_piece x0 x1 x2 x3 x4 x5 xs0 4 1 (inbV 4 1), gTT_piece x0 x1 x2 x3 x4 x5 xs0 4 0 (inbV 4 0), gTT_piece x0 x1 x2 x3 x4 x5 xs0 3 1 (inbV 3 1), gTT_piece x0 x1 x2 x3 x4 x5 xs0 3 0 (inbV 3 0), gTT_piece x0 x1 x2 x3 x4 x5 xs0 2 1 (inbV 2 1), gTT_piece x0 x1 x2 x3 x4 x5 xs0 2 0 (inbV 2 0), gTT_piece x0 x1 x2 x3 x4 x5 xs0 1 1 (inbV 1 1), gTT_piece x0 x1 x2 x3 x4 x5 xs0 1 0 (inbV 1 0), gTT_piece x0 x1 x2 x3 x4 x5 xs0 0 1 (inbV 0 1), gTT_piece x0 x1 x2 x3 x4 x5 xs0 0 0 (inbV 0 0), trivial⟩
  · exact View.cover_of_tiledL (s := S1x512x2048) _ S1x64x256.size (by sl_kernel_rfl) y

end Cert.KernelRetIdeal.Ret.CaseB
end
-- ==== Proof.RetKernel.lean ====
/- The retention kernel's result array, entry by entry. -/
module

public import proofs.«01_k».proof.Proof.RetPoint
public import Idealize.ShloMosaic.Lib.StableHlo.ReadAt
public import proofs.«01_k».proof.Proof.RetCaseA
public import proofs.«01_k».proof.Proof.RetCaseB
public import proofs.«01_k».proof.Proof.Gen.KernelRetIdeal.Value

@[expose] public section

set_option maxRecDepth 16384

noncomputable section

open Idealize.ShloMosaic Idealize.ShloMosaic.TcCoe Idealize.SL.Sem

namespace Cert.KernelRetIdeal.Ret
open Cert.KernelRetIdeal Cert.KernelRetIdeal.Gen Cert.Ret

variable (m : (ℓ : Loc nD τ sig) → Buf (Elt Ideal) ℓ)

/-- Which block of each array a grid point works on. -/
theorem idx : ∀ t : Fin cfg0.N, win0_0.index t = ![t.val / 16, t.val % 16, 0] ∧ win0_1.index t = ![t.val / 16, t.val % 16, 1]
    ∧ win0_2.index t = ![t.val / 16, t.val % 16, 1] ∧ win0_3.index t = ![t.val / 16, t.val % 16, 2] ∧ win0_4.index t = ![t.val / 16, t.val % 16, 0]
    ∧ win0_5.index t = ![t.val / 16, t.val % 16, 0] ∧ win0_6.index t = ![t.val / 16, t.val % 16, 0] :=
  (by decide +kernel : ∀ t : Fin grid0.N, _)

abbrev aY (c : Dev nD) : (⟨3, ![2, 8192, 12288]⟩ : Shape).Idx → EReal := m ((c : Thread nD τ).loc main_arg0)
abbrev aP (c : Dev nD) : (⟨2, ![2, 8192]⟩ : Shape).Idx → BitVec 32 := m ((c : Thread nD τ).loc main_arg1)

/-- The frequencies, as the host prepares them. -/
def frq (c : Dev nD) (d : Fin 64) : EReal := V m c main_v4 (ix1 d)

/-- The sequence a grid point works on. -/
abbrev bat (t : Fin cfg0.N) : Fin 2 := ⟨t.val / 16 % 2, Nat.mod_lt _ (by decide)⟩

set_option maxHeartbeats 3000000 in
/-- The cosines and signed sines that the host prepares. -/
theorem V_cos (c : Dev nD) (b : Fin 2) (t : Fin 8192) (d : Fin 128) :
    V m c main_v13 (ix3 b t d) = cosR (fun k => (((aP m c (ix2 b t)).toInt : ℝ) : EReal) * frq m c k) d := by
  unfold cosR frq V
  after_reads_at
  by_cases h : d.val < 64
  · rw [dif_pos h]; simp only [show d.val % 64 = d.val by omega]; rfl
  · rw [dif_neg h]; simp only [show d.val % 64 = d.val - 64 by omega]; rfl

set_option maxHeartbeats 3000000 in
theorem V_sin (c : Dev nD) (b : Fin 2) (t : Fin 8192) (d : Fin 128) :
    V m c main_v15 (ix3 b t d) = sinR (fun k => (((aP m c (ix2 b t)).toInt : ℝ) : EReal) * frq m c k) d := by
  unfold sinR frq V
  after_reads_at
  by_cases h : d.val < 64
  · rw [dif_pos h, if_pos h]; simp only [show d.val % 64 = d.val by omega]; rfl
  · rw [dif_neg h, if_neg h]; simp only [show d.val % 64 = d.val - 64 by omega]; rfl

theorem holds (c : Dev nD) (t : Fin cfg0.N) :
    Holds (aY m c) (aP m c) (frq m c) (iblk m c 0 t) (iblk m c 1 t) (iblk m c 2 t) (iblk m c 3 t) (iblk m c 4 t) (iblk m c 5 t) (bat t) (t.val % 16) := by
  have ht : t.val < 32 := t.isLt
  refine ⟨fun p h i d => ?_, fun p h i d => ?_, fun p h i e => ?_, fun p h i e => ?_, fun p i d => ?_, fun p i d => ?_⟩
  · blk_point [iblk, V, idx t]
    all_goals simp only [rowP, seq, colK]; omega
  · blk_point [iblk, V, idx t]
    all_goals simp only [rowP, seq, colK]; omega
  · unfold vA
    blk_point [iblk, V, idx t]
    all_goals simp only [rowP, seq, colV]; omega
  · unfold rA
    blk_point [iblk, V, idx t]
    all_goals simp only [rowP, seq, colV]; omega
  · refine Eq.trans ?_ (V_cos m c (bat t) (seq (8 * (t.val % 16) + p.val) i) d)
    blk_point [iblk, idx t]
    all_goals simp only [rowP, seq]; omega
  · refine Eq.trans ?_ (V_sin m c (bat t) (seq (8 * (t.val % 16) + p.val) i) d)
    blk_point [iblk, idx t]
    all_goals simp only [rowP, seq]; omega

theorem pay3_at (h : Fin 8) (d : Fin 128) (e : Fin 256) : k0_pay3 (F := Ideal) (ix3 h d e) = (0 : EReal) := by
  pointwise [k0_pay3]

/-- What a point leaves in the carried state. -/
theorem state_at (c : Dev nD) : ∀ (n : ℕ) (hn : n < cfg0.N) (h : Fin 8) (d : Fin 128) (e : Fin 256),
    (outsAt0 m c n hn).2 (ix3 h d e) = stA (aY m c) (aP m c) (frq m c) (bat ⟨n, hn⟩) h (8 * (n % 16) + 8) d e := by
  intro n
  induction n with
  | zero =>
    intro hn h d e
    rw [outsAt0_A m c ⟨0, hn⟩ rfl, CaseA.sout_eq]
    exact ss_at (holds m c ⟨0, hn⟩) (fun h d e => by rw [pay3_at]; rfl) h d e
  | succ n ih =>
    intro hn h d e
    have hN : n + 1 < 32 := hn
    by_cases h0 : (n + 1) % 16 = 0
    · rw [outsAt0_A m c ⟨n + 1, hn⟩ h0, CaseA.sout_eq]
      exact ss_at (holds m c ⟨n + 1, hn⟩) (fun h d e => by rw [pay3_at, h0]; rfl) h d e
    · rw [outsAt0_B m c ⟨n + 1, hn⟩ h0, CaseB.sout_eq]
      refine ss_at (holds m c ⟨n + 1, hn⟩) (fun h d e => ?_) h d e
      have := ih (by omega) h d e
      rw [show 8 * (n % 16) + 8 = 8 * ((n + 1) % 16) by omega] at this
      rwa [show bat ⟨n, by omega⟩ = bat ⟨n + 1, hn⟩ from Fin.ext (show n / 16 % 2 = (n + 1) / 16 % 2 by omega)] at this

/-- What a point writes into its block of the result. -/
theorem out_at (c : Dev nD) (t : Fin cfg0.N) (y : S1x512x2048.Idx) :
    (outsAt0 m c t.val t.isLt).1 y = resA (aY m c) (aP m c) (frq m c) (bat t) (8 * (t.val % 16) + (y 1).val / 64)
      ⟨(y 2).val / 256, Nat.div_lt_of_lt_mul (y 2).isLt⟩ ⟨(y 1).val % 64, Nat.mod_lt _ (by decide)⟩ ⟨(y 2).val % 256, Nat.mod_lt _ (by decide)⟩ := by
  by_cases h0 : t.val % 16 = 0
  · rw [outsAt0_A m c t h0, CaseA.out_eq]
    exact tt_at (holds m c t) (fun h d e => by rw [pay3_at, h0]; rfl) y
  · rw [outsAt0_B m c t h0, CaseB.out_eq]
    refine tt_at (holds m c t) (fun h d e => ?_) y
    have hN : t.val < 32 := t.isLt
    have := state_at m c (t.val - 1) (by omega) h d e
    rw [show 8 * ((t.val - 1) % 16) + 8 = 8 * (t.val % 16) by omega] at this
    rwa [show bat ⟨t.val - 1, _⟩ = bat t from Fin.ext (show (t.val - 1) / 16 % 2 = t.val / 16 % 2 by omega)] at this

/-- The result array: the answer at a token is found in its chunk. -/
def RES (Y : (⟨3, ![2, 8192, 12288]⟩ : Shape).Idx → EReal) (P : (⟨2, ![2, 8192]⟩ : Shape).Idx → BitVec 32) (fr : Fin 64 → EReal) : (⟨3, ![2, 8192, 2048]⟩ : Shape).Idx → EReal :=
  fun y => resA Y P fr ⟨(y 0).val, (y 0).isLt⟩ ((y 1).val / 64) ⟨(y 2).val / 256, Nat.div_lt_of_lt_mul (y 2).isLt⟩
    ⟨(y 1).val % 64, Nat.mod_lt _ (by decide)⟩ ⟨(y 2).val % 256, Nat.mod_lt _ (by decide)⟩

theorem res_at {Y : (⟨3, ![2, 8192, 12288]⟩ : Shape).Idx → EReal} {P : (⟨2, ![2, 8192]⟩ : Shape).Idx → BitVec 32} {fr : Fin 64 → EReal} (z : (⟨3, ![2, 8192, 2048]⟩ : Shape).Idx)
    (b : Fin 2) (n : ℕ) (h : Fin 8) (i : Fin 64) (e : Fin 256) (h0 : (z 0).val = b.val) (h1 : (z 1).val = 64 * n + i.val)
    (h2 : (z 2).val = 256 * h.val + e.val) : RES Y P fr z = resA Y P fr b n h i e := by
  unfold RES
  have e0 : (⟨(z 0).val, (z 0).isLt⟩ : Fin 2) = b := Fin.ext h0
  have e1 : (z 1).val / 64 = n := by omega
  have e2 : (⟨(z 1).val % 64, Nat.mod_lt _ (by decide)⟩ : Fin 64) = i := Fin.ext (by show (z 1).val % 64 = i.val; omega)
  have e3 : (⟨(z 2).val / 256, Nat.div_lt_of_lt_mul (z 2).isLt⟩ : Fin 8) = h := Fin.ext (by show (z 2).val / 256 = h.val; omega)
  have e4 : (⟨(z 2).val % 256, Nat.mod_lt _ (by decide)⟩ : Fin 256) = e := Fin.ext (by show (z 2).val % 256 = e.val; omega)
  rw [e0, e1, e2, e3, e4]

/-- The result array after the run. -/
theorem final (c : Dev nD) : (dats m 0 c).arrAt 6 (cfgs 0).N = RES (aY m c) (aP m c) (frq m c) := by
  refine (dats m 0 c).arrAt_eq_of_covers 6 _ (by decide +kernel) fun t hf y => ?_
  blk_simp
  rw [after0_6, out_at]
  have ht : t.val < 32 := t.isLt
  have hy0 : (y 0).val < 1 := (y 0).isLt
  have h0 : (((win0_6.blk t).view.emb y) 0).val = t.val / 16 * 1 + (y 0).val := by blk_point [idx t]
  have h1 : (((win0_6.blk t).view.emb y) 1).val = t.val % 16 * 512 + (y 1).val := by blk_point [idx t]
  have h2 : (((win0_6.blk t).view.emb y) 2).val = 0 * 2048 + (y 2).val := by blk_point [idx t]
  refine (res_at _ _ _ _ _ _ ?_ ?_ ?_).symm
  · rw [h0]; show _ = t.val / 16 % 2; omega
  · rw [h1]; show _ = 64 * (8 * (t.val % 16) + (y 1).val / 64) + (y 1).val % 64; omega
  · rw [h2]; show _ = 256 * ((y 2).val / 256) + (y 2).val % 256; omega

end Cert.KernelRetIdeal.Ret
end
-- ==== Proof.RetRefRope.lean ====
/- The retention reference's decays and its turned queries and keys, entry by entry. -/
module

public import proofs.«01_k».proof.Proof.RetSpec
public import proofs.«01_k».proof.Proof.GlaRefMath
public import proofs.«01_k».proof.Proof.Gen.ReferenceRetIdeal.Step
public import Idealize.ShloMosaic.Lib.Pointwise
public import Idealize.ShloMosaic.Lib.DynamicIndex
public import Idealize.ShloMosaic.Lib.WordCmp

@[expose] public section

noncomputable section

namespace Cert.RetRef

open Idealize.ShloMosaic
open Cert.ReferenceRetIdeal Cert.ReferenceRetIdeal.Gen Cert.ReferenceRetIdeal.Step Cert.Ret
open Cert.GlaRef (fold_sum longAxis toInt_trip start5 start4 put_at two_bits five_bits)

/-- The running sum along the rows of a chunk. -/
theorem scan_at (x : S2x8x128x64x1.Idx → EReal) (v : S_.Idx → EReal) (hv : ∀ k, v k = 0)
    (hw : S2x8x128x64x1.ReduceWindows (![1, 1, 1, 64, 1] : Fin 5 → Nat) ![1, 1, 1, 1, 1] ![0, 0, 0, 63, 0] ![0, 0, 0, 0, 0] S2x8x128x64x1) (hu : 0 < S_.numel)
    (b : Fin 2) (h : Fin 8) (n : Fin 128) (i : Fin 64) (d : Fin 1) :
    Host.reduceWindowAdd (F := Ideal) (φ := .f32) ![1, 1, 1, 64, 1] ![1, 1, 1, 1, 1] ![0, 0, 0, 63, 0] ![0, 0, 0, 0, 0] x v hw hu (ix5 b h n i d)
      = ∑ j : Fin 64, if j ≤ i then x (ix5 b h n j d) else 0 := by
  unfold Host.reduceWindowAdd
  rw [Ideal.hostReduceWindowAdd_def, hv]
  unfold Ideal.hostReduceWindowAdd Host.reduceWindow
  dsimp only
  rw [fold_sum]
  let W : Shape := ⟨5, ![1, 1, 1, 64, 1]⟩
  let G : W.Idx → EReal := fun w =>
    if hin : ∀ a : Fin 5, (![0, 0, 0, 63, 0] : Fin 5 → ℕ) a ≤ ((ix5 b h n i d : S2x8x128x64x1.Idx) a).val * (![1, 1, 1, 1, 1] : Fin 5 → ℕ) a + (w a).val
        ∧ ((ix5 b h n i d : S2x8x128x64x1.Idx) a).val * (![1, 1, 1, 1, 1] : Fin 5 → ℕ) a + (w a).val - (![0, 0, 0, 63, 0] : Fin 5 → ℕ) a < S2x8x128x64x1.size a
      then x (fun a => ⟨_, (hin a).2⟩) else 0
  refine Eq.trans (Finset.sum_congr rfl fun k _ => (?_ : _ = G (W.rowMajor.symm k))) ?_
  · dsimp only [G]
    refine dite_congr (propext ⟨fun hin => hin, fun hin => hin⟩) (fun _ => rfl) fun _ => rfl
  rw [Equiv.sum_comp W.rowMajor.symm G, ← Equiv.sum_comp longAxis G, ← Equiv.sum_comp (Equiv.addRight (i + 1)) (fun j : Fin 64 => if j ≤ i then x (ix5 b h n j d) else 0)]
  refine Finset.sum_congr rfl fun w _ => ?_
  have hv : (Equiv.addRight (i + 1) w : Fin 64).val = (w.val + (i.val + 1)) % 64 := by
    show (w + (i + 1)).val = _
    rw [Fin.val_add, Fin.val_add]; simp
  have hw64 := w.isLt
  have hi64 := i.isLt
  by_cases hc : 63 ≤ i.val + w.val
  · have hle : (Equiv.addRight (i + 1) w : Fin 64) ≤ i := by rw [Fin.le_def, hv]; omega
    have hin : ∀ a : Fin 5, (![0, 0, 0, 63, 0] : Fin 5 → ℕ) a ≤ ((ix5 b h n i d : S2x8x128x64x1.Idx) a).val * (![1, 1, 1, 1, 1] : Fin 5 → ℕ) a + (longAxis w a).val
        ∧ ((ix5 b h n i d : S2x8x128x64x1.Idx) a).val * (![1, 1, 1, 1, 1] : Fin 5 → ℕ) a + (longAxis w a).val - (![0, 0, 0, 63, 0] : Fin 5 → ℕ) a < S2x8x128x64x1.size a := by
      intro a
      have hb := b.isLt
      have hh := h.isLt
      have hn := n.isLt
      have hd := d.isLt
      fin_cases a
      · exact ⟨Nat.zero_le _, (by omega : b.val * 1 + 0 - 0 < 2)⟩
      · exact ⟨Nat.zero_le _, (by omega : h.val * 1 + 0 - 0 < 8)⟩
      · exact ⟨Nat.zero_le _, (by omega : n.val * 1 + 0 - 0 < 128)⟩
      · exact ⟨(by omega : 63 ≤ i.val * 1 + w.val), (by omega : i.val * 1 + w.val - 63 < 64)⟩
      · exact ⟨Nat.zero_le _, (by omega : d.val * 1 + 0 - 0 < 1)⟩
    rw [if_pos hle]
    refine (dif_pos hin).trans (congrArg x ?_)
    funext a
    fin_cases a
    · exact Fin.ext (by show b.val * 1 + 0 - 0 = b.val; omega)
    · exact Fin.ext (by show h.val * 1 + 0 - 0 = h.val; omega)
    · exact Fin.ext (by show n.val * 1 + 0 - 0 = n.val; omega)
    · exact Fin.ext (by show i.val * 1 + w.val - 63 = (Equiv.addRight (i + 1) w : Fin 64).val; omega)
    · exact Fin.ext (by show d.val * 1 + 0 - 0 = d.val; omega)
  · have hle : ¬(Equiv.addRight (i + 1) w : Fin 64) ≤ i := by rw [Fin.le_def, hv]; omega
    rw [if_neg hle]
    exact dif_neg fun hin => hc (by have h3 : 63 ≤ i.val * 1 + w.val := (hin 3).1; omega)

/-- A sum of reals. -/
theorem sum_real (f : Fin 64 → ℝ) : ∑ j, (f j : EReal) = ((∑ j, f j : ℝ) : EReal) :=
  (map_sum (⟨⟨Real.toEReal, rfl⟩, EReal.coe_add⟩ : ℝ →+ EReal) f Finset.univ).symm

/-- The running sum of a constant. -/
theorem sum_const_le (r : ℝ) (i : Fin 64) : (∑ j : Fin 64, if j ≤ i then (r : EReal) else 0) = ((((i.val : ℝ) + 1) * r : ℝ) : EReal) := by
  have e : (∑ j : Fin 64, if j ≤ i then (r : EReal) else 0) = ∑ j : Fin 64, (((if j ≤ i then r else 0 : ℝ)) : EReal) :=
    Finset.sum_congr rfl fun j _ => by by_cases h : j ≤ i <;> simp [h]
  have hc : (Finset.univ.filter fun j : Fin 64 => j ≤ i) = Finset.Iic i := by ext j; simp
  rw [e, sum_real, Finset.sum_ite, Finset.sum_const_zero, Finset.sum_const, add_zero, hc, Fin.card_Iic, nsmul_eq_mul]
  push_cast
  rfl

/-- The log decay of a head as the reference spells it. -/
theorem lg_ref (h : Fin 8) : Ideal.log (1 - Ideal.pow ((2 : ℝ) : EReal) (((-5 : ℝ) : EReal) - ((h.val : ℝ) : EReal))) = ((lgR h : ℝ) : EReal) := by
  have e1 : ((-5 : ℝ) : EReal) - ((h.val : ℝ) : EReal) = ((-((5 + h.val : ℕ) : ℝ) : ℝ) : EReal) := by
    rw [← EReal.coe_sub]; congr 1; push_cast; ring
  have hp : (1 : ℝ) < 2 ^ (5 + h.val) := one_lt_pow₀ (by norm_num) (by omega)
  have e2 : Real.rpow 2 (-((5 + h.val : ℕ) : ℝ)) = (2 ^ (5 + h.val))⁻¹ := by
    show (2 : ℝ) ^ (-((5 + h.val : ℕ) : ℝ)) = _
    rw [Real.rpow_neg (by norm_num), Real.rpow_natCast]
  have e3 : (1 : EReal) - (((2 ^ (5 + h.val))⁻¹ : ℝ) : EReal) = (((2 ^ (5 + h.val) - 1) / 2 ^ (5 + h.val) : ℝ) : EReal) := by
    rw [← EReal.coe_one, ← EReal.coe_sub]; congr 1; field_simp
  rw [e1, Ideal.pow_coe_coe, e2, e3, Ideal.log_coe, if_neg (not_le.mpr (div_pos (by linarith) (by linarith)))]
  rfl

theorem sitofp_small (h : Fin 8) : FloatOps.sitofp (F := Ideal) FTy.f32 (BitVec.ofNat 32 h.val) = ((h.val : ℝ) : EReal) := by
  show (((BitVec.ofNat 32 h.val).toInt : ℝ) : EReal) = _
  rw [show (BitVec.ofNat 32 h.val).toInt = (h.val : Int) from toInt_trip ⟨h.val, by omega⟩, Int.cast_natCast]

theorem K57_at (h : Fin 8) : K_main_v57 (F := Ideal) (ix1 h) = ((lgR h : ℝ) : EReal) := by
  rw [← lg_ref h, ← two_bits, ← five_bits]
  pointwise [K_main_v57, K_main_v56, K_main_v55, K_main_cst_6, K_main_v54, K_main_v53, K_main_cst_5, K_main_v52, K_main_v51, K_main_cst_4, K_main_v50]
  rw [sitofp_small]

theorem K65_at (b : Fin 2) (h : Fin 8) (n : Fin 128) (i : Fin 64) (d : Fin 1) : K_main_v65 (F := Ideal) (ix5 b h n i d) = ((lgR h : ℝ) : EReal) := by
  rw [← K57_at h]
  pointwise [K_main_v65, K_main_v59, K_main_v58]

/-- The running log decays. -/
theorem K66_at (b : Fin 2) (h : Fin 8) (n : Fin 128) (i : Fin 64) (d : Fin 1) : K_main_v66 (F := Ideal) (ix5 b h n i d) = cum h i := by
  unfold K_main_v66 cum
  rw [scan_at _ _ (fun k => by pointwise [K_main_call2_call0_v0, K_main_call2_call0_cst]), ← sum_const_le]
  exact Finset.sum_congr rfl fun j _ => by rw [K65_at]

theorem K68_at (b : Fin 2) (h : Fin 8) (n : Fin 128) (i : Fin 64) (d : Fin 128) : K_main_v68 (F := Ideal) (ix5 b h n i d) = Ideal.exp (cum h i) := by
  rw [← K66_at b h n i 0]
  pointwise [K_main_v68, K_main_v67]

theorem K72_at (b : Fin 2) (h : Fin 8) (n : Fin 128) (i : Fin 64) (d : Fin 128) : K_main_v72 (F := Ideal) (ix5 b h n i d) = Ideal.exp (0 - cum h i) := by
  rw [← K66_at b h n i 0, sub_eq_add_neg, zero_add]
  pointwise [K_main_v72, K_main_v71, K_main_v70]

theorem K81_at (b : Fin 2) (h : Fin 8) (n : Fin 128) (i : Fin 64) (d : Fin 128) : K_main_v81 (F := Ideal) (ix5 b h n i d) = Ideal.exp (cum h 63 - cum h i) := by
  rw [← K66_at b h n i 0, ← K66_at b h n 63 0]
  pointwise [K_main_v81, K_main_v80, K_main_v79, K_main_v78, K_main_v77]

theorem K89_at (k : Fin 128) (b : Fin 2) (h : Fin 8) : K_main_v89 (F := Ideal) (ix4 k b h (0 : Fin 1)) = Ideal.exp (cum h 63) := by
  rw [← K66_at b h k 63 0]
  pointwise [K_main_v89, K_main_v85, K_main_v84, K_main_v83]

/-- The frequencies. -/
def frR (d : Fin 64) : EReal := K_main_v7 (F := Ideal) (ix1 d)

variable (x0 : S2x8192x12288.Idx → EReal) (x1 : S2x8192.Idx → BitVec 32)

/-- The angles of a row. -/
def th (b : Fin 2) (t : Fin 8192) (d : Fin 64) : EReal := (((x1 (ix2 b t)).toInt : ℝ) : EReal) * frR d

theorem v13_at (b : Fin 2) (t : Fin 8192) (d : Fin 64) : A_main_v13 (F := Ideal) x0 x1 (ix4 b (0 : Fin 1) t d) = th x1 b t d := by
  unfold th frR
  pointwise [A_main_v13, A_main_v11, A_main_v9, A_main_v8, K_main_v12, K_main_v10]
  rfl

/-- The two halves of a turned row. -/
theorem rope_lo (x : Fin 128 → EReal) (θ : Fin 64 → EReal) (d : Fin 128) (hd : d.val < 64) :
    rope x (cosR θ) (sinR θ) d = x d * Ideal.cos (θ ⟨d.val, hd⟩) - x ⟨64 + d.val, by omega⟩ * Ideal.sin (θ ⟨d.val, hd⟩) := by
  unfold rope cosR sinR
  rw [if_pos hd, mul_neg, sub_eq_add_neg]
  simp only [show d.val % 64 = d.val by omega, show (d.val + 64) % 128 = 64 + d.val by omega]

theorem rope_hi (x : Fin 128 → EReal) (θ : Fin 64 → EReal) (d : Fin 128) (hd : ¬d.val < 64) :
    rope x (cosR θ) (sinR θ) d = x ⟨d.val - 64, by omega⟩ * Ideal.sin (θ ⟨d.val - 64, by omega⟩) + x ⟨64 + (d.val - 64), by omega⟩ * Ideal.cos (θ ⟨d.val - 64, by omega⟩) := by
  unfold rope cosR sinR
  have e : (⟨64 + (d.val - 64), by omega⟩ : Fin 128) = d := Fin.ext (by show 64 + (d.val - 64) = d.val; omega)
  rw [if_neg hd, add_comm, e]
  simp only [show d.val % 64 = d.val - 64 by omega, show (d.val + 64) % 128 = d.val - 64 by omega]

theorem v17_at (b : Fin 2) (h : Fin 8) (t : Fin 8192) (d : Fin 128) :
    A_main_v17 (F := Ideal) x0 x1 (ix4 b h t d) = x0 (ix3 b t (⟨(colK h d).val, by omega⟩ : Fin 12288)) := by
  pointwise [A_main_v17, A_main_v16, A_main_v0]
  refine at3 x0 rfl rfl ?_
  show h.val * 128 + d.val = (128 * h.val + d.val); omega

theorem v30_at (b : Fin 2) (h : Fin 8) (t : Fin 8192) (d : Fin 128) :
    A_main_v30 (F := Ideal) x0 x1 (ix4 b h t d)
      = rope (fun d => x0 (ix3 b t (⟨(colK h d).val, by omega⟩ : Fin 12288))) (cosR (th x1 b t)) (sinR (th x1 b t)) d := by
  by_cases hd : d.val < 64
  · rw [rope_lo _ _ _ hd]
    simp only [← v17_at x0 x1, ← v13_at x0 x1]
    pointwise [A_main_v30, A_main_v29, A_main_v28, A_main_v27, A_main_v26, A_main_v25, A_main_v24, A_main_v23, A_main_v22, A_main_v21, A_main_v20, A_main_v19, A_main_v18, A_main_v14, A_main_v15]
    rw [dif_pos hd]
  · rw [rope_hi _ _ _ hd]
    simp only [← v17_at x0 x1, ← v13_at x0 x1]
    pointwise [A_main_v30, A_main_v29, A_main_v28, A_main_v27, A_main_v26, A_main_v25, A_main_v24, A_main_v23, A_main_v22, A_main_v21, A_main_v20, A_main_v19, A_main_v18, A_main_v14, A_main_v15]
    rw [dif_neg hd]

theorem v32_at (b : Fin 2) (h : Fin 8) (t : Fin 8192) (d : Fin 128) :
    A_main_v32 (F := Ideal) x0 x1 (ix4 b h t d) = x0 (ix3 b t (⟨1024 + (colK h d).val, by omega⟩ : Fin 12288)) := by
  pointwise [A_main_v32, A_main_v31, A_main_v1]
  refine at3 x0 rfl rfl ?_
  show 1024 + (h.val * 128 + d.val) = 1024 + (128 * h.val + d.val); omega

theorem v45_at (b : Fin 2) (h : Fin 8) (t : Fin 8192) (d : Fin 128) :
    A_main_v45 (F := Ideal) x0 x1 (ix4 b h t d)
      = rope (fun d => x0 (ix3 b t (⟨1024 + (colK h d).val, by omega⟩ : Fin 12288))) (cosR (th x1 b t)) (sinR (th x1 b t)) d := by
  by_cases hd : d.val < 64
  · rw [rope_lo _ _ _ hd]
    simp only [← v32_at x0 x1, ← v13_at x0 x1]
    pointwise [A_main_v45, A_main_v44, A_main_v43, A_main_v42, A_main_v41, A_main_v40, A_main_v39, A_main_v38, A_main_v37, A_main_v36, A_main_v35, A_main_v34, A_main_v33, A_main_v14, A_main_v15]
    rw [dif_pos hd]
  · rw [rope_hi _ _ _ hd]
    simp only [← v32_at x0 x1, ← v13_at x0 x1]
    pointwise [A_main_v45, A_main_v44, A_main_v43, A_main_v42, A_main_v41, A_main_v40, A_main_v39, A_main_v38, A_main_v37, A_main_v36, A_main_v35, A_main_v34, A_main_v33, A_main_v14, A_main_v15]
    rw [dif_neg hd]

end Cert.RetRef
end
-- ==== Proof.RetFreq.lean ====
/- The frequencies the retention kernel is given are the reference's. -/
module

public import proofs.«01_k».proof.Proof.RetKernel
public import proofs.«01_k».proof.Proof.RetRefRope

@[expose] public section

set_option maxRecDepth 16384

noncomputable section

namespace Cert.RetFreq

open Idealize.ShloMosaic Idealize.ShloMosaic.TcCoe Idealize.SL.Sem
open Cert.KernelRetIdeal Cert.KernelRetIdeal.Gen

variable (m : (ℓ : Loc nD τ sig) → Buf (Elt Ideal) ℓ)

open Cert.ReferenceRetIdeal.Step in
/-- The reference's frequencies, entry by entry. -/
theorem frR_at (d : Fin 64) : Cert.RetRef.frR d = Ideal.div 1 (Ideal.pow (Ideal.ofBits FTy.f32 1176256512#32)
    (if h : d.val < 63 then K_main_call0_v15 (F := Ideal) (ix1 (⟨d.val, h⟩ : Fin 63)) else K_main_call0_v16 (F := Ideal) (ix1 (⟨d.val - 63, by omega⟩ : Fin 1)))) := by
  unfold Cert.RetRef.frR
  pointwise [K_main_v7, K_main_v6, K_main_cst_2, K_main_v5, K_main_v4, K_main_cst_1, K_main_v3]

open Cert.ReferenceRetIdeal.Step in
set_option maxHeartbeats 3000000 in
theorem frq_eq (c : Dev nD) : Cert.KernelRetIdeal.Ret.frq m c = Cert.RetRef.frR := by
  funext d
  rw [frR_at]
  unfold Cert.KernelRetIdeal.Ret.frq V
  after_reads_at
  refine congrArg (fun z => Ideal.div 1 (Ideal.pow (Ideal.ofBits FTy.f32 1176256512#32) z)) (dite_congr rfl (fun h => ?_) fun h => ?_)
  · after_reads_at
    pointwise [K_main_call0_v15, K_main_call0_v14, K_main_call0_v13, K_main_call0_v12, K_main_call0_v11, K_main_call0_v10, K_main_call0_v9, K_main_call0_v8, K_main_call0_cst_1, K_main_call0_v7, K_main_call0_v6, K_main_call0_v5, K_main_call0_cst_0, K_main_call0_v4, K_main_call0_v1, K_main_call0_v0, K_main_cst, K_main_cst_0]
  · after_reads_at
    pointwise [K_main_call0_v16, K_main_call0_v1, K_main_cst_0]

end Cert.RetFreq
end
-- ==== Proof.RetRefRun.lean ====
/- The retention reference's run: its scan as the iterates of one trip. -/
module

public import proofs.«01_k».proof.Proof.Gen.ReferenceRetIdeal.Run
public import proofs.«01_k».proof.Proof.Gen.ReferenceRetIdeal.Step

@[expose] public section

noncomputable section

namespace Cert.RetRef

open Idealize.ShloMosaic Idealize.ShloMosaic.TcCoe Idealize.SL.Sem Idealize.ShloMosaic.StableHlo
open Cert.ReferenceRetIdeal Cert.ReferenceRetIdeal.Gen Cert.ReferenceRetIdeal.Value
open Cert.ReferenceRetIdeal.Step (State)

variable {F : FTy → Type} [FloatOps F]

/-- The loop's carried arrays, as a trip finds them. -/
def stOf (W : Valuation τ sig (Elt F)) : State F :=
  { main_v93_6 := W (Proc.devRef .tc main_v93_6), main_v93_7 := W (Proc.devRef .tc main_v93_7), main_v93_0 := W (Proc.devRef .tc main_v93_0)
    main_v93_1 := W (Proc.devRef .tc main_v93_1), main_v93_2 := W (Proc.devRef .tc main_v93_2), main_v93_4 := W (Proc.devRef .tc main_v93_4) }

variable (W : Valuation τ sig (Elt F)) (j : ℕ)

set_option maxRecDepth 8192 in
theorem trip6 (hd : W (Proc.devRef .tc main_v93_3) = Step.K_main_v89) (hn : W (Proc.devRef .tc main_v93_5) = constantI S_ 32 (BitVec.ofNat 32 j)) : step_main_v93_6 W = Step.b35 j (stOf W) := by
  unfold step_main_v93_6
  rw [hn, hd]
  rfl

set_option maxRecDepth 8192 in
theorem trip7 (hn : W (Proc.devRef .tc main_v93_5) = constantI S_ 32 (BitVec.ofNat 32 j)) : step_main_v93_7 W = Step.b41 j (stOf W) := by
  unfold step_main_v93_7
  rw [hn]
  rfl

theorem trip5 (hn : W (Proc.devRef .tc main_v93_5) = constantI S_ 32 (BitVec.ofNat 32 j)) : step_main_v93_5 W = constantI S_ 32 (BitVec.ofNat 32 (j + 1)) := by
  unfold step_main_v93_5
  rw [hn]
  funext i
  show BitVec.ofNat 32 j + 1#32 = BitVec.ofNat 32 (j + 1)
  simp only [BitVec.ofNat_add]

theorem trip (hd : W (Proc.devRef .tc main_v93_3) = Step.K_main_v89) (hn : W (Proc.devRef .tc main_v93_5) = constantI S_ 32 (BitVec.ofNat 32 j)) : stOf (STEP W) = Step.step j (stOf W) := by
  unfold stOf Step.step
  rw [STEP_main_v93_6, STEP_main_v93_7, STEP_main_v93_0, STEP_main_v93_1, STEP_main_v93_2, STEP_main_v93_4, trip6 W j hd hn, trip7 W j hn]
  rfl

variable (m : (ℓ : Loc nD τ sig) → Buf (Elt F) ℓ) (c : Dev nD)

abbrev start : State F := Step.init (m ((c : Thread nD τ).loc main_arg0)) (m ((c : Thread nD τ).loc main_arg1))

set_option maxRecDepth 65536 in
set_option maxHeartbeats 600000 in
theorem entry5 : entryContents preI m c (Proc.devRef .tc main_v93_5) = constantI S_ 32 (BitVec.ofNat 32 0) := by
  simp only [entryContents, afterL_cons, afterL_nil]; after_reads_simp; rfl

set_option maxRecDepth 65536 in
set_option maxHeartbeats 1600000 in
theorem entry3 : entryContents preI m c (Proc.devRef .tc main_v93_3) = Step.K_main_v89 := by
  simp only [entryContents, afterL_cons, afterL_nil]; after_reads_simp; rfl

set_option maxRecDepth 65536 in
set_option maxHeartbeats 6000000 in
theorem entry6 : entryContents preI m c (Proc.devRef .tc main_v93_6) = Step.K_main_v91 := by
  simp only [entryContents, afterL_cons, afterL_nil]; after_reads_simp; rfl

set_option maxRecDepth 65536 in
set_option maxHeartbeats 6000000 in
theorem entry7 : entryContents preI m c (Proc.devRef .tc main_v93_7) = Step.K_main_v92 := by
  simp only [entryContents, afterL_cons, afterL_nil]; after_reads_simp; rfl

set_option maxRecDepth 65536 in
set_option maxHeartbeats 6000000 in
theorem entry0 : entryContents preI m c (Proc.devRef .tc main_v93_0) = Step.A_main_v86 (m ((c : Thread nD τ).loc main_arg0)) (m ((c : Thread nD τ).loc main_arg1)) := by
  simp only [entryContents, afterL_cons, afterL_nil]; after_reads_simp; rfl

set_option maxRecDepth 65536 in
set_option maxHeartbeats 6000000 in
theorem entry1 : entryContents preI m c (Proc.devRef .tc main_v93_1) = Step.A_main_v87 (m ((c : Thread nD τ).loc main_arg0)) (m ((c : Thread nD τ).loc main_arg1)) := by
  simp only [entryContents, afterL_cons, afterL_nil]; after_reads_simp; rfl

set_option maxRecDepth 65536 in
set_option maxHeartbeats 6000000 in
theorem entry2 : entryContents preI m c (Proc.devRef .tc main_v93_2) = Step.A_main_v88 (m ((c : Thread nD τ).loc main_arg0)) (m ((c : Thread nD τ).loc main_arg1)) := by
  simp only [entryContents, afterL_cons, afterL_nil]; after_reads_simp; rfl

set_option maxRecDepth 65536 in
set_option maxHeartbeats 6000000 in
theorem entry4 : entryContents preI m c (Proc.devRef .tc main_v93_4) = Step.A_main_v90 (m ((c : Thread nD τ).loc main_arg0)) (m ((c : Thread nD τ).loc main_arg1)) := by
  simp only [entryContents, afterL_cons, afterL_nil]; after_reads_simp; rfl

theorem entry : stOf (entryContents preI m c) = start m c := by
  unfold stOf
  rw [entry6, entry7, entry0, entry1, entry2, entry4]
  rfl

/-- The states of the scan. -/
def states : ℕ → State F
  | 0 => start m c
  | n + 1 => Step.step n (states n)

theorem iterates : ∀ n, stOf (STEP^[n] (entryContents preI m c)) = states m c n
    ∧ STEP^[n] (entryContents preI m c) (Proc.devRef .tc main_v93_5) = constantI S_ 32 (BitVec.ofNat 32 n)
    ∧ STEP^[n] (entryContents preI m c) (Proc.devRef .tc main_v93_3) = Step.K_main_v89
  | 0 => ⟨entry m c, entry5 m c, entry3 m c⟩
  | n + 1 => by
    obtain ⟨h1, h2, h3⟩ := iterates n
    rw [Function.iterate_succ_apply']
    exact ⟨(trip _ n h3 h2).trans (by rw [h1]; rfl), (STEP_main_v93_5 _).trans (trip5 _ n h2), (STEP_main_v93_3 _).trans h3⟩

set_option maxRecDepth 8192 in
theorem out_eq : out_main_v113 W = Step.R_main_v113 (stOf W) (W (Proc.devRef .tc main_arg0)) := by
  unfold out_main_v113 Step.R_main_v113
  rfl

/-- The reference's result, of the last state. -/
theorem run (g : Dev nD → PrngReg) : θ_run defs (onTc (τ := τ) (main (F := F))) ⟨m, fun _ => 0, g⟩ fun r => ∀ c : Dev nD,
      r.2.mem ((c : Thread nD τ).loc main_v113) = Step.R_main_v113 (states m c 128) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (by rw [out_eq, (iterates m c 128).1, iter_main_arg0]), (h c).2⟩) (Value.run m g)

end Cert.RetRef
end
-- ==== Proof.RetRefMath.lean ====
/- The retention reference's arrays, entry by entry. -/
module

public import proofs.«01_k».proof.Proof.RetRefRope
public import proofs.«01_k».proof.Proof.Gen.ReferenceRetIdeal.Step
public import Idealize.ShloMosaic.Lib.Pointwise
public import Idealize.ShloMosaic.Lib.DynamicIndex
public import Idealize.ShloMosaic.Lib.WordCmp

@[expose] public section

noncomputable section

namespace Cert.RetRef

open Idealize.ShloMosaic
open Cert.ReferenceRetIdeal Cert.ReferenceRetIdeal.Gen Cert.ReferenceRetIdeal.Step Cert.Ret
open Cert.GlaRef (fold_sum longAxis toInt_trip start5 start4 put_at two_bits five_bits)

variable (x0 : S2x8192x12288.Idx → EReal) (x1 : S2x8192.Idx → BitVec 32)

theorem ang_eq (b : Fin 2) (n : Fin 128) (i : Fin 64) : th x1 b (seq n.val i) = ang x1 frR b n.val i := rfl

theorem v62_at (b : Fin 2) (h : Fin 8) (n : Fin 128) (i : Fin 64) (d : Fin 128) :
    A_main_v62 (F := Ideal) x0 x1 (ix5 b h n i d) = qA x0 x1 frR b n.val h i d := by
  have hs : (⟨n.val * 64 + i.val, by omega⟩ : Fin 8192) = seq n.val i := Fin.ext (by show n.val * 64 + i.val = (64 * n.val + i.val) % 8192; omega)
  refine Eq.trans ?_ (v30_at x0 x1 b h (seq n.val i) d)
  rw [← hs]
  pointwise [A_main_v62]

theorem v63_at (b : Fin 2) (h : Fin 8) (n : Fin 128) (i : Fin 64) (d : Fin 128) :
    A_main_v63 (F := Ideal) x0 x1 (ix5 b h n i d) = kA x0 x1 frR b n.val h i d := by
  have hs : (⟨n.val * 64 + i.val, by omega⟩ : Fin 8192) = seq n.val i := Fin.ext (by show n.val * 64 + i.val = (64 * n.val + i.val) % 8192; omega)
  refine Eq.trans ?_ (congrArg (fun z : EReal => z * sc) (v45_at x0 x1 b h (seq n.val i) d))
  rw [← hs]
  pointwise [A_main_v63, A_main_v47, K_main_v46, K_main_cst_3]

theorem v64_at (b : Fin 2) (h : Fin 8) (n : Fin 128) (i : Fin 64) (e : Fin 256) :
    A_main_v64 (F := Ideal) x0 x1 (ix5 b h n i e) = vA x0 b n.val h i e := by
  unfold vA
  pointwise [A_main_v64, A_main_v49, A_main_v48, A_main_v2]
  refine at3 x0 rfl ?_ ?_
  · show n.val * 64 + i.val = (64 * n.val + i.val) % 8192; omega
  · show 2048 + (h.val * 256 + e.val) = 2048 + (256 * h.val + e.val); omega

theorem mul_at {r : Shape} (f g : r.Idx → EReal) (y : r.Idx) : mulf (F := Ideal) (φ := .f32) f g y = f y * g y := rfl

theorem v69_at (b : Fin 2) (h : Fin 8) (n : Fin 128) (i : Fin 64) (d : Fin 128) :
    A_main_v69 (F := Ideal) x0 x1 (ix5 b h n i d) = qA x0 x1 frR b n.val h i d * Ideal.exp (cum h i) := by
  unfold A_main_v69
  rw [mul_at, v62_at, K68_at]

theorem v73_at (b : Fin 2) (h : Fin 8) (n : Fin 128) (i : Fin 64) (d : Fin 128) :
    A_main_v73 (F := Ideal) x0 x1 (ix5 b h n i d) = kA x0 x1 frR b n.val h i d * Ideal.exp (0 - cum h i) := by
  unfold A_main_v73
  rw [mul_at, v63_at, K72_at]

theorem v82_at (b : Fin 2) (h : Fin 8) (n : Fin 128) (i : Fin 64) (d : Fin 128) :
    A_main_v82 (F := Ideal) x0 x1 (ix5 b h n i d) = kA x0 x1 frR b n.val h i d * Ideal.exp (cum h 63 - cum h i) := by
  unfold A_main_v82
  rw [mul_at, v63_at, K81_at]

theorem mask_at (b : Fin 2) (h : Fin 8) (n : Fin 128) (i j : Fin 64) :
    K_main_call3_v1 (F := Ideal) (ix5 b h n i j) = BitVec.ofBool (decide (j ≤ i)) := by
  pointwise [K_main_call3_v1, K_main_v61, K_main_call1_v4, K_main_call1_v2, K_main_call1_v0, K_main_call1_v1, K_main_call1_c, K_main_call1_v3, K_main_v60, K_main_c, K_main_call1_v5, K_main_call1_c_0]
  rw [show IntOp.addi (BitVec.ofNat 32 i.val) 0#32 = BitVec.ofNat 32 i.val from BitVec.add_zero _, WordCmp.cmpi_sge_ofNat (by omega) (by omega)]
  simp only [Fin.le_def]
  by_cases hc : j.val ≤ i.val <;> simp [hc, Scalar.select]

theorem v75_at (b : Fin 2) (h : Fin 8) (n : Fin 128) (i j : Fin 64) :
    A_main_v75 (F := Ideal) x0 x1 (ix5 b h n i j) = if j ≤ i then ∑ d : Fin 128,
      (qA x0 x1 frR b n.val h i d * Ideal.exp (cum h i)) * (kA x0 x1 frR b n.val h j d * Ideal.exp (0 - cum h j)) else 0 := by
  simp only [← v69_at x0 x1, ← v73_at x0 x1]
  pointwise [A_main_v75, A_main_v74, K_main_call3_v2, K_main_call3_v0, K_main_cst_7]
  rw [mask_at]
  by_cases hc : j ≤ i
  · simp [hc, Scalar.select]
  · rw [decide_eq_false hc, if_neg hc]
    refine (if_neg (by decide)).trans ?_
    show constant (F := Ideal) S_ FTy.f32 0#32 ix0 = 0
    pointwise

theorem v76_at (b : Fin 2) (h : Fin 8) (n : Fin 128) (i : Fin 64) (e : Fin 256) :
    A_main_v76 (F := Ideal) x0 x1 (ix5 b h n i e) = ∑ j : Fin 64, (if j ≤ i then ∑ d : Fin 128,
      (qA x0 x1 frR b n.val h i d * Ideal.exp (cum h i)) * (kA x0 x1 frR b n.val h j d * Ideal.exp (0 - cum h j)) else 0) * vA x0 b n.val h j e := by
  simp only [← v75_at x0 x1, ← v64_at x0 x1]
  pointwise [A_main_v76]

variable (s : State Ideal)

theorem fits5 {l : ℕ} (j : Fin 128) : (⟨5, ![128, 2, 8, 64, l]⟩ : Shape).Slices (![j.val, 0, 0, 0, 0] : Fin 5 → ℕ) ⟨5, ![1, 2, 8, 64, l]⟩ :=
  ⟨rfl, fun a => by
    have hj := j.isLt
    fin_cases a
    · show j.val + 1 ≤ 128; omega
    · show 0 + 2 ≤ 2; omega
    · show 0 + 8 ≤ 8; omega
    · show 0 + 64 ≤ 64; omega
    · show 0 + l ≤ l; omega⟩

theorem fits4 (j : Fin 128) : S128x2x8x1.Slices (![j.val, 0, 0, 0] : Fin 4 → ℕ) S1x2x8x1 :=
  ⟨rfl, fun a => by
    have hj := j.isLt
    fin_cases a
    · show j.val + 1 ≤ 128; omega
    · show 0 + 2 ≤ 2; omega
    · show 0 + 8 ≤ 8; omega
    · show 0 + 1 ≤ 1; omega⟩

theorem b5_at (j : Fin 128) (b : Fin 2) (h : Fin 8) (i : Fin 64) (d : Fin 128) : b5 j.val s (ix4 b h i d) = s.main_v93_0 (ix5 j b h i d) := by
  unfold b5 b4
  rw [Host.dynamicSlice_eq_extractStridedSlice _ _ _ (![j.val, 0, 0, 0, 0] : Fin 5 → ℕ) _ (fits5 j) (start5 j _ _ rfl ⟨rfl, rfl, rfl, rfl⟩)]
  pointwise

theorem b11_at (j : Fin 128) (b : Fin 2) (h : Fin 8) (i : Fin 64) (d : Fin 128) : b11 j.val s (ix4 b h i d) = s.main_v93_1 (ix5 j b h i d) := by
  unfold b11 b10
  rw [Host.dynamicSlice_eq_extractStridedSlice _ _ _ (![j.val, 0, 0, 0, 0] : Fin 5 → ℕ) _ (fits5 j) (start5 j _ _ rfl ⟨rfl, rfl, rfl, rfl⟩)]
  pointwise

theorem b17_at (j : Fin 128) (b : Fin 2) (h : Fin 8) (i : Fin 64) (e : Fin 256) : b17 j.val s (ix4 b h i e) = s.main_v93_2 (ix5 j b h i e) := by
  unfold b17 b16
  rw [Host.dynamicSlice_eq_extractStridedSlice _ _ _ (![j.val, 0, 0, 0, 0] : Fin 5 → ℕ) _ (fits5 j) (start5 j _ _ rfl ⟨rfl, rfl, rfl, rfl⟩)]
  pointwise

theorem b28_at (j : Fin 128) (b : Fin 2) (h : Fin 8) (i : Fin 64) (e : Fin 256) : b28 j.val s (ix4 b h i e) = s.main_v93_4 (ix5 j b h i e) := by
  unfold b28 b27
  rw [Host.dynamicSlice_eq_extractStridedSlice _ _ _ (![j.val, 0, 0, 0, 0] : Fin 5 → ℕ) _ (fits5 j) (start5 j _ _ rfl ⟨rfl, rfl, rfl, rfl⟩)]
  pointwise

theorem b22_at (j : Fin 128) (b : Fin 2) (h : Fin 8) : b22 j.val s (ix3 b h (0 : Fin 1)) = K_main_v89 (ix4 j b h (0 : Fin 1)) := by
  unfold b22 b21
  rw [Host.dynamicSlice_eq_extractStridedSlice _ _ _ (![j.val, 0, 0, 0] : Fin 4 → ℕ) _ (fits4 j) (start4 j _ _ rfl ⟨rfl, rfl, rfl⟩)]
  pointwise

theorem b41_at (j k : Fin 128) (b : Fin 2) (h : Fin 8) (i : Fin 64) (e : Fin 256) :
    b41 j.val s (ix5 k b h i e) = if k = j then b30 j.val s (ix4 b h i e) else s.main_v93_7 (ix5 k b h i e) := by
  unfold b41 b36
  rw [put_at _ _ _ (![j.val, 0, 0, 0, 0] : Fin 5 → ℕ) _ (fits5 j) (start5 j _ _ rfl ⟨rfl, rfl, rfl, rfl⟩)]
  pointwise
  refine dite_congr (propext ⟨fun hh => Fin.ext (by omega), fun hh => by subst hh; omega⟩) (fun _ => rfl) fun _ => rfl

theorem b30_at (j : Fin 128) (b : Fin 2) (h : Fin 8) (i : Fin 64) (e : Fin 256) :
    b30 j.val s (ix4 b h i e) = b28 j.val s (ix4 b h i e) + ∑ d : Fin 128, b5 j.val s (ix4 b h i d) * s.main_v93_6 (ix4 b h d e) := by
  pointwise [b30, b29]

theorem b35_at (j : Fin 128) (b : Fin 2) (h : Fin 8) (d : Fin 128) (e : Fin 256) :
    b35 j.val s (ix4 b h d e) = s.main_v93_6 (ix4 b h d e) * b22 j.val s (ix3 b h (0 : Fin 1)) + ∑ i : Fin 64, b11 j.val s (ix4 b h i d) * b17 j.val s (ix4 b h i e) := by
  pointwise [b35, b34, b33, b32, b31]

/-- The result over the last state. -/
theorem out_at (b : Fin 2) (t : Fin 8192) (c : Fin 2048) :
    R_main_v113 s x0 (ix3 b t c) = tile (fun x => s.main_v93_7 (ix5 (⟨t.val / 64, by omega⟩ : Fin 128) b (⟨c.val / 256, by omega⟩ : Fin 8) (⟨t.val % 64, by omega⟩ : Fin 64) x))
      (x0 (ix3 b t (⟨4096 + c.val, by omega⟩ : Fin 12288))) (⟨c.val % 256, by omega⟩ : Fin 256) := by
  unfold tile
  rw [sub_eq_add_neg, zero_add]
  pointwise [R_main_v113]

/-- The states of the scan. -/
def chain : ℕ → State Ideal
  | 0 => Step.init x0 x1
  | n + 1 => Step.step n (chain n)

theorem chain_fixed (n : ℕ) : (chain x0 x1 n).main_v93_0 = A_main_v86 x0 x1 ∧ (chain x0 x1 n).main_v93_1 = A_main_v87 x0 x1
    ∧ (chain x0 x1 n).main_v93_2 = A_main_v88 x0 x1
    ∧ (chain x0 x1 n).main_v93_4 = A_main_v90 x0 x1 := by
  induction n with
  | zero => exact ⟨rfl, rfl, rfl, rfl⟩
  | succ n ih => exact ih

theorem v86_at (k : Fin 128) (b : Fin 2) (h : Fin 8) (i : Fin 64) (d : Fin 128) :
    A_main_v86 (F := Ideal) x0 x1 (ix5 k b h i d) = qA x0 x1 frR b k.val h i d * Ideal.exp (cum h i) := by
  rw [← v69_at x0 x1]
  pointwise [A_main_v86]

theorem v87_at (k : Fin 128) (b : Fin 2) (h : Fin 8) (i : Fin 64) (d : Fin 128) :
    A_main_v87 (F := Ideal) x0 x1 (ix5 k b h i d)
      = kA x0 x1 frR b k.val h i d * Ideal.exp (cum h 63 - cum h i) := by
  rw [← v82_at x0 x1]
  pointwise [A_main_v87]

theorem v88_at (k : Fin 128) (b : Fin 2) (h : Fin 8) (i : Fin 64) (e : Fin 256) :
    A_main_v88 (F := Ideal) x0 x1 (ix5 k b h i e) = vA x0 b k.val h i e := by
  rw [← v64_at x0 x1]
  pointwise [A_main_v88]

theorem v90_at (k : Fin 128) (b : Fin 2) (h : Fin 8) (i : Fin 64) (e : Fin 256) :
    A_main_v90 (F := Ideal) x0 x1 (ix5 k b h i e) = A_main_v76 x0 x1 (ix5 b h k i e) := by
  pointwise [A_main_v90]

/-- The carried state before each trip. -/
theorem chain_state (n : ℕ) (hn : n ≤ 128) (b : Fin 2) (h : Fin 8) (d : Fin 128) (e : Fin 256) :
    (chain x0 x1 n).main_v93_6 (ix4 b h d e) = stA x0 x1 frR b h n d e := by
  induction n generalizing d e with
  | zero =>
    show K_main_v91 (F := Ideal) (ix4 b h d e) = 0
    pointwise [K_main_v91, K_main_cst_8]
  | succ n ih =>
    obtain ⟨-, f1, f2, -⟩ := chain_fixed x0 x1 n
    refine (b35_at (chain x0 x1 n) (⟨n, by omega⟩ : Fin 128) b h d e).trans ?_
    rw [ih (by omega), b22_at, K89_at]
    refine congrArg (_ + ·) (Finset.sum_congr rfl fun i _ => ?_)
    rw [b11_at, b17_at, f1, f2, v87_at, v88_at]

/-- The rows a trip stores. -/
theorem chain_row (n : Fin 128) (b : Fin 2) (h : Fin 8) (i : Fin 64) (e : Fin 256) :
    b30 n.val (chain x0 x1 n.val) (ix4 b h i e) = oA x0 x1 frR b n.val h i e := by
  obtain ⟨f0, -, -, f4⟩ := chain_fixed x0 x1 n.val
  rw [b30_at, b28_at, f4, v90_at, v76_at]
  refine congrArg (_ + ·) (Finset.sum_congr rfl fun d _ => ?_)
  rw [b5_at, f0, v86_at, chain_state x0 x1 n.val n.isLt.le]

/-- The stored rows. -/
theorem chain_out (n : ℕ) (hn : n ≤ 128) (k : Fin 128) (hk : k.val < n) (b : Fin 2) (h : Fin 8) (i : Fin 64) (e : Fin 256) :
    (chain x0 x1 n).main_v93_7 (ix5 k b h i e) = oA x0 x1 frR b k.val h i e := by
  induction n with
  | zero => omega
  | succ n ih =>
    refine (b41_at (chain x0 x1 n) (⟨n, by omega⟩ : Fin 128) k b h i e).trans ?_
    by_cases he : k.val = n
    · subst he
      rw [if_pos rfl]
      exact chain_row x0 x1 k b h i e
    · rw [if_neg fun hh => he (congrArg Fin.val hh)]
      exact ih (by omega) (by omega)

/-- The reference's result. -/
theorem result_at (b : Fin 2) (t : Fin 8192) (c : Fin 2048) :
    R_main_v113 (chain x0 x1 128) x0 (ix3 b t c) = resA x0 x1 frR b (t.val / 64) (⟨c.val / 256, by omega⟩ : Fin 8)
      (⟨t.val % 64, by omega⟩ : Fin 64) (⟨c.val % 256, by omega⟩ : Fin 256) := by
  rw [out_at]
  unfold resA rA
  have e5 : seq (t.val / 64) (⟨t.val % 64, by omega⟩ : Fin 64) = t := Fin.ext (by show (64 * (t.val / 64) + t.val % 64) % 8192 = t.val; omega)
  have e6 : (⟨4096 + (colV (⟨c.val / 256, by omega⟩ : Fin 8) (⟨c.val % 256, by omega⟩ : Fin 256)).val, by omega⟩ : Fin 12288) = ⟨4096 + c.val, by omega⟩ :=
    Fin.ext (by show 4096 + (256 * (c.val / 256) + c.val % 256) = 4096 + c.val; omega)
  rw [e5, e6]
  refine congrArg (fun o => tile o _ _) (funext fun x => ?_)
  exact chain_out x0 x1 128 le_rfl (⟨t.val / 64, by omega⟩ : Fin 128) (by show t.val / 64 < 128; omega) b _ _ x

end Cert.RetRef
end
-- ==== Proof.RetValue.lean ====
/- The retention kernel's result is the reference's. -/
module

public import proofs.«01_k».proof.Proof.RetFreq
public import proofs.«01_k».proof.Proof.RetRefRun
public import proofs.«01_k».proof.Proof.RetRefMath

@[expose] public section

noncomputable section

namespace Cert.RetValue

open Idealize.ShloMosaic Idealize.ShloMosaic.TcCoe

/-- The run's states are the scan's. -/
theorem states_eq (m : (ℓ : Loc Cert.ReferenceRetIdeal.nD Cert.ReferenceRetIdeal.τ Cert.ReferenceRetIdeal.sig) → Buf (Elt Ideal) ℓ) (c : Dev Cert.ReferenceRetIdeal.nD) (n : ℕ) :
    Cert.RetRef.states m c n = Cert.RetRef.chain (m ((c : Thread Cert.ReferenceRetIdeal.nD Cert.ReferenceRetIdeal.τ).loc Cert.ReferenceRetIdeal.main_arg0))
      (m ((c : Thread Cert.ReferenceRetIdeal.nD Cert.ReferenceRetIdeal.τ).loc Cert.ReferenceRetIdeal.main_arg1)) n := by
  induction n with
  | zero => rfl
  | succ n ih => exact congrArg (Cert.ReferenceRetIdeal.Step.step n) ih

/-- The reference's result is the array the kernel leaves. -/
theorem result_eq (x0 : (⟨3, ![2, 8192, 12288]⟩ : Shape).Idx → EReal) (x1 : (⟨2, ![2, 8192]⟩ : Shape).Idx → BitVec 32) :
    Cert.ReferenceRetIdeal.Step.R_main_v113 (Cert.RetRef.chain x0 x1 128) x0 = Cert.KernelRetIdeal.Ret.RES x0 x1 Cert.RetRef.frR := by
  funext y
  have e : y = ix3 (⟨(y 0).val, (y 0).isLt⟩ : Fin 2) (⟨(y 1).val, (y 1).isLt⟩ : Fin 8192) (⟨(y 2).val, (y 2).isLt⟩ : Fin 2048) := by
    funext a
    fin_cases a <;> rfl
  refine (congrArg _ e).trans ((Cert.RetRef.result_at x0 x1 _ _ _).trans ?_)
  rfl

/-- The array the kernel leaves, over the reference's frequencies. -/
theorem final (m : (ℓ : Loc Cert.KernelRetIdeal.nD Cert.KernelRetIdeal.τ Cert.KernelRetIdeal.sig) → Buf (Elt Ideal) ℓ) (c : Dev Cert.KernelRetIdeal.nD) :
    (Cert.KernelRetIdeal.Gen.dats m 0 c).arrAt 6 (Cert.KernelRetIdeal.cfgs 0).N
      = Cert.KernelRetIdeal.Ret.RES (Cert.KernelRetIdeal.Ret.aY m c) (Cert.KernelRetIdeal.Ret.aP m c) Cert.RetRef.frR :=
  (Cert.KernelRetIdeal.Ret.final m c).trans (by rw [Cert.RetFreq.frq_eq])

end Cert.RetValue
end
-- ==== Proof.CastOutValue.lean ====
/- The bf16 copy of an out-projection's weights: the result array is the reference's. -/
module

public import proofs.«01_k».proof.Proof.Gen.KernelCastOutIdeal.Frame
public import proofs.«01_k».proof.Proof.Gen.ReferenceCastOutIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelCastOutIdeal.Value
open Cert.KernelCastOutIdeal Cert.KernelCastOutIdeal.Gen

variable (m : (ℓ : Loc nD τ sig) → Buf (Elt Ideal) ℓ)

/-- The weights rounded to bf16, as the reference computes them. -/
abbrev REF (arg0 : FVec Ideal S1x4096x4096 .f32) : FVec Ideal S4096x4096 .bf16 :=
  truncf .bf16 (shapeCast S4096x4096 arg0 Cert.ReferenceCastOutIdeal.Gen.shapeCasts_S1x4096x4096_S4096x4096) Cert.ReferenceCastOutIdeal.Gen.bitsLt_bf16_f32

/-- Which block of each array a grid point works on. -/
theorem idx : ∀ t : Fin cfg0.N, win0_0.index t = ![0, t.val, 0]
    ∧ win0_1.index t = ![t.val, 0] :=
  (by decide +kernel : ∀ t : Fin grid0.N, _)

/-- What the body stores at an index of its block is the reference's entry at the array index it sits at. -/
theorem point (c : Dev nD) (t : Fin cfg0.N) (y) : k0_pay1 (iblk m c 0 t) y
    = REF (m ((c : Thread nD τ).loc main_arg0)) (((cfg0.win 1).blk t).view.emb y) := by
  pointwise [k0_pay1, REF]
  blk_point [iblk, V, idx t]

/-- The result array after the run is the reference's. -/
theorem final (c : Dev nD) : (dats m 0 c).arrAt 1 (cfgs 0).N
    = REF (m ((c : Thread nD τ).loc main_arg0)) := by
  refine (dats m 0 c).arrAt_eq_of_covers 1 _ (by decide +kernel) fun t _ y => ?_
  blk_simp
  rw [after0_1]; frame_out
  exact point m c t y

end Cert.KernelCastOutIdeal.Value

end
-- ==== Proof.CastUpValue.lean ====
/- The bf16 copy of the first layer's up-projection weights: the result array is the reference's. -/
module

public import proofs.«01_k».proof.Proof.Gen.KernelCastUpIdeal.Frame
public import proofs.«01_k».proof.Proof.Gen.ReferenceCastUpIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelCastUpIdeal.Value
open Cert.KernelCastUpIdeal Cert.KernelCastUpIdeal.Gen

variable (m : (ℓ : Loc nD τ sig) → Buf (Elt Ideal) ℓ)

/-- The weights rounded to bf16, as the reference computes them. -/
abbrev REF (arg0 : FVec Ideal S2x4096x16384 .f32) : FVec Ideal S4096x16384 .bf16 :=
  truncf .bf16 (shapeCast S4096x16384 (extractStridedSlice Cert.ReferenceCastUpIdeal.S1x4096x16384 ![0, 0, 0] arg0 Cert.ReferenceCastUpIdeal.Gen.slices_S2x4096x16384_S1x4096x16384_0_0_0) Cert.ReferenceCastUpIdeal.Gen.shapeCasts_S1x4096x16384_S4096x16384) Cert.ReferenceCastUpIdeal.Gen.bitsLt_bf16_f32

/-- Which block of each array a grid point works on. -/
theorem idx : ∀ t : Fin cfg0.N, win0_0.index t = ![0, t.val, 0]
    ∧ win0_1.index t = ![t.val, 0] :=
  (by decide +kernel : ∀ t : Fin grid0.N, _)

/-- What the body stores at an index of its block is the reference's entry at the array index it sits at. -/
theorem point (c : Dev nD) (t : Fin cfg0.N) (y) : k0_pay1 (iblk m c 0 t) y
    = REF (m ((c : Thread nD τ).loc main_arg0)) (((cfg0.win 1).blk t).view.emb y) := by
  pointwise [k0_pay1, REF]
  blk_point [iblk, V, idx t]

/-- The result array after the run is the reference's. -/
theorem final (c : Dev nD) : (dats m 0 c).arrAt 1 (cfgs 0).N
    = REF (m ((c : Thread nD τ).loc main_arg0)) := by
  refine (dats m 0 c).arrAt_eq_of_covers 1 _ (by decide +kernel) fun t _ y => ?_
  blk_simp
  rw [after0_1]; frame_out
  exact point m c t y

end Cert.KernelCastUpIdeal.Value

end
-- ==== Proof.CastUp2Value.lean ====
/- The bf16 copy of the second layer's up-projection weights: the result array is the reference's. -/
module

public import proofs.«01_k».proof.Proof.Gen.KernelCastUp2Ideal.Frame
public import proofs.«01_k».proof.Proof.Gen.ReferenceCastUp2Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelCastUp2Ideal.Value
open Cert.KernelCastUp2Ideal Cert.KernelCastUp2Ideal.Gen

variable (m : (ℓ : Loc nD τ sig) → Buf (Elt Ideal) ℓ)

/-- The weights rounded to bf16, as the reference computes them. -/
abbrev REF (arg0 : FVec Ideal S2x4096x16384 .f32) : FVec Ideal S4096x16384 .bf16 :=
  truncf .bf16 (shapeCast S4096x16384 (extractStridedSlice Cert.ReferenceCastUp2Ideal.S1x4096x16384 ![1, 0, 0] arg0 Cert.ReferenceCastUp2Ideal.Gen.slices_S2x4096x16384_S1x4096x16384_1_0_0) Cert.ReferenceCastUp2Ideal.Gen.shapeCasts_S1x4096x16384_S4096x16384) Cert.ReferenceCastUp2Ideal.Gen.bitsLt_bf16_f32

/-- Which block of each array a grid point works on. -/
theorem idx : ∀ t : Fin cfg0.N, win0_0.index t = ![1, t.val, 0]
    ∧ win0_1.index t = ![t.val, 0] :=
  (by decide +kernel : ∀ t : Fin grid0.N, _)

/-- What the body stores at an index of its block is the reference's entry at the array index it sits at. -/
theorem point (c : Dev nD) (t : Fin cfg0.N) (y) : k0_pay1 (iblk m c 0 t) y
    = REF (m ((c : Thread nD τ).loc main_arg0)) (((cfg0.win 1).blk t).view.emb y) := by
  pointwise [k0_pay1, REF]
  blk_point [iblk, V, idx t]

/-- The result array after the run is the reference's. -/
theorem final (c : Dev nD) : (dats m 0 c).arrAt 1 (cfgs 0).N
    = REF (m ((c : Thread nD τ).loc main_arg0)) := by
  refine (dats m 0 c).arrAt_eq_of_covers 1 _ (by decide +kernel) fun t _ y => ?_
  blk_simp
  rw [after0_1]; frame_out
  exact point m c t y

end Cert.KernelCastUp2Ideal.Value

end
-- ==== Proof.CastDownValue.lean ====
/- The bf16 copy of the first layer's down-projection weights: the result array is the reference's. -/
module

public import proofs.«01_k».proof.Proof.Gen.KernelCastDownIdeal.Frame
public import proofs.«01_k».proof.Proof.Gen.ReferenceCastDownIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelCastDownIdeal.Value
open Cert.KernelCastDownIdeal Cert.KernelCastDownIdeal.Gen

variable (m : (ℓ : Loc nD τ sig) → Buf (Elt Ideal) ℓ)

/-- The weights rounded to bf16, as the reference computes them. -/
abbrev REF (arg0 : FVec Ideal S2x16384x4096 .f32) : FVec Ideal S16384x4096 .bf16 :=
  truncf .bf16 (shapeCast S16384x4096 (extractStridedSlice Cert.ReferenceCastDownIdeal.S1x16384x4096 ![0, 0, 0] arg0 Cert.ReferenceCastDownIdeal.Gen.slices_S2x16384x4096_S1x16384x4096_0_0_0) Cert.ReferenceCastDownIdeal.Gen.shapeCasts_S1x16384x4096_S16384x4096) Cert.ReferenceCastDownIdeal.Gen.bitsLt_bf16_f32

/-- Which block of each array a grid point works on. -/
theorem idx : ∀ t : Fin cfg0.N, win0_0.index t = ![0, t.val, 0]
    ∧ win0_1.index t = ![t.val, 0] :=
  (by decide +kernel : ∀ t : Fin grid0.N, _)

/-- What the body stores at an index of its block is the reference's entry at the array index it sits at. -/
theorem point (c : Dev nD) (t : Fin cfg0.N) (y) : k0_pay1 (iblk m c 0 t) y
    = REF (m ((c : Thread nD τ).loc main_arg0)) (((cfg0.win 1).blk t).view.emb y) := by
  pointwise [k0_pay1, REF]
  blk_point [iblk, V, idx t]

/-- The result array after the run is the reference's. -/
theorem final (c : Dev nD) : (dats m 0 c).arrAt 1 (cfgs 0).N
    = REF (m ((c : Thread nD τ).loc main_arg0)) := by
  refine (dats m 0 c).arrAt_eq_of_covers 1 _ (by decide +kernel) fun t _ y => ?_
  blk_simp
  rw [after0_1]; frame_out
  exact point m c t y

end Cert.KernelCastDownIdeal.Value

end
-- ==== Proof.CastDown2Value.lean ====
/- The bf16 copy of the second layer's down-projection weights: the result array is the reference's. -/
module

public import proofs.«01_k».proof.Proof.Gen.KernelCastDown2Ideal.Frame
public import proofs.«01_k».proof.Proof.Gen.ReferenceCastDown2Ideal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelCastDown2Ideal.Value
open Cert.KernelCastDown2Ideal Cert.KernelCastDown2Ideal.Gen

variable (m : (ℓ : Loc nD τ sig) → Buf (Elt Ideal) ℓ)

/-- The weights rounded to bf16, as the reference computes them. -/
abbrev REF (arg0 : FVec Ideal S2x16384x4096 .f32) : FVec Ideal S16384x4096 .bf16 :=
  truncf .bf16 (shapeCast S16384x4096 (extractStridedSlice Cert.ReferenceCastDown2Ideal.S1x16384x4096 ![1, 0, 0] arg0 Cert.ReferenceCastDown2Ideal.Gen.slices_S2x16384x4096_S1x16384x4096_1_0_0) Cert.ReferenceCastDown2Ideal.Gen.shapeCasts_S1x16384x4096_S16384x4096) Cert.ReferenceCastDown2Ideal.Gen.bitsLt_bf16_f32

/-- Which block of each array a grid point works on. -/
theorem idx : ∀ t : Fin cfg0.N, win0_0.index t = ![1, t.val, 0]
    ∧ win0_1.index t = ![t.val, 0] :=
  (by decide +kernel : ∀ t : Fin grid0.N, _)

/-- What the body stores at an index of its block is the reference's entry at the array index it sits at. -/
theorem point (c : Dev nD) (t : Fin cfg0.N) (y) : k0_pay1 (iblk m c 0 t) y
    = REF (m ((c : Thread nD τ).loc main_arg0)) (((cfg0.win 1).blk t).view.emb y) := by
  pointwise [k0_pay1, REF]
  blk_point [iblk, V, idx t]

/-- The result array after the run is the reference's. -/
theorem final (c : Dev nD) : (dats m 0 c).arrAt 1 (cfgs 0).N
    = REF (m ((c : Thread nD τ).loc main_arg0)) := by
  refine (dats m 0 c).arrAt_eq_of_covers 1 _ (by decide +kernel) fun t _ y => ?_
  blk_simp
  rw [after0_1]; frame_out
  exact point m c t y

end Cert.KernelCastDown2Ideal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Step
public import proofs.«01_k».proof.Proof.Gen.ReferenceIdeal.Run
public import proofs.«01_k».proof.Proof.GlaValue
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.ReferenceUpIdeal
public import proofs.«01_k».proof.Proof.UpValue
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.ReferenceDownIdeal
public import proofs.«01_k».proof.Proof.DownValue
public import proofs.«01_k».proof.Proof.Gen.KernelEvenIn
public import proofs.«01_k».proof.Proof.Gen.KernelEvenIn.Skeleton
public import proofs.«01_k».proof.Proof.Gen.KernelEvenIn.Launch
public import proofs.«01_k».proof.Proof.Gen.KernelEvenIn.Points
public import proofs.«01_k».proof.Proof.Gen.KernelEvenIn.Frame
public import proofs.«01_k».proof.Proof.Gen.KernelEvenInIdeal
public import proofs.«01_k».proof.Proof.Gen.KernelEvenInIdeal.Skeleton
public import proofs.«01_k».proof.Proof.Gen.KernelEvenInIdeal.Launch
public import proofs.«01_k».proof.Proof.Gen.KernelEvenInIdeal.Points
public import proofs.«01_k».proof.Proof.Gen.KernelEvenInIdeal.Frame
public import proofs.«01_k».proof.Proof.Gen.ReferenceEvenInIdeal
public import proofs.«01_k».proof.Proof.EvenInValue
public import proofs.«01_k».proof.Proof.Gen.KernelOddIn
public import proofs.«01_k».proof.Proof.Gen.KernelOddIn.Skeleton
public import proofs.«01_k».proof.Proof.Gen.KernelOddIn.Launch
public import proofs.«01_k».proof.Proof.Gen.KernelOddIn.Points
public import proofs.«01_k».proof.Proof.Gen.KernelOddIn.Frame
public import proofs.«01_k».proof.Proof.Gen.KernelOddInIdeal
public import proofs.«01_k».proof.Proof.Gen.KernelOddInIdeal.Skeleton
public import proofs.«01_k».proof.Proof.Gen.KernelOddInIdeal.Launch
public import proofs.«01_k».proof.Proof.Gen.KernelOddInIdeal.Points
public import proofs.«01_k».proof.Proof.Gen.KernelOddInIdeal.Frame
public import proofs.«01_k».proof.Proof.Gen.ReferenceOddInIdeal
public import proofs.«01_k».proof.Proof.OddInValue
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.OutValue
public import proofs.«01_k».proof.Proof.Gen.KernelLn
public import proofs.«01_k».proof.Proof.Gen.KernelLn.Skeleton
public import proofs.«01_k».proof.Proof.Gen.KernelLn.Launch
public import proofs.«01_k».proof.Proof.Gen.KernelLn.Points
public import proofs.«01_k».proof.Proof.Gen.KernelLn.Frame
public import proofs.«01_k».proof.Proof.Gen.KernelLnIdeal
public import proofs.«01_k».proof.Proof.Gen.KernelLnIdeal.Skeleton
public import proofs.«01_k».proof.Proof.Gen.KernelLnIdeal.Launch
public import proofs.«01_k».proof.Proof.Gen.KernelLnIdeal.Points
public import proofs.«01_k».proof.Proof.Gen.KernelLnIdeal.Frame
public import proofs.«01_k».proof.Proof.Gen.ReferenceLnIdeal
public import proofs.«01_k».proof.Proof.LnValue
public import proofs.«01_k».proof.Proof.Gen.KernelLnMix
public import proofs.«01_k».proof.Proof.Gen.KernelLnMix.Skeleton
public import proofs.«01_k».proof.Proof.Gen.KernelLnMix.Launch
public import proofs.«01_k».proof.Proof.Gen.KernelLnMix.Points
public import proofs.«01_k».proof.Proof.Gen.KernelLnMix.Frame
public import proofs.«01_k».proof.Proof.Gen.KernelLnMixIdeal
public import proofs.«01_k».proof.Proof.Gen.KernelLnMixIdeal.Skeleton
public import proofs.«01_k».proof.Proof.Gen.KernelLnMixIdeal.Launch
public import proofs.«01_k».proof.Proof.Gen.KernelLnMixIdeal.Points
public import proofs.«01_k».proof.Proof.Gen.KernelLnMixIdeal.Frame
public import proofs.«01_k».proof.Proof.Gen.ReferenceLnMixIdeal
public import proofs.«01_k».proof.Proof.LnMixValue
public import proofs.«01_k».proof.Proof.Gen.KernelLnGate
public import proofs.«01_k».proof.Proof.Gen.KernelLnGate.Skeleton
public import proofs.«01_k».proof.Proof.Gen.KernelLnGate.Launch
public import proofs.«01_k».proof.Proof.Gen.KernelLnGate.Points
public import proofs.«01_k».proof.Proof.Gen.KernelLnGate.Frame
public import proofs.«01_k».proof.Proof.Gen.KernelLnGateIdeal
public import proofs.«01_k».proof.Proof.Gen.KernelLnGateIdeal.Skeleton
public import proofs.«01_k».proof.Proof.Gen.KernelLnGateIdeal.Launch
public import proofs.«01_k».proof.Proof.Gen.KernelLnGateIdeal.Points
public import proofs.«01_k».proof.Proof.Gen.KernelLnGateIdeal.Frame
public import proofs.«01_k».proof.Proof.Gen.ReferenceLnGateIdeal
public import proofs.«01_k».proof.Proof.LnGateValue
public import proofs.«01_k».proof.Proof.Gen.KernelCastGate
public import proofs.«01_k».proof.Proof.Gen.KernelCastGate.Skeleton
public import proofs.«01_k».proof.Proof.Gen.KernelCastGate.Launch
public import proofs.«01_k».proof.Proof.Gen.KernelCastGate.Points
public import proofs.«01_k».proof.Proof.Gen.KernelCastGate.Frame
public import proofs.«01_k».proof.Proof.Gen.KernelCastGateIdeal
public import proofs.«01_k».proof.Proof.Gen.KernelCastGateIdeal.Skeleton
public import proofs.«01_k».proof.Proof.Gen.KernelCastGateIdeal.Launch
public import proofs.«01_k».proof.Proof.Gen.KernelCastGateIdeal.Points
public import proofs.«01_k».proof.Proof.Gen.KernelCastGateIdeal.Frame
public import proofs.«01_k».proof.Proof.Gen.ReferenceCastGateIdeal
public import proofs.«01_k».proof.Proof.CastGateValue
public import proofs.«01_k».proof.Proof.Gen.KernelRet
public import proofs.«01_k».proof.Proof.Gen.KernelRet.Skeleton
public import proofs.«01_k».proof.Proof.Gen.KernelRet.Launch
public import proofs.«01_k».proof.Proof.Gen.KernelRet.Points
public import proofs.«01_k».proof.Proof.Gen.KernelRet.Frame
public import proofs.«01_k».proof.Proof.Gen.KernelRetIdeal
public import proofs.«01_k».proof.Proof.Gen.KernelRetIdeal.Skeleton
public import proofs.«01_k».proof.Proof.Gen.KernelRetIdeal.Launch
public import proofs.«01_k».proof.Proof.Gen.KernelRetIdeal.Points
public import proofs.«01_k».proof.Proof.Gen.KernelRetIdeal.Frame
public import proofs.«01_k».proof.Proof.Gen.KernelRetIdeal.Value
public import proofs.«01_k».proof.Proof.Gen.ReferenceRetIdeal
public import proofs.«01_k».proof.Proof.Gen.ReferenceRetIdeal.Step
public import proofs.«01_k».proof.Proof.Gen.ReferenceRetIdeal.Run
public import proofs.«01_k».proof.Proof.RetValue
public import proofs.«01_k».proof.Proof.Gen.KernelCastOut
public import proofs.«01_k».proof.Proof.Gen.KernelCastOut.Skeleton
public import proofs.«01_k».proof.Proof.Gen.KernelCastOut.Launch
public import proofs.«01_k».proof.Proof.Gen.KernelCastOut.Points
public import proofs.«01_k».proof.Proof.Gen.KernelCastOut.Frame
public import proofs.«01_k».proof.Proof.Gen.KernelCastOutIdeal
public import proofs.«01_k».proof.Proof.Gen.KernelCastOutIdeal.Skeleton
public import proofs.«01_k».proof.Proof.Gen.KernelCastOutIdeal.Launch
public import proofs.«01_k».proof.Proof.Gen.KernelCastOutIdeal.Points
public import proofs.«01_k».proof.Proof.Gen.KernelCastOutIdeal.Frame
public import proofs.«01_k».proof.Proof.Gen.ReferenceCastOutIdeal
public import proofs.«01_k».proof.Proof.CastOutValue
public import proofs.«01_k».proof.Proof.Gen.KernelCastUp
public import proofs.«01_k».proof.Proof.Gen.KernelCastUp.Skeleton
public import proofs.«01_k».proof.Proof.Gen.KernelCastUp.Launch
public import proofs.«01_k».proof.Proof.Gen.KernelCastUp.Points
public import proofs.«01_k».proof.Proof.Gen.KernelCastUp.Frame
public import proofs.«01_k».proof.Proof.Gen.KernelCastUpIdeal
public import proofs.«01_k».proof.Proof.Gen.KernelCastUpIdeal.Skeleton
public import proofs.«01_k».proof.Proof.Gen.KernelCastUpIdeal.Launch
public import proofs.«01_k».proof.Proof.Gen.KernelCastUpIdeal.Points
public import proofs.«01_k».proof.Proof.Gen.KernelCastUpIdeal.Frame
public import proofs.«01_k».proof.Proof.Gen.ReferenceCastUpIdeal
public import proofs.«01_k».proof.Proof.CastUpValue
public import proofs.«01_k».proof.Proof.Gen.KernelCastUp2
public import proofs.«01_k».proof.Proof.Gen.KernelCastUp2.Skeleton
public import proofs.«01_k».proof.Proof.Gen.KernelCastUp2.Launch
public import proofs.«01_k».proof.Proof.Gen.KernelCastUp2.Points
public import proofs.«01_k».proof.Proof.Gen.KernelCastUp2.Frame
public import proofs.«01_k».proof.Proof.Gen.KernelCastUp2Ideal
public import proofs.«01_k».proof.Proof.Gen.KernelCastUp2Ideal.Skeleton
public import proofs.«01_k».proof.Proof.Gen.KernelCastUp2Ideal.Launch
public import proofs.«01_k».proof.Proof.Gen.KernelCastUp2Ideal.Points
public import proofs.«01_k».proof.Proof.Gen.KernelCastUp2Ideal.Frame
public import proofs.«01_k».proof.Proof.Gen.ReferenceCastUp2Ideal
public import proofs.«01_k».proof.Proof.CastUp2Value
public import proofs.«01_k».proof.Proof.Gen.KernelCastDown
public import proofs.«01_k».proof.Proof.Gen.KernelCastDown.Skeleton
public import proofs.«01_k».proof.Proof.Gen.KernelCastDown.Launch
public import proofs.«01_k».proof.Proof.Gen.KernelCastDown.Points
public import proofs.«01_k».proof.Proof.Gen.KernelCastDown.Frame
public import proofs.«01_k».proof.Proof.Gen.KernelCastDownIdeal
public import proofs.«01_k».proof.Proof.Gen.KernelCastDownIdeal.Skeleton
public import proofs.«01_k».proof.Proof.Gen.KernelCastDownIdeal.Launch
public import proofs.«01_k».proof.Proof.Gen.KernelCastDownIdeal.Points
public import proofs.«01_k».proof.Proof.Gen.KernelCastDownIdeal.Frame
public import proofs.«01_k».proof.Proof.Gen.ReferenceCastDownIdeal
public import proofs.«01_k».proof.Proof.CastDownValue
public import proofs.«01_k».proof.Proof.Gen.KernelCastDown2
public import proofs.«01_k».proof.Proof.Gen.KernelCastDown2.Skeleton
public import proofs.«01_k».proof.Proof.Gen.KernelCastDown2.Launch
public import proofs.«01_k».proof.Proof.Gen.KernelCastDown2.Points
public import proofs.«01_k».proof.Proof.Gen.KernelCastDown2.Frame
public import proofs.«01_k».proof.Proof.Gen.KernelCastDown2Ideal
public import proofs.«01_k».proof.Proof.Gen.KernelCastDown2Ideal.Skeleton
public import proofs.«01_k».proof.Proof.Gen.KernelCastDown2Ideal.Launch
public import proofs.«01_k».proof.Proof.Gen.KernelCastDown2Ideal.Points
public import proofs.«01_k».proof.Proof.Gen.KernelCastDown2Ideal.Frame
public import proofs.«01_k».proof.Proof.Gen.ReferenceCastDown2Ideal
public import proofs.«01_k».proof.Proof.CastDown2Value
public import Idealize.ShloMosaic.Adequacy
public import Idealize.ShloMosaic.Init

@[expose] public section

noncomputable section

namespace Cert.Proof

open Idealize.ShloMosaic Idealize.SL.Sem

/-- The recurrence's reference runs and leaves its arguments alone. -/
theorem frame_ReferenceIdeal : Cert.quiescent_ReferenceIdeal := fun m g _ =>
  (θ_run _ _ _).mono (fun r h => ⟨fun c => (h c).2, sem_eq_zero_of_no_sems rfl _⟩) (Cert.ReferenceIdeal.Value.run m g)

/-- The gated linear attention of the kernel is the reference's. -/
theorem value_gla : Cert.algebraic_KernelIdeal_ReferenceIdeal := by
  pair_intro
  · run_from Cert.KernelIdeal.Value.run_blocks m g
  · run_from Cert.GlaRef.run m' g'
    obtain ⟨h0, h1, h2, h3, _⟩ := hagree c
    rw [Cert.GlaValue.states_eq, h0, h1, h2, h3]
    exact (Cert.GlaValue.result_eq _ _ _ _ _).trans (Cert.KernelIdeal.Gla.final m c).symm

/-- The reference of the up projection runs and leaves its arguments alone. -/
theorem frame_ReferenceUpIdeal : Cert.quiescent_ReferenceUpIdeal := fun m g _ => by
  hlo_run
  all_goals first
    | exact sem_eq_zero_of_no_sems rfl _
    | (intro c; simp)

/-- The up projection of the kernel is the reference's. -/
theorem value_Up : Cert.algebraic_KernelUpIdeal_ReferenceUpIdeal := by
  pair_intro
  · run_from Cert.KernelUpIdeal.Gen.run_main m g
  · hlo_run
    exact (Cert.KernelUpIdeal.Value.final m c).symm

/-- The reference of the down projection runs and leaves its arguments alone. -/
theorem frame_ReferenceDownIdeal : Cert.quiescent_ReferenceDownIdeal := fun m g _ => by
  hlo_run
  all_goals first
    | exact sem_eq_zero_of_no_sems rfl _
    | (intro c; simp)

/-- The down projection of the kernel is the reference's. -/
theorem value_Down : Cert.algebraic_KernelDownIdeal_ReferenceDownIdeal := by
  pair_intro
  · run_from Cert.KernelDownIdeal.Gen.run_main m g
  · hlo_run
    exact (Cert.KernelDownIdeal.Value.final m c).symm

/-- The reference of the even layer's in-projection runs and leaves its arguments alone. -/
theorem frame_ReferenceEvenInIdeal : Cert.quiescent_ReferenceEvenInIdeal := fun m g _ => by
  hlo_run
  all_goals first
    | exact sem_eq_zero_of_no_sems rfl _
    | (intro c; simp)

/-- The even layer's in-projection of the kernel is the reference's. -/
theorem value_EvenIn : Cert.algebraic_KernelEvenInIdeal_ReferenceEvenInIdeal := by
  pair_intro
  · run_from Cert.KernelEvenInIdeal.Gen.run_main m g
  · hlo_run
    exact (Cert.KernelEvenInIdeal.Value.final m c).symm

/-- The reference of the odd layer's in-projection runs and leaves its arguments alone. -/
theorem frame_ReferenceOddInIdeal : Cert.quiescent_ReferenceOddInIdeal := fun m g _ => by
  hlo_run
  all_goals first
    | exact sem_eq_zero_of_no_sems rfl _
    | (intro c; simp)

/-- The odd layer's in-projection of the kernel is the reference's. -/
theorem value_OddIn : Cert.algebraic_KernelOddInIdeal_ReferenceOddInIdeal := by
  pair_intro
  · run_from Cert.KernelOddInIdeal.Gen.run_main m g
  · hlo_run
    exact (Cert.KernelOddInIdeal.Value.final m c).symm

/-- The reference of the out-projection runs and leaves its arguments alone. -/
theorem frame_ReferenceOutIdeal : Cert.quiescent_ReferenceOutIdeal := fun m g _ => by
  hlo_run
  all_goals first
    | exact sem_eq_zero_of_no_sems rfl _
    | (intro c; simp)

/-- The out-projection of the kernel is the reference's. -/
theorem value_Out : Cert.algebraic_KernelOutIdeal_ReferenceOutIdeal := by
  pair_intro
  · run_from Cert.KernelOutIdeal.Gen.run_main m g
  · hlo_run
    exact (Cert.KernelOutIdeal.Value.final m c).symm

set_option maxHeartbeats 1600000 in
/-- The reference of the residual layer norm runs and leaves its arguments alone. -/
theorem frame_ReferenceLnIdeal : Cert.quiescent_ReferenceLnIdeal := fun m g _ => by
  hlo_run
  all_goals first
    | exact sem_eq_zero_of_no_sems rfl _
    | (intro c; simp)

set_option maxHeartbeats 1600000 in
/-- The residual layer norm of the kernel is the reference's. -/
theorem value_Ln : Cert.algebraic_KernelLnIdeal_ReferenceLnIdeal := by
  pair_intro
  · run_from Cert.KernelLnIdeal.Gen.run_main m g
  · hlo_run
    exact (Cert.KernelLnIdeal.Value.final m c).symm

set_option maxHeartbeats 1600000 in
/-- The reference of the residual layer norm with a bf16 copy runs and leaves its arguments alone. -/
theorem frame_ReferenceLnMixIdeal : Cert.quiescent_ReferenceLnMixIdeal := fun m g _ => by
  hlo_run
  all_goals first
    | exact sem_eq_zero_of_no_sems rfl _
    | (intro c; simp)

set_option maxHeartbeats 1600000 in
/-- The residual layer norm with a bf16 copy of the kernel is the reference's. -/
theorem value_LnMix : Cert.algebraic_KernelLnMixIdeal_ReferenceLnMixIdeal := by
  pair_intro
  · run_from Cert.KernelLnMixIdeal.Gen.run_main m g
  · hlo_run
    · exact (Cert.KernelLnMixIdeal.Value.final m c).symm
    · exact (Cert.KernelLnMixIdeal.Value.finalb m c).symm

set_option maxHeartbeats 1600000 in
/-- The reference of the residual layer norm with a bf16 copy and gate columns runs and leaves its arguments alone. -/
theorem frame_ReferenceLnGateIdeal : Cert.quiescent_ReferenceLnGateIdeal := fun m g _ => by
  hlo_run
  all_goals first
    | exact sem_eq_zero_of_no_sems rfl _
    | (intro c; simp)

set_option maxHeartbeats 1600000 in
/-- The residual layer norm with a bf16 copy and gate columns of the kernel is the reference's. -/
theorem value_LnGate : Cert.algebraic_KernelLnGateIdeal_ReferenceLnGateIdeal := by
  pair_intro
  · run_from Cert.KernelLnGateIdeal.Gen.run_main m g
  · hlo_run
    · exact (Cert.KernelLnGateIdeal.Value.final m c).symm
    · exact (Cert.KernelLnGateIdeal.Value.finalb m c).symm
    · exact (Cert.KernelLnGateIdeal.Value.finalg m c).symm

/-- The reference of the input's bf16 copy with its gate columns runs and leaves its arguments alone. -/
theorem frame_ReferenceCastGateIdeal : Cert.quiescent_ReferenceCastGateIdeal := fun m g _ => by
  hlo_run
  all_goals first
    | exact sem_eq_zero_of_no_sems rfl _
    | (intro c; simp)

/-- The input's bf16 copy with its gate columns of the kernel is the reference's. -/
theorem value_CastGate : Cert.algebraic_KernelCastGateIdeal_ReferenceCastGateIdeal := by
  pair_intro
  · run_from Cert.KernelCastGateIdeal.Gen.run_main m g
  · hlo_run
    · exact (Cert.KernelCastGateIdeal.Value.finalb m c).symm
    · exact (Cert.KernelCastGateIdeal.Value.finalg m c).symm

/-- The retention reference runs and leaves its arguments alone. -/
theorem frame_ReferenceRetIdeal : Cert.quiescent_ReferenceRetIdeal := fun m g _ =>
  (θ_run _ _ _).mono (fun r h => ⟨fun c => (h c).2, sem_eq_zero_of_no_sems rfl _⟩) (Cert.ReferenceRetIdeal.Value.run m g)

/-- The decays the retention kernel has rounded, and their named exact values. -/
theorem preserves_Ret : Cert.preserves_KernelRet_KernelRetIdeal := by
  refine ⟨?_, ?_, ?_, ?_, ?_, ?_, ?_, ?_, ?_, ?_, ?_, ?_, ?_, ?_, ?_, ?_⟩ <;> exact IdealRules.named_const.statement _ _ _ _ _ rfl

/-- The retention of the kernel is the reference's. -/
theorem value_ret : Cert.algebraic_KernelRetIdeal_ReferenceRetIdeal := by
  pair_intro
  · run_from Cert.KernelRetIdeal.Value.run_blocks m g
  · run_from Cert.RetRef.run m' g'
    obtain ⟨h0, h1⟩ := hagree c
    rw [Cert.RetValue.states_eq, h0, h1]
    exact (Cert.RetValue.result_eq _ _).trans (Cert.RetValue.final m c).symm

/-- The reference of the bf16 copy of an out-projection's weights runs and leaves its argument alone. -/
theorem frame_ReferenceCastOutIdeal : Cert.quiescent_ReferenceCastOutIdeal := fun m g _ => by
  hlo_run
  all_goals first
    | exact sem_eq_zero_of_no_sems rfl _
    | (intro c; simp)

/-- The bf16 copy of an out-projection's weights of the kernel is the reference's. -/
theorem value_CastOut : Cert.algebraic_KernelCastOutIdeal_ReferenceCastOutIdeal := by
  pair_intro
  · run_from Cert.KernelCastOutIdeal.Gen.run_main m g
  · hlo_run
    exact (Cert.KernelCastOutIdeal.Value.final m c).symm

/-- The reference of the bf16 copy of the first layer's up-projection weights runs and leaves its argument alone. -/
theorem frame_ReferenceCastUpIdeal : Cert.quiescent_ReferenceCastUpIdeal := fun m g _ => by
  hlo_run
  all_goals first
    | exact sem_eq_zero_of_no_sems rfl _
    | (intro c; simp)

/-- The bf16 copy of the first layer's up-projection weights of the kernel is the reference's. -/
theorem value_CastUp : Cert.algebraic_KernelCastUpIdeal_ReferenceCastUpIdeal := by
  pair_intro
  · run_from Cert.KernelCastUpIdeal.Gen.run_main m g
  · hlo_run
    exact (Cert.KernelCastUpIdeal.Value.final m c).symm

/-- The reference of the bf16 copy of the second layer's up-projection weights runs and leaves its argument alone. -/
theorem frame_ReferenceCastUp2Ideal : Cert.quiescent_ReferenceCastUp2Ideal := fun m g _ => by
  hlo_run
  all_goals first
    | exact sem_eq_zero_of_no_sems rfl _
    | (intro c; simp)

/-- The bf16 copy of the second layer's up-projection weights of the kernel is the reference's. -/
theorem value_CastUp2 : Cert.algebraic_KernelCastUp2Ideal_ReferenceCastUp2Ideal := by
  pair_intro
  · run_from Cert.KernelCastUp2Ideal.Gen.run_main m g
  · hlo_run
    exact (Cert.KernelCastUp2Ideal.Value.final m c).symm

/-- The reference of the bf16 copy of the first layer's down-projection weights runs and leaves its argument alone. -/
theorem frame_ReferenceCastDownIdeal : Cert.quiescent_ReferenceCastDownIdeal := fun m g _ => by
  hlo_run
  all_goals first
    | exact sem_eq_zero_of_no_sems rfl _
    | (intro c; simp)

/-- The bf16 copy of the first layer's down-projection weights of the kernel is the reference's. -/
theorem value_CastDown : Cert.algebraic_KernelCastDownIdeal_ReferenceCastDownIdeal := by
  pair_intro
  · run_from Cert.KernelCastDownIdeal.Gen.run_main m g
  · hlo_run
    exact (Cert.KernelCastDownIdeal.Value.final m c).symm

/-- The reference of the bf16 copy of the second layer's down-projection weights runs and leaves its argument alone. -/
theorem frame_ReferenceCastDown2Ideal : Cert.quiescent_ReferenceCastDown2Ideal := fun m g _ => by
  hlo_run
  all_goals first
    | exact sem_eq_zero_of_no_sems rfl _
    | (intro c; simp)

/-- The bf16 copy of the second layer's down-projection weights of the kernel is the reference's. -/
theorem value_CastDown2 : Cert.algebraic_KernelCastDown2Ideal_ReferenceCastDown2Ideal := by
  pair_intro
  · run_from Cert.KernelCastDown2Ideal.Gen.run_main m g
  · hlo_run
    exact (Cert.KernelCastDown2Ideal.Value.final m c).symm

/-- Everything claimed. -/
theorem claim : Cert.Claim := ⟨Cert.Kernel.Gen.facts,
  Cert.KernelIdeal.Gen.facts,
  Cert.ReferenceIdeal.Gen.facts,
  Cert.KernelUp.Gen.facts,
  Cert.KernelUpIdeal.Gen.facts,
  Cert.ReferenceUpIdeal.Gen.facts,
  Cert.KernelDown.Gen.facts,
  Cert.KernelDownIdeal.Gen.facts,
  Cert.ReferenceDownIdeal.Gen.facts,
  Cert.KernelEvenIn.Gen.facts,
  Cert.KernelEvenInIdeal.Gen.facts,
  Cert.ReferenceEvenInIdeal.Gen.facts,
  Cert.KernelOddIn.Gen.facts,
  Cert.KernelOddInIdeal.Gen.facts,
  Cert.ReferenceOddInIdeal.Gen.facts,
  Cert.KernelOut.Gen.facts,
  Cert.KernelOutIdeal.Gen.facts,
  Cert.ReferenceOutIdeal.Gen.facts,
  Cert.KernelLn.Gen.facts,
  Cert.KernelLnIdeal.Gen.facts,
  Cert.ReferenceLnIdeal.Gen.facts,
  Cert.KernelLnMix.Gen.facts,
  Cert.KernelLnMixIdeal.Gen.facts,
  Cert.ReferenceLnMixIdeal.Gen.facts,
  Cert.KernelLnGate.Gen.facts,
  Cert.KernelLnGateIdeal.Gen.facts,
  Cert.ReferenceLnGateIdeal.Gen.facts,
  Cert.KernelCastGate.Gen.facts,
  Cert.KernelCastGateIdeal.Gen.facts,
  Cert.ReferenceCastGateIdeal.Gen.facts,
  Cert.KernelRet.Gen.facts,
  Cert.KernelRetIdeal.Gen.facts,
  Cert.ReferenceRetIdeal.Gen.facts,
  Cert.KernelCastOut.Gen.facts,
  Cert.KernelCastOutIdeal.Gen.facts,
  Cert.ReferenceCastOutIdeal.Gen.facts,
  Cert.KernelCastUp.Gen.facts,
  Cert.KernelCastUpIdeal.Gen.facts,
  Cert.ReferenceCastUpIdeal.Gen.facts,
  Cert.KernelCastUp2.Gen.facts,
  Cert.KernelCastUp2Ideal.Gen.facts,
  Cert.ReferenceCastUp2Ideal.Gen.facts,
  Cert.KernelCastDown.Gen.facts,
  Cert.KernelCastDownIdeal.Gen.facts,
  Cert.ReferenceCastDownIdeal.Gen.facts,
  Cert.KernelCastDown2.Gen.facts,
  Cert.KernelCastDown2Ideal.Gen.facts,
  Cert.ReferenceCastDown2Ideal.Gen.facts, by
  exact ⟨fun m ρ _ => Cert.Kernel.Gen.frame m ρ,
    fun m ρ _ => Cert.KernelIdeal.Gen.frame m ρ,
    frame_ReferenceIdeal,
    fun m ρ _ => Cert.KernelUp.Gen.frame m ρ,
    fun m ρ _ => Cert.KernelUpIdeal.Gen.frame m ρ,
    frame_ReferenceUpIdeal,
    fun m ρ _ => Cert.KernelDown.Gen.frame m ρ,
    fun m ρ _ => Cert.KernelDownIdeal.Gen.frame m ρ,
    frame_ReferenceDownIdeal,
    fun m ρ _ => Cert.KernelEvenIn.Gen.frame m ρ,
    fun m ρ _ => Cert.KernelEvenInIdeal.Gen.frame m ρ,
    frame_ReferenceEvenInIdeal,
    fun m ρ _ => Cert.KernelOddIn.Gen.frame m ρ,
    fun m ρ _ => Cert.KernelOddInIdeal.Gen.frame m ρ,
    frame_ReferenceOddInIdeal,
    fun m ρ _ => Cert.KernelOut.Gen.frame m ρ,
    fun m ρ _ => Cert.KernelOutIdeal.Gen.frame m ρ,
    frame_ReferenceOutIdeal,
    fun m ρ _ => Cert.KernelLn.Gen.frame m ρ,
    fun m ρ _ => Cert.KernelLnIdeal.Gen.frame m ρ,
    frame_ReferenceLnIdeal,
    fun m ρ _ => Cert.KernelLnMix.Gen.frame m ρ,
    fun m ρ _ => Cert.KernelLnMixIdeal.Gen.frame m ρ,
    frame_ReferenceLnMixIdeal,
    fun m ρ _ => Cert.KernelLnGate.Gen.frame m ρ,
    fun m ρ _ => Cert.KernelLnGateIdeal.Gen.frame m ρ,
    frame_ReferenceLnGateIdeal,
    fun m ρ _ => Cert.KernelCastGate.Gen.frame m ρ,
    fun m ρ _ => Cert.KernelCastGateIdeal.Gen.frame m ρ,
    frame_ReferenceCastGateIdeal,
    fun m ρ _ => Cert.KernelRet.Gen.frame m ρ,
    fun m ρ _ => Cert.KernelRetIdeal.Gen.frame m ρ,
    frame_ReferenceRetIdeal,
    fun m ρ _ => Cert.KernelCastOut.Gen.frame m ρ,
    fun m ρ _ => Cert.KernelCastOutIdeal.Gen.frame m ρ,
    frame_ReferenceCastOutIdeal,
    fun m ρ _ => Cert.KernelCastUp.Gen.frame m ρ,
    fun m ρ _ => Cert.KernelCastUpIdeal.Gen.frame m ρ,
    frame_ReferenceCastUpIdeal,
    fun m ρ _ => Cert.KernelCastUp2.Gen.frame m ρ,
    fun m ρ _ => Cert.KernelCastUp2Ideal.Gen.frame m ρ,
    frame_ReferenceCastUp2Ideal,
    fun m ρ _ => Cert.KernelCastDown.Gen.frame m ρ,
    fun m ρ _ => Cert.KernelCastDownIdeal.Gen.frame m ρ,
    frame_ReferenceCastDownIdeal,
    fun m ρ _ => Cert.KernelCastDown2.Gen.frame m ρ,
    fun m ρ _ => Cert.KernelCastDown2Ideal.Gen.frame m ρ,
    frame_ReferenceCastDown2Ideal,
    trivial, value_gla, trivial, value_Up, trivial, value_Down, trivial, value_EvenIn, trivial, value_OddIn, trivial, value_Out, trivial, value_Ln, trivial, value_LnMix, trivial, value_LnGate, trivial, value_CastGate, preserves_Ret, value_ret, trivial, value_CastOut, trivial, value_CastUp, trivial, value_CastUp2, trivial, value_CastDown, trivial, value_CastDown2⟩⟩

end Cert.Proof

end
